-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_ffn [hPre_finite_ffn : Cert.Pre_finite_ffn.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_ffn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite_ffn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite_ffn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_finite_ffn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.1 = (fun _ => 1#1)
    ∧ (Cert.Pre_finite_ffn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.1 = (fun _ => 1#1)
    ∧ (Cert.Pre_finite_ffn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_ffn [hPre_finite_ffn : Cert.Pre_finite_ffn.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_ffn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite_ffn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_finite_ffn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
    ∧ (Cert.Pre_finite_ffn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.1 = (fun _ => 1#1)
    ∧ (Cert.Pre_finite_ffn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.1 = (fun _ => 1#1)
    ∧ (Cert.Pre_finite_ffn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite_ffn [hKernel3Ideal : Cert.Kernel3Ideal.Facts] [hPre_finite_ffn : Cert.Pre_finite_ffn.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_ffn m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite_ffn [hReference3Ideal : Cert.Reference3Ideal.Facts] [hPre_finite_ffn : Cert.Pre_finite_ffn.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_ffn m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39_0)) (v1 : (c : Dev Cert.KernelIdeal.nD) → Buf (Elt Ideal) ((c.tc : Thread Cert.KernelIdeal.nD Cert.KernelIdeal.τ).loc Cert.KernelIdeal.main_v39_1)) (v2 : (c : Dev Cert.KernelIdeal.nD) → Buf (Elt Ideal) ((c.tc : Thread Cert.KernelIdeal.nD Cert.KernelIdeal.τ).loc Cert.KernelIdeal.main_v39_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_v39_1) = v1 c
          ∧ r.2.mem ((c.tc : Thread Cert.KernelIdeal.nD Cert.KernelIdeal.τ).loc Cert.KernelIdeal.main_v39_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite_ffn [hKernel3Ideal : Cert.Kernel3Ideal.Facts] [hReference3Ideal : Cert.Reference3Ideal.Facts] [hPre_finite_ffn : Cert.Pre_finite_ffn.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_ffn m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v21_0)) (v1 : (c : Dev Cert.Kernel3Ideal.nD) → Buf (Elt Ideal) ((c.tc : Thread Cert.Kernel3Ideal.nD Cert.Kernel3Ideal.τ).loc Cert.Kernel3Ideal.main_v21_1)) (v2 : (c : Dev Cert.Kernel3Ideal.nD) → Buf (Elt Ideal) ((c.tc : Thread Cert.Kernel3Ideal.nD Cert.Kernel3Ideal.τ).loc Cert.Kernel3Ideal.main_v21_2)) (v3 : (c : Dev Cert.Kernel3Ideal.nD) → Buf (Elt Ideal) ((c.tc : Thread Cert.Kernel3Ideal.nD Cert.Kernel3Ideal.τ).loc Cert.Kernel3Ideal.main_v21_3)) (v4 : (c : Dev Cert.Kernel3Ideal.nD) → Buf (Elt Ideal) ((c.tc : Thread Cert.Kernel3Ideal.nD Cert.Kernel3Ideal.τ).loc Cert.Kernel3Ideal.main_v21_4)) (v5 : (c : Dev Cert.Kernel3Ideal.nD) → Buf (Elt Ideal) ((c.tc : Thread Cert.Kernel3Ideal.nD Cert.Kernel3Ideal.τ).loc Cert.Kernel3Ideal.main_v21_5)) (v6 : (c : Dev Cert.Kernel3Ideal.nD) → Buf (Elt Ideal) ((c.tc : Thread Cert.Kernel3Ideal.nD Cert.Kernel3Ideal.τ).loc Cert.Kernel3Ideal.main_v21_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v21_0) = v0 c
          ∧ r.2.mem ((c.tc : Thread Cert.Kernel3Ideal.nD Cert.Kernel3Ideal.τ).loc Cert.Kernel3Ideal.main_v21_1) = v1 c
          ∧ r.2.mem ((c.tc : Thread Cert.Kernel3Ideal.nD Cert.Kernel3Ideal.τ).loc Cert.Kernel3Ideal.main_v21_2) = v2 c
          ∧ r.2.mem ((c.tc : Thread Cert.Kernel3Ideal.nD Cert.Kernel3Ideal.τ).loc Cert.Kernel3Ideal.main_v21_3) = v3 c
          ∧ r.2.mem ((c.tc : Thread Cert.Kernel3Ideal.nD Cert.Kernel3Ideal.τ).loc Cert.Kernel3Ideal.main_v21_4) = v4 c
          ∧ r.2.mem ((c.tc : Thread Cert.Kernel3Ideal.nD Cert.Kernel3Ideal.τ).loc Cert.Kernel3Ideal.main_v21_5) = v5 c
          ∧ r.2.mem ((c.tc : Thread Cert.Kernel3Ideal.nD Cert.Kernel3Ideal.τ).loc Cert.Kernel3Ideal.main_v21_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v101) = v0 c
          ∧ r.2.mem ((c.tc : Thread Cert.Reference3Ideal.nD Cert.Reference3Ideal.τ).loc Cert.Reference3Ideal.main_v84) = v1 c
          ∧ r.2.mem ((c.tc : Thread Cert.Reference3Ideal.nD Cert.Reference3Ideal.τ).loc Cert.Reference3Ideal.main_v113) = v2 c
          ∧ r.2.mem ((c.tc : Thread Cert.Reference3Ideal.nD Cert.Reference3Ideal.τ).loc Cert.Reference3Ideal.main_v114) = v3 c
          ∧ r.2.mem ((c.tc : Thread Cert.Reference3Ideal.nD Cert.Reference3Ideal.τ).loc Cert.Reference3Ideal.main_v117) = v4 c
          ∧ r.2.mem ((c.tc : Thread Cert.Reference3Ideal.nD Cert.Reference3Ideal.τ).loc Cert.Reference3Ideal.main_v118) = v5 c
          ∧ r.2.mem ((c.tc : Thread Cert.Reference3Ideal.nD Cert.Reference3Ideal.τ).loc Cert.Reference3Ideal.main_v121) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)) (v3 : (c : Dev Cert.Kernel4Ideal.nD) → Buf (Elt Ideal) ((c.tc : Thread Cert.Kernel4Ideal.nD Cert.Kernel4Ideal.τ).loc Cert.Kernel4Ideal.main_v5_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_v5_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_v36) = v1 c
          ∧ r.2.mem ((c.tc : Thread Cert.Reference4Ideal.nD Cert.Reference4Ideal.τ).loc Cert.Reference4Ideal.main_v38) = v2 c
          ∧ r.2.mem ((c.tc : Thread Cert.Reference4Ideal.nD Cert.Reference4Ideal.τ).loc Cert.Reference4Ideal.main_v42) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v21_0)) (v1 : (c : Dev Cert.Kernel5Ideal.nD) → Buf (Elt Ideal) ((c.tc : Thread Cert.Kernel5Ideal.nD Cert.Kernel5Ideal.τ).loc Cert.Kernel5Ideal.main_v21_1)) (v2 : (c : Dev Cert.Kernel5Ideal.nD) → Buf (Elt Ideal) ((c.tc : Thread Cert.Kernel5Ideal.nD Cert.Kernel5Ideal.τ).loc Cert.Kernel5Ideal.main_v21_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v21_0) = v0 c
          ∧ r.2.mem ((c.tc : Thread Cert.Kernel5Ideal.nD Cert.Kernel5Ideal.τ).loc Cert.Kernel5Ideal.main_v21_1) = v1 c
          ∧ r.2.mem ((c.tc : Thread Cert.Kernel5Ideal.nD Cert.Kernel5Ideal.τ).loc Cert.Kernel5Ideal.main_v21_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_v49) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v11_0)) (v1 : (c : Dev Cert.Kernel6Ideal.nD) → Buf (Elt Ideal) ((c.tc : Thread Cert.Kernel6Ideal.nD Cert.Kernel6Ideal.τ).loc Cert.Kernel6Ideal.main_v11_1)) (v2 : (c : Dev Cert.Kernel6Ideal.nD) → Buf (Elt Ideal) ((c.tc : Thread Cert.Kernel6Ideal.nD Cert.Kernel6Ideal.τ).loc Cert.Kernel6Ideal.main_v11_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11_0) = v0 c
          ∧ r.2.mem ((c.tc : Thread Cert.Kernel6Ideal.nD Cert.Kernel6Ideal.τ).loc Cert.Kernel6Ideal.main_v11_1) = v1 c
          ∧ r.2.mem ((c.tc : Thread Cert.Kernel6Ideal.nD Cert.Kernel6Ideal.τ).loc Cert.Kernel6Ideal.main_v11_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_v14) = v1 c
          ∧ r.2.mem ((c.tc : Thread Cert.Reference6Ideal.nD Cert.Reference6Ideal.τ).loc Cert.Reference6Ideal.main_v23) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v30) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v1_2)) (v3 : (c : Dev Cert.Kernel13Ideal.nD) → Buf (Elt Ideal) ((c.tc : Thread Cert.Kernel13Ideal.nD Cert.Kernel13Ideal.τ).loc Cert.Kernel13Ideal.main_v1_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v1_2) = v2 c
          ∧ r.2.mem ((c.tc : Thread Cert.Kernel13Ideal.nD Cert.Kernel13Ideal.τ).loc Cert.Kernel13Ideal.main_v1_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_v24) = v1 c
          ∧ r.2.mem ((c.tc : Thread Cert.Reference13Ideal.nD Cert.Reference13Ideal.τ).loc Cert.Reference13Ideal.main_v5) = v2 c
          ∧ r.2.mem ((c.tc : Thread Cert.Reference13Ideal.nD Cert.Reference13Ideal.τ).loc Cert.Reference13Ideal.main_v11) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite_ffn : Cert.Pre_finite_ffn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_ffn (hKernel3Ideal := hKernel3Ideal) (hPre_finite_ffn := hPre_finite_ffn)
    ∧ quiescent_Reference3Ideal (hReference3Ideal := hReference3Ideal)
    ∧ quiescent_Reference3Ideal_pre_finite_ffn (hReference3Ideal := hReference3Ideal) (hPre_finite_ffn := hPre_finite_ffn)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_ffn (hKernel3Ideal := hKernel3Ideal) (hReference3Ideal := hReference3Ideal) (hPre_finite_ffn := hPre_finite_ffn)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S4096x8x96 : Shape := ⟨3, ![4096, 8, 96]⟩
abbrev S4096x8x64 : Shape := ⟨3, ![4096, 8, 64]⟩
abbrev S_ : Shape := ⟨0, ![]⟩

class Facts : Prop where
  bcast_S_S4096x8x96 : S_.BroadcastsInDim S4096x8x96 (![] : Fin 0 → Fin S4096x8x96.rank)
  bcast_S_S4096x8x64 : S_.BroadcastsInDim S4096x8x64 (![] : Fin 0 → Fin S4096x8x64.rank)

variable [Facts]

def fn {F : FTy → Type} [FloatOps F] (main_arg0 : FVec F S4096x8x96 .f32) (main_arg1 : FVec F S4096x8x96 .f32) (main_arg2 : FVec F S4096x8x64 .f32) (main_arg3 : FVec F S4096x8x64 .f32) : IVec S4096x8x96 1 × IVec S4096x8x96 1 × IVec S4096x8x64 1 × IVec S4096x8x64 1 :=
  let main_v0 : FVec F S4096x8x96 .f32 := Host.absf main_arg0
  let main_cst : FVec F S_ .f32 := constant S_ .f32 0x7F800000#32
  let main_v1 : FVec F S4096x8x96 .f32 := broadcastInDim S4096x8x96 ![] bcast_S_S4096x8x96 main_cst
  let main_v2 : IVec S4096x8x96 1 := cmpf .olt main_v0 main_v1
  let main_v3 : FVec F S4096x8x96 .f32 := Host.absf main_arg1
  let main_cst_0 : FVec F S_ .f32 := constant S_ .f32 0x7F800000#32
  let main_v4 : FVec F S4096x8x96 .f32 := broadcastInDim S4096x8x96 ![] bcast_S_S4096x8x96 main_cst_0
  let main_v5 : IVec S4096x8x96 1 := cmpf .olt main_v3 main_v4
  let main_v6 : FVec F S4096x8x64 .f32 := Host.absf main_arg2
  let main_cst_1 : FVec F S_ .f32 := constant S_ .f32 0x7F800000#32
  let main_v7 : FVec F S4096x8x64 .f32 := broadcastInDim S4096x8x64 ![] bcast_S_S4096x8x64 main_cst_1
  let main_v8 : IVec S4096x8x64 1 := cmpf .olt main_v6 main_v7
  let main_v9 : FVec F S4096x8x64 .f32 := Host.absf main_arg3
  let main_cst_2 : FVec F S_ .f32 := constant S_ .f32 0x7F800000#32
  let main_v10 : FVec F S4096x8x64 .f32 := broadcastInDim S4096x8x64 ![] bcast_S_S4096x8x64 main_cst_2
  let main_v11 : IVec S4096x8x64 1 := cmpf .olt main_v9 main_v10
  (main_v2, main_v5, main_v8, main_v11)
-- ==== Pre_finite_ffn.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S4096x1024 .f32) (main_arg2 : FVec F S1x1024 .f32) (main_arg3 : FVec F S1024x2816 .f32) (main_arg4 : FVec F S1024x2816 .f32) (main_arg5 : FVec F S2816x1024 .f32) : IVec S4096x1024 1 × IVec S4096x1024 1 × IVec S1x1024 1 × IVec S1024x2816 1 × IVec S1024x2816 1 × IVec S2816x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S1024x2816 .f32 := Host.absf main_arg4
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  (main_v2, main_v5, main_v8, main_v11, main_v14, main_v17)
-- ==== Kernel.lean ====
abbrev S4096x8x96 : Shape := ⟨3, ![4096, 8, 96]⟩
abbrev S4096x8x64 : Shape := ⟨3, ![4096, 8, 64]⟩
abbrev S36 : Shape := ⟨1, ![36]⟩
abbrev S_ : Shape := ⟨0, ![]⟩
abbrev S8x4096x4096 : Shape := ⟨3, ![8, 4096, 4096]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S8x4096 : Shape := ⟨2, ![8, 4096]⟩
abbrev S8x4096x1 : Shape := ⟨3, ![8, 4096, 1]⟩
abbrev S4096x8 : Shape := ⟨2, ![4096, 8]⟩
abbrev S8x64x4096 : Shape := ⟨3, ![8, 64, 4096]⟩
abbrev S4096x8x128 : Shape := ⟨3, ![4096, 8, 128]⟩
abbrev S4096x1024 : Shape := ⟨2, ![4096, 1024]⟩
abbrev S4096x512 : Shape := ⟨2, ![4096, 512]⟩
abbrev S1024x4096 : Shape := ⟨2, ![1024, 4096]⟩
abbrev S512x4096 : Shape := ⟨2, ![512, 4096]⟩
abbrev S512x1024 : Shape := ⟨2, ![512, 1024]⟩
abbrev S1 : Shape := ⟨1, ![1]⟩
abbrev S512x512 : Shape := ⟨2, ![512, 512]⟩
abbrev S512x8 : Shape := ⟨2, ![512, 8]⟩
abbrev S1024x512 : Shape := ⟨2, ![1024, 512]⟩
abbrev S512x128 : Shape := ⟨2, ![512, 128]⟩
abbrev S512x1 : Shape := ⟨2, ![512, 1]⟩
abbrev S512x64 : Shape := ⟨2, ![512, 64]⟩
abbrev S64x512 : Shape := ⟨2, ![64, 512]⟩
abbrev S128x512 : Shape := ⟨2, ![128, 512]⟩

abbrev nBuf : Space → Nat
  | .hbm => 53
  | .vmem => 17
  | .smem => 2
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x8x64, .f32⟩
  | .hbm, ⟨4, _⟩ => ⟨S_, .f32⟩
  | .hbm, ⟨5, _⟩ => ⟨S4096x8x96, .f32⟩
  | .hbm, ⟨6, _⟩ => ⟨S4096x8x96, .f32⟩
  | .hbm, ⟨7, _⟩ => ⟨S8x4096x4096, .f32⟩
  | .hbm, ⟨8, _⟩ => ⟨S4096, .i32⟩
  | .hbm, ⟨9, _⟩ => ⟨S1x1x4096, .i32⟩
  | .hbm, ⟨10, _⟩ => ⟨S1x4096x1, .i32⟩
  | .hbm, ⟨11, _⟩ => ⟨S1x4096x4096, .i32⟩
  | .hbm, ⟨12, _⟩ => ⟨S1x4096x4096, .i32⟩
  | .hbm, ⟨13, _⟩ => ⟨S1x4096x4096, .i1⟩
  | .hbm, ⟨14, _⟩ => ⟨S8x4096x4096, .i1⟩
  | .hbm, ⟨15, _⟩ => ⟨S_, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S8x4096x4096, .f32⟩
  | .hbm, ⟨22, _⟩ => ⟨S8x4096x4096, .f32⟩
  | .hbm, ⟨23, _⟩ => ⟨S8x4096x4096, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S8x4096x4096, .f32⟩
  | .hbm, ⟨28, _⟩ => ⟨S8x4096x4096, .f32⟩
  | .hbm, ⟨29, _⟩ => ⟨S8x4096x1, .f32⟩
  | .hbm, ⟨30, _⟩ => ⟨S8x4096x1, .f32⟩
  | .hbm, ⟨31, _⟩ => ⟨S8x4096, .f32⟩
  | .hbm, ⟨32, _⟩ => ⟨S4096x8, .f32⟩
  | .hbm, ⟨33, _⟩ => ⟨S8x64x4096, .f32⟩
  | .hbm, ⟨34, _⟩ => ⟨S4096x8x64, .f32⟩
  | .hbm, ⟨35, _⟩ => ⟨S4096x8x64, .f32⟩
  | .hbm, ⟨36, _⟩ => ⟨S_, .f32⟩
  | .hbm, ⟨37, _⟩ => ⟨S4096x8, .f32⟩
  | .hbm, ⟨38, _⟩ => ⟨S_, .f32⟩
  | .hbm, ⟨39, _⟩ => ⟨S4096x8x128, .f32⟩
  | .hbm, ⟨40, _⟩ => ⟨S4096x1024, .f32⟩
  | .hbm, ⟨41, _⟩ => ⟨S4096x1024, .bf16⟩
  | .hbm, ⟨42, _⟩ => ⟨S_, .f32⟩
  | .hbm, ⟨43, _⟩ => ⟨S4096x8x128, .f32⟩
  | .hbm, ⟨44, _⟩ => ⟨S4096x1024, .f32⟩
  | .hbm, ⟨45, _⟩ => ⟨S4096x1024, .bf16⟩
  | .hbm, ⟨46, _⟩ => ⟨S4096x512, .f32⟩
  | .hbm, ⟨47, _⟩ => ⟨S4096x512, .bf16⟩
  | .hbm, ⟨48, _⟩ => ⟨S4096x512, .f32⟩
  | .hbm, ⟨49, _⟩ => ⟨S4096x512, .bf16⟩
  | .hbm, ⟨50, _⟩ => ⟨S4096x1024, .f32⟩
  | .hbm, ⟨51, _⟩ => ⟨S1024x4096, .f32⟩
  | .hbm, ⟨52, _⟩ => ⟨S512x4096, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x8, .f32⟩
  | .local _ .vmem, ⟨9, _⟩ => ⟨S512x8, .f32⟩
  | .local _ .vmem, ⟨10, _⟩ => ⟨S512x8, .f32⟩
  | .local _ .vmem, ⟨11, _⟩ => ⟨S512x8, .f32⟩
  | .local _ .vmem, ⟨12, _⟩ => ⟨S1024x512, .f32⟩
  | .local _ .vmem, ⟨13, _⟩ => ⟨S1024x512, .f32⟩
  | .local _ .vmem, ⟨14, _⟩ => ⟨S512x512, .f32⟩
  | .local _ .vmem, ⟨15, _⟩ => ⟨S512x512, .f32⟩
  | .local _ .vmem, ⟨16, _⟩ => ⟨S4096x1024, .f32⟩
  | .local _ .smem, ⟨0, _⟩ => ⟨S36, .i32⟩
  | .local _ .smem, ⟨1, _⟩ => ⟨S36, .i32⟩
  | _, _ => ⟨S4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39_0 : Ref sig .tc := ⟨.hbm, 50, rfl⟩
abbrev main_v39_1 : Ref sig .tc := ⟨.hbm, 51, rfl⟩
abbrev main_v39_2 : Ref sig .tc := ⟨.hbm, 52, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![36], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (v1 : BitVec 32) : BitVec 32 :=
  let c512_i32 : BitVec 32 := 512#32
  let v19 : BitVec 32 := Scalar.muli v1 c512_i32
  v19
def k0_cond3 (v1 : BitVec 32) (v3 : BitVec 32) : BitVec 1 :=
  let v10 : BitVec 1 := Scalar.cmpi .sgt v1 v3
  let v11 : BitVec 32 := Scalar.extui v10
  let c0_i32_2 : BitVec 32 := 0#32
  let v12 : BitVec 1 := Scalar.cmpi .ne v11 c0_i32_2
  v12

def k0_off2 (v1 : BitVec 32) : Fin 2 → Nat :=
  let c512_i32 : BitVec 32 := 512#32
  let v19 : BitVec 32 := Scalar.muli v1 c512_i32
  let v20 : BitVec 32 := v19
  let v53 : Index := Scalar.indexCast v20
  let c0_27 : Index := 0#32
  ![v53.toNat, 0]
def k0_off3 (v1 : BitVec 32) : Fin 2 → Nat :=
  let c512_i32 : BitVec 32 := 512#32
  let v19 : BitVec 32 := Scalar.muli v1 c512_i32
  let v20 : BitVec 32 := v19
  let v93 : Index := Scalar.indexCast v20
  let c128_51 : Index := 128#32
  ![v93.toNat, 128]
def k0_off4 (v1 : BitVec 32) : Fin 2 → Nat :=
  let c512_i32 : BitVec 32 := 512#32
  let v19 : BitVec 32 := Scalar.muli v1 c512_i32
  let v20 : BitVec 32 := v19
  let v133 : Index := Scalar.indexCast v20
  let c256_76 : Index := 256#32
  ![v133.toNat, 256]
def k0_off5 (v1 : BitVec 32) : Fin 2 → Nat :=
  let c512_i32 : BitVec 32 := 512#32
  let v19 : BitVec 32 := Scalar.muli v1 c512_i32
  let v20 : BitVec 32 := v19
  let v173 : Index := Scalar.indexCast v20
  let c384_100 : Index := 384#32
  ![v173.toNat, 384]
def k0_off6 (v1 : BitVec 32) : Fin 2 → Nat :=
  let c512_i32 : BitVec 32 := 512#32
  let v19 : BitVec 32 := Scalar.muli v1 c512_i32
  let v20 : BitVec 32 := v19
  let v213 : Index := Scalar.indexCast v20
  let c512_125 : Index := 512#32
  ![v213.toNat, 512]
def k0_off7 (v1 : BitVec 32) : Fin 2 → Nat :=
  let c512_i32 : BitVec 32 := 512#32
  let v19 : BitVec 32 := Scalar.muli v1 c512_i32
  let v20 : BitVec 32 := v19
  let v253 : Index := Scalar.indexCast v20
  let c640_149 : Index := 640#32
  ![v253.toNat, 640]
def k0_off8 (v1 : BitVec 32) : Fin 2 → Nat :=
  let c512_i32 : BitVec 32 := 512#32
  let v19 : BitVec 32 := Scalar.muli v1 c512_i32
  let v20 : BitVec 32 := v19
  let v293 : Index := Scalar.indexCast v20
  let c768_174 : Index := 768#32
  ![v293.toNat, 768]
def k0_off9 (v1 : BitVec 32) : Fin 2 → Nat :=
  let c512_i32 : BitVec 32 := 512#32
  let v19 : BitVec 32 := Scalar.muli v1 c512_i32
  let v20 : BitVec 32 := v19
  let v333 : Index := Scalar.indexCast v20
  let c896_198 : Index := 896#32
  ![v333.toNat, 896]
def k0_mult2 (v1 : BitVec 32) : BitVec 32 :=
  let c512_i32 : BitVec 32 := 512#32
  let v22 : BitVec 32 := Scalar.muli v1 c512_i32
  v22
def k0_cond4 (v1 : BitVec 32) (v3 : BitVec 32) : BitVec 1 :=
  let v13 : BitVec 1 := Scalar.cmpi .eq v1 v3
  let v14 : BitVec 32 := Scalar.extui v13
  let c0_i32_3 : BitVec 32 := 0#32
  let v15 : BitVec 1 := Scalar.cmpi .ne v14 c0_i32_3
  v15

def k0_off10 (v1 : BitVec 32) : Fin 2 → Nat :=
  let c512_i32 : BitVec 32 := 512#32
  let v22 : BitVec 32 := Scalar.muli v1 c512_i32
  let v23 : BitVec 32 := v22
  let v58 : Index := Scalar.indexCast v23
  let c0_28 : Index := 0#32
  ![v58.toNat, 0]
def k0_off11 (v1 : BitVec 32) : Fin 2 → Nat :=
  let c512_i32 : BitVec 32 := 512#32
  let v22 : BitVec 32 := Scalar.muli v1 c512_i32
  let v23 : BitVec 32 := v22
  let v100 : Index := Scalar.indexCast v23
  let c128_53 : Index := 128#32
  ![v100.toNat, 128]
def k0_off12 (v1 : BitVec 32) : Fin 2 → Nat :=
  let c512_i32 : BitVec 32 := 512#32
  let v22 : BitVec 32 := Scalar.muli v1 c512_i32
  let v23 : BitVec 32 := v22
  let v142 : Index := Scalar.indexCast v23
  let c256_79 : Index := 256#32
  ![v142.toNat, 256]
def k0_off13 (v1 : BitVec 32) : Fin 2 → Nat :=
  let c512_i32 : BitVec 32 := 512#32
  let v22 : BitVec 32 := Scalar.muli v1 c512_i32
  let v23 : BitVec 32 := v22
  let v184 : Index := Scalar.indexCast v23
  let c384_104 : Index := 384#32
  ![v184.toNat, 384]
def k0_off14 (v1 : BitVec 32) : Fin 2 → Nat :=
  let c512_i32 : BitVec 32 := 512#32
  let v22 : BitVec 32 := Scalar.muli v1 c512_i32
  let v23 : BitVec 32 := v22
  let v226 : Index := Scalar.indexCast v23
  let c512_130 : Index := 512#32
  ![v226.toNat, 512]
def k0_off15 (v1 : BitVec 32) : Fin 2 → Nat :=
  let c512_i32 : BitVec 32 := 512#32
  let v22 : BitVec 32 := Scalar.muli v1 c512_i32
  let v23 : BitVec 32 := v22
  let v268 : Index := Scalar.indexCast v23
  let c640_155 : Index := 640#32
  ![v268.toNat, 640]
def k0_off16 (v1 : BitVec 32) : Fin 2 → Nat :=
  let c512_i32 : BitVec 32 := 512#32
  let v22 : BitVec 32 := Scalar.muli v1 c512_i32
  let v23 : BitVec 32 := v22
  let v310 : Index := Scalar.indexCast v23
  let c768_181 : Index := 768#32
  ![v310.toNat, 768]
def k0_off17 (v1 : BitVec 32) : Fin 2 → Nat :=
  let c512_i32 : BitVec 32 := 512#32
  let v22 : BitVec 32 := Scalar.muli v1 c512_i32
  let v23 : BitVec 32 := v22
  let v352 : Index := Scalar.indexCast v23
  let c896_206 : Index := 896#32
  ![v352.toNat, 896]

def k0_chk1 (v1 : BitVec 32) (v3 : BitVec 32) : Prop :=
  (∀ (k0_h3 : k0_cond3 v1 v3 = 1#1), 512 ∣ (k0_mult1 v1).toNat) ∧
  (∀ (k0_h3 : k0_cond3 v1 v3 = 1#1), ∀ a, (k0_off2 v1) a + S512x128.size a ≤ S4096x1024.size a) ∧
  (∀ (k0_h3 : k0_cond3 v1 v3 = 1#1), ∀ a, (k0_off3 v1) a + S512x128.size a ≤ S4096x1024.size a) ∧
  (∀ (k0_h3 : k0_cond3 v1 v3 = 1#1), ∀ a, (k0_off4 v1) a + S512x128.size a ≤ S4096x1024.size a) ∧
  (∀ (k0_h3 : k0_cond3 v1 v3 = 1#1), ∀ a, (k0_off5 v1) a + S512x128.size a ≤ S4096x1024.size a) ∧
  (∀ (k0_h3 : k0_cond3 v1 v3 = 1#1), ∀ a, (k0_off6 v1) a + S512x128.size a ≤ S4096x1024.size a) ∧
  (∀ (k0_h3 : k0_cond3 v1 v3 = 1#1), ∀ a, (k0_off7 v1) a + S512x128.size a ≤ S4096x1024.size a) ∧
  (∀ (k0_h3 : k0_cond3 v1 v3 = 1#1), ∀ a, (k0_off8 v1) a + S512x128.size a ≤ S4096x1024.size a) ∧
  (∀ (k0_h3 : k0_cond3 v1 v3 = 1#1), ∀ a, (k0_off9 v1) a + S512x128.size a ≤ S4096x1024.size a) ∧
  (∀ (k0_h4 : k0_cond4 v1 v3 = 1#1), 512 ∣ (k0_mult2 v1).toNat) ∧
  (∀ (k0_h4 : k0_cond4 v1 v3 = 1#1), ∀ a, (k0_off10 v1) a + S512x128.size a ≤ S4096x1024.size a) ∧
  (∀ (k0_h4 : k0_cond4 v1 v3 = 1#1), ∀ a, (k0_off11 v1) a + S512x128.size a ≤ S4096x1024.size a) ∧
  (∀ (k0_h4 : k0_cond4 v1 v3 = 1#1), ∀ a, (k0_off12 v1) a + S512x128.size a ≤ S4096x1024.size a) ∧
  (∀ (k0_h4 : k0_cond4 v1 v3 = 1#1), ∀ a, (k0_off13 v1) a + S512x128.size a ≤ S4096x1024.size a) ∧
  (∀ (k0_h4 : k0_cond4 v1 v3 = 1#1), ∀ a, (k0_off14 v1) a + S512x128.size a ≤ S4096x1024.size a) ∧
  (∀ (k0_h4 : k0_cond4 v1 v3 = 1#1), ∀ a, (k0_off15 v1) a + S512x128.size a ≤ S4096x1024.size a) ∧
  (∀ (k0_h4 : k0_cond4 v1 v3 = 1#1), ∀ a, (k0_off16 v1) a + S512x128.size a ≤ S4096x1024.size a) ∧
  (∀ (k0_h4 : k0_cond4 v1 v3 = 1#1), ∀ a, (k0_off17 v1) a + S512x128.size a ≤ S4096x1024.size a)
theorem k0_mult1_dvd : ∀ (v1 : BitVec 32) (v3 : BitVec 32) (k0_hw1 : k0_chk1 v1 v3), ∀ (k0_h3 : k0_cond3 v1 v3 = 1#1), 512 ∣ (k0_mult1 v1).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ a, (k0_off2 v1) a + S512x128.size a ≤ S4096x1024.size a := fun v1 v3 k0_hw1 k0_h3 => k0_hw1.2.1 k0_h3
theorem k0_off3_inb : ∀ (v1 : BitVec 32) (v3 : BitVec 32) (k0_hw1 : k0_chk1 v1 v3), ∀ (k0_h3 : k0_cond3 v1 v3 = 1#1), ∀ a, (k0_off3 v1) a + S512x128.size a ≤ S4096x1024.size a := fun v1 v3 k0_hw1 k0_h3 => k0_hw1.2.2.1 k0_h3
theorem k0_off4_inb : ∀ (v1 : BitVec 32) (v3 : BitVec 32) (k0_hw1 : k0_chk1 v1 v3), ∀ (k0_h3 : k0_cond3 v1 v3 = 1#1), ∀ a, (k0_off4 v1) a + S512x128.size a ≤ S4096x1024.size a := fun v1 v3 k0_hw1 k0_h3 => k0_hw1.2.2.2.1 k0_h3
theorem k0_off5_inb : ∀ (v1 : BitVec 32) (v3 : BitVec 32) (k0_hw1 : k0_chk1 v1 v3), ∀ (k0_h3 : k0_cond3 v1 v3 = 1#1), ∀ a, (k0_off5 v1) a + S512x128.size a ≤ S4096x1024.size a := fun v1 v3 k0_hw1 k0_h3 => k0_hw1.2.2.2.2.1 k0_h3
theorem k0_off6_inb : ∀ (v1 : BitVec 32) (v3 : BitVec 32) (k0_hw1 : k0_chk1 v1 v3), ∀ (k0_h3 : k0_cond3 v1 v3 = 1#1), ∀ a, (k0_off6 v1) a + S512x128.size a ≤ S4096x1024.size a := fun v1 v3 k0_hw1 k0_h3 => k0_hw1.2.2.2.2.2.1 k0_h3
theorem k0_off7_inb : ∀ (v1 : BitVec 32) (v3 : BitVec 32) (k0_hw1 : k0_chk1 v1 v3), ∀ (k0_h3 : k0_cond3 v1 v3 = 1#1), ∀ a, (k0_off7 v1) a + S512x128.size a ≤ S4096x1024.size a := fun v1 v3 k0_hw1 k0_h3 => k0_hw1.2.2.2.2.2.2.1 k0_h3
theorem k0_off8_inb : ∀ (v1 : BitVec 32) (v3 : BitVec 32) (k0_hw1 : k0_chk1 v1 v3), ∀ (k0_h3 : k0_cond3 v1 v3 = 1#1), ∀ a, (k0_off8 v1) a + S512x128.size a ≤ S4096x1024.size a := fun v1 v3 k0_hw1 k0_h3 => k0_hw1.2.2.2.2.2.2.2.1 k0_h3
theorem k0_off9_inb : ∀ (v1 : BitVec 32) (v3 : BitVec 32) (k0_hw1 : k0_chk1 v1 v3), ∀ (k0_h3 : k0_cond3 v1 v3 = 1#1), ∀ a, (k0_off9 v1) a + S512x128.size a ≤ S4096x1024.size a := fun v1 v3 k0_hw1 k0_h3 => k0_hw1.2.2.2.2.2.2.2.2.1 k0_h3
theorem k0_mult2_dvd : ∀ (v1 : BitVec 32) (v3 : BitVec 32) (k0_hw1 : k0_chk1 v1 v3), ∀ (k0_h4 : k0_cond4 v1 v3 = 1#1), 512 ∣ (k0_mult2 v1).toNat := fun v1 v3 k0_hw1 k0_h4 => k0_hw1.2.2.2.2.2.2.2.2.2.1 k0_h4
theorem k0_off10_inb : ∀ (v1 : BitVec 32) (v3 : BitVec 32) (k0_hw1 : k0_chk1 v1 v3), ∀ (k0_h4 : k0_cond4 v1 v3 = 1#1), ∀ a, (k0_off10 v1) a + S512x128.size a ≤ S4096x1024.size a := fun v1 v3 k0_hw1 k0_h4 => k0_hw1.2.2.2.2.2.2.2.2.2.2.1 k0_h4
theorem k0_off11_inb : ∀ (v1 : BitVec 32) (v3 : BitVec 32) (k0_hw1 : k0_chk1 v1 v3), ∀ (k0_h4 : k0_cond4 v1 v3 = 1#1), ∀ a, (k0_off11 v1) a + S512x128.size a ≤ S4096x1024.size a := fun v1 v3 k0_hw1 k0_h4 => k0_hw1.2.2.2.2.2.2.2.2.2.2.2.1 k0_h4
theorem k0_off12_inb : ∀ (v1 : BitVec 32) (v3 : BitVec 32) (k0_hw1 : k0_chk1 v1 v3), ∀ (k0_h4 : k0_cond4 v1 v3 = 1#1), ∀ a, (k0_off12 v1) a + S512x128.size a ≤ S4096x1024.size a := fun v1 v3 k0_hw1 k0_h4 => k0_hw1.2.2.2.2.2.2.2.2.2.2.2.2.1 k0_h4
theorem k0_off13_inb : ∀ (v1 : BitVec 32) (v3 : BitVec 32) (k0_hw1 : k0_chk1 v1 v3), ∀ (k0_h4 : k0_cond4 v1 v3 = 1#1), ∀ a, (k0_off13 v1) a + S512x128.size a ≤ S4096x1024.size a := fun v1 v3 k0_hw1 k0_h4 => k0_hw1.2.2.2.2.2.2.2.2.2.2.2.2.2.1 k0_h4
theorem k0_off14_inb : ∀ (v1 : BitVec 32) (v3 : BitVec 32) (k0_hw1 : k0_chk1 v1 v3), ∀ (k0_h4 : k0_cond4 v1 v3 = 1#1), ∀ a, (k0_off14 v1) a + S512x128.size a ≤ S4096x1024.size a := fun v1 v3 k0_hw1 k0_h4 => k0_hw1.2.2.2.2.2.2.2.2.2.2.2.2.2.2.1 k0_h4
theorem k0_off15_inb : ∀ (v1 : BitVec 32) (v3 : BitVec 32) (k0_hw1 : k0_chk1 v1 v3), ∀ (k0_h4 : k0_cond4 v1 v3 = 1#1), ∀ a, (k0_off15 v1) a + S512x128.size a ≤ S4096x1024.size a := fun v1 v3 k0_hw1 k0_h4 => k0_hw1.2.2.2.2.2.2.2.2.2.2.2.2.2.2.2.1 k0_h4
theorem k0_off16_inb : ∀ (v1 : BitVec 32) (v3 : BitVec 32) (k0_hw1 : k0_chk1 v1 v3), ∀ (k0_h4 : k0_cond4 v1 v3 = 1#1), ∀ a, (k0_off16 v1) a + S512x128.size a ≤ S4096x1024.size a := fun v1 v3 k0_hw1 k0_h4 => k0_hw1.2.2.2.2.2.2.2.2.2.2.2.2.2.2.2.2.1 k0_h4
theorem k0_off17_inb : ∀ (v1 : BitVec 32) (v3 : BitVec 32) (k0_hw1 : k0_chk1 v1 v3), ∀ (k0_h4 : k0_cond4 v1 v3 = 1#1), ∀ a, (k0_off17 v1) a + S512x128.size a ≤ S4096x1024.size a := fun v1 v3 k0_hw1 k0_h4 => k0_hw1.2.2.2.2.2.2.2.2.2.2.2.2.2.2.2.2.2 k0_h4

def k0_cond2 (v1 : BitVec 32) (v3 : BitVec 32) : BitVec 1 :=
  let v7 : BitVec 1 := Scalar.cmpi .eq v1 v3
  let v8 : BitVec 32 := Scalar.extui v7
  let c0_i32_1 : BitVec 32 := 0#32
  let v9 : BitVec 1 := Scalar.cmpi .ne v8 c0_i32_1
  v9

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S36) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S36) ![v0.toNat] S1.size (k0_off1_inb i)) numel1_S1
  let c0_i32 : BitVec 32 := 0#32
  let c0_i32_0 : BitVec 32 := 0#32
  ![v1.toNat, c0_i32.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  ![v1.toNat, c0_i32.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  ![v1.toNat, c0_i32.toNat]

def cc0_transform_5 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  ![v1.toNat, c0_i32.toNat]

def cc0_transform_7 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S36) ![v0.toNat] S1.size (k0_off1_inb i)) numel1_S1
  let c0_i32 : BitVec 32 := 0#32
  let c0_i32_0 : BitVec 32 := 0#32
  ![c0_i32.toNat, v1.toNat]

def cc0_transform_8 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S36) ![v0.toNat] S1.size (k0_off1_inb i)) numel1_S1
  let c0_i32 : BitVec 32 := 0#32
  let c0_i32_0 : BitVec 32 := 0#32
  ![c0_i32.toNat, v1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4096x8x96 : Shape := ⟨3, ![4096, 8, 96]⟩
abbrev S4096x8x64 : Shape := ⟨3, ![4096, 8, 64]⟩
abbrev S_ : Shape := ⟨0, ![]⟩
abbrev S8x4096x4096 : Shape := ⟨3, ![8, 4096, 4096]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S8x4096x96 : Shape := ⟨3, ![8, 4096, 96]⟩
abbrev S4096x8x128 : Shape := ⟨3, ![4096, 8, 128]⟩
abbrev S4096x1024 : Shape := ⟨2, ![4096, 1024]⟩
abbrev S1024x4096 : Shape := ⟨2, ![1024, 4096]⟩
abbrev S4096x512 : Shape := ⟨2, ![4096, 512]⟩
abbrev S512x4096 : Shape := ⟨2, ![512, 4096]⟩

abbrev nBuf : Space → Nat
  | .hbm => 94
  | .vmem => 0
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x8x64, .f32⟩
  | .hbm, ⟨4, _⟩ => ⟨S_, .f32⟩
  | .hbm, ⟨5, _⟩ => ⟨S4096x8x96, .f32⟩
  | .hbm, ⟨6, _⟩ => ⟨S4096x8x96, .f32⟩
  | .hbm, ⟨7, _⟩ => ⟨S8x4096x4096, .f32⟩
  | .hbm, ⟨8, _⟩ => ⟨S4096, .i32⟩
  | .hbm, ⟨9, _⟩ => ⟨S1x1x4096, .i32⟩
  | .hbm, ⟨10, _⟩ => ⟨S1x4096x1, .i32⟩
  | .hbm, ⟨11, _⟩ => ⟨S1x4096x4096, .i32⟩
  | .hbm, ⟨12, _⟩ => ⟨S1x4096x4096, .i32⟩
  | .hbm, ⟨13, _⟩ => ⟨S1x4096x4096, .i1⟩
  | .hbm, ⟨14, _⟩ => ⟨S8x4096x4096, .i1⟩
  | .hbm, ⟨15, _⟩ => ⟨S_, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S8x4096x4096, .f32⟩
  | .hbm, ⟨24, _⟩ => ⟨S8x4096x4096, .i1⟩
  | .hbm, ⟨25, _⟩ => ⟨S8x4096x4096, .f32⟩
  | .hbm, ⟨26, _⟩ => ⟨S_, .f32⟩
  | .hbm, ⟨27, _⟩ => ⟨S8x4096, .f32⟩
  | .hbm, ⟨28, _⟩ => ⟨S_, .f32⟩
  | .hbm, ⟨29, _⟩ => ⟨S8x4096, .f32⟩
  | .hbm, ⟨30, _⟩ => ⟨S8x4096, .f32⟩
  | .hbm, ⟨31, _⟩ => ⟨S_, .f32⟩
  | .hbm, ⟨32, _⟩ => ⟨S8x4096, .f32⟩
  | .hbm, ⟨33, _⟩ => ⟨S8x4096, .i1⟩
  | .hbm, ⟨34, _⟩ => ⟨S_, .f32⟩
  | .hbm, ⟨35, _⟩ => ⟨S8x4096, .f32⟩
  | .hbm, ⟨36, _⟩ => ⟨S8x4096, .i1⟩
  | .hbm, ⟨37, _⟩ => ⟨S_, .f32⟩
  | .hbm, ⟨38, _⟩ => ⟨S8x4096, .f32⟩
  | .hbm, ⟨39, _⟩ => ⟨S_, .f32⟩
  | .hbm, ⟨40, _⟩ => ⟨S8x4096, .f32⟩
  | .hbm, ⟨41, _⟩ => ⟨S_, .f32⟩
  | .hbm, ⟨42, _⟩ => ⟨S8x4096, .f32⟩
  | .hbm, ⟨43, _⟩ => ⟨S8x4096, .f32⟩
  | .hbm, ⟨44, _⟩ => ⟨S8x4096, .f32⟩
  | .hbm, ⟨45, _⟩ => ⟨S8x4096x1, .f32⟩
  | .hbm, ⟨46, _⟩ => ⟨S8x4096x4096, .f32⟩
  | .hbm, ⟨47, _⟩ => ⟨S8x4096x4096, .f32⟩
  | .hbm, ⟨48, _⟩ => ⟨S8x4096x4096, .f32⟩
  | .hbm, ⟨49, _⟩ => ⟨S_, .f32⟩
  | .hbm, ⟨50, _⟩ => ⟨S8x4096, .f32⟩
  | .hbm, ⟨51, _⟩ => ⟨S8x4096x1, .f32⟩
  | .hbm, ⟨52, _⟩ => ⟨S8x4096x4096, .f32⟩
  | .hbm, ⟨53, _⟩ => ⟨S8x4096x4096, .f32⟩
  | .hbm, ⟨54, _⟩ => ⟨S8x4096x1, .f32⟩
  | .hbm, ⟨55, _⟩ => ⟨S_, .f32⟩
  | .hbm, ⟨56, _⟩ => ⟨S8x4096x1, .f32⟩
  | .hbm, ⟨57, _⟩ => ⟨S8x4096x1, .f32⟩
  | .hbm, ⟨58, _⟩ => ⟨S8x64x4096, .f32⟩
  | .hbm, ⟨59, _⟩ => ⟨S4096x8x64, .f32⟩
  | .hbm, ⟨60, _⟩ => ⟨S8x64x4096, .f32⟩
  | .hbm, ⟨61, _⟩ => ⟨S8x4096x4096, .f32⟩
  | .hbm, ⟨62, _⟩ => ⟨S8x64x4096, .f32⟩
  | .hbm, ⟨63, _⟩ => ⟨S4096x8x64, .f32⟩
  | .hbm, ⟨64, _⟩ => ⟨S8x4096x4096, .f32⟩
  | .hbm, ⟨65, _⟩ => ⟨S8x4096x4096, .f32⟩
  | .hbm, ⟨66, _⟩ => ⟨S8x4096x4096, .f32⟩
  | .hbm, ⟨67, _⟩ => ⟨S_, .f32⟩
  | .hbm, ⟨68, _⟩ => ⟨S8x4096, .f32⟩
  | .hbm, ⟨69, _⟩ => ⟨S8x4096x1, .f32⟩
  | .hbm, ⟨70, _⟩ => ⟨S8x4096x1, .f32⟩
  | .hbm, ⟨71, _⟩ => ⟨S8x4096x4096, .f32⟩
  | .hbm, ⟨72, _⟩ => ⟨S8x4096x4096, .f32⟩
  | .hbm, ⟨73, _⟩ => ⟨S_, .f32⟩
  | .hbm, ⟨74, _⟩ => ⟨S8x4096, .f32⟩
  | .hbm, ⟨75, _⟩ => ⟨S8x4096x4096, .f32⟩
  | .hbm, ⟨76, _⟩ => ⟨S8x4096x4096, .f32⟩
  | .hbm, ⟨77, _⟩ => ⟨S8x4096x4096, .f32⟩
  | .hbm, ⟨78, _⟩ => ⟨S_, .f32⟩
  | .hbm, ⟨79, _⟩ => ⟨S8x4096x4096, .f32⟩
  | .hbm, ⟨80, _⟩ => ⟨S8x4096x4096, .f32⟩
  | .hbm, ⟨81, _⟩ => ⟨S8x4096x96, .f32⟩
  | .hbm, ⟨82, _⟩ => ⟨S4096x8x96, .f32⟩
  | .hbm, ⟨83, _⟩ => ⟨S8x4096x96, .f32⟩
  | .hbm, ⟨84, _⟩ => ⟨S4096x8x96, .f32⟩
  | .hbm, ⟨85, _⟩ => ⟨S_, .f32⟩
  | .hbm, ⟨86, _⟩ => ⟨S4096x8x128, .f32⟩
  | .hbm, ⟨87, _⟩ => ⟨S4096x1024, .f32⟩
  | .hbm, ⟨88, _⟩ => ⟨S_, .f32⟩
  | .hbm, ⟨89, _⟩ => ⟨S4096x8x128, .f32⟩
  | .hbm, ⟨90, _⟩ => ⟨S4096x1024, .f32⟩
  | .hbm, ⟨91, _⟩ => ⟨S1024x4096, .f32⟩
  | .hbm, ⟨92, _⟩ => ⟨S4096x512, .f32⟩
  | .hbm, ⟨93, _⟩ => ⟨S512x4096, .f32⟩
  | _, _ => ⟨S4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_10 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_11 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_13 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_14 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_15 : Ref sig .tc := ⟨.hbm, 85, rfl⟩
abbrev main_v65 : Ref sig .tc := ⟨.hbm, 86, rfl⟩
abbrev main_v66 : Ref sig .tc := ⟨.hbm, 87, rfl⟩
abbrev main_cst_16 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== Kernel2.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S2816x1024, .f32⟩
  | .hbm, ⟨6, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S512x1024 : Shape := ⟨2, ![512, 1024]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩
abbrev S768x1024 : Shape := ⟨2, ![768, 1024]⟩
abbrev S512x768 : Shape := ⟨2, ![512, 768]⟩
abbrev S640x1024 : Shape := ⟨2, ![640, 1024]⟩
abbrev S512x640 : Shape := ⟨2, ![512, 640]⟩
abbrev S1024 : Shape := ⟨1, ![1024]⟩

abbrev nBuf : Space → Nat
  | .hbm => 37
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x2816, .f32⟩
  | .hbm, ⟨23, _⟩ => ⟨S4096x2816, .bf16⟩
  | .hbm, ⟨24, _⟩ => ⟨S4096x2816, .bf16⟩
  | .hbm, ⟨25, _⟩ => ⟨S2816x1024, .f32⟩
  | .hbm, ⟨26, _⟩ => ⟨S2816x1024, .bf16⟩
  | .hbm, ⟨27, _⟩ => ⟨S2816x1024, .f32⟩
  | .hbm, ⟨28, _⟩ => ⟨S2816x1024, .bf16⟩
  | .hbm, ⟨29, _⟩ => ⟨S2816x1024, .bf16⟩
  | .hbm, ⟨30, _⟩ => ⟨S4096x1024, .f32⟩
  | .hbm, ⟨31, _⟩ => ⟨S1x1024, .f32⟩
  | .hbm, ⟨32, _⟩ => ⟨S4096x2816, .bf16⟩
  | .hbm, ⟨33, _⟩ => ⟨S4096x2816, .bf16⟩
  | .hbm, ⟨34, _⟩ => ⟨S4096x2816, .bf16⟩
  | .hbm, ⟨35, _⟩ => ⟨S4096x1024, .bf16⟩
  | .hbm, ⟨36, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S1408x1024, .bf16⟩
  | .local _ .vmem, ⟨10, _⟩ => ⟨S1408x1024, .bf16⟩
  | .local _ .vmem, ⟨11, _⟩ => ⟨S1408x1024, .bf16⟩
  | .local _ .vmem, ⟨12, _⟩ => ⟨S1408x1024, .bf16⟩
  | .local _ .vmem, ⟨13, _⟩ => ⟨S1408x1024, .bf16⟩
  | .local _ .vmem, ⟨14, _⟩ => ⟨S1408x1024, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1408, .bf16⟩
  | .local _ .vmem, ⟨23, _⟩ => ⟨S512x1408, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev main_v21_4 : Ref sig .tc := ⟨.hbm, 34, rfl⟩
abbrev main_v21_5 : Ref sig .tc := ⟨.hbm, 35, rfl⟩
abbrev main_v21_6 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v83 : BitVec 1 := Scalar.cmpi .eq arg1 c1_i32
  let v84 : BitVec 32 := Scalar.extui v83
  let c0_i32_50 : BitVec 32 := 0#32
  let v85 : BitVec 1 := Scalar.cmpi .ne v84 c0_i32_50
  v85

def k0_cond3 (i : grid0.Coords) : BitVec 1 :=
  let arg0 : BitVec 32 := BitVec.ofNat 32 (i 0).val
  let c0_i32_67 : BitVec 32 := 0#32
  let v117 : BitVec 1 := Scalar.cmpi .eq arg0 c0_i32_67
  let v118 : BitVec 32 := Scalar.extui v117
  let c0_i32_68 : BitVec 32 := 0#32
  let v119 : BitVec 1 := Scalar.cmpi .ne v118 c0_i32_68
  v119

def k0_cond4 (i : grid0.Coords) : BitVec 1 :=
  let arg0 : BitVec 32 := BitVec.ofNat 32 (i 0).val
  let c0_i32_69 : BitVec 32 := 0#32
  let v120 : BitVec 1 := Scalar.cmpi .sgt arg0 c0_i32_69
  let v121 : BitVec 32 := Scalar.extui v120
  let c0_i32_70 : BitVec 32 := 0#32
  let v122 : BitVec 1 := Scalar.cmpi .ne v121 c0_i32_70
  v122

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1408 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== Reference3Ideal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩

abbrev nBuf : Space → Nat
  | .hbm => 190
  | .vmem => 0
  | .smem => 0
  | _ => 0

abbrev hbmTy0_0 (i : Nat) : BufTy := match i % 128 with
  | 0 => ⟨S4096x1024, .f32⟩
  | 1 => ⟨S4096x1024, .f32⟩
  | 2 => ⟨S1x1024, .f32⟩
  | 3 => ⟨S1024x2816, .f32⟩
  | 4 => ⟨S1024x2816, .f32⟩
  | 5 => ⟨S2816x1024, .f32⟩
  | 6 => ⟨S4096x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x1, .f32⟩
  | 17 => ⟨S4096x1024, .f32⟩
  | 18 => ⟨S4096x1024, .f32⟩
  | 19 => ⟨S4096x1024, .f32⟩
  | 20 => ⟨S4096x1024, .f32⟩
  | 21 => ⟨S4096x2816, .f32⟩
  | 22 => ⟨S4096x2816, .f32⟩
  | 23 => ⟨S4096x1024, .f32⟩
  | 24 => ⟨S_, .f32⟩
  | 25 => ⟨S4096, .f32⟩
  | 26 => ⟨S4096x1, .f32⟩
  | 27 => ⟨S_, .f32⟩
  | 28 => ⟨S4096x1, .f32⟩
  | 29 => ⟨S4096x1, .f32⟩
  | 30 => ⟨S_, .f32⟩
  | 31 => ⟨S4096x1, .f32⟩
  | 32 => ⟨S4096x1, .f32⟩
  | 33 => ⟨S4096x1, .f32⟩
  | 34 => ⟨S4096x1, .f32⟩
  | 35 => ⟨S_, .f32⟩
  | 36 => ⟨S4096x1, .f32⟩
  | 37 => ⟨S4096x1, .f32⟩
  | 38 => ⟨S4096x1024, .f32⟩
  | 39 => ⟨S4096x1024, .f32⟩
  | 40 => ⟨S4096x1024, .f32⟩
  | 41 => ⟨S4096x1024, .f32⟩
  | 42 => ⟨S4096x2816, .f32⟩
  | 43 => ⟨S4096x1024, .f32⟩
  | 44 => ⟨S_, .f32⟩
  | 45 => ⟨S4096, .f32⟩
  | 46 => ⟨S4096x1, .f32⟩
  | 47 => ⟨S_, .f32⟩
  | 48 => ⟨S4096x1, .f32⟩
  | 49 => ⟨S4096x1, .f32⟩
  | 50 => ⟨S_, .f32⟩
  | 51 => ⟨S4096x1, .f32⟩
  | 52 => ⟨S4096x1, .f32⟩
  | 53 => ⟨S4096x1, .f32⟩
  | 54 => ⟨S4096x1, .f32⟩
  | 55 => ⟨S_, .f32⟩
  | 56 => ⟨S4096x1, .f32⟩
  | 57 => ⟨S4096x1, .f32⟩
  | 58 => ⟨S4096x1024, .f32⟩
  | 59 => ⟨S4096x1024, .f32⟩
  | 60 => ⟨S4096x1024, .f32⟩
  | 61 => ⟨S4096x1024, .f32⟩
  | 62 => ⟨S4096x2816, .f32⟩
  | 63 => ⟨S4096x2816, .f32⟩
  | 64 => ⟨S4096x2816, .f32⟩
  | 65 => ⟨S_, .f32⟩
  | 66 => ⟨S4096x2816, .f32⟩
  | 67 => ⟨S4096x2816, .f32⟩
  | 68 => ⟨S_, .f32⟩
  | 69 => ⟨S4096x2816, .f32⟩
  | 70 => ⟨S4096x2816, .f32⟩
  | 71 => ⟨S_, .f32⟩
  | 72 => ⟨S4096x2816, .f32⟩
  | 73 => ⟨S4096x2816, .f32⟩
  | 74 => ⟨S4096x2816, .f32⟩
  | 75 => ⟨S4096x2816, .f32⟩
  | 76 => ⟨S4096x2816, .f32⟩
  | 77 => ⟨S4096x1024, .f32⟩
  | 78 => ⟨S_, .f32⟩
  | 79 => ⟨S4096x1024, .f32⟩
  | 80 => ⟨S4096x1024, .f32⟩
  | 81 => ⟨S4096x1024, .f32⟩
  | 82 => ⟨S4096x1024, .f32⟩
  | 83 => ⟨S_, .f32⟩
  | 84 => ⟨S4096x1024, .f32⟩
  | 85 => ⟨S4096x1024, .f32⟩
  | 86 => ⟨S4096x2816, .f32⟩
  | 87 => ⟨S4096x2816, .f32⟩
  | 88 => ⟨S4096x2816, .f32⟩
  | 89 => ⟨S4096x2816, .f32⟩
  | 90 => ⟨S4096x2816, .f32⟩
  | 91 => ⟨S4096x2816, .f32⟩
  | 92 => ⟨S4096x2816, .f32⟩
  | 93 => ⟨S4096x1024, .f32⟩
  | 94 => ⟨S4096x1024, .f32⟩
  | 95 => ⟨S_, .f32⟩
  | 96 => ⟨S1024, .f32⟩
  | 97 => ⟨S1x1024, .f32⟩
  | 98 => ⟨S4096x1024, .f32⟩
  | 99 => ⟨S4096x1024, .f32⟩
  | 100 => ⟨S4096x1024, .f32⟩
  | 101 => ⟨S_, .f32⟩
  | 102 => ⟨S4096, .f32⟩
  | 103 => ⟨S4096x1, .f32⟩
  | 104 => ⟨S4096x1024, .f32⟩
  | 105 => ⟨S4096x1024, .f32⟩
  | 106 => ⟨S4096x1024, .f32⟩
  | 107 => ⟨S4096x1, .f32⟩
  | 108 => ⟨S_, .f32⟩
  | 109 => ⟨S4096x1, .f32⟩
  | 110 => ⟨S4096x1, .f32⟩
  | 111 => ⟨S_, .f32⟩
  | 112 => ⟨S4096, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S4096x1024, .f32⟩
  | 120 => ⟨S_, .f32⟩
  | 121 => ⟨S1024, .f32⟩
  | 122 => ⟨S1x1024, .f32⟩
  | 123 => ⟨S1x1024, .f32⟩
  | 124 => ⟨S4096x1024, .f32⟩
  | 125 => ⟨S4096x1024, .f32⟩
  | 126 => ⟨S4096x1024, .f32⟩
  | 127 => ⟨S_, .f32⟩
  | _ => ⟨S4096x1024, .f32⟩

abbrev hbmTy0_1 (i : Nat) : BufTy := match i % 128 with
  | 0 => ⟨S4096, .f32⟩
  | 1 => ⟨S4096x1, .f32⟩
  | 2 => ⟨S4096x1024, .f32⟩
  | 3 => ⟨S4096x1024, .f32⟩
  | 4 => ⟨S4096x1024, .f32⟩
  | 5 => ⟨S4096x1, .f32⟩
  | 6 => ⟨S_, .f32⟩
  | 7 => ⟨S4096x1, .f32⟩
  | 8 => ⟨S4096x1, .f32⟩
  | 9 => ⟨S_, .f32⟩
  | 10 => ⟨S4096, .f32⟩
  | 11 => ⟨S4096x1024, .f32⟩
  | 12 => ⟨S4096x1024, .f32⟩
  | 13 => ⟨S4096x1024, .f32⟩
  | 14 => ⟨S4096x1024, .f32⟩
  | 15 => ⟨S4096x1024, .f32⟩
  | 16 => ⟨S4096x2816, .f32⟩
  | 17 => ⟨S4096x2816, .f32⟩
  | 18 => ⟨S_, .f32⟩
  | 19 => ⟨S4096x2816, .f32⟩
  | 20 => ⟨S4096x2816, .f32⟩
  | 21 => ⟨S_, .f32⟩
  | 22 => ⟨S4096x2816, .f32⟩
  | 23 => ⟨S4096x2816, .f32⟩
  | 24 => ⟨S_, .f32⟩
  | 25 => ⟨S4096x2816, .f32⟩
  | 26 => ⟨S4096x2816, .f32⟩
  | 27 => ⟨S4096x2816, .f32⟩
  | 28 => ⟨S4096x2816, .f32⟩
  | 29 => ⟨S4096x2816, .f32⟩
  | 30 => ⟨S4096x1024, .f32⟩
  | 31 => ⟨S_, .f32⟩
  | 32 => ⟨S4096x1024, .f32⟩
  | 33 => ⟨S4096x1024, .f32⟩
  | 34 => ⟨S_, .f32⟩
  | 35 => ⟨S4096x1024, .f32⟩
  | 36 => ⟨S4096x1024, .f32⟩
  | 37 => ⟨S4096x2816, .f32⟩
  | 38 => ⟨S4096x2816, .f32⟩
  | 39 => ⟨S4096x2816, .f32⟩
  | 40 => ⟨S4096x2816, .f32⟩
  | 41 => ⟨S4096x2816, .f32⟩
  | 42 => ⟨S4096x2816, .f32⟩
  | 43 => ⟨S4096x2816, .f32⟩
  | 44 => ⟨S4096x2816, .bf16⟩
  | 45 => ⟨S4096x2816, .bf16⟩
  | 46 => ⟨S4096x2816, .f32⟩
  | 47 => ⟨S4096x2816, .f32⟩
  | 48 => ⟨S_, .f32⟩
  | 49 => ⟨S4096x2816, .f32⟩
  | 50 => ⟨S4096x2816, .f32⟩
  | 51 => ⟨S_, .f32⟩
  | 52 => ⟨S4096x2816, .f32⟩
  | 53 => ⟨S4096x2816, .f32⟩
  | 54 => ⟨S4096x2816, .f32⟩
  | 55 => ⟨S4096x2816, .f32⟩
  | 56 => ⟨S4096x2816, .bf16⟩
  | 57 => ⟨S4096x1024, .bf16⟩
  | 58 => ⟨S_, .f32⟩
  | 59 => ⟨S4096x1024, .f32⟩
  | 60 => ⟨S4096x1024, .f32⟩
  | 61 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_v46_2 : Ref sig .tc := ⟨.hbm, 70, rfl⟩
abbrev main_call0_cst_1 : Ref sig .tc := ⟨.hbm, 71, rfl⟩
abbrev main_call0_v6 : Ref sig .tc := ⟨.hbm, 72, rfl⟩
abbrev main_call0_v7 : Ref sig .tc := ⟨.hbm, 73, rfl⟩
abbrev main_v46_1 : Ref sig .tc := ⟨.hbm, 74, rfl⟩
abbrev main_v46_0 : Ref sig .tc := ⟨.hbm, 75, rfl⟩
abbrev main_v47 : Ref sig .tc := ⟨.hbm, 76, rfl⟩
abbrev main_v48 : Ref sig .tc := ⟨.hbm, 77, rfl⟩
abbrev main_cst_10 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_11 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_12 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_13 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_14 : Ref sig .tc := ⟨.hbm, 108, rfl⟩
abbrev main_v72 : Ref sig .tc := ⟨.hbm, 109, rfl⟩
abbrev main_v73 : Ref sig .tc := ⟨.hbm, 110, rfl⟩
abbrev main_cst_15 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_16 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_17 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_18 : Ref sig .tc := ⟨.hbm, 134, rfl⟩
abbrev main_v94 : Ref sig .tc := ⟨.hbm, 135, rfl⟩
abbrev main_v95 : Ref sig .tc := ⟨.hbm, 136, rfl⟩
abbrev main_cst_19 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_call2_v0 : Ref sig .tc := ⟨.hbm, 144, rfl⟩
abbrev main_call2_v1 : Ref sig .tc := ⟨.hbm, 145, rfl⟩
abbrev main_call2_cst : Ref sig .tc := ⟨.hbm, 146, rfl⟩
abbrev main_call2_v2 : Ref sig .tc := ⟨.hbm, 147, rfl⟩
abbrev main_call2_v3 : Ref sig .tc := ⟨.hbm, 148, rfl⟩
abbrev main_call2_cst_0 : Ref sig .tc := ⟨.hbm, 149, rfl⟩
abbrev main_call2_v4 : Ref sig .tc := ⟨.hbm, 150, rfl⟩
abbrev main_v102_2 : Ref sig .tc := ⟨.hbm, 151, rfl⟩
abbrev main_call2_cst_1 : Ref sig .tc := ⟨.hbm, 152, rfl⟩
abbrev main_call2_v6 : Ref sig .tc := ⟨.hbm, 153, rfl⟩
abbrev main_call2_v7 : Ref sig .tc := ⟨.hbm, 154, rfl⟩
abbrev main_v102_1 : Ref sig .tc := ⟨.hbm, 155, rfl⟩
abbrev main_v102_0 : Ref sig .tc := ⟨.hbm, 156, rfl⟩
abbrev main_v103 : Ref sig .tc := ⟨.hbm, 157, rfl⟩
abbrev main_v104 : Ref sig .tc := ⟨.hbm, 158, rfl⟩
abbrev main_cst_20 : Ref sig .tc := ⟨.hbm, 159, rfl⟩
abbrev main_v105 : Ref sig .tc := ⟨.hbm, 160, rfl⟩
abbrev main_v106 : Ref sig .tc := ⟨.hbm, 161, rfl⟩
abbrev main_cst_21 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_call3_v0 : Ref sig .tc := ⟨.hbm, 168, rfl⟩
abbrev main_call3_v1 : Ref sig .tc := ⟨.hbm, 169, rfl⟩
abbrev main_call3_v2 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_call4_v0 : Ref sig .tc := ⟨.hbm, 174, rfl⟩
abbrev main_call4_v1 : Ref sig .tc := ⟨.hbm, 175, rfl⟩
abbrev main_call4_cst : Ref sig .tc := ⟨.hbm, 176, rfl⟩
abbrev main_call4_v2 : Ref sig .tc := ⟨.hbm, 177, rfl⟩
abbrev main_call4_v3 : Ref sig .tc := ⟨.hbm, 178, rfl⟩
abbrev main_call4_cst_0 : Ref sig .tc := ⟨.hbm, 179, rfl⟩
abbrev main_call4_v4 : Ref sig .tc := ⟨.hbm, 180, rfl⟩
abbrev main_call4_v5 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_cst_22 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩
abbrev S1024 : Shape := ⟨1, ![1024]⟩

abbrev nBuf : Space → Nat
  | .hbm => 15
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S2816x1024, .bf16⟩
  | .hbm, ⟨11, _⟩ => ⟨S4096x1024, .f32⟩
  | .hbm, ⟨12, _⟩ => ⟨S4096x2816, .bf16⟩
  | .hbm, ⟨13, _⟩ => ⟨S4096x2816, .bf16⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S1x1024, .f32⟩
  | .local _ .vmem, ⟨18, _⟩ => ⟨S512x1024, .bf16⟩
  | .local _ .vmem, ⟨19, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v26 : BitVec 1 := Scalar.cmpi .eq arg1 c1_i32
  let v27 : BitVec 32 := Scalar.extui v26
  let c0_i32_18 : BitVec 32 := 0#32
  let v28 : BitVec 1 := Scalar.cmpi .ne v27 c0_i32_18
  v28

def k0_cond3 (i : grid0.Coords) : BitVec 1 :=
  let arg0 : BitVec 32 := BitVec.ofNat 32 (i 0).val
  let c0_i32_30 : BitVec 32 := 0#32
  let v42 : BitVec 1 := Scalar.cmpi .eq arg0 c0_i32_30
  let v43 : BitVec 32 := Scalar.extui v42
  let c0_i32_31 : BitVec 32 := 0#32
  let v44 : BitVec 1 := Scalar.cmpi .ne v43 c0_i32_31
  v44

def k0_cond4 (i : grid0.Coords) : BitVec 1 :=
  let arg0 : BitVec 32 := BitVec.ofNat 32 (i 0).val
  let c0_i32_32 : BitVec 32 := 0#32
  let v45 : BitVec 1 := Scalar.cmpi .sgt arg0 c0_i32_32
  let v46 : BitVec 32 := Scalar.extui v45
  let c0_i32_33 : BitVec 32 := 0#32
  let v47 : BitVec 1 := Scalar.cmpi .ne v46 c0_i32_33
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference4Ideal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S4096x1024, .f32⟩
  | .hbm, ⟨60, _⟩ => ⟨S4096x1024, .f32⟩
  | .hbm, ⟨61, _⟩ => ⟨S4096x2816, .f32⟩
  | .hbm, ⟨62, _⟩ => ⟨S4096x2816, .bf16⟩
  | .hbm, ⟨63, _⟩ => ⟨S4096x2816, .f32⟩
  | .hbm, ⟨64, _⟩ => ⟨S4096x2816, .bf16⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_cst_8 : Ref sig .tc := ⟨.hbm, 52, rfl⟩
abbrev main_cst_9 : Ref sig .tc := ⟨.hbm, 53, rfl⟩
abbrev main_v29 : Ref sig .tc := ⟨.hbm, 54, rfl⟩
abbrev main_v30 : Ref sig .tc := ⟨.hbm, 55, rfl⟩
abbrev main_cst_10 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_11 : Ref sig .tc := ⟨.hbm, 67, rfl⟩
abbrev main_v41 : Ref sig .tc := ⟨.hbm, 68, rfl⟩
abbrev main_v42 : Ref sig .tc := ⟨.hbm, 69, rfl⟩

abbrev nD : Nat := 1
abbrev τ : Topo := Topo.v7x

variable {F : FTy → Type} [FloatOps F]
-- ==== Kernel5.lean ====
abbrev S4096x3944 : Shape := ⟨2, ![4096, 3944]⟩
abbrev S4096x1024 : Shape := ⟨2, ![4096, 1024]⟩
abbrev S1x1024 : Shape := ⟨2, ![1, 1024]⟩
abbrev S1024x3944 : Shape := ⟨2, ![1024, 3944]⟩
abbrev S3944x1024 : Shape := ⟨2, ![3944, 1024]⟩
abbrev S192x1024 : Shape := ⟨2, ![192, 1024]⟩
abbrev S_ : Shape := ⟨0, ![]⟩
abbrev S64x1024 : Shape := ⟨2, ![64, 1024]⟩
abbrev S128x1024 : Shape := ⟨2, ![128, 1024]⟩
abbrev S32x1024 : Shape := ⟨2, ![32, 1024]⟩
abbrev S8x1024 : Shape := ⟨2, ![8, 1024]⟩
abbrev S88x1024 : Shape := ⟨2, ![88, 1024]⟩
abbrev S512x1024 : Shape := ⟨2, ![512, 1024]⟩
abbrev S2048x1024 : Shape := ⟨2, ![2048, 1024]⟩
abbrev S1536x1024 : Shape := ⟨2, ![1536, 1024]⟩
abbrev S4096x192 : Shape := ⟨2, ![4096, 192]⟩
abbrev S4096x64 : Shape := ⟨2, ![4096, 64]⟩
abbrev S4096x128 : Shape := ⟨2, ![4096, 128]⟩
abbrev S4096x32 : Shape := ⟨2, ![4096, 32]⟩
abbrev S4096x8 : Shape := ⟨2, ![4096, 8]⟩
abbrev S4096x88 : Shape := ⟨2, ![4096, 88]⟩
abbrev S4096x512 : Shape := ⟨2, ![4096, 512]⟩
abbrev S4096x2048 : Shape := ⟨2, ![4096, 2048]⟩
abbrev S4096x1536 : Shape := ⟨2, ![4096, 1536]⟩
abbrev S512x2048 : Shape := ⟨2, ![512, 2048]⟩
abbrev S512x1536 : Shape := ⟨2, ![512, 1536]⟩
abbrev S512x512 : Shape := ⟨2, ![512, 512]⟩
abbrev S512 : Shape := ⟨1, ![512]⟩
abbrev S512x1 : Shape := ⟨2, ![512, 1]⟩
abbrev S1024 : Shape := ⟨1, ![1024]⟩

abbrev nBuf : Space → Nat
  | .hbm => 33
  | .vmem => 19
  | .smem => 0
  | _ => 0

abbrev bufTy : (tb : Table) → Fin (tcTables nBuf tb) → BufTy
  | .hbm, ⟨0, _⟩ => ⟨S4096x3944, .f32⟩
  | .hbm, ⟨1, _⟩ => ⟨S4096x1024, .f32⟩
  | .hbm, ⟨2, _⟩ => ⟨S1x1024, .f32⟩
  | .hbm, ⟨3, _⟩ => ⟨S1024x3944, .f32⟩
  | .hbm, ⟨4, _⟩ => ⟨S4096x1024, .f32⟩
  | .hbm, ⟨5, _⟩ => ⟨S3944x1024, .f32⟩
  | .hbm, ⟨6, _⟩ => ⟨S3944x1024, .bf16⟩
  | .hbm, ⟨7, _⟩ => ⟨S192x1024, .bf16⟩
  | .hbm, ⟨8, _⟩ => ⟨S_, .bf16⟩
  | .hbm, ⟨9, _⟩ => ⟨S64x1024, .bf16⟩
  | .hbm, ⟨10, _⟩ => ⟨S128x1024, .bf16⟩
  | .hbm, ⟨11, _⟩ => ⟨S32x1024, .bf16⟩
  | .hbm, ⟨12, _⟩ => ⟨S8x1024, .bf16⟩
  | .hbm, ⟨13, _⟩ => ⟨S_, .bf16⟩
  | .hbm, ⟨14, _⟩ => ⟨S88x1024, .bf16⟩
  | .hbm, ⟨15, _⟩ => ⟨S512x1024, .bf16⟩
  | .hbm, ⟨16, _⟩ => ⟨S2048x1024, .bf16⟩
  | .hbm, ⟨17, _⟩ => ⟨S1536x1024, .bf16⟩
  | .hbm, ⟨18, _⟩ => ⟨S4096x3944, .bf16⟩
  | .hbm, ⟨19, _⟩ => ⟨S4096x192, .bf16⟩
  | .hbm, ⟨20, _⟩ => ⟨S_, .bf16⟩
  | .hbm, ⟨21, _⟩ => ⟨S4096x64, .bf16⟩
  | .hbm, ⟨22, _⟩ => ⟨S4096x128, .bf16⟩
  | .hbm, ⟨23, _⟩ => ⟨S4096x32, .bf16⟩
  | .hbm, ⟨24, _⟩ => ⟨S4096x8, .bf16⟩
  | .hbm, ⟨25, _⟩ => ⟨S_, .bf16⟩
  | .hbm, ⟨26, _⟩ => ⟨S4096x88, .bf16⟩
  | .hbm, ⟨27, _⟩ => ⟨S4096x512, .bf16⟩
  | .hbm, ⟨28, _⟩ => ⟨S4096x2048, .bf16⟩
  | .hbm, ⟨29, _⟩ => ⟨S4096x1536, .bf16⟩
  | .hbm, ⟨30, _⟩ => ⟨S4096x1024, .f32⟩
  | .hbm, ⟨31, _⟩ => ⟨S1x1024, .f32⟩
  | .hbm, ⟨32, _⟩ => ⟨S4096x1024, .bf16⟩
  | .local _ .vmem, ⟨0, _⟩ => ⟨S512x2048, .bf16⟩
  | .local _ .vmem, ⟨1, _⟩ => ⟨S512x2048, .bf16⟩
  | .local _ .vmem, ⟨2, _⟩ => ⟨S512x1536, .bf16⟩
  | .local _ .vmem, ⟨3, _⟩ => ⟨S512x1536, .bf16⟩
  | .local _ .vmem, ⟨4, _⟩ => ⟨S512x512, .bf16⟩
  | .local _ .vmem, ⟨5, _⟩ => ⟨S512x512, .bf16⟩
  | .local _ .vmem, ⟨6, _⟩ => ⟨S2048x1024, .bf16⟩
  | .local _ .vmem, ⟨7, _⟩ => ⟨S1536x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S512x1024, .bf16⟩
  | .local _ .vmem, ⟨18, _⟩ => ⟨S512x1024, .bf16⟩
  | _, _ => ⟨S4096x3944, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let v54 : BitVec 32 := Scalar.extui v53
  let c0_i32_29 : BitVec 32 := 0#32
  let v55 : BitVec 1 := Scalar.cmpi .ne v54 c0_i32_29
  v55

def k0_cond2 (i : grid0.Coords) : BitVec 1 :=
  let arg0 : BitVec 32 := BitVec.ofNat 32 (i 0).val
  let c0_i32_30 : BitVec 32 := 0#32
  let v56 : BitVec 1 := Scalar.cmpi .sgt arg0 c0_i32_30
  let v57 : BitVec 32 := Scalar.extui v56
  let c0_i32_31 : BitVec 32 := 0#32
  let v58 : BitVec 1 := Scalar.cmpi .ne v57 c0_i32_31
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S4096x3944 : Shape := ⟨2, ![4096, 3944]⟩
abbrev S4096x1024 : Shape := ⟨2, ![4096, 1024]⟩
abbrev S1x1024 : Shape := ⟨2, ![1, 1024]⟩
abbrev S1024x3944 : Shape := ⟨2, ![1024, 3944]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S4096x3944, .f32⟩
  | .hbm, ⟨1, _⟩ => ⟨S4096x1024, .f32⟩
  | .hbm, ⟨2, _⟩ => ⟨S1x1024, .f32⟩
  | .hbm, ⟨3, _⟩ => ⟨S1024x3944, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x3944, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .bf16⟩
  | _, _ => ⟨S4096x3944, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S1024x3944 : Shape := ⟨2, ![1024, 3944]⟩
abbrev S3944x1024 : Shape := ⟨2, ![3944, 1024]⟩
abbrev S192x1024 : Shape := ⟨2, ![192, 1024]⟩
abbrev S_ : Shape := ⟨0, ![]⟩
abbrev S64x1024 : Shape := ⟨2, ![64, 1024]⟩
abbrev S128x1024 : Shape := ⟨2, ![128, 1024]⟩
abbrev S32x1024 : Shape := ⟨2, ![32, 1024]⟩
abbrev S8x1024 : Shape := ⟨2, ![8, 1024]⟩
abbrev S88x1024 : Shape := ⟨2, ![88, 1024]⟩
abbrev S512x1024 : Shape := ⟨2, ![512, 1024]⟩
abbrev S2048x1024 : Shape := ⟨2, ![2048, 1024]⟩
abbrev S1536x1024 : Shape := ⟨2, ![1536, 1024]⟩
abbrev S4096x2048 : Shape := ⟨2, ![4096, 2048]⟩
abbrev S4096x1536 : Shape := ⟨2, ![4096, 1536]⟩
abbrev S4096x512 : Shape := ⟨2, ![4096, 512]⟩
abbrev S512x2048 : Shape := ⟨2, ![512, 2048]⟩
abbrev S512x1536 : Shape := ⟨2, ![512, 1536]⟩
abbrev S512x512 : Shape := ⟨2, ![512, 512]⟩
abbrev S512 : Shape := ⟨1, ![512]⟩
abbrev S512x1 : Shape := ⟨2, ![512, 1]⟩

abbrev nBuf : Space → Nat
  | .hbm => 19
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3944, .f32⟩
  | .hbm, ⟨3, _⟩ => ⟨S3944x1024, .f32⟩
  | .hbm, ⟨4, _⟩ => ⟨S3944x1024, .bf16⟩
  | .hbm, ⟨5, _⟩ => ⟨S192x1024, .bf16⟩
  | .hbm, ⟨6, _⟩ => ⟨S_, .bf16⟩
  | .hbm, ⟨7, _⟩ => ⟨S64x1024, .bf16⟩
  | .hbm, ⟨8, _⟩ => ⟨S128x1024, .bf16⟩
  | .hbm, ⟨9, _⟩ => ⟨S32x1024, .bf16⟩
  | .hbm, ⟨10, _⟩ => ⟨S8x1024, .bf16⟩
  | .hbm, ⟨11, _⟩ => ⟨S_, .bf16⟩
  | .hbm, ⟨12, _⟩ => ⟨S88x1024, .bf16⟩
  | .hbm, ⟨13, _⟩ => ⟨S512x1024, .bf16⟩
  | .hbm, ⟨14, _⟩ => ⟨S2048x1024, .bf16⟩
  | .hbm, ⟨15, _⟩ => ⟨S1536x1024, .bf16⟩
  | .hbm, ⟨16, _⟩ => ⟨S4096x2048, .f32⟩
  | .hbm, ⟨17, _⟩ => ⟨S4096x1536, .f32⟩
  | .hbm, ⟨18, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2048x1024, .bf16⟩
  | .local _ .vmem, ⟨4, _⟩ => ⟨S1536x1024, .bf16⟩
  | .local _ .vmem, ⟨5, _⟩ => ⟨S512x1024, .bf16⟩
  | .local _ .vmem, ⟨6, _⟩ => ⟨S512x2048, .f32⟩
  | .local _ .vmem, ⟨7, _⟩ => ⟨S512x2048, .f32⟩
  | .local _ .vmem, ⟨8, _⟩ => ⟨S512x1536, .f32⟩
  | .local _ .vmem, ⟨9, _⟩ => ⟨S512x1536, .f32⟩
  | .local _ .vmem, ⟨10, _⟩ => ⟨S512x512, .f32⟩
  | .local _ .vmem, ⟨11, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S4096x1024 : Shape := ⟨2, ![4096, 1024]⟩
abbrev S1x1024 : Shape := ⟨2, ![1, 1024]⟩
abbrev S1024x3944 : Shape := ⟨2, ![1024, 3944]⟩
abbrev S_ : Shape := ⟨0, ![]⟩
abbrev S4096 : Shape := ⟨1, ![4096]⟩
abbrev S4096x1 : Shape := ⟨2, ![4096, 1]⟩
abbrev S4096x3944 : Shape := ⟨2, ![4096, 3944]⟩
abbrev S4096x2048 : Shape := ⟨2, ![4096, 2048]⟩
abbrev S4096x1536 : Shape := ⟨2, ![4096, 1536]⟩
abbrev S4096x192 : Shape := ⟨2, ![4096, 192]⟩
abbrev S4096x256 : Shape := ⟨2, ![4096, 256]⟩
abbrev S4096x128 : Shape := ⟨2, ![4096, 128]⟩
abbrev S4096x32 : Shape := ⟨2, ![4096, 32]⟩
abbrev S4096x8 : Shape := ⟨2, ![4096, 8]⟩
abbrev S4096x96 : Shape := ⟨2, ![4096, 96]⟩
abbrev S4096x512 : Shape := ⟨2, ![4096, 512]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3944, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x3944, .f32⟩
  | .hbm, ⟨19, _⟩ => ⟨S4096x2048, .f32⟩
  | .hbm, ⟨20, _⟩ => ⟨S4096x1536, .f32⟩
  | .hbm, ⟨21, _⟩ => ⟨S4096x192, .f32⟩
  | .hbm, ⟨22, _⟩ => ⟨S_, .i32⟩
  | .hbm, ⟨23, _⟩ => ⟨S_, .f32⟩
  | .hbm, ⟨24, _⟩ => ⟨S4096x256, .f32⟩
  | .hbm, ⟨25, _⟩ => ⟨S4096x128, .f32⟩
  | .hbm, ⟨26, _⟩ => ⟨S_, .i32⟩
  | .hbm, ⟨27, _⟩ => ⟨S_, .f32⟩
  | .hbm, ⟨28, _⟩ => ⟨S4096x128, .f32⟩
  | .hbm, ⟨29, _⟩ => ⟨S4096x32, .f32⟩
  | .hbm, ⟨30, _⟩ => ⟨S_, .i32⟩
  | .hbm, ⟨31, _⟩ => ⟨S_, .f32⟩
  | .hbm, ⟨32, _⟩ => ⟨S4096x32, .f32⟩
  | .hbm, ⟨33, _⟩ => ⟨S4096x8, .f32⟩
  | .hbm, ⟨34, _⟩ => ⟨S_, .i32⟩
  | .hbm, ⟨35, _⟩ => ⟨S_, .f32⟩
  | .hbm, ⟨36, _⟩ => ⟨S4096x96, .f32⟩
  | .hbm, ⟨37, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_call1_v0 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_call2_v0 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_call3_v0 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel7.lean ====
abbrev S4096x1024 : Shape := ⟨2, ![4096, 1024]⟩
abbrev S4096x512 : Shape := ⟨2, ![4096, 512]⟩
abbrev S4096x2048 : Shape := ⟨2, ![4096, 2048]⟩
abbrev S2x1024 : Shape := ⟨2, ![2, 1024]⟩
abbrev S512x1024 : Shape := ⟨2, ![512, 1024]⟩
abbrev S1024x1024 : Shape := ⟨2, ![1024, 1024]⟩
abbrev S1024x512 : Shape := ⟨2, ![1024, 512]⟩
abbrev S512x512 : Shape := ⟨2, ![512, 512]⟩
abbrev S512x2048 : Shape := ⟨2, ![512, 2048]⟩
abbrev S1x1024 : Shape := ⟨2, ![1, 1024]⟩

abbrev nBuf : Space → Nat
  | .hbm => 16
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S2x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S4096x512, .bf16⟩
  | .hbm, ⟨9, _⟩ => ⟨S4096x512, .bf16⟩
  | .hbm, ⟨10, _⟩ => ⟨S1024x512, .f32⟩
  | .hbm, ⟨11, _⟩ => ⟨S1024x512, .bf16⟩
  | .hbm, ⟨12, _⟩ => ⟨S1024x512, .f32⟩
  | .hbm, ⟨13, _⟩ => ⟨S1024x512, .bf16⟩
  | .hbm, ⟨14, _⟩ => ⟨S1024x1024, .bf16⟩
  | .hbm, ⟨15, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .f32⟩
  | .local _ .vmem, ⟨7, _⟩ => ⟨S512x2048, .f32⟩
  | .local _ .vmem, ⟨8, _⟩ => ⟨S2x1024, .f32⟩
  | .local _ .vmem, ⟨9, _⟩ => ⟨S1024x512, .bf16⟩
  | .local _ .vmem, ⟨10, _⟩ => ⟨S1024x512, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S4096x1024 : Shape := ⟨2, ![4096, 1024]⟩
abbrev S4096x512 : Shape := ⟨2, ![4096, 512]⟩
abbrev S4096x2048 : Shape := ⟨2, ![4096, 2048]⟩
abbrev S2x1024 : Shape := ⟨2, ![2, 1024]⟩
abbrev S512x1024 : Shape := ⟨2, ![512, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S2x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S4096x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel8.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x2048, .bf16⟩
  | .hbm, ⟨3, _⟩ => ⟨S4096x1024, .bf16⟩
  | .hbm, ⟨4, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S2048x1024, .f32⟩
  | .hbm, ⟨6, _⟩ => ⟨S2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4096x1536 : Shape := ⟨2, ![4096, 1536]⟩
abbrev S4096x1024 : Shape := ⟨2, ![4096, 1024]⟩
abbrev S1536x1024 : Shape := ⟨2, ![1536, 1024]⟩
abbrev S1024x1536 : Shape := ⟨2, ![1024, 1536]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1536, .f32⟩
  | .hbm, ⟨1, _⟩ => ⟨S4096x1024, .f32⟩
  | .hbm, ⟨2, _⟩ => ⟨S4096x1536, .bf16⟩
  | .hbm, ⟨3, _⟩ => ⟨S4096x1024, .bf16⟩
  | .hbm, ⟨4, _⟩ => ⟨S1536x1024, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .bf16⟩
  | .local _ .vmem, ⟨5, _⟩ => ⟨S1536x1024, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference9Ideal.lean ====
abbrev S4096x1536 : Shape := ⟨2, ![4096, 1536]⟩
abbrev S4096x1024 : Shape := ⟨2, ![4096, 1024]⟩
abbrev S_ : Shape := ⟨0, ![]⟩
abbrev S1536x1024 : Shape := ⟨2, ![1536, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1024, .f32⟩
  | .hbm, ⟨2, _⟩ => ⟨S_, .f32⟩
  | .hbm, ⟨3, _⟩ => ⟨S1536x1024, .f32⟩
  | .hbm, ⟨4, _⟩ => ⟨S4096x1536, .f32⟩
  | .hbm, ⟨5, _⟩ => ⟨S1536x1024, .f32⟩
  | .hbm, ⟨6, _⟩ => ⟨S1536x1024, .bf16⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S4096x512 : Shape := ⟨2, ![4096, 512]⟩
abbrev S4096x1024 : Shape := ⟨2, ![4096, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x512, .bf16⟩
  | .hbm, ⟨3, _⟩ => ⟨S4096x1024, .bf16⟩
  | .hbm, ⟨4, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference10Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S512x1024, .f32⟩
  | .hbm, ⟨6, _⟩ => ⟨S512x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference11Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S4096x1024 : Shape := ⟨2, ![4096, 1024]⟩
abbrev S4096x512 : Shape := ⟨2, ![4096, 512]⟩
abbrev S1024x512 : Shape := ⟨2, ![1024, 512]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x1024, .bf16⟩
  | .hbm, ⟨3, _⟩ => ⟨S4096x512, .bf16⟩
  | .hbm, ⟨4, _⟩ => ⟨S1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference12Ideal.lean ====
abbrev S4096x1024 : Shape := ⟨2, ![4096, 1024]⟩
abbrev S4096x512 : Shape := ⟨2, ![4096, 512]⟩
abbrev S_ : Shape := ⟨0, ![]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S_, .f32⟩
  | .hbm, ⟨3, _⟩ => ⟨S1024x512, .f32⟩
  | .hbm, ⟨4, _⟩ => ⟨S4096x1024, .f32⟩
  | .hbm, ⟨5, _⟩ => ⟨S1024x512, .f32⟩
  | .hbm, ⟨6, _⟩ => ⟨S1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4x352x1024 : Shape := ⟨3, ![4, 352, 1024]⟩
abbrev S352x1024 : Shape := ⟨2, ![352, 1024]⟩
abbrev S4x176x1024 : Shape := ⟨3, ![4, 176, 1024]⟩
abbrev S176x1024 : Shape := ⟨2, ![176, 1024]⟩
abbrev S1x176x1024 : Shape := ⟨3, ![1, 176, 1024]⟩

abbrev nBuf : Space → Nat
  | .hbm => 9
  | .vmem => 16
  | .smem => 0
  | _ => 0

abbrev bufTy : (tb : Table) → Fin (tcTables nBuf tb) → BufTy
  | .hbm, ⟨0, _⟩ => ⟨S4x352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S4x352x1024, .bf16⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S4x176x1024, .bf16⟩
  | .local _ .vmem, ⟨1, _⟩ => ⟨S4x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S4x352x1024 : Shape := ⟨3, ![4, 352, 1024]⟩
abbrev S352x1024 : Shape := ⟨2, ![352, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S352x1024, .f32⟩
  | .hbm, ⟨6, _⟩ => ⟨S_, .f32⟩
  | .hbm, ⟨7, _⟩ => ⟨S352x1024, .f32⟩
  | .hbm, ⟨8, _⟩ => ⟨S352x1024, .f32⟩
  | .hbm, ⟨9, _⟩ => ⟨S_, .f32⟩
  | .hbm, ⟨10, _⟩ => ⟨S352x1024, .f32⟩
  | .hbm, ⟨11, _⟩ => ⟨S352x1024, .f32⟩
  | .hbm, ⟨12, _⟩ => ⟨S352x1024, .f32⟩
  | .hbm, ⟨13, _⟩ => ⟨S_, .f32⟩
  | .hbm, ⟨14, _⟩ => ⟨S352x1024, .f32⟩
  | .hbm, ⟨15, _⟩ => ⟨S352x1024, .f32⟩
  | .hbm, ⟨16, _⟩ => ⟨S352x1024, .f32⟩
  | .hbm, ⟨17, _⟩ => ⟨S_, .f32⟩
  | .hbm, ⟨18, _⟩ => ⟨S352x1024, .f32⟩
  | .hbm, ⟨19, _⟩ => ⟨S352x1024, .f32⟩
  | .hbm, ⟨20, _⟩ => ⟨S352x1024, .f32⟩
  | .hbm, ⟨21, _⟩ => ⟨S_, .f32⟩
  | .hbm, ⟨22, _⟩ => ⟨S352x1024, .f32⟩
  | .hbm, ⟨23, _⟩ => ⟨S352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S352x1024, .f32⟩
  | .hbm, ⟨28, _⟩ => ⟨S_, .f32⟩
  | .hbm, ⟨29, _⟩ => ⟨S352x1024, .f32⟩
  | .hbm, ⟨30, _⟩ => ⟨S352x1024, .f32⟩
  | .hbm, ⟨31, _⟩ => ⟨S352x1024, .f32⟩
  | .hbm, ⟨32, _⟩ => ⟨S_, .f32⟩
  | .hbm, ⟨33, _⟩ => ⟨S352x1024, .f32⟩
  | .hbm, ⟨34, _⟩ => ⟨S352x1024, .f32⟩
  | .hbm, ⟨35, _⟩ => ⟨S352x1024, .f32⟩
  | .hbm, ⟨36, _⟩ => ⟨S_, .f32⟩
  | .hbm, ⟨37, _⟩ => ⟨S352x1024, .f32⟩
  | .hbm, ⟨38, _⟩ => ⟨S352x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Steps.lean ====
module

public import proofs.«01_k».proof.Proof.Gen.KernelIdeal.Skeleton
public import Idealize.ShloMosaic.Lib.Pipeline.FrameBody
public import Idealize.ShloMosaic.Lib.Writes
public import Idealize.ShloMosaic.Lib.ValueIdxCore
public import Idealize.ShloMosaic.Lib.Exec

/-!
What one grid point of the attention backward leaves in the three accumulators, as functions of the six blocks it
reads and of what the accumulators held before: head by head, a tile of each accumulator is replaced by a payload of
that tile's old contents. The payloads are the generated names of head 0; every other head's printed text is the same.
-/

@[expose] public section

noncomputable section

namespace Cert.KernelIdeal.Mla

open KernelIdeal KernelIdeal.Gen
open Idealize.ShloMosaic
open Idealize.ShloMosaic.ValueIdx (ix2)

variable {F : FTy → Type} [FloatOps F] [Named F]

/-! ## Writes tile by tile -/

section Tiles

variable {sig' : RefSig} {κ : Kind} {sp : Space} {s : Shape} {e : EltTy} {Val : EltTy → Type}

/-- `L` has written tiles `0 … h-1` of `G` over `base`. -/
def Tiled (v : View sig' κ sp s e) (f : v.ty.Contents Val) (tile : s.Idx → ℕ) (G base : s.Idx → Val e) (h : ℕ)
    (L : List (View.Piece Val s e)) : Prop :=
  ∀ y, v.read Val (v.writes Val f L) y = if tile y < h then G y else base y

/-- One more tile written. -/
theorem Tiled.cons {v : View sig' κ sp s e} {f : v.ty.Contents Val} {tile : s.Idx → ℕ} {G base : s.Idx → Val e} {h : ℕ}
    {L : List (View.Piece Val s e)} {r : Rect s} {w : r.shape.Idx → Val e} (hr : ∀ y, y ∈ r.set ↔ tile y = h)
    (hL : Tiled v f tile G base h L) (hw : ∀ x, w x = G (r.emb x)) : Tiled v f tile G base (h + 1) (⟨r, w⟩ :: L) := by
  intro y
  by_cases hy : y ∈ r.set
  · obtain ⟨x, rfl⟩ : ∃ x, r.emb x = y := r.exists_idx_of_mem hy
    rw [View.read_writes_cons_emb, hw, if_pos (by have := (hr _).1 hy; omega)]
  · rw [View.read_writes_cons_miss v f ⟨r, w⟩ L y hy, hL y]
    have : tile y ≠ h := fun e => hy ((hr y).2 e)
    congr 1
    exact propext (by omega)

/-- A load of tile `h` when only the earlier tiles have been written reads the base. -/
theorem Tiled.load {v : View sig' κ sp s e} {f : v.ty.Contents Val} {tile : s.Idx → ℕ} {G base : s.Idx → Val e} {h : ℕ}
    {L : List (View.Piece Val s e)} {r : Rect s} (hr : ∀ y, y ∈ r.set ↔ tile y = h) (hL : Tiled v f tile G base h L) :
    v.readAt Val r.toLoadRect (v.writes Val f L) = View.ld base r := by
  funext x
  rw [View.readAt_apply, hL]
  rw [if_neg]
  have := (hr (r.toLoadRect.idx x)).1 (r.idx_mem x)
  omega

theorem Tiled.done {v : View sig' κ sp s e} {f : v.ty.Contents Val} {tile : s.Idx → ℕ} {G base : s.Idx → Val e} {h : ℕ}
    {L : List (View.Piece Val s e)} (hL : Tiled v f tile G base h L) (hG : ∀ y, ¬ tile y < h → G y = base y) :
    v.read Val (v.writes Val f L) = G := by
  funext y
  rw [hL y]
  split
  · rfl
  · exact (hG y ‹_›).symm

end Tiles

/-! ## The blocks of one grid point and the tiles of its heads -/

/-- The six blocks a grid point reads: q, k, v, the cotangent of the output, delta and the log-sum. -/
structure Blk (F : FTy → Type) where
  q : S512x1024.Idx → Elt F .bf16
  k : S512x1024.Idx → Elt F .bf16
  v : S512x512.Idx → Elt F .bf16
  g : S512x512.Idx → Elt F .bf16
  del : S512x8.Idx → Elt F .f32
  lse : S512x8.Idx → Elt F .f32

theorem inb128 (h : Fin 8) : ∀ a, ![0, 128 * h.val] a + S512x128.size a ≤ S512x1024.size a :=
  Fin.forall_fin_two.2 ⟨by show 0 + 512 ≤ 512; omega, by show 128 * h.val + 128 ≤ 1024; omega⟩
theorem inb64 (h : Fin 8) : ∀ a, ![0, 64 * h.val] a + S512x64.size a ≤ S512x512.size a :=
  Fin.forall_fin_two.2 ⟨by show 0 + 512 ≤ 512; omega, by show 64 * h.val + 64 ≤ 512; omega⟩
theorem inb1 (h : Fin 8) : ∀ a, ![0, h.val] a + S512x1.size a ≤ S512x8.size a :=
  Fin.forall_fin_two.2 ⟨by show 0 + 512 ≤ 512; omega, by show h.val + 1 ≤ 8; omega⟩
theorem inbDk (h : Fin 8) : ∀ a, ![128 * h.val, 0] a + S128x512.size a ≤ S1024x512.size a :=
  Fin.forall_fin_two.2 ⟨by show 128 * h.val + 128 ≤ 1024; omega, by show 0 + 512 ≤ 512; omega⟩
theorem inbDv (h : Fin 8) : ∀ a, ![64 * h.val, 0] a + S64x512.size a ≤ S512x512.size a :=
  Fin.forall_fin_two.2 ⟨by show 64 * h.val + 64 ≤ 512; omega, by show 0 + 512 ≤ 512; omega⟩
theorem inbAcc {R : ℕ} (hR : R + 512 ≤ 4096) (h : Fin 8) : ∀ a, ![R, 128 * h.val] a + S512x128.size a ≤ S4096x1024.size a :=
  Fin.forall_fin_two.2 ⟨by show R + 512 ≤ 4096; omega, by show 128 * h.val + 128 ≤ 1024; omega⟩

/-- Head `h`'s columns of q or k, of v or the cotangent, of delta or the log-sum; -/
abbrev r128 (h : Fin 8) : Rect S512x1024 := Rect.unit (s := S512x1024) ![0, 128 * h.val] S512x128.size (inb128 h)
abbrev r64 (h : Fin 8) : Rect S512x512 := Rect.unit (s := S512x512) ![0, 64 * h.val] S512x64.size (inb64 h)
abbrev r1 (h : Fin 8) : Rect S512x8 := Rect.unit (s := S512x8) ![0, h.val] S512x1.size (inb1 h)
/-- its rows of the dk and dv accumulators, and its tile of the dq accumulator in the rows from `R`. -/
abbrev rDk (h : Fin 8) : Rect S1024x512 := Rect.unit (s := S1024x512) ![128 * h.val, 0] S128x512.size (inbDk h)
abbrev rDv (h : Fin 8) : Rect S512x512 := Rect.unit (s := S512x512) ![64 * h.val, 0] S64x512.size (inbDv h)
abbrev rAcc {R : ℕ} (hR : R + 512 ≤ 4096) (h : Fin 8) : Rect S4096x1024 :=
  Rect.unit (s := S4096x1024) ![R, 128 * h.val] S512x128.size (inbAcc hR h)

/-- One head's three updates, each a function of the old tile. -/
structure Pay (F : FTy → Type) where
  dv : FVec F S64x512 .f32 → FVec F S64x512 .f32
  dk : FVec F S128x512 .f32 → FVec F S128x512 .f32
  dq : FVec F S512x128 .f32 → FVec F S512x128 .f32

/-- Below the diagonal: no mask. -/
def payOff (b : Blk F) (h : Fin 8) : Pay F where
  dv old := k0_pay15 (View.ld b.q (r128 h)) (View.ld b.k (r128 h)) (View.ld b.lse (r1 h)) (View.ld b.g (r64 h)) old
  dk old := k0_pay17 (View.ld b.q (r128 h)) (View.ld b.k (r128 h)) (View.ld b.lse (r1 h)) (View.ld b.g (r64 h)) (View.ld b.v (r64 h)) (View.ld b.del (r1 h)) old
  dq old := k0_pay18 (k0_pay12 (View.ld b.k (r128 h)))
    (k0_pay16 (View.ld b.q (r128 h)) (View.ld b.k (r128 h)) (View.ld b.lse (r1 h)) (View.ld b.g (r64 h)) (View.ld b.v (r64 h)) (View.ld b.del (r1 h))) old

/-- On the diagonal: the scores above the diagonal are masked. -/
def payDiag (b : Blk F) (h : Fin 8) : Pay F where
  dv old := k0_pay82 (View.ld b.q (r128 h)) (View.ld b.k (r128 h)) (View.ld b.lse (r1 h)) (View.ld b.g (r64 h)) old
  dk old := k0_pay85 (k0_pay78 (View.ld b.q (r128 h)))
    (k0_pay83 (View.ld b.q (r128 h)) (View.ld b.k (r128 h)) (View.ld b.lse (r1 h)) (View.ld b.g (r64 h)) (View.ld b.v (r64 h)) (View.ld b.del (r1 h))) (k0_pay84 old)
  dq old := k0_pay86 (k0_pay79 (View.ld b.k (r128 h)))
    (k0_pay83 (View.ld b.q (r128 h)) (View.ld b.k (r128 h)) (View.ld b.lse (r1 h)) (View.ld b.g (r64 h)) (View.ld b.v (r64 h)) (View.ld b.del (r1 h))) old

/-! ## The three accumulators after a grid point -/

def tileDk (y : S1024x512.Idx) : ℕ := (y 0).val / 128
def tileDv (y : S512x512.Idx) : ℕ := (y 0).val / 64
def tileAcc (R : ℕ) (y : S4096x1024.Idx) : ℕ := if R ≤ (y 0).val ∧ (y 0).val < R + 512 then (y 1).val / 128 else 8

theorem tileDk_lt (y : S1024x512.Idx) : tileDk y < 8 := by
  have : (y 0).val < 1024 := (y 0).isLt
  unfold tileDk; omega
theorem tileDv_lt (y : S512x512.Idx) : tileDv y < 8 := by
  have : (y 0).val < 512 := (y 0).isLt
  unfold tileDv; omega

def dkStep (p : Fin 8 → Pay F) (old : S1024x512.Idx → Elt F .f32) : S1024x512.Idx → Elt F .f32 := fun y =>
  (p ⟨tileDk y, tileDk_lt y⟩).dk (View.ld old (rDk ⟨tileDk y, tileDk_lt y⟩)) (ix2 ⟨(y 0).val % 128, Nat.mod_lt _ (by decide)⟩ (y 1))

def dvStep (p : Fin 8 → Pay F) (old : S512x512.Idx → Elt F .f32) : S512x512.Idx → Elt F .f32 := fun y =>
  (p ⟨tileDv y, tileDv_lt y⟩).dv (View.ld old (rDv ⟨tileDv y, tileDv_lt y⟩)) (ix2 ⟨(y 0).val % 64, Nat.mod_lt _ (by decide)⟩ (y 1))

def accStep {R : ℕ} (hR : R + 512 ≤ 4096) (p : Fin 8 → Pay F) (old : S4096x1024.Idx → Elt F .f32) : S4096x1024.Idx → Elt F .f32 := fun y =>
  if hy : tileAcc R y < 8 then
    (p ⟨tileAcc R y, hy⟩).dq (View.ld old (rAcc hR ⟨tileAcc R y, hy⟩)) (ix2 ⟨((y 0).val - R) % 512, Nat.mod_lt _ (by decide)⟩ ⟨(y 1).val % 128, Nat.mod_lt _ (by decide)⟩)
  else old y

theorem mem_rDk (h : Fin 8) (y : S1024x512.Idx) : y ∈ (rDk h).set ↔ tileDk y = h.val := by
  have h0 : (y 0).val < 1024 := (y 0).isLt
  have h1 : (y 1).val < 512 := (y 1).isLt
  unfold tileDk
  rw [Rect.mem_set_unit]
  constructor
  · intro hm
    have := hm 0
    have e1 : 128 * h.val ≤ (y 0).val := this.1
    have e2 : (y 0).val < 128 * h.val + 128 := this.2
    omega
  · intro hm
    refine Fin.forall_fin_two.2 ⟨⟨?_, ?_⟩, ⟨?_, ?_⟩⟩
    · show 128 * h.val ≤ (y 0).val; omega
    · show (y 0).val < 128 * h.val + 128; omega
    · show 0 ≤ (y 1).val; omega
    · show (y 1).val < 0 + 512; omega

theorem mem_rDv (h : Fin 8) (y : S512x512.Idx) : y ∈ (rDv h).set ↔ tileDv y = h.val := by
  have h0 : (y 0).val < 512 := (y 0).isLt
  have h1 : (y 1).val < 512 := (y 1).isLt
  unfold tileDv
  rw [Rect.mem_set_unit]
  constructor
  · intro hm
    have := hm 0
    have e1 : 64 * h.val ≤ (y 0).val := this.1
    have e2 : (y 0).val < 64 * h.val + 64 := this.2
    omega
  · intro hm
    refine Fin.forall_fin_two.2 ⟨⟨?_, ?_⟩, ⟨?_, ?_⟩⟩
    · show 64 * h.val ≤ (y 0).val; omega
    · show (y 0).val < 64 * h.val + 64; omega
    · show 0 ≤ (y 1).val; omega
    · show (y 1).val < 0 + 512; omega

theorem mem_rAcc {R : ℕ} (hR : R + 512 ≤ 4096) (h : Fin 8) (y : S4096x1024.Idx) : y ∈ (rAcc hR h).set ↔ tileAcc R y = h.val := by
  have h1 : (y 1).val < 1024 := (y 1).isLt
  have hh := h.isLt
  unfold tileAcc
  rw [Rect.mem_set_unit]
  constructor
  · intro hm
    have e1 : R ≤ (y 0).val := (hm 0).1
    have e2 : (y 0).val < R + 512 := (hm 0).2
    have e3 : 128 * h.val ≤ (y 1).val := (hm 1).1
    have e4 : (y 1).val < 128 * h.val + 128 := (hm 1).2
    rw [if_pos ⟨e1, e2⟩]; omega
  · intro hm
    split at hm
    · rename_i hr
      refine Fin.forall_fin_two.2 ⟨⟨?_, ?_⟩, ⟨?_, ?_⟩⟩
      · show R ≤ (y 0).val; exact hr.1
      · show (y 0).val < R + 512; exact hr.2
      · show 128 * h.val ≤ (y 1).val; omega
      · show (y 1).val < 128 * h.val + 128; omega
    · omega

theorem dkStep_emb (p : Fin 8 → Pay F) (old : S1024x512.Idx → Elt F .f32) (h : Fin 8) (x : S128x512.Idx) :
    dkStep p old ((rDk h).emb x) = (p h).dk (View.ld old (rDk h)) x := by
  have ht : tileDk ((rDk h).emb x) = h.val := (mem_rDk h _).1 ((rDk h).idx_mem x)
  have hf : (⟨tileDk ((rDk h).emb x), tileDk_lt _⟩ : Fin 8) = h := Fin.ext ht
  unfold dkStep
  rw [hf]
  congr 1
  have h0 : (x 0).val < 128 := (x 0).isLt
  funext a
  refine Fin.ext ?_
  fin_cases a
  · show (128 * h.val + 1 * (x 0).val) % 128 = (x 0).val; omega
  · show 0 + 1 * (x 1).val = (x 1).val; omega

theorem dvStep_emb (p : Fin 8 → Pay F) (old : S512x512.Idx → Elt F .f32) (h : Fin 8) (x : S64x512.Idx) :
    dvStep p old ((rDv h).emb x) = (p h).dv (View.ld old (rDv h)) x := by
  have ht : tileDv ((rDv h).emb x) = h.val := (mem_rDv h _).1 ((rDv h).idx_mem x)
  have hf : (⟨tileDv ((rDv h).emb x), tileDv_lt _⟩ : Fin 8) = h := Fin.ext ht
  unfold dvStep
  rw [hf]
  congr 1
  have h0 : (x 0).val < 64 := (x 0).isLt
  funext a
  refine Fin.ext ?_
  fin_cases a
  · show (64 * h.val + 1 * (x 0).val) % 64 = (x 0).val; omega
  · show 0 + 1 * (x 1).val = (x 1).val; omega

theorem accStep_emb {R : ℕ} (hR : R + 512 ≤ 4096) (p : Fin 8 → Pay F) (old : S4096x1024.Idx → Elt F .f32) (h : Fin 8) (x : S512x128.Idx) :
    accStep hR p old ((rAcc hR h).emb x) = (p h).dq (View.ld old (rAcc hR h)) x := by
  have ht : tileAcc R ((rAcc hR h).emb x) = h.val := (mem_rAcc hR h _).1 ((rAcc hR h).idx_mem x)
  have hlt : tileAcc R ((rAcc hR h).emb x) < 8 := ht ▸ h.isLt
  have hf : (⟨tileAcc R ((rAcc hR h).emb x), hlt⟩ : Fin 8) = h := Fin.ext ht
  unfold accStep
  rw [dif_pos hlt, hf]
  congr 1
  have h0 : (x 0).val < 512 := (x 0).isLt
  have h1 : (x 1).val < 128 := (x 1).isLt
  funext a
  refine Fin.ext ?_
  fin_cases a
  · show (R + 1 * (x 0).val - R) % 512 = (x 0).val; omega
  · show (128 * h.val + 1 * (x 1).val) % 128 = (x 1).val; omega

theorem accStep_of_not {R : ℕ} (hR : R + 512 ≤ 4096) (p : Fin 8 → Pay F) (old : S4096x1024.Idx → Elt F .f32) (y : S4096x1024.Idx)
    (hy : ¬ tileAcc R y < 8) : accStep hR p old y = old y := dif_neg hy

/-! ## The eight heads in order -/

section Heads

variable {sig' : RefSig} {κ : Kind} {sp : Space}

/-- Nothing written yet. -/
theorem Tiled.nil {s : Shape} {e : EltTy} {Val : EltTy → Type} (v : View sig' κ sp s e) (f : v.ty.Contents Val) (tile : s.Idx → ℕ)
    (G : s.Idx → Val e) : Tiled v f tile G (v.read Val f) 0 [] := fun y => by
  rw [if_neg (Nat.not_lt_zero _)]; rfl

/-- The whole buffer filled first. -/
theorem Tiled.fill {s : Shape} {e : EltTy} {Val : EltTy → Type} (v : View sig' κ sp s e) (f : v.ty.Contents Val) (tile : s.Idx → ℕ)
    (G : s.Idx → Val e) (r : Rect s) (w : r.shape.Idx → Val e) (z : s.Idx → Val e) (hr : ∀ y, y ∈ r.set) (hz : ∀ x, w x = z (r.emb x)) :
    Tiled v f tile G z 0 [⟨r, w⟩] := fun y => by
  rw [if_neg (Nat.not_lt_zero _)]
  obtain ⟨x, rfl⟩ : ∃ x, r.emb x = y := r.exists_idx_of_mem (hr y)
  rw [View.read_writes_cons_emb, hz]

/-- A store of a whole matrix leaves what was stored. -/
theorem Tiled.fill2 {n m : ℕ} {e : EltTy} {Val : EltTy → Type} (v : View sig' κ sp ⟨2, ![n, m]⟩ e) (f : v.ty.Contents Val)
    (tile : (⟨2, ![n, m]⟩ : Shape).Idx → ℕ) (G : (⟨2, ![n, m]⟩ : Shape).Idx → Val e)
    (inb : ∀ a, ![0, 0] a + ![n, m] a ≤ ![n, m] a) (w : (⟨2, ![n, m]⟩ : Shape).Idx → Val e) :
    Tiled v f tile G w 0 [⟨Rect.unit (s := ⟨2, ![n, m]⟩) ![0, 0] ![n, m] inb, w⟩] := by
  refine Tiled.fill v f tile G (Rect.unit (s := ⟨2, ![n, m]⟩) ![0, 0] ![n, m] inb) w w ?_ ?_
  · intro y
    rw [Rect.mem_set_unit]
    refine Fin.forall_fin_two.2 ⟨⟨Nat.zero_le _, ?_⟩, ⟨Nat.zero_le _, ?_⟩⟩
    · have h : (y 0).val < n := (y 0).isLt
      show (y 0).val < 0 + n; omega
    · have h : (y 1).val < m := (y 1).isLt
      show (y 1).val < 0 + m; omega
  · intro x
    congr 1
    funext a
    refine Fin.ext ?_
    fin_cases a
    · show (x 0).val = 0 + 1 * (x 0).val; omega
    · show (x 1).val = 0 + 1 * (x 1).val; omega

theorem Tiled.dk {v : View sig' κ sp S1024x512 .f32} {f : v.ty.Contents (Elt F)} {p : Fin 8 → Pay F} {old base : S1024x512.Idx → Elt F .f32}
    {L : List (View.Piece (Elt F) S1024x512 .f32)} (h : Fin 8) {w : (rDk h).shape.Idx → Elt F .f32}
    (hL : Tiled v f tileDk (dkStep p old) base h.val L) (hw : w = (p h).dk (View.ld old (rDk h))) :
    Tiled v f tileDk (dkStep p old) base (h.val + 1) (⟨rDk h, w⟩ :: L) :=
  hL.cons (mem_rDk h) fun x => by rw [hw]; exact (dkStep_emb p old h x).symm

theorem Tiled.dv {v : View sig' κ sp S512x512 .f32} {f : v.ty.Contents (Elt F)} {p : Fin 8 → Pay F} {old base : S512x512.Idx → Elt F .f32}
    {L : List (View.Piece (Elt F) S512x512 .f32)} (h : Fin 8) {w : (rDv h).shape.Idx → Elt F .f32}
    (hL : Tiled v f tileDv (dvStep p old) base h.val L) (hw : w = (p h).dv (View.ld old (rDv h))) :
    Tiled v f tileDv (dvStep p old) base (h.val + 1) (⟨rDv h, w⟩ :: L) :=
  hL.cons (mem_rDv h) fun x => by rw [hw]; exact (dvStep_emb p old h x).symm

theorem Tiled.acc {v : View sig' κ sp S4096x1024 .f32} {f : v.ty.Contents (Elt F)} {R : ℕ} {hR : R + 512 ≤ 4096} {p : Fin 8 → Pay F}
    {old base : S4096x1024.Idx → Elt F .f32}
    {L : List (View.Piece (Elt F) S4096x1024 .f32)} (h : Fin 8) {w : (rAcc hR h).shape.Idx → Elt F .f32}
    (hL : Tiled v f (tileAcc R) (accStep hR p old) base h.val L) (hw : w = (p h).dq (View.ld old (rAcc hR h))) :
    Tiled v f (tileAcc R) (accStep hR p old) base (h.val + 1) (⟨rAcc hR h, w⟩ :: L) :=
  hL.cons (mem_rAcc hR h) fun x => by rw [hw]; exact (accStep_emb hR p old h x).symm

/-! The old tile loaded after the earlier heads' stores. -/

theorem Tiled.dkR {v : View sig' κ sp S1024x512 .f32} {f : v.ty.Contents (Elt F)} {p : Fin 8 → Pay F} {old : S1024x512.Idx → Elt F .f32}
    {L : List (View.Piece (Elt F) S1024x512 .f32)} (h : Fin 8) {w : (rDk h).shape.Idx → Elt F .f32}
    (hL : Tiled v f tileDk (dkStep p old) old h.val L) (hw : w = (p h).dk (v.readAt (Elt F) (rDk h).toLoadRect (v.writes (Elt F) f L))) :
    Tiled v f tileDk (dkStep p old) old (h.val + 1) (⟨rDk h, w⟩ :: L) :=
  hL.dk h (by rw [hw, hL.load (mem_rDk h)])

theorem Tiled.dvR {v : View sig' κ sp S512x512 .f32} {f : v.ty.Contents (Elt F)} {p : Fin 8 → Pay F} {old : S512x512.Idx → Elt F .f32}
    {L : List (View.Piece (Elt F) S512x512 .f32)} (h : Fin 8) {w : (rDv h).shape.Idx → Elt F .f32}
    (hL : Tiled v f tileDv (dvStep p old) old h.val L) (hw : w = (p h).dv (v.readAt (Elt F) (rDv h).toLoadRect (v.writes (Elt F) f L))) :
    Tiled v f tileDv (dvStep p old) old (h.val + 1) (⟨rDv h, w⟩ :: L) :=
  hL.dv h (by rw [hw, hL.load (mem_rDv h)])

theorem Tiled.accR {v : View sig' κ sp S4096x1024 .f32} {f : v.ty.Contents (Elt F)} {R : ℕ} {hR : R + 512 ≤ 4096} {p : Fin 8 → Pay F}
    {old : S4096x1024.Idx → Elt F .f32}
    {L : List (View.Piece (Elt F) S4096x1024 .f32)} (h : Fin 8) {w : (rAcc hR h).shape.Idx → Elt F .f32}
    (hL : Tiled v f (tileAcc R) (accStep hR p old) old h.val L)
    (hw : w = (p h).dq (v.readAt (Elt F) (rAcc hR h).toLoadRect (v.writes (Elt F) f L))) :
    Tiled v f (tileAcc R) (accStep hR p old) old (h.val + 1) (⟨rAcc hR h, w⟩ :: L) :=
  hL.acc h (by rw [hw, hL.load (mem_rAcc hR h)])

theorem Tiled.dkDone {v : View sig' κ sp S1024x512 .f32} {f : v.ty.Contents (Elt F)} {p : Fin 8 → Pay F} {old base : S1024x512.Idx → Elt F .f32}
    {L : List (View.Piece (Elt F) S1024x512 .f32)} (hL : Tiled v f tileDk (dkStep p old) base 8 L) :
    v.read (Elt F) (v.writes (Elt F) f L) = dkStep p old :=
  hL.done fun y hy => absurd (tileDk_lt y) hy

theorem Tiled.dvDone {v : View sig' κ sp S512x512 .f32} {f : v.ty.Contents (Elt F)} {p : Fin 8 → Pay F} {old base : S512x512.Idx → Elt F .f32}
    {L : List (View.Piece (Elt F) S512x512 .f32)} (hL : Tiled v f tileDv (dvStep p old) base 8 L) :
    v.read (Elt F) (v.writes (Elt F) f L) = dvStep p old :=
  hL.done fun y hy => absurd (tileDv_lt y) hy

theorem Tiled.accDone {v : View sig' κ sp S4096x1024 .f32} {f : v.ty.Contents (Elt F)} {R : ℕ} {hR : R + 512 ≤ 4096} {p : Fin 8 → Pay F}
    {old : S4096x1024.Idx → Elt F .f32}
    {L : List (View.Piece (Elt F) S4096x1024 .f32)} (hL : Tiled v f (tileAcc R) (accStep hR p old) old 8 L) :
    v.read (Elt F) (v.writes (Elt F) f L) = accStep hR p old :=
  hL.done fun y hy => accStep_of_not hR p old y hy

end Heads

end Cert.KernelIdeal.Mla
end
-- ==== Proof.RunOff.lean ====
module

public import proofs.«01_k».proof.Proof.Steps
public import proofs.«01_k».proof.Proof.Gen.KernelIdeal.Launch
public import Idealize.ShloMosaic.Lib.Pipeline.Kit
public import Idealize.ShloMosaic.Lib.Pipeline.FrameValue
public import Idealize.ShloMosaic.Lib.Pipeline.TableIdle
public import Idealize.ShloMosaic.Lib.Pipeline.FrameBody
public import Idealize.ShloMosaic.Lib.Writes
public import Idealize.ShloMosaic.Lib.Exec
public import Idealize.ShloMosaic.Lib.Tactic
public import Idealize.ShloMosaic.Adequacy
public import Idealize.ShloMosaic.Init

/-!
One grid point below the diagonal, run through.
-/

@[expose] public section

set_option maxRecDepth 16384
set_option Elab.async false

noncomputable section

namespace Cert.KernelIdeal.Mla

open KernelIdeal KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F] [Named F]

local notation "𝕄" => MT nD τ sig Unit (Elt F) ℕ (UD sig nD τ) ℕ

/-- The two tables, the dq accumulator and the dq result as the body's arguments. -/
abbrev tbQ : Memref sig .tc .smem S36 .i32 := Memref.whole main_c
abbrev tbK : Memref sig .tc .smem S36 .i32 := Memref.whole main_c_0
abbrev accQ : Memref sig .tc .vmem S4096x1024 .f32 := Memref.whole cc0_scratch0
abbrev outQ : Memref sig .tc .hbm S4096x1024 .f32 := Memref.whole main_v39_0

/-- The table words the body loads at a grid point: the query block and the key block. -/
abbrev wQ (i : grid0.Coords) (T : S36.Idx → Elt F .i32) : BitVec 32 :=
  View.readAt (Elt F) tbQ.view (Rect.unit (s := S36) (k0_off1 i) S1.size (k0_off1_inb i)).toLoadRect T (Shape.Idx.first (numel1_S1.symm ▸ Nat.one_pos))
abbrev wK (i : grid0.Coords) (T : S36.Idx → Elt F .i32) : BitVec 32 :=
  View.readAt (Elt F) tbK.view (Rect.unit (s := S36) (k0_off1 i) S1.size (k0_off1_inb i)).toLoadRect T (Shape.Idx.first (numel1_S1.symm ▸ Nat.one_pos))

/-- The first dq row of a query block. -/
abbrev rowOf (w : BitVec 32) : ℕ := (Scalar.indexCast (Scalar.muli w 512#32)).toNat

/-- Whether a grid point is the first, as the body tests it; whether it is the last. -/
abbrev isFirst (i : grid0.Coords) : BitVec 1 := Scalar.cmpi .ne (Scalar.extui (Scalar.cmpi .eq (BitVec.ofNat 32 (i 0).val) 0#32)) 0#32
abbrev isLast (i : grid0.Coords) : BitVec 1 := Scalar.cmpi .ne (Scalar.extui (Scalar.cmpi .eq (BitVec.ofNat 32 (i 0).val) 35#32)) 0#32

set_option maxHeartbeats 16000000 in
/-- A grid point below the diagonal: every head adds its update to the three accumulators, nothing is masked. -/
theorem runOff (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x8 .f32) (harg7 : arg7.IsWhole) (arg8 : Memref sig .tc .vmem S512x8 .f32) (harg8 : arg8.IsWhole) (arg10 : Memref sig .tc .vmem S1024x512 .f32) (harg10 : arg10.IsWhole) (arg11 : Memref sig .tc .vmem S512x512 .f32) (harg11 : arg11.IsWhole)
    (T0 T1 : S36.Idx → Elt F .i32) (b : Blk F) (o6 : S1024x512.Idx → Elt F .f32) (o7 : S512x512.Idx → Elt F .f32) (oa : S4096x1024.Idx → Elt F .f32)
    (k0_hw1 : k0_chk1 (wQ i T0) (wK i T1)) (hR : rowOf (wQ i T0) + 512 ≤ 4096)
    (k0_h1 : ¬(isFirst i = 1#1)) (k0_h2 : ¬(k0_cond2 (wQ i T0) (wK i T1) = 1#1))
    (k0_h3 : k0_cond3 (wQ i T0) (wK i T1) = 1#1) (k0_h4 : ¬(k0_cond4 (wQ i T0) (wK i T1) = 1#1))
    (k0_h5 : ¬(isLast i = 1#1))
    (K : PUnit → sProp 𝕄) :
    iprop(owns (c : Thread nD τ) arg3 fullShare b.q
          ∗ owns (c : Thread nD τ) arg4 fullShare b.k
          ∗ owns (c : Thread nD τ) arg5 fullShare b.v
          ∗ owns (c : Thread nD τ) arg6 fullShare b.g
          ∗ owns (c : Thread nD τ) arg7 fullShare b.del
          ∗ owns (c : Thread nD τ) arg8 fullShare b.lse
          ∗ (tbQ.view.loc (c : Thread nD τ) ↦{fullShare.right} T0)
          ∗ (tbK.view.loc (c : Thread nD τ) ↦{fullShare.right} T1)
          ∗ owns (c : Thread nD τ) arg10 fullShare o6
          ∗ owns (c : Thread nD τ) arg11 fullShare o7
          ∗ owns (c : Thread nD τ) accQ fullShare oa
      ∗ (iprop(owns (c : Thread nD τ) arg3 fullShare b.q
          ∗ owns (c : Thread nD τ) arg4 fullShare b.k
          ∗ owns (c : Thread nD τ) arg5 fullShare b.v
          ∗ owns (c : Thread nD τ) arg6 fullShare b.g
          ∗ owns (c : Thread nD τ) arg7 fullShare b.del
          ∗ owns (c : Thread nD τ) arg8 fullShare b.lse
          ∗ (tbQ.view.loc (c : Thread nD τ) ↦{fullShare.right} T0)
          ∗ (tbK.view.loc (c : Thread nD τ) ↦{fullShare.right} T1)
          ∗ owns (c : Thread nD τ) arg10 fullShare (dkStep (payOff b) o6)
          ∗ owns (c : Thread nD τ) arg11 fullShare (dvStep (payOff b) o7)
          ∗ owns (c : Thread nD τ) accQ fullShare (accStep hR (payOff b) oa)) -∗ K ⟨⟩))
      ⊢ wp frame (wpE (defs₀ (F := F)) Variants.none c none) Set.univ (cc0_mla_bwd i tbQ (Memref.isWhole_whole _) tbK (Memref.isWhole_whole _) arg3 harg3 arg4 harg4 arg5 harg5 arg6 harg6 arg7 harg7 arg8 harg8 outQ (Memref.isWhole_whole _) arg10 harg10 arg11 harg11 accQ (Memref.isWhole_whole _) cc0_scoped0) K := by
  obtain ⟨xq, xk, xv, xg, xd, xl⟩ := b
  unfold owns
  rw [cc0_mla_bwd_eq_skeleton]; unfold cc0_mla_bwd_skel
  iintro ⟨⟨%f3, %hf3, H3⟩, ⟨%f4, %hf4, H4⟩, ⟨%f5, %hf5, H5⟩, ⟨%f6, %hf6, H6⟩, ⟨%f7, %hf7, H7⟩, ⟨%f8, %hf8, H8⟩, HT0, HT1, ⟨%f10, %hf10, H10⟩, ⟨%f11, %hf11, H11⟩, ⟨%f12, %hf12, H12⟩, Hk⟩
  dsimp only at hf3 hf4 hf5 hf6 hf7 hf8
  subst hf3 hf4 hf5 hf6 hf7 hf8 hf10 hf11 hf12
  have hS0 : accQ.IsWhole := Memref.isWhole_whole _
  have hT0 : tbQ.IsWhole := Memref.isWhole_whole _
  have hT1 : tbK.IsWhole := Memref.isWhole_whole _
  sl_exec! (disch := first | (guard_target = k0_chk1 _ _; exact k0_hw1) | (guard_target = ¬(Scalar.cmpi = _); exact k0_h1) | (guard_target = ¬(k0_cond2 _ _ = _); exact k0_h2) | (guard_target = k0_cond3 _ _ = _; exact k0_h3) | (guard_target = ¬(k0_cond4 _ _ = _); exact k0_h4) | (guard_target = ¬(Scalar.cmpi = _); exact k0_h5))
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [HT0]; · iexact HT0
  isplitl [HT1]; · iexact HT1
  isplitl [H10]
  · iexists _; isplitr; swap
    · iexact H10
    · ipureintro; exact Tiled.dkDone (Tiled.dk 7 (Tiled.dk 6 (Tiled.dk 5 (Tiled.dk 4 (Tiled.dk 3 (Tiled.dk 2 (Tiled.dk 1 (Tiled.dk 0 (Tiled.nil _ _ _ _) rfl) rfl) rfl) rfl) rfl) rfl) rfl) rfl)
  isplitl [H11]
  · iexists _; isplitr; swap
    · iexact H11
    · ipureintro; exact Tiled.dvDone (Tiled.dv 7 (Tiled.dv 6 (Tiled.dv 5 (Tiled.dv 4 (Tiled.dv 3 (Tiled.dv 2 (Tiled.dv 1 (Tiled.dv 0 (Tiled.nil _ _ _ _) rfl) rfl) rfl) rfl) rfl) rfl) rfl) rfl)
  iexists _; isplitr; swap
  · iexact H12
  · ipureintro; exact Tiled.accDone (Tiled.accR 7 (Tiled.accR 6 (Tiled.accR 5 (Tiled.accR 4 (Tiled.accR 3 (Tiled.accR 2 (Tiled.accR 1 (Tiled.accR 0 (Tiled.nil _ _ _ _) rfl) rfl) rfl) rfl) rfl) rfl) rfl) rfl)
end Cert.KernelIdeal.Mla
end
-- ==== Proof.Points.lean ====
module

public import proofs.«01_k».proof.Proof.RunOff
public import Idealize.ShloMosaic.PureOps.Ideal

/-!
The 36 grid points at the two tables the program builds: which blocks each point works on, which of the body's branches it
takes, when the output blocks are written back.
-/

@[expose] public section

set_option maxRecDepth 16384
set_option Elab.async false

noncomputable section

namespace Cert.KernelIdeal.Mla

open KernelIdeal KernelIdeal.Gen
open Idealize.ShloMosaic
open Idealize.ShloMosaic.TcCoe

variable (F : FTy → Type) [FloatOps F] [Named F]

/-- The tables of query blocks and of key blocks. -/
def tabQ : S36.Idx → Elt F .i32 := fun i => lit0 (S36.rowMajor i)
def tabK : S36.Idx → Elt F .i32 := fun i => lit1 (S36.rowMajor i)
def pfT : pre0.Contents (Elt F) := fun | ⟨0, _⟩ => tabQ F | ⟨1, _⟩ => tabK F | ⟨_ + 2, h⟩ => absurd h (by simp)

theorem inbW0 : ∀ i : grid0.Coords, ∀ a, (cc0_transform_0 k0_off1_inb numel1_S1 (pfT Ideal) i a + 1) * S512x1024.size a ≤ S4096x1024.size a := by decide +kernel
theorem inbW1 : ∀ i : grid0.Coords, ∀ a, (cc0_transform_1 k0_off1_inb numel1_S1 (pfT Ideal) i a + 1) * S512x1024.size a ≤ S4096x1024.size a := by decide +kernel
theorem inbW2 : ∀ i : grid0.Coords, ∀ a, (cc0_transform_2 k0_off1_inb numel1_S1 (pfT Ideal) i a + 1) * S512x512.size a ≤ S4096x512.size a := by decide +kernel
theorem inbW3 : ∀ i : grid0.Coords, ∀ a, (cc0_transform_3 k0_off1_inb numel1_S1 (pfT Ideal) i a + 1) * S512x512.size a ≤ S4096x512.size a := by decide +kernel
theorem inbW4 : ∀ i : grid0.Coords, ∀ a, (cc0_transform_4 k0_off1_inb numel1_S1 (pfT Ideal) i a + 1) * S512x8.size a ≤ S4096x8.size a := by decide +kernel
theorem inbW5 : ∀ i : grid0.Coords, ∀ a, (cc0_transform_5 k0_off1_inb numel1_S1 (pfT Ideal) i a + 1) * S512x8.size a ≤ S4096x8.size a := by decide +kernel
theorem inbW6 : ∀ i : grid0.Coords, ∀ a, (cc0_transform_7 k0_off1_inb numel1_S1 (pfT Ideal) i a + 1) * S1024x512.size a ≤ S1024x4096.size a := by decide +kernel
theorem inbW7 : ∀ i : grid0.Coords, ∀ a, (cc0_transform_8 k0_off1_inb numel1_S1 (pfT Ideal) i a + 1) * S512x512.size a ≤ S512x4096.size a := by decide +kernel

/-- Every block lies inside its array, at whole words. -/
theorem okT : ok0 (F := F) (pfT F) :=
  ⟨fun i => ⟨inbW0 i, .inr (Affine.block_words_dvd (s := S4096x1024) (p := EltTy.packing .bf16) (by decide) (by decide))⟩,
   fun i => ⟨inbW1 i, .inr (Affine.block_words_dvd (s := S4096x1024) (p := EltTy.packing .bf16) (by decide) (by decide))⟩,
   fun i => ⟨inbW2 i, .inr (Affine.block_words_dvd (s := S4096x512) (p := EltTy.packing .bf16) (by decide) (by decide))⟩,
   fun i => ⟨inbW3 i, .inr (Affine.block_words_dvd (s := S4096x512) (p := EltTy.packing .bf16) (by decide) (by decide))⟩,
   fun i => ⟨inbW4 i, .inl rfl⟩, fun i => ⟨inbW5 i, .inl rfl⟩, fun i => ⟨inbW6 i, .inl rfl⟩, fun i => ⟨inbW7 i, .inl rfl⟩⟩

def admT : (pcfg0 (F := F)).Adm := ⟨pfT F, okT F⟩
/-- The pipeline at the tables. -/
abbrev cfgT : Pipeline.Cfg sig Λ₀ := cfg0 (F := F) (admT F)
abbrev pcsT : Fin 1 → Pipeline.Cfg sig Λ₀ := Pipeline.pin (pcfgs (F := F)) fun _ => admT F
abbrev crd (t : Fin (cfgT F).N) : (cfgT F).grid.Coords := (cfgT F).grid.coords t

/-- Point `n`'s query block and key block. -/
def qb (n : ℕ) : ℕ := if h : n < 36 then (lit0 ⟨n, h⟩).toNat else 0
def kb (n : ℕ) : ℕ := if h : n < 36 then (lit1 ⟨n, h⟩).toNat else 0

/-- The body's branches and the schedule at point `t`. -/
def PointFacts (t : Fin (cfgT F).N) : Prop :=
  k0_chk1 (wQ (F := F) (crd F t) (tabQ F)) (wK (F := F) (crd F t) (tabK F))
  ∧ rowOf (wQ (F := F) (crd F t) (tabQ F)) = 512 * qb t.val
  ∧ (isFirst (crd F t) = 1#1 ↔ t.val = 0)
  ∧ (isLast (crd F t) = 1#1 ↔ t.val = 35)
  ∧ (k0_cond2 (wQ (F := F) (crd F t) (tabQ F)) (wK (F := F) (crd F t) (tabK F)) = 1#1 ↔ qb t.val = kb t.val)
  ∧ (k0_cond3 (wQ (F := F) (crd F t) (tabQ F)) (wK (F := F) (crd F t) (tabK F)) = 1#1 ↔ ¬ qb t.val = kb t.val)
  ∧ (k0_cond4 (wQ (F := F) (crd F t) (tabQ F)) (wK (F := F) (crd F t) (tabK F)) = 1#1 ↔ qb t.val = kb t.val)
  ∧ (cfgT F).idle (6 : Fin 8) (crd F t) = false
  ∧ (cfgT F).idle (7 : Fin 8) (crd F t) = false
  ∧ ((cfgT F).win (6 : Fin 8)).flush t = decide (qb t.val = 7)
  ∧ ((cfgT F).win (7 : Fin 8)).flush t = decide (qb t.val = 7)
  ∧ cc0_transform_0 k0_off1_inb numel1_S1 (pfT F) (crd F t) 0 = qb t.val
  ∧ cc0_transform_1 k0_off1_inb numel1_S1 (pfT F) (crd F t) 0 = kb t.val

instance (t : Fin (cfgT Ideal).N) : Decidable (PointFacts Ideal t) := by unfold PointFacts; infer_instance

theorem pointFactsI : ∀ t : Fin (cfgT Ideal).N, PointFacts Ideal t := by decide +kernel

/-- The integer tables are the same whatever the floats are. -/
theorem pointFacts (t : Fin (cfgT F).N) : PointFacts F t := pointFactsI t

end Cert.KernelIdeal.Mla
end
-- ==== Proof.RunDiag.lean ====
module

public import proofs.«01_k».proof.Proof.RunOff
public import proofs.«01_k».proof.Proof.Gen.KernelIdeal.Launch
public import Idealize.ShloMosaic.Lib.Pipeline.Kit
public import Idealize.ShloMosaic.Lib.Pipeline.FrameValue
public import Idealize.ShloMosaic.Lib.Pipeline.TableIdle
public import Idealize.ShloMosaic.Lib.Pipeline.FrameBody
public import Idealize.ShloMosaic.Lib.Writes
public import Idealize.ShloMosaic.Lib.Exec
public import Idealize.ShloMosaic.Lib.Tactic
public import Idealize.ShloMosaic.Adequacy
public import Idealize.ShloMosaic.Init

/-!
One grid point on the diagonal, neither the first nor the last, run through.
-/

@[expose] public section

set_option maxRecDepth 16384
set_option Elab.async false

noncomputable section

namespace Cert.KernelIdeal.Mla

open KernelIdeal KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F] [Named F]

local notation "𝕄" => MT nD τ sig Unit (Elt F) ℕ (UD sig nD τ) ℕ

set_option maxHeartbeats 16000000 in
/-- A grid point on the diagonal: the dk and dv accumulators start from zero, the scores above the diagonal are masked. -/
theorem runDiag (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x8 .f32) (harg7 : arg7.IsWhole) (arg8 : Memref sig .tc .vmem S512x8 .f32) (harg8 : arg8.IsWhole) (arg10 : Memref sig .tc .vmem S1024x512 .f32) (harg10 : arg10.IsWhole) (arg11 : Memref sig .tc .vmem S512x512 .f32) (harg11 : arg11.IsWhole)
    (T0 T1 : S36.Idx → Elt F .i32) (b : Blk F) (o6 : S1024x512.Idx → Elt F .f32) (o7 : S512x512.Idx → Elt F .f32) (oa : S4096x1024.Idx → Elt F .f32)
    (k0_hw1 : k0_chk1 (wQ i T0) (wK i T1)) (hR : rowOf (wQ i T0) + 512 ≤ 4096)
    (k0_h1 : ¬(isFirst i = 1#1)) (k0_h2 : k0_cond2 (wQ i T0) (wK i T1) = 1#1)
    (k0_h3 : ¬(k0_cond3 (wQ i T0) (wK i T1) = 1#1)) (k0_h4 : k0_cond4 (wQ i T0) (wK i T1) = 1#1)
    (k0_h5 : ¬(isLast i = 1#1))
    (K : PUnit → sProp 𝕄) :
    iprop(owns (c : Thread nD τ) arg3 fullShare b.q
          ∗ owns (c : Thread nD τ) arg4 fullShare b.k
          ∗ owns (c : Thread nD τ) arg5 fullShare b.v
          ∗ owns (c : Thread nD τ) arg6 fullShare b.g
          ∗ owns (c : Thread nD τ) arg7 fullShare b.del
          ∗ owns (c : Thread nD τ) arg8 fullShare b.lse
          ∗ (tbQ.view.loc (c : Thread nD τ) ↦{fullShare.right} T0)
          ∗ (tbK.view.loc (c : Thread nD τ) ↦{fullShare.right} T1)
          ∗ owns (c : Thread nD τ) arg10 fullShare o6
          ∗ owns (c : Thread nD τ) arg11 fullShare o7
          ∗ owns (c : Thread nD τ) accQ fullShare oa
      ∗ (iprop(owns (c : Thread nD τ) arg3 fullShare b.q
          ∗ owns (c : Thread nD τ) arg4 fullShare b.k
          ∗ owns (c : Thread nD τ) arg5 fullShare b.v
          ∗ owns (c : Thread nD τ) arg6 fullShare b.g
          ∗ owns (c : Thread nD τ) arg7 fullShare b.del
          ∗ owns (c : Thread nD τ) arg8 fullShare b.lse
          ∗ (tbQ.view.loc (c : Thread nD τ) ↦{fullShare.right} T0)
          ∗ (tbK.view.loc (c : Thread nD τ) ↦{fullShare.right} T1)
          ∗ owns (c : Thread nD τ) arg10 fullShare (dkStep (payDiag b) k0_pay2)
          ∗ owns (c : Thread nD τ) arg11 fullShare (dvStep (payDiag b) k0_pay3)
          ∗ owns (c : Thread nD τ) accQ fullShare (accStep hR (payDiag b) oa)) -∗ K ⟨⟩))
      ⊢ wp frame (wpE (defs₀ (F := F)) Variants.none c none) Set.univ (cc0_mla_bwd i tbQ (Memref.isWhole_whole _) tbK (Memref.isWhole_whole _) arg3 harg3 arg4 harg4 arg5 harg5 arg6 harg6 arg7 harg7 arg8 harg8 outQ (Memref.isWhole_whole _) arg10 harg10 arg11 harg11 accQ (Memref.isWhole_whole _) cc0_scoped0) K := by
  obtain ⟨xq, xk, xv, xg, xd, xl⟩ := b
  unfold owns
  rw [cc0_mla_bwd_eq_skeleton]; unfold cc0_mla_bwd_skel
  iintro ⟨⟨%f3, %hf3, H3⟩, ⟨%f4, %hf4, H4⟩, ⟨%f5, %hf5, H5⟩, ⟨%f6, %hf6, H6⟩, ⟨%f7, %hf7, H7⟩, ⟨%f8, %hf8, H8⟩, HT0, HT1, ⟨%f10, %hf10, H10⟩, ⟨%f11, %hf11, H11⟩, ⟨%f12, %hf12, H12⟩, Hk⟩
  dsimp only at hf3 hf4 hf5 hf6 hf7 hf8
  subst hf3 hf4 hf5 hf6 hf7 hf8 hf10 hf11 hf12
  have hS0 : accQ.IsWhole := Memref.isWhole_whole _
  have hT0 : tbQ.IsWhole := Memref.isWhole_whole _
  have hT1 : tbK.IsWhole := Memref.isWhole_whole _
  sl_exec! (disch := first | (guard_target = k0_chk1 _ _; exact k0_hw1) | (guard_target = ¬(Scalar.cmpi = _); exact k0_h1) | (guard_target = k0_cond2 _ _ = _; exact k0_h2) | (guard_target = ¬(k0_cond3 _ _ = _); exact k0_h3) | (guard_target = k0_cond4 _ _ = _; exact k0_h4) | (guard_target = ¬(Scalar.cmpi = _); exact k0_h5))
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [HT0]; · iexact HT0
  isplitl [HT1]; · iexact HT1
  isplitl [H10]
  · iexists _; isplitr; swap
    · iexact H10
    · ipureintro; exact Tiled.dkDone (Tiled.dkR 7 (Tiled.dkR 6 (Tiled.dkR 5 (Tiled.dkR 4 (Tiled.dkR 3 (Tiled.dkR 2 (Tiled.dkR 1 (Tiled.dkR 0 (Tiled.fill2 _ _ _ _ _ _) rfl) rfl) rfl) rfl) rfl) rfl) rfl) rfl)
  isplitl [H11]
  · iexists _; isplitr; swap
    · iexact H11
    · ipureintro; exact Tiled.dvDone (Tiled.dvR 7 (Tiled.dvR 6 (Tiled.dvR 5 (Tiled.dvR 4 (Tiled.dvR 3 (Tiled.dvR 2 (Tiled.dvR 1 (Tiled.dvR 0 (Tiled.fill2 _ _ _ _ _ _) rfl) rfl) rfl) rfl) rfl) rfl) rfl) rfl)
  iexists _; isplitr; swap
  · iexact H12
  · ipureintro; exact Tiled.accDone (Tiled.accR 7 (Tiled.accR 6 (Tiled.accR 5 (Tiled.accR 4 (Tiled.accR 3 (Tiled.accR 2 (Tiled.accR 1 (Tiled.accR 0 (Tiled.nil _ _ _ _) rfl) rfl) rfl) rfl) rfl) rfl) rfl) rfl)
end Cert.KernelIdeal.Mla
end
-- ==== Proof.RunFirst.lean ====
module

public import proofs.«01_k».proof.Proof.RunOff
public import proofs.«01_k».proof.Proof.Gen.KernelIdeal.Launch
public import Idealize.ShloMosaic.Lib.Pipeline.Kit
public import Idealize.ShloMosaic.Lib.Pipeline.FrameValue
public import Idealize.ShloMosaic.Lib.Pipeline.TableIdle
public import Idealize.ShloMosaic.Lib.Pipeline.FrameBody
public import Idealize.ShloMosaic.Lib.Writes
public import Idealize.ShloMosaic.Lib.Exec
public import Idealize.ShloMosaic.Lib.Tactic
public import Idealize.ShloMosaic.Adequacy
public import Idealize.ShloMosaic.Init

/-!
The first grid point, run through.
-/

@[expose] public section

set_option maxRecDepth 16384
set_option Elab.async false

noncomputable section

namespace Cert.KernelIdeal.Mla

open KernelIdeal KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F] [Named F]

local notation "𝕄" => MT nD τ sig Unit (Elt F) ℕ (UD sig nD τ) ℕ

set_option maxHeartbeats 16000000 in
/-- The first grid point: a point on the diagonal at which the dq accumulator is set to zero too. -/
theorem runFirst (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x8 .f32) (harg7 : arg7.IsWhole) (arg8 : Memref sig .tc .vmem S512x8 .f32) (harg8 : arg8.IsWhole) (arg10 : Memref sig .tc .vmem S1024x512 .f32) (harg10 : arg10.IsWhole) (arg11 : Memref sig .tc .vmem S512x512 .f32) (harg11 : arg11.IsWhole)
    (T0 T1 : S36.Idx → Elt F .i32) (b : Blk F) (o6 : S1024x512.Idx → Elt F .f32) (o7 : S512x512.Idx → Elt F .f32) (oa : S4096x1024.Idx → Elt F .f32)
    (k0_hw1 : k0_chk1 (wQ i T0) (wK i T1)) (hR : rowOf (wQ i T0) + 512 ≤ 4096)
    (k0_h1 : isFirst i = 1#1) (k0_h2 : k0_cond2 (wQ i T0) (wK i T1) = 1#1)
    (k0_h3 : ¬(k0_cond3 (wQ i T0) (wK i T1) = 1#1)) (k0_h4 : k0_cond4 (wQ i T0) (wK i T1) = 1#1)
    (k0_h5 : ¬(isLast i = 1#1))
    (K : PUnit → sProp 𝕄) :
    iprop(owns (c : Thread nD τ) arg3 fullShare b.q
          ∗ owns (c : Thread nD τ) arg4 fullShare b.k
          ∗ owns (c : Thread nD τ) arg5 fullShare b.v
          ∗ owns (c : Thread nD τ) arg6 fullShare b.g
          ∗ owns (c : Thread nD τ) arg7 fullShare b.del
          ∗ owns (c : Thread nD τ) arg8 fullShare b.lse
          ∗ (tbQ.view.loc (c : Thread nD τ) ↦{fullShare.right} T0)
          ∗ (tbK.view.loc (c : Thread nD τ) ↦{fullShare.right} T1)
          ∗ owns (c : Thread nD τ) arg10 fullShare o6
          ∗ owns (c : Thread nD τ) arg11 fullShare o7
          ∗ owns (c : Thread nD τ) accQ fullShare oa
      ∗ (iprop(owns (c : Thread nD τ) arg3 fullShare b.q
          ∗ owns (c : Thread nD τ) arg4 fullShare b.k
          ∗ owns (c : Thread nD τ) arg5 fullShare b.v
          ∗ owns (c : Thread nD τ) arg6 fullShare b.g
          ∗ owns (c : Thread nD τ) arg7 fullShare b.del
          ∗ owns (c : Thread nD τ) arg8 fullShare b.lse
          ∗ (tbQ.view.loc (c : Thread nD τ) ↦{fullShare.right} T0)
          ∗ (tbK.view.loc (c : Thread nD τ) ↦{fullShare.right} T1)
          ∗ owns (c : Thread nD τ) arg10 fullShare (dkStep (payDiag b) k0_pay2)
          ∗ owns (c : Thread nD τ) arg11 fullShare (dvStep (payDiag b) k0_pay3)
          ∗ owns (c : Thread nD τ) accQ fullShare (accStep hR (payDiag b) k0_pay1)) -∗ K ⟨⟩))
      ⊢ wp frame (wpE (defs₀ (F := F)) Variants.none c none) Set.univ (cc0_mla_bwd i tbQ (Memref.isWhole_whole _) tbK (Memref.isWhole_whole _) arg3 harg3 arg4 harg4 arg5 harg5 arg6 harg6 arg7 harg7 arg8 harg8 outQ (Memref.isWhole_whole _) arg10 harg10 arg11 harg11 accQ (Memref.isWhole_whole _) cc0_scoped0) K := by
  obtain ⟨xq, xk, xv, xg, xd, xl⟩ := b
  unfold owns
  rw [cc0_mla_bwd_eq_skeleton]; unfold cc0_mla_bwd_skel
  iintro ⟨⟨%f3, %hf3, H3⟩, ⟨%f4, %hf4, H4⟩, ⟨%f5, %hf5, H5⟩, ⟨%f6, %hf6, H6⟩, ⟨%f7, %hf7, H7⟩, ⟨%f8, %hf8, H8⟩, HT0, HT1, ⟨%f10, %hf10, H10⟩, ⟨%f11, %hf11, H11⟩, ⟨%f12, %hf12, H12⟩, Hk⟩
  dsimp only at hf3 hf4 hf5 hf6 hf7 hf8
  subst hf3 hf4 hf5 hf6 hf7 hf8 hf10 hf11 hf12
  have hS0 : accQ.IsWhole := Memref.isWhole_whole _
  have hT0 : tbQ.IsWhole := Memref.isWhole_whole _
  have hT1 : tbK.IsWhole := Memref.isWhole_whole _
  sl_exec! (disch := first | (guard_target = k0_chk1 _ _; exact k0_hw1) | (guard_target = Scalar.cmpi = _; exact k0_h1) | (guard_target = k0_cond2 _ _ = _; exact k0_h2) | (guard_target = ¬(k0_cond3 _ _ = _); exact k0_h3) | (guard_target = k0_cond4 _ _ = _; exact k0_h4) | (guard_target = ¬(Scalar.cmpi = _); exact k0_h5))
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [HT0]; · iexact HT0
  isplitl [HT1]; · iexact HT1
  isplitl [H10]
  · iexists _; isplitr; swap
    · iexact H10
    · ipureintro; exact Tiled.dkDone (Tiled.dkR 7 (Tiled.dkR 6 (Tiled.dkR 5 (Tiled.dkR 4 (Tiled.dkR 3 (Tiled.dkR 2 (Tiled.dkR 1 (Tiled.dkR 0 (Tiled.fill2 _ _ _ _ _ _) rfl) rfl) rfl) rfl) rfl) rfl) rfl) rfl)
  isplitl [H11]
  · iexists _; isplitr; swap
    · iexact H11
    · ipureintro; exact Tiled.dvDone (Tiled.dvR 7 (Tiled.dvR 6 (Tiled.dvR 5 (Tiled.dvR 4 (Tiled.dvR 3 (Tiled.dvR 2 (Tiled.dvR 1 (Tiled.dvR 0 (Tiled.fill2 _ _ _ _ _ _) rfl) rfl) rfl) rfl) rfl) rfl) rfl) rfl)
  iexists _; isplitr; swap
  · iexact H12
  · ipureintro; exact Tiled.accDone (Tiled.accR 7 (Tiled.accR 6 (Tiled.accR 5 (Tiled.accR 4 (Tiled.accR 3 (Tiled.accR 2 (Tiled.accR 1 (Tiled.accR 0 (Tiled.fill2 _ _ _ _ _ _) rfl) rfl) rfl) rfl) rfl) rfl) rfl) rfl)
end Cert.KernelIdeal.Mla
end
-- ==== Proof.RunLast.lean ====
module

public import proofs.«01_k».proof.Proof.RunOff
public import proofs.«01_k».proof.Proof.Gen.KernelIdeal.Launch
public import Idealize.ShloMosaic.Lib.Pipeline.Kit
public import Idealize.ShloMosaic.Lib.Pipeline.FrameValue
public import Idealize.ShloMosaic.Lib.Pipeline.TableIdle
public import Idealize.ShloMosaic.Lib.Pipeline.FrameBody
public import Idealize.ShloMosaic.Lib.Writes
public import Idealize.ShloMosaic.Lib.Exec
public import Idealize.ShloMosaic.Lib.Tactic
public import Idealize.ShloMosaic.Adequacy
public import Idealize.ShloMosaic.Init

/-!
The last grid point, run through.
-/

@[expose] public section

set_option maxRecDepth 16384
set_option Elab.async false

noncomputable section

namespace Cert.KernelIdeal.Mla

open KernelIdeal KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F] [Named F]

local notation "𝕄" => MT nD τ sig Unit (Elt F) ℕ (UD sig nD τ) ℕ

set_option maxHeartbeats 16000000 in
/-- The last grid point: a point on the diagonal after which the dq accumulator is copied to the dq result. -/
theorem runLast (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x8 .f32) (harg7 : arg7.IsWhole) (arg8 : Memref sig .tc .vmem S512x8 .f32) (harg8 : arg8.IsWhole) (arg10 : Memref sig .tc .vmem S1024x512 .f32) (harg10 : arg10.IsWhole) (arg11 : Memref sig .tc .vmem S512x512 .f32) (harg11 : arg11.IsWhole)
    (T0 T1 : S36.Idx → Elt F .i32) (b : Blk F) (o6 : S1024x512.Idx → Elt F .f32) (o7 : S512x512.Idx → Elt F .f32) (oa : S4096x1024.Idx → Elt F .f32) (od : S4096x1024.Idx → Elt F .f32) (W : Waits sig Unit)
    (k0_hw1 : k0_chk1 (wQ i T0) (wK i T1)) (hR : rowOf (wQ i T0) + 512 ≤ 4096)
    (k0_h1 : ¬(isFirst i = 1#1)) (k0_h2 : k0_cond2 (wQ i T0) (wK i T1) = 1#1)
    (k0_h3 : ¬(k0_cond3 (wQ i T0) (wK i T1) = 1#1)) (k0_h4 : k0_cond4 (wQ i T0) (wK i T1) = 1#1)
    (k0_h5 : isLast i = 1#1)
    (K : PUnit → sProp 𝕄) :
    iprop(owns (c : Thread nD τ) arg3 fullShare b.q
          ∗ owns (c : Thread nD τ) arg4 fullShare b.k
          ∗ owns (c : Thread nD τ) arg5 fullShare b.v
          ∗ owns (c : Thread nD τ) arg6 fullShare b.g
          ∗ owns (c : Thread nD τ) arg7 fullShare b.del
          ∗ owns (c : Thread nD τ) arg8 fullShare b.lse
          ∗ (tbQ.view.loc (c : Thread nD τ) ↦{fullShare.right} T0)
          ∗ (tbK.view.loc (c : Thread nD τ) ↦{fullShare.right} T1)
          ∗ owns (c : Thread nD τ) arg10 fullShare o6
          ∗ owns (c : Thread nD τ) arg11 fullShare o7
          ∗ owns (c : Thread nD τ) accQ fullShare oa
          ∗ owns (c : Thread nD τ) outQ fullShare od
          ∗ semVal ((c : Thread nD τ), SemLoc.dma cc0_scoped0.sem) 0
          ∗ owes (c : Thread nD τ) 0 W
      ∗ (iprop(owns (c : Thread nD τ) arg3 fullShare b.q
          ∗ owns (c : Thread nD τ) arg4 fullShare b.k
          ∗ owns (c : Thread nD τ) arg5 fullShare b.v
          ∗ owns (c : Thread nD τ) arg6 fullShare b.g
          ∗ owns (c : Thread nD τ) arg7 fullShare b.del
          ∗ owns (c : Thread nD τ) arg8 fullShare b.lse
          ∗ (tbQ.view.loc (c : Thread nD τ) ↦{fullShare.right} T0)
          ∗ (tbK.view.loc (c : Thread nD τ) ↦{fullShare.right} T1)
          ∗ owns (c : Thread nD τ) arg10 fullShare (dkStep (payDiag b) k0_pay2)
          ∗ owns (c : Thread nD τ) arg11 fullShare (dvStep (payDiag b) k0_pay3)
          ∗ owns (c : Thread nD τ) accQ fullShare (accStep hR (payDiag b) oa)
          ∗ owns (c : Thread nD τ) outQ fullShare (accStep hR (payDiag b) oa)
          ∗ semVal ((c : Thread nD τ), SemLoc.dma cc0_scoped0.sem) 0
          ∗ (∃ W, owes (c : Thread nD τ) 0 W)) -∗ K ⟨⟩))
      ⊢ wp frame (wpE (defs₀ (F := F)) Variants.none c none) Set.univ (cc0_mla_bwd i tbQ (Memref.isWhole_whole _) tbK (Memref.isWhole_whole _) arg3 harg3 arg4 harg4 arg5 harg5 arg6 harg6 arg7 harg7 arg8 harg8 outQ (Memref.isWhole_whole _) arg10 harg10 arg11 harg11 accQ (Memref.isWhole_whole _) cc0_scoped0) K := by
  obtain ⟨xq, xk, xv, xg, xd, xl⟩ := b
  unfold owns
  rw [cc0_mla_bwd_eq_skeleton]; unfold cc0_mla_bwd_skel
  iintro ⟨⟨%f3, %hf3, H3⟩, ⟨%f4, %hf4, H4⟩, ⟨%f5, %hf5, H5⟩, ⟨%f6, %hf6, H6⟩, ⟨%f7, %hf7, H7⟩, ⟨%f8, %hf8, H8⟩, HT0, HT1, ⟨%f10, %hf10, H10⟩, ⟨%f11, %hf11, H11⟩, ⟨%f12, %hf12, H12⟩, ⟨%f9, %hf9, H9⟩, HV, HW, Hk⟩
  dsimp only at hf3 hf4 hf5 hf6 hf7 hf8
  subst hf3 hf4 hf5 hf6 hf7 hf8 hf10 hf11 hf12 hf9
  have hS0 : accQ.IsWhole := Memref.isWhole_whole _
  have hT0 : tbQ.IsWhole := Memref.isWhole_whole _
  have hT1 : tbK.IsWhole := Memref.isWhole_whole _
  sl_exec! (disch := first | (guard_target = k0_chk1 _ _; exact k0_hw1) | (guard_target = ¬(Scalar.cmpi = _); exact k0_h1) | (guard_target = k0_cond2 _ _ = _; exact k0_h2) | (guard_target = ¬(k0_cond3 _ _ = _); exact k0_h3) | (guard_target = k0_cond4 _ _ = _; exact k0_h4) | (guard_target = Scalar.cmpi = _; exact k0_h5))
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [HT0]; · iexact HT0
  isplitl [HT1]; · iexact HT1
  isplitl [H10]
  · iexists _; isplitr; swap
    · iexact H10
    · ipureintro; exact Tiled.dkDone (Tiled.dkR 7 (Tiled.dkR 6 (Tiled.dkR 5 (Tiled.dkR 4 (Tiled.dkR 3 (Tiled.dkR 2 (Tiled.dkR 1 (Tiled.dkR 0 (Tiled.fill2 _ _ _ _ _ _) rfl) rfl) rfl) rfl) rfl) rfl) rfl) rfl)
  isplitl [H11]
  · iexists _; isplitr; swap
    · iexact H11
    · ipureintro; exact Tiled.dvDone (Tiled.dvR 7 (Tiled.dvR 6 (Tiled.dvR 5 (Tiled.dvR 4 (Tiled.dvR 3 (Tiled.dvR 2 (Tiled.dvR 1 (Tiled.dvR 0 (Tiled.fill2 _ _ _ _ _ _) rfl) rfl) rfl) rfl) rfl) rfl) rfl) rfl)
  isplitl [H12]
  · iexists _; isplitr; swap
    · iexact H12
    · ipureintro; exact Tiled.accDone (Tiled.accR 7 (Tiled.accR 6 (Tiled.accR 5 (Tiled.accR 4 (Tiled.accR 3 (Tiled.accR 2 (Tiled.accR 1 (Tiled.accR 0 (Tiled.nil _ _ _ _) rfl) rfl) rfl) rfl) rfl) rfl) rfl) rfl)
  isplitl [H9]
  · iexists _; isplitr; swap
    · iexact H9
    · ipureintro; rw [View.read_writes_whole]
      refine Eq.trans (b := View.read (Elt F) accQ.view (accQ.view.writes (Elt F) f12
        (runLast.sl.H12_8 c i arg3 arg4 arg5 arg6 arg7 arg8 T0 T1 k0_hw1 k0_h2 f3 f4 f5 f6 f7 f8 f12))) rfl ?_
      exact Tiled.accDone (Tiled.accR 7 (Tiled.accR 6 (Tiled.accR 5 (Tiled.accR 4 (Tiled.accR 3 (Tiled.accR 2 (Tiled.accR 1 (Tiled.accR 0 (Tiled.nil _ _ _ _) rfl) rfl) rfl) rfl) rfl) rfl) rfl) rfl)
  isplitl [HV]; · iexact HV
  iexists _; iexact HW

end Cert.KernelIdeal.Mla
end
-- ==== Proof.Body.lean ====
module

public import proofs.«01_k».proof.Proof.Points
public import proofs.«01_k».proof.Proof.RunDiag
public import proofs.«01_k».proof.Proof.RunFirst
public import proofs.«01_k».proof.Proof.RunLast

/-!
The accumulators point by point, and the pipeline's proof data: every grid point's body takes them from one state to the next.
-/

@[expose] public section

set_option maxRecDepth 16384
set_option Elab.async false

noncomputable section

namespace Cert.KernelIdeal.Mla

open KernelIdeal KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

open Idealize.ShloMosaic.Pipeline (Dat BodyObligation)

variable (F : FTy → Type) [FloatOps F] [Named F]

local notation "𝕄" => MT nD τ sig Unit (Elt F) ℕ (UD sig nD τ) ℕ

/-- The staging buffer of each window at point `t`. -/
abbrev ms0 (t : Fin (cfgT F).N) : Memref sig .tc .vmem S512x1024 .bf16 := spec0_0.stage ((cfgT F).slots t (0 : Fin 8))
abbrev hs0 (t : Fin (cfgT F).N) : (ms0 F t).IsWhole := hstage0_0 (((cfgT F).slots t (0 : Fin 8)).cast nbuf0_0)
abbrev ms1 (t : Fin (cfgT F).N) : Memref sig .tc .vmem S512x1024 .bf16 := spec0_1.stage ((cfgT F).slots t (1 : Fin 8))
abbrev hs1 (t : Fin (cfgT F).N) : (ms1 F t).IsWhole := hstage0_1 (((cfgT F).slots t (1 : Fin 8)).cast nbuf0_1)
abbrev ms2 (t : Fin (cfgT F).N) : Memref sig .tc .vmem S512x512 .bf16 := spec0_2.stage ((cfgT F).slots t (2 : Fin 8))
abbrev hs2 (t : Fin (cfgT F).N) : (ms2 F t).IsWhole := hstage0_2 (((cfgT F).slots t (2 : Fin 8)).cast nbuf0_2)
abbrev ms3 (t : Fin (cfgT F).N) : Memref sig .tc .vmem S512x512 .bf16 := spec0_3.stage ((cfgT F).slots t (3 : Fin 8))
abbrev hs3 (t : Fin (cfgT F).N) : (ms3 F t).IsWhole := hstage0_3 (((cfgT F).slots t (3 : Fin 8)).cast nbuf0_3)
abbrev ms4 (t : Fin (cfgT F).N) : Memref sig .tc .vmem S512x8 .f32 := spec0_4.stage ((cfgT F).slots t (4 : Fin 8))
abbrev hs4 (t : Fin (cfgT F).N) : (ms4 F t).IsWhole := hstage0_4 (((cfgT F).slots t (4 : Fin 8)).cast nbuf0_4)
abbrev ms5 (t : Fin (cfgT F).N) : Memref sig .tc .vmem S512x8 .f32 := spec0_5.stage ((cfgT F).slots t (5 : Fin 8))
abbrev hs5 (t : Fin (cfgT F).N) : (ms5 F t).IsWhole := hstage0_5 (((cfgT F).slots t (5 : Fin 8)).cast nbuf0_5)
abbrev ms6 (t : Fin (cfgT F).N) : Memref sig .tc .vmem S1024x512 .f32 := spec0_6.stage ((cfgT F).slots t (6 : Fin 8))
abbrev hs6 (t : Fin (cfgT F).N) : (ms6 F t).IsWhole := hstage0_6 (((cfgT F).slots t (6 : Fin 8)).cast nbuf0_6)
abbrev ms7 (t : Fin (cfgT F).N) : Memref sig .tc .vmem S512x512 .f32 := spec0_7.stage ((cfgT F).slots t (7 : Fin 8))
abbrev hs7 (t : Fin (cfgT F).N) : (ms7 F t).IsWhole := hstage0_7 (((cfgT F).slots t (7 : Fin 8)).cast nbuf0_7)

variable {F}
variable (V : (c : Dev nD) → (b : Ref sig .tc) → Buf (Elt F) ((c.tc : Thread nD τ).loc b))

/-- Window `w`'s block at point `t`, read off its array. -/
def iblk (c : Dev nD) (w : Fin (cfgT F).W) (t : Fin (cfgT F).N) : (((cfgT F).win w).xblock (crd F t)).Idx → Elt F ((cfgT F).win w).elt :=
  (((cfgT F).win w).blk t).view.read (Elt F) (V c (Pipeline.arrRef (cfgT F).spec w))

/-- The six input blocks of point `t`. -/
def blkAt (c : Dev nD) (t : Fin (cfgT F).N) : Blk F where
  q := iblk V c (0 : Fin 8) t
  k := iblk V c (1 : Fin 8) t
  v := iblk V c (2 : Fin 8) t
  g := iblk V c (3 : Fin 8) t
  del := iblk V c (4 : Fin 8) t
  lse := iblk V c (5 : Fin 8) t

theorem qb_lt (n : ℕ) : qb n < 8 := by
  unfold qb; split
  · rename_i h
    exact (by decide : ∀ j : Fin 36, (lit0 j).toNat < 8) ⟨n, h⟩
  · decide

theorem row_eq (t : Fin (cfgT F).N) : rowOf (wQ (F := F) (crd F t) (tabQ F)) = 512 * qb t.val := (pointFacts F t).2.1
theorem row_le (t : Fin (cfgT F).N) : rowOf (wQ (F := F) (crd F t) (tabQ F)) + 512 ≤ 4096 := by
  rw [row_eq]; have := qb_lt t.val; omega

/-- The three accumulators: dk and dv of the key block at hand, dq of the whole array. -/
structure St (F : FTy → Type) where
  dk : S1024x512.Idx → Elt F .f32
  dv : S512x512.Idx → Elt F .f32
  dq : S4096x1024.Idx → Elt F .f32

/-- What point `t` makes of the accumulators: on the diagonal dk and dv start from zero, at the first point dq does. -/
def stepT (c : Dev nD) (t : Fin (cfgT F).N) (prev : St F) : St F :=
  if qb t.val = kb t.val then
    { dk := dkStep (payDiag (blkAt V c t)) k0_pay2
      dv := dvStep (payDiag (blkAt V c t)) k0_pay3
      dq := accStep (row_le t) (payDiag (blkAt V c t)) (if t.val = 0 then k0_pay1 else prev.dq) }
  else
    { dk := dkStep (payOff (blkAt V c t)) prev.dk
      dv := dvStep (payOff (blkAt V c t)) prev.dv
      dq := accStep (row_le t) (payOff (blkAt V c t)) prev.dq }

def st0 : St F := ⟨k0_pay2, k0_pay3, k0_pay1⟩

/-- The accumulators after point `n`. -/
def traj (c : Dev nD) : (n : ℕ) → n < (cfgT F).N → St F
  | 0, h => stepT V c ⟨0, h⟩ st0
  | n + 1, h => stepT V c ⟨n + 1, h⟩ (traj c n (Nat.lt_of_succ_lt h))

/-- The accumulators before position `n`. -/
def before (c : Dev nD) (n : ℕ) (h : n ≤ (cfgT F).N) : St F := if h0 : n = 0 then st0 else traj V c (n - 1) (by omega)

theorem traj_eq (c : Dev nD) (t : Fin (cfgT F).N) : traj V c t.val t.isLt = stepT V c t (before V c t.val (Nat.le_of_lt t.isLt)) := by
  obtain ⟨n, hn⟩ := t
  cases n with
  | zero => rfl
  | succ n => unfold before; simp only [Nat.add_one_ne_zero, dif_neg, not_false_eq_true]; rfl

theorem before_succ (c : Dev nD) (n : ℕ) (h : n + 1 ≤ (cfgT F).N) : before V c (n + 1) h = traj V c n h := by
  unfold before; simp only [Nat.add_one_ne_zero, ↓reduceDIte, Nat.add_one_sub_one]

/-- The invariant before point `t`: the dq accumulator at the trajectory's state once the first point has set it, the dq result
at it once the last point has copied it there, the copy's semaphore at zero, the tables. -/
def Phi (c : Dev nD) (t : Fin ((cfgT F).N + 1)) : sProp 𝕄 :=
  iprop((∃ a, ⌜t.val ≠ 0 → a = (before V c t.val (Nat.le_of_lt_succ t.isLt)).dq⌝ ∗ owns (c : Thread nD τ) accQ fullShare a)
    ∗ (∃ r, prngReg c r)
    ∗ semVal ((c : Thread nD τ), SemLoc.dma cc0_scoped0.sem) 0
    ∗ (∃ d, ⌜t.val = 36 → d = (before V c t.val (Nat.le_of_lt_succ t.isLt)).dq⌝ ∗ owns (c : Thread nD τ) outQ fullShare d)
    ∗ (tbQ.view.loc (c : Thread nD τ) ↦{fullShare.right} tabQ F)
    ∗ (tbK.view.loc (c : Thread nD τ) ↦{fullShare.right} tabK F))

/-- The proof data of the pipeline on core `c`. -/
def dats (_ : Fin 1) (c : Dev nD) : Dat τ (Elt F) Unit ℕ (UD sig nD τ) ℕ (cfgT F) c where
  A w := V c (Pipeline.arrRef (cfgT F).spec w)
  after w t := match w with
    | ⟨0, _⟩ => iblk V c (0 : Fin 8) t
    | ⟨1, _⟩ => iblk V c (1 : Fin 8) t
    | ⟨2, _⟩ => iblk V c (2 : Fin 8) t
    | ⟨3, _⟩ => iblk V c (3 : Fin 8) t
    | ⟨4, _⟩ => iblk V c (4 : Fin 8) t
    | ⟨5, _⟩ => iblk V c (5 : Fin 8) t
    | ⟨6, _⟩ => (traj V c t.val t.isLt).dk
    | ⟨7, _⟩ => (traj V c t.val t.isLt).dv
  Φ t := Phi V c t
  q _ := fullShare
  owed _ := 0

theorem after0 (c : Dev nD) (t : Fin (cfgT F).N) : (dats V 0 c).after (0 : Fin 8) t = (blkAt V c t).q := rfl
theorem after1 (c : Dev nD) (t : Fin (cfgT F).N) : (dats V 0 c).after (1 : Fin 8) t = (blkAt V c t).k := rfl
theorem after2 (c : Dev nD) (t : Fin (cfgT F).N) : (dats V 0 c).after (2 : Fin 8) t = (blkAt V c t).v := rfl
theorem after3 (c : Dev nD) (t : Fin (cfgT F).N) : (dats V 0 c).after (3 : Fin 8) t = (blkAt V c t).g := rfl
theorem after4 (c : Dev nD) (t : Fin (cfgT F).N) : (dats V 0 c).after (4 : Fin 8) t = (blkAt V c t).del := rfl
theorem after5 (c : Dev nD) (t : Fin (cfgT F).N) : (dats V 0 c).after (5 : Fin 8) t = (blkAt V c t).lse := rfl
theorem after6 (c : Dev nD) (t : Fin (cfgT F).N) : (dats V 0 c).after (6 : Fin 8) t = (traj V c t.val t.isLt).dk := rfl
theorem after7 (c : Dev nD) (t : Fin (cfgT F).N) : (dats V 0 c).after (7 : Fin 8) t = (traj V c t.val t.isLt).dv := rfl

/-- Input window 0 holds its block when the body runs. -/
theorem before0 (c : Dev nD) (t : Fin (cfgT F).N) (d) : (dats V 0 c).before (0 : Fin 8) t d = (blkAt V c t).q :=
  ((dats V 0 c).before_in_eq_fetched (0 : Fin 8) rfl (fun _ => rfl) (fun _ _ _ => rfl)
    (fun t => by rw [after0]; unfold Dat.blockOf blkAt iblk; rfl) t d).trans (by unfold Dat.fetched Dat.blockOf blkAt iblk; rfl)

/-- Input window 1 holds its block when the body runs. -/
theorem before1 (c : Dev nD) (t : Fin (cfgT F).N) (d) : (dats V 0 c).before (1 : Fin 8) t d = (blkAt V c t).k :=
  ((dats V 0 c).before_in_eq_fetched (1 : Fin 8) rfl (fun _ => rfl) (fun _ _ _ => rfl)
    (fun t => by rw [after1]; unfold Dat.blockOf blkAt iblk; rfl) t d).trans (by unfold Dat.fetched Dat.blockOf blkAt iblk; rfl)

/-- Input window 2 holds its block when the body runs. -/
theorem before2 (c : Dev nD) (t : Fin (cfgT F).N) (d) : (dats V 0 c).before (2 : Fin 8) t d = (blkAt V c t).v :=
  ((dats V 0 c).before_in_eq_fetched (2 : Fin 8) rfl (fun _ => rfl) (fun _ _ _ => rfl)
    (fun t => by rw [after2]; unfold Dat.blockOf blkAt iblk; rfl) t d).trans (by unfold Dat.fetched Dat.blockOf blkAt iblk; rfl)

/-- Input window 3 holds its block when the body runs. -/
theorem before3 (c : Dev nD) (t : Fin (cfgT F).N) (d) : (dats V 0 c).before (3 : Fin 8) t d = (blkAt V c t).g :=
  ((dats V 0 c).before_in_eq_fetched (3 : Fin 8) rfl (fun _ => rfl) (fun _ _ _ => rfl)
    (fun t => by rw [after3]; unfold Dat.blockOf blkAt iblk; rfl) t d).trans (by unfold Dat.fetched Dat.blockOf blkAt iblk; rfl)

/-- Input window 4 holds its block when the body runs. -/
theorem before4 (c : Dev nD) (t : Fin (cfgT F).N) (d) : (dats V 0 c).before (4 : Fin 8) t d = (blkAt V c t).del :=
  ((dats V 0 c).before_in_eq_fetched (4 : Fin 8) rfl (fun _ => rfl) (fun _ _ _ => rfl)
    (fun t => by rw [after4]; unfold Dat.blockOf blkAt iblk; rfl) t d).trans (by unfold Dat.fetched Dat.blockOf blkAt iblk; rfl)

/-- Input window 5 holds its block when the body runs. -/
theorem before5 (c : Dev nD) (t : Fin (cfgT F).N) (d) : (dats V 0 c).before (5 : Fin 8) t d = (blkAt V c t).lse :=
  ((dats V 0 c).before_in_eq_fetched (5 : Fin 8) rfl (fun _ => rfl) (fun _ _ _ => rfl)
    (fun t => by rw [after5]; unfold Dat.blockOf blkAt iblk; rfl) t d).trans (by unfold Dat.fetched Dat.blockOf blkAt iblk; rfl)

/-- An output block starts anew exactly on the diagonal. -/
def freshTab (n : ℕ) : Bool := if n < 36 then decide (qb n = kb n) else true

theorem freshTab_step : ∀ n : Fin 36, freshTab (n.val + 1) = decide (qb n.val = 7) := by decide +kernel

theorem idle6 (t : Fin (cfgT F).N) : (cfgT F).idle (6 : Fin 8) ((cfgT F).grid.coords t) = false := (pointFacts F t).2.2.2.2.2.2.2.1
theorem flush6 (t : Fin (cfgT F).N) : ((cfgT F).win (6 : Fin 8)).flush t = decide (qb t.val = 7) := (pointFacts F t).2.2.2.2.2.2.2.2.2.1
theorem fresh6 (t : Fin (cfgT F).N) : (cfgT F).fresh (6 : Fin 8) t.val = decide (qb t.val = kb t.val) := by
  refine (Pipeline.Cfg.fresh_tab (cfgT F) (6 : Fin 8) freshTab rfl (fun t => ?_) t.val (Nat.le_of_lt t.isLt)).trans ?_
  · rw [idle6, flush6, Bool.false_and, Bool.or_false]; exact freshTab_step t
  · unfold freshTab; exact if_pos t.isLt
/-- Output window 6 holds the accumulator's last state, or anything where it starts anew. -/
theorem before6 (c : Dev nD) (t : Fin (cfgT F).N) (d) :
    (dats V 0 c).before (6 : Fin 8) t d = if qb t.val = kb t.val then d else (before V c t.val (Nat.le_of_lt t.isLt)).dk := by
  rw [(dats V 0 c).before_out_traj (6 : Fin 8) rfl (fun _ _ => rfl) (fun t _ hi _ => absurd ((idle6 t).symm.trans hi) (by decide)) t.val t rfl d, fresh6]
  by_cases hf : qb t.val = kb t.val
  · simp only [hf, decide_true, ↓reduceIte]
  · have h0 : t.val ≠ 0 := fun h0 => hf (by rw [h0]; rfl)
    simp only [hf, decide_false, Bool.false_eq_true, ↓reduceIte, after6]; unfold before; rw [dif_neg h0]

theorem idle7 (t : Fin (cfgT F).N) : (cfgT F).idle (7 : Fin 8) ((cfgT F).grid.coords t) = false := (pointFacts F t).2.2.2.2.2.2.2.2.1
theorem flush7 (t : Fin (cfgT F).N) : ((cfgT F).win (7 : Fin 8)).flush t = decide (qb t.val = 7) := (pointFacts F t).2.2.2.2.2.2.2.2.2.2.1
theorem fresh7 (t : Fin (cfgT F).N) : (cfgT F).fresh (7 : Fin 8) t.val = decide (qb t.val = kb t.val) := by
  refine (Pipeline.Cfg.fresh_tab (cfgT F) (7 : Fin 8) freshTab rfl (fun t => ?_) t.val (Nat.le_of_lt t.isLt)).trans ?_
  · rw [idle7, flush7, Bool.false_and, Bool.or_false]; exact freshTab_step t
  · unfold freshTab; exact if_pos t.isLt
/-- Output window 7 holds the accumulator's last state, or anything where it starts anew. -/
theorem before7 (c : Dev nD) (t : Fin (cfgT F).N) (d) :
    (dats V 0 c).before (7 : Fin 8) t d = if qb t.val = kb t.val then d else (before V c t.val (Nat.le_of_lt t.isLt)).dv := by
  rw [(dats V 0 c).before_out_traj (7 : Fin 8) rfl (fun _ _ => rfl) (fun t _ hi _ => absurd ((idle7 t).symm.trans hi) (by decide)) t.val t rfl d, fresh7]
  by_cases hf : qb t.val = kb t.val
  · simp only [hf, decide_true, ↓reduceIte]
  · have h0 : t.val ≠ 0 := fun h0 => hf (by rw [h0]; rfl)
    simp only [hf, decide_false, Bool.false_eq_true, ↓reduceIte, after7]; unfold before; rw [dif_neg h0]

/-- The body at point `t` as the pipeline calls it. -/
abbrev bodyAt (t : Fin (cfgT F).N) : Prog (TpuEff nD τ sig (Elt F) Λ₀ .tc) PUnit :=
  cc0_mla_bwd (crd F t) tbQ (Memref.isWhole_whole _) tbK (Memref.isWhole_whole _) (ms0 F t) (hs0 F t) (ms1 F t) (hs1 F t) (ms2 F t) (hs2 F t) (ms3 F t) (hs3 F t) (ms4 F t) (hs4 F t) (ms5 F t) (hs5 F t) outQ (Memref.isWhole_whole _) (ms6 F t) (hs6 F t) (ms7 F t) (hs7 F t) accQ (Memref.isWhole_whole _) cc0_scoped0

set_option maxHeartbeats 6400000 in
/-- Every point's body, from the invariant before it to the invariant after it. -/
theorem sound_body (c : Dev nD) (t : Fin (cfgT F).N) :
    iprop((dats V 0 c).Φ t.castSucc ∗ (dats V 0 c).owesAt () t.castSucc
        ∗ (∃ d, owns (c : Thread nD τ) (ms0 F t) fullShare ((dats V 0 c).before (0 : Fin 8) t d))
        ∗ (∃ d, owns (c : Thread nD τ) (ms1 F t) fullShare ((dats V 0 c).before (1 : Fin 8) t d))
        ∗ (∃ d, owns (c : Thread nD τ) (ms2 F t) fullShare ((dats V 0 c).before (2 : Fin 8) t d))
        ∗ (∃ d, owns (c : Thread nD τ) (ms3 F t) fullShare ((dats V 0 c).before (3 : Fin 8) t d))
        ∗ (∃ d, owns (c : Thread nD τ) (ms4 F t) fullShare ((dats V 0 c).before (4 : Fin 8) t d))
        ∗ (∃ d, owns (c : Thread nD τ) (ms5 F t) fullShare ((dats V 0 c).before (5 : Fin 8) t d))
        ∗ (∃ d, owns (c : Thread nD τ) (ms6 F t) fullShare ((dats V 0 c).before (6 : Fin 8) t d))
        ∗ (∃ d, owns (c : Thread nD τ) (ms7 F t) fullShare ((dats V 0 c).before (7 : Fin 8) t d)))
      ⊢ wp frame (wpE (defs₀ (F := F)) Variants.none c none) Set.univ (bodyAt t) fun _ =>
          iprop((dats V 0 c).Φ t.succ ∗ (dats V 0 c).owesAt () t.succ
            ∗ bigSep Finset.univ fun w : Fin (cfgT F).W =>
                match (cfgT F).idle w ((cfgT F).grid.coords t) with
                | true =>
                  match ((cfgT F).win w).flush t with
                  | false => iprop(∃ d, owns (c : Thread nD τ) (((cfgT F).win w).stage ((cfgT F).slots t w)) fullShare ((dats V 0 c).before w t d))
                  | true => owns (c : Thread nD τ) (((cfgT F).win w).stage ((cfgT F).slots t w)) fullShare ((dats V 0 c).after w t)
                | false => owns (c : Thread nD τ) (((cfgT F).win w).stage ((cfgT F).slots t w)) fullShare ((dats V 0 c).after w t)) := by
  rw [bigSep_W0]
  have hN : t.val < 36 := t.isLt
  obtain ⟨k0_hw1, -, c1, c5, c2, c3, c4, i6, i7, f6, f7, -, -⟩ := pointFacts F t
  rewrite [i6]
  simp only [before0, before1, before2, before3, before4, before5, before6, before7, after0, after1, after2, after3, after4, after5, after6, after7, traj_eq]
  rewrite [show (dats V 0 c).Φ t.succ = Phi V c t.succ from rfl, show (dats V 0 c).Φ t.castSucc = Phi V c t.castSucc from rfl]
  unfold Phi
  simp only [Fin.val_castSucc, Fin.val_succ, before_succ, traj_eq]
  by_cases hq : qb t.val = kb t.val
  · have h2 := c2.2 hq
    have h3 := fun h => (c3.1 h) hq
    have h4 := c4.2 hq
    have hst : ∀ p, stepT V c t p = ⟨dkStep (payDiag (blkAt V c t)) k0_pay2, dvStep (payDiag (blkAt V c t)) k0_pay3,
        accStep (row_le t) (payDiag (blkAt V c t)) (if t.val = 0 then k0_pay1 else p.dq)⟩ := fun p => by unfold stepT; exact if_pos hq
    simp only [hst, hq, if_true]
    by_cases h0 : t.val = 0
    · have h1 := c1.2 h0
      have h5 : ¬(isLast (crd F t) = 1#1) := fun h => by have := c5.1 h; omega
      simp only [h0, if_true]
      iintro ⟨⟨⟨%a, %ha, HS⟩, HP, HV, ⟨%dd, %hd, HD⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply runFirst c (crd F t) (ms0 F t) (hs0 F t) (ms1 F t) (hs1 F t) (ms2 F t) (hs2 F t) (ms3 F t) (hs3 F t) (ms4 F t) (hs4 F t) (ms5 F t) (hs5 F t) (ms6 F t) (hs6 F t) (ms7 F t) (hs7 F t) (tabQ F) (tabK F) (blkAt V c t) _ _ _ k0_hw1 (row_le t) h1 h2 h3 h4 h5
      isplitl [H0]; · iexact H0
      isplitl [H1]; · iexact H1
      isplitl [H2]; · iexact H2
      isplitl [H3]; · iexact H3
      isplitl [H4]; · iexact H4
      isplitl [H5]; · iexact H5
      isplitl [HT0]; · iexact HT0
      isplitl [HT1]; · iexact HT1
      isplitl [H6]; · iexact H6
      isplitl [H7]; · iexact H7
      isplitl [HS]; · iexact HS
      iintro ⟨H0, H1, H2, H3, H4, H5, HT0, HT1, H6, H7, HS⟩
      isplitl [HS HP HV HD HT0 HT1]
      · isplitl [HS]
        · iexists _; isplitr; swap
          · iexact HS
          · ipureintro; intro _; rfl
        isplitl [HP]; · iexact HP
        isplitl [HV]; · iexact HV
        isplitl [HD]
        · iexists _; isplitr; swap
          · iexact HD
          · ipureintro; intro hh; first | rfl | (exfalso; omega)
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have h1 : ¬(isFirst (crd F t) = 1#1) := fun h => h0 (c1.1 h)
      simp only [h0, if_false]
      by_cases hl : t.val = 35
      · have h5 := c5.2 hl
        iintro ⟨⟨⟨%a, %ha, HS⟩, HP, HV, ⟨%dd, %hd, HD⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
        unfold Dat.owesAt Pipeline.owesWithin
        rw [show (dats V 0 c).owed t.castSucc = 0 from rfl, show (dats V 0 c).owed t.succ = 0 from rfl]
        icases Ho with ⟨%W, -, Ho⟩
        obtain rfl := ha h0
        iapply runLast c (crd F t) (ms0 F t) (hs0 F t) (ms1 F t) (hs1 F t) (ms2 F t) (hs2 F t) (ms3 F t) (hs3 F t) (ms4 F t) (hs4 F t) (ms5 F t) (hs5 F t) (ms6 F t) (hs6 F t) (ms7 F t) (hs7 F t) (tabQ F) (tabK F) (blkAt V c t) _ _ _ _ W k0_hw1 (row_le t) h1 h2 h3 h4 h5
        isplitl [H0]; · iexact H0
        isplitl [H1]; · iexact H1
        isplitl [H2]; · iexact H2
        isplitl [H3]; · iexact H3
        isplitl [H4]; · iexact H4
        isplitl [H5]; · iexact H5
        isplitl [HT0]; · iexact HT0
        isplitl [HT1]; · iexact HT1
        isplitl [H6]; · iexact H6
        isplitl [H7]; · iexact H7
        isplitl [HS]; · iexact HS
        isplitl [HD]; · iexact HD
        isplitl [HV]; · iexact HV
        isplitl [Ho]; · iexact Ho
        iintro ⟨H0, H1, H2, H3, H4, H5, HT0, HT1, H6, H7, HS, HD, HV, ⟨%W', Ho⟩⟩
        isplitl [HS HP HV HD HT0 HT1]
        · isplitl [HS]
          · iexists _; isplitr; swap
            · iexact HS
            · ipureintro; intro _; rfl
          isplitl [HP]; · iexact HP
          isplitl [HV]; · iexact HV
          isplitl [HD]
          · iexists _; isplitr; swap
            · iexact HD
            · ipureintro; intro hh; first | rfl | (exfalso; omega)
          isplitl [HT0]; · iexact HT0
          iexact HT1
        isplitl [Ho]
        · iexists W'; isplitr; · ipureintro; exact fun _ _ => Or.inl trivial
          iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · have h5 : ¬(isLast (crd F t) = 1#1) := fun h => hl (c5.1 h)
        iintro ⟨⟨⟨%a, %ha, HS⟩, HP, HV, ⟨%dd, %hd, HD⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
        obtain rfl := ha h0
        iapply runDiag c (crd F t) (ms0 F t) (hs0 F t) (ms1 F t) (hs1 F t) (ms2 F t) (hs2 F t) (ms3 F t) (hs3 F t) (ms4 F t) (hs4 F t) (ms5 F t) (hs5 F t) (ms6 F t) (hs6 F t) (ms7 F t) (hs7 F t) (tabQ F) (tabK F) (blkAt V c t) _ _ _ k0_hw1 (row_le t) h1 h2 h3 h4 h5
        isplitl [H0]; · iexact H0
        isplitl [H1]; · iexact H1
        isplitl [H2]; · iexact H2
        isplitl [H3]; · iexact H3
        isplitl [H4]; · iexact H4
        isplitl [H5]; · iexact H5
        isplitl [HT0]; · iexact HT0
        isplitl [HT1]; · iexact HT1
        isplitl [H6]; · iexact H6
        isplitl [H7]; · iexact H7
        isplitl [HS]; · iexact HS
        iintro ⟨H0, H1, H2, H3, H4, H5, HT0, HT1, H6, H7, HS⟩
        isplitl [HS HP HV HD HT0 HT1]
        · isplitl [HS]
          · iexists _; isplitr; swap
            · iexact HS
            · ipureintro; intro _; rfl
          isplitl [HP]; · iexact HP
          isplitl [HV]; · iexact HV
          isplitl [HD]
          · iexists _; isplitr; swap
            · iexact HD
            · ipureintro; intro hh; first | rfl | (exfalso; omega)
          isplitl [HT0]; · iexact HT0
          iexact HT1
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
  · have h2 := fun h => hq (c2.1 h)
    have h3 := c3.2 hq
    have h4 := fun h => hq (c4.1 h)
    have h0 : t.val ≠ 0 := fun h => hq (by rw [h]; rfl)
    have hl : t.val ≠ 35 := fun h => hq (by rw [h]; rfl)
    have h1 : ¬(isFirst (crd F t) = 1#1) := fun h => h0 (c1.1 h)
    have h5 : ¬(isLast (crd F t) = 1#1) := fun h => hl (c5.1 h)
    have hst : ∀ p, stepT V c t p = ⟨dkStep (payOff (blkAt V c t)) p.dk, dvStep (payOff (blkAt V c t)) p.dv,
        accStep (row_le t) (payOff (blkAt V c t)) p.dq⟩ := fun p => by unfold stepT; exact if_neg hq
    simp only [hst, hq, if_false]
    iintro ⟨⟨⟨%a, %ha, HS⟩, HP, HV, ⟨%dd, %hd, HD⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain rfl := ha h0
    iapply runOff c (crd F t) (ms0 F t) (hs0 F t) (ms1 F t) (hs1 F t) (ms2 F t) (hs2 F t) (ms3 F t) (hs3 F t) (ms4 F t) (hs4 F t) (ms5 F t) (hs5 F t) (ms6 F t) (hs6 F t) (ms7 F t) (hs7 F t) (tabQ F) (tabK F) (blkAt V c t) _ _ _ k0_hw1 (row_le t) h1 h2 h3 h4 h5
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [H6]; · iexact H6
    isplitl [H7]; · iexact H7
    isplitl [HS]; · iexact HS
    iintro ⟨H0, H1, H2, H3, H4, H5, HT0, HT1, H6, H7, HS⟩
    isplitl [HS HP HV HD HT0 HT1]
    · isplitl [HS]
      · iexists _; isplitr; swap
        · iexact HS
        · ipureintro; intro _; rfl
      isplitl [HP]; · iexact HP
      isplitl [HV]; · iexact HV
      isplitl [HD]
      · iexists _; isplitr; swap
        · iexact HD
        · ipureintro; intro hh; first | rfl | (exfalso; omega)
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligation (c : Dev nD) : BodyObligation (dats V 0 c) (defs₀ (F := F)) Variants.none () Set.univ := fun t => by
  rw [bigSep_W0]
  exact sound_body V c t

end Cert.KernelIdeal.Mla
end
-- ==== Proof.Whole.lean ====
module

public import proofs.«01_k».proof.Proof.Body
public import Idealize.ShloMosaic.Lib.StableHlo.Run
public import Idealize.ShloMosaic.Lib.StableHlo.RunRead

/-!
The whole program: the host operations, then the pipeline; what every buffer of interest holds at the end.
-/

@[expose] public section

set_option maxRecDepth 16384
set_option Elab.async false

noncomputable section

namespace Cert.KernelIdeal.Mla

open KernelIdeal KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

open Idealize.ShloMosaic.Pipeline (Dat BodyObligation)

variable {F : FTy → Type} [FloatOps F] [Named F]

local notation "𝕄" => MT nD τ sig Unit (Elt F) ℕ (UD sig nD τ) ℕ

variable (m : (ℓ : Loc nD τ sig) → Buf (Elt F) ℓ) (ρ : Dev nD → PrngReg)

/-- The buffers when the kernel call begins. -/
def VH (c : Dev nD) (b : Ref sig .tc) : Buf (Elt F) ((c.tc : Thread nD τ).loc b) := StableHlo.after hostOps0 (fun b => m (c, b)) b

theorem hostOps0_fresh : (hostOps0 : List (HloOp τ sig (Elt F))).Forall fun op => op.fresh = ∅ := by
  simp only [List.forall_cons]; refine ⟨?_, ?_⟩ <;> repeat' first | exact trivial | rfl | constructor

abbrev osem : Fin 1 → SemLoc sig := fun _ => SemLoc.dma cc0_scoped0.sem

/-- The dq accumulator after the last point. -/
def dqEnd (c : Dev nD) : S4096x1024.Idx → Elt F .f32 := (before (VH m) c 36 (Nat.le_refl _)).dq

/-- The buffer the body writes itself, at its final contents. -/
def GH (c : Dev nD) (b : Ref sig .tc) : Buf (Elt F) ((c.tc : Thread nD τ).loc b) :=
  if h : b = main_v39_0 then h ▸ (dqEnd m c) else VH m c b

theorem GH_eq (c : Dev nD) : GH m c main_v39_0 = dqEnd m c := dif_pos rfl

theorem VH_tab (c : Dev nD) (k : Fin 2) : VH m c (pre0.ref k) = (admT F).1 k := by
  fin_cases k
  · show StableHlo.after hostOps0 (fun b => m (c, b)) (Proc.devRef .tc main_c) = tabQ F
    after_results; rfl
  · show StableHlo.after hostOps0 (fun b => m (c, b)) (Proc.devRef .tc main_c_0) = tabK F
    after_results; rfl

theorem share_eq (c : Dev nD) (w : Fin (cfgT F).W) : (dats (VH m) 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UD sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide, bigSep_insert (by decide), bigSep_singleton]
  rfl

theorem ownSems_eq (c : Dev nD) : (Pipeline.ownSems0 (Ix := Unit) (Name := ℕ) (U := UD sig nD τ) (Lvl := ℕ) (Val := Elt F) (τ := τ) osem c : sProp 𝕄)
    = semVal ((c : Thread nD τ), SemLoc.dma cc0_scoped0.sem) 0 := by
  unfold Pipeline.ownSems0
  rw [show (Finset.univ : Finset (Fin 1)) = {(0 : Fin 1)} from by decide, bigSep_singleton]

theorem routed_eq (c : Dev nD) (W : (b : Ref sig .tc) → Buf (Elt F) ((c.tc : Thread nD τ).loc b)) :
    (Pipeline.routed {main_v39_0} c W : sProp 𝕄) = ((c.tc.loc main_v39_0) ↦{fullShare} W main_v39_0) := by
  unfold Pipeline.routed; rw [bigSep_singleton]

/-- The invariant at the first point, from what the call is entered with. -/
theorem phi_in (c : Dev nD) : iprop(Pipeline.ΦDRG osem (cfgT F).spec ∅ {main_v39_0} (VH m) (VH m) c ∗ Pipeline.ΦT pre0 (admT F).1 c) ⊢ (dats (VH m) 0 c).Φ 0 := by
  rw [Pipeline.ΦDRG_eq, ownSems_eq, routed_eq, show (dats (VH m) 0 c).Φ 0 = Phi (VH m) c 0 from rfl]
  unfold Pipeline.ΦT
  rw [prefHeld_eq, show (cfgT F).spec = spec0 from rfl, scopedRest0_eq]
  unfold Phi
  iintro ⟨⟨⟨%a, HS⟩, HP, HV, -, HD⟩, HT0, HT1⟩
  isplitl [HS]
  · iexists a; isplitr
    · ipureintro; intro h; exact absurd rfl h
    · rw [owns_whole]; iexact HS
  isplitl [HP]; · iexact HP
  isplitl [HV]; · iexact HV
  isplitl [HD]
  · iexists _; isplitr; swap
    · rw [owns_whole]; iexact HD
    · ipureintro; intro h; exact absurd h (by show ¬ (0 : ℕ) = 36; decide)
  isplitl [HT0]; · iexact HT0
  iexact HT1

/-- What the invariant gives back after the last point. -/
theorem phi_out (c : Dev nD) : (dats (VH m) 0 c).Φ (Fin.last (cfgT F).N) ⊢ Pipeline.ΦDRG osem (cfgT F).spec ∅ {main_v39_0} (VH m) (GH m) c := by
  rw [Pipeline.ΦDRG_eq, ownSems_eq, routed_eq, GH_eq, show (dats (VH m) 0 c).Φ (Fin.last (cfgT F).N) = Phi (VH m) c (Fin.last (cfgT F).N) from rfl,
    show (cfgT F).spec = spec0 from rfl, scopedRest0_eq, bigSep_empty]
  unfold Phi
  iintro ⟨⟨%a, -, HS⟩, HP, HV, ⟨%d, %hd, HD⟩, -, -⟩
  isplitl [HS]
  · iexists a; rw [owns_whole]; exact Entails.rfl
  isplitl [HP]; · iexact HP
  isplitl [HV]; · iexact HV
  isplitr; · iempintro
  obtain rfl := hd rfl
  rw [owns_whole]; exact Entails.rfl

theorem hmain : Pipeline.HMainP (Ix := Unit) (Name := ℕ) (U := UD sig nD τ) (Lvl := ℕ) (pcfgs (F := F)) 0 defs₀ Variants.none m main (VH m) :=
  Pipeline.hmainP_prefix pcfgs 0 defs₀ Variants.none m main hostOps0 hostOps0_sub hostOps0_fresh main_chain

set_option backward.isDefEq.respectTransparency.types false in
set_option maxHeartbeats 4000000 in
/-- Every fair execution of the program ends, with each windowed array at its computed contents, dq at the accumulator, every other
buffer as the call found it and every semaphore at zero. -/
theorem run_main : θ_run (defs (F := F)) (onTc (τ := τ) (main (F := F))) (s₀ m ρ) (fun r =>
    Pipeline.FramePostRG (pcsT F) (dats (VH m)) 0 {main_v39_0} (VH m) (GH m) r ∧ r.2.sem = fun _ => 0) :=
  Pipeline.θ_run_frameP_dmaRG (pcfgs (F := F)) (fun _ => admT F) (dats (VH m)) 0 launch0 osem defs₀ Variants.none
    (by exact (by decide : Pipeline.OwnSemFacts spec0 osem)) ∅ {main_v39_0} (by exact (by decide : ∅ ⊆ Pipeline.restRefsP sig pre0 spec0))
    (by exact (by decide : {main_v39_0} ⊆ Pipeline.restRefsP sig pre0 spec0 \ ∅)) m ρ main
    (fun c => (body_obligation (VH m) c).loose) (share_eq m) (fun _ _ => rfl) (VH m) (hmain m) (fun _ _ => rfl) (VH_tab m) (GH m)
    (phi_in m) (phi_out m)
    (Q' := fun r => Pipeline.FramePostRG (pcsT F) (dats (VH m)) 0 {main_v39_0} (VH m) (GH m) r ∧ r.2.sem = fun _ => 0)

theorem arg_kept (b : Ref sig .tc) (hb : b = main_arg0 ∨ b = main_arg1 ∨ b = main_arg2 ∨ b = main_arg3) (c : Dev nD) :
    VH m c b = m (c.tc.loc b) := by
  rcases hb with rfl | rfl | rfl | rfl
  · show StableHlo.after hostOps0 (fun b => m (c, b)) (Proc.devRef .tc main_arg0) = _
    after_results
  · show StableHlo.after hostOps0 (fun b => m (c, b)) (Proc.devRef .tc main_arg1) = _
    after_results
  · show StableHlo.after hostOps0 (fun b => m (c, b)) (Proc.devRef .tc main_arg2) = _
    after_results
  · show StableHlo.after hostOps0 (fun b => m (c, b)) (Proc.devRef .tc main_arg3) = _
    after_results

/-- The arguments end unchanged. -/
theorem args_end (r : PUnit × MemSt nD τ sig (Elt F)) (h : Pipeline.FramePostRG (pcsT F) (dats (VH m)) 0 {main_v39_0} (VH m) (GH m) r) (c : Dev nD) :
    r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  ⟨((h.1 c).2 main_arg0 (Finset.mem_sdiff.mpr ⟨Pipeline.mem_restRefs_of main_arg0 (by decide) (by exact (by decide : ∀ w : Fin 8, (spec0 w).arr.view.ref ≠ main_arg0)), by decide⟩)).trans (arg_kept m _ (by decide) c),
   ((h.1 c).2 main_arg1 (Finset.mem_sdiff.mpr ⟨Pipeline.mem_restRefs_of main_arg1 (by decide) (by exact (by decide : ∀ w : Fin 8, (spec0 w).arr.view.ref ≠ main_arg1)), by decide⟩)).trans (arg_kept m _ (by decide) c),
   ((h.1 c).2 main_arg2 (Finset.mem_sdiff.mpr ⟨Pipeline.mem_restRefs_of main_arg2 (by decide) (by exact (by decide : ∀ w : Fin 8, (spec0 w).arr.view.ref ≠ main_arg2)), by decide⟩)).trans (arg_kept m _ (by decide) c),
   ((h.1 c).2 main_arg3 (Finset.mem_sdiff.mpr ⟨Pipeline.mem_restRefs_of main_arg3 (by decide) (by exact (by decide : ∀ w : Fin 8, (spec0 w).arr.view.ref ≠ main_arg3)), by decide⟩)).trans (arg_kept m _ (by decide) c)⟩

/-- The frame: the program runs, its arguments end unchanged, every semaphore is back at zero. -/
theorem frame_main : θ_run (defs (F := F)) (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3))
      ∧ r.2.sem = fun _ => 0) :=
  (θ_run (defs (F := F)) _ _).mono (fun r h => ⟨fun c => args_end m r h.1 c, h.2⟩) (run_main m ρ)

end Cert.KernelIdeal.Mla
end
-- ==== Proof.Printed.lean ====
module

public import proofs.«01_k».proof.Defs
public import proofs.«01_k».proof.Proof.Whole
public import proofs.«01_k».proof.Proof.Gen.Kernel

/-!
The attention's backward call as printed has the idealized program's text but for the mask's constant, which the idealized text
calls by its name. Where the name stands for the printed literal the two texts are the same, so the printed program's frame is the
idealized program's at the machine's floats, read there.
-/

@[expose] public section

set_option maxHeartbeats 4000000

noncomputable section

namespace Cert.Kernel.Mla

open Idealize.ShloMosaic Idealize.ShloMosaic.TcCoe Idealize.SL.Sem

/-- At the machine's floats a named constant is read as its printed literal. -/
abbrev literal : Named Bits := ⟨fun _ _ _ b => Scalar.ofBits _ b⟩

attribute [local instance] literal

/-- The two programs' bodies are the same, -/
theorem body_same : Kernel.defs₀ (F := Bits) = KernelIdeal.defs₀ (F := Bits) := by
  unfold Kernel.defs₀ KernelIdeal.defs₀
  refine congrArg Defs.onTc (funext fun l => funext fun a => ?_)
  match l, a with
  | ⟨0, _⟩, (t, s) => rfl

/-- so are their labels' texts, -/
theorem defs_same : Kernel.defs (F := Bits) = KernelIdeal.defs (F := Bits) := congrArg (Pipeline.defs (KernelIdeal.pcfgs (F := Bits))) body_same

/-- and their main programs. -/
theorem main_same : Kernel.main (F := Bits) = KernelIdeal.main (F := Bits) := by
  unfold Kernel.main KernelIdeal.main
  rfl

/-- The printed program's frame. -/
theorem frame : Cert.quiescent_Kernel := by
  intro m ρ _
  rw [defs_same, main_same]
  exact KernelIdeal.Mla.frame_main (F := Bits) m ρ

end Cert.Kernel.Mla
end
-- ==== Proof.BlockVals.lean ====
module

public import proofs.«01_k».proof.Proof.Steps
public import Idealize.ShloMosaic.Lib.Pointwise
public import Idealize.ShloMosaic.Lib.WordCmp
public import Idealize.ShloMosaic.PureOps.Ideal
public import Idealize.ShloMosaic.PureOps.Ideal.Laws

/-!
What one grid point adds to the three accumulators over the extended reals, element by element.
-/

@[expose] public section

noncomputable section

namespace Cert.KernelIdeal.Mla

open KernelIdeal KernelIdeal.Gen
open Idealize.ShloMosaic

/-! ## The payloads at an index -/

theorem pay13_at (q k : Vec Ideal S512x128 .bf16) (l : Vec Ideal S512x1 .f32) (r c : Fin 512) :
    k0_pay13 (F := Ideal) q k l (ix2 r c) = Ideal.exp ((∑ d : Fin 128, q (ix2 r d) * k (ix2 c d)) - l (ix2 r 0)) := by
  pointwise [k0_pay13, k0_pay11, k0_pay12]

theorem pay15_at (q k : Vec Ideal S512x128 .bf16) (l : Vec Ideal S512x1 .f32) (g : Vec Ideal S512x64 .bf16) (old : Vec Ideal S64x512 .f32)
    (d : Fin 64) (c : Fin 512) :
    k0_pay15 (F := Ideal) q k l g old (ix2 d c) = old (ix2 d c) + ∑ r : Fin 512, g (ix2 r d) * k0_pay13 (F := Ideal) q k l (ix2 r c) := by
  pointwise [k0_pay15, k0_pay14]

theorem pay16_at (q k : Vec Ideal S512x128 .bf16) (l : Vec Ideal S512x1 .f32) (g v : Vec Ideal S512x64 .bf16) (de : Vec Ideal S512x1 .f32)
    (r c : Fin 512) :
    k0_pay16 (F := Ideal) q k l g v de (ix2 r c) =
      k0_pay13 (F := Ideal) q k l (ix2 r c) * ((∑ d : Fin 64, g (ix2 r d) * v (ix2 c d)) - de (ix2 r 0)) := by
  pointwise [k0_pay16, k0_pay14]

theorem pay17_at (q k : Vec Ideal S512x128 .bf16) (l : Vec Ideal S512x1 .f32) (g v : Vec Ideal S512x64 .bf16) (de : Vec Ideal S512x1 .f32)
    (old : Vec Ideal S128x512 .f32) (d : Fin 128) (c : Fin 512) :
    k0_pay17 (F := Ideal) q k l g v de old (ix2 d c) =
      old (ix2 d c) + ∑ r : Fin 512, q (ix2 r d) * k0_pay16 (F := Ideal) q k l g v de (ix2 r c) := by
  pointwise [k0_pay17, k0_pay11]

theorem pay18_at (k : Vec Ideal S512x128 .bf16) (s : FVec Ideal S512x512 .bf16) (old : Vec Ideal S512x128 .f32) (r : Fin 512) (d : Fin 128) :
    k0_pay18 (F := Ideal) (k0_pay12 (F := Ideal) k) s old (ix2 r d) = old (ix2 r d) + ∑ c : Fin 512, s (ix2 r c) * k (ix2 c d) := by
  pointwise [k0_pay18, k0_pay12]

/-- The constant the mask's literal is named for. -/
theorem mask_bot : (Named.named (F := Ideal) κ "mask" 0xF149F2CA#32 : Ideal .f32) = ⊥ := rfl

/-- The causal comparison of two coordinates of a tile. -/
theorem sge_tile (r c : Fin 512) :
    IntOp.cmpi CmpIPredicate.sge (BitVec.ofNat 32 r.val) (BitVec.ofNat 32 c.val) = BitVec.ofBool (decide (c.val ≤ r.val)) := by
  have hr := r.isLt
  have hc := c.isLt
  show BitVec.ofBool (BitVec.sle (BitVec.ofNat 32 c.val) (BitVec.ofNat 32 r.val)) = _
  congr 1
  have e1 : (BitVec.ofNat 32 c.val).toInt = c.val := by
    rw [BitVec.toInt_eq_toNat_of_lt] <;> rw [BitVec.toNat_ofNat, Nat.mod_eq_of_lt] <;> omega
  have e2 : (BitVec.ofNat 32 r.val).toInt = r.val := by
    rw [BitVec.toInt_eq_toNat_of_lt] <;> rw [BitVec.toNat_ofNat, Nat.mod_eq_of_lt] <;> omega
  rw [BitVec.sle, e1, e2]
  exact decide_eq_decide.2 (by omega)

theorem pay80_at (q k : Vec Ideal S512x128 .bf16) (l : Vec Ideal S512x1 .f32) (r c : Fin 512) :
    k0_pay80 (F := Ideal) q k l (ix2 r c) =
      Ideal.exp ((if c.val ≤ r.val then ∑ d : Fin 128, q (ix2 r d) * k (ix2 c d) else ⊥) - l (ix2 r 0)) := by
  pointwise [k0_pay80, k0_pay77, k0_pay78, k0_pay79]
  rw [sge_tile, mask_bot]
  by_cases h : c.val ≤ r.val
  · rw [if_pos h, decide_eq_true h]; rfl
  · rw [if_neg h, decide_eq_false h]; rfl

theorem pay82_at (q k : Vec Ideal S512x128 .bf16) (l : Vec Ideal S512x1 .f32) (g : Vec Ideal S512x64 .bf16) (old : Vec Ideal S64x512 .f32)
    (d : Fin 64) (c : Fin 512) :
    k0_pay82 (F := Ideal) q k l g old (ix2 d c) = old (ix2 d c) + ∑ r : Fin 512, g (ix2 r d) * k0_pay80 (F := Ideal) q k l (ix2 r c) := by
  pointwise [k0_pay82, k0_pay81]

theorem pay83_at (q k : Vec Ideal S512x128 .bf16) (l : Vec Ideal S512x1 .f32) (g v : Vec Ideal S512x64 .bf16) (de : Vec Ideal S512x1 .f32)
    (r c : Fin 512) :
    k0_pay83 (F := Ideal) q k l g v de (ix2 r c) =
      k0_pay80 (F := Ideal) q k l (ix2 r c) * ((∑ d : Fin 64, g (ix2 r d) * v (ix2 c d)) - de (ix2 r 0)) := by
  pointwise [k0_pay83, k0_pay81]

theorem pay85_at (q : Vec Ideal S512x128 .bf16) (s : FVec Ideal S512x512 .bf16) (old : Vec Ideal S128x512 .f32) (d : Fin 128) (c : Fin 512) :
    k0_pay85 (F := Ideal) (k0_pay78 (F := Ideal) q) s (k0_pay84 (F := Ideal) old) (ix2 d c) =
      old (ix2 d c) + ∑ r : Fin 512, q (ix2 r d) * s (ix2 r c) := by
  pointwise [k0_pay85, k0_pay78, k0_pay84]

theorem pay86_at (k : Vec Ideal S512x128 .bf16) (s : FVec Ideal S512x512 .bf16) (old : Vec Ideal S512x128 .f32) (r : Fin 512) (d : Fin 128) :
    k0_pay86 (F := Ideal) (k0_pay79 (F := Ideal) k) s old (ix2 r d) = old (ix2 r d) + ∑ c : Fin 512, s (ix2 r c) * k (ix2 c d) := by
  pointwise [k0_pay86, k0_pay79]

theorem pay1_at (y : S4096x1024.Idx) : k0_pay1 (F := Ideal) y = 0 := by
  pointwise [k0_pay1]
theorem pay2_at (y : S1024x512.Idx) : k0_pay2 (F := Ideal) y = 0 := by
  pointwise [k0_pay2]
theorem pay3_at (y : S512x512.Idx) : k0_pay3 (F := Ideal) y = 0 := by
  pointwise [k0_pay3]

/-! ## One head of one grid point -/

/-- Column `d` of head `h` among the 1024 lanes of q and k; -/
abbrev w128 (h : Fin 8) (d : Fin 128) : Fin 1024 := ⟨128 * h.val + d.val, by omega⟩
/-- and among the 512 lanes of v and the cotangent. -/
abbrev w64 (h : Fin 8) (d : Fin 64) : Fin 512 := ⟨64 * h.val + d.val, by omega⟩

/-- The probability of the block's key `c` for its query `r` in head `h`; with `msk` the keys after the query have none. -/
def prob (b : Blk Ideal) (msk : Bool) (h : Fin 8) (r c : Fin 512) : EReal :=
  Ideal.exp ((if msk = true → c.val ≤ r.val then ∑ d : Fin 128, b.q (ix2 r (w128 h d)) * b.k (ix2 c (w128 h d)) else ⊥) - b.lse (ix2 r h))

/-- The gradient of that key's score. -/
def grad (b : Blk Ideal) (msk : Bool) (h : Fin 8) (r c : Fin 512) : EReal :=
  prob b msk h r c * ((∑ d : Fin 64, b.g (ix2 r (w64 h d)) * b.v (ix2 c (w64 h d))) - b.del (ix2 r h))

/-- The payloads of a grid point, on the diagonal or below it. -/
def payOf (b : Blk Ideal) (msk : Bool) : Fin 8 → Pay Ideal := if msk = true then payDiag b else payOff b

theorem ld128 (x : S512x1024.Idx → Elt Ideal .bf16) (h : Fin 8) (r : Fin 512) (d : Fin 128) :
    View.ld x (r128 h) (ix2 r d) = x (ix2 r (w128 h d)) := by
  show x _ = x _
  congr 1
  funext a
  refine Fin.ext ?_
  fin_cases a
  · show 0 + 1 * r.val = r.val; omega
  · show 128 * h.val + 1 * d.val = 128 * h.val + d.val; omega

theorem ld64 (x : S512x512.Idx → Elt Ideal .bf16) (h : Fin 8) (r : Fin 512) (d : Fin 64) :
    View.ld x (r64 h) (ix2 r d) = x (ix2 r (w64 h d)) := by
  show x _ = x _
  congr 1
  funext a
  refine Fin.ext ?_
  fin_cases a
  · show 0 + 1 * r.val = r.val; omega
  · show 64 * h.val + 1 * d.val = 64 * h.val + d.val; omega

theorem ld1 (x : S512x8.Idx → Elt Ideal .f32) (h : Fin 8) (r : Fin 512) :
    View.ld x (r1 h) (ix2 r 0) = x (ix2 r h) := by
  show x _ = x _
  congr 1
  funext a
  refine Fin.ext ?_
  fin_cases a
  · show 0 + 1 * r.val = r.val; omega
  · show h.val + 1 * 0 = h.val; omega

/-- The loads of a head's lanes, as functions of the block. -/
theorem ld128' (x : S512x1024.Idx → Elt Ideal .bf16) (h : Fin 8) : View.ld x (r128 h) = fun i => x (ix2 (i 0) (w128 h (i 1))) := by
  funext i; rw [eq_ix2 i]; exact ld128 x h (i 0) (i 1)
theorem ld64' (x : S512x512.Idx → Elt Ideal .bf16) (h : Fin 8) : View.ld x (r64 h) = fun i => x (ix2 (i 0) (w64 h (i 1))) := by
  funext i; rw [eq_ix2 i]; exact ld64 x h (i 0) (i 1)

theorem prob_off (b : Blk Ideal) (h : Fin 8) (r c : Fin 512) :
    k0_pay13 (F := Ideal) (View.ld b.q (r128 h)) (View.ld b.k (r128 h)) (View.ld b.lse (r1 h)) (ix2 r c) = prob b false h r c := by
  rw [pay13_at]
  unfold prob
  rw [if_pos (by intro h; cases h), ld1, ld128', ld128']
  rfl

theorem prob_diag (b : Blk Ideal) (h : Fin 8) (r c : Fin 512) :
    k0_pay80 (F := Ideal) (View.ld b.q (r128 h)) (View.ld b.k (r128 h)) (View.ld b.lse (r1 h)) (ix2 r c) = prob b true h r c := by
  rw [pay80_at]
  unfold prob
  rw [ld1, ld128', ld128']
  simp only [forall_const]
  rfl

theorem grad_off (b : Blk Ideal) (h : Fin 8) (r c : Fin 512) :
    k0_pay16 (F := Ideal) (View.ld b.q (r128 h)) (View.ld b.k (r128 h)) (View.ld b.lse (r1 h)) (View.ld b.g (r64 h)) (View.ld b.v (r64 h))
      (View.ld b.del (r1 h)) (ix2 r c) = grad b false h r c := by
  rw [pay16_at, prob_off, ld1, ld64', ld64']
  rfl

theorem grad_diag (b : Blk Ideal) (h : Fin 8) (r c : Fin 512) :
    k0_pay83 (F := Ideal) (View.ld b.q (r128 h)) (View.ld b.k (r128 h)) (View.ld b.lse (r1 h)) (View.ld b.g (r64 h)) (View.ld b.v (r64 h))
      (View.ld b.del (r1 h)) (ix2 r c) = grad b true h r c := by
  rw [pay83_at, prob_diag, ld1, ld64', ld64']
  rfl

theorem payOf_dv (b : Blk Ideal) (msk : Bool) (h : Fin 8) (old : FVec Ideal S64x512 .f32) (d : Fin 64) (c : Fin 512) :
    (payOf b msk h).dv old (ix2 d c) = old (ix2 d c) + ∑ r : Fin 512, b.g (ix2 r (w64 h d)) * prob b msk h r c := by
  cases msk
  · show k0_pay15 (F := Ideal) _ _ _ _ old (ix2 d c) = _
    rw [pay15_at, ld64']
    exact congrArg (old (ix2 d c) + ·) (Finset.sum_congr rfl fun r _ => congrArg (b.g (ix2 r (w64 h d)) * ·) (prob_off b h r c))
  · show k0_pay82 (F := Ideal) _ _ _ _ old (ix2 d c) = _
    rw [pay82_at, ld64']
    exact congrArg (old (ix2 d c) + ·) (Finset.sum_congr rfl fun r _ => congrArg (b.g (ix2 r (w64 h d)) * ·) (prob_diag b h r c))

theorem payOf_dk (b : Blk Ideal) (msk : Bool) (h : Fin 8) (old : FVec Ideal S128x512 .f32) (d : Fin 128) (c : Fin 512) :
    (payOf b msk h).dk old (ix2 d c) = old (ix2 d c) + ∑ r : Fin 512, b.q (ix2 r (w128 h d)) * grad b msk h r c := by
  cases msk
  · show k0_pay17 (F := Ideal) _ _ _ _ _ _ old (ix2 d c) = _
    rw [pay17_at]
    exact congrArg (old (ix2 d c) + ·) (Finset.sum_congr rfl fun r _ => congrArg₂ (· * ·) (ld128 b.q h r d) (grad_off b h r c))
  · show k0_pay85 (F := Ideal) (k0_pay78 (F := Ideal) _) _ (k0_pay84 (F := Ideal) old) (ix2 d c) = _
    rw [pay85_at]
    exact congrArg (old (ix2 d c) + ·) (Finset.sum_congr rfl fun r _ => congrArg₂ (· * ·) (ld128 b.q h r d) (grad_diag b h r c))

theorem payOf_dq (b : Blk Ideal) (msk : Bool) (h : Fin 8) (old : FVec Ideal S512x128 .f32) (r : Fin 512) (d : Fin 128) :
    (payOf b msk h).dq old (ix2 r d) = old (ix2 r d) + ∑ c : Fin 512, grad b msk h r c * b.k (ix2 c (w128 h d)) := by
  cases msk
  · show k0_pay18 (F := Ideal) (k0_pay12 (F := Ideal) _) _ old (ix2 r d) = _
    rw [pay18_at]
    exact congrArg (old (ix2 r d) + ·) (Finset.sum_congr rfl fun c _ => congrArg₂ (· * ·) (grad_off b h r c) (ld128 b.k h c d))
  · show k0_pay86 (F := Ideal) (k0_pay79 (F := Ideal) _) _ old (ix2 r d) = _
    rw [pay86_at]
    exact congrArg (old (ix2 r d) + ·) (Finset.sum_congr rfl fun c _ => congrArg₂ (· * ·) (grad_diag b h r c) (ld128 b.k h c d))

/-! ## The three accumulators -/

/-- Element `(64 h + d, c)` of the dv accumulator gains the block's sum over its queries. -/
theorem dvStep_at (b : Blk Ideal) (msk : Bool) (old : S512x512.Idx → EReal) (h : Fin 8) (d : Fin 64) (c : Fin 512) :
    dvStep (payOf b msk) old (ix2 (w64 h d) c) = old (ix2 (w64 h d) c) + ∑ r : Fin 512, b.g (ix2 r (w64 h d)) * prob b msk h r c := by
  have e : (ix2 (w64 h d) c : S512x512.Idx) = (rDv h).emb (ix2 d c) := by
    funext a
    refine Fin.ext ?_
    fin_cases a
    · show 64 * h.val + d.val = 64 * h.val + 1 * d.val; omega
    · show c.val = 0 + 1 * c.val; omega
  rw [e, dvStep_emb, payOf_dv]
  rfl

/-- Element `(128 h + d, c)` of the dk accumulator likewise. -/
theorem dkStep_at (b : Blk Ideal) (msk : Bool) (old : S1024x512.Idx → EReal) (h : Fin 8) (d : Fin 128) (c : Fin 512) :
    dkStep (payOf b msk) old (ix2 (w128 h d) c) = old (ix2 (w128 h d) c) + ∑ r : Fin 512, b.q (ix2 r (w128 h d)) * grad b msk h r c := by
  have e : (ix2 (w128 h d) c : S1024x512.Idx) = (rDk h).emb (ix2 d c) := by
    funext a
    refine Fin.ext ?_
    fin_cases a
    · show 128 * h.val + d.val = 128 * h.val + 1 * d.val; omega
    · show c.val = 0 + 1 * c.val; omega
  rw [e, dkStep_emb, payOf_dk]
  rfl

/-- Element `(R + r, 128 h + d)` of the dq accumulator gains the block's sum over its keys; -/
theorem accStep_at {R : ℕ} (hR : R + 512 ≤ 4096) (b : Blk Ideal) (msk : Bool) (old : S4096x1024.Idx → EReal) (h : Fin 8) (r : Fin 512) (d : Fin 128) :
    accStep hR (payOf b msk) old (ix2 ⟨R + r.val, by omega⟩ (w128 h d)) =
      old (ix2 ⟨R + r.val, by omega⟩ (w128 h d)) + ∑ c : Fin 512, grad b msk h r c * b.k (ix2 c (w128 h d)) := by
  have e : (ix2 ⟨R + r.val, by omega⟩ (w128 h d) : S4096x1024.Idx) = (rAcc hR h).emb (ix2 r d) := by
    funext a
    refine Fin.ext ?_
    fin_cases a
    · show R + r.val = R + 1 * r.val; omega
    · show 128 * h.val + d.val = 128 * h.val + 1 * d.val; omega
  rw [e, accStep_emb, payOf_dq]
  rfl

/-- the elements of other rows keep what they held. -/
theorem accStep_other {R : ℕ} (hR : R + 512 ≤ 4096) (p : Fin 8 → Pay Ideal) (old : S4096x1024.Idx → EReal) (y : S4096x1024.Idx)
    (hy : ¬ (R ≤ (y 0).val ∧ (y 0).val < R + 512)) : accStep hR p old y = old y :=
  accStep_of_not hR p old y (by unfold tileAcc; rw [if_neg hy]; omega)

end Cert.KernelIdeal.Mla

end
-- ==== Proof.Blocks.lean ====
module

public import proofs.«01_k».proof.Proof.BlockVals
public import proofs.«01_k».proof.Proof.Body

/-!
The six blocks of a grid point as pieces of the six arrays the call reads, and what a point adds to the accumulators as
sums over those arrays.
-/

@[expose] public section

noncomputable section

namespace Cert.KernelIdeal.Mla

open KernelIdeal KernelIdeal.Gen
open Idealize.ShloMosaic
open Idealize.ShloMosaic.TcCoe

/-! ## The arrays -/

/-- The six arrays the call reads. -/
structure Arr where
  q : S4096x1024.Idx → EReal
  k : S4096x1024.Idx → EReal
  v : S4096x512.Idx → EReal
  g : S4096x512.Idx → EReal
  de : S4096x8.Idx → EReal
  ls : S4096x8.Idx → EReal

/-- The probability of key `c` for query `r` in head `h`, from the saved log-sum-exp: none when the key comes after the query. -/
def Arr.p (A : Arr) (h : Fin 8) (r c : Fin 4096) : EReal :=
  Ideal.exp ((if c.val ≤ r.val then ∑ d : Fin 128, A.q (ix2 r (w128 h d)) * A.k (ix2 c (w128 h d)) else ⊥) - A.ls (ix2 r h))

/-- The gradient of that key's score. -/
def Arr.ds (A : Arr) (h : Fin 8) (r c : Fin 4096) : EReal :=
  A.p h r c * ((∑ d : Fin 64, A.g (ix2 r (w64 h d)) * A.v (ix2 c (w64 h d))) - A.de (ix2 r h))

theorem exp_bot : Ideal.exp ⊥ = 0 := rfl

/-- A key after the query has probability zero, and so has its score's gradient. -/
theorem Arr.p_after (A : Arr) (h : Fin 8) (r c : Fin 4096) (hc : r.val < c.val) : A.p h r c = 0 := by
  unfold Arr.p
  rw [if_neg (by omega), show (⊥ : EReal) - A.ls (ix2 r h) = ⊥ from by rw [sub_eq_add_neg, EReal.bot_add], exp_bot]

theorem Arr.ds_after (A : Arr) (h : Fin 8) (r c : Fin 4096) (hc : r.val < c.val) : A.ds h r c = 0 := by
  unfold Arr.ds
  rw [A.p_after h r c hc, zero_mul]

variable (V : (c : Dev nD) → (b : Ref sig .tc) → Buf (Elt Ideal) ((c.tc : Thread nD τ).loc b))

/-- The arrays as the call finds them. -/
def arrOf (c : Dev nD) : Arr where
  q := V c main_v31
  k := V c main_v34
  v := V c main_v36
  g := V c main_v38
  de := V c main_v28
  ls := V c main_v24

theorem kb_lt (n : ℕ) : kb n < 8 := by
  unfold kb; split
  · rename_i h
    exact (by decide : ∀ j : Fin 36, (lit1 j).toNat < 8) ⟨n, h⟩
  · decide

/-- Row `r` of block `i`. -/
abbrev row (i : ℕ) (hi : i < 8) (r : Fin 512) : Fin 4096 := ⟨512 * i + r.val, by omega⟩

theorem blkAt_q (c : Dev nD) (t : Fin (cfgT Ideal).N) (r : Fin 512) (l : Fin 1024) :
    (blkAt V c t).q (ix2 r l) = (arrOf V c).q (ix2 (row (qb t.val) (qb_lt _) r) l) := by
  have h0 : cc0_transform_0 k0_off1_inb numel1_S1 (pfT Ideal) (crd Ideal t) 0 = qb t.val := (pointFacts Ideal t).2.2.2.2.2.2.2.2.2.2.2.1
  show V c main_v31 _ = V c main_v31 _
  congr 1
  funext a
  apply Fin.ext
  match a with
  | ⟨0, _⟩ => show cc0_transform_0 k0_off1_inb numel1_S1 (pfT Ideal) (crd Ideal t) 0 * 512 + 1 * r.val = 512 * qb t.val + r.val; rw [h0]; omega
  | ⟨1, _⟩ => show 0 * 1024 + 1 * l.val = l.val; omega

theorem blkAt_k (c : Dev nD) (t : Fin (cfgT Ideal).N) (r : Fin 512) (l : Fin 1024) :
    (blkAt V c t).k (ix2 r l) = (arrOf V c).k (ix2 (row (kb t.val) (kb_lt _) r) l) := by
  have h0 : cc0_transform_1 k0_off1_inb numel1_S1 (pfT Ideal) (crd Ideal t) 0 = kb t.val := (pointFacts Ideal t).2.2.2.2.2.2.2.2.2.2.2.2
  show V c main_v34 _ = V c main_v34 _
  congr 1
  funext a
  apply Fin.ext
  match a with
  | ⟨0, _⟩ => show cc0_transform_1 k0_off1_inb numel1_S1 (pfT Ideal) (crd Ideal t) 0 * 512 + 1 * r.val = 512 * kb t.val + r.val; rw [h0]; omega
  | ⟨1, _⟩ => show 0 * 1024 + 1 * l.val = l.val; omega

theorem blkAt_v (c : Dev nD) (t : Fin (cfgT Ideal).N) (r : Fin 512) (l : Fin 512) :
    (blkAt V c t).v (ix2 r l) = (arrOf V c).v (ix2 (row (kb t.val) (kb_lt _) r) l) := by
  have h0 : cc0_transform_2 k0_off1_inb numel1_S1 (pfT Ideal) (crd Ideal t) 0 = kb t.val := (pointFacts Ideal t).2.2.2.2.2.2.2.2.2.2.2.2
  show V c main_v36 _ = V c main_v36 _
  congr 1
  funext a
  apply Fin.ext
  match a with
  | ⟨0, _⟩ => show cc0_transform_2 k0_off1_inb numel1_S1 (pfT Ideal) (crd Ideal t) 0 * 512 + 1 * r.val = 512 * kb t.val + r.val; rw [h0]; omega
  | ⟨1, _⟩ => show 0 * 512 + 1 * l.val = l.val; omega

theorem blkAt_g (c : Dev nD) (t : Fin (cfgT Ideal).N) (r : Fin 512) (l : Fin 512) :
    (blkAt V c t).g (ix2 r l) = (arrOf V c).g (ix2 (row (qb t.val) (qb_lt _) r) l) := by
  have h0 : cc0_transform_3 k0_off1_inb numel1_S1 (pfT Ideal) (crd Ideal t) 0 = qb t.val := (pointFacts Ideal t).2.2.2.2.2.2.2.2.2.2.2.1
  show V c main_v38 _ = V c main_v38 _
  congr 1
  funext a
  apply Fin.ext
  match a with
  | ⟨0, _⟩ => show cc0_transform_3 k0_off1_inb numel1_S1 (pfT Ideal) (crd Ideal t) 0 * 512 + 1 * r.val = 512 * qb t.val + r.val; rw [h0]; omega
  | ⟨1, _⟩ => show 0 * 512 + 1 * l.val = l.val; omega

theorem blkAt_del (c : Dev nD) (t : Fin (cfgT Ideal).N) (r : Fin 512) (l : Fin 8) :
    (blkAt V c t).del (ix2 r l) = (arrOf V c).de (ix2 (row (qb t.val) (qb_lt _) r) l) := by
  have h0 : cc0_transform_4 k0_off1_inb numel1_S1 (pfT Ideal) (crd Ideal t) 0 = qb t.val := (pointFacts Ideal t).2.2.2.2.2.2.2.2.2.2.2.1
  show V c main_v28 _ = V c main_v28 _
  congr 1
  funext a
  apply Fin.ext
  match a with
  | ⟨0, _⟩ => show cc0_transform_4 k0_off1_inb numel1_S1 (pfT Ideal) (crd Ideal t) 0 * 512 + 1 * r.val = 512 * qb t.val + r.val; rw [h0]; omega
  | ⟨1, _⟩ => show 0 * 8 + 1 * l.val = l.val; omega

theorem blkAt_lse (c : Dev nD) (t : Fin (cfgT Ideal).N) (r : Fin 512) (l : Fin 8) :
    (blkAt V c t).lse (ix2 r l) = (arrOf V c).ls (ix2 (row (qb t.val) (qb_lt _) r) l) := by
  have h0 : cc0_transform_5 k0_off1_inb numel1_S1 (pfT Ideal) (crd Ideal t) 0 = qb t.val := (pointFacts Ideal t).2.2.2.2.2.2.2.2.2.2.2.1
  show V c main_v24 _ = V c main_v24 _
  congr 1
  funext a
  apply Fin.ext
  match a with
  | ⟨0, _⟩ => show cc0_transform_5 k0_off1_inb numel1_S1 (pfT Ideal) (crd Ideal t) 0 * 512 + 1 * r.val = 512 * qb t.val + r.val; rw [h0]; omega
  | ⟨1, _⟩ => show 0 * 8 + 1 * l.val = l.val; omega

/-- Every key block comes at or before its query block. -/
theorem kb_le_qb (t : Fin (cfgT Ideal).N) : kb t.val ≤ qb t.val := (by decide +kernel : ∀ n : Fin 36, kb n.val ≤ qb n.val) t

/-- A point's probabilities are the array's; -/
theorem prob_blk (c : Dev nD) (t : Fin (cfgT Ideal).N) (h : Fin 8) (r y : Fin 512) :
    prob (blkAt V c t) (decide (qb t.val = kb t.val)) h r y =
      (arrOf V c).p h (row (qb t.val) (qb_lt _) r) (row (kb t.val) (kb_lt _) y) := by
  unfold prob Arr.p
  have hle := kb_le_qb t
  have hm : (decide (qb t.val = kb t.val) = true → y.val ≤ r.val) ↔
      (row (kb t.val) (kb_lt _) y).val ≤ (row (qb t.val) (qb_lt _) r).val := by
    rw [decide_eq_true_iff]
    show (qb t.val = kb t.val → y.val ≤ r.val) ↔ 512 * kb t.val + y.val ≤ 512 * qb t.val + r.val
    have := y.isLt
    constructor
    · intro hh
      by_cases e : qb t.val = kb t.val
      · have := hh e; omega
      · omega
    · intro hh e; omega
  rw [blkAt_lse]
  simp only [hm, blkAt_q, blkAt_k]

/-- and so are the gradients of the scores. -/
theorem grad_blk (c : Dev nD) (t : Fin (cfgT Ideal).N) (h : Fin 8) (r y : Fin 512) :
    grad (blkAt V c t) (decide (qb t.val = kb t.val)) h r y =
      (arrOf V c).ds h (row (qb t.val) (qb_lt _) r) (row (kb t.val) (kb_lt _) y) := by
  unfold grad Arr.ds
  rw [prob_blk, blkAt_del]
  simp only [blkAt_g, blkAt_v]

end Cert.KernelIdeal.Mla

end
-- ==== Proof.Sums.lean ====
module

public import proofs.«01_k».proof.Proof.Blocks

/-!
The accumulators after any number of points as sums over the points so far, and the sums over all points as sums over
the rows of the arrays.
-/

@[expose] public section

noncomputable section

namespace Cert.KernelIdeal.Mla

open KernelIdeal KernelIdeal.Gen
open Idealize.ShloMosaic
open Idealize.ShloMosaic.TcCoe

/-! ## The schedule -/

/-- On the diagonal a key block is new; -/
theorem kb_new : ∀ n : Fin 36, qb n.val = kb n.val → ∀ t : Fin 36, t.val < n.val → kb t.val ≠ kb n.val := by decide +kernel
/-- off it, it is the one before. -/
theorem kb_old : ∀ n : Fin 36, ¬ qb n.val = kb n.val → 0 < n.val ∧ kb (n.val - 1) = kb n.val := by decide +kernel
/-- After the last query block the key block does not come again. -/
theorem kb_done : ∀ n : Fin 36, qb n.val = 7 → ∀ t : Fin 36, n.val < t.val → kb t.val ≠ kb n.val := by decide +kernel
/-- The points are the pairs of blocks with the key block at or before the query block, each once. -/
theorem pairs_eq : (Finset.range 36).image (fun t => (qb t, kb t)) = (Finset.range 8 ×ˢ Finset.range 8).filter (fun p => p.2 ≤ p.1) := by
  decide +kernel
theorem pairs_inj : ∀ a : Fin 36, ∀ b : Fin 36, (qb a.val, kb a.val) = (qb b.val, kb b.val) → a = b := by decide +kernel

/-- A sum over the points is the sum over those pairs. -/
theorem sum_points (f : ℕ → ℕ → EReal) :
    (∑ t ∈ Finset.range 36, f (qb t) (kb t)) = ∑ i ∈ Finset.range 8, ∑ j ∈ Finset.range 8, if j ≤ i then f i j else 0 := by
  rw [← Finset.sum_product', ← Finset.sum_filter, ← pairs_eq, Finset.sum_image]
  intro a ha b hb e
  have ha' : a < 36 := by simpa using ha
  have hb' : b < 36 := by simpa using hb
  exact congrArg Fin.val (pairs_inj ⟨a, ha'⟩ ⟨b, hb'⟩ e)

/-- Those of one key block: its query blocks. -/
theorem sum_key (f : ℕ → ℕ → EReal) (j : ℕ) (hj : j < 8) :
    (∑ t ∈ Finset.range 36, if kb t = j then f (qb t) (kb t) else 0) = ∑ i ∈ Finset.range 8, if j ≤ i then f i j else 0 := by
  rw [sum_points (fun i j' => if j' = j then f i j' else 0)]
  refine Finset.sum_congr rfl fun i _ => ?_
  rw [Finset.sum_eq_single j]
  · simp
  · intro b _ hb; simp [hb]
  · intro h; exact absurd (Finset.mem_range.2 hj) h

/-- Those of one query block: its key blocks. -/
theorem sum_query (f : ℕ → ℕ → EReal) (i : ℕ) (hi : i < 8) :
    (∑ t ∈ Finset.range 36, if qb t = i then f (qb t) (kb t) else 0) = ∑ j ∈ Finset.range 8, if j ≤ i then f i j else 0 := by
  rw [sum_points (fun i' j => if i' = i then f i' j else 0), Finset.sum_eq_single i]
  · refine Finset.sum_congr rfl fun j _ => ?_
    simp
  · intro b _ hb; simp [hb]
  · intro h; exact absurd (Finset.mem_range.2 hi) h

/-- A sum over 4096 rows, block by block. -/
theorem sum_rows (f : Fin 4096 → EReal) :
    (∑ x : Fin 4096, f x) = ∑ i ∈ Finset.range 8, if hi : i < 8 then ∑ r : Fin 512, f (row i hi r) else 0 := by
  rw [Finset.sum_range (n := 8)]
  rw [← (finProdFinEquiv (m := 8) (n := 512)).sum_comp f, Fintype.sum_prod_type]
  refine Finset.sum_congr rfl fun i _ => ?_
  rw [dif_pos i.isLt]
  refine Finset.sum_congr rfl fun r _ => congrArg f (Fin.ext ?_)
  show r.val + 512 * i.val = 512 * i.val + r.val
  omega

/-! ## The accumulators -/

variable (V : (c : Dev nD) → (b : Ref sig .tc) → Buf (Elt Ideal) ((c.tc : Thread nD τ).loc b))

theorem stepT_dv (c : Dev nD) (t : Fin (cfgT Ideal).N) (prev : St Ideal) :
    (stepT V c t prev).dv = dvStep (payOf (blkAt V c t) (decide (qb t.val = kb t.val))) (if qb t.val = kb t.val then k0_pay3 (F := Ideal) else prev.dv) := by
  unfold stepT payOf
  by_cases e : qb t.val = kb t.val
  · simp only [e, if_true, decide_true]
  · simp only [e, if_false, decide_false, Bool.false_eq_true]

theorem stepT_dk (c : Dev nD) (t : Fin (cfgT Ideal).N) (prev : St Ideal) :
    (stepT V c t prev).dk = dkStep (payOf (blkAt V c t) (decide (qb t.val = kb t.val))) (if qb t.val = kb t.val then k0_pay2 (F := Ideal) else prev.dk) := by
  unfold stepT payOf
  by_cases e : qb t.val = kb t.val
  · simp only [e, if_true, decide_true]
  · simp only [e, if_false, decide_false, Bool.false_eq_true]

theorem stepT_dq (c : Dev nD) (t : Fin (cfgT Ideal).N) (prev : St Ideal) (h0 : t.val = 0 → prev.dq = k0_pay1 (F := Ideal)) :
    (stepT V c t prev).dq = accStep (row_le t) (payOf (blkAt V c t) (decide (qb t.val = kb t.val))) prev.dq := by
  unfold stepT payOf
  by_cases e : qb t.val = kb t.val
  · by_cases z : t.val = 0
    · rw [if_pos e, decide_eq_true e, if_pos rfl, if_pos z, h0 z]
    · rw [if_pos e, decide_eq_true e, if_pos rfl, if_neg z]
  · simp only [e, if_false, decide_false, Bool.false_eq_true]

/-- What the pair of blocks `(i, j)` adds to element `(64 h + d, y)` of dv; -/
def cdv (A : Arr) (h : Fin 8) (d : Fin 64) (y : Fin 512) (i j : ℕ) : EReal :=
  if hi : i < 8 then if hj : j < 8 then ∑ r : Fin 512, A.g (ix2 (row i hi r) (w64 h d)) * A.p h (row i hi r) (row j hj y) else 0 else 0
/-- to element `(128 h + d, y)` of dk; -/
def cdk (A : Arr) (h : Fin 8) (d : Fin 128) (y : Fin 512) (i j : ℕ) : EReal :=
  if hi : i < 8 then if hj : j < 8 then ∑ r : Fin 512, A.q (ix2 (row i hi r) (w128 h d)) * A.ds h (row i hi r) (row j hj y) else 0 else 0
/-- to element `(512 i + r, 128 h + d)` of dq. -/
def cdq (A : Arr) (h : Fin 8) (d : Fin 128) (r : Fin 512) (i j : ℕ) : EReal :=
  if hi : i < 8 then if hj : j < 8 then ∑ y : Fin 512, A.ds h (row i hi r) (row j hj y) * A.k (ix2 (row j hj y) (w128 h d)) else 0 else 0

theorem cdv_blk (c : Dev nD) (t : Fin (cfgT Ideal).N) (h : Fin 8) (d : Fin 64) (y : Fin 512) :
    (∑ r : Fin 512, (blkAt V c t).g (ix2 r (w64 h d)) * prob (blkAt V c t) (decide (qb t.val = kb t.val)) h r y) =
      cdv (arrOf V c) h d y (qb t.val) (kb t.val) := by
  unfold cdv
  rw [dif_pos (qb_lt _), dif_pos (kb_lt _)]
  exact Finset.sum_congr rfl fun r _ => by rw [prob_blk, blkAt_g]

theorem cdk_blk (c : Dev nD) (t : Fin (cfgT Ideal).N) (h : Fin 8) (d : Fin 128) (y : Fin 512) :
    (∑ r : Fin 512, (blkAt V c t).q (ix2 r (w128 h d)) * grad (blkAt V c t) (decide (qb t.val = kb t.val)) h r y) =
      cdk (arrOf V c) h d y (qb t.val) (kb t.val) := by
  unfold cdk
  rw [dif_pos (qb_lt _), dif_pos (kb_lt _)]
  exact Finset.sum_congr rfl fun r _ => by rw [grad_blk, blkAt_q]

theorem cdq_blk (c : Dev nD) (t : Fin (cfgT Ideal).N) (h : Fin 8) (d : Fin 128) (r : Fin 512) :
    (∑ y : Fin 512, grad (blkAt V c t) (decide (qb t.val = kb t.val)) h r y * (blkAt V c t).k (ix2 y (w128 h d))) =
      cdq (arrOf V c) h d r (qb t.val) (kb t.val) := by
  unfold cdq
  rw [dif_pos (qb_lt _), dif_pos (kb_lt _)]
  exact Finset.sum_congr rfl fun y _ => by rw [grad_blk, blkAt_k]

/-- The dv accumulator after point `n`: the sum over the points so far of the same key block. -/
theorem traj_dv (c : Dev nD) (h : Fin 8) (d : Fin 64) (y : Fin 512) : ∀ (n : ℕ) (hn : n < (cfgT Ideal).N),
    (traj V c n hn).dv (ix2 (w64 h d) y) =
      ∑ t ∈ Finset.range (n + 1), if kb t = kb n then cdv (arrOf V c) h d y (qb t) (kb t) else 0 := by
  intro n
  induction n with
  | zero =>
    intro hn
    show (stepT V c ⟨0, hn⟩ st0).dv _ = _
    rw [stepT_dv, dvStep_at, cdv_blk]
    rw [if_pos (show qb 0 = kb 0 from by decide +kernel), pay3_at, zero_add, Finset.sum_range_one, if_pos rfl]
  | succ n ih =>
    intro hn
    show (stepT V c ⟨n + 1, hn⟩ (traj V c n _)).dv _ = _
    rw [stepT_dv, dvStep_at, cdv_blk]
    rw [Finset.sum_range_succ, if_pos rfl]
    congr 1
    · by_cases e : qb (n + 1) = kb (n + 1)
      · rw [if_pos e, pay3_at, Finset.sum_eq_zero]
        intro t ht
        have ht' : t < n + 1 := Finset.mem_range.1 ht
        have hN : n + 1 < 36 := hn
        exact if_neg (kb_new ⟨n + 1, hN⟩ e ⟨t, by omega⟩ ht')
      · rw [if_neg e, ih]
        have := (kb_old ⟨n + 1, hn⟩ e).2
        simp only [Nat.add_sub_cancel] at this
        rw [this]

/-- The dk accumulator likewise. -/
theorem traj_dk (c : Dev nD) (h : Fin 8) (d : Fin 128) (y : Fin 512) : ∀ (n : ℕ) (hn : n < (cfgT Ideal).N),
    (traj V c n hn).dk (ix2 (w128 h d) y) =
      ∑ t ∈ Finset.range (n + 1), if kb t = kb n then cdk (arrOf V c) h d y (qb t) (kb t) else 0 := by
  intro n
  induction n with
  | zero =>
    intro hn
    show (stepT V c ⟨0, hn⟩ st0).dk _ = _
    rw [stepT_dk, dkStep_at, cdk_blk]
    rw [if_pos (show qb 0 = kb 0 from by decide +kernel), pay2_at, zero_add, Finset.sum_range_one, if_pos rfl]
  | succ n ih =>
    intro hn
    show (stepT V c ⟨n + 1, hn⟩ (traj V c n _)).dk _ = _
    rw [stepT_dk, dkStep_at, cdk_blk]
    rw [Finset.sum_range_succ, if_pos rfl]
    congr 1
    · by_cases e : qb (n + 1) = kb (n + 1)
      · rw [if_pos e, pay2_at, Finset.sum_eq_zero]
        intro t ht
        have ht' : t < n + 1 := Finset.mem_range.1 ht
        have hN : n + 1 < 36 := hn
        exact if_neg (kb_new ⟨n + 1, hN⟩ e ⟨t, by omega⟩ ht')
      · rw [if_neg e, ih]
        have := (kb_old ⟨n + 1, hn⟩ e).2
        simp only [Nat.add_sub_cancel] at this
        rw [this]

/-- One point's step of the dq accumulator at an element of query block `i`. -/
theorem step_dq (c : Dev nD) (t : Fin (cfgT Ideal).N) (old : S4096x1024.Idx → EReal) (i : ℕ) (hi : i < 8) (h : Fin 8) (r : Fin 512) (d : Fin 128) :
    accStep (row_le t) (payOf (blkAt V c t) (decide (qb t.val = kb t.val))) old (ix2 (row i hi r) (w128 h d)) =
      old (ix2 (row i hi r) (w128 h d)) + if qb t.val = i then cdq (arrOf V c) h d r (qb t.val) (kb t.val) else 0 := by
  by_cases e : qb t.val = i
  · subst e
    have hr : (row (qb t.val) hi r) = ⟨rowOf (wQ (F := Ideal) (crd Ideal t) (tabQ Ideal)) + r.val, by have := row_le (F := Ideal) t; omega⟩ :=
      Fin.ext (by show 512 * qb t.val + r.val = rowOf _ + r.val; rw [row_eq (F := Ideal) t])
    rw [if_pos rfl]
    conv_lhs => rw [hr]
    rw [accStep_at, ← hr, cdq_blk]
  · rw [if_neg e, add_zero, accStep_other]
    show ¬ (rowOf (wQ (F := Ideal) (crd Ideal t) (tabQ Ideal)) ≤ 512 * i + r.val ∧ 512 * i + r.val < rowOf (wQ (F := Ideal) (crd Ideal t) (tabQ Ideal)) + 512)
    rw [row_eq (F := Ideal) t]
    omega

/-- The dq accumulator after point `n`: the sum over the points so far of the element's query block. -/
theorem traj_dq (c : Dev nD) (i : ℕ) (hi : i < 8) (h : Fin 8) (r : Fin 512) (d : Fin 128) : ∀ (n : ℕ) (hn : n < (cfgT Ideal).N),
    (traj V c n hn).dq (ix2 (row i hi r) (w128 h d)) =
      ∑ t ∈ Finset.range (n + 1), if qb t = i then cdq (arrOf V c) h d r (qb t) (kb t) else 0 := by
  intro n
  induction n with
  | zero =>
    intro hn
    show (stepT V c ⟨0, hn⟩ st0).dq _ = _
    rw [stepT_dq V c ⟨0, hn⟩ st0 (fun _ => rfl), step_dq V c ⟨0, hn⟩ (st0 (F := Ideal)).dq i hi h r d, Finset.sum_range_one]
    show k0_pay1 (F := Ideal) (ix2 (row i hi r) (w128 h d)) + _ = _
    rw [pay1_at, zero_add]
  | succ n ih =>
    intro hn
    show (stepT V c ⟨n + 1, hn⟩ (traj V c n _)).dq _ = _
    rw [stepT_dq V c ⟨n + 1, hn⟩ _ (fun z => absurd z (Nat.succ_ne_zero n)), step_dq V c ⟨n + 1, hn⟩ _ i hi h r d, ih]
    exact (Finset.sum_range_succ _ (n + 1)).symm

/-! ## All the points -/

/-- dv when a key block is done: the sum over all queries. -/
theorem done_dv (c : Dev nD) (t : Fin (cfgT Ideal).N) (ht : qb t.val = 7) (h : Fin 8) (d : Fin 64) (y : Fin 512) :
    (traj V c t.val t.isLt).dv (ix2 (w64 h d) y) =
      ∑ x : Fin 4096, (arrOf V c).g (ix2 x (w64 h d)) * (arrOf V c).p h x (row (kb t.val) (kb_lt _) y) := by
  have hN : t.val < 36 := t.isLt
  rw [traj_dv, sum_rows]
  have e : (∑ t' ∈ Finset.range (t.val + 1), if kb t' = kb t.val then cdv (arrOf V c) h d y (qb t') (kb t') else 0) =
      ∑ t' ∈ Finset.range 36, if kb t' = kb t.val then cdv (arrOf V c) h d y (qb t') (kb t') else 0 := by
    refine Finset.sum_subset (fun x hx => Finset.mem_range.2 (by have := Finset.mem_range.1 hx; omega)) fun x hx hx' => if_neg ?_
    have h1 := Finset.mem_range.1 hx
    exact kb_done ⟨t.val, hN⟩ ht ⟨x, h1⟩ (by by_contra hc; exact hx' (Finset.mem_range.2 (by simp only at hc; omega)))
  rw [e, sum_key _ _ (kb_lt _)]
  refine Finset.sum_congr rfl fun i hi => ?_
  have hi' := Finset.mem_range.1 hi
  rw [dif_pos hi']
  by_cases hle : kb t.val ≤ i
  · rw [if_pos hle]; unfold cdv; rw [dif_pos hi', dif_pos (kb_lt _)]
  · rw [if_neg hle]
    refine (Finset.sum_eq_zero fun r _ => ?_).symm
    rw [Arr.p_after _ _ _ _ (by show 512 * i + r.val < 512 * kb t.val + y.val; have := r.isLt; omega), mul_zero]

/-- dk likewise. -/
theorem done_dk (c : Dev nD) (t : Fin (cfgT Ideal).N) (ht : qb t.val = 7) (h : Fin 8) (d : Fin 128) (y : Fin 512) :
    (traj V c t.val t.isLt).dk (ix2 (w128 h d) y) =
      ∑ x : Fin 4096, (arrOf V c).q (ix2 x (w128 h d)) * (arrOf V c).ds h x (row (kb t.val) (kb_lt _) y) := by
  have hN : t.val < 36 := t.isLt
  rw [traj_dk, sum_rows]
  have e : (∑ t' ∈ Finset.range (t.val + 1), if kb t' = kb t.val then cdk (arrOf V c) h d y (qb t') (kb t') else 0) =
      ∑ t' ∈ Finset.range 36, if kb t' = kb t.val then cdk (arrOf V c) h d y (qb t') (kb t') else 0 := by
    refine Finset.sum_subset (fun x hx => Finset.mem_range.2 (by have := Finset.mem_range.1 hx; omega)) fun x hx hx' => if_neg ?_
    have h1 := Finset.mem_range.1 hx
    exact kb_done ⟨t.val, hN⟩ ht ⟨x, h1⟩ (by by_contra hc; exact hx' (Finset.mem_range.2 (by simp only at hc; omega)))
  rw [e, sum_key _ _ (kb_lt _)]
  refine Finset.sum_congr rfl fun i hi => ?_
  have hi' := Finset.mem_range.1 hi
  rw [dif_pos hi']
  by_cases hle : kb t.val ≤ i
  · rw [if_pos hle]; unfold cdk; rw [dif_pos hi', dif_pos (kb_lt _)]
  · rw [if_neg hle]
    refine (Finset.sum_eq_zero fun r _ => ?_).symm
    rw [Arr.ds_after _ _ _ _ (by show 512 * i + r.val < 512 * kb t.val + y.val; have := r.isLt; omega), mul_zero]

/-- dq after the last point: the sum over all keys. -/
theorem done_dq (c : Dev nD) (i : ℕ) (hi : i < 8) (h : Fin 8) (r : Fin 512) (d : Fin 128) :
    (before V c 36 (Nat.le_refl _)).dq (ix2 (row i hi r) (w128 h d)) =
      ∑ y : Fin 4096, (arrOf V c).ds h (row i hi r) y * (arrOf V c).k (ix2 y (w128 h d)) := by
  have e : before V c 36 (Nat.le_refl _) = traj V c 35 (by show 35 < 36; decide) := before_succ V c 35 _
  rw [e, traj_dq, sum_query _ _ hi, sum_rows]
  refine Finset.sum_congr rfl fun j hj => ?_
  have hj' := Finset.mem_range.1 hj
  rw [dif_pos hj']
  by_cases hle : j ≤ i
  · rw [if_pos hle]; unfold cdq; rw [dif_pos hi, dif_pos hj']
  · rw [if_neg hle]
    refine (Finset.sum_eq_zero fun y _ => ?_).symm
    rw [Arr.ds_after _ _ _ _ (by show 512 * i + r.val < 512 * j + y.val; have := r.isLt; omega), zero_mul]

end Cert.KernelIdeal.Mla

end
-- ==== Proof.Final.lean ====
module

public import proofs.«01_k».proof.Proof.Sums
public import Idealize.ShloMosaic.Lib.Pipeline.Value

/-!
What the three results hold at the end, element by element, as sums over the arrays the call reads.
-/

@[expose] public section

noncomputable section

namespace Cert.KernelIdeal.Mla

open KernelIdeal KernelIdeal.Gen
open Idealize.ShloMosaic
open Idealize.ShloMosaic.TcCoe
open Idealize.ShloMosaic.Pipeline (Dat)

variable (V : (c : Dev nD) → (b : Ref sig .tc) → Buf (Elt Ideal) ((c.tc : Thread nD τ).loc b))

/-- The head and the lane of a column among 1024, and among 512. -/
abbrev hd128 (x : Fin 1024) : Fin 8 := ⟨x.val / 128, by omega⟩
abbrev ln128 (x : Fin 1024) : Fin 128 := ⟨x.val % 128, by omega⟩
abbrev hd64 (x : Fin 512) : Fin 8 := ⟨x.val / 64, by omega⟩
abbrev ln64 (x : Fin 512) : Fin 64 := ⟨x.val % 64, by omega⟩

theorem w128_hd (x : Fin 1024) : w128 (hd128 x) (ln128 x) = x := Fin.ext (by show 128 * (x.val / 128) + x.val % 128 = x.val; omega)
theorem w64_hd (x : Fin 512) : w64 (hd64 x) (ln64 x) = x := Fin.ext (by show 64 * (x.val / 64) + x.val % 64 = x.val; omega)

/-- The transposed gradient of v, the transposed gradient of k, the gradient of q. -/
def Arr.dv (A : Arr) : S512x4096.Idx → EReal := fun i => ∑ x : Fin 4096, A.g (ix2 x (i 0)) * A.p (hd64 (i 0)) x (i 1)
def Arr.dk (A : Arr) : S1024x4096.Idx → EReal := fun i => ∑ x : Fin 4096, A.q (ix2 x (i 0)) * A.ds (hd128 (i 0)) x (i 1)
def Arr.dq (A : Arr) : S4096x1024.Idx → EReal := fun i => ∑ y : Fin 4096, A.ds (hd128 (i 1)) (i 0) y * A.k (ix2 y (i 1))

/-- Every key block is flushed at some point. -/
theorem flush_tab : ∀ j : Fin 8, ∃ n : Fin 36, qb n.val = 7 ∧ kb n.val = j.val := by decide +kernel
theorem flush_at (j : Fin 8) : ∃ t : Fin (cfgT Ideal).N, qb t.val = 7 ∧ kb t.val = j.val := flush_tab j

theorem tr7 (t : Fin (cfgT Ideal).N) : cc0_transform_8 k0_off1_inb numel1_S1 (pfT Ideal) (crd Ideal t) 1 = kb t.val :=
  (pointFacts Ideal t).2.2.2.2.2.2.2.2.2.2.2.2
theorem tr6 (t : Fin (cfgT Ideal).N) : cc0_transform_7 k0_off1_inb numel1_S1 (pfT Ideal) (crd Ideal t) 1 = kb t.val :=
  (pointFacts Ideal t).2.2.2.2.2.2.2.2.2.2.2.2

/-- A flushed block of dv. -/
theorem flushed_dv (c : Dev nD) (t : Fin (cfgT Ideal).N) (ht : qb t.val = 7) (a : Fin 512) (b : Fin 512) :
    (traj V c t.val t.isLt).dv (ix2 a b) = (arrOf V c).dv (ix2 a (row (kb t.val) (kb_lt _) b)) := by
  have e := done_dv V c t ht (hd64 a) (ln64 a) b
  rw [w64_hd] at e
  exact e

/-- The array of dv. -/
theorem final_dv (c : Dev nD) : (dats V 0 c).arrAt (7 : Fin 8) (cfgT Ideal).N = (arrOf V c).dv := by
  refine (dats V 0 c).arrAt_eq_of_cover (7 : Fin 8) ((arrOf V c).dv) (fun t hf => ?_) fun i => ?_
  · have ht : qb t.val = 7 := of_decide_eq_true (((pointFacts Ideal t).2.2.2.2.2.2.2.2.2.2.1).symm.trans hf)
    funext y
    refine (congrArg (traj V c t.val t.isLt).dv (eq_ix2 (show S512x512.Idx from y))).trans ((flushed_dv V c t ht (y 0) (y 1)).trans ?_)
    show (arrOf V c).dv _ = (arrOf V c).dv _
    congr 1
    funext a
    apply Fin.ext
    match a with
    | ⟨0, _⟩ => show (y 0).val = 0 * 512 + 1 * (y 0).val; omega
    | ⟨1, _⟩ => show 512 * kb t.val + (y 1).val = cc0_transform_8 k0_off1_inb numel1_S1 (pfT Ideal) (crd Ideal t) 1 * 512 + 1 * (y 1).val; rw [tr7]; omega
  · have h0 : (i 0 : Nat) < 512 := (i 0).isLt
    have h1 : (i 1 : Nat) < 4096 := (i 1).isLt
    obtain ⟨n, hn7, hnk⟩ := flush_at ⟨(i 1 : Nat) / 512, by omega⟩
    refine ⟨n, (pointFacts Ideal n).2.2.2.2.2.2.2.2.2.2.1.trans (decide_eq_true hn7), ?_⟩
    show i ∈ ((View.whole main_v39_2).slice (((cfgT Ideal).win (7 : Fin 8)).rect n)).set
    rw [View.set_slice_whole, Rect.mem_set_unit]
    intro a
    match a with
    | ⟨0, _⟩ => show 0 * 512 ≤ (i 0 : Nat) ∧ (i 0 : Nat) < 0 * 512 + 512; omega
    | ⟨1, _⟩ =>
      show cc0_transform_8 k0_off1_inb numel1_S1 (pfT Ideal) (crd Ideal n) 1 * 512 ≤ (i 1 : Nat) ∧ (i 1 : Nat) < cc0_transform_8 k0_off1_inb numel1_S1 (pfT Ideal) (crd Ideal n) 1 * 512 + 512
      rw [tr7, hnk]
      show (i 1 : Nat) / 512 * 512 ≤ (i 1 : Nat) ∧ (i 1 : Nat) < (i 1 : Nat) / 512 * 512 + 512
      omega

/-- A flushed block of dk. -/
theorem flushed_dk (c : Dev nD) (t : Fin (cfgT Ideal).N) (ht : qb t.val = 7) (a : Fin 1024) (b : Fin 512) :
    (traj V c t.val t.isLt).dk (ix2 a b) = (arrOf V c).dk (ix2 a (row (kb t.val) (kb_lt _) b)) := by
  have e := done_dk V c t ht (hd128 a) (ln128 a) b
  rw [w128_hd] at e
  exact e

/-- The array of dk. -/
theorem final_dk (c : Dev nD) : (dats V 0 c).arrAt (6 : Fin 8) (cfgT Ideal).N = (arrOf V c).dk := by
  refine (dats V 0 c).arrAt_eq_of_cover (6 : Fin 8) ((arrOf V c).dk) (fun t hf => ?_) fun i => ?_
  · have ht : qb t.val = 7 := of_decide_eq_true (((pointFacts Ideal t).2.2.2.2.2.2.2.2.2.1).symm.trans hf)
    funext y
    refine (congrArg (traj V c t.val t.isLt).dk (eq_ix2 (show S1024x512.Idx from y))).trans ((flushed_dk V c t ht (y 0) (y 1)).trans ?_)
    show (arrOf V c).dk _ = (arrOf V c).dk _
    congr 1
    funext a
    apply Fin.ext
    match a with
    | ⟨0, _⟩ => show (y 0).val = 0 * 1024 + 1 * (y 0).val; omega
    | ⟨1, _⟩ => show 512 * kb t.val + (y 1).val = cc0_transform_7 k0_off1_inb numel1_S1 (pfT Ideal) (crd Ideal t) 1 * 512 + 1 * (y 1).val; rw [tr6]; omega
  · have h0 : (i 0 : Nat) < 1024 := (i 0).isLt
    have h1 : (i 1 : Nat) < 4096 := (i 1).isLt
    obtain ⟨n, hn7, hnk⟩ := flush_at ⟨(i 1 : Nat) / 512, by omega⟩
    refine ⟨n, (pointFacts Ideal n).2.2.2.2.2.2.2.2.2.1.trans (decide_eq_true hn7), ?_⟩
    show i ∈ ((View.whole main_v39_1).slice (((cfgT Ideal).win (6 : Fin 8)).rect n)).set
    rw [View.set_slice_whole, Rect.mem_set_unit]
    intro a
    match a with
    | ⟨0, _⟩ => show 0 * 1024 ≤ (i 0 : Nat) ∧ (i 0 : Nat) < 0 * 1024 + 1024; omega
    | ⟨1, _⟩ =>
      show cc0_transform_7 k0_off1_inb numel1_S1 (pfT Ideal) (crd Ideal n) 1 * 512 ≤ (i 1 : Nat) ∧ (i 1 : Nat) < cc0_transform_7 k0_off1_inb numel1_S1 (pfT Ideal) (crd Ideal n) 1 * 512 + 512
      rw [tr6, hnk]
      show (i 1 : Nat) / 512 * 512 ≤ (i 1 : Nat) ∧ (i 1 : Nat) < (i 1 : Nat) / 512 * 512 + 512
      omega

/-- The array of dq. -/
theorem final_dq (c : Dev nD) : (before V c 36 (Nat.le_refl _)).dq = (arrOf V c).dq := by
  have key : ∀ (a : Fin 4096) (b : Fin 1024), (before V c 36 (Nat.le_refl _)).dq (ix2 a b) = (arrOf V c).dq (ix2 a b) := by
    intro a b
    have hi : a.val / 512 < 8 := by omega
    have hr : row (a.val / 512) hi ⟨a.val % 512, by omega⟩ = a := Fin.ext (by show 512 * (a.val / 512) + a.val % 512 = a.val; omega)
    have e := done_dq V c (a.val / 512) hi (hd128 b) ⟨a.val % 512, by omega⟩ (ln128 b)
    rw [w128_hd, hr] at e
    exact e
  funext z
  exact (congrArg _ (eq_ix2 (show S4096x1024.Idx from z))).trans ((key (z 0) (z 1)).trans (congrArg _ (eq_ix2 (show S4096x1024.Idx from z)).symm))

end Cert.KernelIdeal.Mla

end
-- ==== Proof.Host.lean ====
module

public import proofs.«01_k».proof.Proof.Final
public import proofs.«01_k».proof.Proof.Whole

/-!
What the host's operations leave in the six arrays the call reads, element by element.
-/

@[expose] public section

noncomputable section

namespace Cert.KernelIdeal.Mla

open KernelIdeal KernelIdeal.Gen
open Idealize.ShloMosaic
open Idealize.ShloMosaic.TcCoe

/-! ## The host's values -/

abbrev T96 := FVec Ideal S4096x8x96 .f32
abbrev T64 := FVec Ideal S4096x8x64 .f32

/-- The scaled queries. -/
def hQ (q : T96) : T96 := mulf q (broadcastInDim S4096x8x96 ![] bcast_S_S4096x8x96 (constant S_ .f32 0x3DD105EC#32))
/-- The causal mask. -/
def hKeep : IVec S8x4096x4096 1 :=
  broadcastInDim S8x4096x4096 ![0, 1, 2] bcast_S1x4096x4096_S8x4096x4096_0_1_2
    (cmpi .sle (broadcastInDim S1x4096x4096 ![0, 1, 2] bcast_S1x1x4096_S1x4096x4096_0_1_2 (broadcastInDim S1x1x4096 ![2] bcast_S4096_S1x1x4096_2 (iotaInDim S4096 32 0)))
      (broadcastInDim S1x4096x4096 ![0, 1, 2] bcast_S1x4096x1_S1x4096x4096_0_1_2 (broadcastInDim S1x4096x1 ![1] bcast_S4096_S1x4096x1_1 (iotaInDim S4096 32 0))))
/-- The masked scores. -/
def hL (q k : T96) : FVec Ideal S8x4096x4096 .f32 :=
  select hKeep (Host.dotGeneral dot_S4096x8x96_S4096x8x96_S8x4096x4096_2_2_0_0_1_1 none (hQ q) k)
    (broadcastInDim S8x4096x4096 ![] bcast_S_S8x4096x4096 (constant S_ .f32 0xFF800000#32))
/-- Their row maxima. -/
def hM (q k : T96) : FVec Ideal S8x4096 .f32 :=
  Host.reduce FloatOps.maximumf (hL q k) (constant S_ .f32 0xFF800000#32) reducesTo_S8x4096x4096_S8x4096_d2 h_S_
def hM1 (q k : T96) : FVec Ideal S8x4096x1 .f32 := broadcastInDim S8x4096x1 ![0, 1] bcast_S8x4096_S8x4096x1_0_1 (hM q k)
/-- The exponentials. -/
def hE (q k : T96) : FVec Ideal S8x4096x4096 .f32 :=
  Host.exp (subf (hL q k) (broadcastInDim S8x4096x4096 ![0, 1, 2] bcast_S8x4096x1_S8x4096x4096_0_1_2 (hM1 q k)))
/-- Their row sums. -/
def hS (q k : T96) : FVec Ideal S8x4096 .f32 :=
  Host.reduceAdd (hE q k) (constant S_ .f32 0x00000000#32) reducesTo_S8x4096x4096_S8x4096_d2 h_S_
def hS1 (q k : T96) : FVec Ideal S8x4096x1 .f32 := broadcastInDim S8x4096x1 ![0, 1] bcast_S8x4096_S8x4096x1_0_1 (hS q k)
/-- The probabilities. -/
def hP (q k : T96) : FVec Ideal S8x4096x4096 .f32 :=
  Host.divf (hE q k) (broadcastInDim S8x4096x4096 ![0, 1, 2] bcast_S8x4096x1_S8x4096x4096_0_1_2 (hS1 q k))
/-- The log-sum-exp of every row, transposed. -/
def hLse (q k : T96) : FVec Ideal S4096x8 .f32 :=
  transpose S4096x8 [1, 0] (shapeCast S8x4096 (addf (hM1 q k) (Host.log (hS1 q k))) shapeCasts_S8x4096x1_S8x4096) transposes_S8x4096_S4096x8_1_0
/-- The attention's output. -/
def hOut (q k : T96) (v : T64) : T64 :=
  transpose S4096x8x64 [2, 0, 1] (Host.dotGeneral dot_S4096x8x64_S8x4096x4096_S8x64x4096_0_2_2_1_1_0 none v (hP q k)) transposes_S8x64x4096_S4096x8x64_2_0_1
/-- Its product with the cotangent, summed over the lanes. -/
def hDel (q k : T96) (v ct : T64) : FVec Ideal S4096x8 .f32 :=
  Host.reduceAdd (mulf ct (hOut q k v)) (constant S_ .f32 0x00000000#32) reducesTo_S4096x8x64_S4096x8_d2 h_S_
/-- Queries and keys, each head padded with zeros to 128 lanes. -/
def hPad (x : T96) : FVec Ideal S4096x1024 .bf16 :=
  truncf .bf16 (shapeCast S4096x1024 (pad S4096x8x128 ![0, 0, 0] ![0, 0, 32] ![0, 0, 0] x (constant S_ .f32 0x00000000#32)
    pads_S4096x8x96_S4096x8x128_000_000_0320 h_S_) shapeCasts_S4096x8x128_S4096x1024) bitsLt_bf16_f32
def hFlat (x : T64) : FVec Ideal S4096x512 .bf16 := truncf .bf16 (shapeCast S4096x512 x shapeCasts_S4096x8x64_S4096x512) bitsLt_bf16_f32

section Read
variable (m : (ℓ : Loc nD τ sig) → Buf (Elt Ideal) ℓ) (c : Dev nD)

abbrev aQ : T96 := m (c.tc.loc main_arg0)
abbrev aK : T96 := m (c.tc.loc main_arg1)
abbrev aV : T64 := m (c.tc.loc main_arg2)
abbrev aCt : T64 := m (c.tc.loc main_arg3)

theorem VH_q : VH m c main_v31 = hPad (hQ (aQ m c)) := by
  show StableHlo.after hostOps0 (fun b => m (c, b)) (Proc.devRef .tc main_v31) = _
  after_results_simp
  rfl
theorem VH_k : VH m c main_v34 = hPad (aK m c) := by
  show StableHlo.after hostOps0 (fun b => m (c, b)) (Proc.devRef .tc main_v34) = _
  after_results_simp
  rfl
theorem VH_v : VH m c main_v36 = hFlat (aV m c) := by
  show StableHlo.after hostOps0 (fun b => m (c, b)) (Proc.devRef .tc main_v36) = _
  after_results_simp
  rfl
theorem VH_g : VH m c main_v38 = hFlat (aCt m c) := by
  show StableHlo.after hostOps0 (fun b => m (c, b)) (Proc.devRef .tc main_v38) = _
  after_results_simp
  rfl
theorem VH_ls : VH m c main_v24 = hLse (aQ m c) (aK m c) := by
  show StableHlo.after hostOps0 (fun b => m (c, b)) (Proc.devRef .tc main_v24) = _
  after_results_simp
  rfl
theorem VH_de : VH m c main_v28 = hDel (aQ m c) (aK m c) (aV m c) (aCt m c) := by
  show StableHlo.after hostOps0 (fun b => m (c, b)) (Proc.devRef .tc main_v28) = _
  after_results_simp
  rfl
end Read

end Cert.KernelIdeal.Mla

end
-- ==== Proof.HostAt.lean ====
module

public import proofs.«01_k».proof.Proof.Host

/-!
The host's values read at an index.
-/

@[expose] public section

noncomputable section

namespace Cert.KernelIdeal.Mla

open KernelIdeal KernelIdeal.Gen
open Idealize.ShloMosaic
open Idealize.ShloMosaic.TcCoe

/-- The scale of the scores. -/
def scl : EReal := Ideal.ofBits .f32 0x3DD105EC#32

theorem hQ_at (q : T96) (r : Fin 4096) (h : Fin 8) (d : Fin 96) : hQ q (ix3 r h d) = q (ix3 r h d) * scl := by
  pointwise [hQ]
  rfl

theorem ninf_bot : Ideal.ofBits .f32 0xFF800000#32 = (⊥ : EReal) := rfl

/-- The causal comparison of two positions. -/
theorem sle_pos (r c : Fin 4096) :
    IntOp.cmpi CmpIPredicate.sle (BitVec.ofNat 32 c.val) (BitVec.ofNat 32 r.val) = BitVec.ofBool (decide (c.val ≤ r.val)) := by
  have hr := r.isLt
  have hc := c.isLt
  show BitVec.ofBool (BitVec.sle (BitVec.ofNat 32 c.val) (BitVec.ofNat 32 r.val)) = _
  congr 1
  have e1 : (BitVec.ofNat 32 c.val).toInt = c.val := by
    rw [BitVec.toInt_eq_toNat_of_lt] <;> rw [BitVec.toNat_ofNat, Nat.mod_eq_of_lt] <;> omega
  have e2 : (BitVec.ofNat 32 r.val).toInt = r.val := by
    rw [BitVec.toInt_eq_toNat_of_lt] <;> rw [BitVec.toNat_ofNat, Nat.mod_eq_of_lt] <;> omega
  rw [BitVec.sle, e1, e2]
  exact decide_eq_decide.2 (by omega)

theorem hL_at (q k : T96) (h : Fin 8) (r c : Fin 4096) :
    hL q k (ix3 h r c) = if c.val ≤ r.val then ∑ d : Fin 96, hQ q (ix3 r h d) * k (ix3 c h d) else ⊥ := by
  pointwise [hL, hKeep]
  rw [sle_pos, ninf_bot]
  by_cases hc : c.val ≤ r.val
  · rw [if_pos hc, decide_eq_true hc]; rfl
  · rw [if_neg hc, decide_eq_false hc]; rfl

theorem hM_at (q k : T96) (h : Fin 8) (r : Fin 4096) :
    hM q k (ix2 h r) = Finset.univ.fold max ⊥ (fun c : Fin 4096 => hL q k (ix3 h r c)) := by
  pointwise [hM]
  rw [ninf_bot]

theorem hE_at (q k : T96) (h : Fin 8) (r c : Fin 4096) : hE q k (ix3 h r c) = Ideal.exp (hL q k (ix3 h r c) - hM q k (ix2 h r)) := by
  pointwise [hE, hM1]

theorem hS_at (q k : T96) (h : Fin 8) (r : Fin 4096) : hS q k (ix2 h r) = ∑ c : Fin 4096, hE q k (ix3 h r c) := by
  pointwise [hS]

theorem hP_at (q k : T96) (h : Fin 8) (r c : Fin 4096) : hP q k (ix3 h r c) = Ideal.div (hE q k (ix3 h r c)) (hS q k (ix2 h r)) := by
  pointwise [hP, hS1]

/-- The log-sum-exps before they are reshaped. -/
def hLse1 (q k : T96) : FVec Ideal S8x4096x1 .f32 := addf (hM1 q k) (Host.log (hS1 q k))

theorem hM1_at (q k : T96) (h : Fin 8) (r : Fin 4096) : hM1 q k (ix3 h r 0) = hM q k (ix2 h r) := by
  unfold hM1
  generalize hM q k = y
  pointwise []
theorem hS1_at (q k : T96) (h : Fin 8) (r : Fin 4096) : hS1 q k (ix3 h r 0) = hS q k (ix2 h r) := by
  unfold hS1
  generalize hS q k = y
  pointwise []

theorem add_log_at (a b : FVec Ideal S8x4096x1 .f32) (i : S8x4096x1.Idx) :
    Idealize.ShloMosaic.addf a (Host.log b) i = (a i : EReal) + Ideal.log (b i) := rfl

theorem hLse1_at (q k : T96) (h : Fin 8) (r : Fin 4096) : hLse1 q k (ix3 h r 0) = hM q k (ix2 h r) + Ideal.log (hS q k (ix2 h r)) := by
  rw [hLse1, add_log_at, hM1_at, hS1_at]

theorem hLse_at (q k : T96) (r : Fin 4096) (h : Fin 8) : hLse q k (ix2 r h) = hM q k (ix2 h r) + Ideal.log (hS q k (ix2 h r)) := by
  rw [← hLse1_at]
  show transpose S4096x8 [1, 0] (shapeCast S8x4096 (hLse1 q k) shapeCasts_S8x4096x1_S8x4096) transposes_S8x4096_S4096x8_1_0 (ix2 r h) = _
  generalize hLse1 q k = y
  refine (transpose_apply [1, 0] (shapeCast S8x4096 y shapeCasts_S8x4096x1_S8x4096) transposes_S8x4096_S4096x8_1_0 (ix2 r h) (ix2 h r)
    (fun a => by match a with | ⟨0, _⟩ => rfl | ⟨1, _⟩ => rfl)).trans ?_
  exact shapeCast_apply y shapeCasts_S8x4096x1_S8x4096 (ix2 h r) (ix3 h r 0)
    (by rewrite [Shape.rowMajor_val_three, Shape.rowMajor_val_two]; show (h.val * 4096 + r.val) * 1 + 0 = h.val * 4096 + r.val; omega)

/-! ## The product of the values and the probabilities -/

abbrev dOut := dot_S4096x8x64_S8x4096x4096_S8x64x4096_0_2_2_1_1_0

theorem dOut_l0 (i : S8x64x4096.Idx) (q : dOut.contr.Idx) : (dOut.lhsIdx i q 0).val = (q ⟨0, by decide⟩).val :=
  dOut.lhsIdx_val_of_single rfl i q
theorem dOut_l1 (i : S8x64x4096.Idx) (q : dOut.contr.Idx) : (dOut.lhsIdx i q 1).val = (i 0).val := by
  unfold DotDims.lhsIdx
  rw [dif_pos (show (1 : Fin S4096x8x64.rank) ∈ dOut.lhsBatch by decide)]
  rfl
theorem dOut_l2 (i : S8x64x4096.Idx) (q : dOut.contr.Idx) : (dOut.lhsIdx i q 2).val = (i 1).val := by
  unfold DotDims.lhsIdx
  rw [dif_neg (show ¬(2 : Fin S4096x8x64.rank) ∈ dOut.lhsBatch by decide), dif_pos (show (2 : Fin S4096x8x64.rank) ∈ dOut.lhsNonContracting by decide)]
  rfl
theorem dOut_r0 (i : S8x64x4096.Idx) (q : dOut.contr.Idx) : (dOut.rhsIdx i q 0).val = (i 0).val := by
  unfold DotDims.rhsIdx
  rw [dif_pos (show (0 : Fin S8x4096x4096.rank) ∈ dOut.rhsBatch by decide)]
  rfl
theorem dOut_r1 (i : S8x64x4096.Idx) (q : dOut.contr.Idx) : (dOut.rhsIdx i q 1).val = (i 2).val := by
  unfold DotDims.rhsIdx
  rw [dif_neg (show ¬(1 : Fin S8x4096x4096.rank) ∈ dOut.rhsBatch by decide), dif_pos (show (1 : Fin S8x4096x4096.rank) ∈ dOut.rhsNonContracting by decide)]
  rfl
theorem dOut_r2 (i : S8x64x4096.Idx) (q : dOut.contr.Idx) : (dOut.rhsIdx i q 2).val = (q ⟨0, by decide⟩).val :=
  dOut.rhsIdx_val_of_single rfl i q

theorem dOut_at (x : FVec Ideal S4096x8x64 .f32) (y : FVec Ideal S8x4096x4096 .f32) (h : Fin 8) (d : Fin 64) (r : Fin 4096) :
    (Host.dotGeneral dOut none x y : FVec Ideal S8x64x4096 .f32) (ix3 h d r) = ∑ c : Fin 4096, x (ix3 c h d) * y (ix3 h r c) := by
  simp only [Host.dotGeneral]
  rw [Ideal.dotGeneral_apply, ← Equiv.sum_comp (ValueIdx.contrEquiv1 dOut 4096 rfl rfl).symm]
  refine Finset.sum_congr rfl fun k _ => ?_
  have hk := ValueIdx.contrEquiv1_symm_val dOut 4096 rfl rfl k
  have el : dOut.lhsIdx (ix3 h d r) ((ValueIdx.contrEquiv1 dOut 4096 rfl rfl).symm k) = ix3 k h d := funext fun a => Fin.ext (by
    match a with
    | ⟨0, _⟩ => exact (dOut_l0 _ _).trans hk
    | ⟨1, _⟩ => exact dOut_l1 _ _
    | ⟨2, _⟩ => exact dOut_l2 _ _)
  have er : dOut.rhsIdx (ix3 h d r) ((ValueIdx.contrEquiv1 dOut 4096 rfl rfl).symm k) = ix3 h r k := funext fun a => Fin.ext (by
    match a with
    | ⟨0, _⟩ => exact dOut_r0 _ _
    | ⟨1, _⟩ => exact dOut_r1 _ _
    | ⟨2, _⟩ => exact (dOut_r2 _ _).trans hk)
  rw [el, er]

theorem hOut_at (q k : T96) (v : T64) (r : Fin 4096) (h : Fin 8) (d : Fin 64) :
    hOut q k v (ix3 r h d) = ∑ c : Fin 4096, v (ix3 c h d) * hP q k (ix3 h r c) := by
  rw [← dOut_at]
  unfold hOut
  generalize Host.dotGeneral dOut none v (hP q k) = y
  exact transpose_apply [2, 0, 1] y transposes_S8x64x4096_S4096x8x64_2_0_1 (ix3 r h d) (ix3 h d r)
    (fun a => by match a with | ⟨0, _⟩ => rfl | ⟨1, _⟩ => rfl | ⟨2, _⟩ => rfl)

theorem hDel_at (q k : T96) (v ct : T64) (r : Fin 4096) (h : Fin 8) :
    hDel q k v ct (ix2 r h) = ∑ d : Fin 64, ct (ix3 r h d) * hOut q k v (ix3 r h d) := by
  pointwise [hDel]

/-! ## The padded arrays -/

theorem hPad_at (x : T96) (r : Fin 4096) (h : Fin 8) (d : Fin 128) :
    hPad x (ix2 r (w128 h d)) = if hd : d.val < 96 then x (ix3 r h ⟨d.val, hd⟩) else 0 := by
  pointwise [hPad]
  have e1 : (128 * h.val + d.val) / 128 = h.val := by have := d.isLt; omega
  have e2 : (128 * h.val + d.val) % 128 = d.val := by have := d.isLt; omega
  by_cases hd : d.val < 96
  · rw [dif_pos ⟨by rw [e1]; exact h.isLt, by rw [e2]; exact hd⟩, dif_pos hd]
    congr 2 <;> exact Fin.ext (by assumption)
  · rw [dif_neg (by rw [e2]; exact fun hh => hd hh.2), dif_neg hd]

theorem hFlat_at (x : T64) (r : Fin 4096) (h : Fin 8) (d : Fin 64) : hFlat x (ix2 r (w64 h d)) = x (ix3 r h d) := by
  pointwise [hFlat]
  have e1 : (64 * h.val + d.val) / 64 = h.val := by have := d.isLt; omega
  have e2 : (64 * h.val + d.val) % 64 = d.val := by have := d.isLt; omega
  congr 2 <;> exact Fin.ext (by assumption)

end Cert.KernelIdeal.Mla

end
-- ==== Proof.Reals.lean ====
module

public import proofs.«01_k».proof.Proof.HostAt

/-!
Facts on the extended reals: sums, quotients and maxima of real numbers, and the softmax's backward over the reals.
-/

@[expose] public section

noncomputable section

namespace Cert.KernelIdeal.Mla

open Idealize.ShloMosaic

theorem coe_sum_real {n : ℕ} (f : Fin n → ℝ) : (∑ i, (f i : EReal)) = ((∑ i, f i : ℝ) : EReal) := by
  have h : ∀ s : Finset (Fin n), (∑ i ∈ s, (f i : EReal)) = ((∑ i ∈ s, f i : ℝ) : EReal) := by
    intro s
    induction s using Finset.induction_on with
    | empty => rfl
    | insert a s ha ih => rw [Finset.sum_insert ha, Finset.sum_insert ha, ih, EReal.coe_add]
  exact h _

theorem coe_dot {n : ℕ} (f g : Fin n → ℝ) : (∑ i, (f i : EReal) * (g i : EReal)) = ((∑ i, f i * g i : ℝ) : EReal) := by
  rw [← coe_sum_real]
  exact Finset.sum_congr rfl fun i _ => (EReal.coe_mul _ _).symm

theorem div_real (a b : ℝ) (hb : b ≠ 0) : Ideal.div (a : EReal) (b : EReal) = ((a / b : ℝ) : EReal) := by
  rw [Ideal.div_coe hb, ← EReal.coe_mul, mul_one_div]

/-- The maximum of finitely many values, none +∞ and one above −∞, is a real number. -/
theorem max_real {n : ℕ} (f : Fin n → EReal) (ht : ∀ i, f i ≠ ⊤) (i : Fin n) (hb : f i ≠ ⊥) :
    ∃ M : ℝ, Finset.univ.fold max ⊥ f = (M : EReal) := by
  have h1 : Finset.univ.fold max ⊥ f ≠ ⊤ := by
    refine ne_of_lt ((Finset.fold_max_lt _).2 ⟨bot_lt_top, fun j _ => lt_top_iff_ne_top.2 (ht j)⟩)
  have h2 : Finset.univ.fold max ⊥ f ≠ ⊥ := by
    have := (Finset.le_fold_max (s := Finset.univ) (b := (⊥ : EReal)) (f := f) (f i)).2 (Or.inr ⟨i, Finset.mem_univ _, le_refl _⟩)
    intro h
    rw [h] at this
    exact hb (le_bot_iff.1 this)
  exact ⟨_, (EReal.coe_toReal h1 h2).symm⟩

/-- A product over 128 lanes, both sides zero from lane 96 on, is the product over 96 lanes. -/
theorem sum_lanes (f g : Fin 96 → EReal) :
    (∑ d : Fin 128, (if hd : d.val < 96 then f ⟨d.val, hd⟩ else 0) * (if hd : d.val < 96 then g ⟨d.val, hd⟩ else 0)) = ∑ d : Fin 96, f d * g d := by
  rw [show (∑ d : Fin 128, (if hd : d.val < 96 then f ⟨d.val, hd⟩ else 0) * (if hd : d.val < 96 then g ⟨d.val, hd⟩ else 0)) =
    ∑ d : Fin (96 + 32), (if hd : d.val < 96 then f ⟨d.val, hd⟩ else 0) * (if hd : d.val < 96 then g ⟨d.val, hd⟩ else 0) from rfl, Fin.sum_univ_add]
  have e : (∑ d : Fin 32, (if hd : (Fin.natAdd 96 d).val < 96 then f ⟨(Fin.natAdd 96 d).val, hd⟩ else 0) *
      (if hd : (Fin.natAdd 96 d).val < 96 then g ⟨(Fin.natAdd 96 d).val, hd⟩ else 0)) = 0 :=
    Finset.sum_eq_zero fun d _ => by
      rw [dif_neg (show ¬ (Fin.natAdd 96 d).val < 96 by rw [Fin.val_natAdd]; omega), zero_mul]
  rw [e, add_zero]
  refine Finset.sum_congr rfl fun d _ => ?_
  rw [dif_pos (show (Fin.castAdd 32 d).val < 96 from d.isLt), dif_pos (show (Fin.castAdd 32 d).val < 96 from d.isLt)]
  rfl

/-- The softmax's backward over the reals: the form with the saved row sum of output times cotangent, and the one of the
    quotient's derivative. `e` are a row's exponentials, `l` their sum, `g` the row's cotangent, `v` the values. -/
theorem softmax_bwd {n k : ℕ} (e : Fin n → ℝ) (l : ℝ) (hl : l ≠ 0) (g : Fin k → ℝ) (v : Fin n → Fin k → ℝ) (c : Fin n) :
    (e c / l) * ((∑ d, g d * v c d) - ∑ d, g d * ∑ c', v c' d * (e c' / l)) =
      ((∑ d, g d * v c d) / l + -(∑ c', ((∑ d, g d * v c' d) * (1 / (l * l))) * e c')) * e c := by
  have h : (∑ d, g d * ∑ c', v c' d * (e c' / l)) = l * ∑ c', ((∑ d, g d * v c' d) * (1 / (l * l))) * e c' := by
    simp only [Finset.mul_sum, Finset.sum_mul]
    rw [Finset.sum_comm]
    refine Finset.sum_congr rfl fun c' _ => Finset.sum_congr rfl fun d _ => ?_
    field_simp
  rw [h]
  field_simp
  ring

/-- A causal row of real scores: its exponentials less the maximum are real and zero after the row's position, their sum
    is a positive real, and the exponential of a score less the row's log-sum-exp is the quotient of the two. -/
theorem softmax_row (r : Fin 4096) (x : Fin 4096 → ℝ) (L : Fin 4096 → EReal) (M S : EReal) (E : Fin 4096 → EReal)
    (hL : ∀ c, L c = if c.val ≤ r.val then (x c : EReal) else ⊥) (hM : M = Finset.univ.fold max ⊥ L)
    (hE : ∀ c, E c = Ideal.exp (L c - M)) (hS : S = ∑ c, E c) :
    ∃ e : Fin 4096 → ℝ, ∃ l : ℝ, 0 < l ∧ (∀ c, E c = (e c : EReal)) ∧ S = (l : EReal) ∧ (∀ c, ¬ c.val ≤ r.val → e c = 0) ∧
      ∀ c, Ideal.exp (L c - (M + Ideal.log S)) = ((e c / l : ℝ) : EReal) := by
  obtain ⟨m, hm⟩ := max_real L (fun c => by rw [hL]; split; exact EReal.coe_ne_top _; exact bot_ne_top) r
    (by rw [hL, if_pos (le_refl _)]; exact EReal.coe_ne_bot _)
  rw [hm] at hM
  have he : ∀ c, E c = ((if c.val ≤ r.val then Real.exp (x c - m) else 0 : ℝ) : EReal) := by
    intro c
    rw [hE, hL, hM]
    by_cases hc : c.val ≤ r.val
    · rw [if_pos hc, if_pos hc, ← EReal.coe_sub, Ideal.exp_coe]
    · rw [if_neg hc, if_neg hc, sub_eq_add_neg, EReal.bot_add]; rfl
  have hl : 0 < ∑ c : Fin 4096, (if c.val ≤ r.val then Real.exp (x c - m) else 0 : ℝ) := by
    refine Finset.sum_pos' (fun c _ => ?_) ⟨r, Finset.mem_univ _, ?_⟩
    · split
      · exact (Real.exp_pos _).le
      · exact le_refl _
    · rw [if_pos (le_refl _)]; exact Real.exp_pos _
  have hs : S = ((∑ c : Fin 4096, (if c.val ≤ r.val then Real.exp (x c - m) else 0 : ℝ) : ℝ) : EReal) := by
    rw [hS, ← coe_sum_real]
    exact Finset.sum_congr rfl fun c _ => he c
  refine ⟨_, _, hl, he, hs, fun c hc => if_neg hc, fun c => ?_⟩
  rw [hs, hM, hL, Ideal.log_coe, if_neg (not_le.2 hl), ← EReal.coe_add]
  by_cases hc : c.val ≤ r.val
  · rw [if_pos hc, if_pos hc, ← EReal.coe_sub, Ideal.exp_coe, sub_add_eq_sub_sub, Real.exp_sub, Real.exp_log hl]
  · rw [if_neg hc, if_neg hc, sub_eq_add_neg, EReal.bot_add, zero_div]; rfl

/-- The scale is a real number. -/
theorem scl_real : ∃ s : ℝ, scl = (s : EReal) := ⟨_, rfl⟩

end Cert.KernelIdeal.Mla

end
-- ==== Proof.RefAt.lean ====
module

public import proofs.«01_k».proof.Proof.HostAt
public import proofs.«01_k».proof.Proof.Gen.ReferenceIdeal.Read

/-!
The reference's values, operation by operation. Its forward part is the host code's of the kernel's program, up to a
maximum with −∞, so those values are the ones of `Host`; the backward part is read at an index.
-/

@[expose] public section

noncomputable section

namespace Cert.ReferenceIdeal.Mla

open ReferenceIdeal ReferenceIdeal.Gen ReferenceIdeal.Read
open Idealize.ShloMosaic
open Idealize.ShloMosaic.TcCoe
open KernelIdeal.Mla (T96 T64 hQ hKeep hL hM hM1 hE hS hS1 hP hPad hFlat w128 w64)

theorem v1_eq (q : T96) : (val_main_v1 (F := Ideal) q : T96) = hQ q := rfl
theorem v11_eq (q k : T96) : (val_main_v11 (F := Ideal) q k) = hL q k := rfl
theorem v13_eq (q k : T96) : (val_main_v13 (F := Ideal) q k) = hM q k := rfl
theorem v20_eq (q k : T96) : (val_main_v20 (F := Ideal) q k) = hM q k := by
  rw [← v13_eq]
  refine funext fun i => ?_
  rw [val_main_v20_apply, val_main_v19_apply]
  generalize val_main_v13 (F := Ideal) q k i = y
  show max (Ideal.ofBits .f32 0xFF800000#32) y = y
  rw [KernelIdeal.Mla.ninf_bot]
  exact max_eq_right bot_le

theorem v33_eq (q k : T96) : (val_main_v33 (F := Ideal) q k) = hE q k := by
  unfold val_main_v33 val_main_v32 val_main_v31 val_main_v30
  rw [v11_eq, v20_eq]
  rfl
theorem v34_eq (q k : T96) : (val_main_v34 (F := Ideal) q k) = hS q k := by
  unfold val_main_v34
  rw [v33_eq]
  rfl
theorem v35_eq (q k : T96) : (val_main_v35 (F := Ideal) q k) = hS1 q k := by
  unfold val_main_v35
  rw [v34_eq]
  rfl
theorem v37_eq (q k : T96) : (val_main_v37 (F := Ideal) q k) = hP q k := by
  unfold val_main_v37 val_main_v36
  rw [v33_eq, v35_eq]
  rfl

/-! ## The backward part -/

theorem v43_at (ct : T64) (h : Fin 8) (d : Fin 64) (r : Fin 4096) : val_main_v43 (F := Ideal) ct (ix3 h d r) = ct (ix3 r h d) := by
  refine (val_main_v43_apply (F := Ideal) ct (ix3 h d r)).trans (congrArg ct (funext fun a => ?_))
  match a with | ⟨0, _⟩ => rfl | ⟨1, _⟩ => rfl | ⟨2, _⟩ => rfl

theorem v44_at (v ct : T64) (h : Fin 8) (r c : Fin 4096) :
    val_main_v44 (F := Ideal) v ct (ix3 h r c) = ∑ d : Fin 64, ct (ix3 r h d) * v (ix3 c h d) := by
  refine (val_main_v44_apply v ct (ix3 h r c)).trans (Finset.sum_congr rfl fun d _ => ?_)
  rw [← v43_at ct]
  refine congrArg₂ (· * ·) (congrArg _ (funext fun a => ?_)) (congrArg v (funext fun a => ?_))
  · match a with | ⟨0, _⟩ => rfl | ⟨1, _⟩ => rfl | ⟨2, _⟩ => rfl
  · match a with | ⟨0, _⟩ => rfl | ⟨1, _⟩ => rfl | ⟨2, _⟩ => rfl

theorem v45_at (q k : T96) (ct : T64) (h : Fin 8) (d : Fin 64) (c : Fin 4096) :
    val_main_v45 (F := Ideal) q k ct (ix3 h d c) = ∑ r : Fin 4096, ct (ix3 r h d) * hP q k (ix3 h r c) := by
  refine (val_main_v45_apply q k ct (ix3 h d c)).trans (Finset.sum_congr rfl fun r _ => ?_)
  rw [v37_eq, ← v43_at ct]
  refine congrArg₂ (· * ·) (congrArg _ (funext fun a => ?_)) (congrArg (hP q k) (funext fun a => ?_))
  · match a with | ⟨0, _⟩ => rfl | ⟨1, _⟩ => rfl | ⟨2, _⟩ => rfl
  · match a with | ⟨0, _⟩ => rfl | ⟨1, _⟩ => rfl | ⟨2, _⟩ => rfl

theorem v35_at (q k : T96) (h : Fin 8) (r : Fin 4096) : val_main_v35 (F := Ideal) q k (ix3 h r 0) = hS q k (ix2 h r) := by
  rw [v35_eq]
  exact KernelIdeal.Mla.hS1_at q k h r

/-- The reciprocal of the squared row sum. -/
theorem v40_at (q k : T96) (h : Fin 8) (r : Fin 4096) :
    val_main_v40 (F := Ideal) q k (ix3 h r 0) = Ideal.div 1 (hS q k (ix2 h r) * hS q k (ix2 h r)) := by
  rw [← v35_at, val_main_v40_apply, val_main_v39_apply, val_main_v38_apply]
  generalize val_main_v35 (F := Ideal) q k (ix3 h r 0) = y
  show Ideal.div (Ideal.ofBits .f32 0x3F800000#32) (y * y) = _
  rw [Ideal.ofBits_one_f32]

/-- The second term of the softmax's backward: a row sum. -/
theorem v49_at (q k : T96) (v ct : T64) (h : Fin 8) (r c : Fin 4096) :
    val_main_v49 (F := Ideal) q k v ct (ix3 h r c) =
      (val_main_v44 (F := Ideal) v ct (ix3 h r c) * Ideal.div 1 (hS q k (ix2 h r) * hS q k (ix2 h r))) * hE q k (ix3 h r c) := by
  rw [val_main_v49_apply, val_main_v48_apply, v33_eq, ← v40_at]
  have e : val_main_v47 (F := Ideal) q k (ix3 h r c) = val_main_v40 (F := Ideal) q k (ix3 h r 0) := by
    refine (val_main_v47_apply (F := Ideal) q k (ix3 h r c)).trans (congrArg _ (funext fun a => ?_))
    match a with | ⟨0, _⟩ => rfl | ⟨1, _⟩ => rfl | ⟨2, _⟩ => rfl
  rw [e]
  rfl

theorem v50_at (q k : T96) (v ct : T64) (h : Fin 8) (r : Fin 4096) :
    val_main_v50 (F := Ideal) q k v ct (ix2 h r) =
      ∑ c : Fin 4096, (val_main_v44 (F := Ideal) v ct (ix3 h r c) * Ideal.div 1 (hS q k (ix2 h r) * hS q k (ix2 h r))) * hE q k (ix3 h r c) := by
  rw [val_main_v50_apply]
  rw [show (∑ c : Fin 4096, (val_main_v44 (F := Ideal) v ct (ix3 h r c) * Ideal.div 1 (hS q k (ix2 h r) * hS q k (ix2 h r))) * hE q k (ix3 h r c)) =
    ∑ c : Fin 4096, val_main_v49 (F := Ideal) q k v ct (ix3 h r c) from Finset.sum_congr rfl fun c _ => (v49_at q k v ct h r c).symm]
  generalize val_main_v49 (F := Ideal) q k v ct = y
  show Ideal.ofBits .f32 0x00000000#32 + _ = _
  rw [Ideal.ofBits_zero_f32, zero_add]
  refine Finset.sum_congr rfl fun c _ => congrArg y (funext fun a => ?_)
  match a with | ⟨0, _⟩ => rfl | ⟨1, _⟩ => rfl | ⟨2, _⟩ => rfl

theorem v52_at (q k : T96) (v ct : T64) (h : Fin 8) (r : Fin 4096) (z : Fin 1) :
    val_main_v52 (F := Ideal) q k v ct (ix3 h r z) = - (val_main_v50 (F := Ideal) q k v ct (ix2 h r) : EReal) := by
  rw [val_main_v52_apply]
  refine congrArg (fun y : EReal => -y) ((val_main_v51_apply (F := Ideal) q k v ct (ix3 h r z)).trans ?_)
  generalize val_main_v50 (F := Ideal) q k v ct = y
  refine congrArg y (funext fun a => ?_)
  have hz := z.isLt
  have hr := r.isLt
  match a with
  | ⟨0, _⟩ => exact Fin.ext (show ((h.val * 4096 + r.val) * 1 + z.val) / 4096 = h.val by omega)
  | ⟨1, _⟩ => exact Fin.ext (show ((h.val * 4096 + r.val) * 1 + z.val) % 4096 = r.val by omega)

theorem v55_at (q k : T96) (v ct : T64) (h : Fin 8) (r : Fin 4096) :
    val_main_v55 (F := Ideal) q k v ct (ix2 h r) = - (val_main_v50 (F := Ideal) q k v ct (ix2 h r) : EReal) := by
  rw [val_main_v55_apply, ← v52_at q k v ct h r 0]
  generalize val_main_v52 (F := Ideal) q k v ct = y
  show Ideal.ofBits .f32 0x00000000#32 + _ = _
  rw [Ideal.ofBits_zero_f32, zero_add, Fin.sum_univ_one]
  refine congrArg y (funext fun a => ?_)
  match a with | ⟨0, _⟩ => rfl | ⟨1, _⟩ => rfl | ⟨2, _⟩ => rfl

theorem v9_at (h : Fin 8) (r c : Fin 4096) : val_main_v9 (F := Ideal) (ix3 h r c) = BitVec.ofBool (decide (c.val ≤ r.val)) := by
  rw [← KernelIdeal.Mla.sle_pos, val_main_v9_apply, val_main_v8_apply, val_main_v7_apply, val_main_v6_apply, val_main_v5_apply,
    val_main_v4_apply, val_main_v3_apply, val_main_v3_apply]
  rfl

/-- The gradient of the scores. -/
theorem v60_at (q k : T96) (v ct : T64) (h : Fin 8) (r c : Fin 4096) :
    val_main_v60 (F := Ideal) q k v ct (ix3 h r c) =
      if c.val ≤ r.val then
        (Ideal.div (val_main_v44 (F := Ideal) v ct (ix3 h r c)) (hS q k (ix2 h r)) + -(val_main_v50 (F := Ideal) q k v ct (ix2 h r) : EReal)) * hE q k (ix3 h r c)
      else 0 := by
  have e53 : val_main_v53 (F := Ideal) q k (ix3 h r c) = hS q k (ix2 h r) := by
    rw [← v35_at]
    refine (val_main_v53_apply (F := Ideal) q k (ix3 h r c)).trans (congrArg _ (funext fun a => ?_))
    match a with | ⟨0, _⟩ => rfl | ⟨1, _⟩ => rfl | ⟨2, _⟩ => rfl
  have e56 : val_main_v56 (F := Ideal) q k v ct (ix3 h r c) = - (val_main_v50 (F := Ideal) q k v ct (ix2 h r) : EReal) := by
    rw [← v55_at]
    refine (val_main_v56_apply (F := Ideal) q k v ct (ix3 h r c)).trans (congrArg _ (funext fun a => ?_))
    match a with | ⟨0, _⟩ => rfl | ⟨1, _⟩ => rfl
  rw [val_main_v60_apply, val_main_v58_apply, val_main_v57_apply, val_main_v54_apply, val_main_v59_apply, e53, e56, v33_eq, v9_at]
  generalize hE q k (ix3 h r c) = e
  generalize val_main_v44 (F := Ideal) v ct (ix3 h r c) = a
  generalize hS q k (ix2 h r) = s
  generalize val_main_v50 (F := Ideal) q k v ct (ix2 h r) = b
  by_cases hc : c.val ≤ r.val
  · rw [if_pos hc, decide_eq_true hc]; rfl
  · rw [if_neg hc, decide_eq_false hc]
    exact Ideal.ofBits_zero_f32

/-! ## The results -/

theorem v64_at (q k : T96) (v ct : T64) (r : Fin 4096) (h : Fin 8) (d : Fin 96) :
    val_main_v64 (F := Ideal) q k v ct (ix3 r h d) = ∑ c : Fin 4096, val_main_v60 (F := Ideal) q k v ct (ix3 h r c) * k (ix3 c h d) := by
  have e : val_main_v64 (F := Ideal) q k v ct (ix3 r h d) = val_main_v63 (F := Ideal) q k v ct (ix3 h r d) := by
    refine (val_main_v64_apply (F := Ideal) q k v ct (ix3 r h d)).trans (congrArg _ (funext fun a => ?_))
    match a with | ⟨0, _⟩ => rfl | ⟨1, _⟩ => rfl | ⟨2, _⟩ => rfl
  refine (e.trans (val_main_v63_apply q k v ct (ix3 h r d))).trans (Finset.sum_congr rfl fun c _ => ?_)
  refine congrArg₂ (· * ·) (congrArg _ (funext fun a => ?_)) (congrArg k (funext fun a => ?_))
  · match a with | ⟨0, _⟩ => rfl | ⟨1, _⟩ => rfl | ⟨2, _⟩ => rfl
  · match a with | ⟨0, _⟩ => rfl | ⟨1, _⟩ => rfl | ⟨2, _⟩ => rfl

theorem v62_at (q k : T96) (v ct : T64) (c : Fin 4096) (h : Fin 8) (d : Fin 96) :
    val_main_v62 (F := Ideal) q k v ct (ix3 c h d) = ∑ r : Fin 4096, val_main_v60 (F := Ideal) q k v ct (ix3 h r c) * hQ q (ix3 r h d) := by
  have e : val_main_v62 (F := Ideal) q k v ct (ix3 c h d) = val_main_v61 (F := Ideal) q k v ct (ix3 h c d) := by
    refine (val_main_v62_apply (F := Ideal) q k v ct (ix3 c h d)).trans (congrArg _ (funext fun a => ?_))
    match a with | ⟨0, _⟩ => rfl | ⟨1, _⟩ => rfl | ⟨2, _⟩ => rfl
  refine (e.trans (val_main_v61_apply q k v ct (ix3 h c d))).trans (Finset.sum_congr rfl fun r _ => ?_)
  rw [v1_eq]
  refine congrArg₂ (· * ·) (congrArg _ (funext fun a => ?_)) (congrArg (hQ q) (funext fun a => ?_))
  · match a with | ⟨0, _⟩ => rfl | ⟨1, _⟩ => rfl | ⟨2, _⟩ => rfl
  · match a with | ⟨0, _⟩ => rfl | ⟨1, _⟩ => rfl | ⟨2, _⟩ => rfl

theorem v46_at (q k : T96) (ct : T64) (c : Fin 4096) (h : Fin 8) (d : Fin 64) :
    val_main_v46 (F := Ideal) q k ct (ix3 c h d) = ∑ r : Fin 4096, ct (ix3 r h d) * hP q k (ix3 h r c) := by
  rw [← v45_at]
  refine (val_main_v46_apply (F := Ideal) q k ct (ix3 c h d)).trans (congrArg _ (funext fun a => ?_))
  match a with | ⟨0, _⟩ => rfl | ⟨1, _⟩ => rfl | ⟨2, _⟩ => rfl

theorem v66_eq (q k : T96) (v ct : T64) : val_main_v66 (F := Ideal) q k v ct = hPad (val_main_v64 (F := Ideal) q k v ct) := by
  unfold val_main_v66 val_main_v65
  generalize val_main_v64 (F := Ideal) q k v ct = y
  rfl
theorem v68_eq (q k : T96) (v ct : T64) : val_main_v68 (F := Ideal) q k v ct = hPad (val_main_v62 (F := Ideal) q k v ct) := by
  unfold val_main_v68 val_main_v67
  generalize val_main_v62 (F := Ideal) q k v ct = y
  rfl
theorem v70_eq (q k : T96) (ct : T64) : val_main_v70 (F := Ideal) q k ct = hFlat (val_main_v46 (F := Ideal) q k ct) := by
  unfold val_main_v70
  generalize val_main_v46 (F := Ideal) q k ct = y
  rfl

/-- The gradient of the queries. -/
theorem dq_at (q k : T96) (v ct : T64) (r : Fin 4096) (h : Fin 8) (d : Fin 128) :
    val_main_v66 (F := Ideal) q k v ct (ix2 r (w128 h d)) =
      if hd : d.val < 96 then ∑ c : Fin 4096, val_main_v60 (F := Ideal) q k v ct (ix3 h r c) * k (ix3 c h ⟨d.val, hd⟩) else 0 := by
  rw [v66_eq]
  refine (KernelIdeal.Mla.hPad_at _ r h d).trans ?_
  by_cases hd : d.val < 96
  · rw [dif_pos hd, dif_pos hd]; exact v64_at q k v ct r h ⟨d.val, hd⟩
  · rw [dif_neg hd, dif_neg hd]

/-- The gradient of the keys. -/
theorem dk_at (q k : T96) (v ct : T64) (c : Fin 4096) (h : Fin 8) (d : Fin 128) :
    val_main_v69 (F := Ideal) q k v ct (ix2 (w128 h d) c) =
      if hd : d.val < 96 then ∑ r : Fin 4096, val_main_v60 (F := Ideal) q k v ct (ix3 h r c) * hQ q (ix3 r h ⟨d.val, hd⟩) else 0 := by
  have e : val_main_v69 (F := Ideal) q k v ct (ix2 (w128 h d) c) = val_main_v68 (F := Ideal) q k v ct (ix2 c (w128 h d)) := by
    refine (val_main_v69_apply (F := Ideal) q k v ct (ix2 (w128 h d) c)).trans (congrArg _ (funext fun a => ?_))
    match a with | ⟨0, _⟩ => rfl | ⟨1, _⟩ => rfl
  rw [e, v68_eq]
  refine (KernelIdeal.Mla.hPad_at _ c h d).trans ?_
  by_cases hd : d.val < 96
  · rw [dif_pos hd, dif_pos hd]; exact v62_at q k v ct c h ⟨d.val, hd⟩
  · rw [dif_neg hd, dif_neg hd]

/-- The gradient of the values. -/
theorem dv_at (q k : T96) (v ct : T64) (c : Fin 4096) (h : Fin 8) (d : Fin 64) :
    val_main_v71 (F := Ideal) q k ct (ix2 (w64 h d) c) = ∑ r : Fin 4096, ct (ix3 r h d) * hP q k (ix3 h r c) := by
  have e : val_main_v71 (F := Ideal) q k ct (ix2 (w64 h d) c) = val_main_v70 (F := Ideal) q k ct (ix2 c (w64 h d)) := by
    refine (val_main_v71_apply (F := Ideal) q k ct (ix2 (w64 h d) c)).trans (congrArg _ (funext fun a => ?_))
    match a with | ⟨0, _⟩ => rfl | ⟨1, _⟩ => rfl
  rw [e, v70_eq]
  exact (KernelIdeal.Mla.hFlat_at _ c h d).trans (v46_at q k ct c h d)

end Cert.ReferenceIdeal.Mla

end
-- ==== Proof.Equal.lean ====
module

public import proofs.«01_k».proof.Proof.Reals
public import proofs.«01_k».proof.Proof.RefAt
public import proofs.«01_k».proof.Proof.Final

/-!
On finite arguments, the gradients the kernel leaves are the reference's.
-/

@[expose] public section

noncomputable section

namespace Cert.KernelIdeal.Mla

open KernelIdeal KernelIdeal.Gen
open Idealize.ShloMosaic
open Idealize.ShloMosaic.TcCoe
open ReferenceIdeal.Read (val_main_v44 val_main_v50 val_main_v60 val_main_v66 val_main_v69 val_main_v71)

/-- The call's arrays as functions of the program's arguments. -/
def arrT (q k : T96) (v ct : T64) : Arr where
  q := hPad (hQ q)
  k := hPad k
  v := hFlat v
  g := hFlat ct
  de := hDel q k v ct
  ls := hLse q k

theorem arrOf_VH (m : (ℓ : Loc nD τ sig) → Buf (Elt Ideal) ℓ) (c : Dev nD) :
    arrOf (VH m) c = arrT (aQ m c) (aK m c) (aV m c) (aCt m c) := by
  unfold arrOf arrT
  rw [VH_q, VH_k, VH_v, VH_g, VH_ls, VH_de]

section Fixed

variable (q k : T96) (v ct : T64)

variable (qr kr : Fin 4096 → Fin 8 → Fin 96 → ℝ) (vr gr : Fin 4096 → Fin 8 → Fin 64 → ℝ)
  (hq : ∀ r h d, q (ix3 r h d) = ((qr r h d : ℝ) : EReal)) (hk : ∀ r h d, k (ix3 r h d) = ((kr r h d : ℝ) : EReal))
  (hv : ∀ r h d, v (ix3 r h d) = ((vr r h d : ℝ) : EReal)) (hg : ∀ r h d, ct (ix3 r h d) = ((gr r h d : ℝ) : EReal))

/-- One head's row of the softmax over the reals. -/
theorem row_real (qr kr : Fin 4096 → Fin 8 → Fin 96 → ℝ) (hq : ∀ r h d, q (ix3 r h d) = ((qr r h d : ℝ) : EReal))
    (hk : ∀ r h d, k (ix3 r h d) = ((kr r h d : ℝ) : EReal)) (h : Fin 8) (r : Fin 4096) :
    ∃ e : Fin 4096 → ℝ, ∃ l : ℝ, 0 < l ∧ (∀ c, hE q k (ix3 h r c) = ((e c : ℝ) : EReal)) ∧ hS q k (ix2 h r) = ((l : ℝ) : EReal) ∧
      (∀ c, ¬ c.val ≤ r.val → e c = 0) ∧
      ∀ c, Ideal.exp (hL q k (ix3 h r c) - (hM q k (ix2 h r) + Ideal.log (hS q k (ix2 h r)))) = ((e c / l : ℝ) : EReal) := by
  obtain ⟨s, hs⟩ := scl_real
  have hx : ∀ c, hL q k (ix3 h r c) = if c.val ≤ r.val then ((∑ d, qr r h d * s * kr c h d : ℝ) : EReal) else ⊥ := by
    intro c
    rw [hL_at]
    refine if_congr Iff.rfl ?_ rfl
    rw [← coe_sum_real]
    refine Finset.sum_congr rfl fun d _ => ?_
    rw [hQ_at, hq, hk, hs, EReal.coe_mul, EReal.coe_mul]
  exact softmax_row r (fun c => ∑ d, qr r h d * s * kr c h d) (fun c => hL q k (ix3 h r c)) (hM q k (ix2 h r)) (hS q k (ix2 h r))
    (fun c => hE q k (ix3 h r c)) hx (hM_at q k h r) (fun c => hE_at q k h r c) (hS_at q k h r)

/-- The kernel's scores are the reference's. -/
theorem score_eq (h : Fin 8) (r c : Fin 4096) :
    (if c.val ≤ r.val then ∑ d : Fin 128, (arrT q k v ct).q (ix2 r (w128 h d)) * (arrT q k v ct).k (ix2 c (w128 h d)) else ⊥) = hL q k (ix3 h r c) := by
  rw [hL_at]
  refine if_congr Iff.rfl ?_ rfl
  rw [← sum_lanes]
  refine Finset.sum_congr rfl fun d _ => congrArg₂ (· * ·) ?_ ?_
  · exact hPad_at _ r h d
  · exact hPad_at _ c h d

include hq hk in
/-- The kernel's probabilities, from the saved log-sum-exps, are the softmax. -/
theorem p_eq (h : Fin 8) (r c : Fin 4096) : (arrT q k v ct).p h r c = hP q k (ix3 h r c) := by
  obtain ⟨e, l, hl, he, hs, h0, hp⟩ := row_real q k qr kr hq hk h r
  unfold Arr.p
  rw [score_eq]
  refine (congrArg (fun y : EReal => Ideal.exp (hL q k (ix3 h r c) - y)) (hLse_at q k r h)).trans ?_
  rw [hP_at, he, hp c, hs, div_real _ _ hl.ne']

include hq hk hv hg in
/-- The kernel's gradient of a score is the reference's. -/
theorem ds_eq (h : Fin 8) (r c : Fin 4096) : (arrT q k v ct).ds h r c = val_main_v60 (F := Ideal) q k v ct (ix3 h r c) := by
  obtain ⟨e, l, hl, he, hs, h0, hp⟩ := row_real q k qr kr hq hk h r
  by_cases hc : c.val ≤ r.val
  swap
  · rw [Arr.ds_after _ h r c (by omega), ReferenceIdeal.Mla.v60_at, if_neg hc]
  have hdp : ∀ c, val_main_v44 (F := Ideal) v ct (ix3 h r c) = ((∑ d, gr r h d * vr c h d : ℝ) : EReal) := by
    intro c
    rw [ReferenceIdeal.Mla.v44_at, ← coe_dot]
    exact Finset.sum_congr rfl fun d _ => by rw [hg, hv]
  have hde : hDel q k v ct (ix2 r h) = ((∑ d, gr r h d * ∑ c', vr c' h d * (e c' / l) : ℝ) : EReal) := by
    rw [hDel_at, ← coe_dot]
    refine Finset.sum_congr rfl fun d _ => ?_
    rw [hg, hOut_at, ← coe_dot]
    refine congrArg (fun y : EReal => _ * y) (Finset.sum_congr rfl fun c' _ => ?_)
    rw [hv, hP_at, he, hs, div_real _ _ hl.ne']
  have h50 : val_main_v50 (F := Ideal) q k v ct (ix2 h r) = ((∑ c', ((∑ d, gr r h d * vr c' h d) * (1 / (l * l))) * e c' : ℝ) : EReal) := by
    rw [ReferenceIdeal.Mla.v50_at, ← coe_dot]
    refine Finset.sum_congr rfl fun c' _ => ?_
    rw [hdp, he, hs, ← EReal.coe_mul l l, ← EReal.coe_one, div_real _ _ (mul_pos hl hl).ne', EReal.coe_mul]
  have hA : (∑ d : Fin 64, (arrT q k v ct).g (ix2 r (w64 h d)) * (arrT q k v ct).v (ix2 c (w64 h d))) = ((∑ d, gr r h d * vr c h d : ℝ) : EReal) := by
    rw [← coe_dot]
    refine Finset.sum_congr rfl fun d _ => congrArg₂ (· * ·) ?_ ?_
    · exact (hFlat_at _ r h d).trans (hg r h d)
    · exact (hFlat_at _ c h d).trans (hv c h d)
  unfold Arr.ds
  rw [p_eq q k v ct qr kr hq hk, hA, show (arrT q k v ct).de (ix2 r h) = _ from hde, hP_at, he, hs, div_real _ _ hl.ne', ← EReal.coe_sub, ← EReal.coe_mul,
    softmax_bwd e l hl.ne' (fun d => gr r h d) (fun c d => vr c h d) c, ReferenceIdeal.Mla.v60_at, if_pos hc, hdp, hs, h50, he, div_real _ _ hl.ne',
    EReal.coe_mul, EReal.coe_add, EReal.coe_neg]

include hq hk in
/-- The gradient of the values. -/
theorem dv_eq : (arrT q k v ct).dv = val_main_v71 (F := Ideal) q k ct := by
  funext i
  rw [eq_ix2 i]
  generalize i 0 = a
  generalize i 1 = b
  refine Eq.trans ?_ ((ReferenceIdeal.Mla.dv_at q k v ct b (hd64 a) (ln64 a)).symm.trans
    (congrArg (fun z => val_main_v71 (F := Ideal) q k ct (ix2 z b)) (w64_hd a)))
  show (∑ x : Fin 4096, (arrT q k v ct).g (ix2 x a) * (arrT q k v ct).p (hd64 a) x b) = _
  refine Finset.sum_congr rfl fun x _ => congrArg₂ (· * ·) ?_ (p_eq q k v ct qr kr hq hk (hd64 a) x b)
  exact (congrArg (fun z => (arrT q k v ct).g (ix2 x z)) (w64_hd a).symm).trans (hFlat_at _ x (hd64 a) (ln64 a))

include hq hk hv hg in
/-- The gradient of the keys. -/
theorem dk_eq : (arrT q k v ct).dk = val_main_v69 (F := Ideal) q k v ct := by
  funext i
  rw [eq_ix2 i]
  generalize i 0 = a
  generalize i 1 = b
  refine Eq.trans ?_ ((ReferenceIdeal.Mla.dk_at q k v ct b (hd128 a) (ln128 a)).symm.trans
    (congrArg (fun z => val_main_v69 (F := Ideal) q k v ct (ix2 z b)) (w128_hd a)))
  show (∑ x : Fin 4096, (arrT q k v ct).q (ix2 x a) * (arrT q k v ct).ds (hd128 a) x b) = _
  have e : ∀ x, (arrT q k v ct).q (ix2 x a) = if hd : (ln128 a).val < 96 then hQ q (ix3 x (hd128 a) ⟨(ln128 a).val, hd⟩) else 0 := fun x =>
    (congrArg (fun z => (arrT q k v ct).q (ix2 x z)) (w128_hd a).symm).trans (hPad_at _ x (hd128 a) (ln128 a))
  by_cases hd : (ln128 a).val < 96
  · rw [dif_pos hd]
    refine Finset.sum_congr rfl fun x _ => ?_
    rw [e, dif_pos hd]
    exact (mul_comm _ _).trans (congrArg (fun y : EReal => y * _) (ds_eq q k v ct qr kr vr gr hq hk hv hg (hd128 a) x b))
  · rw [dif_neg hd]
    exact Finset.sum_eq_zero fun x _ => by rw [e, dif_neg hd, zero_mul]

include hq hk hv hg in
/-- The gradient of the queries. -/
theorem dq_eq : (arrT q k v ct).dq = val_main_v66 (F := Ideal) q k v ct := by
  funext i
  rw [eq_ix2 i]
  generalize i 0 = b
  generalize i 1 = a
  refine Eq.trans ?_ ((ReferenceIdeal.Mla.dq_at q k v ct b (hd128 a) (ln128 a)).symm.trans
    (congrArg (fun z => val_main_v66 (F := Ideal) q k v ct (ix2 b z)) (w128_hd a)))
  show (∑ y : Fin 4096, (arrT q k v ct).ds (hd128 a) b y * (arrT q k v ct).k (ix2 y a)) = _
  have e : ∀ x, (arrT q k v ct).k (ix2 x a) = if hd : (ln128 a).val < 96 then k (ix3 x (hd128 a) ⟨(ln128 a).val, hd⟩) else 0 := fun x =>
    (congrArg (fun z => (arrT q k v ct).k (ix2 x z)) (w128_hd a).symm).trans (hPad_at _ x (hd128 a) (ln128 a))
  by_cases hd : (ln128 a).val < 96
  · rw [dif_pos hd]
    refine Finset.sum_congr rfl fun x _ => ?_
    rw [e, dif_pos hd]
    exact congrArg (fun y : EReal => y * _) (ds_eq q k v ct qr kr vr gr hq hk hv hg (hd128 a) b x)
  · rw [dif_neg hd]
    exact Finset.sum_eq_zero fun x _ => by rw [e, dif_neg hd, mul_zero]

end Fixed

end Cert.KernelIdeal.Mla

end
-- ==== Proof.Value.lean ====
module

public import proofs.«01_k».proof.Defs
public import proofs.«01_k».proof.Proof.Gen.Pre_finite
public import proofs.«01_k».proof.Proof.Equal
public import proofs.«01_k».proof.Proof.Whole

/-!
The runs with their results: the kernel's and the reference's gradients, as functions of the arguments.
-/

@[expose] public section

noncomputable section

namespace Cert.KernelIdeal.Mla

open KernelIdeal KernelIdeal.Gen
open Idealize.ShloMosaic Idealize.SL.Sem
open Idealize.ShloMosaic.TcCoe
open ReferenceIdeal.Read (val_main_v66 val_main_v69 val_main_v71 val_main_v66_eq val_main_v69_eq val_main_v71_eq)

/-! ## Finiteness -/

/-- An extended real whose absolute value is below +∞ is a real number. -/
theorem real_of_abs (x : EReal) (h : Ideal.cmp CmpFPredicate.olt (max x (-x)) (⊤ : EReal) = 1#1) : ∃ r : ℝ, x = (r : EReal) := by
  induction x using EReal.rec with
  | bot => exact absurd h (by simp [Ideal.cmp])
  | top => exact absurd h (by simp [Ideal.cmp])
  | coe r => exact ⟨r, rfl⟩

theorem inf_top : Ideal.ofBits .f32 0x7F800000#32 = (⊤ : EReal) := rfl

theorem real96 (x : T96) (hb : S_.BroadcastsInDim S4096x8x96 (![] : Fin 0 → Fin S4096x8x96.rank))
    (h : cmpf .olt (Host.absf x) (broadcastInDim S4096x8x96 ![] hb (constant (F := Ideal) S_ .f32 0x7F800000#32)) = fun _ => 1#1) :
    ∃ f : Fin 4096 → Fin 8 → Fin 96 → ℝ, ∀ r h d, x (ix3 r h d) = ((f r h d : ℝ) : EReal) := by
  have e : ∀ r h d, ∃ y : ℝ, x (ix3 r h d) = (y : EReal) := fun r h' d => real_of_abs _ (by
    have := congrFun h (ix3 r h' d)
    exact this)
  choose f hf using e
  exact ⟨f, hf⟩

theorem real64 (x : T64) (hb : S_.BroadcastsInDim S4096x8x64 (![] : Fin 0 → Fin S4096x8x64.rank))
    (h : cmpf .olt (Host.absf x) (broadcastInDim S4096x8x64 ![] hb (constant (F := Ideal) S_ .f32 0x7F800000#32)) = fun _ => 1#1) :
    ∃ f : Fin 4096 → Fin 8 → Fin 64 → ℝ, ∀ r h d, x (ix3 r h d) = ((f r h d : ℝ) : EReal) := by
  have e : ∀ r h d, ∃ y : ℝ, x (ix3 r h d) = (y : EReal) := fun r h' d => real_of_abs _ (by
    have := congrFun h (ix3 r h' d)
    exact this)
  choose f hf using e
  exact ⟨f, hf⟩

variable (m : (ℓ : Loc nD τ sig) → Buf (Elt Ideal) ℓ)

/-- The four arguments hold real numbers. -/
def AllReal (c : Dev nD) : Prop :=
  (∃ f : Fin 4096 → Fin 8 → Fin 96 → ℝ, ∀ r h d, aQ m c (ix3 r h d) = ((f r h d : ℝ) : EReal)) ∧
  (∃ f : Fin 4096 → Fin 8 → Fin 96 → ℝ, ∀ r h d, aK m c (ix3 r h d) = ((f r h d : ℝ) : EReal)) ∧
  (∃ f : Fin 4096 → Fin 8 → Fin 64 → ℝ, ∀ r h d, aV m c (ix3 r h d) = ((f r h d : ℝ) : EReal)) ∧
  (∃ f : Fin 4096 → Fin 8 → Fin 64 → ℝ, ∀ r h d, aCt m c (ix3 r h d) = ((f r h d : ℝ) : EReal))

theorem real_of_finite (hpre : Pre_KernelIdeal_finite m) (c : Dev nD) : AllReal m c :=
  ⟨real96 _ _ (hpre c).1, real96 _ _ (hpre c).2.1, real64 _ _ (hpre c).2.2.1, real64 _ _ (hpre c).2.2.2⟩

/-! ## The runs -/

/-- The gradient of the queries, as the reference computes it of the arguments. -/
def gradQ (c : Dev nD) : FVec Ideal S4096x1024 .f32 := val_main_v66 (F := Ideal) (aQ m c) (aK m c) (aV m c) (aCt m c)
/-- The gradient of the keys, transposed. -/
def gradK (c : Dev nD) : FVec Ideal S1024x4096 .f32 := val_main_v69 (F := Ideal) (aQ m c) (aK m c) (aV m c) (aCt m c)
/-- The gradient of the values, transposed. -/
def gradV (c : Dev nD) : FVec Ideal S512x4096 .f32 := val_main_v71 (F := Ideal) (aQ m c) (aK m c) (aCt m c)

theorem end_dq (c : Dev nD) (hr : AllReal m c) : dqEnd m c = gradQ m c := by
  obtain ⟨⟨q, hq⟩, ⟨k, hk⟩, ⟨v, hv⟩, ⟨g, hg⟩⟩ := hr
  exact (final_dq (VH m) c).trans ((congrArg Arr.dq (arrOf_VH m c)).trans (dq_eq _ _ _ _ q k v g hq hk hv hg))
theorem end_dk (c : Dev nD) (hr : AllReal m c) : (dats (VH m) 0 c).arrAt (6 : Fin 8) (cfgT Ideal).N = gradK m c := by
  obtain ⟨⟨q, hq⟩, ⟨k, hk⟩, ⟨v, hv⟩, ⟨g, hg⟩⟩ := hr
  exact (final_dk (VH m) c).trans ((congrArg Arr.dk (arrOf_VH m c)).trans (dk_eq _ _ _ _ q k v g hq hk hv hg))
theorem end_dv (c : Dev nD) (hr : AllReal m c) : (dats (VH m) 0 c).arrAt (7 : Fin 8) (cfgT Ideal).N = gradV m c := by
  obtain ⟨⟨q, hq⟩, ⟨k, hk⟩, ⟨v, hv⟩, ⟨g, hg⟩⟩ := hr
  exact (final_dv (VH m) c).trans ((congrArg Arr.dv (arrOf_VH m c)).trans (dv_eq _ _ _ _ q k hq hk))

/-- The kernel ends with the three gradients, its arguments unchanged. -/
theorem run_value (ρ : Dev nD → PrngReg) (hr : ∀ c, AllReal m c) :
    θ_run (defs (F := Ideal)) (onTc (τ := τ) (main (F := Ideal))) ⟨m, fun _ => 0, ρ⟩ (fun r => ∀ c : Dev nD,
      r.2.mem (c.tc.loc main_v39_0) = gradQ m c
      ∧ r.2.mem (c.tc.loc main_v39_1) = gradK m c
      ∧ r.2.mem (c.tc.loc main_v39_2) = gradV m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) := by
  refine (θ_run (defs (F := Ideal)) _ _).mono (fun r h c => ?_) (run_main m ρ)
  refine ⟨?_, ?_, ?_, args_end m r h.1 c⟩
  · exact (h.1.2 c main_v39_0 (Finset.mem_singleton_self _)).trans ((GH_eq m c).trans (end_dq m c (hr c)))
  · exact ((h.1.1 c).1 (6 : Fin 8)).trans (end_dk m c (hr c))
  · exact ((h.1.1 c).1 (7 : Fin 8)).trans (end_dv m c (hr c))

/-- The reference, of the same arguments, ends with the same gradients. -/
theorem run_reference (m' : (ℓ : Loc ReferenceIdeal.nD ReferenceIdeal.τ ReferenceIdeal.sig) → Buf (Elt Ideal) ℓ)
    (ρ : Dev ReferenceIdeal.nD → PrngReg)
    (hm : ∀ c : Dev nD,
      m' (c.tc.loc ReferenceIdeal.main_arg0) = m (c.tc.loc main_arg0)
      ∧ m' (c.tc.loc ReferenceIdeal.main_arg1) = m (c.tc.loc main_arg1)
      ∧ m' (c.tc.loc ReferenceIdeal.main_arg2) = m (c.tc.loc main_arg2)
      ∧ m' (c.tc.loc ReferenceIdeal.main_arg3) = m (c.tc.loc main_arg3)) :
    θ_run (ReferenceIdeal.defs (F := Ideal)) (onTc (τ := ReferenceIdeal.τ) (ReferenceIdeal.main (F := Ideal))) ⟨m', fun _ => 0, ρ⟩
      (fun r => ∀ c : Dev ReferenceIdeal.nD,
        r.2.mem (c.tc.loc ReferenceIdeal.main_v66) = gradQ m c
        ∧ r.2.mem (c.tc.loc ReferenceIdeal.main_v69) = gradK m c
        ∧ r.2.mem (c.tc.loc ReferenceIdeal.main_v71) = gradV m c
        ∧ r.2.mem (c.tc.loc ReferenceIdeal.main_arg0) = m' (c.tc.loc ReferenceIdeal.main_arg0)
        ∧ r.2.mem (c.tc.loc ReferenceIdeal.main_arg1) = m' (c.tc.loc ReferenceIdeal.main_arg1)
        ∧ r.2.mem (c.tc.loc ReferenceIdeal.main_arg2) = m' (c.tc.loc ReferenceIdeal.main_arg2)
        ∧ r.2.mem (c.tc.loc ReferenceIdeal.main_arg3) = m' (c.tc.loc ReferenceIdeal.main_arg3)) := by
  refine (θ_run (ReferenceIdeal.defs (F := Ideal)) _ _).mono (fun r h c => ?_) (ReferenceIdeal.Value.run (F := Ideal) m' ρ)
  obtain ⟨h0, h1, h2, h3⟩ := hm c
  refine ⟨(h c).1.trans ?_, (h c).2.1.trans ?_, (h c).2.2.1.trans ?_, (h c).2.2.2⟩
  · rw [val_main_v66_eq, h0, h1, h2, h3]; rfl
  · rw [val_main_v69_eq, h0, h1, h2, h3]; rfl
  · rw [val_main_v71_eq, h0, h1, h3]; rfl

end Cert.KernelIdeal.Mla

end
-- ==== Proof.Tokens.lean ====
module

public import Idealize.ShloMosaic.Lib.Pointwise
public import Idealize.ShloMosaic.Lib.ValueIdx
public import Idealize.ShloMosaic.PureOps.Ideal

/-!
What the products over the tokens share, whatever their shape: the product of two factors over all 4096 tokens, its part over some
of them, and that the parts add up to the whole.
-/

@[expose] public section

noncomputable section

namespace Cert.Tokens

open Idealize.ShloMosaic

theorem zero2 : (![0, 0] : Fin 2 → Nat) = fun _ => 0 := funext fun a => by fin_cases a <;> rfl

/-- An index of a matrix is known by its row and its column. -/
theorem idx_eq {n k : ℕ} (i : (⟨2, ![n, k]⟩ : Shape).Idx) (r : Fin n) (l : Fin k) (h0 : (i 0).val = r.val) (h1 : (i 1).val = l.val) : i = ix2 r l := by
  funext a
  match a with
  | ⟨0, _⟩ => exact Fin.ext h0
  | ⟨1, _⟩ => exact Fin.ext h1

section
variable {n k : ℕ} (A : (⟨2, ![4096, n]⟩ : Shape).Idx → EReal) (B : (⟨2, ![4096, k]⟩ : Shape).Idx → EReal)

/-- The product of two factors over all tokens, -/
def whole (i : (⟨2, ![n, k]⟩ : Shape).Idx) : EReal :=
  ∑ t : Fin 4096, A (ix2 t (i 0)) * B (ix2 t (i 1))

/-- and over the `q`-th 1024 of them. -/
def quarter (r : Fin n) (l : Fin k) (q : ℕ) (hq : q < 4) : EReal :=
  ∑ t : Fin 1024, A (ix2 ⟨1024 * q + t.val, by omega⟩ r) * B (ix2 ⟨1024 * q + t.val, by omega⟩ l)

end

/-- A sum over 4096 tokens, half by half, -/
theorem sum_halves (f : Fin 4096 → EReal) :
    ∑ k : Fin 4096, f k = (∑ k : Fin 2048, f ⟨k.val, by omega⟩) + ∑ k : Fin 2048, f ⟨2048 + k.val, by omega⟩ :=
  Fin.sum_univ_add (a := 2048) (b := 2048) f

/-- and 1024 by 1024. -/
theorem sum_quarters (f : Fin 4096 → EReal) :
    ∑ k : Fin 4096, f k = (∑ k : Fin 1024, f ⟨1024 * 0 + k.val, by omega⟩) + (∑ k : Fin 1024, f ⟨1024 * 1 + k.val, by omega⟩)
      + (∑ k : Fin 1024, f ⟨1024 * 2 + k.val, by omega⟩) + ∑ k : Fin 1024, f ⟨1024 * 3 + k.val, by omega⟩ := by
  refine (Fin.sum_univ_add (a := 3072) (b := 1024) f).trans (congrArg₂ (· + ·) ?_ (Finset.sum_congr rfl fun k _ => congrArg f (Fin.ext ?_)))
  · refine (Fin.sum_univ_add (a := 2048) (b := 1024) fun k : Fin 3072 => f (Fin.castAdd 1024 k)).trans
      (congrArg₂ (· + ·) ?_ (Finset.sum_congr rfl fun k _ => congrArg f (Fin.ext ?_)))
    · refine (Fin.sum_univ_add (a := 1024) (b := 1024) fun k : Fin 2048 => f (Fin.castAdd 1024 (Fin.castAdd 1024 k))).trans
        (congrArg₂ (· + ·) (Finset.sum_congr rfl fun k _ => congrArg f (Fin.ext ?_)) (Finset.sum_congr rfl fun k _ => congrArg f (Fin.ext ?_)))
      · show k.val = 1024 * 0 + k.val; omega
      · rfl
    · rfl
  · rfl

/-- The quarters of a product add up to it. -/
theorem quarters {n k : ℕ} (A : (⟨2, ![4096, n]⟩ : Shape).Idx → EReal) (B : (⟨2, ![4096, k]⟩ : Shape).Idx → EReal) (i : (⟨2, ![n, k]⟩ : Shape).Idx) :
    quarter A B (i 0) (i 1) 0 (by omega) + quarter A B (i 0) (i 1) 1 (by omega) + quarter A B (i 0) (i 1) 2 (by omega)
      + quarter A B (i 0) (i 1) 3 (by omega) = whole A B i :=
  (sum_quarters fun t => A (ix2 t (i 0)) * B (ix2 t (i 1))).symm

end Cert.Tokens
end
-- ==== Proof.Product.lean ====
module

public import proofs.«01_k».proof.Proof.Gen.Kernel2Ideal.Value
public import proofs.«01_k».proof.Proof.Gen.Reference2Ideal.Run
public import proofs.«01_k».proof.Proof.Gen.Reference2Ideal.Read
public import proofs.«01_k».proof.Proof.Tokens
public import Idealize.ShloMosaic.Lib.Pipeline.Value
public import Idealize.ShloMosaic.Lib.Tactic
public import Idealize.ShloMosaic.PureOps.Ideal.Laws

/-!
The gradient of a weight of the feed-forward layer, a product summed over all tokens: the kernel sums the first 2048 tokens
and then the other 2048, for each half of the rows.
-/

@[expose] public section

noncomputable section

namespace Cert.Kernel2Ideal.Product

open Kernel2Ideal Kernel2Ideal.Gen
open Tokens
open Idealize.ShloMosaic Idealize.ShloMosaic.TcCoe Idealize.ShloMosaic.Tactic Idealize.SL.Sem
open Idealize.ShloMosaic.Pipeline (Dat)

section
variable {F : FTy → Type} [FloatOps F]
variable (c : Dev nD) (i : grid0.Coords) (a2 : Memref sig .tc .vmem S2048x1408 .bf16) (h2 : a2.IsWhole)
    (a3 : Memref sig .tc .vmem S2048x1024 .bf16) (h3 : a3.IsWhole) (a4 : Memref sig .tc .vmem S1408x1024 .bf16) (h4 : a4.IsWhole)
    (a5 : Memref sig .tc .vmem S1408x1024 .f32) (h5 : a5.IsWhole)
    (x : Vec F S2048x1408 .bf16) (y : Vec F S2048x1024 .bf16) (s : Vec F S1408x1024 .f32)

/-- The first of a half's two points leaves the product of its blocks in the scratch. -/
theorem scratch_first (hc0 : cond0_0 i) (hc1 : ¬cond0_1 i) (hc2 : ¬cond0_2 i) :
    sout0_A_0 c i a2 h2 a3 h3 a4 h4 a5 h5 hc0 hc1 hc2 x y = k0_pay2 x y := by
  unfold sout0_A_0
  rw [View.read_writes_eq_canon _ _ _ (scover0_A_0 c i a2 h2 a3 h3 a4 h4 a5 h5 hc0 hc1 hc2 x y)]
  unfold kernelRun0_A
  dsimp only
  rw [View.canon_unit_zero zero2]
  simp only [View.readAt_eq_ld, h2.read_unread, h3.read_unread, View.ld_unit_zero (S := S2048x1408) zero2, View.ld_unit_zero (S := S2048x1024) zero2]

/-- The second adds the product of its own and hands the sum out. -/
theorem out_second (hc0 : ¬cond0_0 i) (hc1 : cond0_1 i) (hc2 : cond0_2 i) :
    out0_B_2 c i a2 h2 a3 h3 a4 h4 a5 h5 hc0 hc1 hc2 x y s = k0_pay4 (k0_pay3 x y s) := by
  unfold out0_B_2
  rw [View.read_writes_eq_canon _ _ _ (cover0_B_2 c i a2 h2 a3 h3 a4 h4 a5 h5 hc0 hc1 hc2 x y s)]
  unfold kernelRun0_B
  dsimp only
  sl_unfold_words
  rw [View.canon_unit_zero zero2]
  simp only [View.readCov_unit_zero (S := S1408x1024) _ zero2, View.readAt_eq_ld, h2.read_unread, h3.read_unread, h5.read_unread,
    View.ld_unit_zero (S := S2048x1408) zero2, View.ld_unit_zero (S := S2048x1024) zero2, View.ld_unit_zero (S := S1408x1024) zero2]

end

/-! ## Over the extended reals -/

theorem pay2_at (x : Vec Ideal S2048x1408 .bf16) (y : Vec Ideal S2048x1024 .bf16) (r : Fin 1408) (l : Fin 1024) :
    k0_pay2 (F := Ideal) x y (ix2 r l) = ∑ t : Fin 2048, x (ix2 t r) * y (ix2 t l) := by
  pointwise [k0_pay2, k0_pay1]

theorem pay43_at (x : Vec Ideal S2048x1408 .bf16) (y : Vec Ideal S2048x1024 .bf16) (s : Vec Ideal S1408x1024 .f32) (r : Fin 1408) (l : Fin 1024) :
    k0_pay4 (F := Ideal) (k0_pay3 (F := Ideal) x y s) (ix2 r l) = s (ix2 r l) + ∑ t : Fin 2048, x (ix2 t r) * y (ix2 t l) := by
  pointwise [k0_pay4, k0_pay3, k0_pay1]

variable (m : (ℓ : Loc nD τ sig) → Buf (Elt Ideal) ℓ)

/-- The two factors. -/
def facA (c : Dev nD) : S4096x2816.Idx → EReal := m (c.tc.loc main_arg0)
def facB (c : Dev nD) : S4096x1024.Idx → EReal := m (c.tc.loc main_arg1)

theorem V_v0 (c : Dev nD) : V m c main_v0 = facA m c := by
  show StableHlo.after hostOps0 (fun b => m (c, b)) (Proc.devRef .tc main_v0) = _
  after_results
  rfl

theorem V_v1 (c : Dev nD) : V m c main_v1 = facB m c := by
  show StableHlo.after hostOps0 (fun b => m (c, b)) (Proc.devRef .tc main_v1) = _
  after_results
  rfl

theorem places : ∀ t : Fin grid0.N, win0_0.index t (0 : Fin 2) = t.val % 2 ∧ win0_0.index t (1 : Fin 2) = t.val / 2
    ∧ win0_1.index t (0 : Fin 2) = t.val % 2 ∧ win0_1.index t (1 : Fin 2) = 0 := by decide +kernel

/-- Point `2 h + k` reads the tokens of half `k` and the columns of half `h` of the first factor, -/
theorem iblk0_at (c : Dev nD) (t : Fin cfg0.N) (k r : ℕ) (hk : 2048 * (t.val % 2) + k < 4096) (hr : 1408 * (t.val / 2) + r < 2816)
    (hk' : k < 2048) (hr' : r < 1408) :
    iblk m c 0 t (ix2 (⟨k, hk'⟩ : Fin 2048) (⟨r, hr'⟩ : Fin 1408)) = facA m c (ix2 ⟨2048 * (t.val % 2) + k, hk⟩ ⟨1408 * (t.val / 2) + r, hr⟩) := by
  obtain ⟨e0, e1, -, -⟩ := places t
  show V m c main_v0 _ = _
  rw [V_v0]
  exact congrArg _ (idx_eq _ _ _ (by show win0_0.index t (0 : Fin 2) * 2048 + 1 * k = 2048 * (t.val % 2) + k; rw [e0]; omega) (by show win0_0.index t (1 : Fin 2) * 1408 + 1 * r = 1408 * (t.val / 2) + r; rw [e1]; omega))

/-- and the same tokens of the second. -/
theorem iblk1_at (c : Dev nD) (t : Fin cfg0.N) (k : ℕ) (l : Fin 1024) (hk : 2048 * (t.val % 2) + k < 4096) (hk' : k < 2048) :
    iblk m c 1 t (ix2 (⟨k, hk'⟩ : Fin 2048) l) = facB m c (ix2 ⟨2048 * (t.val % 2) + k, hk⟩ l) := by
  obtain ⟨-, -, e0, e1⟩ := places t
  show V m c main_v1 _ = _
  rw [V_v1]
  exact congrArg _ (idx_eq _ _ _ (by show win0_1.index t (0 : Fin 2) * 2048 + 1 * k = 2048 * (t.val % 2) + k; rw [e0]; omega) (by show win0_1.index t (1 : Fin 2) * 1024 + 1 * l.val = l.val; rw [e1]; omega))

/-- What the second point of half `h` hands out. -/
theorem half_at (c : Dev nD) (h : Fin 2) (r : Fin 1408) (l : Fin 1024) (hn : 2 * h.val + 1 < cfg0.N) :
    (outsAt0 m c (2 * h.val + 1) hn).1 (ix2 r l) =
      (∑ k : Fin 2048, facA m c (ix2 ⟨k.val, by omega⟩ ⟨1408 * h.val + r.val, by omega⟩) * facB m c (ix2 ⟨k.val, by omega⟩ l))
        + ∑ k : Fin 2048, facA m c (ix2 ⟨2048 + k.val, by omega⟩ ⟨1408 * h.val + r.val, by omega⟩) * facB m c (ix2 ⟨2048 + k.val, by omega⟩ l) := by
  have hN : cfg0.N = 4 := N_0
  have hB := outsAt0_B m c ⟨2 * h.val + 1, hn⟩ (by dsimp only; omega) (by dsimp only; omega) (by dsimp only; omega)
  have hA := outsAt0_A m c ⟨2 * h.val, by omega⟩ (by dsimp only; omega) (by dsimp only; omega) (by dsimp only; omega)
  have e1 := congrArg Prod.fst hB
  dsimp only at e1 hA
  rw [e1, out_second]
  simp only [Nat.add_sub_cancel]
  rw [hA]
  dsimp only
  rw [scratch_first, pay43_at, pay2_at]
  refine congrArg₂ (· + ·) (Finset.sum_congr rfl fun k _ => ?_) (Finset.sum_congr rfl fun k _ => ?_)
  · rw [iblk0_at m c ⟨2 * h.val, by omega⟩ k.val r.val (by dsimp only; omega) (by dsimp only; omega) k.isLt r.isLt,
      iblk1_at m c ⟨2 * h.val, by omega⟩ k.val l (by dsimp only; omega) k.isLt]
    refine congrArg₂ (· * ·) (congrArg (facA m c) (congrArg₂ ix2 (Fin.ext ?_) (Fin.ext ?_))) (congrArg (facB m c) (congrArg (ix2 · l) (Fin.ext ?_))) <;> dsimp only <;> omega
  · rw [iblk0_at m c ⟨2 * h.val + 1, hn⟩ k.val r.val (by dsimp only; omega) (by dsimp only; omega) k.isLt r.isLt,
      iblk1_at m c ⟨2 * h.val + 1, hn⟩ k.val l (by dsimp only; omega) k.isLt]
    refine congrArg₂ (· * ·) (congrArg (facA m c) (congrArg₂ ix2 (Fin.ext ?_) (Fin.ext ?_))) (congrArg (facB m c) (congrArg (ix2 · l) (Fin.ext ?_))) <;> dsimp only <;> omega

/-- The kernel's result: the product of the two factors over all tokens. -/
theorem result_at (c : Dev nD) (i : S2816x1024.Idx) :
    Value.G2 m c i = whole (facA m c) (facB m c) i := by
  have hN : cfg0.N = 4 := N_0
  have h0 : (i 0).val < 2816 := (i 0).isLt
  have h1 : (i 1).val < 1024 := (i 1).isLt
  have hp : Value.pt2Of i = 2 * ((i 0).val / 1408) + 1 := by
    show 2 * (1 * ((i 0).val / 1408 - 0) + 1 * ((i 1).val / 1024 - 0)) + 1 = _; omega
  have hl : Value.loc2Of i = ix2 (⟨(i 0).val % 1408, Nat.mod_lt _ (by decide)⟩ : Fin 1408) (i 1) :=
    idx_eq _ _ _ rfl (Nat.mod_eq_of_lt h1)
  unfold Value.G2
  rw [dif_pos (by rw [hp]; omega), Value.fold0_congr m c _ _ (2 * ((i 0).val / 1408) + 1) (by omega) hp, ← Value.outsAt0_sweep, hl]
  have := half_at m c ⟨(i 0).val / 1408, by omega⟩ ⟨(i 0).val % 1408, Nat.mod_lt _ (by decide)⟩ (i 1) (by dsimp only; omega)
  dsimp only at this
  refine this.trans ?_
  refine Eq.trans ?_ (sum_halves fun t => facA m c (ix2 t (i 0)) * facB m c (ix2 t (i 1))).symm
  refine congrArg₂ (· + ·) (Finset.sum_congr rfl fun k _ => ?_) (Finset.sum_congr rfl fun k _ => ?_) <;>
    refine congrArg₂ (· * ·) (congrArg (facA m c) (congrArg₂ ix2 rfl (Fin.ext ?_))) rfl <;> dsimp only <;> omega

/-- The kernel ends with the product in its result. -/
theorem run_value (ρ : Dev nD → PrngReg) : θ_run (defs (F := Ideal)) (onTc (τ := τ) (main (F := Ideal))) ⟨m, fun _ => 0, ρ⟩ fun r => ∀ c : Dev nD,
    r.2.mem (c.tc.loc main_v2) = whole (facA m c) (facB m c)
      ∧ r.2.mem (c.tc.loc main_arg0) = m (c.tc.loc main_arg0)
      ∧ r.2.mem (c.tc.loc main_arg1) = m (c.tc.loc main_arg1) :=
  (θ_run defs _ _).mono (fun r h c => ⟨(h c).1.trans (funext fun i => result_at m c i), (h c).2⟩) (Value.run m ρ)

/-- The reference ends with the same product in its own. -/
theorem run_reference (m' : (ℓ : Loc Reference2Ideal.nD Reference2Ideal.τ Reference2Ideal.sig) → Buf (Elt Ideal) ℓ)
    (ρ : Dev Reference2Ideal.nD → PrngReg)
    (hm : ∀ c : Dev nD,
      m' (c.tc.loc Reference2Ideal.main_arg0) = m (c.tc.loc main_arg0)
      ∧ m' (c.tc.loc Reference2Ideal.main_arg1) = m (c.tc.loc main_arg1)) :
    θ_run (Reference2Ideal.defs (F := Ideal)) (onTc (τ := Reference2Ideal.τ) (Reference2Ideal.main (F := Ideal))) ⟨m', fun _ => 0, ρ⟩
      fun r => ∀ c : Dev Reference2Ideal.nD,
        r.2.mem (c.tc.loc Reference2Ideal.main_v3)
            = whole (facA m c) (facB m c)
          ∧ r.2.mem (c.tc.loc Reference2Ideal.main_arg0)
            = m' (c.tc.loc Reference2Ideal.main_arg0)
          ∧ r.2.mem (c.tc.loc Reference2Ideal.main_arg1)
            = m' (c.tc.loc Reference2Ideal.main_arg1) := by
  refine (θ_run Reference2Ideal.defs _ _).mono (fun r h c => ⟨(h c).1.trans (funext fun i => ?_), (h c).2⟩) (Reference2Ideal.Value.run m' ρ)
  rw [(hm c).1, (hm c).2]
  refine (Reference2Ideal.Read.val_main_v2_apply (facA m c) (facB m c) i).trans (Finset.sum_congr rfl fun k _ => ?_)
  exact congrArg₂ (· * ·) (congrArg (facA m c) (idx_eq _ _ _ rfl rfl)) (congrArg (facB m c) (idx_eq _ _ _ rfl rfl))

end Cert.Kernel2Ideal.Product
end
-- ==== Proof.FeedRun.lean ====
module

public import proofs.«01_k».proof.Proof.Gen.Kernel3Ideal.Frame
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

/-! What one run of the body of `_ffn_bwd` leaves, in values: at the first point of a token tile (`run_even`) and at the
second (`run_odd`). The vectors stored are named first; the names follow the backward of
`0.5 * ((silu(a) * b) @ wd)` with `a = n @ wg`, `b = n @ wu`. -/

set_option maxRecDepth 16384

noncomputable section

namespace Cert.Kernel3Ideal.Feed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Kernel3Ideal Kernel3Ideal.Gen

variable {F : FTy → Type} [FloatOps F]

local notation "𝕄" => MT nD τ sig Unit (Elt F) ℕ (UR sig nD τ) ℕ

/-! ## The vectors the body stores -/

/-- The first 768 rows of a weight block, and the last 640. -/
def topRows (w : Vec F S1408x1024 .bf16) : Vec F S768x1024 .bf16 :=
  View.ld w (Rect.unit (s := S1408x1024) ![0, 0] S768x1024.size inb_S1408x1024_S768x1024_0_0)
@[inherit_doc topRows] def lowRows (w : Vec F S1408x1024 .bf16) : Vec F S640x1024 .bf16 :=
  View.ld w (Rect.unit (s := S1408x1024) ![768, 0] S640x1024.size inb_S1408x1024_S640x1024_768_0)

/-- The first 768 columns of a block of hidden values, and the last 640. -/
def leftCols (a : Vec F S512x1408 .bf16) : Vec F S512x768 .bf16 :=
  View.ld a (Rect.unit (s := S512x1408) ![0, 0] S512x768.size inb_S512x1408_S512x768_0_0)
@[inherit_doc leftCols] def rightCols (a : Vec F S512x1408 .bf16) : Vec F S512x640 .bf16 :=
  View.ld a (Rect.unit (s := S512x1408) ![0, 768] S512x640.size inb_S512x1408_S512x640_0_768)

/-- A block of hidden values put together from its two column parts. -/
def joinCols (l : Vec F S512x768 .bf16) (r : Vec F S512x640 .bf16) : Vec F S512x1408 .bf16 :=
  View.canon [⟨Rect.unit (s := S512x1408) ![0, 768] S512x640.size inb_S512x1408_S512x640_0_768, r⟩,
    ⟨Rect.unit (s := S512x1408) ![0, 0] S512x768.size inb_S512x1408_S512x768_0_0, l⟩]

variable (d : Vec F S512x1024 .bf16) (a b : Vec F S512x1408 .bf16) (wg wu wd : Vec F S1408x1024 .bf16)

/-- The gradients of `a` and `b` and the hidden value, on either column part. -/
def daLeft : FVec F S512x768 .bf16 := k0_pay17 d (topRows wd) (leftCols a) (leftCols b)
@[inherit_doc daLeft] def dbLeft : FVec F S512x768 .bf16 := k0_pay18 d (topRows wd) (leftCols a)
@[inherit_doc daLeft] def hLeft : FVec F S512x768 .bf16 := k0_pay19 (leftCols a) (leftCols b)
@[inherit_doc daLeft] def daRight : FVec F S512x640 .bf16 := k0_pay26 (k0_pay11 d) (lowRows wd) (rightCols a) (rightCols b)
@[inherit_doc daLeft] def dbRight : FVec F S512x640 .bf16 := k0_pay27 (k0_pay11 d) (lowRows wd) (rightCols a)
@[inherit_doc daLeft] def hRight : FVec F S512x640 .bf16 := k0_pay1 (k0_pay28 (rightCols a) (rightCols b))

/-- What a point adds to the accumulated gradient of the normalised input. -/
def accStep (acc : Vec F S512x1024 .f32) : Vec F S512x1024 .f32 :=
  k0_pay2 (daRight d a b wd) (dbRight d a wd) (k0_pay20 (daLeft d a b wd) (dbLeft d a wd) acc (topRows wg) (topRows wu)) (lowRows wg) (lowRows wu)

/-- Two literal zero offsets are the zero offset. -/
theorem zero2 : (![0, 0] : Fin 2 → ℕ) = fun _ => 0 := by decide

/-- One store over the whole of a buffer leaves its payload. -/
theorem read_one {sig : RefSig} {κ : Kind} {sp : Space} {S : Shape} {e : EltTy} (v : View sig κ sp S e) (f : v.ty.Contents (Elt F))
    {off : Fin S.rank → ℕ} (h : off = fun _ => 0) (inb : ∀ x, off x + S.size x ≤ S.size x) (w : S.Idx → Elt F e) (L : List (View.Piece (Elt F) S e)) :
    v.read (Elt F) (v.writes (Elt F) f (⟨Rect.unit off (no_index S.size) inb, w⟩ :: L)) = w := by
  rw [View.read_writes_eq_canon _ _ _ fun y => ⟨_, List.mem_cons_self .., View.mem_set_unit_zero h inb y⟩]
  exact View.canon_cons_unit_zero h inb w L

/-- A load over the whole of a buffer gives its contents. -/
theorem ld_wide {e : EltTy} (x : Vec F S512x1024 e) (inb : ∀ y, (![0, 0] : Fin 2 → ℕ) y + (![512, 1024] : Fin 2 → ℕ) y ≤ S512x1024.size y) :
    View.ld x (Rect.unit (s := S512x1024) ![0, 0] ![512, 1024] inb) = x := View.ld_unit_zero (S := S512x1024) zero2 inb x
@[inherit_doc ld_wide] theorem ld_row {e : EltTy} (x : Vec F S1x1024 e) (inb : ∀ y, (![0, 0] : Fin 2 → ℕ) y + (![1, 1024] : Fin 2 → ℕ) y ≤ S1x1024.size y) :
    View.ld x (Rect.unit (s := S1x1024) ![0, 0] ![1, 1024] inb) = x := View.ld_unit_zero (S := S1x1024) zero2 inb x

/-- A load over the whole of a buffer just stored over its whole gives the payload. -/
theorem cov_wide {sig : RefSig} {κ : Kind} {sp : Space} {e : EltTy} (v : View sig κ sp S512x1024 e)
    (inb inb' : ∀ y, (![0, 0] : Fin 2 → ℕ) y + (![512, 1024] : Fin 2 → ℕ) y ≤ S512x1024.size y) (w : Vec F S512x1024 e) (L : List (View.Piece (Elt F) S512x1024 e)) :
    v.readCov (⟨Rect.unit (s := S512x1024) ![0, 0] ![512, 1024] inb, w⟩ :: L) (Rect.unit (s := S512x1024) ![0, 0] ![512, 1024] inb').toLoadRect = w :=
  View.readCov_cons_toLoadRect v (Rect.unit (s := S512x1024) ![0, 0] ![512, 1024] inb) w L

/-- The two column stores leave the joined block. -/
theorem read_cols (v : View sig .tc .vmem S512x1408 .bf16) (f : v.ty.Contents (Elt F)) (l : Vec F S512x768 .bf16) (r : Vec F S512x640 .bf16) :
    v.read (Elt F) (v.writes (Elt F) f [⟨Rect.unit (s := S512x1408) ![0, 768] S512x640.size inb_S512x1408_S512x640_0_768, r⟩,
      ⟨Rect.unit (s := S512x1408) ![0, 0] S512x768.size inb_S512x1408_S512x768_0_0, l⟩]) = joinCols l r :=
  View.read_writes_eq_canon _ _ _ (View.cover_of_tiledBy _ ![512, 128] (by sl_kernel_rfl))

/-! ## The conditions of the body -/

/-- The body's conditions on the grid: first point of a tile, second point, first tile, a later tile. -/
abbrev first (i : grid0.Coords) : Prop := k0_cond1 i = 1#1
@[inherit_doc first] abbrev second (i : grid0.Coords) : Prop := k0_cond2 i = 1#1
@[inherit_doc first] abbrev tile0 (i : grid0.Coords) : Prop := k0_cond3 i = 1#1
@[inherit_doc first] abbrev later (i : grid0.Coords) : Prop := k0_cond4 i = 1#1

theorem first_iff : ∀ t : Fin cfg0.N, first (grid0.coords t) ↔ t.val % 2 = 0 :=
  (by decide +kernel : ∀ t : Fin grid0.N, first (grid0.coords t) ↔ t.val % 2 = 0)
theorem second_iff : ∀ t : Fin cfg0.N, second (grid0.coords t) ↔ t.val % 2 = 1 :=
  (by decide +kernel : ∀ t : Fin grid0.N, second (grid0.coords t) ↔ t.val % 2 = 1)
theorem tile0_iff : ∀ t : Fin cfg0.N, tile0 (grid0.coords t) ↔ t.val < 2 :=
  (by decide +kernel : ∀ t : Fin grid0.N, tile0 (grid0.coords t) ↔ t.val < 2)
theorem later_iff : ∀ t : Fin cfg0.N, later (grid0.coords t) ↔ ¬t.val < 2 :=
  (by decide +kernel : ∀ t : Fin grid0.N, later (grid0.coords t) ↔ ¬t.val < 2)

/-! ## The two runs -/

variable (c : Dev nD) (i : grid0.Coords)
variable (a2 : Memref sig .tc .vmem S512x1024 .f32) (h2 : a2.IsWhole)
variable (a3 : Memref sig .tc .vmem S512x1024 .f32) (h3 : a3.IsWhole)
variable (a4 : Memref sig .tc .vmem S1x1024 .f32) (h4 : a4.IsWhole)
variable (a5 : Memref sig .tc .vmem S512x1408 .bf16) (h5 : a5.IsWhole)
variable (a6 : Memref sig .tc .vmem S512x1408 .bf16) (h6 : a6.IsWhole)
variable (a7 : Memref sig .tc .vmem S1408x1024 .bf16) (h7 : a7.IsWhole)
variable (a8 : Memref sig .tc .vmem S1408x1024 .bf16) (h8 : a8.IsWhole)
variable (a9 : Memref sig .tc .vmem S1408x1024 .bf16) (h9 : a9.IsWhole)
variable (a10 : Memref sig .tc .vmem S512x1024 .f32) (h10 : a10.IsWhole)
variable (a11 : Memref sig .tc .vmem S1x1024 .f32) (h11 : a11.IsWhole)
variable (a12 : Memref sig .tc .vmem S512x1408 .bf16) (h12 : a12.IsWhole)
variable (a13 : Memref sig .tc .vmem S512x1408 .bf16) (h13 : a13.IsWhole)
variable (a14 : Memref sig .tc .vmem S512x1408 .bf16) (h14 : a14.IsWhole)
variable (a15 : Memref sig .tc .vmem S512x1024 .bf16) (h15 : a15.IsWhole)
variable (a16 : Memref sig .tc .vmem S512x1024 .bf16) (h16 : a16.IsWhole)
variable (a17 : Memref sig .tc .vmem S512x1024 .f32) (h17 : a17.IsWhole)
variable (x0 : Vec F S512x1024 .f32)
variable (x1 : Vec F S512x1024 .f32)
variable (x2 : Vec F S1x1024 .f32)
variable (x3 : Vec F S512x1408 .bf16)
variable (x4 : Vec F S512x1408 .bf16)
variable (x5 : Vec F S1408x1024 .bf16)
variable (x6 : Vec F S1408x1024 .bf16)
variable (x7 : Vec F S1408x1024 .bf16)

set_option maxHeartbeats 4000000 in
/-- The first point of a tile: the normalised rows and half the incoming gradient are stored, the accumulator starts from zero; the two
    outputs of the second point are left as they were. -/
theorem run_even (p1 : first i) (p2 : ¬second i) (y8 : Vec F S512x1024 .f32) (y9 : Vec F S1x1024 .f32) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare y8 ∗ owns (c : Thread nD τ) a11 fullShare y9 ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d)
      ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare y8 ∗ owns (c : Thread nD τ) a11 fullShare y9
        ∗ owns (c : Thread nD τ) a12 fullShare (joinCols (daLeft (k0_pay9 x0) x3 x4 x7) (daRight (k0_pay9 x0) x3 x4 x7))
        ∗ owns (c : Thread nD τ) a13 fullShare (joinCols (dbLeft (k0_pay9 x0) x3 x7) (dbRight (k0_pay9 x0) x3 x7))
        ∗ owns (c : Thread nD τ) a14 fullShare (joinCols (hLeft x3 x4) (hRight x3 x4))
        ∗ owns (c : Thread nD τ) a15 fullShare (k0_pay8 x1 x2) ∗ owns (c : Thread nD τ) a16 fullShare (k0_pay9 x0)
        ∗ owns (c : Thread nD τ) a17 fullShare (accStep (k0_pay9 x0) x3 x4 x5 x6 x7 (k0_pay10 (F := F)))) -∗ K ⟨⟩))
      ⊢ wp frame (wpE (defs₀ (F := F)) Variants.none c none) E (cc0_ffn2_bwd i a2 h2 a3 h3 a4 h4 a5 h5 a6 h6 a7 h7 a8 h8 a9 h9 a10 h10 a11 h11 a12 h12 a13 h13 a14 h14 a15 h15 a16 h16 a17 h17) K := by
  simp only [cc0_ffn2_bwd_eq_skeleton]; unfold cc0_ffn2_bwd_skel
  simp only [k0_part2_eq_skeleton, k0_part3_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  obtain rfl := h10.eq_unread e10
  obtain rfl := h11.eq_unread e11
  sl_exec (disch := first | sl_exact p1 | sl_exact p2)
  sl_step
  iapply Hk
  isplitl [H2]; · iexists _; isplitr; (ipureintro; exact h2.read_unread _); iexact H2
  isplitl [H3]; · iexists _; isplitr; (ipureintro; exact h3.read_unread _); iexact H3
  isplitl [H4]; · iexists _; isplitr; (ipureintro; exact h4.read_unread _); iexact H4
  isplitl [H5]; · iexists _; isplitr; (ipureintro; exact h5.read_unread _); iexact H5
  isplitl [H6]; · iexists _; isplitr; (ipureintro; exact h6.read_unread _); iexact H6
  isplitl [H7]; · iexists _; isplitr; (ipureintro; exact h7.read_unread _); iexact H7
  isplitl [H8]; · iexists _; isplitr; (ipureintro; exact h8.read_unread _); iexact H8
  isplitl [H9]; · iexists _; isplitr; (ipureintro; exact h9.read_unread _); iexact H9
  isplitl [H10]; · iexists _; isplitr; (ipureintro; exact h10.read_unread _); iexact H10
  isplitl [H11]; · iexists _; isplitr; (ipureintro; exact h11.read_unread _); iexact H11
  isplitl [H12]; · iexists _; isplitr; swap; (iexact H12); ipureintro; sl_unfold_words; rw [read_cols]; simp only [View.readAt_eq_ld, cov_wide, ld_wide, ld_row, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread]; rfl
  isplitl [H13]; · iexists _; isplitr; swap; (iexact H13); ipureintro; sl_unfold_words; rw [read_cols]; simp only [View.readAt_eq_ld, cov_wide, ld_wide, ld_row, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread]; rfl
  isplitl [H14]; · iexists _; isplitr; swap; (iexact H14); ipureintro; sl_unfold_words; rw [read_cols]; simp only [View.readAt_eq_ld, cov_wide, ld_wide, ld_row, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread]; rfl
  isplitl [H15]; · iexists _; isplitr; swap; (iexact H15); ipureintro; sl_unfold_words; rw [read_one _ _ zero2]; simp only [View.readAt_eq_ld, cov_wide, ld_wide, ld_row, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread]
  isplitl [H16]; · iexists _; isplitr; swap; (iexact H16); ipureintro; sl_unfold_words; rw [read_one _ _ zero2]; simp only [View.readAt_eq_ld, cov_wide, ld_wide, ld_row, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread]
  iexists _; isplitr; swap; · iexact H17
  ipureintro; sl_unfold_words; rw [read_one _ _ zero2]; simp only [View.readAt_eq_ld, cov_wide, ld_wide, ld_row, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread]; rfl

set_option maxHeartbeats 4000000 in
/-- The second point of a tile: what the first point left in the normalised rows and the halved gradient is read and stays, the accumulator is
    completed, and the input's gradient is stored; the gain's gradient is stored by the first tile and added to by the later ones. -/
theorem run_odd (p1 : ¬first i) (p2 : second i) (p3 : later i ↔ ¬tile0 i) (g : Vec F S1x1024 .f32) (n dh : Vec F S512x1024 .bf16) (acc : Vec F S512x1024 .f32)
    (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ (∃ d, owns (c : Thread nD τ) a10 fullShare d) ∗ owns (c : Thread nD τ) a11 fullShare g ∗ (∃ d, owns (c : Thread nD τ) a12 fullShare d) ∗ (∃ d, owns (c : Thread nD τ) a13 fullShare d) ∗ (∃ d, owns (c : Thread nD τ) a14 fullShare d) ∗ owns (c : Thread nD τ) a15 fullShare n ∗ owns (c : Thread nD τ) a16 fullShare dh ∗ owns (c : Thread nD τ) a17 fullShare acc
      ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare (k0_pay5 x1 x2 (accStep dh x3 x4 x5 x6 x7 acc) x0)
        ∗ owns (c : Thread nD τ) a11 fullShare (if tile0 i then k0_pay6 x1 (accStep dh x3 x4 x5 x6 x7 acc) else k0_pay7 x1 (accStep dh x3 x4 x5 x6 x7 acc) g)
        ∗ owns (c : Thread nD τ) a12 fullShare (joinCols (daLeft dh x3 x4 x7) (daRight dh x3 x4 x7))
        ∗ owns (c : Thread nD τ) a13 fullShare (joinCols (dbLeft dh x3 x7) (dbRight dh x3 x7))
        ∗ owns (c : Thread nD τ) a14 fullShare (joinCols (hLeft x3 x4) (hRight x3 x4))
        ∗ owns (c : Thread nD τ) a15 fullShare n ∗ owns (c : Thread nD τ) a16 fullShare dh
        ∗ owns (c : Thread nD τ) a17 fullShare (accStep dh x3 x4 x5 x6 x7 acc)) -∗ K ⟨⟩))
      ⊢ wp frame (wpE (defs₀ (F := F)) Variants.none c none) E (cc0_ffn2_bwd i a2 h2 a3 h3 a4 h4 a5 h5 a6 h6 a7 h7 a8 h8 a9 h9 a10 h10 a11 h11 a12 h12 a13 h13 a14 h14 a15 h15 a16 h16 a17 h17) K := by
  simp only [cc0_ffn2_bwd_eq_skeleton]; unfold cc0_ffn2_bwd_skel
  simp only [k0_part2_eq_skeleton, k0_part3_eq_skeleton, k0_part1_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%d10, %f10, -, H10⟩, ⟨%f11, %e11, H11⟩, ⟨%d12, %f12, -, H12⟩, ⟨%d13, %f13, -, H13⟩, ⟨%d14, %f14, -, H14⟩, ⟨%f15, %e15, H15⟩, ⟨%f16, %e16, H16⟩, ⟨%f17, %e17, H17⟩, Hk⟩
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  obtain rfl := h11.eq_unread e11
  obtain rfl := h15.eq_unread e15
  obtain rfl := h16.eq_unread e16
  obtain rfl := h17.eq_unread e17
  by_cases p : tile0 i
  on_goal 1 => have q : ¬later i := fun h => p3.mp h p
  on_goal 2 => have q : later i := p3.mpr p
  on_goal 1 => rw [if_pos p]
  on_goal 2 => rw [if_neg p]
  all_goals
   sl_exec (disch := first | sl_exact p1 | sl_exact p2 | sl_exact p | sl_exact q)
   sl_step
   iapply Hk
   isplitl [H2]; · iexists _; isplitr; (ipureintro; exact h2.read_unread _); iexact H2
   isplitl [H3]; · iexists _; isplitr; (ipureintro; exact h3.read_unread _); iexact H3
   isplitl [H4]; · iexists _; isplitr; (ipureintro; exact h4.read_unread _); iexact H4
   isplitl [H5]; · iexists _; isplitr; (ipureintro; exact h5.read_unread _); iexact H5
   isplitl [H6]; · iexists _; isplitr; (ipureintro; exact h6.read_unread _); iexact H6
   isplitl [H7]; · iexists _; isplitr; (ipureintro; exact h7.read_unread _); iexact H7
   isplitl [H8]; · iexists _; isplitr; (ipureintro; exact h8.read_unread _); iexact H8
   isplitl [H9]; · iexists _; isplitr; (ipureintro; exact h9.read_unread _); iexact H9
   isplitl [H10]; · iexists _; isplitr; swap; (iexact H10); ipureintro; sl_unfold_words; rw [read_one _ _ zero2]; simp only [View.readAt_eq_ld, cov_wide, ld_wide, ld_row, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread]; rfl
   isplitl [H11]; · iexists _; isplitr; swap; (iexact H11); ipureintro; sl_unfold_words; rw [read_one _ _ zero2]; simp only [View.readAt_eq_ld, cov_wide, ld_wide, ld_row, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread]; rfl
   isplitl [H12]; · iexists _; isplitr; swap; (iexact H12); ipureintro; sl_unfold_words; rw [read_cols]; simp only [View.readAt_eq_ld, cov_wide, ld_wide, ld_row, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread]; rfl
   isplitl [H13]; · iexists _; isplitr; swap; (iexact H13); ipureintro; sl_unfold_words; rw [read_cols]; simp only [View.readAt_eq_ld, cov_wide, ld_wide, ld_row, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread]; rfl
   isplitl [H14]; · iexists _; isplitr; swap; (iexact H14); ipureintro; sl_unfold_words; rw [read_cols]; simp only [View.readAt_eq_ld, cov_wide, ld_wide, ld_row, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread]; rfl
   isplitl [H15]; · iexists _; isplitr; (ipureintro; exact h15.read_unread _); iexact H15
   isplitl [H16]; · iexists _; isplitr; (ipureintro; exact h16.read_unread _); iexact H16
   iexists _; isplitr; swap; · iexact H17
   ipureintro; sl_unfold_words; rw [read_one _ _ zero2]; simp only [View.readAt_eq_ld, cov_wide, ld_wide, ld_row, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread]; rfl

end Cert.Kernel3Ideal.Feed

end

end
-- ==== Proof.FeedFrame.lean ====
module

public import proofs.«01_k».proof.Proof.FeedRun
public import proofs.«01_k».proof.Proof.Gen.Kernel3Ideal.Launch
public import proofs.«01_k».proof.Kernel3
public import Idealize.ShloMosaic.Lib.Claim

@[expose] public section

/-! The frame of `_ffn_bwd`: what each point leaves in every buffer and in the accumulator carried between the two points of a
tile, the body's obligation from the two runs, and the launch. The text is written once for any float values; the compiled program
is the same text, so its frame is taken from this one. -/

set_option maxRecDepth 16384

noncomputable section

namespace Cert.Kernel3Ideal.Feed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Kernel3Ideal Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## What the points leave -/

/-- The first point of `t`'s tile. -/
def base (t : Fin cfg0.N) : Fin cfg0.N := ⟨t.val - t.val % 2, lt_of_le_of_lt (Nat.sub_le _ _) t.isLt⟩

theorem base_even {t : Fin cfg0.N} (h : t.val % 2 = 0) : base t = t := Fin.ext (by show t.val - t.val % 2 = t.val; omega)

theorem base_pred {t : Fin cfg0.N} (h : t.val % 2 = 1) (q : t.val - 1 < cfg0.N) : base ⟨t.val - 1, q⟩ = base t :=
  Fin.ext (by show t.val - 1 - (t.val - 1) % 2 = t.val - t.val % 2; omega)

/-- Half the incoming gradient and the normalised rows, as the first point of the tile stores them. -/
def dhAt (t : Fin cfg0.N) : Vec F S512x1024 .bf16 := k0_pay9 (iblk m c 0 (base t))
@[inherit_doc dhAt] def nAt (t : Fin cfg0.N) : Vec F S512x1024 .bf16 := k0_pay8 (iblk m c 1 (base t)) (iblk m c 2 (base t))

/-- What point `t` makes of an accumulator. -/
def stepAt (t : Fin cfg0.N) (acc : Vec F S512x1024 .f32) : Vec F S512x1024 .f32 :=
  accStep (dhAt m c t) (iblk m c 3 t) (iblk m c 4 t) (iblk m c 5 t) (iblk m c 6 t) (iblk m c 7 t) acc

/-- The accumulator after the first point of `t`'s tile, after both, and after `t` itself. -/
def accHalf (t : Fin cfg0.N) : Vec F S512x1024 .f32 := stepAt m c (base t) (k0_pay10 (F := F))
@[inherit_doc accHalf] def accFull (t : Fin cfg0.N) : Vec F S512x1024 .f32 := stepAt m c t (accHalf m c t)
@[inherit_doc accHalf] def accAt (t : Fin cfg0.N) : Vec F S512x1024 .f32 := if t.val % 2 = 0 then accHalf m c t else accFull m c t

/-- The gain's gradient after each point: stored by the first tile's second point, added to by every later tile's. -/
def gainAt : (n : ℕ) → n < cfg0.N → Vec F S1x1024 .f32
  | 0, h => k0_pay6 (iblk m c 1 ⟨0, h⟩) (accFull m c ⟨0, h⟩)
  | n + 1, h => if (n + 1) % 2 = 0 then gainAt n (Nat.lt_of_succ_lt h)
      else if n + 1 < 2 then k0_pay6 (iblk m c 1 ⟨n + 1, h⟩) (accFull m c ⟨n + 1, h⟩)
      else k0_pay7 (iblk m c 1 ⟨n + 1, h⟩) (accFull m c ⟨n + 1, h⟩) (gainAt n (Nat.lt_of_succ_lt h))

theorem gainAt_even (t : Fin cfg0.N) (h0 : t.val ≠ 0) (h : t.val % 2 = 0) (q : t.val - 1 < cfg0.N) :
    gainAt m c t.val t.isLt = gainAt m c (t.val - 1) q := by
  obtain ⟨n, hn⟩ := t
  cases n with
  | zero => exact absurd rfl h0
  | succ n => exact if_pos h

theorem gainAt_odd (t : Fin cfg0.N) (h : t.val % 2 = 1) (q : t.val - 1 < cfg0.N) :
    gainAt m c t.val t.isLt = if t.val < 2 then k0_pay6 (iblk m c 1 t) (accFull m c t)
      else k0_pay7 (iblk m c 1 t) (accFull m c t) (gainAt m c (t.val - 1) q) := by
  obtain ⟨n, hn⟩ := t
  cases n with
  | zero => exact absurd (show 0 % 2 = 1 from h) (by decide)
  | succ n => exact if_neg (by have : (n + 1) % 2 = 1 := h; omega)

/-- The accumulator buffer. -/
abbrev scr : Memref sig .tc .vmem S512x1024 .f32 := Memref.whole cc0_scratch0

/-- The invariant before point `n`: the accumulator buffer at what the point before left. -/
def inv : (n : ℕ) → n ≤ cfg0.N → sProp 𝕄
  | 0, _ => Pipeline.ΦA spec0 c
  | n + 1, h => iprop(owns (c : Thread nD τ) scr fullShare (accAt m c ⟨n, h⟩) ∗ (∃ r, prngReg c r))

theorem whole_eq : (Pipeline.ΦA spec0 c : sProp 𝕄) = iprop((∃ d, owns (c : Thread nD τ) scr fullShare d) ∗ (∃ r, prngReg c r)) := by
  unfold Pipeline.ΦA; rw [scopedRest0_eq]; simp only [owns_whole]; try rfl

/-- Forgetting what the accumulator holds. -/
theorem inv_any : ∀ (n : ℕ) (h : n ≤ cfg0.N), inv m c n h ⊢ Pipeline.ΦA spec0 c
  | 0, _ => .rfl
  | n + 1, _ => by
    rw [whole_eq]; unfold inv
    iintro ⟨H, Hg⟩
    isplitl [H]; · iexists _; iexact H
    iexact Hg

/-- The proof data of the pipeline: the arrays as the region finds them, every window's buffer after each point, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay5 (iblk m c 1 t) (iblk m c 2 t) (accFull m c t) (iblk m c 0 t)
    | ⟨9, _⟩ => gainAt m c t.val t.isLt
    | ⟨10, _⟩ => joinCols (daLeft (dhAt m c t) (iblk m c 3 t) (iblk m c 4 t) (iblk m c 7 t)) (daRight (dhAt m c t) (iblk m c 3 t) (iblk m c 4 t) (iblk m c 7 t))
    | ⟨11, _⟩ => joinCols (dbLeft (dhAt m c t) (iblk m c 3 t) (iblk m c 7 t)) (dbRight (dhAt m c t) (iblk m c 3 t) (iblk m c 7 t))
    | ⟨12, _⟩ => joinCols (hLeft (iblk m c 3 t) (iblk m c 4 t)) (hRight (iblk m c 3 t) (iblk m c 4 t))
    | ⟨13, _⟩ => nAt m c t
    | ⟨14, _⟩ => dhAt m c t
  Φ t := inv m c t.val (Nat.le_of_lt_succ t.isLt)
  q _ := fullShare
  owed _ := 0

theorem A_eq (w : Fin cfg0.W) : (dats m 0 c).A w = V m c (Pipeline.arrRef spec0 w) := by dsimp only [dats]

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = iblk m c 4 t := by dsimp only [dats]
theorem after_5 (t : Fin cfg0.N) : (dats m 0 c).after 5 t = iblk m c 5 t := by dsimp only [dats]
theorem after_6 (t : Fin cfg0.N) : (dats m 0 c).after 6 t = iblk m c 6 t := by dsimp only [dats]
theorem after_7 (t : Fin cfg0.N) : (dats m 0 c).after 7 t = iblk m c 7 t := by dsimp only [dats]
theorem after_8 (t : Fin cfg0.N) : (dats m 0 c).after 8 t = k0_pay5 (iblk m c 1 t) (iblk m c 2 t) (accFull m c t) (iblk m c 0 t) := by dsimp only [dats]
theorem after_9 (t : Fin cfg0.N) : (dats m 0 c).after 9 t = gainAt m c t.val t.isLt := by dsimp only [dats]
theorem after_10 (t : Fin cfg0.N) : (dats m 0 c).after 10 t = joinCols (daLeft (dhAt m c t) (iblk m c 3 t) (iblk m c 4 t) (iblk m c 7 t)) (daRight (dhAt m c t) (iblk m c 3 t) (iblk m c 4 t) (iblk m c 7 t)) := by dsimp only [dats]
theorem after_11 (t : Fin cfg0.N) : (dats m 0 c).after 11 t = joinCols (dbLeft (dhAt m c t) (iblk m c 3 t) (iblk m c 7 t)) (dbRight (dhAt m c t) (iblk m c 3 t) (iblk m c 7 t)) := by dsimp only [dats]
theorem after_12 (t : Fin cfg0.N) : (dats m 0 c).after 12 t = joinCols (hLeft (iblk m c 3 t) (iblk m c 4 t)) (hRight (iblk m c 3 t) (iblk m c 4 t)) := by dsimp only [dats]
theorem after_13 (t : Fin cfg0.N) : (dats m 0 c).after 13 t = nAt m c t := by dsimp only [dats]
theorem after_14 (t : Fin cfg0.N) : (dats m 0 c).after 14 t = dhAt m c t := by dsimp only [dats]

/-- An input's buffer holds its block at every point. -/
theorem before_0 (t : Fin cfg0.N) (d) : (dats m 0 c).before 0 t d = iblk m c 0 t := before0_0_of m (dats m 0 c) (A_eq m c 0) (after_0 m c) t d
@[inherit_doc before_0] theorem before_1 (t : Fin cfg0.N) (d) : (dats m 0 c).before 1 t d = iblk m c 1 t := before0_1_of m (dats m 0 c) (A_eq m c 1) (after_1 m c) t d
@[inherit_doc before_0] theorem before_2 (t : Fin cfg0.N) (d) : (dats m 0 c).before 2 t d = iblk m c 2 t := before0_2_of m (dats m 0 c) (A_eq m c 2) (after_2 m c) t d
@[inherit_doc before_0] theorem before_3 (t : Fin cfg0.N) (d) : (dats m 0 c).before 3 t d = iblk m c 3 t := before0_3_of m (dats m 0 c) (A_eq m c 3) (after_3 m c) t d
@[inherit_doc before_0] theorem before_4 (t : Fin cfg0.N) (d) : (dats m 0 c).before 4 t d = iblk m c 4 t := before0_4_of m (dats m 0 c) (A_eq m c 4) (after_4 m c) t d
@[inherit_doc before_0] theorem before_5 (t : Fin cfg0.N) (d) : (dats m 0 c).before 5 t d = iblk m c 5 t := before0_5_of m (dats m 0 c) (A_eq m c 5) (after_5 m c) t d
@[inherit_doc before_0] theorem before_6 (t : Fin cfg0.N) (d) : (dats m 0 c).before 6 t d = iblk m c 6 t := before0_6_of m (dats m 0 c) (A_eq m c 6) (after_6 m c) t d
@[inherit_doc before_0] theorem before_7 (t : Fin cfg0.N) (d) : (dats m 0 c).before 7 t d = iblk m c 7 t := before0_7_of m (dats m 0 c) (A_eq m c 7) (after_7 m c) t d

/-! ## Which windows a point stores into, and which it writes back -/

/-- The input's and the gain's gradient are left alone by the first point of a tile, and not written back there. -/
theorem idle_8 : ∀ t : Fin cfg0.N, cfg0.idle 8 (grid0.coords t) = decide (t.val % 2 = 0) := by decide +kernel
@[inherit_doc idle_8] theorem idle_9 : ∀ t : Fin cfg0.N, cfg0.idle 9 (grid0.coords t) = decide (t.val % 2 = 0) := by decide +kernel
@[inherit_doc idle_8] theorem kept_8 : ∀ t : Fin cfg0.N, t.val % 2 = 0 → (cfg0.win 8).flush t = false := by decide +kernel
@[inherit_doc idle_8] theorem kept_9 : ∀ t : Fin cfg0.N, t.val % 2 = 0 → (cfg0.win 9).flush t = false := by decide +kernel
/-- The normalised rows and the halved gradient are left alone by the second point, which writes them back. -/
theorem idle_13 : ∀ t : Fin cfg0.N, cfg0.idle 13 (grid0.coords t) = decide (t.val % 2 = 1) := by decide +kernel
@[inherit_doc idle_13] theorem idle_14 : ∀ t : Fin cfg0.N, cfg0.idle 14 (grid0.coords t) = decide (t.val % 2 = 1) := by decide +kernel
@[inherit_doc idle_13] theorem flush_13 : ∀ t : Fin cfg0.N, t.val % 2 = 1 → (cfg0.win 13).flush t = true := by decide +kernel
@[inherit_doc idle_13] theorem flush_14 : ∀ t : Fin cfg0.N, t.val % 2 = 1 → (cfg0.win 14).flush t = true := by decide +kernel

/-- At which positions the gain's buffer holds nothing stored yet: before the first store only, and after the last point. -/
def newGain : ℕ → Bool
  | 0 => true
  | n + 1 => (0x8001 : ℕ).testBit n
/-- At which positions the buffers of the normalised rows and of the halved gradient hold nothing stored yet: before each tile. -/
def newTile : ℕ → Bool
  | 0 => true
  | n + 1 => (0xaaaa : ℕ).testBit n

theorem fresh_9 (t : Fin cfg0.N) : cfg0.fresh 9 t.val = newGain t.val :=
  Pipeline.Cfg.fresh_tab cfg0 9 newGain rfl (by decide +kernel : ∀ t : Fin cfg0.N,
    newGain (t.val + 1) = ((cfg0.win 9).flush t || (cfg0.idle 9 (cfg0.grid.coords t) && newGain t.val))) t.val (Nat.le_of_lt t.isLt)
theorem fresh_13 (t : Fin cfg0.N) : cfg0.fresh 13 t.val = newTile t.val :=
  Pipeline.Cfg.fresh_tab cfg0 13 newTile rfl (by decide +kernel : ∀ t : Fin cfg0.N,
    newTile (t.val + 1) = ((cfg0.win 13).flush t || (cfg0.idle 13 (cfg0.grid.coords t) && newTile t.val))) t.val (Nat.le_of_lt t.isLt)
theorem fresh_14 (t : Fin cfg0.N) : cfg0.fresh 14 t.val = newTile t.val :=
  Pipeline.Cfg.fresh_tab cfg0 14 newTile rfl (by decide +kernel : ∀ t : Fin cfg0.N,
    newTile (t.val + 1) = ((cfg0.win 14).flush t || (cfg0.idle 14 (cfg0.grid.coords t) && newTile t.val))) t.val (Nat.le_of_lt t.isLt)

theorem newGain_odd : ∀ t : Fin cfg0.N, t.val % 2 = 1 → ¬t.val < 2 → newGain t.val = false := by decide +kernel
theorem newTile_odd : ∀ t : Fin cfg0.N, t.val % 2 = 1 → newTile t.val = false := by decide +kernel

/-- At the second point of a later tile the gain's buffer holds what the tile before left. -/
theorem before_9 (t : Fin cfg0.N) (h : t.val % 2 = 1) (h2 : ¬t.val < 2) (q : t.val - 1 < cfg0.N) (d) :
    (dats m 0 c).before 9 t d = gainAt m c (t.val - 1) q := by
  rw [Dat.before_out_traj _ 9 rfl (fun _ _ => rfl) (fun t h0 hi _ => by
    rw [after_9, after_9]
    exact gainAt_even m c t h0 (of_decide_eq_true ((idle_9 t).symm.trans hi)) _) t.val t rfl d,
    if_neg (by rw [fresh_9, newGain_odd t h h2]; exact Bool.false_ne_true)]
  dsimp only [dats]

theorem dhAt_pred {t : Fin cfg0.N} (h : t.val % 2 = 1) (q : t.val - 1 < cfg0.N) : dhAt m c ⟨t.val - 1, q⟩ = dhAt m c t := by
  unfold dhAt; rw [base_pred h]
theorem nAt_pred {t : Fin cfg0.N} (h : t.val % 2 = 1) (q : t.val - 1 < cfg0.N) : nAt m c ⟨t.val - 1, q⟩ = nAt m c t := by
  unfold nAt; rw [base_pred h]

/-- At the second point of a tile the buffer holds what the first point stored. -/
theorem before_13 (t : Fin cfg0.N) (h : t.val % 2 = 1) (d) : (dats m 0 c).before 13 t d = nAt m c t := by
  rw [Dat.before_out_traj _ 13 rfl (fun _ _ => rfl) (fun t _ hi _ => by
    rw [after_13, after_13]
    exact (nAt_pred m c (of_decide_eq_true ((idle_13 t).symm.trans hi)) _).symm) t.val t rfl d,
    if_neg (by rw [fresh_13, newTile_odd t h]; exact Bool.false_ne_true), after_13]
  exact nAt_pred m c h _
@[inherit_doc before_13] theorem before_14 (t : Fin cfg0.N) (h : t.val % 2 = 1) (d) : (dats m 0 c).before 14 t d = dhAt m c t := by
  rw [Dat.before_out_traj _ 14 rfl (fun _ _ => rfl) (fun t _ hi _ => by
    rw [after_14, after_14]
    exact (dhAt_pred m c (of_decide_eq_true ((idle_14 t).symm.trans hi)) _).symm) t.val t rfl d,
    if_neg (by rw [fresh_14, newTile_odd t h]; exact Bool.false_ne_true), after_14]
  exact dhAt_pred m c h _

/-! ## The body at any point -/

/-- The staging buffer of each window at point `t`. -/
abbrev buf0 (t : Fin cfg0.N) : Memref sig .tc .vmem S512x1024 .f32 := win0_0.stage (cfg0.slots t 0)
@[inherit_doc buf0] abbrev buf1 (t : Fin cfg0.N) : Memref sig .tc .vmem S512x1024 .f32 := win0_1.stage (cfg0.slots t 1)
@[inherit_doc buf0] abbrev buf2 (t : Fin cfg0.N) : Memref sig .tc .vmem S1x1024 .f32 := win0_2.stage (cfg0.slots t 2)
@[inherit_doc buf0] abbrev buf3 (t : Fin cfg0.N) : Memref sig .tc .vmem S512x1408 .bf16 := win0_3.stage (cfg0.slots t 3)
@[inherit_doc buf0] abbrev buf4 (t : Fin cfg0.N) : Memref sig .tc .vmem S512x1408 .bf16 := win0_4.stage (cfg0.slots t 4)
@[inherit_doc buf0] abbrev buf5 (t : Fin cfg0.N) : Memref sig .tc .vmem S1408x1024 .bf16 := win0_5.stage (cfg0.slots t 5)
@[inherit_doc buf0] abbrev buf6 (t : Fin cfg0.N) : Memref sig .tc .vmem S1408x1024 .bf16 := win0_6.stage (cfg0.slots t 6)
@[inherit_doc buf0] abbrev buf7 (t : Fin cfg0.N) : Memref sig .tc .vmem S1408x1024 .bf16 := win0_7.stage (cfg0.slots t 7)
@[inherit_doc buf0] abbrev buf8 (t : Fin cfg0.N) : Memref sig .tc .vmem S512x1024 .f32 := win0_8.stage (cfg0.slots t 8)
@[inherit_doc buf0] abbrev buf9 (t : Fin cfg0.N) : Memref sig .tc .vmem S1x1024 .f32 := win0_9.stage (cfg0.slots t 9)
@[inherit_doc buf0] abbrev buf10 (t : Fin cfg0.N) : Memref sig .tc .vmem S512x1408 .bf16 := win0_10.stage (cfg0.slots t 10)
@[inherit_doc buf0] abbrev buf11 (t : Fin cfg0.N) : Memref sig .tc .vmem S512x1408 .bf16 := win0_11.stage (cfg0.slots t 11)
@[inherit_doc buf0] abbrev buf12 (t : Fin cfg0.N) : Memref sig .tc .vmem S512x1408 .bf16 := win0_12.stage (cfg0.slots t 12)
@[inherit_doc buf0] abbrev buf13 (t : Fin cfg0.N) : Memref sig .tc .vmem S512x1024 .bf16 := win0_13.stage (cfg0.slots t 13)
@[inherit_doc buf0] abbrev buf14 (t : Fin cfg0.N) : Memref sig .tc .vmem S512x1024 .bf16 := win0_14.stage (cfg0.slots t 14)

/-- A window the point stores into is left at what the proof data says; so is one it leaves alone but writes back. -/
theorem leaves_live (w : Fin cfg0.W) (t : Fin cfg0.N) (h : cfg0.idle w (grid0.coords t) = false) : (dats m 0 c).leavesExact w t
    = owns (c : Thread nD τ) ((cfg0.win w).stage (cfg0.slots t w)) fullShare ((dats m 0 c).after w t) := by
  unfold Dat.leavesExact; rw [h]
@[inherit_doc leaves_live] theorem leaves_back (w : Fin cfg0.W) (t : Fin cfg0.N) (h : cfg0.idle w (grid0.coords t) = true) (hf : (cfg0.win w).flush t = true) :
    (dats m 0 c).leavesExact w t
    = owns (c : Thread nD τ) ((cfg0.win w).stage (cfg0.slots t w)) fullShare ((dats m 0 c).after w t) := by
  unfold Dat.leavesExact; rw [h, hf]

/-- What the body is called with at point `t`, and what it returns. -/
def bodyPre (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d))
    ∗ (∃ d, owns (c : Thread nD τ) (buf10 t) fullShare ((dats m 0 c).before 10 t d))
    ∗ (∃ d, owns (c : Thread nD τ) (buf11 t) fullShare ((dats m 0 c).before 11 t d))
    ∗ (∃ d, owns (c : Thread nD τ) (buf12 t) fullShare ((dats m 0 c).before 12 t d))
    ∗ (∃ d, owns (c : Thread nD τ) (buf13 t) fullShare ((dats m 0 c).before 13 t d))
    ∗ (∃ d, owns (c : Thread nD τ) (buf14 t) fullShare ((dats m 0 c).before 14 t d)))
@[inherit_doc bodyPre] def bodyPost (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

/-- The body at the first point of a tile. -/
theorem sound_even (t : Fin cfg0.N) (h : t.val % 2 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  have e13 : cfg0.idle 13 (grid0.coords t) = false := (idle_13 t).trans (decide_eq_false (by omega))
  have e14 : cfg0.idle 14 (grid0.coords t) = false := (idle_14 t).trans (decide_eq_false (by omega))
  rw [show (dats m 0 c).owesAt () t.succ = (dats m 0 c).owesAt () t.castSucc from rfl,
    show (dats m 0 c).Φ t.succ = iprop(owns (c : Thread nD τ) scr fullShare (accAt m c t) ∗ (∃ r, prngReg c r)) from rfl,
    leaves_live m c 0 t rfl, leaves_live m c 1 t rfl, leaves_live m c 2 t rfl, leaves_live m c 3 t rfl, leaves_live m c 4 t rfl, leaves_live m c 5 t rfl, leaves_live m c 6 t rfl, leaves_live m c 7 t rfl, leaves_live m c 10 t rfl, leaves_live m c 11 t rfl, leaves_live m c 12 t rfl, leaves_live m c 13 t e13, leaves_live m c 14 t e14,
    Dat.leavesExact_idle (dats m 0 c) 8 t ((idle_8 t).trans (decide_eq_true h)) (kept_8 t h),
    Dat.leavesExact_idle (dats m 0 c) 9 t ((idle_9 t).trans (decide_eq_true h)) (kept_9 t h),
    after_0, after_1, after_2, after_3, after_4, after_5, after_6, after_7, after_10, after_11, after_12, after_13, after_14]
  have ea : accAt m c t = accStep (k0_pay9 (iblk m c 0 t)) (iblk m c 3 t) (iblk m c 4 t) (iblk m c 5 t) (iblk m c 6 t) (iblk m c 7 t) (k0_pay10 (F := F)) := by
    unfold accAt; rw [if_pos h]; unfold accHalf stepAt dhAt; rw [base_even h, base_even h]
  have ed : dhAt m c t = k0_pay9 (iblk m c 0 t) := by unfold dhAt; rw [base_even h]
  have en : nAt m c t = k0_pay8 (iblk m c 1 t) (iblk m c 2 t) := by unfold nAt; rw [base_even h]
  rw [ea, ed, en]
  refine (sep_mono_left (show (dats m 0 c).Φ t.castSucc ⊢ Pipeline.ΦA spec0 c from inv_any m c t.val _)).trans ?_
  rw [whole_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (run_even c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((first_iff t).mpr h) (fun p => absurd ((second_iff t).mp p) (by omega)) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [HS]; · iexact HS
  iintro ⟨H0, H1, H2, H3, H4, H5, H6, H7, H8, H9, H10, H11, H12, H13, H14, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  isplitl [H11]; · iexact H11
  isplitl [H12]; · iexact H12
  isplitl [H13]; · iexact H13
  iexact H14

/-- The body at the second point of a tile. -/
theorem sound_odd (t : Fin cfg0.N) (h : t.val % 2 = 1) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_13 m c t h, before_14 m c t h]
  have q : t.val - 1 < cfg0.N := lt_of_le_of_lt (Nat.sub_le _ _) t.isLt
  have e8 : cfg0.idle 8 (grid0.coords t) = false := (idle_8 t).trans (decide_eq_false (by omega))
  have e9 : cfg0.idle 9 (grid0.coords t) = false := (idle_9 t).trans (decide_eq_false (by omega))
  rw [show (dats m 0 c).owesAt () t.succ = (dats m 0 c).owesAt () t.castSucc from rfl,
    show (dats m 0 c).Φ t.succ = iprop(owns (c : Thread nD τ) scr fullShare (accAt m c t) ∗ (∃ r, prngReg c r)) from rfl,
    leaves_live m c 0 t rfl, leaves_live m c 1 t rfl, leaves_live m c 2 t rfl, leaves_live m c 3 t rfl, leaves_live m c 4 t rfl, leaves_live m c 5 t rfl, leaves_live m c 6 t rfl, leaves_live m c 7 t rfl, leaves_live m c 10 t rfl, leaves_live m c 11 t rfl, leaves_live m c 12 t rfl, leaves_live m c 8 t e8, leaves_live m c 9 t e9,
    leaves_back m c 13 t ((idle_13 t).trans (decide_eq_true h)) (flush_13 t h),
    leaves_back m c 14 t ((idle_14 t).trans (decide_eq_true h)) (flush_14 t h),
    after_0, after_1, after_2, after_3, after_4, after_5, after_6, after_7, after_8, after_9, after_10, after_11, after_12, after_13, after_14]
  have ei : (dats m 0 c).Φ t.castSucc = iprop(owns (c : Thread nD τ) scr fullShare (accHalf m c t) ∗ (∃ r, prngReg c r)) := by
    rw [show (dats m 0 c).Φ t.castSucc = inv m c t.val (Nat.le_of_lt t.isLt) from rfl]
    have : inv m c t.val (Nat.le_of_lt t.isLt) = iprop(owns (c : Thread nD τ) scr fullShare (accAt m c ⟨t.val - 1, q⟩) ∗ (∃ r, prngReg c r)) := by
      obtain ⟨n, hn⟩ := t
      cases n with
      | zero => exact absurd (show 0 % 2 = 1 from h) (by decide)
      | succ n => rfl
    rw [this]
    unfold accAt; rw [if_pos (show (t.val - 1) % 2 = 0 by omega)]; unfold accHalf; rw [base_pred h]
  have ea : accAt m c t = accFull m c t := by unfold accAt; rw [if_neg (by omega)]
  have eg (d) : (if tile0 (grid0.coords t) then k0_pay6 (iblk m c 1 t) (accFull m c t) else k0_pay7 (iblk m c 1 t) (accFull m c t) ((dats m 0 c).before 9 t d))
      = gainAt m c t.val t.isLt := by
    rw [gainAt_odd m c t h q]
    by_cases p : t.val < 2
    · rw [if_pos ((tile0_iff t).mpr p), if_pos p]
    · rw [if_neg fun z => p ((tile0_iff t).mp z), if_neg p, before_9 m c t h p q]
  rw [ei, ea]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  rw [← eg d9]
  unfold accFull stepAt
  iapply (run_odd c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (fun p => absurd ((first_iff t).mp p) (by omega)) ((second_iff t).mpr h)
    ((later_iff t).trans (not_congr (tile0_iff t).symm)) _ (nAt m c t) (dhAt m c t) (accHalf m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexists _; iexact H10
  isplitl [H11]; · iexists _; iexact H11
  isplitl [H12]; · iexists _; iexact H12
  isplitl [H13]; · iexact H13
  isplitl [H14]; · iexact H14
  isplitl [HS]; · iexact HS
  iintro ⟨H0, H1, H2, H3, H4, H5, H6, H7, H8, H9, H10, H11, H12, H13, H14, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem sound_body (t : Fin cfg0.N) :
    bodyPre m c t ⊢ wp frame (wpE (defs₀ (F := F)) Variants.none c none) Set.univ (bodyAt0 t) (fun _ => bodyPost m c t) :=
  (Nat.mod_two_eq_zero_or_one t.val).elim (sound_even m c t) (sound_odd m c t)

theorem body_row (t : Fin cfg0.N) : defs₀ (F := F) .tc cfg0.body (cfg0.bodyArgs t (cfg0.slots t)) = bodyAt0 t := by
  unfold defs₀; rw [Defs.onTc_tc]

/-- The body's obligation at every point. -/
theorem body_obligation : BodyObligation (dats (F := F) m 0 c) (defs₀ (F := F)) Variants.none () Set.univ := fun t => by
  rw [bigSep_W0, bigSep_W0, body_row]
  exact triple_restated (sound_body m c t) rfl .rfl fun _ => .rfl

theorem enter : Pipeline.ΦA spec0 c ⊢ (dats m 0 c).Φ 0 := .rfl
theorem exit_any : (dats m 0 c).Φ (Fin.last cfg0.N) ⊢ Pipeline.ΦA spec0 c :=
  inv_any m c (Fin.last cfg0.N).val (Nat.le_of_lt_succ (Fin.last cfg0.N).isLt)

/-! ## The launch and the frames -/

set_option backward.isDefEq.respectTransparency.types false in
/-- Every execution of the host program terminates, every array of the pipeline ends at what the proof data computes, every other
    buffer as the call found it, every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := exit_any m)

@[inherit_doc run_quiescent] theorem run_main : θ_run defs (onTc (τ := τ) (main (F := F))) (s₀ m ρ) (Pipeline.FramePost cfgs (dats m) 0 (V m)) :=
  (θ_run defs _ _).mono (fun _ h => h.1) (run_quiescent m ρ)

/-- The frame, for any float values: the arguments end unchanged and every counter at zero. -/
theorem frame_any : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5))
      ∧ r.2.sem = fun _ => 0) :=
  θ_run_and (frame_of m ρ (dats m) (A_eq m) (run_main m ρ)) ((θ_run defs _ _).mono (fun _ h => h.2) (run_quiescent m ρ))

end Cert.Kernel3Ideal.Feed

end
-- ==== Proof.NormBack.lean ====
module

public import Idealize.ShloMosaic.PureOps.Ideal
public import Idealize.ShloMosaic.PureOps.Ideal.Laws
public import Idealize.ShloMosaic.Lib.IdealHost

/-!
The derivative of a row over its root mean square, over the extended reals: the form that collects the row's factor and the form
that differentiates the reciprocal root are the same, also where a number is infinite.
-/

@[expose] public section

noncomputable section

namespace Cert.NormBack

open Idealize.ShloMosaic

/-- The length of a row, -/
abbrev len : EReal := Ideal.ofBits .f32 0x44800000#32
/-- and what is added to its mean square. -/
abbrev eps : EReal := Ideal.ofBits .f32 0x358637BD#32
/-- Minus one half. -/
abbrev half : EReal := Ideal.ofBits .f32 0xBF000000#32

theorem len_eq : len = ((1024 : ℝ) : EReal) := by
  simp [len, Ideal.ofBits, Ideal.ieee, -EReal.coe_mul]; norm_num
theorem half_eq : half = ((-(1 / 2) : ℝ) : EReal) := by
  simp [half, Ideal.ofBits, Ideal.ieee, -EReal.coe_mul]; norm_num
theorem eps_eq : ∃ e : ℝ, 0 < e ∧ eps = (e : EReal) := by
  refine ⟨_, ?_, by simp [eps, Ideal.ofBits, Ideal.ieee, -EReal.coe_mul]; rfl⟩
  norm_num

/-- The mean square of a row, above zero. -/
def meanSq (x : Fin 1024 → EReal) : EReal := Ideal.div (∑ d : Fin 1024, x d * x d) len + eps
/-- Its reciprocal root. -/
def inv (x : Fin 1024 → EReal) : EReal := Ideal.rsqrt (meanSq x)

theorem sq_nonneg (y : EReal) : 0 ≤ y * y := by
  induction y with
  | bot => simp
  | coe r => rw [← EReal.coe_mul]; exact EReal.coe_nonneg.2 (mul_self_nonneg r)
  | top => simp

theorem meanSq_cases (x : Fin 1024 → EReal) : meanSq x = ⊤ ∨ ∃ p : ℝ, 0 < p ∧ meanSq x = (p : EReal) := by
  obtain ⟨e, he, ee⟩ := eps_eq
  have h0 : 0 ≤ ∑ d : Fin 1024, x d * x d := Finset.sum_nonneg fun d _ => sq_nonneg (x d)
  unfold meanSq
  rw [len_eq, ee, Ideal.div_coe (by norm_num)]
  generalize ∑ d : Fin 1024, x d * x d = z at h0
  induction z with
  | bot => exact absurd h0 (by simp)
  | coe z =>
    have hz : 0 ≤ z := EReal.coe_nonneg.1 h0
    exact Or.inr ⟨z * (1 / 1024) + e, by positivity, by rw [← EReal.coe_mul, ← EReal.coe_add]⟩
  | top =>
    left
    rw [EReal.top_mul_coe_of_pos (by norm_num), EReal.top_add_coe]

/-- A number that is not below zero goes into a sum. -/
theorem sum_times {ι : Type} (s : Finset ι) (f : ι → EReal) {q : ℝ} (hq : 0 ≤ q) : (∑ i ∈ s, f i) * (q : EReal) = ∑ i ∈ s, f i * (q : EReal) := by
  classical
  induction s using Finset.induction_on with
  | empty => simp
  | insert a s ha ih =>
    rw [Finset.sum_insert ha, Finset.sum_insert ha, ← ih]
    exact EReal.right_distrib_of_nonneg_of_ne_top (EReal.coe_nonneg.2 hq) (EReal.coe_ne_top q) _ _

/-- The two forms of the derivative at one place, the row's derivative times the gain being `u`. -/
theorem norm_back (x u : Fin 1024 → EReal) (l : Fin 1024) :
    inv x * (u l - x l * inv x * Ideal.div (∑ d : Fin 1024, u d * (x d * inv x)) len)
      = u l * inv x + x l * Ideal.div ((∑ d : Fin 1024, x d * u d) * (half * Ideal.div (inv x) (meanSq x))) len
        + Ideal.div ((∑ d : Fin 1024, x d * u d) * (half * Ideal.div (inv x) (meanSq x))) len * x l := by
  have hM : (1024 : ℝ) ≠ 0 := by norm_num
  rw [len_eq, half_eq, Ideal.div_coe hM, Ideal.div_coe hM]
  rcases meanSq_cases x with hs | ⟨p, hp, hs⟩
  · have hi : inv x = 0 := by unfold inv; rw [hs]; rfl
    rw [hi, hs]
    have h0 : Ideal.div 0 ⊤ = 0 := by simp [Ideal.div]
    rw [h0]
    simp
  · obtain ⟨q, hq, hi⟩ : ∃ q : ℝ, 0 < q ∧ inv x = (q : EReal) := by
      refine ⟨(Real.sqrt p)⁻¹, inv_pos.2 (Real.sqrt_pos.2 hp), ?_⟩
      unfold inv
      rw [hs, Ideal.rsqrt_coe, if_neg (not_lt.2 hp.le), if_neg hp.ne']
    have hqp : 1 / p = q * q := by
      have : inv x = (((Real.sqrt p)⁻¹ : ℝ) : EReal) := by
        unfold inv
        rw [hs, Ideal.rsqrt_coe, if_neg (not_lt.2 hp.le), if_neg hp.ne']
      rw [hi] at this
      rw [EReal.coe_injective this, ← mul_inv, Real.mul_self_sqrt hp.le, one_div]
    rw [hi, hs, Ideal.div_coe hp.ne', hqp]
    have e1 : ∑ d : Fin 1024, u d * (x d * (q : EReal)) = (∑ d : Fin 1024, x d * u d) * (q : EReal) := by
      rw [sum_times _ _ hq.le]
      exact Finset.sum_congr rfl fun d _ => by rw [← mul_assoc, mul_comm (u d)]
    rw [e1]
    generalize (∑ d : Fin 1024, x d * u d) = S
    have e2 : x l * (q : EReal) * (S * (q : EReal) * ((1 / 1024 : ℝ) : EReal)) = x l * S * ((q * q * (1 / 1024) : ℝ) : EReal) := by
      simp only [EReal.coe_mul]
      ac_rfl
    have hh : 0 ≤ q * q * q * (1 / 2048) := by positivity
    have e3 : S * (((-(1 / 2) : ℝ) : EReal) * ((q : EReal) * ((q * q : ℝ) : EReal))) * ((1 / 1024 : ℝ) : EReal) = (-S) * ((q * q * q * (1 / 2048) : ℝ) : EReal) := by
      rw [show (-S) * ((q * q * q * (1 / 2048) : ℝ) : EReal) = S * ((-(q * q * q * (1 / 2048)) : ℝ) : EReal) by rw [EReal.coe_neg, EReal.neg_mul, mul_comm S (-_), EReal.neg_mul, mul_comm S],
        show (-(q * q * q * (1 / 2048)) : ℝ) = -(1 / 2) * (q * (q * q)) * (1 / 1024) by ring]
      simp only [EReal.coe_mul]
      ac_rfl
    rw [e2, e3, sub_eq_add_neg, EReal.left_distrib_of_nonneg_of_ne_top (EReal.coe_nonneg.2 hq.le) (EReal.coe_ne_top q), add_assoc, mul_comm (q : EReal) (u l)]
    refine congrArg (u l * (q : EReal) + ·) ?_
    generalize hg : (q * q * q * (1 / 2048) : ℝ) = h at hh
    have e4 : x l * (-S * (h : EReal)) = x l * -S * (h : EReal) := (mul_assoc _ _ _).symm
    rw [mul_comm _ (x l), e4, ← EReal.left_distrib_of_nonneg (EReal.coe_nonneg.2 hh) (EReal.coe_nonneg.2 hh), ← EReal.coe_add, ← hg,
      mul_comm (x l) (-S), EReal.neg_mul, mul_comm (q : EReal) (-_), EReal.neg_mul, EReal.neg_mul, mul_assoc (x l * S), ← EReal.coe_mul, mul_comm S (x l)]
    exact congrArg (fun z : ℝ => -(x l * S * (z : EReal))) (by ring)

end Cert.NormBack
end
-- ==== Proof.FeedMath.lean ====
module

public import proofs.«01_k».proof.Proof.NormBack
public import proofs.«01_k».proof.Proof.Reals
public import Idealize.ShloMosaic.PureOps.Ideal
public import Idealize.ShloMosaic.PureOps.Ideal.Laws

/-!
Real numbers among the extended reals: what keeps them real, and the two identities of the feed-forward layer's derivative that hold of them.
-/

@[expose] public section

noncomputable section

namespace Cert.FeedMath

open Idealize.ShloMosaic
open NormBack (inv meanSq len eps half)

/-- The extended real is a real number. -/
def IsReal (y : EReal) : Prop := ∃ r : ℝ, y = (r : EReal)

theorem IsReal.mul {a b : EReal} : IsReal a → IsReal b → IsReal (a * b)
  | ⟨x, hx⟩, ⟨y, hy⟩ => ⟨x * y, by rw [hx, hy, EReal.coe_mul]⟩

theorem IsReal.add {a b : EReal} : IsReal a → IsReal b → IsReal (a + b)
  | ⟨x, hx⟩, ⟨y, hy⟩ => ⟨x + y, by rw [hx, hy, EReal.coe_add]⟩

theorem IsReal.sum {n : ℕ} {f : Fin n → EReal} (h : ∀ i, IsReal (f i)) : IsReal (∑ i, f i) := by
  choose g hg using h
  exact ⟨∑ i, g i, (Finset.sum_congr rfl fun i _ => hg i).trans (KernelIdeal.Mla.coe_sum_real g)⟩

theorem logistic_real {a : EReal} : IsReal a → IsReal (Ideal.logistic a)
  | ⟨x, hx⟩ => ⟨1 / (1 + Real.exp (-x)), by
    have hp : (1 + Real.exp (-x)) ≠ 0 := by positivity
    rw [hx]
    show Ideal.div 1 (1 + Ideal.exp (-(x : EReal))) = _
    rw [← EReal.coe_neg, Ideal.exp_coe, ← EReal.coe_one, ← EReal.coe_add, KernelIdeal.Mla.div_real _ _ hp]⟩

/-- A row of real numbers has a real factor. -/
theorem inv_real {x : Fin 1024 → EReal} (h : ∀ d, IsReal (x d)) : IsReal (inv x) := by
  rcases NormBack.meanSq_cases x with hs | ⟨p, hp, hs⟩
  · exact ⟨0, by unfold NormBack.inv; rw [hs]; rfl⟩
  · exact ⟨(Real.sqrt p)⁻¹, by unfold NormBack.inv; rw [hs, Ideal.rsqrt_coe, if_neg (not_lt.2 hp.le), if_neg hp.ne']⟩

/-- The gate's derivative in the kernel's form is the reference's two terms. -/
theorem gate_eq {a b h : EReal} (ha : IsReal a) (hb : IsReal b) (hh : IsReal h) :
    h * b * (Ideal.logistic a * (1 + a * (1 - Ideal.logistic a)))
      = h * b * Ideal.logistic a + a * (h * b) * (Ideal.logistic a * (1 - Ideal.logistic a)) := by
  obtain ⟨s, hs⟩ := logistic_real ha
  obtain ⟨a, rfl⟩ := ha
  obtain ⟨b, rfl⟩ := hb
  obtain ⟨h, rfl⟩ := hh
  rw [hs, ← EReal.coe_one]
  simp only [← EReal.coe_mul, ← EReal.coe_add, ← EReal.coe_sub]
  exact congrArg _ (by ring)

/-- The normalisation's derivative at one place, `u` being the gradient times the gain. -/
def through (x u : Fin 1024 → EReal) (l : Fin 1024) : EReal :=
  inv x * (u l - x l * inv x * Ideal.div (∑ d : Fin 1024, u d * (x d * inv x)) len)

/-- It is additive on real numbers. -/
theorem through_add {x u v : Fin 1024 → EReal} (hx : ∀ d, IsReal (x d)) (hu : ∀ d, IsReal (u d)) (hv : ∀ d, IsReal (v d)) (l : Fin 1024) :
    through x (fun d => u d + v d) l = through x u l + through x v l := by
  obtain ⟨q, hq⟩ := inv_real hx
  unfold through
  rw [hq, NormBack.len_eq]
  choose x' hx' using hx
  choose u' hu' using hu
  choose v' hv' using hv
  simp only [hx', hu', hv', ← EReal.coe_mul, ← EReal.coe_add]
  rw [KernelIdeal.Mla.coe_sum_real (fun d => (u' d + v' d) * (x' d * q)), KernelIdeal.Mla.coe_sum_real (fun d => u' d * (x' d * q)),
    KernelIdeal.Mla.coe_sum_real (fun d => v' d * (x' d * q)),
    KernelIdeal.Mla.div_real _ _ (by norm_num), KernelIdeal.Mla.div_real _ _ (by norm_num), KernelIdeal.Mla.div_real _ _ (by norm_num)]
  simp only [← EReal.coe_mul, ← EReal.coe_sub, ← EReal.coe_add]
  have e : (∑ d, (u' d + v' d) * (x' d * q)) = (∑ d, u' d * (x' d * q)) + ∑ d, v' d * (x' d * q) := by
    rw [← Finset.sum_add_distrib]
    exact Finset.sum_congr rfl fun d _ => by ring
  rw [e]
  exact congrArg _ (by ring)

/-- Multiplication spreads over a sum of real numbers. -/
theorem spread {a b c : EReal} (ha : IsReal a) (hb : IsReal b) (hc : IsReal c) : (a + b) * c = a * c + b * c := by
  obtain ⟨a, rfl⟩ := ha
  obtain ⟨b, rfl⟩ := hb
  obtain ⟨c, rfl⟩ := hc
  simp only [← EReal.coe_mul, ← EReal.coe_add]
  exact congrArg _ (by ring)

end Cert.FeedMath
end
-- ==== Proof.FeedBlocks.lean ====
module

public import proofs.«01_k».proof.Proof.FeedFrame
public import proofs.«01_k».proof.Proof.FeedMath
public import proofs.«01_k».proof.Proof.Gen.Reference3Ideal.Read
public import Idealize.ShloMosaic.Lib.Pointwise
public import Idealize.ShloMosaic.Lib.Pipeline.Value
public import Idealize.ShloMosaic.Lib.Pipeline.ValueKit.Tiles
public import Idealize.ShloMosaic.Lib.Tactic
public import Idealize.ShloMosaic.Lib.IdealHost
public import Idealize.ShloMosaic.PureOps.Ideal
public import Idealize.ShloMosaic.PureOps.Ideal.Laws

/-!
The feed-forward backward call over the extended reals: what its body stores at an index, what the host code prepares, and the seven results
as functions of the arguments.
-/

@[expose] public section

noncomputable section

namespace Cert.Kernel3Ideal.FeedBlocks

open Kernel3Ideal Kernel3Ideal.Gen Kernel3Ideal.Feed
open Idealize.ShloMosaic Idealize.ShloMosaic.TcCoe Idealize.ShloMosaic.Tactic Idealize.SL.Sem
open NormBack (meanSq len eps half)
open FeedMath (through)

/-! ## The body's vectors at an index -/

/-- A row of an array. -/
abbrev row {n : ℕ} (x : (⟨2, ![n, 1024]⟩ : Shape).Idx → EReal) (r : Fin n) : Fin 1024 → EReal := fun d => x (ix2 r d)

/-- The gated unit's value of two numbers, and its derivatives times `h`. -/
def hidden (a b : EReal) : EReal := a * Ideal.logistic a * b
@[inherit_doc hidden] def slopeA (h a b : EReal) : EReal := h * b * (Ideal.logistic a * (1 + a * (1 - Ideal.logistic a)))
@[inherit_doc hidden] def slopeB (h a : EReal) : EReal := h * (a * Ideal.logistic a)

theorem topRows_at (w : Vec Ideal S1408x1024 .bf16) (k : Fin 768) (l : Fin 1024) : topRows w (ix2 k l) = w (ix2 ⟨k.val, by omega⟩ l) :=
  View.ld_unit_apply_of w _ _ _ _ _ fun a => match a with | ⟨0, _⟩ => (Nat.zero_add _).symm | ⟨1, _⟩ => (Nat.zero_add _).symm
theorem lowRows_at (w : Vec Ideal S1408x1024 .bf16) (k : Fin 640) (l : Fin 1024) : lowRows w (ix2 k l) = w (ix2 ⟨768 + k.val, by omega⟩ l) :=
  View.ld_unit_apply_of w _ _ _ _ _ fun a => match a with | ⟨0, _⟩ => rfl | ⟨1, _⟩ => (Nat.zero_add _).symm
theorem leftCols_at (w : Vec Ideal S512x1408 .bf16) (r : Fin 512) (k : Fin 768) : leftCols w (ix2 r k) = w (ix2 r ⟨k.val, by omega⟩) :=
  View.ld_unit_apply_of w _ _ _ _ _ fun a => match a with | ⟨0, _⟩ => (Nat.zero_add _).symm | ⟨1, _⟩ => (Nat.zero_add _).symm
theorem rightCols_at (w : Vec Ideal S512x1408 .bf16) (r : Fin 512) (k : Fin 640) : rightCols w (ix2 r k) = w (ix2 r ⟨768 + k.val, by omega⟩) :=
  View.ld_unit_apply_of w _ _ _ _ _ fun a => match a with | ⟨0, _⟩ => (Nat.zero_add _).symm | ⟨1, _⟩ => rfl

/-- Two column parts put together, at an index. -/
theorem joinCols_at (l : Vec Ideal S512x768 .bf16) (r : Vec Ideal S512x640 .bf16) (i : Fin 512) (k : Fin 1408) (v : EReal)
    (hl : ∀ h : k.val < 768, l (ix2 i ⟨k.val, h⟩) = v) (hr : ∀ h : 768 ≤ k.val, r (ix2 i ⟨k.val - 768, by omega⟩) = v) :
    joinCols l r (ix2 i k) = v := by
  have hi : i.val < 512 := i.isLt
  have hk : k.val < 1408 := k.isLt
  unfold joinCols
  refine View.canon_eq_of_allAt _ _ _ ?_ (View.allAt_cons_unit _ _ _ _ _ ?_ (View.allAt_cons_unit _ _ _ _ _ ?_ (View.allAt_nil _ _)))
  · by_cases h : k.val < 768
    · refine ⟨_, List.mem_cons_of_mem _ (List.mem_cons_self ..), ?_⟩
      refine (Rect.mem_set_unit (inb := inb_S512x1408_S512x768_0_0)).2 fun a => ?_
      match a with
      | ⟨0, _⟩ => exact ⟨Nat.zero_le _, show i.val < 0 + 512 by omega⟩
      | ⟨1, _⟩ => exact ⟨Nat.zero_le _, show k.val < 0 + 768 by omega⟩
    · refine ⟨_, List.mem_cons_self .., ?_⟩
      refine (Rect.mem_set_unit (inb := inb_S512x1408_S512x640_0_768)).2 fun a => ?_
      match a with
      | ⟨0, _⟩ => exact ⟨Nat.zero_le _, show i.val < 0 + 512 by omega⟩
      | ⟨1, _⟩ => exact ⟨show 768 ≤ k.val by omega, show k.val < 768 + 640 by omega⟩
  · intro x hx
    have h0 : i.val = 0 + (x (0 : Fin 2)).val := hx (0 : Fin 2)
    have h1 : k.val = 768 + (x (1 : Fin 2)).val := hx (1 : Fin 2)
    rw [← hr (by omega)]
    refine congrArg r (funext fun a => Fin.ext ?_)
    match a with
    | ⟨0, _⟩ => show (x (0 : Fin 2)).val = i.val; omega
    | ⟨1, _⟩ => show (x (1 : Fin 2)).val = k.val - 768; omega
  · intro x hx
    have h0 : i.val = 0 + (x (0 : Fin 2)).val := hx (0 : Fin 2)
    have h1 : k.val = 0 + (x (1 : Fin 2)).val := hx (1 : Fin 2)
    have h2 : (x (1 : Fin 2)).val < 768 := (x (1 : Fin 2)).isLt
    rw [← hl (by omega)]
    refine congrArg l (funext fun a => Fin.ext ?_)
    match a with
    | ⟨0, _⟩ => show (x (0 : Fin 2)).val = i.val; omega
    | ⟨1, _⟩ => show (x (1 : Fin 2)).val = k.val; omega

section
variable (d : Vec Ideal S512x1024 .bf16) (w8 : Vec Ideal S768x1024 .bf16) (a8 b8 : Vec Ideal S512x768 .bf16)
variable (w6 : Vec Ideal S640x1024 .bf16) (a6 b6 : Vec Ideal S512x640 .bf16) (r : Fin 512)

theorem pay17_at (k : Fin 768) : k0_pay17 d w8 a8 b8 (ix2 r k) = slopeA (∑ l : Fin 1024, d (ix2 r l) * w8 (ix2 k l)) (a8 (ix2 r k)) (b8 (ix2 r k)) := by
  unfold slopeA
  rw [← Ideal.ofBits_one_f32]
  pointwise [k0_pay17, k0_pay15, k0_pay14, k0_pay13, k0_pay12, k0_pay11]

theorem pay18_at (k : Fin 768) : k0_pay18 d w8 a8 (ix2 r k) = slopeB (∑ l : Fin 1024, d (ix2 r l) * w8 (ix2 k l)) (a8 (ix2 r k)) := by
  unfold slopeB
  pointwise [k0_pay18, k0_pay16, k0_pay15, k0_pay13, k0_pay12, k0_pay11]

theorem pay19_at (k : Fin 768) : k0_pay19 a8 b8 (ix2 r k) = hidden (a8 (ix2 r k)) (b8 (ix2 r k)) := by
  unfold hidden
  pointwise [k0_pay19, k0_pay16, k0_pay15, k0_pay14, k0_pay13]

theorem pay26_at (k : Fin 640) : k0_pay26 (k0_pay11 d) w6 a6 b6 (ix2 r k) = slopeA (∑ l : Fin 1024, d (ix2 r l) * w6 (ix2 k l)) (a6 (ix2 r k)) (b6 (ix2 r k)) := by
  unfold slopeA
  rw [← Ideal.ofBits_one_f32]
  pointwise [k0_pay26, k0_pay24, k0_pay23, k0_pay22, k0_pay21, k0_pay11]

theorem pay27_at (k : Fin 640) : k0_pay27 (k0_pay11 d) w6 a6 (ix2 r k) = slopeB (∑ l : Fin 1024, d (ix2 r l) * w6 (ix2 k l)) (a6 (ix2 r k)) := by
  unfold slopeB
  pointwise [k0_pay27, k0_pay25, k0_pay24, k0_pay22, k0_pay21, k0_pay11]

theorem pay28_at (k : Fin 640) : k0_pay1 (k0_pay28 a6 b6) (ix2 r k) = hidden (a6 (ix2 r k)) (b6 (ix2 r k)) := by
  unfold hidden
  pointwise [k0_pay1, k0_pay28, k0_pay25, k0_pay24, k0_pay23, k0_pay22]

end

theorem pay20_at (u v : FVec Ideal S512x768 .bf16) (acc : Vec Ideal S512x1024 .f32) (wg wu : Vec Ideal S768x1024 .bf16) (r : Fin 512) (l : Fin 1024) :
    k0_pay20 u v acc wg wu (ix2 r l) = acc (ix2 r l) + ((∑ k : Fin 768, u (ix2 r k) * wg (ix2 k l)) + ∑ k : Fin 768, v (ix2 r k) * wu (ix2 k l)) := by
  pointwise [k0_pay20]

theorem pay2_at (u v : FVec Ideal S512x640 .bf16) (acc : Vec Ideal S512x1024 .f32) (wg wu : Vec Ideal S640x1024 .bf16) (r : Fin 512) (l : Fin 1024) :
    k0_pay2 u v acc wg wu (ix2 r l) = acc (ix2 r l) + ((∑ k : Fin 640, u (ix2 r k) * wg (ix2 k l)) + ∑ k : Fin 640, v (ix2 r k) * wu (ix2 k l)) := by
  pointwise [k0_pay2]

theorem pay3_at (x : Vec Ideal S512x1024 .f32) (r : Fin 512) : k0_pay3 (F := Ideal) x (ix2 r 0) = NormBack.inv (row (n := 512) x r) := by
  unfold NormBack.inv meanSq
  pointwise [k0_pay3]

theorem pay4_at (x : Vec Ideal S512x1024 .f32) (r : Fin 512) (l : Fin 1024) :
    k0_pay4 (F := Ideal) x (ix2 r l) = x (ix2 r l) * NormBack.inv (row (n := 512) x r) := by
  rw [← pay3_at]
  unfold k0_pay4
  generalize k0_pay3 (F := Ideal) x = z
  pointwise []

theorem pay5_at (x : Vec Ideal S512x1024 .f32) (g : Vec Ideal S1x1024 .f32) (acc dy : Vec Ideal S512x1024 .f32) (r : Fin 512) (l : Fin 1024) :
    k0_pay5 (F := Ideal) x g acc dy (ix2 r l) = dy (ix2 r l) + through (row (n := 512) x r) (fun d => acc (ix2 r d) * g (ix2 0 d)) l := by
  have e : k0_pay5 (F := Ideal) x g acc dy (ix2 r l) = dy (ix2 r l) + k0_pay3 (F := Ideal) x (ix2 r 0) * (acc (ix2 r l) * g (ix2 0 l)
      - k0_pay4 (F := Ideal) x (ix2 r l) * Ideal.div (∑ d : Fin 1024, acc (ix2 r d) * g (ix2 0 d) * k0_pay4 (F := Ideal) x (ix2 r d)) len) := by
    unfold k0_pay5
    generalize k0_pay3 (F := Ideal) x = z
    generalize k0_pay4 (F := Ideal) x = y
    pointwise []
  rw [e]
  simp only [pay3_at, pay4_at]
  rfl

theorem pay6_at (x acc : Vec Ideal S512x1024 .f32) (l : Fin 1024) :
    k0_pay6 (F := Ideal) x acc (ix2 0 l) = ∑ r : Fin 512, acc (ix2 r l) * (x (ix2 r l) * NormBack.inv (row (n := 512) x r)) := by
  have e : k0_pay6 (F := Ideal) x acc (ix2 0 l) = ∑ r : Fin 512, acc (ix2 r l) * k0_pay4 (F := Ideal) x (ix2 r l) := by
    unfold k0_pay6
    generalize k0_pay4 (F := Ideal) x = y
    pointwise []
  rw [e]
  simp only [pay4_at]

theorem pay7_at (x acc : Vec Ideal S512x1024 .f32) (p : Vec Ideal S1x1024 .f32) (l : Fin 1024) :
    k0_pay7 (F := Ideal) x acc p (ix2 0 l) = p (ix2 0 l) + k0_pay6 (F := Ideal) x acc (ix2 0 l) := by
  unfold k0_pay7
  generalize k0_pay6 (F := Ideal) x acc = z
  pointwise []

theorem pay8_at (x : Vec Ideal S512x1024 .f32) (g : Vec Ideal S1x1024 .f32) (r : Fin 512) (l : Fin 1024) :
    k0_pay8 (F := Ideal) x g (ix2 r l) = x (ix2 r l) * NormBack.inv (row (n := 512) x r) * g (ix2 0 l) := by
  unfold NormBack.inv meanSq
  pointwise [k0_pay8]

/-- Half of a number. -/
abbrev halved (y : EReal) : EReal := Ideal.ofBits .f32 0x3F000000#32 * y

theorem pay9_at (x : Vec Ideal S512x1024 .f32) (r : Fin 512) (l : Fin 1024) : k0_pay9 (F := Ideal) x (ix2 r l) = halved (x (ix2 r l)) := by
  pointwise [k0_pay9]

theorem pay10_at (r : Fin 512) (l : Fin 1024) : k0_pay10 (F := Ideal) (ix2 r l) = 0 := by
  pointwise [k0_pay10]

/-! ## A point's vectors of its blocks -/

section
variable (d : Vec Ideal S512x1024 .bf16) (a b : Vec Ideal S512x1408 .bf16) (wg wu wd : Vec Ideal S1408x1024 .bf16) (r : Fin 512)

/-- The gradient of the hidden value, of the blocks. -/
def hB (k : Fin 1408) : EReal := ∑ l : Fin 1024, d (ix2 r l) * wd (ix2 k l)
/-- The gradient of `a`, of the blocks, -/
def daB (k : Fin 1408) : EReal := slopeA (hB d wd r k) (a (ix2 r k)) (b (ix2 r k))
/-- and of `b`. -/
def dbB (k : Fin 1408) : EReal := slopeB (hB d wd r k) (a (ix2 r k))

theorem daLeft_at (k : Fin 768) : daLeft d a b wd (ix2 r k) = daB d a b wd r ⟨k.val, by omega⟩ := by
  unfold daLeft
  rw [pay17_at]
  simp only [topRows_at, leftCols_at]
  rfl
theorem daRight_at (k : Fin 640) : daRight d a b wd (ix2 r k) = daB d a b wd r ⟨768 + k.val, by omega⟩ := by
  unfold daRight
  rw [pay26_at]
  simp only [lowRows_at, rightCols_at]
  rfl
theorem dbLeft_at (k : Fin 768) : dbLeft d a wd (ix2 r k) = dbB d a wd r ⟨k.val, by omega⟩ := by
  unfold dbLeft
  rw [pay18_at]
  simp only [topRows_at, leftCols_at]
  rfl
theorem dbRight_at (k : Fin 640) : dbRight d a wd (ix2 r k) = dbB d a wd r ⟨768 + k.val, by omega⟩ := by
  unfold dbRight
  rw [pay27_at]
  simp only [lowRows_at, rightCols_at]
  rfl

theorem da_at (k : Fin 1408) : joinCols (daLeft d a b wd) (daRight d a b wd) (ix2 r k) = daB d a b wd r k :=
  joinCols_at _ _ r k _ (fun h => daLeft_at d a b wd r ⟨k.val, h⟩) fun h => (daRight_at d a b wd r ⟨k.val - 768, by omega⟩).trans
    (congrArg (daB d a b wd r) (Fin.ext (show 768 + (k.val - 768) = k.val by omega)))
theorem db_at (k : Fin 1408) : joinCols (dbLeft d a wd) (dbRight d a wd) (ix2 r k) = dbB d a wd r k :=
  joinCols_at _ _ r k _ (fun h => dbLeft_at d a wd r ⟨k.val, h⟩) fun h => (dbRight_at d a wd r ⟨k.val - 768, by omega⟩).trans
    (congrArg (dbB d a wd r) (Fin.ext (show 768 + (k.val - 768) = k.val by omega)))
theorem hid_at (k : Fin 1408) : joinCols (hLeft a b) (hRight a b) (ix2 r k) = hidden (a (ix2 r k)) (b (ix2 r k)) :=
  joinCols_at _ _ r k _ (fun h => by unfold hLeft; rw [pay19_at]; simp only [leftCols_at]) fun h => by
    unfold hRight
    rw [pay28_at]
    simp only [rightCols_at]
    exact congrArg (fun z => hidden (a (ix2 r z)) (b (ix2 r z))) (Fin.ext (show 768 + (k.val - 768) = k.val by omega))

/-- A block's columns in their two parts. -/
theorem split_block (f : Fin 1408 → EReal) : (∑ k : Fin 768, f ⟨k.val, by omega⟩) + ∑ k : Fin 640, f ⟨768 + k.val, by omega⟩ = ∑ k : Fin 1408, f k :=
  (Fin.sum_univ_add (a := 768) (b := 640) f).symm
/-- The hidden columns in their two blocks. -/
theorem split_hidden (f : Fin 2816 → EReal) : (∑ k : Fin 1408, f ⟨k.val, by omega⟩) + ∑ k : Fin 1408, f ⟨1408 + k.val, by omega⟩ = ∑ k : Fin 2816, f k :=
  (Fin.sum_univ_add (a := 1408) (b := 1408) f).symm

/-- What a point adds to the accumulator. -/
theorem accStep_at (acc : Vec Ideal S512x1024 .f32) (l : Fin 1024) : accStep d a b wg wu wd acc (ix2 r l)
    = acc (ix2 r l) + ((∑ k : Fin 1408, daB d a b wd r k * wg (ix2 k l)) + ∑ k : Fin 1408, dbB d a wd r k * wu (ix2 k l)) := by
  unfold accStep
  rw [pay2_at, pay20_at]
  simp only [daLeft_at, daRight_at, dbLeft_at, dbRight_at, topRows_at, lowRows_at]
  rw [← split_block (fun k => daB d a b wd r k * wg (ix2 k l)), ← split_block (fun k => dbB d a wd r k * wu (ix2 k l))]
  ac_rfl

end

/-! ## The arguments and the results -/

variable (m : (ℓ : Loc nD τ sig) → Buf (Elt Ideal) ℓ)

def aDy (c : Dev nD) : S4096x1024.Idx → EReal := m (c.tc.loc main_arg0)
def aX (c : Dev nD) : S4096x1024.Idx → EReal := m (c.tc.loc main_arg1)
def aG (c : Dev nD) : S1x1024.Idx → EReal := m (c.tc.loc main_arg2)
def aWg (c : Dev nD) : S1024x2816.Idx → EReal := m (c.tc.loc main_arg3)
def aWu (c : Dev nD) : S1024x2816.Idx → EReal := m (c.tc.loc main_arg4)
def aWd (c : Dev nD) : S2816x1024.Idx → EReal := m (c.tc.loc main_arg5)

/-- A row's own factor, -/
def rinv (c : Dev nD) (r : Fin 4096) : EReal := NormBack.inv (row (n := 4096) (aX m c) r)
/-- the normalised rows, -/
def nrm (c : Dev nD) (i : S4096x1024.Idx) : EReal := aX m c (ix2 (i 0) (i 1)) * rinv m c (i 0) * aG m c (ix2 0 (i 1))
/-- the two gates, -/
def gA (c : Dev nD) (r : Fin 4096) (k : Fin 2816) : EReal := ∑ l : Fin 1024, nrm m c (ix2 r l) * aWg m c (ix2 l k)
@[inherit_doc gA] def gB (c : Dev nD) (r : Fin 4096) (k : Fin 2816) : EReal := ∑ l : Fin 1024, nrm m c (ix2 r l) * aWu m c (ix2 l k)
/-- half the incoming gradient, -/
def dyh (c : Dev nD) (i : S4096x1024.Idx) : EReal := halved (aDy m c (ix2 (i 0) (i 1)))
/-- the gradient of the hidden value, -/
def gradH (c : Dev nD) (r : Fin 4096) (k : Fin 2816) : EReal := ∑ l : Fin 1024, dyh m c (ix2 r l) * aWd m c (ix2 k l)
/-- the gradients of the gates, -/
def da (c : Dev nD) (i : S4096x2816.Idx) : EReal := slopeA (gradH m c (i 0) (i 1)) (gA m c (i 0) (i 1)) (gB m c (i 0) (i 1))
@[inherit_doc da] def db (c : Dev nD) (i : S4096x2816.Idx) : EReal := slopeB (gradH m c (i 0) (i 1)) (gA m c (i 0) (i 1))
/-- the hidden values, -/
def hid (c : Dev nD) (i : S4096x2816.Idx) : EReal := hidden (gA m c (i 0) (i 1)) (gB m c (i 0) (i 1))
/-- the gradient of the normalised rows through either gate, -/
def backA (c : Dev nD) (r : Fin 4096) (l : Fin 1024) : EReal := ∑ k : Fin 2816, da m c (ix2 r k) * aWg m c (ix2 l k)
@[inherit_doc backA] def backB (c : Dev nD) (r : Fin 4096) (l : Fin 1024) : EReal := ∑ k : Fin 2816, db m c (ix2 r k) * aWu m c (ix2 l k)
/-- and through both. -/
def back (c : Dev nD) (r : Fin 4096) (l : Fin 1024) : EReal := backA m c r l + backB m c r l
/-- The input's gradient, -/
def dx (c : Dev nD) (i : S4096x1024.Idx) : EReal :=
  aDy m c (ix2 (i 0) (i 1)) + through (row (n := 4096) (aX m c) (i 0)) (fun d => back m c (i 0) d * aG m c (ix2 0 d)) (i 1)
/-- what a row adds to the gain's, -/
def gainRow (c : Dev nD) (l : Fin 1024) (r : Fin 4096) : EReal := back m c r l * (aX m c (ix2 r l) * rinv m c r)
/-- and the gain's. -/
def dgain (c : Dev nD) (i : S1x1024.Idx) : EReal := ∑ r : Fin 4096, gainRow m c (i 1) r

/-! ## What the host code prepares -/

open Reference3Ideal.Read

theorem ref_meanSq (x : S4096x1024.Idx → EReal) (r : Fin 4096) : val_main_v6 (F := Ideal) x (ix2 r 0) = meanSq (row (n := 4096) x r) := by
  rw [val_main_v6_apply, val_main_v4_apply, val_main_v5_apply, val_main_v3_apply, val_main_v2_apply, val_main_v1_apply, val_main_cst_apply, val_main_cst_0_apply, val_main_cst_1_apply]
  show Ideal.div (Ideal.ofBits .f32 0x00000000#32 + _) (Ideal.ofBits .f32 0x44800000#32) + Ideal.ofBits .f32 0x358637BD#32 = _
  rw [Ideal.ofBits_zero_f32, zero_add]
  unfold meanSq
  refine congrArg (fun a => Ideal.div a (Ideal.ofBits .f32 0x44800000#32) + Ideal.ofBits .f32 0x358637BD#32) (Finset.sum_congr rfl fun d _ => ?_)
  rw [val_main_v0_apply]
  exact congrArg (fun z => x z * x z) (funext fun a => match a with | ⟨0, _⟩ => rfl | ⟨1, _⟩ => rfl)

theorem ref_scaled (x : S4096x1024.Idx → EReal) (r : Fin 4096) (l : Fin 1024) :
    val_main_v9 (F := Ideal) x (ix2 r l) = x (ix2 r l) * NormBack.inv (row (n := 4096) x r) := by
  rw [val_main_v9_apply, val_main_v8_apply, show idx_main_v8 (ix2 r l) = ix2 r 0 from funext fun a => match a with | ⟨0, _⟩ => rfl | ⟨1, _⟩ => rfl, val_main_v7_apply, ref_meanSq]
  rfl

theorem ref_n (c : Dev nD) (r : Fin 4096) (l : Fin 1024) : val_main_v11 (F := Ideal) (aX m c) (aG m c) (ix2 r l) = nrm m c (ix2 r l) := by
  rw [val_main_v11_apply, ref_scaled, val_main_v10_apply, show idx_main_v10 (ix2 r l) = ix2 0 l from funext fun a => match a with | ⟨0, _⟩ => rfl | ⟨1, _⟩ => rfl]
  rfl

theorem ref_a (c : Dev nD) (r : Fin 4096) (k : Fin 2816) : val_main_v12 (F := Ideal) (aX m c) (aG m c) (aWg m c) (ix2 r k) = gA m c r k := by
  rw [val_main_v12_apply]
  refine Finset.sum_congr rfl fun l _ => congrArg₂ (· * ·) ?_ (congrArg (aWg m c) (funext fun a => match a with | ⟨0, _⟩ => rfl | ⟨1, _⟩ => rfl))
  rw [show lidx_main_v12 (ix2 r k) l = ix2 r l from funext fun a => match a with | ⟨0, _⟩ => rfl | ⟨1, _⟩ => rfl, ref_n]

theorem ref_b (c : Dev nD) (r : Fin 4096) (k : Fin 2816) : val_main_v13 (F := Ideal) (aX m c) (aG m c) (aWu m c) (ix2 r k) = gB m c r k := by
  rw [val_main_v13_apply]
  refine Finset.sum_congr rfl fun l _ => congrArg₂ (· * ·) ?_ (congrArg (aWu m c) (funext fun a => match a with | ⟨0, _⟩ => rfl | ⟨1, _⟩ => rfl))
  rw [show lidx_main_v13 (ix2 r k) l = ix2 r l from funext fun a => match a with | ⟨0, _⟩ => rfl | ⟨1, _⟩ => rfl, ref_n]

theorem V_a (c : Dev nD) (r : Fin 4096) (k : Fin 2816) : V m c main_v14 (ix2 r k) = gA m c r k := by
  rw [← ref_a]
  show StableHlo.after hostOps0 (fun b => m (c, b)) (Proc.devRef .tc main_v14) (ix2 r k) = _
  after_results
  rfl

theorem V_b (c : Dev nD) (r : Fin 4096) (k : Fin 2816) : V m c main_v15 (ix2 r k) = gB m c r k := by
  rw [← ref_b]
  show StableHlo.after hostOps0 (fun b => m (c, b)) (Proc.devRef .tc main_v15) (ix2 r k) = _
  after_results
  rfl

theorem V_wg (c : Dev nD) (k : Fin 2816) (l : Fin 1024) : V m c main_v17 (ix2 k l) = aWg m c (ix2 l k) := by
  show StableHlo.after hostOps0 (fun b => m (c, b)) (Proc.devRef .tc main_v17) (ix2 k l) = _
  after_results
  pointwise []
  rfl

theorem V_wu (c : Dev nD) (k : Fin 2816) (l : Fin 1024) : V m c main_v19 (ix2 k l) = aWu m c (ix2 l k) := by
  show StableHlo.after hostOps0 (fun b => m (c, b)) (Proc.devRef .tc main_v19) (ix2 k l) = _
  after_results
  pointwise []
  rfl

theorem V_wd (c : Dev nD) (k : Fin 2816) (l : Fin 1024) : V m c main_v20 (ix2 k l) = aWd m c (ix2 k l) := by
  show StableHlo.after hostOps0 (fun b => m (c, b)) (Proc.devRef .tc main_v20) (ix2 k l) = _
  after_results
  rfl

/-! ## The windows' blocks -/

theorem lt16 (t : Fin cfg0.N) : t.val < 16 := lt_of_lt_of_eq t.isLt N_0

/-- The token of a point's row, -/
def rowOf (t : Fin cfg0.N) (r : Fin 512) : Fin 4096 := ⟨512 * (t.val / 2) + r.val, by have := lt16 t; omega⟩
/-- and the hidden column of its column. -/
def colOf (t : Fin cfg0.N) (k : Fin 1408) : Fin 2816 := ⟨1408 * (t.val % 2) + k.val, by omega⟩

theorem rowOf_base (t : Fin cfg0.N) (r : Fin 512) : rowOf (base t) r = rowOf t r :=
  Fin.ext (show 512 * ((t.val - t.val % 2) / 2) + r.val = 512 * (t.val / 2) + r.val by omega)
theorem colOf_base (t : Fin cfg0.N) (k : Fin 1408) : colOf (base t) k = ⟨k.val, by omega⟩ :=
  Fin.ext (show 1408 * ((t.val - t.val % 2) % 2) + k.val = k.val by omega)
theorem colOf_odd {t : Fin cfg0.N} (h : t.val % 2 = 1) (k : Fin 1408) : colOf t k = ⟨1408 + k.val, by omega⟩ :=
  Fin.ext (show 1408 * (t.val % 2) + k.val = 1408 + k.val by omega)

/-- Where an element of a block lies in its array. -/
theorem cell_at {n q w s : ℕ} (j : Fin 2 → ℕ) (h0 : j 0 = n) (h1 : j 1 = q) (r l : ℕ) : j 0 * s + 1 * r = s * n + r ∧ j 1 * w + 1 * l = w * q + l := by
  rw [h0, h1]
  exact ⟨by rw [Nat.mul_comm, Nat.one_mul], by rw [Nat.mul_comm, Nat.one_mul]⟩
theorem zero_col (w l : ℕ) : w * 0 + l = l := by rw [Nat.mul_zero, Nat.zero_add]

theorem places_in : ∀ t : Fin grid0.N, win0_0.index t (0 : Fin 2) = t.val / 2 ∧ win0_0.index t (1 : Fin 2) = 0 ∧ win0_1.index t (0 : Fin 2) = t.val / 2 ∧ win0_1.index t (1 : Fin 2) = 0
    ∧ win0_2.index t (0 : Fin 2) = 0 ∧ win0_2.index t (1 : Fin 2) = 0 := by decide +kernel
theorem places_gate : ∀ t : Fin grid0.N, win0_3.index t (0 : Fin 2) = t.val / 2 ∧ win0_3.index t (1 : Fin 2) = t.val % 2 ∧ win0_4.index t (0 : Fin 2) = t.val / 2 ∧ win0_4.index t (1 : Fin 2) = t.val % 2 := by decide +kernel
theorem places_weight : ∀ t : Fin grid0.N, win0_5.index t (0 : Fin 2) = t.val % 2 ∧ win0_5.index t (1 : Fin 2) = 0 ∧ win0_6.index t (0 : Fin 2) = t.val % 2 ∧ win0_6.index t (1 : Fin 2) = 0
    ∧ win0_7.index t (0 : Fin 2) = t.val % 2 ∧ win0_7.index t (1 : Fin 2) = 0 := by decide +kernel
theorem places_wide : ∀ t : Fin grid0.N, win0_8.index t (0 : Fin 2) = t.val / 2 ∧ win0_8.index t (1 : Fin 2) = 0 ∧ win0_9.index t (0 : Fin 2) = 0 ∧ win0_9.index t (1 : Fin 2) = 0
    ∧ win0_13.index t (0 : Fin 2) = t.val / 2 ∧ win0_13.index t (1 : Fin 2) = 0 ∧ win0_14.index t (0 : Fin 2) = t.val / 2 ∧ win0_14.index t (1 : Fin 2) = 0 := by decide +kernel
theorem places_hidden : ∀ t : Fin grid0.N, win0_10.index t (0 : Fin 2) = t.val / 2 ∧ win0_10.index t (1 : Fin 2) = t.val % 2 ∧ win0_11.index t (0 : Fin 2) = t.val / 2 ∧ win0_11.index t (1 : Fin 2) = t.val % 2
    ∧ win0_12.index t (0 : Fin 2) = t.val / 2 ∧ win0_12.index t (1 : Fin 2) = t.val % 2 := by decide +kernel

theorem blk0 (c : Dev nD) (t : Fin cfg0.N) (r : Fin 512) (l : Fin 1024) : iblk m c 0 t (ix2 r l) = aDy m c (ix2 (rowOf t r) l) := by
  have e := cell_at (w := 1024) (s := 512) (win0_0.index t) (places_in t).1 (places_in t).2.1 r.val l.val
  have ej : iblk m c 0 t (ix2 r l) = V m c main_arg0 (ix2 (rowOf t r) l) := by
    show V m c main_arg0 _ = _
    congr 1
    funext a
    apply Fin.ext
    match a with | ⟨0, _⟩ => exact e.1 | ⟨1, _⟩ => exact e.2.trans (zero_col _ _)
  exact ej.trans (by rw [V_main_arg0]; rfl)

theorem blk1 (c : Dev nD) (t : Fin cfg0.N) (r : Fin 512) (l : Fin 1024) : iblk m c 1 t (ix2 r l) = aX m c (ix2 (rowOf t r) l) := by
  have e := cell_at (w := 1024) (s := 512) (win0_1.index t) (places_in t).2.2.1 (places_in t).2.2.2.1 r.val l.val
  have ej : iblk m c 1 t (ix2 r l) = V m c main_arg1 (ix2 (rowOf t r) l) := by
    show V m c main_arg1 _ = _
    congr 1
    funext a
    apply Fin.ext
    match a with | ⟨0, _⟩ => exact e.1 | ⟨1, _⟩ => exact e.2.trans (zero_col _ _)
  exact ej.trans (by rw [V_main_arg1]; rfl)

theorem blk2 (c : Dev nD) (t : Fin cfg0.N) (r : Fin 1) (l : Fin 1024) : iblk m c 2 t (ix2 r l) = aG m c (ix2 r l) := by
  have e := cell_at (w := 1024) (s := 1) (win0_2.index t) (places_in t).2.2.2.2.1 (places_in t).2.2.2.2.2 r.val l.val
  have ej : iblk m c 2 t (ix2 r l) = V m c main_arg2 (ix2 r l) := by
    show V m c main_arg2 _ = _
    congr 1
    funext a
    apply Fin.ext
    match a with | ⟨0, _⟩ => exact e.1.trans (zero_col _ _) | ⟨1, _⟩ => exact e.2.trans (zero_col _ _)
  exact ej.trans (by rw [V_main_arg2]; rfl)

theorem blk3 (c : Dev nD) (t : Fin cfg0.N) (r : Fin 512) (l : Fin 1408) : iblk m c 3 t (ix2 r l) = gA m c (rowOf t r) (colOf t l) := by
  have e := cell_at (w := 1408) (s := 512) (win0_3.index t) (places_gate t).1 (places_gate t).2.1 r.val l.val
  have ej : iblk m c 3 t (ix2 r l) = V m c main_v14 (ix2 (rowOf t r) (colOf t l)) := by
    show V m c main_v14 _ = _
    congr 1
    funext a
    apply Fin.ext
    match a with | ⟨0, _⟩ => exact e.1 | ⟨1, _⟩ => exact e.2
  exact ej.trans (V_a m c _ _)

theorem blk4 (c : Dev nD) (t : Fin cfg0.N) (r : Fin 512) (l : Fin 1408) : iblk m c 4 t (ix2 r l) = gB m c (rowOf t r) (colOf t l) := by
  have e := cell_at (w := 1408) (s := 512) (win0_4.index t) (places_gate t).2.2.1 (places_gate t).2.2.2 r.val l.val
  have ej : iblk m c 4 t (ix2 r l) = V m c main_v15 (ix2 (rowOf t r) (colOf t l)) := by
    show V m c main_v15 _ = _
    congr 1
    funext a
    apply Fin.ext
    match a with | ⟨0, _⟩ => exact e.1 | ⟨1, _⟩ => exact e.2
  exact ej.trans (V_b m c _ _)

theorem blk5 (c : Dev nD) (t : Fin cfg0.N) (r : Fin 1408) (l : Fin 1024) : iblk m c 5 t (ix2 r l) = aWg m c (ix2 l (colOf t r)) := by
  have e := cell_at (w := 1024) (s := 1408) (win0_5.index t) (places_weight t).1 (places_weight t).2.1 r.val l.val
  have ej : iblk m c 5 t (ix2 r l) = V m c main_v17 (ix2 (colOf t r) l) := by
    show V m c main_v17 _ = _
    congr 1
    funext a
    apply Fin.ext
    match a with | ⟨0, _⟩ => exact e.1 | ⟨1, _⟩ => exact e.2.trans (zero_col _ _)
  exact ej.trans (V_wg m c _ _)

theorem blk6 (c : Dev nD) (t : Fin cfg0.N) (r : Fin 1408) (l : Fin 1024) : iblk m c 6 t (ix2 r l) = aWu m c (ix2 l (colOf t r)) := by
  have e := cell_at (w := 1024) (s := 1408) (win0_6.index t) (places_weight t).2.2.1 (places_weight t).2.2.2.1 r.val l.val
  have ej : iblk m c 6 t (ix2 r l) = V m c main_v19 (ix2 (colOf t r) l) := by
    show V m c main_v19 _ = _
    congr 1
    funext a
    apply Fin.ext
    match a with | ⟨0, _⟩ => exact e.1 | ⟨1, _⟩ => exact e.2.trans (zero_col _ _)
  exact ej.trans (V_wu m c _ _)

theorem blk7 (c : Dev nD) (t : Fin cfg0.N) (r : Fin 1408) (l : Fin 1024) : iblk m c 7 t (ix2 r l) = aWd m c (ix2 (colOf t r) l) := by
  have e := cell_at (w := 1024) (s := 1408) (win0_7.index t) (places_weight t).2.2.2.2.1 (places_weight t).2.2.2.2.2 r.val l.val
  have ej : iblk m c 7 t (ix2 r l) = V m c main_v20 (ix2 (colOf t r) l) := by
    show V m c main_v20 _ = _
    congr 1
    funext a
    apply Fin.ext
    match a with | ⟨0, _⟩ => exact e.1 | ⟨1, _⟩ => exact e.2.trans (zero_col _ _)
  exact ej.trans (V_wd m c _ _)

/-! ## What a point hands out -/

theorem inv_blk (c : Dev nD) (t : Fin cfg0.N) (r : Fin 512) : NormBack.inv (row (n := 512) (iblk m c 1 t) r) = rinv m c (rowOf t r) :=
  congrArg NormBack.inv (funext fun d => blk1 m c t r d)

theorem dhAt_at (c : Dev nD) (t : Fin cfg0.N) (r : Fin 512) (l : Fin 1024) : dhAt m c t (ix2 r l) = dyh m c (ix2 (rowOf t r) l) := by
  unfold dhAt
  refine (pay9_at _ r l).trans ?_
  rw [blk0, rowOf_base]
  rfl

theorem nAt_at (c : Dev nD) (t : Fin cfg0.N) (r : Fin 512) (l : Fin 1024) : nAt m c t (ix2 r l) = nrm m c (ix2 (rowOf t r) l) := by
  unfold nAt
  refine (pay8_at _ _ r l).trans ?_
  rw [inv_blk, blk1, blk2, rowOf_base]
  rfl

theorem hB_at (c : Dev nD) (t : Fin cfg0.N) (r : Fin 512) (k : Fin 1408) : hB (dhAt m c t) (iblk m c 7 t) r k = gradH m c (rowOf t r) (colOf t k) :=
  Finset.sum_congr rfl fun l _ => congrArg₂ (· * ·) (dhAt_at m c t r l) (blk7 m c t k l)

theorem daB_at (c : Dev nD) (t : Fin cfg0.N) (r : Fin 512) (k : Fin 1408) :
    daB (dhAt m c t) (iblk m c 3 t) (iblk m c 4 t) (iblk m c 7 t) r k = da m c (ix2 (rowOf t r) (colOf t k)) := by
  unfold daB
  rw [hB_at, blk3, blk4]
  rfl
theorem dbB_at (c : Dev nD) (t : Fin cfg0.N) (r : Fin 512) (k : Fin 1408) :
    dbB (dhAt m c t) (iblk m c 3 t) (iblk m c 7 t) r k = db m c (ix2 (rowOf t r) (colOf t k)) := by
  unfold dbB
  rw [hB_at, blk3]
  rfl

theorem da_blk (c : Dev nD) (t : Fin cfg0.N) (r : Fin 512) (k : Fin 1408) : (dats m 0 c).after 10 t (ix2 r k) = da m c (ix2 (rowOf t r) (colOf t k)) := by
  rw [after_10]
  exact (da_at _ _ _ _ r k).trans (daB_at m c t r k)
theorem db_blk (c : Dev nD) (t : Fin cfg0.N) (r : Fin 512) (k : Fin 1408) : (dats m 0 c).after 11 t (ix2 r k) = db m c (ix2 (rowOf t r) (colOf t k)) := by
  rw [after_11]
  exact (db_at _ _ _ r k).trans (dbB_at m c t r k)
theorem hid_blk (c : Dev nD) (t : Fin cfg0.N) (r : Fin 512) (k : Fin 1408) : (dats m 0 c).after 12 t (ix2 r k) = hid m c (ix2 (rowOf t r) (colOf t k)) := by
  rw [after_12]
  refine (hid_at _ _ r k).trans ?_
  rw [blk3, blk4]
  rfl

/-- What a point adds to the accumulator, of the arguments. -/
def adds (c : Dev nD) (t : Fin cfg0.N) (r : Fin 512) (l : Fin 1024) : EReal :=
  (∑ k : Fin 1408, da m c (ix2 (rowOf t r) (colOf t k)) * aWg m c (ix2 l (colOf t k))) + ∑ k : Fin 1408, db m c (ix2 (rowOf t r) (colOf t k)) * aWu m c (ix2 l (colOf t k))

theorem stepAt_at (c : Dev nD) (t : Fin cfg0.N) (acc : Vec Ideal S512x1024 .f32) (r : Fin 512) (l : Fin 1024) :
    stepAt m c t acc (ix2 r l) = acc (ix2 r l) + adds m c t r l := by
  unfold stepAt
  refine (accStep_at _ _ _ _ _ _ r acc l).trans (congrArg (acc (ix2 r l) + ·) ?_)
  exact congrArg₂ (· + ·) (Finset.sum_congr rfl fun k _ => congrArg₂ (· * ·) (daB_at m c t r k) (blk5 m c t k l))
    (Finset.sum_congr rfl fun k _ => congrArg₂ (· * ·) (dbB_at m c t r k) (blk6 m c t k l))

/-- After both points of a tile the accumulator holds the gradient of the normalised rows. -/
theorem accFull_at (c : Dev nD) {t : Fin cfg0.N} (h : t.val % 2 = 1) (r : Fin 512) (l : Fin 1024) : accFull m c t (ix2 r l) = back m c (rowOf t r) l := by
  unfold accFull accHalf
  rw [stepAt_at, stepAt_at, pay10_at, zero_add]
  unfold adds back backA backB
  simp only [rowOf_base, colOf_base, colOf_odd h]
  rw [← split_hidden (fun k => da m c (ix2 (rowOf t r) k) * aWg m c (ix2 l k)), ← split_hidden (fun k => db m c (ix2 (rowOf t r) k) * aWu m c (ix2 l k))]
  ac_rfl

theorem dx_blk (c : Dev nD) {t : Fin cfg0.N} (h : t.val % 2 = 1) (r : Fin 512) (l : Fin 1024) : (dats m 0 c).after 8 t (ix2 r l) = dx m c (ix2 (rowOf t r) l) := by
  rw [after_8]
  refine (pay5_at _ _ _ _ r l).trans ?_
  have e1 : row (n := 512) (iblk m c 1 t) r = row (n := 4096) (aX m c) (rowOf t r) := funext fun d => blk1 m c t r d
  have e2 : (fun d : Fin 1024 => accFull m c t (ix2 r d) * (iblk m c 2 t : S1x1024.Idx → EReal) (ix2 0 d)) = fun d => back m c (rowOf t r) d * aG m c (ix2 0 d) :=
    funext fun d => congrArg₂ (· * ·) (accFull_at m c h r d) (blk2 m c t 0 d)
  rw [blk0, e1]
  exact congrArg (fun z => aDy m c (ix2 (rowOf t r) l) + through (row (n := 4096) (aX m c) (rowOf t r)) z l) e2

theorem gain_blk (c : Dev nD) {t : Fin cfg0.N} (h : t.val % 2 = 1) (l : Fin 1024) :
    k0_pay6 (F := Ideal) (iblk m c 1 t) (accFull m c t) (ix2 0 l) = ∑ r : Fin 512, gainRow m c l (rowOf t r) := by
  refine (pay6_at _ _ l).trans (Finset.sum_congr rfl fun r _ => ?_)
  rw [accFull_at m c h, inv_blk, blk1]
  rfl

/-- A row's part, past the last nothing. -/
def part (c : Dev nD) (l : Fin 1024) (n : ℕ) : EReal := if h : n < 4096 then gainRow m c l ⟨n, h⟩ else 0

theorem part_range (c : Dev nD) (l : Fin 1024) (t : Fin cfg0.N) :
    (∑ r : Fin 512, gainRow m c l (rowOf t r)) = ∑ n ∈ Finset.range 512, part m c l (512 * (t.val / 2) + n) := by
  rw [Finset.sum_range]
  refine Finset.sum_congr rfl fun r _ => ?_
  unfold part
  rw [dif_pos (by have := lt16 t; omega)]
  rfl

theorem part_all (c : Dev nD) (l : Fin 1024) : ∑ i ∈ Finset.range 4096, part m c l i = ∑ r : Fin 4096, gainRow m c l r := by
  rw [Finset.sum_range]
  refine Finset.sum_congr rfl fun r _ => ?_
  unfold part
  rw [dif_pos r.isLt]

/-- The gain's gradient over the tiles so far. -/
theorem gain_at (c : Dev nD) (l : Fin 1024) : ∀ (n : ℕ) (h : 2 * n + 1 < cfg0.N), gainAt m c (2 * n + 1) h (ix2 0 l) = ∑ i ∈ Finset.range (512 * n + 512), part m c l i := by
  intro n
  induction n with
  | zero =>
    intro h
    have e := gainAt_odd m c ⟨2 * 0 + 1, h⟩ (by dsimp only) (by dsimp only; omega)
    dsimp only at e
    rw [e, if_pos (by omega)]
    refine (gain_blk m c (t := ⟨2 * 0 + 1, h⟩) (by dsimp only) l).trans ((part_range m c l ⟨2 * 0 + 1, h⟩).trans ?_)
    simp
  | succ n ih =>
    intro h
    have e := gainAt_odd m c ⟨2 * (n + 1) + 1, h⟩ (by dsimp only; omega) (by dsimp only; omega)
    have e2 := gainAt_even m c ⟨2 * (n + 1), by omega⟩ (by dsimp only; omega) (by dsimp only; omega) (by dsimp only; omega)
    dsimp only at e e2
    rw [e, if_neg (by omega)]
    refine (pay7_at _ _ _ l).trans ?_
    refine (congrArg₂ (· + ·) ((congrFun e2 (ix2 0 l)).trans (ih (by omega)))
      ((gain_blk m c (t := ⟨2 * (n + 1) + 1, h⟩) (by dsimp only; omega) l).trans (part_range m c l ⟨2 * (n + 1) + 1, h⟩))).trans ?_
    have en : (2 * (n + 1) + 1) / 2 = n + 1 := by omega
    dsimp only
    rw [en]
    exact (Finset.sum_range_add (fun i => part m c l i) (512 * n + 512) 512).symm

/-! ## The result arrays -/

theorem flushes8 : ∀ t : Fin cfg0.N, t.val % 2 = 1 → (cfg0.win 8).flush t = true := by decide +kernel
theorem apart8 : ∀ t t' : Fin cfg0.N, (cfg0.win 8).flush t = true → (cfg0.win 8).flush t' = true → win0_8.index t = win0_8.index t' → t = t' := by decide +kernel

theorem tile8 (c : Dev nD) (t : Fin cfg0.N) (ho : t.val % 2 = 1) (r : Fin 512) (l : Fin 1024) : (dats m 0 c).arrAt 8 cfg0.N (ix2 (rowOf t r) l) = dx m c (ix2 (rowOf t r) l) := by
  have hb := congrFun ((dats m 0 c).read_blk_arrAt_eq_flushed 8 (fun t t' hf hf' hne => (cfg0.win 8).disjoint_blk fun h => hne (apart8 t t' hf hf' h)) cfg0.N t t.isLt (flushes8 t ho)) (ix2 r l)
  have e := cell_at (w := 1024) (s := 512) (win0_8.index t) (places_wide t).1 (places_wide t).2.1 r.val l.val
  have el : ((cfg0.win 8).blk t).view.read (Elt Ideal) ((dats m 0 c).arrAt 8 cfg0.N) (ix2 r l) = (dats m 0 c).arrAt 8 cfg0.N (ix2 (rowOf t r) l) := by
    show (dats m 0 c).arrAt 8 cfg0.N _ = (dats m 0 c).arrAt 8 cfg0.N _
    congr 1
    funext a
    apply Fin.ext
    match a with | ⟨0, _⟩ => exact e.1 | ⟨1, _⟩ => exact e.2.trans (zero_col _ _)
  refine el.symm.trans (hb.trans ?_)
  show (cfg0.win 8).cut (grid0.coords t) ((dats m 0 c).after 8 t) (ix2 r l) = _
  exact dx_blk m c ho r l

theorem flushes13 : ∀ t : Fin cfg0.N, t.val % 2 = 1 → (cfg0.win 13).flush t = true := by decide +kernel
theorem apart13 : ∀ t t' : Fin cfg0.N, (cfg0.win 13).flush t = true → (cfg0.win 13).flush t' = true → win0_13.index t = win0_13.index t' → t = t' := by decide +kernel

theorem tile13 (c : Dev nD) (t : Fin cfg0.N) (ho : t.val % 2 = 1) (r : Fin 512) (l : Fin 1024) : (dats m 0 c).arrAt 13 cfg0.N (ix2 (rowOf t r) l) = nrm m c (ix2 (rowOf t r) l) := by
  have hb := congrFun ((dats m 0 c).read_blk_arrAt_eq_flushed 13 (fun t t' hf hf' hne => (cfg0.win 13).disjoint_blk fun h => hne (apart13 t t' hf hf' h)) cfg0.N t t.isLt (flushes13 t ho)) (ix2 r l)
  have e := cell_at (w := 1024) (s := 512) (win0_13.index t) (places_wide t).2.2.2.2.1 (places_wide t).2.2.2.2.2.1 r.val l.val
  have el : ((cfg0.win 13).blk t).view.read (Elt Ideal) ((dats m 0 c).arrAt 13 cfg0.N) (ix2 r l) = (dats m 0 c).arrAt 13 cfg0.N (ix2 (rowOf t r) l) := by
    show (dats m 0 c).arrAt 13 cfg0.N _ = (dats m 0 c).arrAt 13 cfg0.N _
    congr 1
    funext a
    apply Fin.ext
    match a with | ⟨0, _⟩ => exact e.1 | ⟨1, _⟩ => exact e.2.trans (zero_col _ _)
  refine el.symm.trans (hb.trans ?_)
  show (cfg0.win 13).cut (grid0.coords t) ((dats m 0 c).after 13 t) (ix2 r l) = _
  exact (congrFun (after_13 m c t) (ix2 r l)).trans (nAt_at m c t r l)

theorem flushes14 : ∀ t : Fin cfg0.N, t.val % 2 = 1 → (cfg0.win 14).flush t = true := by decide +kernel
theorem apart14 : ∀ t t' : Fin cfg0.N, (cfg0.win 14).flush t = true → (cfg0.win 14).flush t' = true → win0_14.index t = win0_14.index t' → t = t' := by decide +kernel

theorem tile14 (c : Dev nD) (t : Fin cfg0.N) (ho : t.val % 2 = 1) (r : Fin 512) (l : Fin 1024) : (dats m 0 c).arrAt 14 cfg0.N (ix2 (rowOf t r) l) = dyh m c (ix2 (rowOf t r) l) := by
  have hb := congrFun ((dats m 0 c).read_blk_arrAt_eq_flushed 14 (fun t t' hf hf' hne => (cfg0.win 14).disjoint_blk fun h => hne (apart14 t t' hf hf' h)) cfg0.N t t.isLt (flushes14 t ho)) (ix2 r l)
  have e := cell_at (w := 1024) (s := 512) (win0_14.index t) (places_wide t).2.2.2.2.2.2.1 (places_wide t).2.2.2.2.2.2.2 r.val l.val
  have el : ((cfg0.win 14).blk t).view.read (Elt Ideal) ((dats m 0 c).arrAt 14 cfg0.N) (ix2 r l) = (dats m 0 c).arrAt 14 cfg0.N (ix2 (rowOf t r) l) := by
    show (dats m 0 c).arrAt 14 cfg0.N _ = (dats m 0 c).arrAt 14 cfg0.N _
    congr 1
    funext a
    apply Fin.ext
    match a with | ⟨0, _⟩ => exact e.1 | ⟨1, _⟩ => exact e.2.trans (zero_col _ _)
  refine el.symm.trans (hb.trans ?_)
  show (cfg0.win 14).cut (grid0.coords t) ((dats m 0 c).after 14 t) (ix2 r l) = _
  exact (congrFun (after_14 m c t) (ix2 r l)).trans (dhAt_at m c t r l)

theorem flushes10 : ∀ t : Fin cfg0.N, (cfg0.win 10).flush t = true := by decide +kernel
theorem apart10 : ∀ t t' : Fin cfg0.N, (cfg0.win 10).flush t = true → (cfg0.win 10).flush t' = true → win0_10.index t = win0_10.index t' → t = t' := by decide +kernel

theorem tile10 (c : Dev nD) (t : Fin cfg0.N) (r : Fin 512) (l : Fin 1408) : (dats m 0 c).arrAt 10 cfg0.N (ix2 (rowOf t r) (colOf t l)) = da m c (ix2 (rowOf t r) (colOf t l)) := by
  have hb := congrFun ((dats m 0 c).read_blk_arrAt_eq_flushed 10 (fun t t' hf hf' hne => (cfg0.win 10).disjoint_blk fun h => hne (apart10 t t' hf hf' h)) cfg0.N t t.isLt (flushes10 t)) (ix2 r l)
  have e := cell_at (w := 1408) (s := 512) (win0_10.index t) (places_hidden t).1 (places_hidden t).2.1 r.val l.val
  have el : ((cfg0.win 10).blk t).view.read (Elt Ideal) ((dats m 0 c).arrAt 10 cfg0.N) (ix2 r l) = (dats m 0 c).arrAt 10 cfg0.N (ix2 (rowOf t r) (colOf t l)) := by
    show (dats m 0 c).arrAt 10 cfg0.N _ = (dats m 0 c).arrAt 10 cfg0.N _
    congr 1
    funext a
    apply Fin.ext
    match a with | ⟨0, _⟩ => exact e.1 | ⟨1, _⟩ => exact e.2
  refine el.symm.trans (hb.trans ?_)
  show (cfg0.win 10).cut (grid0.coords t) ((dats m 0 c).after 10 t) (ix2 r l) = _
  exact da_blk m c t r l

theorem flushes11 : ∀ t : Fin cfg0.N, (cfg0.win 11).flush t = true := by decide +kernel
theorem apart11 : ∀ t t' : Fin cfg0.N, (cfg0.win 11).flush t = true → (cfg0.win 11).flush t' = true → win0_11.index t = win0_11.index t' → t = t' := by decide +kernel

theorem tile11 (c : Dev nD) (t : Fin cfg0.N) (r : Fin 512) (l : Fin 1408) : (dats m 0 c).arrAt 11 cfg0.N (ix2 (rowOf t r) (colOf t l)) = db m c (ix2 (rowOf t r) (colOf t l)) := by
  have hb := congrFun ((dats m 0 c).read_blk_arrAt_eq_flushed 11 (fun t t' hf hf' hne => (cfg0.win 11).disjoint_blk fun h => hne (apart11 t t' hf hf' h)) cfg0.N t t.isLt (flushes11 t)) (ix2 r l)
  have e := cell_at (w := 1408) (s := 512) (win0_11.index t) (places_hidden t).2.2.1 (places_hidden t).2.2.2.1 r.val l.val
  have el : ((cfg0.win 11).blk t).view.read (Elt Ideal) ((dats m 0 c).arrAt 11 cfg0.N) (ix2 r l) = (dats m 0 c).arrAt 11 cfg0.N (ix2 (rowOf t r) (colOf t l)) := by
    show (dats m 0 c).arrAt 11 cfg0.N _ = (dats m 0 c).arrAt 11 cfg0.N _
    congr 1
    funext a
    apply Fin.ext
    match a with | ⟨0, _⟩ => exact e.1 | ⟨1, _⟩ => exact e.2
  refine el.symm.trans (hb.trans ?_)
  show (cfg0.win 11).cut (grid0.coords t) ((dats m 0 c).after 11 t) (ix2 r l) = _
  exact db_blk m c t r l

theorem flushes12 : ∀ t : Fin cfg0.N, (cfg0.win 12).flush t = true := by decide +kernel
theorem apart12 : ∀ t t' : Fin cfg0.N, (cfg0.win 12).flush t = true → (cfg0.win 12).flush t' = true → win0_12.index t = win0_12.index t' → t = t' := by decide +kernel

theorem tile12 (c : Dev nD) (t : Fin cfg0.N) (r : Fin 512) (l : Fin 1408) : (dats m 0 c).arrAt 12 cfg0.N (ix2 (rowOf t r) (colOf t l)) = hid m c (ix2 (rowOf t r) (colOf t l)) := by
  have hb := congrFun ((dats m 0 c).read_blk_arrAt_eq_flushed 12 (fun t t' hf hf' hne => (cfg0.win 12).disjoint_blk fun h => hne (apart12 t t' hf hf' h)) cfg0.N t t.isLt (flushes12 t)) (ix2 r l)
  have e := cell_at (w := 1408) (s := 512) (win0_12.index t) (places_hidden t).2.2.2.2.1 (places_hidden t).2.2.2.2.2 r.val l.val
  have el : ((cfg0.win 12).blk t).view.read (Elt Ideal) ((dats m 0 c).arrAt 12 cfg0.N) (ix2 r l) = (dats m 0 c).arrAt 12 cfg0.N (ix2 (rowOf t r) (colOf t l)) := by
    show (dats m 0 c).arrAt 12 cfg0.N _ = (dats m 0 c).arrAt 12 cfg0.N _
    congr 1
    funext a
    apply Fin.ext
    match a with | ⟨0, _⟩ => exact e.1 | ⟨1, _⟩ => exact e.2
  refine el.symm.trans (hb.trans ?_)
  show (cfg0.win 12).cut (grid0.coords t) ((dats m 0 c).after 12 t) (ix2 r l) = _
  exact hid_blk m c t r l

theorem in_wide (i : S4096x1024.Idx) : ∃ (t : Fin cfg0.N) (_ : t.val % 2 = 1) (r : Fin 512) (l : Fin 1024), i = ix2 (rowOf t r) l := by
  have h0 : (i 0).val < 4096 := (i 0).isLt
  have hN : cfg0.N = 16 := N_0
  refine ⟨⟨2 * ((i 0).val / 512) + 1, by omega⟩, by dsimp only; omega, ⟨(i 0).val % 512, Nat.mod_lt _ (by decide)⟩, i 1, ?_⟩
  funext a
  match a with
  | ⟨0, _⟩ => exact Fin.ext (show (i 0).val = 512 * ((2 * ((i 0).val / 512) + 1) / 2) + (i 0).val % 512 by omega)
  | ⟨1, _⟩ => rfl

theorem in_hidden (i : S4096x2816.Idx) : ∃ (t : Fin cfg0.N) (r : Fin 512) (k : Fin 1408), i = ix2 (rowOf t r) (colOf t k) := by
  have h0 : (i 0).val < 4096 := (i 0).isLt
  have h1 : (i 1).val < 2816 := (i 1).isLt
  have hN : cfg0.N = 16 := N_0
  refine ⟨⟨2 * ((i 0).val / 512) + (i 1).val / 1408, by omega⟩, ⟨(i 0).val % 512, Nat.mod_lt _ (by decide)⟩, ⟨(i 1).val % 1408, Nat.mod_lt _ (by decide)⟩, ?_⟩
  funext a
  match a with
  | ⟨0, _⟩ => exact Fin.ext (show (i 0).val = 512 * ((2 * ((i 0).val / 512) + (i 1).val / 1408) / 2) + (i 0).val % 512 by omega)
  | ⟨1, _⟩ => exact Fin.ext (show (i 1).val = 1408 * ((2 * ((i 0).val / 512) + (i 1).val / 1408) % 2) + (i 1).val % 1408 by omega)

theorem result_dx (c : Dev nD) : (dats m 0 c).arrAt 8 cfg0.N = dx m c := by
  refine funext fun (i : S4096x1024.Idx) => ?_
  obtain ⟨t, ho, r, l, rfl⟩ := in_wide i
  exact tile8 m c t ho r l

theorem result_nrm (c : Dev nD) : (dats m 0 c).arrAt 13 cfg0.N = nrm m c := by
  refine funext fun (i : S4096x1024.Idx) => ?_
  obtain ⟨t, ho, r, l, rfl⟩ := in_wide i
  exact tile13 m c t ho r l

theorem result_dyh (c : Dev nD) : (dats m 0 c).arrAt 14 cfg0.N = dyh m c := by
  refine funext fun (i : S4096x1024.Idx) => ?_
  obtain ⟨t, ho, r, l, rfl⟩ := in_wide i
  exact tile14 m c t ho r l

theorem result_da (c : Dev nD) : (dats m 0 c).arrAt 10 cfg0.N = da m c := by
  refine funext fun (i : S4096x2816.Idx) => ?_
  obtain ⟨t, r, l, rfl⟩ := in_hidden i
  exact tile10 m c t r l

theorem result_db (c : Dev nD) : (dats m 0 c).arrAt 11 cfg0.N = db m c := by
  refine funext fun (i : S4096x2816.Idx) => ?_
  obtain ⟨t, r, l, rfl⟩ := in_hidden i
  exact tile11 m c t r l

theorem result_hid (c : Dev nD) : (dats m 0 c).arrAt 12 cfg0.N = hid m c := by
  refine funext fun (i : S4096x2816.Idx) => ?_
  obtain ⟨t, r, l, rfl⟩ := in_hidden i
  exact tile12 m c t r l

theorem flushes9 : ∀ t : Fin cfg0.N, t.val = 15 → (cfg0.win 9).flush t = true := by decide +kernel
theorem last_only9 : ∀ t t' : Fin cfg0.N, (cfg0.win 9).flush t = true → (cfg0.win 9).flush t' = true → t = t' := by decide +kernel

theorem tile9 (c : Dev nD) (l : Fin 1024) : (dats m 0 c).arrAt 9 cfg0.N (ix2 (0 : Fin 1) l) = dgain m c (ix2 0 l) := by
  have hN : cfg0.N = 16 := N_0
  have h15 : 15 < cfg0.N := by omega
  have hb := congrFun ((dats m 0 c).read_blk_arrAt_eq_flushed 9 (fun t t' hf hf' hne => absurd (last_only9 t t' hf hf') hne) cfg0.N ⟨15, h15⟩ h15 (flushes9 ⟨15, h15⟩ rfl)) (ix2 0 l)
  have e := cell_at (w := 1024) (s := 1) (win0_9.index ⟨15, h15⟩) (places_wide ⟨15, h15⟩).2.2.1 (places_wide ⟨15, h15⟩).2.2.2.1 0 l.val
  have el : ((cfg0.win 9).blk ⟨15, h15⟩).view.read (Elt Ideal) ((dats m 0 c).arrAt 9 cfg0.N) (ix2 0 l) = (dats m 0 c).arrAt 9 cfg0.N (ix2 (0 : Fin 1) l) := by
    show (dats m 0 c).arrAt 9 cfg0.N _ = (dats m 0 c).arrAt 9 cfg0.N _
    congr 1
    funext a
    apply Fin.ext
    match a with | ⟨0, _⟩ => exact e.1 | ⟨1, _⟩ => exact e.2.trans (zero_col _ _)
  refine el.symm.trans (hb.trans ?_)
  show (cfg0.win 9).cut (grid0.coords ⟨15, h15⟩) ((dats m 0 c).after 9 ⟨15, h15⟩) (ix2 0 l) = _
  rw [after_9]
  exact (gain_at m c l 7 h15).trans (part_all m c l)

theorem result_dg (c : Dev nD) : (dats m 0 c).arrAt 9 cfg0.N = dgain m c := by
  refine funext fun (i : S1x1024.Idx) => ?_
  have h0 : (i 0).val < 1 := (i 0).isLt
  have e : i = ix2 (0 : Fin 1) (i 1) := by
    funext a
    match a with
    | ⟨0, _⟩ => exact Fin.ext (show (i 0).val = 0 by omega)
    | ⟨1, _⟩ => rfl
  rw [e]
  exact tile9 m c (i 1)

/-- The kernel ends with the seven results. -/
theorem run_value (ρ : Dev nD → PrngReg) : θ_run (defs (F := Ideal)) (onTc (τ := τ) (main (F := Ideal))) ⟨m, fun _ => 0, ρ⟩ fun r => ∀ c : Dev nD,
    r.2.mem (c.tc.loc main_v21_0) = dx m c ∧ r.2.mem (c.tc.loc main_v21_1) = dgain m c
      ∧ r.2.mem (c.tc.loc main_v21_2) = da m c ∧ r.2.mem (c.tc.loc main_v21_3) = db m c
      ∧ r.2.mem (c.tc.loc main_v21_4) = hid m c ∧ r.2.mem (c.tc.loc main_v21_5) = nrm m c
      ∧ r.2.mem (c.tc.loc main_v21_6) = dyh m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5) :=
  (θ_run defs _ _).mono (fun r h c => ⟨((h.1 c).1 8).trans (result_dx m c), ((h.1 c).1 9).trans (result_dg m c), ((h.1 c).1 10).trans (result_da m c),
    ((h.1 c).1 11).trans (result_db m c), ((h.1 c).1 12).trans (result_hid m c), ((h.1 c).1 13).trans (result_nrm m c), ((h.1 c).1 14).trans (result_dyh m c), h.2.1 c⟩)
    (θ_run_and (run_main m ρ) (frame_any m ρ))

end Cert.Kernel3Ideal.FeedBlocks
end
-- ==== Proof.FeedBack.lean ====
module

public import proofs.«01_k».proof.Defs
public import proofs.«01_k».proof.Proof.Gen.Pre_finite_ffn
public import proofs.«01_k».proof.Proof.Value
public import proofs.«01_k».proof.Proof.FeedBlocks

/-!
The feed-forward backward reference over the extended reals: on finite arguments its seven results are the kernel's.
-/

@[expose] public section

noncomputable section

namespace Cert.Kernel3Ideal.FeedBack

open Kernel3Ideal Kernel3Ideal.Gen Kernel3Ideal.FeedBlocks
open Idealize.ShloMosaic Idealize.ShloMosaic.TcCoe Idealize.ShloMosaic.Tactic Idealize.SL.Sem
open NormBack (meanSq len eps half norm_back)
open FeedMath
open Reference3Ideal.Read

variable (m : (ℓ : Loc nD τ sig) → Buf (Elt Ideal) ℓ)

/-! ## Finite arguments are real, and so is what is computed of them -/

/-- The six arguments hold real numbers. -/
structure AllReal (c : Dev nD) : Prop where
  dy : ∀ i, IsReal (aDy m c i)
  x : ∀ i, IsReal (aX m c i)
  g : ∀ i, IsReal (aG m c i)
  wg : ∀ i, IsReal (aWg m c i)
  wu : ∀ i, IsReal (aWu m c i)
  wd : ∀ i, IsReal (aWd m c i)

theorem reals {S : Shape} (x : S.Idx → EReal) (hb : Pre_finite_ffn.S_.BroadcastsInDim S (![] : Fin 0 → Fin S.rank))
    (h : cmpf .olt (Host.absf (F := Ideal) (φ := .f32) x) (broadcastInDim S ![] hb (constant (F := Ideal) Pre_finite_ffn.S_ .f32 0x7F800000#32)) = fun _ => 1#1) :
    ∀ i, IsReal (x i) := fun i => KernelIdeal.Mla.real_of_abs _ (congrFun h i)

theorem real_of_finite (hpre : Pre_Kernel3Ideal_finite_ffn m) (c : Dev nD) : AllReal m c :=
  ⟨reals _ _ (hpre c).1, reals _ _ (hpre c).2.1, reals _ _ (hpre c).2.2.1, reals _ _ (hpre c).2.2.2.1, reals _ _ (hpre c).2.2.2.2.1, reals _ _ (hpre c).2.2.2.2.2⟩

theorem half_real : IsReal (Ideal.ofBits .f32 0x3F000000#32) := ⟨_, by simp [Ideal.ofBits, Ideal.ieee, -EReal.coe_mul]; rfl⟩

theorem slopeA_real {h a b : EReal} (hh : IsReal h) (ha : IsReal a) (hb : IsReal b) : IsReal (slopeA h a b) := by
  unfold slopeA
  rw [gate_eq ha hb hh]
  obtain ⟨s, hs⟩ := logistic_real ha
  exact IsReal.add ((hh.mul hb).mul ⟨s, hs⟩) ((ha.mul (hh.mul hb)).mul (IsReal.mul ⟨s, hs⟩ ⟨1 - s, by rw [hs, EReal.coe_sub, EReal.coe_one]⟩))

section
variable {m} {c : Dev nD} (R : AllReal m c)
include R

theorem rinv_real (r : Fin 4096) : IsReal (rinv m c r) := inv_real fun d => R.x _
theorem nrm_real (i : S4096x1024.Idx) : IsReal (nrm m c i) := ((R.x _).mul (rinv_real R _)).mul (R.g _)
theorem gA_real (r : Fin 4096) (k : Fin 2816) : IsReal (gA m c r k) := IsReal.sum fun l => (nrm_real R _).mul (R.wg _)
theorem gB_real (r : Fin 4096) (k : Fin 2816) : IsReal (gB m c r k) := IsReal.sum fun l => (nrm_real R _).mul (R.wu _)
theorem gradH_real (r : Fin 4096) (k : Fin 2816) : IsReal (gradH m c r k) := IsReal.sum fun l => (half_real.mul (R.dy _)).mul (R.wd _)
theorem da_real (i : S4096x2816.Idx) : IsReal (da m c i) := slopeA_real (gradH_real R _ _) (gA_real R _ _) (gB_real R _ _)
theorem db_real (i : S4096x2816.Idx) : IsReal (db m c i) := (gradH_real R _ _).mul ((gA_real R _ _).mul (logistic_real (gA_real R _ _)))
theorem backA_real (r : Fin 4096) (l : Fin 1024) : IsReal (backA m c r l) := IsReal.sum fun k => (da_real R _).mul (R.wg _)
theorem backB_real (r : Fin 4096) (l : Fin 1024) : IsReal (backB m c r l) := IsReal.sum fun k => (db_real R _).mul (R.wu _)

/-- The gain's gradient is the sum of the two gates' parts. -/
theorem dgain_parts (l : Fin 1024) : dgain m c (ix2 0 l)
    = (∑ r : Fin 4096, aX m c (ix2 r l) * rinv m c r * backB m c r l) + ∑ r : Fin 4096, aX m c (ix2 r l) * rinv m c r * backA m c r l := by
  rw [← Finset.sum_add_distrib]
  refine Finset.sum_congr rfl fun r _ => ?_
  show (backA m c r l + backB m c r l) * (aX m c (ix2 r l) * rinv m c r) = _
  rw [spread (backA_real R r l) (backB_real R r l) ((R.x _).mul (rinv_real R r)), add_comm, mul_comm (backB m c r l), mul_comm (backA m c r l)]

/-- The input's gradient is the sum of the two gates' parts. -/
theorem dx_parts (r : Fin 4096) (l : Fin 1024) : dx m c (ix2 r l) = aDy m c (ix2 r l)
    + (through (row (n := 4096) (aX m c) r) (fun d => backA m c r d * aG m c (ix2 0 d)) l + through (row (n := 4096) (aX m c) r) (fun d => backB m c r d * aG m c (ix2 0 d)) l) := by
  rw [← through_add (fun d => R.x _) (fun d => (backA_real R r d).mul (R.g _)) (fun d => (backB_real R r d).mul (R.g _))]
  exact congrArg (fun z => aDy m c (ix2 r l) + through (row (n := 4096) (aX m c) r) z l) (funext fun d => spread (backA_real R r d) (backB_real R r d) (R.g _))

end

/-! ## The reference's stages -/

theorem ref_inv (x : S4096x1024.Idx → EReal) (r : Fin 4096) : val_main_v7 (F := Ideal) x (ix2 r 0) = NormBack.inv (row (n := 4096) x r) := by
  rw [val_main_v7_apply, ref_meanSq]
  rfl

theorem ref_slope (x : S4096x1024.Idx → EReal) (r : Fin 4096) :
    val_main_v24 (F := Ideal) x (ix2 r 0) = half * Ideal.div (NormBack.inv (row (n := 4096) x r)) (meanSq (row (n := 4096) x r)) := by
  rw [show val_main_v24 (F := Ideal) x (ix2 r 0) = half * Ideal.div (val_main_v7 (F := Ideal) x (ix2 r 0)) (val_main_v6 (F := Ideal) x (ix2 r 0)) from rfl, ref_inv, ref_meanSq]

theorem ref_sig (c : Dev nD) (r : Fin 4096) (k : Fin 2816) : val_main_v46_2 (F := Ideal) (aX m c) (aG m c) (aWg m c) (ix2 r k) = Ideal.logistic (gA m c r k) := by
  rw [← ref_a m c r k]
  show Ideal.div (Ideal.ofBits .f32 0x3F800000#32) (Ideal.ofBits .f32 0x3F800000#32 + Ideal.exp (-(val_main_v12 (F := Ideal) (aX m c) (aG m c) (aWg m c) (ix2 r k)))) = _
  rw [Ideal.ofBits_one_f32]
  rfl

theorem ref_dh (c : Dev nD) (r : Fin 4096) (k : Fin 2816) : val_main_v109 (F := Ideal) (aDy m c) (aWd m c) (ix2 r k) = gradH m c r k := by
  rw [val_main_v109_apply]
  exact Finset.sum_congr rfl fun l _ => congrArg₂ (· * ·) (congrArg (fun i => halved (aDy m c i)) (funext fun a => match a with | ⟨0, _⟩ => rfl | ⟨1, _⟩ => rfl))
    (congrArg (aWd m c) (funext fun a => match a with | ⟨0, _⟩ => rfl | ⟨1, _⟩ => rfl))

theorem ref_dh' (c : Dev nD) (r : Fin 4096) (k : Fin 2816) : val_main_v55 (F := Ideal) (aDy m c) (aWd m c) (ix2 r k) = gradH m c r k := by
  rw [← ref_dh, val_main_v55_apply, val_main_v109_apply]
  refine Finset.sum_congr rfl fun l _ => congrArg (· * _) ?_
  rw [val_main_v54_apply, val_main_v52_apply]
  refine congrArg (fun i => halved (aDy m c i)) (funext fun a => ?_)
  have hl : l.val < 1024 := l.isLt
  match a with
  | ⟨0, _⟩ => exact Fin.ext (show _ = r.val by simp; omega)
  | ⟨1, _⟩ => exact Fin.ext (show _ = l.val by simp)

/-- Either copy of the gate's derivative. -/
theorem ref_slopeA {c : Dev nD} (R : AllReal m c) (r : Fin 4096) (k : Fin 2816) (h : EReal) (hh : h = gradH m c r k) :
    h * val_main_v13 (F := Ideal) (aX m c) (aG m c) (aWu m c) (ix2 r k) * val_main_v46_2 (F := Ideal) (aX m c) (aG m c) (aWg m c) (ix2 r k)
      + val_main_v12 (F := Ideal) (aX m c) (aG m c) (aWg m c) (ix2 r k) * (h * val_main_v13 (F := Ideal) (aX m c) (aG m c) (aWu m c) (ix2 r k))
        * (val_main_v46_2 (F := Ideal) (aX m c) (aG m c) (aWg m c) (ix2 r k) * (Ideal.ofBits .f32 0x3F800000#32 - val_main_v46_2 (F := Ideal) (aX m c) (aG m c) (aWg m c) (ix2 r k)))
      = da m c (ix2 r k) := by
  rw [hh, ref_sig, ref_a, ref_b, Ideal.ofBits_one_f32]
  exact (gate_eq (gA_real R r k) (gB_real R r k) (gradH_real R r k)).symm

theorem ref_slopeB (c : Dev nD) (r : Fin 4096) (k : Fin 2816) (h : EReal) (hh : h = gradH m c r k) :
    val_main_v12 (F := Ideal) (aX m c) (aG m c) (aWg m c) (ix2 r k) * val_main_v46_2 (F := Ideal) (aX m c) (aG m c) (aWg m c) (ix2 r k) * h = db m c (ix2 r k) := by
  rw [hh, ref_sig, ref_a]
  exact mul_comm _ _

theorem ref_da {c : Dev nD} (R : AllReal m c) (r : Fin 4096) (k : Fin 2816) :
    val_main_v113 (F := Ideal) (aDy m c) (aX m c) (aG m c) (aWg m c) (aWu m c) (aWd m c) (ix2 r k) = da m c (ix2 r k) :=
  ref_slopeA m R r k _ (ref_dh m c r k)
theorem ref_da' {c : Dev nD} (R : AllReal m c) (r : Fin 4096) (k : Fin 2816) :
    val_main_v58 (F := Ideal) (aDy m c) (aX m c) (aG m c) (aWg m c) (aWu m c) (aWd m c) (ix2 r k) = da m c (ix2 r k) :=
  ref_slopeA m R r k _ (ref_dh' m c r k)
theorem ref_db (c : Dev nD) (r : Fin 4096) (k : Fin 2816) :
    val_main_v114 (F := Ideal) (aDy m c) (aX m c) (aG m c) (aWg m c) (aWd m c) (ix2 r k) = db m c (ix2 r k) :=
  ref_slopeB m c r k _ (ref_dh m c r k)
theorem ref_db' (c : Dev nD) (r : Fin 4096) (k : Fin 2816) :
    val_main_v56 (F := Ideal) (aDy m c) (aX m c) (aG m c) (aWg m c) (aWd m c) (ix2 r k) = db m c (ix2 r k) :=
  ref_slopeB m c r k _ (ref_dh' m c r k)
theorem ref_hid (c : Dev nD) (r : Fin 4096) (k : Fin 2816) :
    val_main_v117 (F := Ideal) (aX m c) (aG m c) (aWg m c) (aWu m c) (ix2 r k) = hid m c (ix2 r k) := by
  show val_main_v12 (F := Ideal) (aX m c) (aG m c) (aWg m c) (ix2 r k) * val_main_v46_2 (F := Ideal) (aX m c) (aG m c) (aWg m c) (ix2 r k)
    * val_main_v13 (F := Ideal) (aX m c) (aG m c) (aWu m c) (ix2 r k) = _
  rw [ref_sig, ref_a, ref_b]
  rfl

theorem ref_backB (c : Dev nD) (r : Fin 4096) (l : Fin 1024) :
    val_main_v59 (F := Ideal) (aDy m c) (aX m c) (aG m c) (aWg m c) (aWu m c) (aWd m c) (ix2 r l) = backB m c r l := by
  rw [val_main_v59_apply]
  refine Finset.sum_congr rfl fun k _ => congrArg₂ (· * ·) ?_ (congrArg (aWu m c) (funext fun a => match a with | ⟨0, _⟩ => rfl | ⟨1, _⟩ => rfl))
  rw [show lidx_main_v59 (ix2 r l) k = ix2 r k from funext fun a => match a with | ⟨0, _⟩ => rfl | ⟨1, _⟩ => rfl]
  exact ref_db' m c r k

theorem ref_backA {c : Dev nD} (R : AllReal m c) (r : Fin 4096) (l : Fin 1024) :
    val_main_v80 (F := Ideal) (aDy m c) (aX m c) (aG m c) (aWg m c) (aWu m c) (aWd m c) (ix2 r l) = backA m c r l := by
  rw [val_main_v80_apply]
  refine Finset.sum_congr rfl fun k _ => congrArg₂ (· * ·) ?_ (congrArg (aWg m c) (funext fun a => match a with | ⟨0, _⟩ => rfl | ⟨1, _⟩ => rfl))
  rw [show lidx_main_v80 (ix2 r l) k = ix2 r k from funext fun a => match a with | ⟨0, _⟩ => rfl | ⟨1, _⟩ => rfl]
  exact ref_da' m R r k

theorem ref_upB (c : Dev nD) (r : Fin 4096) (l : Fin 1024) : val_main_v64 (F := Ideal) (aDy m c) (aX m c) (aG m c) (aWg m c) (aWu m c) (aWd m c) (ix2 r l) = backB m c r l * aG m c (ix2 0 l) := by
  rw [val_main_v64_apply, val_main_v63_apply, show idx_main_v63 (ix2 r l) = ix2 0 l from funext fun a => match a with | ⟨0, _⟩ => rfl | ⟨1, _⟩ => rfl, ref_backB m c]
  rfl

theorem ref_gainB (c : Dev nD) (l : Fin 1024) : val_main_v62 (F := Ideal) (aDy m c) (aX m c) (aG m c) (aWg m c) (aWu m c) (aWd m c) (ix2 0 l) = ∑ r : Fin 4096, aX m c (ix2 r l) * rinv m c r * backB m c r l := by
  rw [val_main_v62_apply, val_main_v61_apply, val_main_cst_12_apply]
  show Ideal.ofBits .f32 0x00000000#32 + _ = _
  rw [Ideal.ofBits_zero_f32, zero_add]
  refine Finset.sum_congr rfl fun r _ => ?_
  have e : idx_main_v61 (idx_main_v62 (ix2 0 l)) r = ix2 r l := funext fun a => match a with
    | ⟨0, _⟩ => rfl
    | ⟨1, _⟩ => Fin.ext (show 0 * 1024 + l.val = l.val by omega)
  rw [e, val_main_v60_apply, ref_backB m c]
  exact congrArg (· * backB m c r l) (ref_scaled (aX m c) r l)

theorem ref_shareB (c : Dev nD) (r : Fin 4096) (l : Fin 1024) : val_main_v75 (F := Ideal) (aDy m c) (aX m c) (aG m c) (aWg m c) (aWu m c) (aWd m c) (ix2 r l)
    = Ideal.div ((∑ d : Fin 1024, aX m c (ix2 r d) * (backB m c r d * aG m c (ix2 0 d))) * (half * Ideal.div (rinv m c r) (meanSq (row (n := 4096) (aX m c) r)))) len := by
  rw [val_main_v75_apply, val_main_v74_apply, val_main_cst_15_apply, Fin.sum_univ_one]
  show Ideal.ofBits .f32 0x00000000#32 + _ = _
  rw [Ideal.ofBits_zero_f32, zero_add]
  rw [show idx_main_v74 (idx_main_v75 (ix2 r l)) 0 = ix2 r 0 from funext fun a => match a with | ⟨0, _⟩ => rfl | ⟨1, _⟩ => rfl]
  rw [val_main_v73_apply, val_main_v71_apply, show val_main_v40 (F := Ideal) (aX m c) (ix2 r 0) = _ from ref_slope (aX m c) r,
    val_main_v67_apply, val_main_v66_apply, val_main_cst_13_apply]
  show Ideal.div ((Ideal.ofBits .f32 0x00000000#32 + _) * _) (Ideal.ofBits .f32 0x44800000#32) = _
  rw [Ideal.ofBits_zero_f32, zero_add]
  refine congrArg (fun z => Ideal.div (z * _) _) (Finset.sum_congr rfl fun d _ => ?_)
  have e : idx_main_v66 (idx_main_v67 (ix2 r 0)) d = ix2 r d := funext fun a => match a with
    | ⟨0, _⟩ => Fin.ext (show r.val * 1 + 0 = r.val by omega)
    | ⟨1, _⟩ => rfl
  rw [e, val_main_v65_apply, ref_upB m c]
  rfl

theorem ref_upA {c : Dev nD} (R : AllReal m c) (r : Fin 4096) (l : Fin 1024) : val_main_v86 (F := Ideal) (aDy m c) (aX m c) (aG m c) (aWg m c) (aWu m c) (aWd m c) (ix2 r l) = backA m c r l * aG m c (ix2 0 l) := by
  rw [val_main_v86_apply, val_main_v85_apply, show idx_main_v85 (ix2 r l) = ix2 0 l from funext fun a => match a with | ⟨0, _⟩ => rfl | ⟨1, _⟩ => rfl, ref_backA m R]
  rfl

theorem ref_gainA {c : Dev nD} (R : AllReal m c) (l : Fin 1024) : val_main_v83 (F := Ideal) (aDy m c) (aX m c) (aG m c) (aWg m c) (aWu m c) (aWd m c) (ix2 0 l) = ∑ r : Fin 4096, aX m c (ix2 r l) * rinv m c r * backA m c r l := by
  rw [val_main_v83_apply, val_main_v82_apply, val_main_cst_16_apply]
  show Ideal.ofBits .f32 0x00000000#32 + _ = _
  rw [Ideal.ofBits_zero_f32, zero_add]
  refine Finset.sum_congr rfl fun r _ => ?_
  have e : idx_main_v82 (idx_main_v83 (ix2 0 l)) r = ix2 r l := funext fun a => match a with
    | ⟨0, _⟩ => rfl
    | ⟨1, _⟩ => Fin.ext (show 0 * 1024 + l.val = l.val by omega)
  rw [e, val_main_v81_apply, ref_backA m R]
  exact congrArg (· * backA m c r l) (ref_scaled (aX m c) r l)

theorem ref_shareA {c : Dev nD} (R : AllReal m c) (r : Fin 4096) (l : Fin 1024) : val_main_v97 (F := Ideal) (aDy m c) (aX m c) (aG m c) (aWg m c) (aWu m c) (aWd m c) (ix2 r l)
    = Ideal.div ((∑ d : Fin 1024, aX m c (ix2 r d) * (backA m c r d * aG m c (ix2 0 d))) * (half * Ideal.div (rinv m c r) (meanSq (row (n := 4096) (aX m c) r)))) len := by
  rw [val_main_v97_apply, val_main_v96_apply, val_main_cst_19_apply, Fin.sum_univ_one]
  show Ideal.ofBits .f32 0x00000000#32 + _ = _
  rw [Ideal.ofBits_zero_f32, zero_add]
  rw [show idx_main_v96 (idx_main_v97 (ix2 r l)) 0 = ix2 r 0 from funext fun a => match a with | ⟨0, _⟩ => rfl | ⟨1, _⟩ => rfl]
  rw [val_main_v95_apply, val_main_v93_apply, show val_main_v24 (F := Ideal) (aX m c) (ix2 r 0) = _ from ref_slope (aX m c) r,
    val_main_v89_apply, val_main_v88_apply, val_main_cst_17_apply]
  show Ideal.div ((Ideal.ofBits .f32 0x00000000#32 + _) * _) (Ideal.ofBits .f32 0x44800000#32) = _
  rw [Ideal.ofBits_zero_f32, zero_add]
  refine congrArg (fun z => Ideal.div (z * _) _) (Finset.sum_congr rfl fun d _ => ?_)
  have e : idx_main_v88 (idx_main_v89 (ix2 r 0)) d = ix2 r d := funext fun a => match a with
    | ⟨0, _⟩ => Fin.ext (show r.val * 1 + 0 = r.val by omega)
    | ⟨1, _⟩ => rfl
  rw [e, val_main_v87_apply, ref_upA m R]
  rfl

/-- The reference's gain gradient is the kernel's, -/
theorem ref_dgain {c : Dev nD} (R : AllReal m c) (l : Fin 1024) : val_main_v84 (F := Ideal) (aDy m c) (aX m c) (aG m c) (aWg m c) (aWu m c) (aWd m c) (ix2 0 l) = dgain m c (ix2 0 l) := by
  rw [val_main_v84_apply, ref_gainB, ref_gainA m R, dgain_parts R]
  rfl

theorem regroup (y b1 b2 b3 c1 c2 c3 : EReal) : y + b1 + b2 + b3 + c1 + c2 + c3 = y + ((c1 + c2 + c3) + (b1 + b2 + b3)) := by ac_rfl

/-- and so is its input gradient. -/
theorem ref_dx {c : Dev nD} (R : AllReal m c) (r : Fin 4096) (l : Fin 1024) : val_main_v101 (F := Ideal) (aDy m c) (aX m c) (aG m c) (aWg m c) (aWu m c) (aWd m c) (ix2 r l) = dx m c (ix2 r l) := by
  have e : val_main_v101 (F := Ideal) (aDy m c) (aX m c) (aG m c) (aWg m c) (aWu m c) (aWd m c) (ix2 r l)
      = aDy m c (ix2 r l) + val_main_v64 (F := Ideal) (aDy m c) (aX m c) (aG m c) (aWg m c) (aWu m c) (aWd m c) (ix2 r l) * val_main_v7 (F := Ideal) (aX m c) (idx_main_v68 (ix2 r l))
        + aX m c (ix2 r l) * val_main_v75 (F := Ideal) (aDy m c) (aX m c) (aG m c) (aWg m c) (aWu m c) (aWd m c) (ix2 r l) + val_main_v75 (F := Ideal) (aDy m c) (aX m c) (aG m c) (aWg m c) (aWu m c) (aWd m c) (ix2 r l) * aX m c (ix2 r l)
        + val_main_v86 (F := Ideal) (aDy m c) (aX m c) (aG m c) (aWg m c) (aWu m c) (aWd m c) (ix2 r l) * val_main_v7 (F := Ideal) (aX m c) (idx_main_v68 (ix2 r l))
        + aX m c (ix2 r l) * val_main_v97 (F := Ideal) (aDy m c) (aX m c) (aG m c) (aWg m c) (aWu m c) (aWd m c) (ix2 r l) + val_main_v97 (F := Ideal) (aDy m c) (aX m c) (aG m c) (aWg m c) (aWu m c) (aWd m c) (ix2 r l) * aX m c (ix2 r l) := by
    rw [val_main_v101_apply, val_main_v99_apply, val_main_v92_apply, val_main_v79_apply, val_main_v77_apply, val_main_v70_apply, val_main_v69_apply, val_main_v68_apply,
      val_main_v76_apply, val_main_v78_apply, val_main_v91_apply, val_main_v90_apply, val_main_v98_apply, val_main_v100_apply]
    rfl
  rw [e, show idx_main_v68 (ix2 r l) = ix2 r 0 from funext fun a => match a with | ⟨0, _⟩ => rfl | ⟨1, _⟩ => rfl, ref_inv, ref_upB, ref_upA m R, ref_shareB, ref_shareA m R, dx_parts R]
  have tA := norm_back (row (n := 4096) (aX m c) r) (fun d => backA m c r d * aG m c (ix2 0 d)) l
  have tB := norm_back (row (n := 4096) (aX m c) r) (fun d => backB m c r d * aG m c (ix2 0 d)) l
  refine Eq.trans ?_ (congrArg (aDy m c (ix2 r l) + ·) (congrArg₂ (· + ·) tA tB)).symm
  exact regroup _ _ _ _ _ _ _

/-! ## The reference's run -/

/-- From the same finite arguments the reference ends with the kernel's seven results. -/
theorem run_reference (hR : ∀ c : Dev nD, AllReal m c) (m' : (ℓ : Loc Reference3Ideal.nD Reference3Ideal.τ Reference3Ideal.sig) → Buf (Elt Ideal) ℓ) (ρ : Dev Reference3Ideal.nD → PrngReg)
    (hm : ∀ c : Dev Reference3Ideal.nD,
      m' (c.tc.loc Reference3Ideal.main_arg0) = m (c.tc.loc main_arg0)
      ∧ m' (c.tc.loc Reference3Ideal.main_arg1) = m (c.tc.loc main_arg1)
      ∧ m' (c.tc.loc Reference3Ideal.main_arg2) = m (c.tc.loc main_arg2)
      ∧ m' (c.tc.loc Reference3Ideal.main_arg3) = m (c.tc.loc main_arg3)
      ∧ m' (c.tc.loc Reference3Ideal.main_arg4) = m (c.tc.loc main_arg4)
      ∧ m' (c.tc.loc Reference3Ideal.main_arg5) = m (c.tc.loc main_arg5)) :
    θ_run (Reference3Ideal.defs (F := Ideal)) (onTc (τ := Reference3Ideal.τ) (Reference3Ideal.main (F := Ideal))) ⟨m', fun _ => 0, ρ⟩
      fun r => ∀ c : Dev Reference3Ideal.nD,
        r.2.mem (c.tc.loc Reference3Ideal.main_v101) = dx m c
          ∧ r.2.mem (c.tc.loc Reference3Ideal.main_v84) = dgain m c
          ∧ r.2.mem (c.tc.loc Reference3Ideal.main_v113) = da m c
          ∧ r.2.mem (c.tc.loc Reference3Ideal.main_v114) = db m c
          ∧ r.2.mem (c.tc.loc Reference3Ideal.main_v117) = hid m c
          ∧ r.2.mem (c.tc.loc Reference3Ideal.main_v118) = nrm m c
          ∧ r.2.mem (c.tc.loc Reference3Ideal.main_v121) = dyh m c
          ∧ r.2.mem (c.tc.loc Reference3Ideal.main_arg0) = m' (c.tc.loc Reference3Ideal.main_arg0)
          ∧ r.2.mem (c.tc.loc Reference3Ideal.main_arg1) = m' (c.tc.loc Reference3Ideal.main_arg1)
          ∧ r.2.mem (c.tc.loc Reference3Ideal.main_arg2) = m' (c.tc.loc Reference3Ideal.main_arg2)
          ∧ r.2.mem (c.tc.loc Reference3Ideal.main_arg3) = m' (c.tc.loc Reference3Ideal.main_arg3)
          ∧ r.2.mem (c.tc.loc Reference3Ideal.main_arg4) = m' (c.tc.loc Reference3Ideal.main_arg4)
          ∧ r.2.mem (c.tc.loc Reference3Ideal.main_arg5) = m' (c.tc.loc Reference3Ideal.main_arg5) := by
  refine (θ_run Reference3Ideal.defs _ _).mono (fun r h c => ?_) (Reference3Ideal.Value.run m' ρ)
  have R := hR c
  obtain ⟨h0, h1, h2, h3, h4, h5⟩ := hm c
  obtain ⟨g0, g1, g2, g3, g4, g5, g6, g7⟩ := h c
  refine ⟨g0.trans ?_, g1.trans ?_, g2.trans ?_, g3.trans ?_, g4.trans ?_, g5.trans ?_, g6.trans ?_, g7⟩
  · refine (val_main_v101_eq _).trans ?_
    show val_main_v101 (F := Ideal) (m' (c.tc.loc Reference3Ideal.main_arg0)) (m' (c.tc.loc Reference3Ideal.main_arg1)) (m' (c.tc.loc Reference3Ideal.main_arg2)) (m' (c.tc.loc Reference3Ideal.main_arg3)) (m' (c.tc.loc Reference3Ideal.main_arg4)) (m' (c.tc.loc Reference3Ideal.main_arg5)) = _
    rw [h0, h1, h2, h3, h4, h5]
    refine funext fun (i : S4096x1024.Idx) => ?_
    rw [eq_ix2 i]
    exact ref_dx m R (i 0) (i 1)
  · refine (val_main_v84_eq _).trans ?_
    show val_main_v84 (F := Ideal) (m' (c.tc.loc Reference3Ideal.main_arg0)) (m' (c.tc.loc Reference3Ideal.main_arg1)) (m' (c.tc.loc Reference3Ideal.main_arg2)) (m' (c.tc.loc Reference3Ideal.main_arg3)) (m' (c.tc.loc Reference3Ideal.main_arg4)) (m' (c.tc.loc Reference3Ideal.main_arg5)) = _
    rw [h0, h1, h2, h3, h4, h5]
    refine funext fun (i : S1x1024.Idx) => ?_
    have hi : (i 0).val < 1 := (i 0).isLt
    have e : i = ix2 (0 : Fin 1) (i 1) := funext fun a => match a with
      | ⟨0, _⟩ => Fin.ext (show (i 0).val = 0 by omega)
      | ⟨1, _⟩ => rfl
    rw [e]
    exact ref_dgain m R (i 1)
  · refine (val_main_v113_eq _).trans ?_
    show val_main_v113 (F := Ideal) (m' (c.tc.loc Reference3Ideal.main_arg0)) (m' (c.tc.loc Reference3Ideal.main_arg1)) (m' (c.tc.loc Reference3Ideal.main_arg2)) (m' (c.tc.loc Reference3Ideal.main_arg3)) (m' (c.tc.loc Reference3Ideal.main_arg4)) (m' (c.tc.loc Reference3Ideal.main_arg5)) = _
    rw [h0, h1, h2, h3, h4, h5]
    refine funext fun (i : S4096x2816.Idx) => ?_
    rw [eq_ix2 i]
    exact ref_da m R (i 0) (i 1)
  · refine (val_main_v114_eq _).trans ?_
    show val_main_v114 (F := Ideal) (m' (c.tc.loc Reference3Ideal.main_arg0)) (m' (c.tc.loc Reference3Ideal.main_arg1)) (m' (c.tc.loc Reference3Ideal.main_arg2)) (m' (c.tc.loc Reference3Ideal.main_arg3)) (m' (c.tc.loc Reference3Ideal.main_arg5)) = _
    rw [h0, h1, h2, h3, h5]
    refine funext fun (i : S4096x2816.Idx) => ?_
    rw [eq_ix2 i]
    exact ref_db m c (i 0) (i 1)
  · refine (val_main_v117_eq _).trans ?_
    show val_main_v117 (F := Ideal) (m' (c.tc.loc Reference3Ideal.main_arg1)) (m' (c.tc.loc Reference3Ideal.main_arg2)) (m' (c.tc.loc Reference3Ideal.main_arg3)) (m' (c.tc.loc Reference3Ideal.main_arg4)) = _
    rw [h1, h2, h3, h4]
    refine funext fun (i : S4096x2816.Idx) => ?_
    rw [eq_ix2 i]
    exact ref_hid m c (i 0) (i 1)
  · refine (val_main_v118_eq _).trans ?_
    show val_main_v118 (F := Ideal) (m' (c.tc.loc Reference3Ideal.main_arg1)) (m' (c.tc.loc Reference3Ideal.main_arg2)) = _
    rw [h1, h2]
    refine funext fun (i : S4096x1024.Idx) => ?_
    rw [eq_ix2 i]
    exact ref_n m c (i 0) (i 1)
  · refine (val_main_v121_eq _).trans ?_
    show val_main_v121 (F := Ideal) (m' (c.tc.loc Reference3Ideal.main_arg0)) = _
    rw [h0]
    refine funext fun (i : S4096x1024.Idx) => ?_
    rw [eq_ix2 i]
    rfl

end Cert.Kernel3Ideal.FeedBack
end
-- ==== Proof.FeedPrinted.lean ====
module

public import proofs.«01_k».proof.Defs
public import proofs.«01_k».proof.Proof.FeedFrame
public import proofs.«01_k».proof.Proof.Gen.Kernel3

/-!
The feed-forward backward call as printed has the idealized program's text, so its frame is the idealized program's at the machine's floats.
-/

@[expose] public section

set_option maxHeartbeats 4000000

noncomputable section

namespace Cert.Kernel3.Feed

open Idealize.ShloMosaic Idealize.ShloMosaic.TcCoe Idealize.SL.Sem

/-- The two programs' bodies are the same, -/
theorem body_same : Kernel3.defs₀ (F := Bits) = Kernel3Ideal.defs₀ (F := Bits) := by
  unfold Kernel3.defs₀ Kernel3Ideal.defs₀
  refine congrArg Defs.onTc (funext fun l => funext fun a => ?_)
  match l, a with
  | ⟨0, _⟩, (t, s) => rfl

/-- so are their labels' texts, -/
theorem defs_same : Kernel3.defs (F := Bits) = Kernel3Ideal.defs (F := Bits) := congrArg (Pipeline.defs (Kernel3Ideal.pcfgs (F := Bits))) body_same

/-- and their main programs. -/
theorem main_same : Kernel3.main (F := Bits) = Kernel3Ideal.main (F := Bits) := by
  unfold Kernel3.main Kernel3Ideal.main
  rfl

/-- The printed program's frame. -/
theorem frame : Cert.quiescent_Kernel3 := by
  intro m ρ _
  rw [defs_same, main_same]
  exact Kernel3Ideal.Feed.frame_any (F := Bits) m ρ

end Cert.Kernel3.Feed
end
-- ==== Proof.Loss.lean ====
module

public import proofs.«01_k».proof.Proof.Gen.Kernel4Ideal.Value
public import proofs.«01_k».proof.Proof.Gen.Reference4Ideal.Run
public import proofs.«01_k».proof.Proof.Gen.Reference4Ideal.Read
public import proofs.«01_k».proof.Proof.Tokens
public import Idealize.ShloMosaic.Lib.Pointwise
public import Idealize.ShloMosaic.Lib.Pipeline.Value
public import Idealize.ShloMosaic.Lib.Tactic
public import Idealize.ShloMosaic.Lib.IdealHost
public import Idealize.ShloMosaic.PureOps.Ideal
public import Idealize.ShloMosaic.PureOps.Ideal.Laws

/-!
The feed-forward layer with the loss behind it: the normalised rows times the two gates, the gated product times the down projection,
and the gradient of the half squared distance to the target.
-/

@[expose] public section

noncomputable section

namespace Cert.Kernel4Ideal.Loss

open Kernel4Ideal Kernel4Ideal.Gen
open Tokens (zero2)
open Idealize.ShloMosaic Idealize.ShloMosaic.TcCoe Idealize.ShloMosaic.Tactic Idealize.SL.Sem

/-! ## What a point leaves in each buffer -/

section
variable {F : FTy → Type} [FloatOps F]
variable (c : Dev nD) (i : grid0.Coords)
variable (arg2 : Memref sig .tc .vmem S512x1024 .f32) (harg2 : arg2.IsWhole)
variable (arg3 : Memref sig .tc .vmem S1x1024 .f32) (harg3 : arg3.IsWhole)
variable (arg4 : Memref sig .tc .vmem S1408x1024 .bf16) (harg4 : arg4.IsWhole)
variable (arg5 : Memref sig .tc .vmem S1408x1024 .bf16) (harg5 : arg5.IsWhole)
variable (arg6 : Memref sig .tc .vmem S1408x1024 .bf16) (harg6 : arg6.IsWhole)
variable (arg7 : Memref sig .tc .vmem S512x1024 .f32) (harg7 : arg7.IsWhole)
variable (arg8 : Memref sig .tc .vmem S512x1024 .f32) (harg8 : arg8.IsWhole)
variable (arg9 : Memref sig .tc .vmem S512x1408 .bf16) (harg9 : arg9.IsWhole)
variable (arg10 : Memref sig .tc .vmem S512x1408 .bf16) (harg10 : arg10.IsWhole)
variable (arg11 : Memref sig .tc .vmem S1x1024 .f32) (harg11 : arg11.IsWhole)
variable (arg12 : Memref sig .tc .vmem S512x1024 .bf16) (harg12 : arg12.IsWhole)
variable (arg13 : Memref sig .tc .vmem S512x1024 .f32) (harg13 : arg13.IsWhole)
variable (x0 : Vec F S512x1024 .f32) (x1 : Vec F S1x1024 .f32) (x2 : Vec F S1408x1024 .bf16) (x3 : Vec F S1408x1024 .bf16) (x4 : Vec F S1408x1024 .bf16) (x5 : Vec F S512x1024 .f32)
variable (xo9 : Vec F S1x1024 .f32) (xs0 : Vec F S512x1024 .bf16) (xs1 : Vec F S512x1024 .f32)

theorem first_a (hc0 : cond0_0 i) (hc1 : ¬cond0_1 i) :
    out0_A_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay5 (k0_pay1 x0 x1) x2 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero zero2]
  simp only [View.readCov_unit_zero (S := S512x1024) _ zero2, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) zero2, View.ld_unit_zero (S := S1x1024) zero2, View.ld_unit_zero (S := S1408x1024) zero2]

theorem first_b (hc0 : cond0_0 i) (hc1 : ¬cond0_1 i) :
    out0_A_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay6 (k0_pay1 x0 x1) x3 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero zero2]
  simp only [View.readCov_unit_zero (S := S512x1024) _ zero2, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) zero2, View.ld_unit_zero (S := S1x1024) zero2, View.ld_unit_zero (S := S1408x1024) zero2]

theorem first_n (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay1 x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero zero2]
  simp only [View.readCov_unit_zero (S := S512x1024) _ zero2, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) zero2, View.ld_unit_zero (S := S1x1024) zero2, View.ld_unit_zero (S := S1408x1024) zero2]

theorem first_y (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay7 (k0_pay1 x0 x1) x2 x3 k0_pay2 x4 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero zero2]
  simp only [View.readCov_unit_zero (S := S512x1024) _ zero2, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) zero2, View.ld_unit_zero (S := S1x1024) zero2, View.ld_unit_zero (S := S1408x1024) zero2]

theorem head_dx (hc0 : ¬cond0_0 i) (hc1 : cond0_1 i) (hc2 : cond0_2 i) (hc3 : ¬cond0_3 i) :
    out0_B_6 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 xs0 xs1 = k0_pay9 x0 (k0_pay7 xs0 x2 x3 xs1 x4) x5 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 xs0 xs1)]
  unfold kernelRun0_B
  dsimp only
  sl_unfold_words
  rw [View.canon_cons_unit_zero zero2]
  simp only [View.readCov_unit_zero (S := S512x1024) _ zero2, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) zero2, View.ld_unit_zero (S := S1x1024) zero2, View.ld_unit_zero (S := S1408x1024) zero2]

theorem head_a (hc0 : ¬cond0_0 i) (hc1 : cond0_1 i) (hc2 : cond0_2 i) (hc3 : ¬cond0_3 i) :
    out0_B_7 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 xs0 xs1 = k0_pay5 xs0 x2 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 xs0 xs1)]
  unfold kernelRun0_B
  dsimp only
  sl_unfold_words
  rw [View.canon_cons_unit_zero zero2]
  simp only [View.readCov_unit_zero (S := S512x1024) _ zero2, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) zero2, View.ld_unit_zero (S := S1x1024) zero2, View.ld_unit_zero (S := S1408x1024) zero2]

theorem head_b (hc0 : ¬cond0_0 i) (hc1 : cond0_1 i) (hc2 : cond0_2 i) (hc3 : ¬cond0_3 i) :
    out0_B_8 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 xs0 xs1 = k0_pay6 xs0 x3 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 xs0 xs1)]
  unfold kernelRun0_B
  dsimp only
  sl_unfold_words
  rw [View.canon_cons_unit_zero zero2]
  simp only [View.readCov_unit_zero (S := S512x1024) _ zero2, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) zero2, View.ld_unit_zero (S := S1x1024) zero2, View.ld_unit_zero (S := S1408x1024) zero2]

theorem head_loss (hc0 : ¬cond0_0 i) (hc1 : cond0_1 i) (hc2 : cond0_2 i) (hc3 : ¬cond0_3 i) :
    out0_B_9 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 xs0 xs1 = k0_pay10 x0 (k0_pay7 xs0 x2 x3 xs1 x4) x5 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 xs0 xs1)]
  unfold kernelRun0_B
  dsimp only
  sl_unfold_words
  rw [View.canon_cons_unit_zero zero2]
  simp only [View.readCov_unit_zero (S := S512x1024) _ zero2, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) zero2, View.ld_unit_zero (S := S1x1024) zero2, View.ld_unit_zero (S := S1408x1024) zero2]

theorem next_dx (hc0 : ¬cond0_0 i) (hc1 : cond0_1 i) (hc2 : ¬cond0_2 i) (hc3 : cond0_3 i) :
    out0_C_6 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 xo9 xs0 xs1 = k0_pay9 x0 (k0_pay7 xs0 x2 x3 xs1 x4) x5 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 xo9 xs0 xs1)]
  unfold kernelRun0_C
  dsimp only
  sl_unfold_words
  rw [View.canon_cons_unit_zero zero2]
  simp only [View.readCov_unit_zero (S := S512x1024) _ zero2, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) zero2, View.ld_unit_zero (S := S1x1024) zero2, View.ld_unit_zero (S := S1408x1024) zero2]

theorem next_a (hc0 : ¬cond0_0 i) (hc1 : cond0_1 i) (hc2 : ¬cond0_2 i) (hc3 : cond0_3 i) :
    out0_C_7 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 xo9 xs0 xs1 = k0_pay5 xs0 x2 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 xo9 xs0 xs1)]
  unfold kernelRun0_C
  dsimp only
  sl_unfold_words
  rw [View.canon_cons_unit_zero zero2]
  simp only [View.readCov_unit_zero (S := S512x1024) _ zero2, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) zero2, View.ld_unit_zero (S := S1x1024) zero2, View.ld_unit_zero (S := S1408x1024) zero2]

theorem next_b (hc0 : ¬cond0_0 i) (hc1 : cond0_1 i) (hc2 : ¬cond0_2 i) (hc3 : cond0_3 i) :
    out0_C_8 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 xo9 xs0 xs1 = k0_pay6 xs0 x3 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 xo9 xs0 xs1)]
  unfold kernelRun0_C
  dsimp only
  sl_unfold_words
  rw [View.canon_cons_unit_zero zero2]
  simp only [View.readCov_unit_zero (S := S512x1024) _ zero2, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) zero2, View.ld_unit_zero (S := S1x1024) zero2, View.ld_unit_zero (S := S1408x1024) zero2]

theorem next_loss (hc0 : ¬cond0_0 i) (hc1 : cond0_1 i) (hc2 : ¬cond0_2 i) (hc3 : cond0_3 i) :
    out0_C_9 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 xo9 xs0 xs1 = k0_pay11 x0 (k0_pay7 xs0 x2 x3 xs1 x4) x5 xo9 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 xo9 xs0 xs1)]
  unfold kernelRun0_C
  dsimp only
  sl_unfold_words
  rw [View.canon_cons_unit_zero zero2]
  simp only [View.readCov_unit_zero (S := S512x1024) _ zero2, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) zero2, View.ld_unit_zero (S := S1x1024) zero2, View.ld_unit_zero (S := S1408x1024) zero2]

end

/-! ## Over the extended reals -/

/-- A row of `x` over its root mean square, times the gain, at one place. -/
def normed {n : ℕ} (x : (⟨2, ![n, 1024]⟩ : Shape).Idx → EReal) (g : S1x1024.Idx → EReal) (r : Fin n) (k : Fin 1024) : EReal :=
  x (ix2 r k) * Ideal.rsqrt (Ideal.div (∑ d : Fin 1024, x (ix2 r d) * x (ix2 r d)) (Ideal.ofBits .f32 0x44800000#32) + Ideal.ofBits .f32 0x358637BD#32) * g (ix2 0 k)

/-- The gated product of two rows' products. -/
def gated (a b : EReal) : EReal := a * Ideal.logistic a * b

theorem pay1_at (x : Vec Ideal S512x1024 .f32) (g : Vec Ideal S1x1024 .f32) (r : Fin 512) (k : Fin 1024) :
    k0_pay1 (F := Ideal) x g (ix2 r k) = normed x g r k := by
  unfold normed
  pointwise [k0_pay1]

theorem pay3_at (n : Vec Ideal S512x1024 .bf16) (w : Vec Ideal S1408x1024 .bf16) (r : Fin 512) (j : Fin 1408) :
    k0_pay3 (F := Ideal) n w (ix2 r j) = ∑ k : Fin 1024, n (ix2 r k) * w (ix2 j k) := by
  pointwise [k0_pay3]

theorem pay5_at (n : Vec Ideal S512x1024 .bf16) (w : Vec Ideal S1408x1024 .bf16) (r : Fin 512) (j : Fin 1408) :
    k0_pay5 (F := Ideal) n w (ix2 r j) = ∑ k : Fin 1024, n (ix2 r k) * w (ix2 j k) := pay3_at n w r j

theorem pay4_at (n : Vec Ideal S512x1024 .bf16) (w : Vec Ideal S1408x1024 .bf16) (r : Fin 512) (j : Fin 1408) :
    k0_pay4 (F := Ideal) n w (ix2 r j) = ∑ k : Fin 1024, n (ix2 r k) * w (ix2 j k) := by
  pointwise [k0_pay4]

theorem pay6_at (n : Vec Ideal S512x1024 .bf16) (w : Vec Ideal S1408x1024 .bf16) (r : Fin 512) (j : Fin 1408) :
    k0_pay6 (F := Ideal) n w (ix2 r j) = ∑ k : Fin 1024, n (ix2 r k) * w (ix2 j k) := pay4_at n w r j

theorem pay2_at (r : Fin 512) (l : Fin 1024) : k0_pay2 (F := Ideal) (ix2 r l) = 0 := by
  pointwise [k0_pay2]

theorem pay7_at (n : Vec Ideal S512x1024 .bf16) (wg : Vec Ideal S1408x1024 .bf16) (wu : Vec Ideal S1408x1024 .bf16) (y : Vec Ideal S512x1024 .f32) (wd : Vec Ideal S1408x1024 .bf16)
    (r : Fin 512) (l : Fin 1024) : k0_pay7 (F := Ideal) n wg wu y wd (ix2 r l)
      = y (ix2 r l) + ∑ j : Fin 1408, gated (∑ k : Fin 1024, n (ix2 r k) * wg (ix2 j k)) (∑ k : Fin 1024, n (ix2 r k) * wu (ix2 j k)) * wd (ix2 j l) := by
  suffices e : k0_pay7 (F := Ideal) n wg wu y wd (ix2 r l) = y (ix2 r l) + ∑ j : Fin 1408, gated (k0_pay3 (F := Ideal) n wg (ix2 r j)) (k0_pay4 (F := Ideal) n wu (ix2 r j)) * wd (ix2 j l) by
    rw [e]
    simp only [pay3_at, pay4_at]
  unfold k0_pay7
  generalize k0_pay3 (F := Ideal) n wg = a
  generalize k0_pay4 (F := Ideal) n wu = b
  unfold gated
  pointwise []

/-- What is left of the target: the residual plus half the layer's output, less the target. -/
def off (x y t : EReal) : EReal := x + Ideal.ofBits .f32 0x3F000000#32 * y - t

theorem pay8_at (x y t : Vec Ideal S512x1024 .f32) (r : Fin 512) (l : Fin 1024) :
    k0_pay8 (F := Ideal) x y t (ix2 r l) = off (x (ix2 r l)) (y (ix2 r l)) (t (ix2 r l)) := by
  unfold off
  pointwise [k0_pay8]

theorem pay9_at (x y t : Vec Ideal S512x1024 .f32) (r : Fin 512) (l : Fin 1024) :
    k0_pay9 (F := Ideal) x y t (ix2 r l) = off (x (ix2 r l)) (y (ix2 r l)) (t (ix2 r l)) * Ideal.ofBits .f32 0x3A800000#32 := by
  rw [← pay8_at]
  rfl

theorem pay10_at (x y t : Vec Ideal S512x1024 .f32) (l : Fin 1024) :
    k0_pay10 (F := Ideal) x y t (ix2 0 l) = ∑ r : Fin 512, off (x (ix2 r l)) (y (ix2 r l)) (t (ix2 r l)) * off (x (ix2 r l)) (y (ix2 r l)) (t (ix2 r l)) := by
  simp only [← pay8_at]
  unfold k0_pay10
  generalize k0_pay8 (F := Ideal) x y t = z
  pointwise []

theorem pay11_at (x y t : Vec Ideal S512x1024 .f32) (p : Vec Ideal S1x1024 .f32) (l : Fin 1024) :
    k0_pay11 (F := Ideal) x y t p (ix2 0 l) = p (ix2 0 l) + ∑ r : Fin 512, off (x (ix2 r l)) (y (ix2 r l)) (t (ix2 r l)) * off (x (ix2 r l)) (y (ix2 r l)) (t (ix2 r l)) := by
  simp only [← pay10_at]
  unfold k0_pay11
  generalize k0_pay10 (F := Ideal) x y t = z
  pointwise []

variable (m : (ℓ : Loc nD τ sig) → Buf (Elt Ideal) ℓ)

def aX (c : Dev nD) : S4096x1024.Idx → EReal := m (c.tc.loc main_arg0)
def aG (c : Dev nD) : S1x1024.Idx → EReal := m (c.tc.loc main_arg1)
def aWg (c : Dev nD) : S1024x2816.Idx → EReal := m (c.tc.loc main_arg2)
def aWu (c : Dev nD) : S1024x2816.Idx → EReal := m (c.tc.loc main_arg3)
def aWd (c : Dev nD) : S2816x1024.Idx → EReal := m (c.tc.loc main_arg4)
def aT (c : Dev nD) : S4096x1024.Idx → EReal := m (c.tc.loc main_arg5)

/-- The normalised rows, -/
def nrm (c : Dev nD) (r : Fin 4096) (k : Fin 1024) : EReal := normed (aX m c) (aG m c) r k
/-- their products with the two gates' weights, -/
def gateA (c : Dev nD) (i : S4096x2816.Idx) : EReal := ∑ k : Fin 1024, nrm m c (i 0) k * aWg m c (ix2 k (i 1))
def gateB (c : Dev nD) (i : S4096x2816.Idx) : EReal := ∑ k : Fin 1024, nrm m c (i 0) k * aWu m c (ix2 k (i 1))
/-- the layer's output, -/
def down (c : Dev nD) (r : Fin 4096) (l : Fin 1024) : EReal := ∑ j : Fin 2816, gated (gateA m c (ix2 r j)) (gateB m c (ix2 r j)) * aWd m c (ix2 j l)
/-- what is left of the target, -/
def left (c : Dev nD) (r : Fin 4096) (l : Fin 1024) : EReal := off (aX m c (ix2 r l)) (down m c r l) (aT m c (ix2 r l))
/-- the loss's gradient, and the squares summed over the rows. -/
def dx (c : Dev nD) (i : S4096x1024.Idx) : EReal := left m c (i 0) (i 1) * Ideal.ofBits .f32 0x3A800000#32
def loss (c : Dev nD) (i : S1x1024.Idx) : EReal := ∑ r : Fin 4096, left m c r (i 1) * left m c r (i 1)

theorem V_v1 (c : Dev nD) (i : S2816x1024.Idx) : V m c main_v1 i = aWg m c (ix2 (i 1) (i 0)) := by
  show StableHlo.after hostOps0 (fun b => m (c, b)) (Proc.devRef .tc main_v1) i = _
  after_results
  rw [eq_ix2 i]
  pointwise []
  rfl

theorem V_v3 (c : Dev nD) (i : S2816x1024.Idx) : V m c main_v3 i = aWu m c (ix2 (i 1) (i 0)) := by
  show StableHlo.after hostOps0 (fun b => m (c, b)) (Proc.devRef .tc main_v3) i = _
  after_results
  rw [eq_ix2 i]
  pointwise []
  rfl

theorem V_v4 (c : Dev nD) : V m c main_v4 = aWd m c := by
  show StableHlo.after hostOps0 (fun b => m (c, b)) (Proc.devRef .tc main_v4) = _
  after_results
  rfl

/-- The windows' blocks: the tokens' tile of point `t` is `t / 2`, the hidden units' half `t % 2`. -/
theorem places : ∀ t : Fin grid0.N, win0_0.index t (0 : Fin 2) = t.val / 2 ∧ win0_0.index t (1 : Fin 2) = 0 ∧ win0_1.index t (0 : Fin 2) = 0 ∧ win0_1.index t (1 : Fin 2) = 0
    ∧ win0_5.index t (0 : Fin 2) = t.val / 2 ∧ win0_5.index t (1 : Fin 2) = 0 := by decide +kernel
theorem places_w : ∀ t : Fin grid0.N, win0_2.index t (0 : Fin 2) = t.val % 2 ∧ win0_2.index t (1 : Fin 2) = 0 ∧ win0_3.index t (0 : Fin 2) = t.val % 2 ∧ win0_3.index t (1 : Fin 2) = 0
    ∧ win0_4.index t (0 : Fin 2) = t.val % 2 ∧ win0_4.index t (1 : Fin 2) = 0 := by decide +kernel
theorem places_o : ∀ t : Fin grid0.N, win0_6.index t (0 : Fin 2) = t.val / 2 ∧ win0_6.index t (1 : Fin 2) = 0 ∧ win0_7.index t (0 : Fin 2) = t.val / 2 ∧ win0_7.index t (1 : Fin 2) = t.val % 2
    ∧ win0_8.index t (0 : Fin 2) = t.val / 2 ∧ win0_8.index t (1 : Fin 2) = t.val % 2 ∧ win0_9.index t (0 : Fin 2) = 0 ∧ win0_9.index t (1 : Fin 2) = 0 := by decide +kernel

/-- Where a tile's index lies in the array. -/
theorem tile_at {n n' w s : ℕ} (j : Fin 2 → ℕ) (hj : j 0 = n) (hj1 : j 1 = n') (r l : ℕ) :
    j 0 * s + 1 * r = s * n + r ∧ j 1 * w + 1 * l = w * n' + l := by
  rw [hj, hj1]
  constructor
  · rw [Nat.mul_comm]; omega
  · rw [Nat.mul_comm]; omega

theorem blk0 (c : Dev nD) (t : Fin grid0.N) (r : Fin 512) (l : Fin 1024) (h : 512 * (t.val / 2) + r.val < 4096) :
    iblk m c 0 t (ix2 r l) = aX m c (ix2 ⟨512 * (t.val / 2) + r.val, h⟩ l) := by
  show V m c main_arg0 _ = _
  rw [V_main_arg0]
  show aX m c _ = _
  have e := tile_at (w := 1024) (s := 512) (win0_0.index t) (places t).1 (places t).2.1 r.val l.val
  congr 1
  funext a
  apply Fin.ext
  match a with | ⟨0, _⟩ => exact e.1 | ⟨1, _⟩ => exact e.2.trans (Nat.zero_add _)

theorem blk1 (c : Dev nD) (t : Fin grid0.N) (r : Fin 1) (l : Fin 1024) : iblk m c 1 t (ix2 r l) = aG m c (ix2 r l) := by
  show V m c main_arg1 _ = _
  rw [V_main_arg1]
  show aG m c _ = _
  have e := tile_at (w := 1024) (s := 1) (win0_1.index t) (places t).2.2.1 (places t).2.2.2.1 r.val l.val
  congr 1
  funext a
  apply Fin.ext
  match a with | ⟨0, _⟩ => exact e.1.trans (Nat.zero_add _) | ⟨1, _⟩ => exact e.2.trans (Nat.zero_add _)

theorem blk5 (c : Dev nD) (t : Fin grid0.N) (r : Fin 512) (l : Fin 1024) (h : 512 * (t.val / 2) + r.val < 4096) :
    iblk m c 5 t (ix2 r l) = aT m c (ix2 ⟨512 * (t.val / 2) + r.val, h⟩ l) := by
  show V m c main_arg5 _ = _
  rw [V_main_arg5]
  show aT m c _ = _
  have e := tile_at (w := 1024) (s := 512) (win0_5.index t) (places t).2.2.2.2.1 (places t).2.2.2.2.2 r.val l.val
  congr 1
  funext a
  apply Fin.ext
  match a with | ⟨0, _⟩ => exact e.1 | ⟨1, _⟩ => exact e.2.trans (Nat.zero_add _)

theorem blk2 (c : Dev nD) (t : Fin grid0.N) (j : Fin 1408) (k : Fin 1024) (h : 1408 * (t.val % 2) + j.val < 2816) :
    iblk m c 2 t (ix2 j k) = aWg m c (ix2 k ⟨1408 * (t.val % 2) + j.val, h⟩) := by
  show V m c main_v1 _ = _
  rw [V_v1]
  have e := tile_at (w := 1024) (s := 1408) (win0_2.index t) (places_w t).1 (places_w t).2.1 j.val k.val
  congr 1
  funext a
  apply Fin.ext
  match a with | ⟨0, _⟩ => exact e.2.trans (Nat.zero_add _) | ⟨1, _⟩ => exact e.1

theorem blk3 (c : Dev nD) (t : Fin grid0.N) (j : Fin 1408) (k : Fin 1024) (h : 1408 * (t.val % 2) + j.val < 2816) :
    iblk m c 3 t (ix2 j k) = aWu m c (ix2 k ⟨1408 * (t.val % 2) + j.val, h⟩) := by
  show V m c main_v3 _ = _
  rw [V_v3]
  have e := tile_at (w := 1024) (s := 1408) (win0_3.index t) (places_w t).2.2.1 (places_w t).2.2.2.1 j.val k.val
  congr 1
  funext a
  apply Fin.ext
  match a with | ⟨0, _⟩ => exact e.2.trans (Nat.zero_add _) | ⟨1, _⟩ => exact e.1

theorem blk4 (c : Dev nD) (t : Fin grid0.N) (j : Fin 1408) (l : Fin 1024) (h : 1408 * (t.val % 2) + j.val < 2816) :
    iblk m c 4 t (ix2 j l) = aWd m c (ix2 ⟨1408 * (t.val % 2) + j.val, h⟩ l) := by
  show V m c main_v4 _ = _
  rw [V_v4]
  have e := tile_at (w := 1024) (s := 1408) (win0_4.index t) (places_w t).2.2.2.2.1 (places_w t).2.2.2.2.2 j.val l.val
  congr 1
  funext a
  apply Fin.ext
  match a with | ⟨0, _⟩ => exact e.1 | ⟨1, _⟩ => exact e.2.trans (Nat.zero_add _)

theorem N16 : cfg0.N = 16 := N_0

/-- The rows a point normalises. -/
theorem nrm_blk (c : Dev nD) (t : Fin cfg0.N) (r : Fin 512) (k : Fin 1024) (h : 512 * (t.val / 2) + r.val < 4096) :
    k0_pay1 (F := Ideal) (iblk m c 0 t) (iblk m c 1 t) (ix2 r k) = nrm m c ⟨512 * (t.val / 2) + r.val, h⟩ k := by
  have e : ∀ d : Fin 1024, (iblk m c 0 t : S512x1024.Idx → EReal) (ix2 r d) = aX m c (ix2 ⟨512 * (t.val / 2) + r.val, h⟩ d) := fun d => blk0 m c t r d h
  have e1 : (iblk m c 1 t : S1x1024.Idx → EReal) (ix2 0 k) = aG m c (ix2 0 k) := blk1 m c t 0 k
  rw [pay1_at]
  unfold nrm normed
  simp only [e, e1]

/-- After a tile's first point the scratch holds its normalised rows, -/
theorem kept_n (c : Dev nD) (t : Fin cfg0.N) (h0 : t.val % 2 = 0) (r : Fin 512) (k : Fin 1024) (h : 512 * (t.val / 2) + r.val < 4096) :
    (outsAt0 m c t.val t.isLt).2.2.2.2.1 (ix2 r k) = nrm m c ⟨512 * (t.val / 2) + r.val, h⟩ k := by
  rw [outsAt0_A m c t h0 (by omega)]
  dsimp only
  rw [first_n]
  exact nrm_blk m c t r k h

/-- a half of the hidden units' share of the layer's output, -/
def half (c : Dev nD) (u : Fin 2) (r : Fin 4096) (l : Fin 1024) : EReal :=
  ∑ j : Fin 1408, gated (gateA m c (ix2 r ⟨1408 * u.val + j.val, by omega⟩)) (gateB m c (ix2 r ⟨1408 * u.val + j.val, by omega⟩)) * aWd m c (ix2 ⟨1408 * u.val + j.val, by omega⟩ l)

theorem half_blk (c : Dev nD) (t : Fin cfg0.N) (u : Fin 2) (hu : t.val % 2 = u.val) (n : Vec Ideal S512x1024 .bf16) (y : Vec Ideal S512x1024 .f32) (r : Fin 512) (l : Fin 1024) (h : 512 * (t.val / 2) + r.val < 4096)
    (hn : ∀ k : Fin 1024, n (ix2 r k) = nrm m c ⟨512 * (t.val / 2) + r.val, h⟩ k) :
    k0_pay7 (F := Ideal) n (iblk m c 2 t) (iblk m c 3 t) y (iblk m c 4 t) (ix2 r l) = y (ix2 r l) + half m c u ⟨512 * (t.val / 2) + r.val, h⟩ l := by
  have hj : ∀ j : Fin 1408, 1408 * (t.val % 2) + j.val < 2816 := fun j => by omega
  rw [pay7_at]
  unfold half
  refine congrArg (y (ix2 r l) + ·) (Finset.sum_congr rfl fun j _ => ?_)
  have e2 : ∀ k : Fin 1024, (iblk m c 2 t : S1408x1024.Idx → EReal) (ix2 j k) = aWg m c (ix2 k ⟨1408 * u.val + j.val, by omega⟩) := fun k =>
    (blk2 m c t j k (hj j)).trans (congrArg (fun z => aWg m c (ix2 k z)) (Fin.ext (by dsimp only; rw [hu])))
  have e3 : ∀ k : Fin 1024, (iblk m c 3 t : S1408x1024.Idx → EReal) (ix2 j k) = aWu m c (ix2 k ⟨1408 * u.val + j.val, by omega⟩) := fun k =>
    (blk3 m c t j k (hj j)).trans (congrArg (fun z => aWu m c (ix2 k z)) (Fin.ext (by dsimp only; rw [hu])))
  have e4 : (iblk m c 4 t : S1408x1024.Idx → EReal) (ix2 j l) = aWd m c (ix2 ⟨1408 * u.val + j.val, by omega⟩ l) :=
    (blk4 m c t j l (hj j)).trans (congrArg (fun z => aWd m c (ix2 z l)) (Fin.ext (by dsimp only; rw [hu])))
  simp only [hn, e2, e3, e4]
  rfl

/-- and the first half's share. -/
theorem kept_y (c : Dev nD) (t : Fin cfg0.N) (h0 : t.val % 2 = 0) (r : Fin 512) (l : Fin 1024) (h : 512 * (t.val / 2) + r.val < 4096) :
    (outsAt0 m c t.val t.isLt).2.2.2.2.2 (ix2 r l) = half m c 0 ⟨512 * (t.val / 2) + r.val, h⟩ l := by
  rw [outsAt0_A m c t h0 (by omega)]
  dsimp only
  rw [first_y]
  refine (half_blk m c t 0 h0 _ _ r l h fun k => nrm_blk m c t r k h).trans ?_
  rw [pay2_at, zero_add]

/-- The hidden units are the two halves. -/
theorem down_halves (c : Dev nD) (r : Fin 4096) (l : Fin 1024) : half m c 0 r l + half m c 1 r l = down m c r l := by
  unfold down half
  refine Eq.trans ?_ (Fin.sum_univ_add (a := 1408) (b := 1408) (fun j : Fin (1408 + 1408) => gated (gateA m c (ix2 r (⟨j.val, j.isLt⟩ : Fin 2816))) (gateB m c (ix2 r (⟨j.val, j.isLt⟩ : Fin 2816))) * aWd m c (ix2 (⟨j.val, j.isLt⟩ : Fin 2816) l))).symm
  refine congrArg₂ (· + ·) (Finset.sum_congr rfl fun j _ => ?_) (Finset.sum_congr rfl fun j _ => ?_)
  · have e : (⟨1408 * (0 : Fin 2).val + j.val, by omega⟩ : Fin 2816) = ⟨(Fin.castAdd 1408 j).val, (Fin.castAdd 1408 j).isLt⟩ := Fin.ext (Nat.zero_add _)
    rw [e]
  · rfl

/-- The layer's output as a tile's second point has it, -/
theorem out_blk (c : Dev nD) (t : Fin cfg0.N) (h0 : t.val % 2 = 1) (hp : t.val - 1 < cfg0.N) (r : Fin 512) (l : Fin 1024) (h : 512 * (t.val / 2) + r.val < 4096) :
    k0_pay7 (F := Ideal) (outsAt0 m c (t.val - 1) hp).2.2.2.2.1 (iblk m c 2 t) (iblk m c 3 t) (outsAt0 m c (t.val - 1) hp).2.2.2.2.2 (iblk m c 4 t) (ix2 r l)
      = down m c ⟨512 * (t.val / 2) + r.val, h⟩ l := by
  have e : (t.val - 1) / 2 = t.val / 2 := by omega
  have h' : 512 * ((t.val - 1) / 2) + r.val < 4096 := by omega
  have er : (⟨512 * ((t.val - 1) / 2) + r.val, h'⟩ : Fin 4096) = ⟨512 * (t.val / 2) + r.val, h⟩ := Fin.ext (by dsimp only; rw [e])
  refine (half_blk m c t 1 h0 _ _ r l h fun k => (kept_n m c ⟨t.val - 1, hp⟩ (by dsimp only; omega) r k h').trans (congrArg (nrm m c · k) er)).trans ?_
  rw [← down_halves]
  exact congrArg (· + _) ((kept_y m c ⟨t.val - 1, hp⟩ (by dsimp only; omega) r l h').trans (congrArg (half m c 0 · l) er))

theorem even_args (t : Fin cfg0.N) : t.val < 16 := lt_of_lt_of_eq t.isLt N16

/-- the loss's gradient at a tile's second point, -/
theorem dx_at (c : Dev nD) (t : Fin cfg0.N) (h1 : t.val % 2 = 1) (r : Fin 512) (l : Fin 1024) (h : 512 * (t.val / 2) + r.val < 4096) :
    (outsAt0 m c t.val t.isLt).1 (ix2 r l) = dx m c (ix2 ⟨512 * (t.val / 2) + r.val, h⟩ l) := by
  have e0 := blk0 m c t r l h
  have e5 := blk5 m c t r l h
  have ey := out_blk m c t h1 (Nat.lt_of_le_of_lt (Nat.sub_le _ _) t.isLt) r l h
  by_cases h2 : t.val < 2
  · rw [outsAt0_B m c t (by omega) h1 h2 (by omega)]
    dsimp only
    rw [head_dx]
    refine (pay9_at _ _ _ r l).trans ?_
    rw [ey, e0, e5]
    rfl
  · rw [outsAt0_C m c t (by omega) h1 h2 (by omega)]
    dsimp only
    rw [next_dx]
    refine (pay9_at _ _ _ r l).trans ?_
    rw [ey, e0, e5]
    rfl

/-- the squares of a tile's rows, -/
theorem squares_at (c : Dev nD) (t : Fin cfg0.N) (h1 : t.val % 2 = 1) (hp : t.val - 1 < cfg0.N) (l : Fin 1024) :
    k0_pay10 (F := Ideal) (iblk m c 0 t) (k0_pay7 (outsAt0 m c (t.val - 1) hp).2.2.2.2.1 (iblk m c 2 t) (iblk m c 3 t) (outsAt0 m c (t.val - 1) hp).2.2.2.2.2 (iblk m c 4 t)) (iblk m c 5 t) (ix2 0 l)
      = ∑ r : Fin 512, left m c ⟨512 * (t.val / 2) + r.val, by have := even_args t; omega⟩ l * left m c ⟨512 * (t.val / 2) + r.val, by have := even_args t; omega⟩ l := by
  refine (pay10_at _ _ _ l).trans (Finset.sum_congr rfl fun r _ => ?_)
  have h : 512 * (t.val / 2) + r.val < 4096 := by have := even_args t; omega
  have e : off ((iblk m c 0 t : S512x1024.Idx → EReal) (ix2 r l)) (k0_pay7 (F := Ideal) (outsAt0 m c (t.val - 1) hp).2.2.2.2.1 (iblk m c 2 t) (iblk m c 3 t) (outsAt0 m c (t.val - 1) hp).2.2.2.2.2 (iblk m c 4 t) (ix2 r l)) ((iblk m c 5 t : S512x1024.Idx → EReal) (ix2 r l))
      = left m c ⟨512 * (t.val / 2) + r.val, h⟩ l := by
    rw [out_blk m c t h1 hp r l h, blk0 m c t r l h, blk5 m c t r l h]
    rfl
  exact congrArg₂ (· * ·) e e

/-- A tile's squares are added to what was there. -/
theorem pay11_add (x y t : Vec Ideal S512x1024 .f32) (a : Vec Ideal S1x1024 .f32) (l : Fin 1024) :
    k0_pay11 (F := Ideal) x y t a (ix2 0 l) = a (ix2 0 l) + k0_pay10 (F := Ideal) x y t (ix2 0 l) := by
  rw [pay10_at]
  exact pay11_at x y t a l

/-- A token's square, past the last nothing. -/
def square (c : Dev nD) (l : Fin 1024) (i : ℕ) : EReal := if h : i < 4096 then left m c ⟨i, h⟩ l * left m c ⟨i, h⟩ l else 0

/-- A tile's squares are 512 of them. -/
theorem squares_range (c : Dev nD) (t : Fin cfg0.N) (l : Fin 1024) (T : ℕ) (hT : t.val / 2 = T) :
    (∑ r : Fin 512, left m c ⟨512 * (t.val / 2) + r.val, by have := even_args t; omega⟩ l * left m c ⟨512 * (t.val / 2) + r.val, by have := even_args t; omega⟩ l)
      = ∑ r ∈ Finset.range 512, square m c l (512 * T + r) := by
  subst hT
  rw [Finset.sum_range]
  refine Finset.sum_congr rfl fun r _ => ?_
  unfold square
  rw [dif_pos (by have := even_args t; omega)]

/-- and what they sum to over the tiles so far. -/
theorem loss_at (c : Dev nD) (l : Fin 1024) : ∀ (T : ℕ) (h : 2 * T + 1 < cfg0.N),
    (outsAt0 m c (2 * T + 1) h).2.2.2.1 (ix2 0 l) = ∑ i ∈ Finset.range (512 * T + 512), square m c l i := by
  intro T
  induction T with
  | zero =>
    intro h
    rw [outsAt0_B m c ⟨2 * 0 + 1, h⟩ (by dsimp only; omega) (by dsimp only) (by dsimp only; omega) (by dsimp only; omega)]
    dsimp only
    rw [head_loss]
    refine (squares_at m c ⟨2 * 0 + 1, h⟩ (by dsimp only) (Nat.lt_of_le_of_lt (Nat.sub_le _ _) h) l).trans ?_
    refine (squares_range m c ⟨2 * 0 + 1, h⟩ l 0 (by dsimp only)).trans ?_
    simp only [Nat.mul_zero, Nat.zero_add]
  | succ T ih =>
    intro h
    have hN := N16
    rw [outsAt0_C m c ⟨2 * (T + 1) + 1, h⟩ (by dsimp only; omega) (by dsimp only; omega) (by dsimp only; omega) (by dsimp only; omega)]
    dsimp only
    rw [next_loss]
    refine (pay11_add _ _ _ _ l).trans ?_
    have hA := outsAt0_A m c ⟨2 * T + 2, by omega⟩ (by dsimp only; omega) (by dsimp only; omega)
    have e9 : (outsAt0 m c (2 * T + 2) (by omega)).2.2.2.1 = (outsAt0 m c (2 * T + 1) (by omega)).2.2.2.1 := congrArg (fun z => z.2.2.2.1) hA
    refine (congrArg₂ (· + ·) ((congrFun e9 (ix2 0 l)).trans (ih (by omega))) ((squares_at m c ⟨2 * (T + 1) + 1, h⟩ (by dsimp only; omega)
      (Nat.lt_of_le_of_lt (Nat.sub_le _ _) h) l).trans (squares_range m c ⟨2 * (T + 1) + 1, h⟩ l (T + 1) (by dsimp only; omega)))).trans ?_
    exact (Finset.sum_range_add (fun i => square m c l i) (512 * T + 512) 512).symm

theorem sum_all (c : Dev nD) (l : Fin 1024) : ∑ i ∈ Finset.range 4096, square m c l i = ∑ r : Fin 4096, left m c r l * left m c r l := by
  rw [Finset.sum_range]
  refine Finset.sum_congr rfl fun r _ => ?_
  unfold square
  rw [dif_pos r.isLt]

/-! ## The result arrays -/

/-- A point's block of the gates, -/
theorem a_blk (c : Dev nD) (t : Fin cfg0.N) (n : Vec Ideal S512x1024 .bf16) (r : Fin 512) (j : Fin 1408) (h : 512 * (t.val / 2) + r.val < 4096) (hj : 1408 * (t.val % 2) + j.val < 2816)
    (hn : ∀ k : Fin 1024, n (ix2 r k) = nrm m c ⟨512 * (t.val / 2) + r.val, h⟩ k) :
    k0_pay5 (F := Ideal) n (iblk m c 2 t) (ix2 r j) = gateA m c (ix2 ⟨512 * (t.val / 2) + r.val, h⟩ ⟨1408 * (t.val % 2) + j.val, hj⟩) := by
  refine (pay5_at _ _ r j).trans (Finset.sum_congr rfl fun k _ => ?_)
  rw [hn]
  exact congrArg (nrm m c ⟨512 * (t.val / 2) + r.val, h⟩ k * ·) (blk2 m c t j k hj)

theorem a_at (c : Dev nD) (t : Fin cfg0.N) (r : Fin 512) (j : Fin 1408) (h : 512 * (t.val / 2) + r.val < 4096) (hj : 1408 * (t.val % 2) + j.val < 2816) :
    (outsAt0 m c t.val t.isLt).2.1 (ix2 r j) = gateA m c (ix2 ⟨512 * (t.val / 2) + r.val, h⟩ ⟨1408 * (t.val % 2) + j.val, hj⟩) := by
  by_cases h1 : t.val % 2 = 0
  · rw [outsAt0_A m c t h1 (by omega)]
    dsimp only
    rw [first_a]
    exact a_blk m c t _ r j h hj fun k => nrm_blk m c t r k h
  · have hp : t.val - 1 < cfg0.N := Nat.lt_of_le_of_lt (Nat.sub_le _ _) t.isLt
    have h' : 512 * ((t.val - 1) / 2) + r.val < 4096 := by omega
    have er : (⟨512 * ((t.val - 1) / 2) + r.val, h'⟩ : Fin 4096) = ⟨512 * (t.val / 2) + r.val, h⟩ := Fin.ext (by dsimp only; rw [show (t.val - 1) / 2 = t.val / 2 by omega])
    have hn : ∀ k : Fin 1024, (outsAt0 m c (t.val - 1) hp).2.2.2.2.1 (ix2 r k) = nrm m c ⟨512 * (t.val / 2) + r.val, h⟩ k := fun k =>
      (kept_n m c ⟨t.val - 1, hp⟩ (by dsimp only; omega) r k h').trans (congrArg (nrm m c · k) er)
    by_cases h2 : t.val < 2
    · rw [outsAt0_B m c t (by omega) (by omega) h2 (by omega)]
      dsimp only
      rw [head_a]
      exact a_blk m c t _ r j h hj hn
    · rw [outsAt0_C m c t (by omega) (by omega) h2 (by omega)]
      dsimp only
      rw [next_a]
      exact a_blk m c t _ r j h hj hn

/-- A point's block of the gates, -/
theorem b_blk (c : Dev nD) (t : Fin cfg0.N) (n : Vec Ideal S512x1024 .bf16) (r : Fin 512) (j : Fin 1408) (h : 512 * (t.val / 2) + r.val < 4096) (hj : 1408 * (t.val % 2) + j.val < 2816)
    (hn : ∀ k : Fin 1024, n (ix2 r k) = nrm m c ⟨512 * (t.val / 2) + r.val, h⟩ k) :
    k0_pay6 (F := Ideal) n (iblk m c 3 t) (ix2 r j) = gateB m c (ix2 ⟨512 * (t.val / 2) + r.val, h⟩ ⟨1408 * (t.val % 2) + j.val, hj⟩) := by
  refine (pay6_at _ _ r j).trans (Finset.sum_congr rfl fun k _ => ?_)
  rw [hn]
  exact congrArg (nrm m c ⟨512 * (t.val / 2) + r.val, h⟩ k * ·) (blk3 m c t j k hj)

theorem b_at (c : Dev nD) (t : Fin cfg0.N) (r : Fin 512) (j : Fin 1408) (h : 512 * (t.val / 2) + r.val < 4096) (hj : 1408 * (t.val % 2) + j.val < 2816) :
    (outsAt0 m c t.val t.isLt).2.2.1 (ix2 r j) = gateB m c (ix2 ⟨512 * (t.val / 2) + r.val, h⟩ ⟨1408 * (t.val % 2) + j.val, hj⟩) := by
  by_cases h1 : t.val % 2 = 0
  · rw [outsAt0_A m c t h1 (by omega)]
    dsimp only
    rw [first_b]
    exact b_blk m c t _ r j h hj fun k => nrm_blk m c t r k h
  · have hp : t.val - 1 < cfg0.N := Nat.lt_of_le_of_lt (Nat.sub_le _ _) t.isLt
    have h' : 512 * ((t.val - 1) / 2) + r.val < 4096 := by omega
    have er : (⟨512 * ((t.val - 1) / 2) + r.val, h'⟩ : Fin 4096) = ⟨512 * (t.val / 2) + r.val, h⟩ := Fin.ext (by dsimp only; rw [show (t.val - 1) / 2 = t.val / 2 by omega])
    have hn : ∀ k : Fin 1024, (outsAt0 m c (t.val - 1) hp).2.2.2.2.1 (ix2 r k) = nrm m c ⟨512 * (t.val / 2) + r.val, h⟩ k := fun k =>
      (kept_n m c ⟨t.val - 1, hp⟩ (by dsimp only; omega) r k h').trans (congrArg (nrm m c · k) er)
    by_cases h2 : t.val < 2
    · rw [outsAt0_B m c t (by omega) (by omega) h2 (by omega)]
      dsimp only
      rw [head_b]
      exact b_blk m c t _ r j h hj hn
    · rw [outsAt0_C m c t (by omega) (by omega) h2 (by omega)]
      dsimp only
      rw [next_b]
      exact b_blk m c t _ r j h hj hn

theorem last_only6 : ∀ t t' : Fin cfg0.N, (cfg0.win 6).flush t = true → (cfg0.win 6).flush t' = true → win0_6.index t = win0_6.index t' → t = t' := by decide +kernel
theorem last_only9 : ∀ t t' : Fin cfg0.N, (cfg0.win 9).flush t = true → (cfg0.win 9).flush t' = true → win0_9.index t = win0_9.index t' → t = t' := by decide +kernel
theorem flush6 : ∀ t : Fin cfg0.N, t.val % 2 = 1 → (cfg0.win 6).flush t = true := by decide +kernel
theorem flush7 : ∀ t : Fin cfg0.N, (cfg0.win 7).flush t = true := by decide +kernel
theorem flush8 : ∀ t : Fin cfg0.N, (cfg0.win 8).flush t = true := by decide +kernel
theorem flush9 : ∀ t : Fin cfg0.N, t.val = 15 → (cfg0.win 9).flush t = true := by decide +kernel

/-- Where a point writes its block, the array ends with it. -/
theorem tile6 (c : Dev nD) (t : Fin cfg0.N) (h1 : t.val % 2 = 1) (r : Fin 512) (l : Fin 1024) (h : 512 * (t.val / 2) + r.val < 4096) :
    (dats m 0 c).arrAt 6 cfg0.N (ix2 (⟨512 * (t.val / 2) + r.val, h⟩ : Fin 4096) l) = dx m c (ix2 ⟨512 * (t.val / 2) + r.val, h⟩ l) := by
  have disjoint : ∀ t t' : Fin cfg0.N, (cfg0.win 6).flush t = true → (cfg0.win 6).flush t' = true → t ≠ t' →
      Disjoint ((cfg0.win 6).blk t).view.set ((cfg0.win 6).blk t').view.set :=
    fun t t' hf hf' hne => (cfg0.win 6).disjoint_blk fun e => hne (last_only6 t t' hf hf' e)
  have hb := congrFun ((dats m 0 c).read_blk_arrAt_eq_flushed 6 disjoint cfg0.N t t.isLt (flush6 t h1)) (ix2 r l)
  rw [Value.flushed6] at hb
  have e := tile_at (w := 1024) (s := 512) (win0_6.index t) (places_o t).1 (places_o t).2.1 r.val l.val
  have el : ((cfg0.win 6).blk t).view.read (Elt Ideal) ((dats m 0 c).arrAt 6 cfg0.N) (ix2 r l)
      = (dats m 0 c).arrAt 6 cfg0.N (ix2 (⟨512 * (t.val / 2) + r.val, h⟩ : Fin 4096) l) := by
    show (dats m 0 c).arrAt 6 cfg0.N _ = (dats m 0 c).arrAt 6 cfg0.N _
    congr 1
    funext a
    apply Fin.ext
    match a with | ⟨0, _⟩ => exact e.1 | ⟨1, _⟩ => exact e.2.trans (Nat.zero_add _)
  exact el.symm.trans (hb.trans (dx_at m c t h1 r l h))

theorem tile7 (c : Dev nD) (t : Fin cfg0.N) (r : Fin 512) (j : Fin 1408) (h : 512 * (t.val / 2) + r.val < 4096) (hj : 1408 * (t.val % 2) + j.val < 2816) :
    (dats m 0 c).arrAt 7 cfg0.N (ix2 (⟨512 * (t.val / 2) + r.val, h⟩ : Fin 4096) (⟨1408 * (t.val % 2) + j.val, hj⟩ : Fin 2816)) = gateA m c (ix2 ⟨512 * (t.val / 2) + r.val, h⟩ ⟨1408 * (t.val % 2) + j.val, hj⟩) := by
  have hb := congrFun (Value.blocks7 m c t (flush7 t)) (ix2 r j)
  rw [Value.flushed7] at hb
  have e := tile_at (w := 1408) (s := 512) (win0_7.index t) (places_o t).2.2.1 (places_o t).2.2.2.1 r.val j.val
  have el : ((cfg0.win 7).blk t).view.read (Elt Ideal) ((dats m 0 c).arrAt 7 cfg0.N) (ix2 r j)
      = (dats m 0 c).arrAt 7 cfg0.N (ix2 (⟨512 * (t.val / 2) + r.val, h⟩ : Fin 4096) (⟨1408 * (t.val % 2) + j.val, hj⟩ : Fin 2816)) := by
    show (dats m 0 c).arrAt 7 cfg0.N _ = (dats m 0 c).arrAt 7 cfg0.N _
    congr 1
    funext a
    apply Fin.ext
    match a with | ⟨0, _⟩ => exact e.1 | ⟨1, _⟩ => exact e.2
  exact el.symm.trans (hb.trans (a_at m c t r j h hj))

theorem tile8 (c : Dev nD) (t : Fin cfg0.N) (r : Fin 512) (j : Fin 1408) (h : 512 * (t.val / 2) + r.val < 4096) (hj : 1408 * (t.val % 2) + j.val < 2816) :
    (dats m 0 c).arrAt 8 cfg0.N (ix2 (⟨512 * (t.val / 2) + r.val, h⟩ : Fin 4096) (⟨1408 * (t.val % 2) + j.val, hj⟩ : Fin 2816)) = gateB m c (ix2 ⟨512 * (t.val / 2) + r.val, h⟩ ⟨1408 * (t.val % 2) + j.val, hj⟩) := by
  have hb := congrFun (Value.blocks8 m c t (flush8 t)) (ix2 r j)
  rw [Value.flushed8] at hb
  have e := tile_at (w := 1408) (s := 512) (win0_8.index t) (places_o t).2.2.2.2.1 (places_o t).2.2.2.2.2.1 r.val j.val
  have el : ((cfg0.win 8).blk t).view.read (Elt Ideal) ((dats m 0 c).arrAt 8 cfg0.N) (ix2 r j)
      = (dats m 0 c).arrAt 8 cfg0.N (ix2 (⟨512 * (t.val / 2) + r.val, h⟩ : Fin 4096) (⟨1408 * (t.val % 2) + j.val, hj⟩ : Fin 2816)) := by
    show (dats m 0 c).arrAt 8 cfg0.N _ = (dats m 0 c).arrAt 8 cfg0.N _
    congr 1
    funext a
    apply Fin.ext
    match a with | ⟨0, _⟩ => exact e.1 | ⟨1, _⟩ => exact e.2
  exact el.symm.trans (hb.trans (b_at m c t r j h hj))

theorem tile9 (c : Dev nD) (l : Fin 1024) : (dats m 0 c).arrAt 9 cfg0.N (ix2 (0 : Fin 1) l) = loss m c (ix2 0 l) := by
  have disjoint : ∀ t t' : Fin cfg0.N, (cfg0.win 9).flush t = true → (cfg0.win 9).flush t' = true → t ≠ t' →
      Disjoint ((cfg0.win 9).blk t).view.set ((cfg0.win 9).blk t').view.set :=
    fun t t' hf hf' hne => (cfg0.win 9).disjoint_blk fun e => hne (last_only9 t t' hf hf' e)
  have h15 : 15 < cfg0.N := by have := N16; omega
  have hb := congrFun ((dats m 0 c).read_blk_arrAt_eq_flushed 9 disjoint cfg0.N ⟨15, h15⟩ h15 (flush9 ⟨15, h15⟩ rfl)) (ix2 0 l)
  rw [Value.flushed9] at hb
  have e := tile_at (w := 1024) (s := 1) (win0_9.index ⟨15, h15⟩) (places_o ⟨15, h15⟩).2.2.2.2.2.2.1 (places_o ⟨15, h15⟩).2.2.2.2.2.2.2 0 l.val
  have el : ((cfg0.win 9).blk ⟨15, h15⟩).view.read (Elt Ideal) ((dats m 0 c).arrAt 9 cfg0.N) (ix2 0 l) = (dats m 0 c).arrAt 9 cfg0.N (ix2 (0 : Fin 1) l) := by
    show (dats m 0 c).arrAt 9 cfg0.N _ = (dats m 0 c).arrAt 9 cfg0.N _
    congr 1
    funext a
    apply Fin.ext
    match a with | ⟨0, _⟩ => exact e.1 | ⟨1, _⟩ => exact e.2.trans (Nat.zero_add _)
  exact el.symm.trans (hb.trans ((loss_at m c l 7 (by have := N16; omega)).trans (sum_all m c l)))

theorem result_dx (c : Dev nD) : (dats m 0 c).arrAt 6 cfg0.N = dx m c := by
  refine funext fun (i : S4096x1024.Idx) => ?_
  have h0 : (i 0).val < 4096 := (i 0).isLt
  have hN := N16
  have e := tile6 m c ⟨2 * ((i 0).val / 512) + 1, by omega⟩ (by dsimp only; omega) ⟨(i 0).val % 512, Nat.mod_lt _ (by decide)⟩ (i 1) (by dsimp only; omega)
  have ei : i = ix2 (⟨512 * ((2 * ((i 0).val / 512) + 1) / 2) + (i 0).val % 512, by omega⟩ : Fin 4096) (i 1) := by
    funext a
    match a with
    | ⟨0, _⟩ => exact Fin.ext (show (i 0).val = 512 * ((2 * ((i 0).val / 512) + 1) / 2) + (i 0).val % 512 by omega)
    | ⟨1, _⟩ => rfl
  rw [ei]
  exact e

theorem index_gate (i : S4096x2816.Idx) (T : ℕ) (hT : T = 2 * ((i 0).val / 512) + (i 1).val / 1408) (h : 512 * (T / 2) + (i 0).val % 512 < 4096) (hj : 1408 * (T % 2) + (i 1).val % 1408 < 2816) :
    i = ix2 (⟨512 * (T / 2) + (i 0).val % 512, h⟩ : Fin 4096) (⟨1408 * (T % 2) + (i 1).val % 1408, hj⟩ : Fin 2816) := by
  have h1 : (i 1).val < 2816 := (i 1).isLt
  funext a
  match a with
  | ⟨0, _⟩ => exact Fin.ext (show (i 0).val = 512 * (T / 2) + (i 0).val % 512 by omega)
  | ⟨1, _⟩ => exact Fin.ext (show (i 1).val = 1408 * (T % 2) + (i 1).val % 1408 by omega)

theorem result_a (c : Dev nD) : (dats m 0 c).arrAt 7 cfg0.N = gateA m c := by
  refine funext fun (i : S4096x2816.Idx) => ?_
  have h0 : (i 0).val < 4096 := (i 0).isLt
  have h1 : (i 1).val < 2816 := (i 1).isLt
  have hN := N16
  have hh : 512 * ((2 * ((i 0).val / 512) + (i 1).val / 1408) / 2) + (i 0).val % 512 < 4096 := by omega
  have hj : 1408 * ((2 * ((i 0).val / 512) + (i 1).val / 1408) % 2) + (i 1).val % 1408 < 2816 := by omega
  have e := tile7 m c ⟨2 * ((i 0).val / 512) + (i 1).val / 1408, by omega⟩ ⟨(i 0).val % 512, Nat.mod_lt _ (by decide)⟩ ⟨(i 1).val % 1408, Nat.mod_lt _ (by decide)⟩ hh hj
  rw [index_gate i _ rfl hh hj]
  exact e

theorem result_b (c : Dev nD) : (dats m 0 c).arrAt 8 cfg0.N = gateB m c := by
  refine funext fun (i : S4096x2816.Idx) => ?_
  have h0 : (i 0).val < 4096 := (i 0).isLt
  have h1 : (i 1).val < 2816 := (i 1).isLt
  have hN := N16
  have hh : 512 * ((2 * ((i 0).val / 512) + (i 1).val / 1408) / 2) + (i 0).val % 512 < 4096 := by omega
  have hj : 1408 * ((2 * ((i 0).val / 512) + (i 1).val / 1408) % 2) + (i 1).val % 1408 < 2816 := by omega
  have e := tile8 m c ⟨2 * ((i 0).val / 512) + (i 1).val / 1408, by omega⟩ ⟨(i 0).val % 512, Nat.mod_lt _ (by decide)⟩ ⟨(i 1).val % 1408, Nat.mod_lt _ (by decide)⟩ hh hj
  rw [index_gate i _ rfl hh hj]
  exact e

theorem result_loss (c : Dev nD) : (dats m 0 c).arrAt 9 cfg0.N = loss m c := by
  refine funext fun (i : S1x1024.Idx) => ?_
  have ei : i = ix2 (0 : Fin 1) (i 1) := by
    funext a
    match a with
    | ⟨0, _⟩ => exact Fin.ext (Nat.lt_one_iff.mp (i 0).isLt)
    | ⟨1, _⟩ => rfl
  rw [ei]
  exact tile9 m c (i 1)

/-- The kernel's run: the loss's gradient, the two gates and the squares' sums in its results. -/
theorem run_value (ρ : Dev nD → PrngReg) : θ_run (defs (F := Ideal)) (onTc (τ := τ) (main (F := Ideal))) ⟨m, fun _ => 0, ρ⟩ fun r => ∀ c : Dev nD,
    r.2.mem (c.tc.loc main_v5_0) = dx m c
      ∧ r.2.mem (c.tc.loc main_v5_1) = gateA m c
      ∧ r.2.mem (c.tc.loc main_v5_2) = gateB m c
      ∧ r.2.mem (c.tc.loc main_v5_3) = loss m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5) :=
  (θ_run defs _ _).mono (fun r h c => ⟨(h c).1.trans (result_dx m c), (h c).2.1.trans (result_a m c), (h c).2.2.1.trans (result_b m c), (h c).2.2.2.1.trans (result_loss m c), (h c).2.2.2.2⟩) (Value.run_blocks m ρ)

/-! ## The reference -/

open Reference4Ideal.Read

theorem ref_normed (c : Dev nD) (r : Fin 4096) (k : Fin 1024) :
    val_main_v11 (F := Ideal) (aX m c) (aG m c) (ix2 r k) = nrm m c r k := by
  rw [val_main_v11_apply, val_main_v9_apply, val_main_v10_apply, val_main_v8_apply, val_main_v7_apply, val_main_v6_apply, val_main_v4_apply, val_main_v2_apply, val_main_v1_apply,
    val_main_v3_apply, val_main_v5_apply, val_main_cst_apply, val_main_cst_0_apply, val_main_cst_1_apply]
  unfold nrm normed
  show aX m c (ix2 r k) * Ideal.rsqrt (Ideal.div (Ideal.ofBits .f32 0x00000000#32 + _) _ + _) * aG m c _ = _
  rw [Ideal.ofBits_zero_f32, zero_add]
  refine congrArg₂ (· * ·) (congrArg (aX m c (ix2 r k) * ·) (congrArg Ideal.rsqrt (congrArg (· + _) (congrArg (Ideal.div · _) (Finset.sum_congr rfl fun d _ => ?_))))) ?_
  · rw [val_main_v0_apply]
    have e : idx_main_v1 (idx_main_v2 (idx_main_v8 (ix2 r k))) d = ix2 r d := funext fun a => match a with | ⟨0, _⟩ => rfl | ⟨1, _⟩ => rfl
    rw [e]
    rfl
  · exact congrArg (aG m c) (funext fun a => match a with | ⟨0, _⟩ => rfl | ⟨1, _⟩ => rfl)

theorem ref_a12 (c : Dev nD) (r : Fin 4096) (j : Fin 2816) :
    val_main_v12 (F := Ideal) (aX m c) (aG m c) (aWg m c) (ix2 r j) = gateA m c (ix2 r j) := by
  rw [val_main_v12_apply]
  refine Finset.sum_congr rfl fun k _ => congrArg₂ (· * ·) ?_ (congrArg (aWg m c) (funext fun a => match a with | ⟨0, _⟩ => rfl | ⟨1, _⟩ => rfl))
  rw [show lidx_main_v12 (ix2 r j) k = ix2 r k from funext fun a => match a with | ⟨0, _⟩ => rfl | ⟨1, _⟩ => rfl]
  exact ref_normed m c r k

theorem ref_b14 (c : Dev nD) (r : Fin 4096) (j : Fin 2816) :
    val_main_v14 (F := Ideal) (aX m c) (aG m c) (aWu m c) (ix2 r j) = gateB m c (ix2 r j) := by
  rw [val_main_v14_apply]
  refine Finset.sum_congr rfl fun k _ => congrArg₂ (· * ·) ?_ (congrArg (aWu m c) (funext fun a => match a with | ⟨0, _⟩ => rfl | ⟨1, _⟩ => rfl))
  rw [show lidx_main_v14 (ix2 r j) k = ix2 r k from funext fun a => match a with | ⟨0, _⟩ => rfl | ⟨1, _⟩ => rfl]
  exact ref_normed m c r k

theorem ref_a35 (c : Dev nD) (r : Fin 4096) (j : Fin 2816) :
    val_main_v35 (F := Ideal) (aX m c) (aG m c) (aWg m c) (ix2 r j) = gateA m c (ix2 r j) := by
  rw [val_main_v35_apply]
  refine Finset.sum_congr rfl fun k _ => congrArg₂ (· * ·) ?_ (congrArg (aWg m c) (funext fun a => match a with | ⟨0, _⟩ => rfl | ⟨1, _⟩ => rfl))
  rw [show lidx_main_v35 (ix2 r j) k = ix2 r k from funext fun a => match a with | ⟨0, _⟩ => rfl | ⟨1, _⟩ => rfl]
  exact ref_normed m c r k

theorem ref_b37 (c : Dev nD) (r : Fin 4096) (j : Fin 2816) :
    val_main_v37 (F := Ideal) (aX m c) (aG m c) (aWu m c) (ix2 r j) = gateB m c (ix2 r j) := by
  rw [val_main_v37_apply]
  refine Finset.sum_congr rfl fun k _ => congrArg₂ (· * ·) ?_ (congrArg (aWu m c) (funext fun a => match a with | ⟨0, _⟩ => rfl | ⟨1, _⟩ => rfl))
  rw [show lidx_main_v37 (ix2 r j) k = ix2 r k from funext fun a => match a with | ⟨0, _⟩ => rfl | ⟨1, _⟩ => rfl]
  exact ref_normed m c r k

theorem ref_gated (c : Dev nD) (r : Fin 4096) (j : Fin 2816) :
    val_main_v15 (F := Ideal) (aX m c) (aG m c) (aWg m c) (aWu m c) (ix2 r j) = gated (gateA m c (ix2 r j)) (gateB m c (ix2 r j)) := by
  rw [val_main_v15_apply, val_main_v13_apply, val_main_call0_v5_apply, val_main_call0_v4_apply, val_main_call0_cst_0_apply, val_main_call0_v3_apply, val_main_call0_v2_apply, val_main_call0_cst_apply,
    val_main_call0_v1_apply, val_main_call0_v0_apply, ref_a12, ref_b14]
  show gateA m c (ix2 r j) * Ideal.div (Ideal.ofBits .f32 0x3F800000#32) (Ideal.ofBits .f32 0x3F800000#32 + Ideal.exp (-(gateA m c (ix2 r j)))) * gateB m c (ix2 r j) = _
  rw [Ideal.ofBits_one_f32]
  rfl

theorem ref_down (c : Dev nD) (r : Fin 4096) (l : Fin 1024) :
    val_main_v16 (F := Ideal) (aX m c) (aG m c) (aWg m c) (aWu m c) (aWd m c) (ix2 r l) = down m c r l := by
  rw [val_main_v16_apply]
  refine Finset.sum_congr rfl fun j _ => congrArg₂ (· * ·) ?_ (congrArg (aWd m c) (funext fun a => match a with | ⟨0, _⟩ => rfl | ⟨1, _⟩ => rfl))
  rw [show lidx_main_v16 (ix2 r l) j = ix2 r j from funext fun a => match a with | ⟨0, _⟩ => rfl | ⟨1, _⟩ => rfl]
  exact ref_gated m c r j

theorem ref_left (c : Dev nD) (r : Fin 4096) (l : Fin 1024) :
    val_main_v20 (F := Ideal) (aX m c) (aG m c) (aWg m c) (aWu m c) (aWd m c) (aT m c) (ix2 r l) = left m c r l := by
  rw [val_main_v20_apply, val_main_v19_apply, val_main_v18_apply, val_main_v17_apply, val_main_cst_2_apply, ref_down]
  rfl

theorem half_const : Ideal.ofBits .f32 0x3F000000#32 = (((1 : ℝ) / 2 : ℝ) : EReal) := by
  simp [Ideal.ofBits, Ideal.ieee, -EReal.coe_mul]; norm_num
theorem two_const : Ideal.ofBits .f32 0x40000000#32 = ((2 : ℝ) : EReal) := by
  simp [Ideal.ofBits, Ideal.ieee, -EReal.coe_mul]; norm_num
theorem width_const : Ideal.ofBits .f32 0x44800000#32 = ((1024 : ℝ) : EReal) := by
  simp [Ideal.ofBits, Ideal.ieee, -EReal.coe_mul]; norm_num
theorem share_const : Ideal.ofBits .f32 0x3A800000#32 = (((1 : ℝ) / 1024 : ℝ) : EReal) := by
  simp [Ideal.ofBits, Ideal.ieee, -EReal.coe_mul]; norm_num

/-- Half of one over the width, times twice what is left, is what is left over the width. -/
theorem scale (e : EReal) : Ideal.div (Ideal.ofBits .f32 0x3F000000#32 * Ideal.ofBits .f32 0x3F800000#32) (Ideal.ofBits .f32 0x44800000#32) * (Ideal.ofBits .f32 0x40000000#32 * e)
    = e * Ideal.ofBits .f32 0x3A800000#32 := by
  rw [half_const, two_const, width_const, share_const, Ideal.ofBits_one_f32, mul_one, Ideal.div_coe (by norm_num), ← mul_assoc, ← EReal.coe_mul, ← EReal.coe_mul, mul_comm]
  congr 2
  norm_num

theorem ref_dx (c : Dev nD) (r : Fin 4096) (l : Fin 1024) :
    val_main_v34 (F := Ideal) (aX m c) (aG m c) (aWg m c) (aWu m c) (aWd m c) (aT m c) (ix2 r l) = dx m c (ix2 r l) := by
  rw [val_main_v34_apply, val_main_v33_apply, val_main_v32_apply, val_main_v31_apply, val_main_cst_10_apply, val_main_v30_apply, val_main_v29_apply, val_main_cst_8_apply, val_main_cst_9_apply,
    val_main_v23_apply, val_main_v22_apply, val_main_cst_3_apply, ref_left]
  exact scale (left m c r l)

theorem ref_square (c : Dev nD) (r : Fin 4096) (l : Fin 1024) :
    val_main_v40 (F := Ideal) (aX m c) (aG m c) (aWg m c) (aWu m c) (aWd m c) (aT m c) (ix2 r l) = left m c r l * left m c r l := by
  have e : val_main_v39 (F := Ideal) (aX m c) (aG m c) (aWg m c) (aWu m c) (aWd m c) (aT m c) (ix2 r l) = left m c r l := by
    rw [val_main_v39_apply, val_main_v19_apply, val_main_v18_apply, val_main_v17_apply, val_main_cst_2_apply, ref_down]
    rfl
  rw [val_main_v40_apply, e]
  rfl

theorem ref_loss (c : Dev nD) (l : Fin 1024) :
    val_main_v42 (F := Ideal) (aX m c) (aG m c) (aWg m c) (aWu m c) (aWd m c) (aT m c) (ix2 0 l) = loss m c (ix2 0 l) := by
  rw [val_main_v42_apply, val_main_v41_apply, val_main_cst_11_apply]
  show Ideal.ofBits .f32 0x00000000#32 + _ = _
  rw [Ideal.ofBits_zero_f32, zero_add]
  refine Finset.sum_congr rfl fun r _ => ?_
  rw [show idx_main_v41 (idx_main_v42 (ix2 0 l)) r = ix2 r l from funext fun a => match a with | ⟨0, _⟩ => rfl | ⟨1, _⟩ => rfl]
  exact ref_square m c r l

/-- The reference's run from the same arguments. -/
theorem run_reference (m' : (ℓ : Loc Reference4Ideal.nD Reference4Ideal.τ Reference4Ideal.sig) → Buf (Elt Ideal) ℓ) (ρ : Dev Reference4Ideal.nD → PrngReg)
    (hm : ∀ c : Dev Reference4Ideal.nD,
      m' (c.tc.loc Reference4Ideal.main_arg0) = m (c.tc.loc main_arg0)
      ∧ m' (c.tc.loc Reference4Ideal.main_arg1) = m (c.tc.loc main_arg1)
      ∧ m' (c.tc.loc Reference4Ideal.main_arg2) = m (c.tc.loc main_arg2)
      ∧ m' (c.tc.loc Reference4Ideal.main_arg3) = m (c.tc.loc main_arg3)
      ∧ m' (c.tc.loc Reference4Ideal.main_arg4) = m (c.tc.loc main_arg4)
      ∧ m' (c.tc.loc Reference4Ideal.main_arg5) = m (c.tc.loc main_arg5)) :
    θ_run (Reference4Ideal.defs (F := Ideal)) (onTc (τ := Reference4Ideal.τ) (Reference4Ideal.main (F := Ideal))) ⟨m', fun _ => 0, ρ⟩
      fun r => ∀ c : Dev Reference4Ideal.nD,
        r.2.mem (c.tc.loc Reference4Ideal.main_v34) = dx m c
          ∧ r.2.mem (c.tc.loc Reference4Ideal.main_v36) = gateA m c
          ∧ r.2.mem (c.tc.loc Reference4Ideal.main_v38) = gateB m c
          ∧ r.2.mem (c.tc.loc Reference4Ideal.main_v42) = loss m c
          ∧ r.2.mem (c.tc.loc Reference4Ideal.main_arg0) = m' (c.tc.loc Reference4Ideal.main_arg0)
          ∧ r.2.mem (c.tc.loc Reference4Ideal.main_arg1) = m' (c.tc.loc Reference4Ideal.main_arg1)
          ∧ r.2.mem (c.tc.loc Reference4Ideal.main_arg2) = m' (c.tc.loc Reference4Ideal.main_arg2)
          ∧ r.2.mem (c.tc.loc Reference4Ideal.main_arg3) = m' (c.tc.loc Reference4Ideal.main_arg3)
          ∧ r.2.mem (c.tc.loc Reference4Ideal.main_arg4) = m' (c.tc.loc Reference4Ideal.main_arg4)
          ∧ r.2.mem (c.tc.loc Reference4Ideal.main_arg5) = m' (c.tc.loc Reference4Ideal.main_arg5) := by
  refine (θ_run Reference4Ideal.defs _ _).mono (fun r h c => ⟨(h c).1.trans (?_ : _ = dx m c), (h c).2.1.trans (?_ : _ = gateA m c), (h c).2.2.1.trans (?_ : _ = gateB m c), (h c).2.2.2.1.trans (?_ : _ = loss m c), (h c).2.2.2.2⟩)
    (Reference4Ideal.Value.run m' ρ)
  all_goals obtain ⟨e0, e1, e2, e3, e4, e5⟩ := hm c
  · refine (val_main_v34_eq _ _ _ _ _ _).trans ?_
    rw [e0, e1, e2, e3, e4, e5]
    refine funext fun (i : S4096x1024.Idx) => ?_
    rw [eq_ix2 i]
    exact ref_dx m c (i 0) (i 1)
  · refine (val_main_v36_eq _ _ _).trans ?_
    rw [e0, e1, e2]
    refine funext fun (i : S4096x2816.Idx) => ?_
    rw [eq_ix2 i, val_main_v36_apply]
    exact ref_a35 m c (i 0) (i 1)
  · refine (val_main_v38_eq _ _ _).trans ?_
    rw [e0, e1, e3]
    refine funext fun (i : S4096x2816.Idx) => ?_
    rw [eq_ix2 i, val_main_v38_apply]
    exact ref_b37 m c (i 0) (i 1)
  · refine (val_main_v42_eq m' c).trans ?_
    rw [e0, e1, e2, e3, e4, e5]
    refine funext fun (i : S1x1024.Idx) => ?_
    rw [show i = ix2 (0 : Fin 1) (i 1) from funext fun a => match a with | ⟨0, _⟩ => Fin.ext (Nat.lt_one_iff.mp (i 0).isLt) | ⟨1, _⟩ => rfl]
    exact ref_loss m c (i 1)

end Cert.Kernel4Ideal.Loss
end
-- ==== Proof.Project.lean ====
module

public import proofs.«01_k».proof.Proof.Gen.Kernel6Ideal.Value
public import proofs.«01_k».proof.Proof.Gen.Reference6Ideal.Run
public import proofs.«01_k».proof.Proof.Gen.Reference6Ideal.Read
public import proofs.«01_k».proof.Proof.Tokens
public import Idealize.ShloMosaic.Lib.Pointwise
public import Idealize.ShloMosaic.Lib.Pipeline.Value
public import Idealize.ShloMosaic.Lib.Tactic
public import Idealize.ShloMosaic.Lib.IdealHost
public import Idealize.ShloMosaic.PureOps.Ideal
public import Idealize.ShloMosaic.PureOps.Ideal.Laws

/-!
The input projection: the rows normalised by their root mean square and multiplied by the columns of the projection's weights.
-/

@[expose] public section

noncomputable section

namespace Cert.Kernel6Ideal.Project

open Kernel6Ideal Kernel6Ideal.Gen
open Tokens (zero2)
open Idealize.ShloMosaic Idealize.ShloMosaic.TcCoe Idealize.ShloMosaic.Tactic Idealize.SL.Sem

/-- A row of `x` over its root mean square, times the gain, at one place. -/
def normed {n : ℕ} (x : (⟨2, ![n, 1024]⟩ : Shape).Idx → EReal) (g : S1x1024.Idx → EReal) (r : Fin n) (k : Fin 1024) : EReal :=
  x (ix2 r k) * Ideal.rsqrt (Ideal.div (∑ d : Fin 1024, x (ix2 r d) * x (ix2 r d)) (Ideal.ofBits .f32 0x44800000#32) + Ideal.ofBits .f32 0x358637BD#32) * g (ix2 0 k)

theorem pay1_at (x : Vec Ideal S512x1024 .f32) (g : Vec Ideal S1x1024 .f32) (r : Fin 512) (k : Fin 1024) :
    k0_pay1 (F := Ideal) x g (ix2 r k) = normed x g r k := by
  unfold normed
  pointwise [k0_pay1]

theorem pay2_at (x : Vec Ideal S512x1024 .f32) (g : Vec Ideal S1x1024 .f32) (w : Vec Ideal S2048x1024 .bf16) (r : Fin 512) (l : Fin 2048) :
    k0_pay2 (F := Ideal) x g w (ix2 r l) = ∑ k : Fin 1024, normed x g r k * w (ix2 l k) := by
  simp only [← pay1_at]
  unfold k0_pay2
  generalize k0_pay1 (F := Ideal) x g = z
  pointwise []

theorem pay3_at (x : Vec Ideal S512x1024 .f32) (g : Vec Ideal S1x1024 .f32) (w : Vec Ideal S1536x1024 .bf16) (r : Fin 512) (l : Fin 1536) :
    k0_pay3 (F := Ideal) x g w (ix2 r l) = ∑ k : Fin 1024, normed x g r k * w (ix2 l k) := by
  simp only [← pay1_at]
  unfold k0_pay3
  generalize k0_pay1 (F := Ideal) x g = z
  pointwise []

theorem pay4_at (x : Vec Ideal S512x1024 .f32) (g : Vec Ideal S1x1024 .f32) (w : Vec Ideal S512x1024 .bf16) (r : Fin 512) (l : Fin 512) :
    k0_pay4 (F := Ideal) x g w (ix2 r l) = ∑ k : Fin 1024, normed x g r k * w (ix2 l k) := by
  simp only [← pay1_at]
  unfold k0_pay4
  generalize k0_pay1 (F := Ideal) x g = z
  pointwise []

variable (m : (ℓ : Loc nD τ sig) → Buf (Elt Ideal) ℓ)

def aX (c : Dev nD) : S4096x1024.Idx → EReal := m (c.tc.loc main_arg0)
def aG (c : Dev nD) : S1x1024.Idx → EReal := m (c.tc.loc main_arg1)
def aW (c : Dev nD) : S1024x3944.Idx → EReal := m (c.tc.loc main_arg2)

/-- The projection: the normalised row times a column of the weights. -/
def proj (c : Dev nD) (r : Fin 4096) (j : Fin 3944) : EReal := ∑ k : Fin 1024, normed (aX m c) (aG m c) r k * aW m c (ix2 k j)

/-- The lanes of the third result: 192 lanes of queries, 128 of keys and values, 32 of rotated keys and 8 of forgetting gates, zeros between. -/
def lanes (f : Fin 3944 → EReal) (j : Fin 512) : EReal :=
  if h : j.val < 192 then f ⟨j.val, by omega⟩
  else if j.val < 256 then 0
  else if h : j.val < 384 then f ⟨192 + (j.val - 256), by omega⟩
  else if h : j.val < 416 then f ⟨320 + (j.val - 384), by omega⟩
  else if h : j.val < 424 then f ⟨1888 + (j.val - 416), by omega⟩
  else 0

/-- The gates' columns of the projection. -/
def gates (c : Dev nD) (i : S4096x2048.Idx) : EReal := proj m c (i 0) ⟨1896 + (i 1).val, by have h : (i 1).val < 2048 := (i 1).isLt; omega⟩
/-- The columns of the forgetting attention's queries, keys and values. -/
def fox (c : Dev nD) (i : S4096x1536.Idx) : EReal := proj m c (i 0) ⟨352 + (i 1).val, by have h : (i 1).val < 1536 := (i 1).isLt; omega⟩
/-- The latent columns, in their lanes. -/
def lat (c : Dev nD) (i : S4096x512.Idx) : EReal := lanes (proj m c (i 0)) (i 1)

theorem V_v9 (c : Dev nD) (i : S2048x1024.Idx) : V m c main_v9 i = aW m c (ix2 (i 1) ⟨1896 + (i 0).val, by have h : (i 0).val < 2048 := (i 0).isLt; omega⟩) := by
  show StableHlo.after hostOps0 (fun b => m (c, b)) (Proc.devRef .tc main_v9) i = _
  after_results
  rw [eq_ix2 i]
  pointwise []
  rfl

theorem V_v10 (c : Dev nD) (i : S1536x1024.Idx) : V m c main_v10 i = aW m c (ix2 (i 1) ⟨352 + (i 0).val, by have h : (i 0).val < 1536 := (i 0).isLt; omega⟩) := by
  show StableHlo.after hostOps0 (fun b => m (c, b)) (Proc.devRef .tc main_v10) i = _
  after_results
  rw [eq_ix2 i]
  pointwise []
  rfl

theorem V_v8 (c : Dev nD) (r : Fin 512) (k : Fin 1024) : V m c main_v8 (ix2 r k) = lanes (fun j => aW m c (ix2 k j)) r := by
  show StableHlo.after hostOps0 (fun b => m (c, b)) (Proc.devRef .tc main_v8) (ix2 r k) = _
  after_results_simp
  dsimp only [Matrix.cons_val]
  after_results_simp
  pointwise []
  unfold lanes
  have ec : ∀ {a b : Fin 3944}, a.val = b.val → m (c, Proc.tc.devRef main_arg2) (ix2 k a) = aW m c (ix2 k b) := fun h => congrArg (fun z => aW m c (ix2 k z)) (Fin.ext h)
  repeat' split
  all_goals first | rfl | (exfalso; omega) | (refine ec ?_; dsimp only; omega)

/-- The windows' blocks: the tokens' tile by tile, the weights whole. -/
theorem places : ∀ t : Fin grid0.N, win0_0.index t (0 : Fin 2) = t.val ∧ win0_0.index t (1 : Fin 2) = 0 ∧ win0_5.index t (0 : Fin 2) = t.val ∧ win0_5.index t (1 : Fin 2) = 0
    ∧ win0_6.index t (0 : Fin 2) = t.val ∧ win0_6.index t (1 : Fin 2) = 0 ∧ win0_7.index t (0 : Fin 2) = t.val ∧ win0_7.index t (1 : Fin 2) = 0 := by decide +kernel
theorem places_whole : ∀ t : Fin grid0.N, win0_1.index t (0 : Fin 2) = 0 ∧ win0_1.index t (1 : Fin 2) = 0 ∧ win0_2.index t (0 : Fin 2) = 0 ∧ win0_2.index t (1 : Fin 2) = 0
    ∧ win0_3.index t (0 : Fin 2) = 0 ∧ win0_3.index t (1 : Fin 2) = 0 ∧ win0_4.index t (0 : Fin 2) = 0 ∧ win0_4.index t (1 : Fin 2) = 0 := by decide +kernel

/-- Where a tile's index lies in the array. -/
theorem tile_at {n w s : ℕ} (j : Fin 2 → ℕ) (hj : j 0 = n) (hj1 : j 1 = 0) (r l : ℕ) :
    j 0 * s + 1 * r = s * n + r ∧ j 1 * w + 1 * l = l := by
  rw [hj, hj1]
  constructor
  · rw [Nat.mul_comm]; omega
  · omega

theorem blk0 (c : Dev nD) (t : Fin grid0.N) (r : Fin 512) (l : Fin 1024) (h : 512 * t.val + r.val < 4096) :
    iblk m c 0 t (ix2 r l) = aX m c (ix2 ⟨512 * t.val + r.val, h⟩ l) := by
  show V m c main_arg0 _ = _
  rw [V_main_arg0]
  show aX m c _ = _
  have e := tile_at (w := 1024) (s := 512) (win0_0.index t) (places t).1 (places t).2.1 r.val l.val
  congr 1
  funext a
  apply Fin.ext
  match a with | ⟨0, _⟩ => exact e.1 | ⟨1, _⟩ => exact e.2

theorem blk1 (c : Dev nD) (t : Fin grid0.N) (r : Fin 1) (l : Fin 1024) : iblk m c 1 t (ix2 r l) = aG m c (ix2 r l) := by
  show V m c main_arg1 _ = _
  rw [V_main_arg1]
  show aG m c _ = _
  have e := tile_at (w := 1024) (s := 1) (win0_1.index t) (places_whole t).1 (places_whole t).2.1 r.val l.val
  congr 1
  funext a
  apply Fin.ext
  match a with | ⟨0, _⟩ => exact e.1.trans (Nat.zero_add _) | ⟨1, _⟩ => exact e.2

theorem blk2 (c : Dev nD) (t : Fin grid0.N) (l : Fin 2048) (k : Fin 1024) : iblk m c 2 t (ix2 l k) = aW m c (ix2 k ⟨1896 + l.val, by omega⟩) := by
  show V m c main_v9 _ = _
  rw [V_v9]
  have e := tile_at (w := 1024) (s := 2048) (win0_2.index t) (places_whole t).2.2.1 (places_whole t).2.2.2.1 l.val k.val
  congr 1
  funext a
  apply Fin.ext
  match a with | ⟨0, _⟩ => exact e.2 | ⟨1, _⟩ => exact congrArg (1896 + ·) (e.1.trans (Nat.zero_add _))

theorem blk3 (c : Dev nD) (t : Fin grid0.N) (l : Fin 1536) (k : Fin 1024) : iblk m c 3 t (ix2 l k) = aW m c (ix2 k ⟨352 + l.val, by omega⟩) := by
  show V m c main_v10 _ = _
  rw [V_v10]
  have e := tile_at (w := 1024) (s := 1536) (win0_3.index t) (places_whole t).2.2.2.2.1 (places_whole t).2.2.2.2.2.1 l.val k.val
  congr 1
  funext a
  apply Fin.ext
  match a with | ⟨0, _⟩ => exact e.2 | ⟨1, _⟩ => exact congrArg (352 + ·) (e.1.trans (Nat.zero_add _))

theorem blk4 (c : Dev nD) (t : Fin grid0.N) (l : Fin 512) (k : Fin 1024) : iblk m c 4 t (ix2 l k) = lanes (fun j => aW m c (ix2 k j)) l := by
  have e := tile_at (w := 1024) (s := 512) (win0_4.index t) (places_whole t).2.2.2.2.2.2.1 (places_whole t).2.2.2.2.2.2.2 l.val k.val
  have ej : iblk m c 4 t (ix2 l k) = V m c main_v8 (ix2 l k) := by
    show V m c main_v8 _ = _
    congr 1
    funext a
    apply Fin.ext
    match a with | ⟨0, _⟩ => exact e.1.trans (Nat.zero_add _) | ⟨1, _⟩ => exact e.2
  exact ej.trans (V_v8 m c l k)

/-- A product with the lanes' columns has the columns' products in the lanes. -/
theorem sum_lanes (n : Fin 1024 → EReal) (w : Fin 1024 → Fin 3944 → EReal) (l : Fin 512) :
    ∑ k : Fin 1024, n k * lanes (w k) l = lanes (fun j => ∑ k : Fin 1024, n k * w k j) l := by
  unfold lanes
  split_ifs
  · rfl
  · simp
  · rfl
  · rfl
  · rfl
  · simp

theorem normed_blk (c : Dev nD) (t : Fin grid0.N) (r : Fin 512) (k : Fin 1024) (h : 512 * t.val + r.val < 4096) :
    normed (n := 512) (iblk m c 0 t) (iblk m c 1 t) r k = normed (aX m c) (aG m c) ⟨512 * t.val + r.val, h⟩ k := by
  unfold normed
  have e : ∀ d : Fin 1024, (iblk m c 0 t : S512x1024.Idx → EReal) (ix2 r d) = aX m c (ix2 ⟨512 * t.val + r.val, h⟩ d) := fun d => blk0 m c t r d h
  have e1 : (iblk m c 1 t : S1x1024.Idx → EReal) (ix2 0 k) = aG m c (ix2 0 k) := blk1 m c t 0 k
  simp only [e, e1]

theorem out5_at (x0 : Vec Ideal S512x1024 .f32) (x1 : Vec Ideal S1x1024 .f32) (x2 : Vec Ideal S2048x1024 .bf16) (x3 : Vec Ideal S1536x1024 .bf16) (x4 : Vec Ideal S512x1024 .bf16)
    (r : Fin 512) (l : Fin 2048) : out0_5 (F := Ideal) x0 x1 x2 x3 x4 (ix2 r l) = ∑ k : Fin 1024, normed x0 x1 r k * x2 (ix2 l k) := by
  unfold out0_5
  rw [View.canon_unit_zero zero2, pay2_at, View.ld_unit_zero (S := S512x1024) zero2, View.ld_unit_zero (S := S1x1024) zero2, View.ld_unit_zero (S := S2048x1024) zero2]

theorem out6_at (x0 : Vec Ideal S512x1024 .f32) (x1 : Vec Ideal S1x1024 .f32) (x2 : Vec Ideal S2048x1024 .bf16) (x3 : Vec Ideal S1536x1024 .bf16) (x4 : Vec Ideal S512x1024 .bf16)
    (r : Fin 512) (l : Fin 1536) : out0_6 (F := Ideal) x0 x1 x2 x3 x4 (ix2 r l) = ∑ k : Fin 1024, normed x0 x1 r k * x3 (ix2 l k) := by
  unfold out0_6
  rw [View.canon_unit_zero zero2, pay3_at, View.ld_unit_zero (S := S512x1024) zero2, View.ld_unit_zero (S := S1x1024) zero2, View.ld_unit_zero (S := S1536x1024) zero2]

theorem out7_at (x0 : Vec Ideal S512x1024 .f32) (x1 : Vec Ideal S1x1024 .f32) (x2 : Vec Ideal S2048x1024 .bf16) (x3 : Vec Ideal S1536x1024 .bf16) (x4 : Vec Ideal S512x1024 .bf16)
    (r : Fin 512) (l : Fin 512) : out0_7 (F := Ideal) x0 x1 x2 x3 x4 (ix2 r l) = ∑ k : Fin 1024, normed x0 x1 r k * x4 (ix2 l k) := by
  unfold out0_7
  rw [View.canon_unit_zero zero2, pay4_at, View.ld_unit_zero (S := S512x1024) zero2, View.ld_unit_zero (S := S1x1024) zero2, View.ld_unit_zero (S := S512x1024) zero2]

theorem flush_gates : ∀ t : Fin grid0.N, (cfg0.win 5).flush t = true := by decide +kernel

/-- One tile of the result array after the run. -/
theorem gates_tile (c : Dev nD) (t : Fin grid0.N) (r : Fin 512) (l : Fin 2048) (h : 512 * t.val + r.val < 4096) :
    (dats m 0 c).arrAt 5 cfg0.N (ix2 (⟨512 * t.val + r.val, h⟩ : Fin 4096) l) = gates m c (ix2 ⟨512 * t.val + r.val, h⟩ l) := by
  have hb := congrFun (Value.blocks5 m c t (flush_gates t)) (ix2 r l)
  rw [Value.flushed5] at hb
  have e := tile_at (w := 2048) (s := 512) (win0_5.index t) (places t).2.2.1 (places t).2.2.2.1 r.val l.val
  have el : ((cfg0.win 5).blk t).view.read (Elt Ideal) ((dats m 0 c).arrAt 5 cfg0.N) (ix2 r l)
      = (dats m 0 c).arrAt 5 cfg0.N (ix2 (⟨512 * t.val + r.val, h⟩ : Fin 4096) l) := by
    show (dats m 0 c).arrAt 5 cfg0.N _ = (dats m 0 c).arrAt 5 cfg0.N _
    congr 1
    funext a
    apply Fin.ext
    match a with | ⟨0, _⟩ => exact e.1 | ⟨1, _⟩ => exact e.2
  refine el.symm.trans (hb.trans ((out5_at _ _ _ _ _ r l).trans ?_))
  simp only [normed_blk m c t r _ h]
  exact Finset.sum_congr rfl fun k _ => congrArg (_ * ·) (blk2 m c t l k)

theorem gates_in_tile (i : S4096x2048.Idx) : ∃ (t : Fin grid0.N) (r : Fin 512) (l : Fin 2048) (h : 512 * t.val + r.val < 4096),
    i = ix2 (⟨512 * t.val + r.val, h⟩ : Fin 4096) l := by
  have h0 : (i 0).val < 4096 := (i 0).isLt
  have hN : grid0.N = 8 := by decide
  refine ⟨⟨(i 0).val / 512, by omega⟩, ⟨(i 0).val % 512, Nat.mod_lt _ (by decide)⟩, i 1, by dsimp only; omega, ?_⟩
  funext a
  match a with
  | ⟨0, _⟩ => exact Fin.ext (show (i 0).val = 512 * ((i 0).val / 512) + (i 0).val % 512 by omega)
  | ⟨1, _⟩ => rfl

/-- The gates after the run. -/
theorem gates_result (c : Dev nD) : (dats m 0 c).arrAt 5 cfg0.N = gates m c := by
  refine funext fun (i : S4096x2048.Idx) => ?_
  obtain ⟨t, r, l, h, rfl⟩ := gates_in_tile i
  exact gates_tile m c t r l h

theorem flush_fox : ∀ t : Fin grid0.N, (cfg0.win 6).flush t = true := by decide +kernel

/-- One tile of the result array after the run. -/
theorem fox_tile (c : Dev nD) (t : Fin grid0.N) (r : Fin 512) (l : Fin 1536) (h : 512 * t.val + r.val < 4096) :
    (dats m 0 c).arrAt 6 cfg0.N (ix2 (⟨512 * t.val + r.val, h⟩ : Fin 4096) l) = fox m c (ix2 ⟨512 * t.val + r.val, h⟩ l) := by
  have hb := congrFun (Value.blocks6 m c t (flush_fox t)) (ix2 r l)
  rw [Value.flushed6] at hb
  have e := tile_at (w := 1536) (s := 512) (win0_6.index t) (places t).2.2.2.2.1 (places t).2.2.2.2.2.1 r.val l.val
  have el : ((cfg0.win 6).blk t).view.read (Elt Ideal) ((dats m 0 c).arrAt 6 cfg0.N) (ix2 r l)
      = (dats m 0 c).arrAt 6 cfg0.N (ix2 (⟨512 * t.val + r.val, h⟩ : Fin 4096) l) := by
    show (dats m 0 c).arrAt 6 cfg0.N _ = (dats m 0 c).arrAt 6 cfg0.N _
    congr 1
    funext a
    apply Fin.ext
    match a with | ⟨0, _⟩ => exact e.1 | ⟨1, _⟩ => exact e.2
  refine el.symm.trans (hb.trans ((out6_at _ _ _ _ _ r l).trans ?_))
  simp only [normed_blk m c t r _ h]
  exact Finset.sum_congr rfl fun k _ => congrArg (_ * ·) (blk3 m c t l k)

theorem fox_in_tile (i : S4096x1536.Idx) : ∃ (t : Fin grid0.N) (r : Fin 512) (l : Fin 1536) (h : 512 * t.val + r.val < 4096),
    i = ix2 (⟨512 * t.val + r.val, h⟩ : Fin 4096) l := by
  have h0 : (i 0).val < 4096 := (i 0).isLt
  have hN : grid0.N = 8 := by decide
  refine ⟨⟨(i 0).val / 512, by omega⟩, ⟨(i 0).val % 512, Nat.mod_lt _ (by decide)⟩, i 1, by dsimp only; omega, ?_⟩
  funext a
  match a with
  | ⟨0, _⟩ => exact Fin.ext (show (i 0).val = 512 * ((i 0).val / 512) + (i 0).val % 512 by omega)
  | ⟨1, _⟩ => rfl

/-- The forgetting attention's columns after the run. -/
theorem fox_result (c : Dev nD) : (dats m 0 c).arrAt 6 cfg0.N = fox m c := by
  refine funext fun (i : S4096x1536.Idx) => ?_
  obtain ⟨t, r, l, h, rfl⟩ := fox_in_tile i
  exact fox_tile m c t r l h

theorem flush_lat : ∀ t : Fin grid0.N, (cfg0.win 7).flush t = true := by decide +kernel

/-- One tile of the result array after the run. -/
theorem lat_tile (c : Dev nD) (t : Fin grid0.N) (r : Fin 512) (l : Fin 512) (h : 512 * t.val + r.val < 4096) :
    (dats m 0 c).arrAt 7 cfg0.N (ix2 (⟨512 * t.val + r.val, h⟩ : Fin 4096) l) = lat m c (ix2 ⟨512 * t.val + r.val, h⟩ l) := by
  have hb := congrFun (Value.blocks7 m c t (flush_lat t)) (ix2 r l)
  rw [Value.flushed7] at hb
  have e := tile_at (w := 512) (s := 512) (win0_7.index t) (places t).2.2.2.2.2.2.1 (places t).2.2.2.2.2.2.2 r.val l.val
  have el : ((cfg0.win 7).blk t).view.read (Elt Ideal) ((dats m 0 c).arrAt 7 cfg0.N) (ix2 r l)
      = (dats m 0 c).arrAt 7 cfg0.N (ix2 (⟨512 * t.val + r.val, h⟩ : Fin 4096) l) := by
    show (dats m 0 c).arrAt 7 cfg0.N _ = (dats m 0 c).arrAt 7 cfg0.N _
    congr 1
    funext a
    apply Fin.ext
    match a with | ⟨0, _⟩ => exact e.1 | ⟨1, _⟩ => exact e.2
  refine el.symm.trans (hb.trans ((out7_at _ _ _ _ _ r l).trans ?_))
  simp only [normed_blk m c t r _ h]
  exact (Finset.sum_congr rfl fun k _ => congrArg (_ * ·) (blk4 m c t l k)).trans (sum_lanes _ (fun k j => aW m c (ix2 k j)) l)

theorem lat_in_tile (i : S4096x512.Idx) : ∃ (t : Fin grid0.N) (r : Fin 512) (l : Fin 512) (h : 512 * t.val + r.val < 4096),
    i = ix2 (⟨512 * t.val + r.val, h⟩ : Fin 4096) l := by
  have h0 : (i 0).val < 4096 := (i 0).isLt
  have hN : grid0.N = 8 := by decide
  refine ⟨⟨(i 0).val / 512, by omega⟩, ⟨(i 0).val % 512, Nat.mod_lt _ (by decide)⟩, i 1, by dsimp only; omega, ?_⟩
  funext a
  match a with
  | ⟨0, _⟩ => exact Fin.ext (show (i 0).val = 512 * ((i 0).val / 512) + (i 0).val % 512 by omega)
  | ⟨1, _⟩ => rfl

/-- The latent columns after the run. -/
theorem lat_result (c : Dev nD) : (dats m 0 c).arrAt 7 cfg0.N = lat m c := by
  refine funext fun (i : S4096x512.Idx) => ?_
  obtain ⟨t, r, l, h, rfl⟩ := lat_in_tile i
  exact lat_tile m c t r l h

theorem run_value (ρ : Dev nD → PrngReg) : θ_run (defs (F := Ideal)) (onTc (τ := τ) (main (F := Ideal))) ⟨m, fun _ => 0, ρ⟩ fun r => ∀ c : Dev nD,
    r.2.mem (c.tc.loc main_v11_0) = gates m c
      ∧ r.2.mem (c.tc.loc main_v11_1) = fox m c
      ∧ r.2.mem (c.tc.loc main_v11_2) = lat m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (gates_result m c), (h c).2.1.trans (fox_result m c), (h c).2.2.1.trans (lat_result m c), (h c).2.2.2⟩) (Value.run_blocks m ρ)

/-! ## The reference -/

open Reference6Ideal.Read

theorem ref_normed (x : S4096x1024.Idx → EReal) (g : S1x1024.Idx → EReal) (r : Fin 4096) (k : Fin 1024) :
    val_main_v11 (F := Ideal) x g (ix2 r k) = normed x g r k := by
  rw [val_main_v11_apply, val_main_v9_apply, val_main_v10_apply, val_main_v8_apply, val_main_v7_apply, val_main_v6_apply, val_main_v5_apply, val_main_v4_apply,
    val_main_v3_apply, val_main_v2_apply, val_main_v1_apply, val_main_cst_apply, val_main_cst_0_apply, val_main_cst_1_apply]
  show x (ix2 r k) * Ideal.rsqrt (Ideal.div (Ideal.ofBits .f32 0x00000000#32 + _) (Ideal.ofBits .f32 0x44800000#32) + Ideal.ofBits .f32 0x358637BD#32) * g _ = _
  rw [Ideal.ofBits_zero_f32, zero_add]
  unfold normed
  refine congrArg₂ (fun a b => x (ix2 r k) * Ideal.rsqrt (Ideal.div a (Ideal.ofBits .f32 0x44800000#32) + Ideal.ofBits .f32 0x358637BD#32) * g b) (Finset.sum_congr rfl fun d _ => ?_) ?_
  · rw [val_main_v0_apply]
    exact congrArg (fun z => x z * x z) (funext fun a => match a with | ⟨0, _⟩ => rfl | ⟨1, _⟩ => rfl)
  · exact funext fun a => match a with | ⟨0, _⟩ => rfl | ⟨1, _⟩ => rfl

theorem ref_proj (c : Dev nD) (r : Fin 4096) (j : Fin 3944) :
    val_main_v12 (F := Ideal) (aX m c) (aG m c) (aW m c) (ix2 r j) = proj m c r j := by
  rw [val_main_v12_apply]
  refine Finset.sum_congr rfl fun k _ => congrArg₂ (· * ·) ?_ (congrArg (aW m c) (funext fun a => match a with | ⟨0, _⟩ => rfl | ⟨1, _⟩ => rfl))
  rw [show lidx_main_v12 (ix2 r j) k = ix2 r k from funext fun a => match a with | ⟨0, _⟩ => rfl | ⟨1, _⟩ => rfl]
  exact ref_normed _ _ r k

theorem ref_gates (c : Dev nD) (r : Fin 4096) (l : Fin 2048) :
    val_main_v13 (F := Ideal) (aX m c) (aG m c) (aW m c) (ix2 r l) = gates m c (ix2 r l) := by
  rw [val_main_v13_apply, show idx_main_v13 (ix2 r l) = ix2 r ⟨1896 + l.val, by omega⟩ from funext fun a => match a with | ⟨0, _⟩ => rfl | ⟨1, _⟩ => rfl, ref_proj]
  rfl

theorem ref_fox (c : Dev nD) (r : Fin 4096) (l : Fin 1536) :
    val_main_v14 (F := Ideal) (aX m c) (aG m c) (aW m c) (ix2 r l) = fox m c (ix2 r l) := by
  rw [val_main_v14_apply, show idx_main_v14 (ix2 r l) = ix2 r ⟨352 + l.val, by omega⟩ from funext fun a => match a with | ⟨0, _⟩ => rfl | ⟨1, _⟩ => rfl, ref_proj]
  rfl

theorem zero_word (i : Reference6Ideal.S_.Idx) : sitofp (F := Ideal) .f32 (constantI Reference6Ideal.S_ 32 0#32) i = (0 : EReal) := by
  show (((0#32 : BitVec 32).toInt : ℝ) : EReal) = 0
  simp

/-- Columns filled up with zeros on the right, at an index. -/
theorem pad_right {w v e : ℕ} (x : (⟨2, ![4096, w]⟩ : Shape).Idx → EReal) (z : (⟨0, ![]⟩ : Shape).Idx → EReal) (hz : ∀ i, z i = 0)
    (h : (⟨2, ![4096, w]⟩ : Shape).Pads ![0, 0] ![0, e] ![0, 0] ⟨2, ![4096, v]⟩) (hu) (r : Fin 4096) (l : Fin v) :
    pad ⟨2, ![4096, v]⟩ ![0, 0] ![0, e] ![0, 0] x z h hu (ix2 r l) = if hl : l.val < w then x (ix2 r ⟨l.val, hl⟩) else 0 := by
  unfold pad
  rw [hz]
  by_cases hl : l.val < w
  · rw [dif_pos hl, dif_pos (fun a => match a with
      | ⟨0, _⟩ => ⟨Nat.zero_le _, Nat.mod_one _, (Nat.div_one (r.val - 0)).trans_lt r.isLt⟩
      | ⟨1, _⟩ => ⟨Nat.zero_le _, Nat.mod_one _, (Nat.div_one (l.val - 0)).trans_lt hl⟩)]
    congr 1
    funext a
    apply Fin.ext
    match a with
    | ⟨0, _⟩ => exact Nat.div_one _
    | ⟨1, _⟩ => exact Nat.div_one _
  · rw [dif_neg hl, dif_neg (fun hin => hl ((Nat.div_one (l.val - 0)).symm.trans_lt (hin ⟨1, Nat.one_lt_two⟩).2.2))]

theorem lat_q (c : Dev nD) (r : Fin 4096) (l : Fin 256) :
    val_main_v16 (F := Ideal) (aX m c) (aG m c) (aW m c) (ix2 r l) = if h : l.val < 192 then proj m c r ⟨l.val, by omega⟩ else 0 := by
  refine (pad_right _ _ zero_word _ _ r l).trans (dite_congr rfl (fun h => ?_) fun _ => rfl)
  rw [val_main_v15_apply, show idx_main_v15 (ix2 r ⟨l.val, h⟩) = ix2 r ⟨l.val, by omega⟩ from funext fun a => match a with | ⟨0, _⟩ => rfl | ⟨1, _⟩ => rfl, ref_proj]

theorem lat_kv (c : Dev nD) (r : Fin 4096) (l : Fin 128) :
    val_main_v18 (F := Ideal) (aX m c) (aG m c) (aW m c) (ix2 r l) = proj m c r ⟨192 + l.val, by omega⟩ := by
  refine (pad_right _ _ zero_word _ _ r l).trans ((dif_pos l.isLt).trans ?_)
  rw [val_main_v17_apply, show idx_main_v17 (ix2 r ⟨l.val, l.isLt⟩) = ix2 r ⟨192 + l.val, by omega⟩ from funext fun a => match a with | ⟨0, _⟩ => rfl | ⟨1, _⟩ => rfl, ref_proj]

theorem lat_kr (c : Dev nD) (r : Fin 4096) (l : Fin 32) :
    val_main_v20 (F := Ideal) (aX m c) (aG m c) (aW m c) (ix2 r l) = proj m c r ⟨320 + l.val, by omega⟩ := by
  refine (pad_right _ _ zero_word _ _ r l).trans ((dif_pos l.isLt).trans ?_)
  rw [val_main_v19_apply, show idx_main_v19 (ix2 r ⟨l.val, l.isLt⟩) = ix2 r ⟨320 + l.val, by omega⟩ from funext fun a => match a with | ⟨0, _⟩ => rfl | ⟨1, _⟩ => rfl, ref_proj]

theorem lat_f (c : Dev nD) (r : Fin 4096) (l : Fin 96) :
    val_main_v22 (F := Ideal) (aX m c) (aG m c) (aW m c) (ix2 r l) = if h : l.val < 8 then proj m c r ⟨1888 + l.val, by omega⟩ else 0 := by
  refine (pad_right _ _ zero_word _ _ r l).trans (dite_congr rfl (fun h => ?_) fun _ => rfl)
  rw [val_main_v21_apply, show idx_main_v21 (ix2 r ⟨l.val, h⟩) = ix2 r ⟨1888 + l.val, by omega⟩ from funext fun a => match a with | ⟨0, _⟩ => rfl | ⟨1, _⟩ => rfl, ref_proj]

theorem ref_lat (c : Dev nD) (r : Fin 4096) (l : Fin 512) :
    val_main_v23 (F := Ideal) (aX m c) (aG m c) (aW m c) (ix2 r l) = lat m c (ix2 r l) := by
  have eq := lat_q m c r
  have ekv := lat_kv m c r
  have ekr := lat_kr m c r
  have ef := lat_f m c r
  unfold val_main_v23
  generalize val_main_v16 (F := Ideal) (aX m c) (aG m c) (aW m c) = y16 at eq ⊢
  generalize val_main_v18 (F := Ideal) (aX m c) (aG m c) (aW m c) = y18 at ekv ⊢
  generalize val_main_v20 (F := Ideal) (aX m c) (aG m c) (aW m c) = y20 at ekr ⊢
  generalize val_main_v22 (F := Ideal) (aX m c) (aG m c) (aW m c) = y22 at ef ⊢
  show _ = lanes (proj m c r) l
  generalize proj m c r = f at eq ekv ekr ef ⊢
  pointwise []
  simp only [eq, ekv, ekr, ef]
  unfold lanes
  have ec : ∀ {a b : Fin 3944}, a.val = b.val → f a = f b := fun h => congrArg f (Fin.ext h)
  repeat' split
  all_goals first | rfl | (exfalso; omega) | (refine ec ?_; dsimp only; omega)

/-- The reference's run from the same arguments. -/
theorem run_reference (m' : (ℓ : Loc Reference6Ideal.nD Reference6Ideal.τ Reference6Ideal.sig) → Buf (Elt Ideal) ℓ) (ρ : Dev Reference6Ideal.nD → PrngReg)
    (hm : ∀ c : Dev Reference6Ideal.nD,
      m' (c.tc.loc Reference6Ideal.main_arg0) = m (c.tc.loc main_arg0)
      ∧ m' (c.tc.loc Reference6Ideal.main_arg1) = m (c.tc.loc main_arg1)
      ∧ m' (c.tc.loc Reference6Ideal.main_arg2) = m (c.tc.loc main_arg2)) :
    θ_run (Reference6Ideal.defs (F := Ideal)) (onTc (τ := Reference6Ideal.τ) (Reference6Ideal.main (F := Ideal))) ⟨m', fun _ => 0, ρ⟩
      fun r => ∀ c : Dev Reference6Ideal.nD,
        r.2.mem (c.tc.loc Reference6Ideal.main_v13) = gates m c
          ∧ r.2.mem (c.tc.loc Reference6Ideal.main_v14) = fox m c
          ∧ r.2.mem (c.tc.loc Reference6Ideal.main_v23) = lat m c
          ∧ r.2.mem (c.tc.loc Reference6Ideal.main_arg0) = m' (c.tc.loc Reference6Ideal.main_arg0)
          ∧ r.2.mem (c.tc.loc Reference6Ideal.main_arg1) = m' (c.tc.loc Reference6Ideal.main_arg1)
          ∧ r.2.mem (c.tc.loc Reference6Ideal.main_arg2) = m' (c.tc.loc Reference6Ideal.main_arg2) := by
  refine (θ_run Reference6Ideal.defs _ _).mono (fun r h c => ⟨(h c).1.trans (?_ : _ = gates m c), (h c).2.1.trans (?_ : _ = fox m c), (h c).2.2.1.trans (?_ : _ = lat m c), (h c).2.2.2⟩)
    (Reference6Ideal.Value.run m' ρ)
  all_goals obtain ⟨e0, e1, e2⟩ := hm c
  · refine (val_main_v13_eq _ _ _).trans ?_
    rw [e0, e1, e2]
    refine funext fun (i : S4096x2048.Idx) => ?_
    rw [eq_ix2 i]
    exact ref_gates m c (i 0) (i 1)
  · refine (val_main_v14_eq _ _ _).trans ?_
    rw [e0, e1, e2]
    refine funext fun (i : S4096x1536.Idx) => ?_
    rw [eq_ix2 i]
    exact ref_fox m c (i 0) (i 1)
  · refine (val_main_v23_eq _ _).trans ?_
    rw [e0, e1, e2]
    refine funext fun (i : S4096x512.Idx) => ?_
    rw [eq_ix2 i]
    exact ref_lat m c (i 0) (i 1)

end Cert.Kernel6Ideal.Project
end
-- ==== Proof.ProjectBack.lean ====
module

public import proofs.«01_k».proof.Proof.Gen.Kernel5Ideal.Value
public import proofs.«01_k».proof.Proof.Gen.Reference5Ideal.Run
public import proofs.«01_k».proof.Proof.Gen.Reference5Ideal.Read
public import proofs.«01_k».proof.Proof.Project
public import proofs.«01_k».proof.Proof.NormBack
public import proofs.«01_k».proof.Proof.Tokens
public import Idealize.ShloMosaic.Lib.Pointwise
public import Idealize.ShloMosaic.Lib.Pipeline.Value
public import Idealize.ShloMosaic.Lib.Tactic
public import Idealize.ShloMosaic.Lib.IdealHost
public import Idealize.ShloMosaic.PureOps.Ideal
public import Idealize.ShloMosaic.PureOps.Ideal.Laws

/-!
The input projection's backward call: the projection's gradient times the weights, through the normalisation, the residual's gradient added;
the gain's gradient, summed over the tokens; and the normalised tokens.
-/

@[expose] public section

noncomputable section

namespace Cert.Kernel5Ideal.ProjectBack

open Kernel5Ideal Kernel5Ideal.Gen
open Tokens (zero2)
open Idealize.ShloMosaic Idealize.ShloMosaic.TcCoe Idealize.ShloMosaic.Tactic Idealize.SL.Sem
open Kernel6Ideal.Project (lanes tile_at)
open NormBack (inv meanSq len eps half norm_back)

/-! ## What a point leaves in each buffer -/

section
variable {F : FTy → Type} [FloatOps F]
variable (c : Dev nD) (i : grid0.Coords)
variable (arg1 : Memref sig .tc .vmem S512x2048 .bf16) (harg1 : arg1.IsWhole)
variable (arg2 : Memref sig .tc .vmem S512x1536 .bf16) (harg2 : arg2.IsWhole)
variable (arg3 : Memref sig .tc .vmem S512x512 .bf16) (harg3 : arg3.IsWhole)
variable (arg4 : Memref sig .tc .vmem S2048x1024 .bf16) (harg4 : arg4.IsWhole)
variable (arg5 : Memref sig .tc .vmem S1536x1024 .bf16) (harg5 : arg5.IsWhole)
variable (arg6 : Memref sig .tc .vmem S512x1024 .bf16) (harg6 : arg6.IsWhole)
variable (arg7 : Memref sig .tc .vmem S512x1024 .f32) (harg7 : arg7.IsWhole)
variable (arg8 : Memref sig .tc .vmem S1x1024 .f32) (harg8 : arg8.IsWhole)
variable (arg9 : Memref sig .tc .vmem S512x1024 .f32) (harg9 : arg9.IsWhole)
variable (arg10 : Memref sig .tc .vmem S512x1024 .f32) (harg10 : arg10.IsWhole)
variable (arg11 : Memref sig .tc .vmem S1x1024 .f32) (harg11 : arg11.IsWhole)
variable (arg12 : Memref sig .tc .vmem S512x1024 .bf16) (harg12 : arg12.IsWhole)
variable (x0 : Vec F S512x2048 .bf16) (x1 : Vec F S512x1536 .bf16) (x2 : Vec F S512x512 .bf16) (x3 : Vec F S2048x1024 .bf16) (x4 : Vec F S1536x1024 .bf16) (x5 : Vec F S512x1024 .bf16) (x6 : Vec F S512x1024 .f32) (x7 : Vec F S1x1024 .f32) (x8 : Vec F S512x1024 .f32)
variable (xo10 : Vec F S1x1024 .f32)

theorem first_dx (hc0 : cond0_0 i) (hc1 : ¬cond0_1 i) :
    out0_A_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 = k0_pay2 (k0_pay5 x0 x3 x1 x4 x2 x5) x6 x7 (k0_pay6 x6) (k0_pay8 x6) x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8)]
  unfold kernelRun0_A
  dsimp only
  sl_unfold_words
  rw [View.canon_cons_unit_zero zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x2048) zero2, View.ld_unit_zero (S := S512x1536) zero2, View.ld_unit_zero (S := S512x512) zero2, View.ld_unit_zero (S := S2048x1024) zero2, View.ld_unit_zero (S := S1536x1024) zero2, View.ld_unit_zero (S := S512x1024) zero2, View.ld_unit_zero (S := S1x1024) zero2]

theorem first_dg (hc0 : cond0_0 i) (hc1 : ¬cond0_1 i) :
    out0_A_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 = k0_pay3 (k0_pay5 x0 x3 x1 x4 x2 x5) x6 (k0_pay8 x6) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8)]
  unfold kernelRun0_A
  dsimp only
  sl_unfold_words
  rw [View.canon_cons_unit_zero zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x2048) zero2, View.ld_unit_zero (S := S512x1536) zero2, View.ld_unit_zero (S := S512x512) zero2, View.ld_unit_zero (S := S2048x1024) zero2, View.ld_unit_zero (S := S1536x1024) zero2, View.ld_unit_zero (S := S512x1024) zero2, View.ld_unit_zero (S := S1x1024) zero2]

theorem first_n (hc0 : cond0_0 i) (hc1 : ¬cond0_1 i) :
    out0_A_11 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 = k0_pay7 x6 x7 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8)]
  unfold kernelRun0_A
  dsimp only
  sl_unfold_words
  rw [View.canon_cons_unit_zero zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x2048) zero2, View.ld_unit_zero (S := S512x1536) zero2, View.ld_unit_zero (S := S512x512) zero2, View.ld_unit_zero (S := S2048x1024) zero2, View.ld_unit_zero (S := S1536x1024) zero2, View.ld_unit_zero (S := S512x1024) zero2, View.ld_unit_zero (S := S1x1024) zero2]

theorem next_dx (hc0 : ¬cond0_0 i) (hc1 : cond0_1 i) :
    out0_B_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo10 = k0_pay2 (k0_pay5 x0 x3 x1 x4 x2 x5) x6 x7 (k0_pay6 x6) (k0_pay8 x6) x8 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo10)]
  unfold kernelRun0_B
  dsimp only
  sl_unfold_words
  rw [View.canon_cons_unit_zero zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x2048) zero2, View.ld_unit_zero (S := S512x1536) zero2, View.ld_unit_zero (S := S512x512) zero2, View.ld_unit_zero (S := S2048x1024) zero2, View.ld_unit_zero (S := S1536x1024) zero2, View.ld_unit_zero (S := S512x1024) zero2, View.ld_unit_zero (S := S1x1024) zero2]

theorem next_dg (hc0 : ¬cond0_0 i) (hc1 : cond0_1 i) :
    out0_B_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo10 = k0_pay4 (k0_pay5 x0 x3 x1 x4 x2 x5) x6 (k0_pay8 x6) xo10 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo10)]
  unfold kernelRun0_B
  dsimp only
  sl_unfold_words
  rw [View.canon_cons_unit_zero zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x2048) zero2, View.ld_unit_zero (S := S512x1536) zero2, View.ld_unit_zero (S := S512x512) zero2, View.ld_unit_zero (S := S2048x1024) zero2, View.ld_unit_zero (S := S1536x1024) zero2, View.ld_unit_zero (S := S512x1024) zero2, View.ld_unit_zero (S := S1x1024) zero2]

theorem next_n (hc0 : ¬cond0_0 i) (hc1 : cond0_1 i) :
    out0_B_11 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo10 = k0_pay7 x6 x7 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo10)]
  unfold kernelRun0_B
  dsimp only
  sl_unfold_words
  rw [View.canon_cons_unit_zero zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x2048) zero2, View.ld_unit_zero (S := S512x1536) zero2, View.ld_unit_zero (S := S512x512) zero2, View.ld_unit_zero (S := S2048x1024) zero2, View.ld_unit_zero (S := S1536x1024) zero2, View.ld_unit_zero (S := S512x1024) zero2, View.ld_unit_zero (S := S1x1024) zero2]

end

/-! ## Over the extended reals -/

/-- A row of an array. -/
abbrev row {n : ℕ} (x : (⟨2, ![n, 1024]⟩ : Shape).Idx → EReal) (r : Fin n) : Fin 1024 → EReal := fun d => x (ix2 r d)

theorem pay5_at (a : Vec Ideal S512x2048 .bf16) (w : Vec Ideal S2048x1024 .bf16) (b : Vec Ideal S512x1536 .bf16) (v : Vec Ideal S1536x1024 .bf16)
    (e : Vec Ideal S512x512 .bf16) (u : Vec Ideal S512x1024 .bf16) (r : Fin 512) (l : Fin 1024) :
    k0_pay5 (F := Ideal) a w b v e u (ix2 r l) = (∑ k : Fin 2048, a (ix2 r k) * w (ix2 k l)) + (∑ k : Fin 1536, b (ix2 r k) * v (ix2 k l)) + ∑ k : Fin 512, e (ix2 r k) * u (ix2 k l) := by
  pointwise [k0_pay5]

theorem pay6_at (x : Vec Ideal S512x1024 .f32) (r : Fin 512) : k0_pay6 (F := Ideal) x (ix2 r 0) = inv (row (n := 512) x r) := by
  unfold NormBack.inv meanSq
  pointwise [k0_pay6]

theorem pay8_at (x : Vec Ideal S512x1024 .f32) (r : Fin 512) (l : Fin 1024) : k0_pay8 (F := Ideal) x (ix2 r l) = inv (row (n := 512) x r) := by
  rw [← pay6_at]
  unfold k0_pay8
  generalize k0_pay6 (F := Ideal) x = z
  pointwise []

theorem pay7_at (x : Vec Ideal S512x1024 .f32) (g : Vec Ideal S1x1024 .f32) (r : Fin 512) (l : Fin 1024) :
    k0_pay7 (F := Ideal) x g (ix2 r l) = x (ix2 r l) * inv (row (n := 512) x r) * g (ix2 0 l) := by
  rw [← pay6_at]
  unfold k0_pay7
  generalize k0_pay6 (F := Ideal) x = z
  pointwise []

theorem pay2_at (dn x : Vec Ideal S512x1024 .f32) (g : Vec Ideal S1x1024 .f32) (i1 : Vec Ideal S512x1 .f32) (i2 res : Vec Ideal S512x1024 .f32) (r : Fin 512) (l : Fin 1024) :
    k0_pay2 (F := Ideal) dn x g i1 i2 res (ix2 r l) = res (ix2 r l) + i1 (ix2 r 0) * (dn (ix2 r l) * g (ix2 0 l)
      - x (ix2 r l) * i2 (ix2 r l) * Ideal.div (∑ d : Fin 1024, dn (ix2 r d) * g (ix2 0 d) * (x (ix2 r d) * i2 (ix2 r d))) len) := by
  pointwise [k0_pay2, k0_pay1]

theorem pay3_at (dn x i2 : Vec Ideal S512x1024 .f32) (l : Fin 1024) :
    k0_pay3 (F := Ideal) dn x i2 (ix2 0 l) = ∑ r : Fin 512, dn (ix2 r l) * (x (ix2 r l) * i2 (ix2 r l)) := by
  pointwise [k0_pay3, k0_pay1]

theorem pay4_at (dn x i2 : Vec Ideal S512x1024 .f32) (p : Vec Ideal S1x1024 .f32) (l : Fin 1024) :
    k0_pay4 (F := Ideal) dn x i2 p (ix2 0 l) = p (ix2 0 l) + k0_pay3 (F := Ideal) dn x i2 (ix2 0 l) := by
  unfold k0_pay4
  generalize k0_pay3 (F := Ideal) dn x i2 = z
  pointwise []

/-! ## The arguments and the results -/

variable (m : (ℓ : Loc nD τ sig) → Buf (Elt Ideal) ℓ)

def aD (c : Dev nD) : S4096x3944.Idx → EReal := m (c.tc.loc main_arg0)
def aX (c : Dev nD) : S4096x1024.Idx → EReal := m (c.tc.loc main_arg1)
def aG (c : Dev nD) : S1x1024.Idx → EReal := m (c.tc.loc main_arg2)
def aW (c : Dev nD) : S1024x3944.Idx → EReal := m (c.tc.loc main_arg3)
def aR (c : Dev nD) : S4096x1024.Idx → EReal := m (c.tc.loc main_arg4)

/-- The gradient of the normalised row: the projection's gradient times the weights. -/
def back (c : Dev nD) (r : Fin 4096) (l : Fin 1024) : EReal := ∑ k : Fin 3944, aD m c (ix2 r k) * aW m c (ix2 l k)
/-- The row's own factor. -/
def rinv (c : Dev nD) (r : Fin 4096) : EReal := inv (row (n := 4096) (aX m c) r)

/-- The input's gradient, -/
def dx (c : Dev nD) (i : S4096x1024.Idx) : EReal :=
  aR m c (ix2 (i 0) (i 1)) + rinv m c (i 0) * (back m c (i 0) (i 1) * aG m c (ix2 0 (i 1))
    - aX m c (ix2 (i 0) (i 1)) * rinv m c (i 0) * Ideal.div (∑ d : Fin 1024, back m c (i 0) d * aG m c (ix2 0 d) * (aX m c (ix2 (i 0) d) * rinv m c (i 0))) len)
/-- what a row adds to the gain's, -/
def gainRow (c : Dev nD) (l : Fin 1024) (r : Fin 4096) : EReal := back m c r l * (aX m c (ix2 r l) * rinv m c r)
/-- the gain's, -/
def dgain (c : Dev nD) (i : S1x1024.Idx) : EReal := ∑ r : Fin 4096, gainRow m c (i 1) r
/-- and the normalised rows. -/
def nrm (c : Dev nD) (i : S4096x1024.Idx) : EReal := aX m c (ix2 (i 0) (i 1)) * rinv m c (i 0) * aG m c (ix2 0 (i 1))

/-! ## What the host code prepares -/

theorem V_v9 (c : Dev nD) (k : Fin 2048) (l : Fin 1024) : V m c main_v9 (ix2 k l) = aW m c (ix2 l ⟨1896 + k.val, by omega⟩) := by
  show StableHlo.after hostOps0 (fun b => m (c, b)) (Proc.devRef .tc main_v9) (ix2 k l) = _
  after_results
  pointwise []
  rfl

theorem V_v10 (c : Dev nD) (k : Fin 1536) (l : Fin 1024) : V m c main_v10 (ix2 k l) = aW m c (ix2 l ⟨352 + k.val, by omega⟩) := by
  show StableHlo.after hostOps0 (fun b => m (c, b)) (Proc.devRef .tc main_v10) (ix2 k l) = _
  after_results
  pointwise []
  rfl

theorem V_v19 (c : Dev nD) (r : Fin 4096) (k : Fin 2048) : V m c main_v19 (ix2 r k) = aD m c (ix2 r ⟨1896 + k.val, by omega⟩) := by
  show StableHlo.after hostOps0 (fun b => m (c, b)) (Proc.devRef .tc main_v19) (ix2 r k) = _
  after_results
  pointwise []
  rfl

theorem V_v20 (c : Dev nD) (r : Fin 4096) (k : Fin 1536) : V m c main_v20 (ix2 r k) = aD m c (ix2 r ⟨352 + k.val, by omega⟩) := by
  show StableHlo.after hostOps0 (fun b => m (c, b)) (Proc.devRef .tc main_v20) (ix2 r k) = _
  after_results
  pointwise []
  rfl

theorem V_v8 (c : Dev nD) (k : Fin 512) (l : Fin 1024) : V m c main_v8 (ix2 k l) = lanes (fun j => aW m c (ix2 l j)) k := by
  show StableHlo.after hostOps0 (fun b => m (c, b)) (Proc.devRef .tc main_v8) (ix2 k l) = _
  after_results_simp
  dsimp only [Matrix.cons_val]
  after_results_simp
  pointwise []
  unfold lanes
  have ec : ∀ {a b : Fin 3944}, a.val = b.val → m (c, Proc.tc.devRef main_arg3) (ix2 l a) = aW m c (ix2 l b) := fun h => congrArg (fun z => aW m c (ix2 l z)) (Fin.ext h)
  repeat' split
  all_goals first | rfl | (exfalso; omega) | (refine ec ?_; dsimp only; omega)

theorem V_v18 (c : Dev nD) (r : Fin 4096) (k : Fin 512) : V m c main_v18 (ix2 r k) = lanes (fun j => aD m c (ix2 r j)) k := by
  show StableHlo.after hostOps0 (fun b => m (c, b)) (Proc.devRef .tc main_v18) (ix2 r k) = _
  after_results_simp
  dsimp only [Matrix.cons_val]
  after_results_simp
  pointwise []
  unfold lanes
  have ec : ∀ {a b : Fin 3944}, a.val = b.val → m (c, Proc.tc.devRef main_arg0) (ix2 r a) = aD m c (ix2 r b) := fun h => congrArg (fun z => aD m c (ix2 r z)) (Fin.ext h)
  repeat' split
  all_goals first | rfl | (exfalso; omega) | (refine ec ?_; dsimp only; omega)

/-- The columns' products summed in the call's three pieces. -/
theorem sum_pieces (f g : Fin 3944 → EReal) :
    (∑ k : Fin 2048, f ⟨1896 + k.val, by omega⟩ * g ⟨1896 + k.val, by omega⟩) + (∑ k : Fin 1536, f ⟨352 + k.val, by omega⟩ * g ⟨352 + k.val, by omega⟩)
      + ∑ k : Fin 512, lanes f k * lanes g k = ∑ k : Fin 3944, f k * g k := by
  have el : ∀ k : Fin 512, lanes f k * lanes g k = lanes (fun j => f j * g j) k := by
    intro k
    unfold lanes
    split_ifs <;> simp
  simp only [el]
  generalize hp : (fun j => f j * g j) = p
  have hp' : ∀ j, f j * g j = p j := fun j => congrFun hp j
  simp only [hp']
  let q : ℕ → EReal := fun n => if h : n < 3944 then p ⟨n, h⟩ else 0
  have hq : ∀ (n : ℕ) (h : n < 3944), p ⟨n, h⟩ = q n := fun n h => by
    show _ = dite _ _ _
    rw [dif_pos h]
  let u : ℕ → EReal := fun n => if h : n < 512 then lanes p ⟨n, h⟩ else 0
  have e1 : ∑ k : Fin 2048, p ⟨1896 + k.val, by omega⟩ = ∑ n ∈ Finset.range 2048, q (1896 + n) := by
    rw [Finset.sum_range]; exact Finset.sum_congr rfl fun k _ => hq _ _
  have e2 : ∑ k : Fin 1536, p ⟨352 + k.val, by omega⟩ = ∑ n ∈ Finset.range 1536, q (352 + n) := by
    rw [Finset.sum_range]; exact Finset.sum_congr rfl fun k _ => hq _ _
  have e3 : ∑ k : Fin 3944, p k = ∑ n ∈ Finset.range 3944, q n := by
    rw [Finset.sum_range]; exact Finset.sum_congr rfl fun k _ => hq _ _
  have e4 : ∑ k : Fin 512, lanes p k = ∑ n ∈ Finset.range 512, u n := by
    rw [Finset.sum_range]
    refine Finset.sum_congr rfl fun k _ => ?_
    show _ = dite _ _ _
    rw [dif_pos k.isLt]
  have u1 : ∑ n ∈ Finset.range 192, u n = ∑ n ∈ Finset.range 192, q n := Finset.sum_congr rfl fun n hn => by
    have h := Finset.mem_range.1 hn
    show dite _ _ _ = _
    rw [dif_pos (by omega), ← hq n (by omega)]
    unfold lanes
    rw [dif_pos h]
  have u2 : ∑ n ∈ Finset.range 64, u (192 + n) = 0 := Finset.sum_eq_zero fun n hn => by
    have h := Finset.mem_range.1 hn
    show dite _ _ _ = _
    rw [dif_pos (by omega)]
    unfold lanes
    rw [dif_neg (by dsimp only; omega), if_pos (by dsimp only; omega)]
  have u3 : ∑ n ∈ Finset.range 160, u (192 + 64 + n) = ∑ n ∈ Finset.range 160, q (192 + n) := Finset.sum_congr rfl fun n hn => by
    have h := Finset.mem_range.1 hn
    show dite _ _ _ = _
    rw [dif_pos (by omega), ← hq _ (by omega)]
    unfold lanes
    rw [dif_neg (by dsimp only; omega), if_neg (by dsimp only; omega)]
    by_cases h1 : 192 + 64 + n < 384
    · rw [dif_pos h1]
      exact congrArg p (Fin.ext (by dsimp only; omega))
    · rw [dif_neg h1, dif_pos (by dsimp only; omega)]
      exact congrArg p (Fin.ext (by dsimp only; omega))
  have u4 : ∑ n ∈ Finset.range 8, u (192 + 64 + 160 + n) = ∑ n ∈ Finset.range 8, q (192 + 160 + 1536 + n) := Finset.sum_congr rfl fun n hn => by
    have h := Finset.mem_range.1 hn
    show dite _ _ _ = _
    rw [dif_pos (by omega), ← hq _ (by omega)]
    unfold lanes
    rw [dif_neg (by dsimp only; omega), if_neg (by dsimp only; omega), dif_neg (by dsimp only; omega), dif_neg (by dsimp only; omega), dif_pos (by dsimp only; omega)]
    exact congrArg p (Fin.ext (by dsimp only; omega))
  have u5 : ∑ n ∈ Finset.range 88, u (192 + 64 + 160 + 8 + n) = 0 := Finset.sum_eq_zero fun n hn => by
    have h := Finset.mem_range.1 hn
    show dite _ _ _ = _
    rw [dif_pos (by omega)]
    unfold lanes
    rw [dif_neg (by dsimp only; omega), if_neg (by dsimp only; omega), dif_neg (by dsimp only; omega), dif_neg (by dsimp only; omega), dif_neg (by dsimp only; omega)]
  rw [e1, e2, e3, e4, show (512 : ℕ) = 192 + 64 + 160 + 8 + 88 from rfl, Finset.sum_range_add, Finset.sum_range_add, Finset.sum_range_add, Finset.sum_range_add,
    u1, u2, u3, u4, u5, show (3944 : ℕ) = 192 + 160 + 1536 + 8 + 2048 from rfl, Finset.sum_range_add, Finset.sum_range_add, Finset.sum_range_add, Finset.sum_range_add]
  simp only [add_zero]
  ac_rfl

/-! ## The windows' blocks -/

theorem places : ∀ t : Fin grid0.N, win0_0.index t (0 : Fin 2) = t.val ∧ win0_0.index t (1 : Fin 2) = 0 ∧ win0_1.index t (0 : Fin 2) = t.val ∧ win0_1.index t (1 : Fin 2) = 0
    ∧ win0_2.index t (0 : Fin 2) = t.val ∧ win0_2.index t (1 : Fin 2) = 0 ∧ win0_6.index t (0 : Fin 2) = t.val ∧ win0_6.index t (1 : Fin 2) = 0
    ∧ win0_8.index t (0 : Fin 2) = t.val ∧ win0_8.index t (1 : Fin 2) = 0 := by decide +kernel
theorem places_whole : ∀ t : Fin grid0.N, win0_3.index t (0 : Fin 2) = 0 ∧ win0_3.index t (1 : Fin 2) = 0 ∧ win0_4.index t (0 : Fin 2) = 0 ∧ win0_4.index t (1 : Fin 2) = 0
    ∧ win0_5.index t (0 : Fin 2) = 0 ∧ win0_5.index t (1 : Fin 2) = 0 ∧ win0_7.index t (0 : Fin 2) = 0 ∧ win0_7.index t (1 : Fin 2) = 0 := by decide +kernel
theorem places_out : ∀ t : Fin grid0.N, win0_9.index t (0 : Fin 2) = t.val ∧ win0_9.index t (1 : Fin 2) = 0 ∧ win0_10.index t (0 : Fin 2) = 0 ∧ win0_10.index t (1 : Fin 2) = 0
    ∧ win0_11.index t (0 : Fin 2) = t.val ∧ win0_11.index t (1 : Fin 2) = 0 := by decide +kernel

theorem blk0 (c : Dev nD) (t : Fin grid0.N) (r : Fin 512) (l : Fin 2048) (h : 512 * t.val + r.val < 4096) : iblk m c 0 t (ix2 r l) = aD m c (ix2 ⟨512 * t.val + r.val, h⟩ ⟨1896 + l.val, by omega⟩) := by
  have e := tile_at (w := 2048) (s := 512) (win0_0.index t) (places t).1 (places t).2.1 r.val l.val
  have ej : iblk m c 0 t (ix2 r l) = V m c main_v19 (ix2 (⟨512 * t.val + r.val, h⟩ : Fin 4096) l) := by
    show V m c main_v19 _ = _
    congr 1
    funext a
    apply Fin.ext
    match a with | ⟨0, _⟩ => exact e.1 | ⟨1, _⟩ => exact e.2
  exact ej.trans (V_v19 m c _ _)

theorem blk1 (c : Dev nD) (t : Fin grid0.N) (r : Fin 512) (l : Fin 1536) (h : 512 * t.val + r.val < 4096) : iblk m c 1 t (ix2 r l) = aD m c (ix2 ⟨512 * t.val + r.val, h⟩ ⟨352 + l.val, by omega⟩) := by
  have e := tile_at (w := 1536) (s := 512) (win0_1.index t) (places t).2.2.1 (places t).2.2.2.1 r.val l.val
  have ej : iblk m c 1 t (ix2 r l) = V m c main_v20 (ix2 (⟨512 * t.val + r.val, h⟩ : Fin 4096) l) := by
    show V m c main_v20 _ = _
    congr 1
    funext a
    apply Fin.ext
    match a with | ⟨0, _⟩ => exact e.1 | ⟨1, _⟩ => exact e.2
  exact ej.trans (V_v20 m c _ _)

theorem blk2 (c : Dev nD) (t : Fin grid0.N) (r : Fin 512) (l : Fin 512) (h : 512 * t.val + r.val < 4096) : iblk m c 2 t (ix2 r l) = lanes (fun j => aD m c (ix2 ⟨512 * t.val + r.val, h⟩ j)) l := by
  have e := tile_at (w := 512) (s := 512) (win0_2.index t) (places t).2.2.2.2.1 (places t).2.2.2.2.2.1 r.val l.val
  have ej : iblk m c 2 t (ix2 r l) = V m c main_v18 (ix2 (⟨512 * t.val + r.val, h⟩ : Fin 4096) l) := by
    show V m c main_v18 _ = _
    congr 1
    funext a
    apply Fin.ext
    match a with | ⟨0, _⟩ => exact e.1 | ⟨1, _⟩ => exact e.2
  exact ej.trans (V_v18 m c _ _)

theorem blk3 (c : Dev nD) (t : Fin grid0.N) (r : Fin 2048) (l : Fin 1024) : iblk m c 3 t (ix2 r l) = aW m c (ix2 l ⟨1896 + r.val, by omega⟩) := by
  have e := tile_at (w := 1024) (s := 2048) (win0_3.index t) (places_whole t).1 (places_whole t).2.1 r.val l.val
  have ej : iblk m c 3 t (ix2 r l) = V m c main_v9 (ix2 r l) := by
    show V m c main_v9 _ = _
    congr 1
    funext a
    apply Fin.ext
    match a with | ⟨0, _⟩ => exact e.1.trans (Nat.zero_add _) | ⟨1, _⟩ => exact e.2
  exact ej.trans (V_v9 m c _ _)

theorem blk4 (c : Dev nD) (t : Fin grid0.N) (r : Fin 1536) (l : Fin 1024) : iblk m c 4 t (ix2 r l) = aW m c (ix2 l ⟨352 + r.val, by omega⟩) := by
  have e := tile_at (w := 1024) (s := 1536) (win0_4.index t) (places_whole t).2.2.1 (places_whole t).2.2.2.1 r.val l.val
  have ej : iblk m c 4 t (ix2 r l) = V m c main_v10 (ix2 r l) := by
    show V m c main_v10 _ = _
    congr 1
    funext a
    apply Fin.ext
    match a with | ⟨0, _⟩ => exact e.1.trans (Nat.zero_add _) | ⟨1, _⟩ => exact e.2
  exact ej.trans (V_v10 m c _ _)

theorem blk5 (c : Dev nD) (t : Fin grid0.N) (r : Fin 512) (l : Fin 1024) : iblk m c 5 t (ix2 r l) = lanes (fun j => aW m c (ix2 l j)) r := by
  have e := tile_at (w := 1024) (s := 512) (win0_5.index t) (places_whole t).2.2.2.2.1 (places_whole t).2.2.2.2.2.1 r.val l.val
  have ej : iblk m c 5 t (ix2 r l) = V m c main_v8 (ix2 r l) := by
    show V m c main_v8 _ = _
    congr 1
    funext a
    apply Fin.ext
    match a with | ⟨0, _⟩ => exact e.1.trans (Nat.zero_add _) | ⟨1, _⟩ => exact e.2
  exact ej.trans (V_v8 m c _ _)

theorem blk6 (c : Dev nD) (t : Fin grid0.N) (r : Fin 512) (l : Fin 1024) (h : 512 * t.val + r.val < 4096) : iblk m c 6 t (ix2 r l) = aX m c (ix2 ⟨512 * t.val + r.val, h⟩ l) := by
  have e := tile_at (w := 1024) (s := 512) (win0_6.index t) (places t).2.2.2.2.2.2.1 (places t).2.2.2.2.2.2.2.1 r.val l.val
  have ej : iblk m c 6 t (ix2 r l) = V m c main_arg1 (ix2 (⟨512 * t.val + r.val, h⟩ : Fin 4096) l) := by
    show V m c main_arg1 _ = _
    congr 1
    funext a
    apply Fin.ext
    match a with | ⟨0, _⟩ => exact e.1 | ⟨1, _⟩ => exact e.2
  exact ej.trans (by rw [V_main_arg1]; rfl)

theorem blk7 (c : Dev nD) (t : Fin grid0.N) (r : Fin 1) (l : Fin 1024) : iblk m c 7 t (ix2 r l) = aG m c (ix2 r l) := by
  have e := tile_at (w := 1024) (s := 1) (win0_7.index t) (places_whole t).2.2.2.2.2.2.1 (places_whole t).2.2.2.2.2.2.2 r.val l.val
  have ej : iblk m c 7 t (ix2 r l) = V m c main_arg2 (ix2 r l) := by
    show V m c main_arg2 _ = _
    congr 1
    funext a
    apply Fin.ext
    match a with | ⟨0, _⟩ => exact e.1.trans (Nat.zero_add _) | ⟨1, _⟩ => exact e.2
  exact ej.trans (by rw [V_main_arg2]; rfl)

theorem blk8 (c : Dev nD) (t : Fin grid0.N) (r : Fin 512) (l : Fin 1024) (h : 512 * t.val + r.val < 4096) : iblk m c 8 t (ix2 r l) = aR m c (ix2 ⟨512 * t.val + r.val, h⟩ l) := by
  have e := tile_at (w := 1024) (s := 512) (win0_8.index t) (places t).2.2.2.2.2.2.2.2.1 (places t).2.2.2.2.2.2.2.2.2 r.val l.val
  have ej : iblk m c 8 t (ix2 r l) = V m c main_arg4 (ix2 (⟨512 * t.val + r.val, h⟩ : Fin 4096) l) := by
    show V m c main_arg4 _ = _
    congr 1
    funext a
    apply Fin.ext
    match a with | ⟨0, _⟩ => exact e.1 | ⟨1, _⟩ => exact e.2
  exact ej.trans (by rw [V_main_arg4]; rfl)

/-! ## What a point hands out -/

/-- A point's rows of the normalised rows' gradient, -/
theorem back_blk (c : Dev nD) (t : Fin cfg0.N) (r : Fin 512) (l : Fin 1024) (h : 512 * t.val + r.val < 4096) :
    k0_pay5 (F := Ideal) (iblk m c 0 t) (iblk m c 3 t) (iblk m c 1 t) (iblk m c 4 t) (iblk m c 2 t) (iblk m c 5 t) (ix2 r l) = back m c ⟨512 * t.val + r.val, h⟩ l := by
  refine (pay5_at _ _ _ _ _ _ r l).trans (Eq.trans ?_ (sum_pieces (fun j => aD m c (ix2 ⟨512 * t.val + r.val, h⟩ j)) (fun j => aW m c (ix2 l j))))
  refine congrArg₂ (· + ·) (congrArg₂ (· + ·) ?_ ?_) ?_ <;> refine Finset.sum_congr rfl fun k _ => congrArg₂ (· * ·) ?_ ?_
  · exact blk0 m c t r k h
  · exact blk3 m c t k l
  · exact blk1 m c t r k h
  · exact blk4 m c t k l
  · exact blk2 m c t r k h
  · exact blk5 m c t k l

/-- of the rows' factors, -/
theorem inv_blk (c : Dev nD) (t : Fin cfg0.N) (r : Fin 512) (h : 512 * t.val + r.val < 4096) :
    inv (row (n := 512) (iblk m c 6 t) r) = rinv m c ⟨512 * t.val + r.val, h⟩ :=
  congrArg inv (funext fun d => blk6 m c t r d h)

/-- of the input's gradient, -/
theorem dx_blk (c : Dev nD) (t : Fin cfg0.N) (r : Fin 512) (l : Fin 1024) (h : 512 * t.val + r.val < 4096) :
    k0_pay2 (F := Ideal) (k0_pay5 (iblk m c 0 t) (iblk m c 3 t) (iblk m c 1 t) (iblk m c 4 t) (iblk m c 2 t) (iblk m c 5 t)) (iblk m c 6 t) (iblk m c 7 t)
      (k0_pay6 (iblk m c 6 t)) (k0_pay8 (iblk m c 6 t)) (iblk m c 8 t) (ix2 r l) = dx m c (ix2 ⟨512 * t.val + r.val, h⟩ l) := by
  refine (pay2_at _ _ _ _ _ _ r l).trans ?_
  have e6 : ∀ d : Fin 1024, (iblk m c 6 t : S512x1024.Idx → EReal) (ix2 r d) = aX m c (ix2 ⟨512 * t.val + r.val, h⟩ d) := fun d => blk6 m c t r d h
  have e7 : ∀ d : Fin 1024, (iblk m c 7 t : S1x1024.Idx → EReal) (ix2 0 d) = aG m c (ix2 0 d) := fun d => blk7 m c t 0 d
  have e8 : (iblk m c 8 t : S512x1024.Idx → EReal) (ix2 r l) = aR m c (ix2 ⟨512 * t.val + r.val, h⟩ l) := blk8 m c t r l h
  simp only [pay6_at, pay8_at, inv_blk m c t r h, back_blk m c t r _ h, e6, e7, e8]
  rfl

/-- of the normalised rows, -/
theorem n_blk (c : Dev nD) (t : Fin cfg0.N) (r : Fin 512) (l : Fin 1024) (h : 512 * t.val + r.val < 4096) :
    k0_pay7 (F := Ideal) (iblk m c 6 t) (iblk m c 7 t) (ix2 r l) = nrm m c (ix2 ⟨512 * t.val + r.val, h⟩ l) := by
  refine (pay7_at _ _ r l).trans ?_
  rw [inv_blk m c t r h, blk6 m c t r l h, blk7 m c t 0 l]
  rfl

/-- and what its rows add to the gain's gradient. -/
theorem gain_blk (c : Dev nD) (t : Fin cfg0.N) (l : Fin 1024) :
    k0_pay3 (F := Ideal) (k0_pay5 (iblk m c 0 t) (iblk m c 3 t) (iblk m c 1 t) (iblk m c 4 t) (iblk m c 2 t) (iblk m c 5 t)) (iblk m c 6 t) (k0_pay8 (iblk m c 6 t)) (ix2 0 l)
      = ∑ r : Fin 512, gainRow m c l ⟨512 * t.val + r.val, by have ht : t.val < 8 := lt_of_lt_of_eq t.isLt N_0; omega⟩ := by
  refine (pay3_at _ _ _ l).trans (Finset.sum_congr rfl fun r _ => ?_)
  have h : 512 * t.val + r.val < 4096 := by have ht : t.val < 8 := lt_of_lt_of_eq t.isLt N_0; omega
  rw [back_blk m c t r l h, pay8_at, inv_blk m c t r h, blk6 m c t r l h]
  rfl

/-- A row's part, past the last nothing. -/
def part (c : Dev nD) (l : Fin 1024) (n : ℕ) : EReal := if h : n < 4096 then gainRow m c l ⟨n, h⟩ else 0

theorem part_range (c : Dev nD) (l : Fin 1024) (t : Fin cfg0.N) :
    (∑ r : Fin 512, gainRow m c l ⟨512 * t.val + r.val, by have ht : t.val < 8 := lt_of_lt_of_eq t.isLt N_0; omega⟩) = ∑ n ∈ Finset.range 512, part m c l (512 * t.val + n) := by
  rw [Finset.sum_range]
  refine Finset.sum_congr rfl fun r _ => ?_
  unfold part
  rw [dif_pos (by have ht : t.val < 8 := lt_of_lt_of_eq t.isLt N_0; omega)]

/-- The gain's gradient over the rows so far. -/
theorem gain_at (c : Dev nD) (l : Fin 1024) : ∀ (n : ℕ) (h : n < cfg0.N), (outsAt0 m c n h).2.1 (ix2 0 l) = ∑ i ∈ Finset.range (512 * n + 512), part m c l i := by
  intro n
  induction n with
  | zero =>
    intro h
    have e := congrArg (fun z => z.2.1) (outsAt0_A m c ⟨0, h⟩ (by dsimp only) (by dsimp only; omega))
    dsimp only at e
    rw [e, first_dg]
    refine (gain_blk m c ⟨0, h⟩ l).trans ((part_range m c l ⟨0, h⟩).trans ?_)
    simp only [Nat.mul_zero, Nat.zero_add]
  | succ n ih =>
    intro h
    have hN : cfg0.N = 8 := N_0
    have e := congrArg (fun z => z.2.1) (outsAt0_B m c ⟨n + 1, h⟩ (by dsimp only; omega) (by dsimp only; omega))
    dsimp only at e
    rw [e, next_dg]
    refine (pay4_at _ _ _ _ l).trans ?_
    refine (congrArg₂ (· + ·) (ih (by omega)) ((gain_blk m c ⟨n + 1, h⟩ l).trans (part_range m c l ⟨n + 1, h⟩))).trans ?_
    exact (Finset.sum_range_add (fun i => part m c l i) (512 * n + 512) 512).symm

theorem dx_at (c : Dev nD) (t : Fin cfg0.N) (r : Fin 512) (l : Fin 1024) (h : 512 * t.val + r.val < 4096) :
    (outsAt0 m c t.val t.isLt).1 (ix2 r l) = dx m c (ix2 ⟨512 * t.val + r.val, h⟩ l) := by
  have ht : t.val < 8 := lt_of_lt_of_eq t.isLt N_0
  by_cases h1 : t.val % 8 = 0
  · rw [outsAt0_A m c t h1 (by omega)]
    dsimp only
    rw [first_dx]
    exact dx_blk m c t r l h
  · rw [outsAt0_B m c t h1 (by omega)]
    dsimp only
    rw [next_dx]
    exact dx_blk m c t r l h

theorem n_at (c : Dev nD) (t : Fin cfg0.N) (r : Fin 512) (l : Fin 1024) (h : 512 * t.val + r.val < 4096) :
    (outsAt0 m c t.val t.isLt).2.2 (ix2 r l) = nrm m c (ix2 ⟨512 * t.val + r.val, h⟩ l) := by
  have ht : t.val < 8 := lt_of_lt_of_eq t.isLt N_0
  by_cases h1 : t.val % 8 = 0
  · rw [outsAt0_A m c t h1 (by omega)]
    dsimp only
    rw [first_n]
    exact n_blk m c t r l h
  · rw [outsAt0_B m c t h1 (by omega)]
    dsimp only
    rw [next_n]
    exact n_blk m c t r l h

/-! ## The result arrays -/

theorem flush9 : ∀ t : Fin cfg0.N, (cfg0.win 9).flush t = true := by decide +kernel
theorem flush11 : ∀ t : Fin cfg0.N, (cfg0.win 11).flush t = true := by decide +kernel
theorem flush10 : ∀ t : Fin cfg0.N, t.val = 7 → (cfg0.win 10).flush t = true := by decide +kernel
theorem last_only10 : ∀ t t' : Fin cfg0.N, (cfg0.win 10).flush t = true → (cfg0.win 10).flush t' = true → t = t' := by decide +kernel

theorem tile9 (c : Dev nD) (t : Fin cfg0.N) (r : Fin 512) (l : Fin 1024) (h : 512 * t.val + r.val < 4096) :
    (dats m 0 c).arrAt 9 cfg0.N (ix2 (⟨512 * t.val + r.val, h⟩ : Fin 4096) l) = dx m c (ix2 ⟨512 * t.val + r.val, h⟩ l) := by
  have hb := congrFun (Value.blocks9 m c t (flush9 t)) (ix2 r l)
  rw [Value.flushed9] at hb
  have e := tile_at (w := 1024) (s := 512) (win0_9.index t) (places_out t).1 (places_out t).2.1 r.val l.val
  have el : ((cfg0.win 9).blk t).view.read (Elt Ideal) ((dats m 0 c).arrAt 9 cfg0.N) (ix2 r l)
      = (dats m 0 c).arrAt 9 cfg0.N (ix2 (⟨512 * t.val + r.val, h⟩ : Fin 4096) l) := by
    show (dats m 0 c).arrAt 9 cfg0.N _ = (dats m 0 c).arrAt 9 cfg0.N _
    congr 1
    funext a
    apply Fin.ext
    match a with | ⟨0, _⟩ => exact e.1 | ⟨1, _⟩ => exact e.2
  exact el.symm.trans (hb.trans (dx_at m c t r l h))

theorem tile11 (c : Dev nD) (t : Fin cfg0.N) (r : Fin 512) (l : Fin 1024) (h : 512 * t.val + r.val < 4096) :
    (dats m 0 c).arrAt 11 cfg0.N (ix2 (⟨512 * t.val + r.val, h⟩ : Fin 4096) l) = nrm m c (ix2 ⟨512 * t.val + r.val, h⟩ l) := by
  have hb := congrFun (Value.blocks11 m c t (flush11 t)) (ix2 r l)
  rw [Value.flushed11] at hb
  have e := tile_at (w := 1024) (s := 512) (win0_11.index t) (places_out t).2.2.2.2.1 (places_out t).2.2.2.2.2 r.val l.val
  have el : ((cfg0.win 11).blk t).view.read (Elt Ideal) ((dats m 0 c).arrAt 11 cfg0.N) (ix2 r l)
      = (dats m 0 c).arrAt 11 cfg0.N (ix2 (⟨512 * t.val + r.val, h⟩ : Fin 4096) l) := by
    show (dats m 0 c).arrAt 11 cfg0.N _ = (dats m 0 c).arrAt 11 cfg0.N _
    congr 1
    funext a
    apply Fin.ext
    match a with | ⟨0, _⟩ => exact e.1 | ⟨1, _⟩ => exact e.2
  exact el.symm.trans (hb.trans (n_at m c t r l h))

theorem in_tile (i : S4096x1024.Idx) : ∃ (t : Fin cfg0.N) (r : Fin 512) (l : Fin 1024) (h : 512 * t.val + r.val < 4096), i = ix2 (⟨512 * t.val + r.val, h⟩ : Fin 4096) l := by
  have h0 : (i 0).val < 4096 := (i 0).isLt
  have hN : cfg0.N = 8 := N_0
  refine ⟨⟨(i 0).val / 512, by omega⟩, ⟨(i 0).val % 512, Nat.mod_lt _ (by decide)⟩, i 1, by dsimp only; omega, ?_⟩
  funext a
  match a with
  | ⟨0, _⟩ => exact Fin.ext (show (i 0).val = 512 * ((i 0).val / 512) + (i 0).val % 512 by omega)
  | ⟨1, _⟩ => rfl

theorem result_dx (c : Dev nD) : (dats m 0 c).arrAt 9 cfg0.N = dx m c := by
  refine funext fun (i : S4096x1024.Idx) => ?_
  obtain ⟨t, r, l, h, rfl⟩ := in_tile i
  exact tile9 m c t r l h

theorem result_n (c : Dev nD) : (dats m 0 c).arrAt 11 cfg0.N = nrm m c := by
  refine funext fun (i : S4096x1024.Idx) => ?_
  obtain ⟨t, r, l, h, rfl⟩ := in_tile i
  exact tile11 m c t r l h

theorem part_all (c : Dev nD) (l : Fin 1024) : ∑ i ∈ Finset.range 4096, part m c l i = ∑ r : Fin 4096, gainRow m c l r := by
  rw [Finset.sum_range]
  refine Finset.sum_congr rfl fun r _ => ?_
  unfold part
  rw [dif_pos r.isLt]

theorem tile10 (c : Dev nD) (l : Fin 1024) : (dats m 0 c).arrAt 10 cfg0.N (ix2 (0 : Fin 1) l) = dgain m c (ix2 0 l) := by
  have hN : cfg0.N = 8 := N_0
  have h7 : 7 < cfg0.N := by omega
  have disjoint : ∀ t t' : Fin cfg0.N, (cfg0.win 10).flush t = true → (cfg0.win 10).flush t' = true → t ≠ t' →
      Disjoint ((cfg0.win 10).blk t).view.set ((cfg0.win 10).blk t').view.set := fun t t' hf hf' hne => absurd (last_only10 t t' hf hf') hne
  have hb := congrFun ((dats m 0 c).read_blk_arrAt_eq_flushed 10 disjoint cfg0.N ⟨7, h7⟩ h7 (flush10 ⟨7, h7⟩ rfl)) (ix2 0 l)
  rw [Value.flushed10] at hb
  have e := tile_at (w := 1024) (s := 1) (win0_10.index ⟨7, h7⟩) (places_out ⟨7, h7⟩).2.2.1 (places_out ⟨7, h7⟩).2.2.2.1 0 l.val
  have el : ((cfg0.win 10).blk ⟨7, h7⟩).view.read (Elt Ideal) ((dats m 0 c).arrAt 10 cfg0.N) (ix2 0 l) = (dats m 0 c).arrAt 10 cfg0.N (ix2 (0 : Fin 1) l) := by
    show (dats m 0 c).arrAt 10 cfg0.N _ = (dats m 0 c).arrAt 10 cfg0.N _
    congr 1
    funext a
    apply Fin.ext
    match a with | ⟨0, _⟩ => exact e.1 | ⟨1, _⟩ => exact e.2
  refine el.symm.trans (hb.trans ((gain_at m c l 7 h7).trans ?_))
  exact part_all m c l

theorem result_dg (c : Dev nD) : (dats m 0 c).arrAt 10 cfg0.N = dgain m c := by
  refine funext fun (i : S1x1024.Idx) => ?_
  have h0 : (i 0).val < 1 := (i 0).isLt
  have e : i = ix2 (0 : Fin 1) (i 1) := by
    funext a
    match a with
    | ⟨0, _⟩ => exact Fin.ext (show (i 0).val = 0 by omega)
    | ⟨1, _⟩ => rfl
  rw [e]
  exact tile10 m c (i 1)

/-- The kernel ends with the three results. -/
theorem run_value (ρ : Dev nD → PrngReg) : θ_run (defs (F := Ideal)) (onTc (τ := τ) (main (F := Ideal))) ⟨m, fun _ => 0, ρ⟩ fun r => ∀ c : Dev nD,
    r.2.mem (c.tc.loc main_v21_0) = dx m c ∧ r.2.mem (c.tc.loc main_v21_1) = dgain m c
      ∧ r.2.mem (c.tc.loc main_v21_2) = nrm m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun r h c => ⟨(h c).1.trans (result_dx m c), (h c).2.1.trans (result_dg m c), (h c).2.2.1.trans (result_n m c), (h c).2.2.2⟩) (Value.run_blocks m ρ)

/-! ## The reference -/

open Reference5Ideal.Read

theorem ref_meanSq (x : S4096x1024.Idx → EReal) (r : Fin 4096) : val_main_v6 (F := Ideal) x (ix2 r 0) = meanSq (row (n := 4096) x r) := by
  rw [val_main_v6_apply, val_main_v4_apply, val_main_v5_apply, val_main_v3_apply, val_main_v2_apply, val_main_v1_apply, val_main_cst_apply, val_main_cst_0_apply, val_main_cst_1_apply]
  show Ideal.div (Ideal.ofBits .f32 0x00000000#32 + _) (Ideal.ofBits .f32 0x44800000#32) + Ideal.ofBits .f32 0x358637BD#32 = _
  rw [Ideal.ofBits_zero_f32, zero_add]
  unfold meanSq
  refine congrArg (fun a => Ideal.div a (Ideal.ofBits .f32 0x44800000#32) + Ideal.ofBits .f32 0x358637BD#32) (Finset.sum_congr rfl fun d _ => ?_)
  rw [val_main_v0_apply]
  exact congrArg (fun z => x z * x z) (funext fun a => match a with | ⟨0, _⟩ => rfl | ⟨1, _⟩ => rfl)

theorem ref_inv (x : S4096x1024.Idx → EReal) (r : Fin 4096) : val_main_v7 (F := Ideal) x (ix2 r 0) = inv (row (n := 4096) x r) := by
  rw [val_main_v7_apply, ref_meanSq]
  rfl

theorem ref_slope (x : S4096x1024.Idx → EReal) (r : Fin 4096) :
    val_main_v10 (F := Ideal) x (ix2 r 0) = half * Ideal.div (inv (row (n := 4096) x r)) (meanSq (row (n := 4096) x r)) := by
  rw [val_main_v10_apply, val_main_v8_apply, val_main_v9_apply, val_main_cst_2_apply, ref_inv, ref_meanSq]
  rfl

theorem ref_scaled (x : S4096x1024.Idx → EReal) (r : Fin 4096) (l : Fin 1024) :
    val_main_v12 (F := Ideal) x (ix2 r l) = x (ix2 r l) * inv (row (n := 4096) x r) := by
  rw [val_main_v12_apply, val_main_v11_apply, show idx_main_v11 (ix2 r l) = ix2 r 0 from funext fun a => match a with | ⟨0, _⟩ => rfl | ⟨1, _⟩ => rfl, ref_inv]
  rfl

theorem ref_back (c : Dev nD) (r : Fin 4096) (l : Fin 1024) : val_main_v16 (F := Ideal) (aD m c) (aW m c) (ix2 r l) = back m c r l := by
  rw [val_main_v16_apply]
  exact Finset.sum_congr rfl fun k _ => congrArg₂ (· * ·) (congrArg (aD m c) (funext fun a => match a with | ⟨0, _⟩ => rfl | ⟨1, _⟩ => rfl))
    (congrArg (aW m c) (funext fun a => match a with | ⟨0, _⟩ => rfl | ⟨1, _⟩ => rfl))

theorem ref_up (c : Dev nD) (r : Fin 4096) (l : Fin 1024) :
    val_main_v21 (F := Ideal) (aD m c) (aG m c) (aW m c) (ix2 r l) = back m c r l * aG m c (ix2 0 l) := by
  rw [val_main_v21_apply, val_main_v20_apply, show idx_main_v20 (ix2 r l) = ix2 0 l from funext fun a => match a with | ⟨0, _⟩ => rfl | ⟨1, _⟩ => rfl, ref_back]
  rfl

theorem ref_dgain (c : Dev nD) (l : Fin 1024) : val_main_v19 (F := Ideal) (aD m c) (aX m c) (aW m c) (ix2 0 l) = dgain m c (ix2 0 l) := by
  rw [val_main_v19_apply, val_main_v18_apply, val_main_cst_3_apply]
  show Ideal.ofBits .f32 0x00000000#32 + _ = _
  rw [Ideal.ofBits_zero_f32, zero_add]
  refine Finset.sum_congr rfl fun r _ => ?_
  have e : idx_main_v18 (idx_main_v19 (ix2 0 l)) r = ix2 r l := funext fun a => match a with
    | ⟨0, _⟩ => rfl
    | ⟨1, _⟩ => Fin.ext (show 0 * 1024 + l.val = l.val by omega)
  rw [e, val_main_v17_apply, ref_scaled, ref_back]
  exact mul_comm _ _

/-- The row's sum divided, on the reference's side. -/
theorem ref_share (c : Dev nD) (r : Fin 4096) (l : Fin 1024) :
    val_main_v31 (F := Ideal) (aD m c) (aX m c) (aG m c) (aW m c) (ix2 r l)
      = Ideal.div ((∑ d : Fin 1024, aX m c (ix2 r d) * (back m c r d * aG m c (ix2 0 d))) * (half * Ideal.div (rinv m c r) (meanSq (row (n := 4096) (aX m c) r)))) len := by
  rw [val_main_v31_apply, val_main_v30_apply, val_main_cst_6_apply, Fin.sum_univ_one]
  show Ideal.ofBits .f32 0x00000000#32 + _ = _
  rw [Ideal.ofBits_zero_f32, zero_add]
  rw [show idx_main_v30 (idx_main_v31 (ix2 r l)) 0 = ix2 r 0 from funext fun a => match a with | ⟨0, _⟩ => rfl | ⟨1, _⟩ => rfl]
  rw [val_main_v29_apply, val_main_v27_apply, val_main_v28_apply, val_main_cst_5_apply, ref_slope, val_main_v24_apply, val_main_v23_apply, val_main_cst_4_apply]
  show Ideal.div ((Ideal.ofBits .f32 0x00000000#32 + _) * _) (Ideal.ofBits .f32 0x44800000#32) = _
  rw [Ideal.ofBits_zero_f32, zero_add]
  refine congrArg (fun z => Ideal.div (z * _) _) (Finset.sum_congr rfl fun d _ => ?_)
  have e : idx_main_v23 (idx_main_v24 (ix2 r 0)) d = ix2 r d := funext fun a => match a with
    | ⟨0, _⟩ => Fin.ext (show r.val * 1 + 0 = r.val by omega)
    | ⟨1, _⟩ => rfl
  rw [e, val_main_v22_apply, ref_up]
  rfl

theorem ref_dx (c : Dev nD) (r : Fin 4096) (l : Fin 1024) :
    val_main_v36 (F := Ideal) (aD m c) (aX m c) (aG m c) (aW m c) (aR m c) (ix2 r l) = dx m c (ix2 r l) := by
  rw [val_main_v36_apply, val_main_v35_apply, val_main_v33_apply, val_main_v34_apply, val_main_v32_apply, val_main_v26_apply, val_main_v25_apply,
    show idx_main_v25 (ix2 r l) = ix2 r 0 from funext fun a => match a with | ⟨0, _⟩ => rfl | ⟨1, _⟩ => rfl, ref_share, ref_up, ref_inv]
  exact congrArg (fun z => aR m c (ix2 r l) + z) (norm_back (row (n := 4096) (aX m c) r) (fun d => back m c r d * aG m c (ix2 0 d)) l).symm

theorem ref_n (c : Dev nD) (r : Fin 4096) (l : Fin 1024) : val_main_v49 (F := Ideal) (aX m c) (aG m c) (ix2 r l) = nrm m c (ix2 r l) := by
  have e : val_main_v46 (F := Ideal) (aX m c) (ix2 r l) = aX m c (ix2 r l) * rinv m c r := ref_scaled (aX m c) r l
  rw [val_main_v49_apply, val_main_v48_apply, e, val_main_v47_apply, show idx_main_v47 (ix2 r l) = ix2 0 l from funext fun a => match a with | ⟨0, _⟩ => rfl | ⟨1, _⟩ => rfl]
  rfl

/-- The reference's run from the same arguments. -/
theorem run_reference (m' : (ℓ : Loc Reference5Ideal.nD Reference5Ideal.τ Reference5Ideal.sig) → Buf (Elt Ideal) ℓ) (ρ : Dev Reference5Ideal.nD → PrngReg)
    (hm : ∀ c : Dev Reference5Ideal.nD,
      m' (c.tc.loc Reference5Ideal.main_arg0) = m (c.tc.loc main_arg0)
      ∧ m' (c.tc.loc Reference5Ideal.main_arg1) = m (c.tc.loc main_arg1)
      ∧ m' (c.tc.loc Reference5Ideal.main_arg2) = m (c.tc.loc main_arg2)
      ∧ m' (c.tc.loc Reference5Ideal.main_arg3) = m (c.tc.loc main_arg3)
      ∧ m' (c.tc.loc Reference5Ideal.main_arg4) = m (c.tc.loc main_arg4)) :
    θ_run (Reference5Ideal.defs (F := Ideal)) (onTc (τ := Reference5Ideal.τ) (Reference5Ideal.main (F := Ideal))) ⟨m', fun _ => 0, ρ⟩
      fun r => ∀ c : Dev Reference5Ideal.nD,
        r.2.mem (c.tc.loc Reference5Ideal.main_v36) = dx m c
          ∧ r.2.mem (c.tc.loc Reference5Ideal.main_v19) = dgain m c
          ∧ r.2.mem (c.tc.loc Reference5Ideal.main_v49) = nrm m c
          ∧ r.2.mem (c.tc.loc Reference5Ideal.main_arg0) = m' (c.tc.loc Reference5Ideal.main_arg0)
          ∧ r.2.mem (c.tc.loc Reference5Ideal.main_arg1) = m' (c.tc.loc Reference5Ideal.main_arg1)
          ∧ r.2.mem (c.tc.loc Reference5Ideal.main_arg2) = m' (c.tc.loc Reference5Ideal.main_arg2)
          ∧ r.2.mem (c.tc.loc Reference5Ideal.main_arg3) = m' (c.tc.loc Reference5Ideal.main_arg3)
          ∧ r.2.mem (c.tc.loc Reference5Ideal.main_arg4) = m' (c.tc.loc Reference5Ideal.main_arg4) := by
  refine (θ_run Reference5Ideal.defs _ _).mono (fun r h c => ?_) (Reference5Ideal.Value.run m' ρ)
  obtain ⟨h0, h1, h2, h3, h4⟩ := hm c
  obtain ⟨g0, g1, g2, g3⟩ := h c
  refine ⟨g0.trans ?_, g1.trans ?_, g2.trans ?_, g3⟩
  · refine (val_main_v36_eq m' c).trans ?_
    rw [h0, h1, h2, h3, h4]
    refine funext fun (i : S4096x1024.Idx) => ?_
    rw [eq_ix2 i]
    exact ref_dx m c (i 0) (i 1)
  · refine (val_main_v19_eq _ _ _).trans ?_
    rw [h0, h1, h3]
    refine funext fun (i : S1x1024.Idx) => ?_
    have hi : (i 0).val < 1 := (i 0).isLt
    have e : i = ix2 (0 : Fin 1) (i 1) := funext fun a => match a with
      | ⟨0, _⟩ => Fin.ext (show (i 0).val = 0 by omega)
      | ⟨1, _⟩ => rfl
    rw [e]
    exact ref_dgain m c (i 1)
  · refine (val_main_v49_eq _ _).trans ?_
    rw [h1, h2]
    refine funext fun (i : S4096x1024.Idx) => ?_
    rw [eq_ix2 i]
    exact ref_n m c (i 0) (i 1)

end Cert.Kernel5Ideal.ProjectBack
end
-- ==== Proof.Mix.lean ====
module

public import proofs.«01_k».proof.Proof.Gen.Kernel7Ideal.Value
public import proofs.«01_k».proof.Proof.Gen.Reference7Ideal.Run
public import proofs.«01_k».proof.Proof.Gen.Reference7Ideal.Read
public import proofs.«01_k».proof.Proof.Tokens
public import Idealize.ShloMosaic.Lib.Pointwise
public import Idealize.ShloMosaic.Lib.Pipeline.Value
public import Idealize.ShloMosaic.Lib.Tactic
public import Idealize.ShloMosaic.Lib.IdealHost
public import Idealize.ShloMosaic.PureOps.Ideal
public import Idealize.ShloMosaic.PureOps.Ideal.Laws

/-!
The mixing of the two attention branches: each branch projected, gated by a sigmoid, summed, projected again and added to the residual.
-/

@[expose] public section

noncomputable section

namespace Cert.Kernel7Ideal.Mix

open Kernel7Ideal Kernel7Ideal.Gen
open Tokens (zero2)
open Idealize.ShloMosaic Idealize.ShloMosaic.TcCoe Idealize.ShloMosaic.Tactic Idealize.SL.Sem

/-- What one point writes, at an index of its block. -/
theorem pay_at (ym : Vec Ideal S512x512 .bf16) (wm : Vec Ideal S1024x512 .bf16) (yf : Vec Ideal S512x512 .bf16) (wf : Vec Ideal S1024x512 .bf16)
    (gm : Vec Ideal S512x1024 .f32) (bm : Vec Ideal S1x1024 .f32) (gf : Vec Ideal S512x1024 .f32) (bf : Vec Ideal S1x1024 .f32)
    (x : Vec Ideal S512x1024 .f32) (wo : Vec Ideal S1024x1024 .bf16) (r : Fin 512) (l : Fin 1024) :
    k0_pay1 (F := Ideal) ym wm yf wf gm bm gf bf x wo (ix2 r l) = x (ix2 r l) + ∑ k : Fin 1024,
      (Ideal.logistic (gm (ix2 r k) + bm (ix2 0 k)) * (∑ d : Fin 512, ym (ix2 r d) * wm (ix2 k d))
        + Ideal.logistic (gf (ix2 r k) + bf (ix2 0 k)) * ∑ d : Fin 512, yf (ix2 r d) * wf (ix2 k d)) * wo (ix2 k l) := by
  pointwise [k0_pay1]

theorem out_at (x0 : Vec Ideal S512x1024 .f32) (x1 : Vec Ideal S512x512 .bf16) (x2 : Vec Ideal S512x512 .bf16) (x3 : Vec Ideal S512x2048 .f32)
    (x4 : Vec Ideal S2x1024 .f32) (x5 : Vec Ideal S1024x512 .bf16) (x6 : Vec Ideal S1024x512 .bf16) (x7 : Vec Ideal S1024x1024 .bf16) (r : Fin 512) (l : Fin 1024) :
    out0_8 (F := Ideal) x0 x1 x2 x3 x4 x5 x6 x7 (ix2 r l) = x0 (ix2 r l) + ∑ k : Fin 1024,
      (Ideal.logistic (x3 (ix2 r ⟨k.val, by omega⟩) + x4 (ix2 0 k)) * (∑ d : Fin 512, x1 (ix2 r d) * x5 (ix2 k d))
        + Ideal.logistic (x3 (ix2 r ⟨1024 + k.val, by omega⟩) + x4 (ix2 1 k)) * ∑ d : Fin 512, x2 (ix2 r d) * x6 (ix2 k d)) * x7 (ix2 k l) := by
  have eg0 : ∀ k : Fin 1024, View.ld x3 r0_2 (ix2 r k) = x3 (ix2 r ⟨k.val, by omega⟩) := fun k => by
    show x3 _ = x3 _
    congr 1
    funext a
    apply Fin.ext
    match a with
    | ⟨0, _⟩ => show 0 + 1 * r.val = r.val; omega
    | ⟨1, _⟩ => show 0 + 1 * k.val = k.val; omega
  have eg1 : ∀ k : Fin 1024, View.ld x3 r0_4 (ix2 r k) = x3 (ix2 r ⟨1024 + k.val, by omega⟩) := fun k => by
    show x3 _ = x3 _
    congr 1
    funext a
    apply Fin.ext
    match a with
    | ⟨0, _⟩ => show 0 + 1 * r.val = r.val; omega
    | ⟨1, _⟩ => show 1024 + 1 * k.val = 1024 + k.val; omega
  have eb0 : ∀ k : Fin 1024, View.ld x4 r0_3 (ix2 0 k) = x4 (ix2 0 k) := fun k => by
    show x4 _ = x4 _
    congr 1
    funext a
    apply Fin.ext
    match a with
    | ⟨0, _⟩ => rfl
    | ⟨1, _⟩ => show 0 + 1 * k.val = k.val; omega
  have eb1 : ∀ k : Fin 1024, View.ld x4 r0_5 (ix2 0 k) = x4 (ix2 1 k) := fun k => by
    show x4 _ = x4 _
    congr 1
    funext a
    apply Fin.ext
    match a with
    | ⟨0, _⟩ => rfl
    | ⟨1, _⟩ => show 0 + 1 * k.val = k.val; omega
  unfold out0_8
  rw [View.canon_unit_zero zero2, pay_at]
  simp only [eg0, eg1, eb0, eb1]
  rw [View.ld_unit_zero (S := S512x512) zero2, View.ld_unit_zero (S := S512x512) zero2, View.ld_unit_zero (S := S1024x512) zero2,
    View.ld_unit_zero (S := S1024x512) zero2, View.ld_unit_zero (S := S512x1024) zero2, View.ld_unit_zero (S := S1024x1024) zero2]

variable (m : (ℓ : Loc nD τ sig) → Buf (Elt Ideal) ℓ)

def aX (c : Dev nD) : S4096x1024.Idx → EReal := m (c.tc.loc main_arg0)
def aYm (c : Dev nD) : S4096x512.Idx → EReal := m (c.tc.loc main_arg1)
def aYf (c : Dev nD) : S4096x512.Idx → EReal := m (c.tc.loc main_arg2)
def aG (c : Dev nD) : S4096x2048.Idx → EReal := m (c.tc.loc main_arg3)
def aB (c : Dev nD) : S2x1024.Idx → EReal := m (c.tc.loc main_arg4)
def aWm (c : Dev nD) : S512x1024.Idx → EReal := m (c.tc.loc main_arg5)
def aWf (c : Dev nD) : S512x1024.Idx → EReal := m (c.tc.loc main_arg6)
def aWo (c : Dev nD) : S1024x1024.Idx → EReal := m (c.tc.loc main_arg7)

/-- The residual plus the projected sum of the gated branches. -/
def mixed (c : Dev nD) (i : S4096x1024.Idx) : EReal :=
  aX m c i + ∑ k : Fin 1024,
    (Ideal.logistic (aG m c (ix2 (i 0) ⟨k.val, by omega⟩) + aB m c (ix2 0 k)) * (∑ d : Fin 512, aYm m c (ix2 (i 0) d) * aWm m c (ix2 d k))
      + Ideal.logistic (aG m c (ix2 (i 0) ⟨1024 + k.val, by omega⟩) + aB m c (ix2 1 k)) * ∑ d : Fin 512, aYf m c (ix2 (i 0) d) * aWf m c (ix2 d k))
    * aWo m c (ix2 k (i 1))

theorem V_v0 (c : Dev nD) : V m c main_v0 = aYm m c := by
  show StableHlo.after hostOps0 (fun b => m (c, b)) (Proc.devRef .tc main_v0) = _
  after_results
  rfl

theorem V_v1 (c : Dev nD) : V m c main_v1 = aYf m c := by
  show StableHlo.after hostOps0 (fun b => m (c, b)) (Proc.devRef .tc main_v1) = _
  after_results
  rfl

theorem V_v6 (c : Dev nD) : V m c main_v6 = aWo m c := by
  show StableHlo.after hostOps0 (fun b => m (c, b)) (Proc.devRef .tc main_v6) = _
  after_results
  rfl

theorem V_v3 (c : Dev nD) (i : S1024x512.Idx) : V m c main_v3 i = aWm m c (ix2 (i 1) (i 0)) := by
  show StableHlo.after hostOps0 (fun b => m (c, b)) (Proc.devRef .tc main_v3) i = _
  after_results
  rw [eq_ix2 i]
  pointwise []
  rfl

theorem V_v5 (c : Dev nD) (i : S1024x512.Idx) : V m c main_v5 i = aWf m c (ix2 (i 1) (i 0)) := by
  show StableHlo.after hostOps0 (fun b => m (c, b)) (Proc.devRef .tc main_v5) i = _
  after_results
  rw [eq_ix2 i]
  pointwise []
  rfl

/-- The windows' blocks: the tokens' tile by tile, the weights whole. -/
theorem places : ∀ t : Fin grid0.N, win0_0.index t (0 : Fin 2) = t.val ∧ win0_0.index t (1 : Fin 2) = 0 ∧ win0_1.index t (0 : Fin 2) = t.val ∧ win0_1.index t (1 : Fin 2) = 0
    ∧ win0_2.index t (0 : Fin 2) = t.val ∧ win0_2.index t (1 : Fin 2) = 0 ∧ win0_3.index t (0 : Fin 2) = t.val ∧ win0_3.index t (1 : Fin 2) = 0
    ∧ win0_8.index t (0 : Fin 2) = t.val ∧ win0_8.index t (1 : Fin 2) = 0 := by decide +kernel
theorem places_whole : ∀ t : Fin grid0.N, win0_4.index t (0 : Fin 2) = 0 ∧ win0_4.index t (1 : Fin 2) = 0 ∧ win0_5.index t (0 : Fin 2) = 0 ∧ win0_5.index t (1 : Fin 2) = 0
    ∧ win0_6.index t (0 : Fin 2) = 0 ∧ win0_6.index t (1 : Fin 2) = 0 ∧ win0_7.index t (0 : Fin 2) = 0 ∧ win0_7.index t (1 : Fin 2) = 0 := by decide +kernel

/-- Where a tile's index lies in the array. -/
theorem tile_at {n w s : ℕ} (j : Fin 2 → ℕ) (hj : j 0 = n) (hj1 : j 1 = 0) (r l : ℕ) :
    j 0 * s + 1 * r = s * n + r ∧ j 1 * w + 1 * l = l := by
  rw [hj, hj1]
  constructor
  · rw [Nat.mul_comm]; omega
  · omega

theorem blk0 (c : Dev nD) (t : Fin grid0.N) (r : Fin 512) (l : Fin 1024) (h : 512 * t.val + r.val < 4096) :
    iblk m c 0 t (ix2 r l) = aX m c (ix2 ⟨512 * t.val + r.val, h⟩ l) := by
  show V m c main_arg0 _ = _
  rw [V_main_arg0]
  show aX m c _ = _
  have e := tile_at (w := 1024) (s := 512) (win0_0.index t) (places t).1 (places t).2.1 r.val l.val
  congr 1
  funext a
  apply Fin.ext
  match a with | ⟨0, _⟩ => exact e.1 | ⟨1, _⟩ => exact e.2

theorem blk1 (c : Dev nD) (t : Fin grid0.N) (r : Fin 512) (l : Fin 512) (h : 512 * t.val + r.val < 4096) :
    iblk m c 1 t (ix2 r l) = aYm m c (ix2 ⟨512 * t.val + r.val, h⟩ l) := by
  show V m c main_v0 _ = _
  rw [V_v0]
  have e := tile_at (w := 512) (s := 512) (win0_1.index t) (places t).2.2.1 (places t).2.2.2.1 r.val l.val
  congr 1
  funext a
  apply Fin.ext
  match a with | ⟨0, _⟩ => exact e.1 | ⟨1, _⟩ => exact e.2

theorem blk2 (c : Dev nD) (t : Fin grid0.N) (r : Fin 512) (l : Fin 512) (h : 512 * t.val + r.val < 4096) :
    iblk m c 2 t (ix2 r l) = aYf m c (ix2 ⟨512 * t.val + r.val, h⟩ l) := by
  show V m c main_v1 _ = _
  rw [V_v1]
  have e := tile_at (w := 512) (s := 512) (win0_2.index t) (places t).2.2.2.2.1 (places t).2.2.2.2.2.1 r.val l.val
  congr 1
  funext a
  apply Fin.ext
  match a with | ⟨0, _⟩ => exact e.1 | ⟨1, _⟩ => exact e.2

theorem blk3 (c : Dev nD) (t : Fin grid0.N) (r : Fin 512) (l : Fin 2048) (h : 512 * t.val + r.val < 4096) :
    iblk m c 3 t (ix2 r l) = aG m c (ix2 ⟨512 * t.val + r.val, h⟩ l) := by
  show V m c main_arg3 _ = _
  rw [V_main_arg3]
  show aG m c _ = _
  have e := tile_at (w := 2048) (s := 512) (win0_3.index t) (places t).2.2.2.2.2.2.1 (places t).2.2.2.2.2.2.2.1 r.val l.val
  congr 1
  funext a
  apply Fin.ext
  match a with | ⟨0, _⟩ => exact e.1 | ⟨1, _⟩ => exact e.2

theorem blk4 (c : Dev nD) (t : Fin grid0.N) (r : Fin 2) (l : Fin 1024) : iblk m c 4 t (ix2 r l) = aB m c (ix2 r l) := by
  show V m c main_arg4 _ = _
  rw [V_main_arg4]
  show aB m c _ = _
  have e := tile_at (w := 1024) (s := 2) (win0_4.index t) (places_whole t).1 (places_whole t).2.1 r.val l.val
  congr 1
  funext a
  apply Fin.ext
  match a with | ⟨0, _⟩ => exact e.1.trans (Nat.zero_add _) | ⟨1, _⟩ => exact e.2

theorem blk5 (c : Dev nD) (t : Fin grid0.N) (k : Fin 1024) (d : Fin 512) : iblk m c 5 t (ix2 k d) = aWm m c (ix2 d k) := by
  show V m c main_v3 _ = _
  rw [V_v3]
  have e := tile_at (w := 512) (s := 1024) (win0_5.index t) (places_whole t).2.2.1 (places_whole t).2.2.2.1 k.val d.val
  congr 1
  funext a
  apply Fin.ext
  match a with | ⟨0, _⟩ => exact e.2 | ⟨1, _⟩ => exact e.1.trans (Nat.zero_add _)

theorem blk6 (c : Dev nD) (t : Fin grid0.N) (k : Fin 1024) (d : Fin 512) : iblk m c 6 t (ix2 k d) = aWf m c (ix2 d k) := by
  show V m c main_v5 _ = _
  rw [V_v5]
  have e := tile_at (w := 512) (s := 1024) (win0_6.index t) (places_whole t).2.2.2.2.1 (places_whole t).2.2.2.2.2.1 k.val d.val
  congr 1
  funext a
  apply Fin.ext
  match a with | ⟨0, _⟩ => exact e.2 | ⟨1, _⟩ => exact e.1.trans (Nat.zero_add _)

theorem blk7 (c : Dev nD) (t : Fin grid0.N) (k : Fin 1024) (l : Fin 1024) : iblk m c 7 t (ix2 k l) = aWo m c (ix2 k l) := by
  show V m c main_v6 _ = _
  rw [V_v6]
  have e := tile_at (w := 1024) (s := 1024) (win0_7.index t) (places_whole t).2.2.2.2.2.2.1 (places_whole t).2.2.2.2.2.2.2 k.val l.val
  congr 1
  funext a
  apply Fin.ext
  match a with | ⟨0, _⟩ => exact e.1.trans (Nat.zero_add _) | ⟨1, _⟩ => exact e.2

theorem flush_all : ∀ t : Fin grid0.N, (cfg0.win 8).flush t = true := by decide +kernel

/-- One tile of the result array after the run. -/
theorem result_tile (c : Dev nD) (t : Fin grid0.N) (r : Fin 512) (l : Fin 1024) (h : 512 * t.val + r.val < 4096) :
    (dats m 0 c).arrAt 8 cfg0.N (ix2 (⟨512 * t.val + r.val, h⟩ : Fin 4096) l) = mixed m c (ix2 ⟨512 * t.val + r.val, h⟩ l) := by
  have hb := congrFun (Value.blocks8 m c t (flush_all t)) (ix2 r l)
  rw [Value.flushed8] at hb
  have e := tile_at (w := 1024) (s := 512) (win0_8.index t) (places t).2.2.2.2.2.2.2.2.1 (places t).2.2.2.2.2.2.2.2.2 r.val l.val
  have el : ((cfg0.win 8).blk t).view.read (Elt Ideal) ((dats m 0 c).arrAt 8 cfg0.N) (ix2 r l)
      = (dats m 0 c).arrAt 8 cfg0.N (ix2 (⟨512 * t.val + r.val, h⟩ : Fin 4096) l) := by
    show (dats m 0 c).arrAt 8 cfg0.N _ = (dats m 0 c).arrAt 8 cfg0.N _
    congr 1
    funext a
    apply Fin.ext
    match a with | ⟨0, _⟩ => exact e.1 | ⟨1, _⟩ => exact e.2
  refine el.symm.trans (hb.trans ((out_at _ _ _ _ _ _ _ _ r l).trans ?_))
  simp only [blk0 m c t r _ h, blk1 m c t r _ h, blk2 m c t r _ h, blk3 m c t r _ h, blk4, blk5, blk6, blk7]
  rfl

/-- Every index lies in a tile. -/
theorem in_tile (i : S4096x1024.Idx) : ∃ (t : Fin grid0.N) (r : Fin 512) (l : Fin 1024) (h : 512 * t.val + r.val < 4096),
    i = ix2 (⟨512 * t.val + r.val, h⟩ : Fin 4096) l := by
  have h0 : (i 0).val < 4096 := (i 0).isLt
  have hN : grid0.N = 8 := by decide
  refine ⟨⟨(i 0).val / 512, by omega⟩, ⟨(i 0).val % 512, Nat.mod_lt _ (by decide)⟩, i 1, by dsimp only; omega, ?_⟩
  funext a
  match a with
  | ⟨0, _⟩ => exact Fin.ext (show (i 0).val = 512 * ((i 0).val / 512) + (i 0).val % 512 by omega)
  | ⟨1, _⟩ => rfl

/-- The result array after the run. -/
theorem result (c : Dev nD) : (dats m 0 c).arrAt 8 cfg0.N = mixed m c := by
  refine funext fun (i : S4096x1024.Idx) => ?_
  obtain ⟨t, r, l, h, rfl⟩ := in_tile i
  exact result_tile m c t r l h

theorem run_value (ρ : Dev nD → PrngReg) : θ_run (defs (F := Ideal)) (onTc (τ := τ) (main (F := Ideal))) ⟨m, fun _ => 0, ρ⟩ fun r => ∀ c : Dev nD,
    r.2.mem (c.tc.loc main_v7) = mixed m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7) :=
  (θ_run defs _ _).mono (fun r h c => ⟨(h c).1.trans (result m c), (h c).2⟩) (Value.run_blocks m ρ)

/-! ## The reference -/

open Reference7Ideal.Read

theorem gate_m (g : S4096x2048.Idx → EReal) (b : S2x1024.Idx → EReal) (r : Fin 4096) (k : Fin 1024) :
    val_main_v11 (F := Ideal) g b (ix2 r k) = Ideal.logistic (g (ix2 r ⟨k.val, by omega⟩) + b (ix2 0 k)) := by
  rw [val_main_v11_apply, val_main_v9_apply, val_main_v10_apply, val_main_v8_apply, val_main_v7_apply, val_main_v6_apply, val_main_v5_apply, val_main_v0_apply,
    val_main_v4_apply, val_main_v3_apply, val_main_v2_apply, val_main_v1_apply, val_main_cst_apply, val_main_cst_0_apply]
  show Ideal.div (Ideal.ofBits .f32 0x3F800000#32) (Ideal.ofBits .f32 0x3F800000#32 + Ideal.exp (-(g _ + b _))) = _
  rw [Ideal.ofBits_one_f32]
  unfold Ideal.logistic
  have e1 : idx_main_v0 (ix2 r k) = ix2 r ⟨k.val, by omega⟩ := funext fun a => match a with | ⟨0, _⟩ => rfl | ⟨1, _⟩ => rfl
  have e2 : idx_main_v1 (idx_main_v2 (idx_main_v3 (idx_main_v4 (ix2 r k)))) = ix2 0 k := funext fun a => match a with | ⟨0, _⟩ => rfl | ⟨1, _⟩ => Fin.ext (Nat.mod_eq_of_lt k.isLt)
  rw [e1, e2]

theorem gate_f (g : S4096x2048.Idx → EReal) (b : S2x1024.Idx → EReal) (r : Fin 4096) (k : Fin 1024) :
    val_main_v25 (F := Ideal) g b (ix2 r k) = Ideal.logistic (g (ix2 r ⟨1024 + k.val, by omega⟩) + b (ix2 1 k)) := by
  rw [val_main_v25_apply, val_main_v23_apply, val_main_v24_apply, val_main_v22_apply, val_main_v21_apply, val_main_v20_apply, val_main_v19_apply, val_main_v14_apply,
    val_main_v18_apply, val_main_v17_apply, val_main_v16_apply, val_main_v15_apply, val_main_cst_1_apply, val_main_cst_2_apply]
  show Ideal.div (Ideal.ofBits .f32 0x3F800000#32) (Ideal.ofBits .f32 0x3F800000#32 + Ideal.exp (-(g _ + b _))) = _
  rw [Ideal.ofBits_one_f32]
  unfold Ideal.logistic
  have e1 : idx_main_v14 (ix2 r k) = ix2 r ⟨1024 + k.val, by omega⟩ := funext fun a => match a with | ⟨0, _⟩ => rfl | ⟨1, _⟩ => rfl
  have e2 : idx_main_v15 (idx_main_v16 (idx_main_v17 (idx_main_v18 (ix2 r k)))) = ix2 1 k := funext fun a => match a with | ⟨0, _⟩ => rfl | ⟨1, _⟩ => Fin.ext (Nat.mod_eq_of_lt k.isLt)
  rw [e1, e2]

theorem reference_at (c : Dev nD) (r : Fin 4096) (l : Fin 1024) :
    val_main_v30 (F := Ideal) (aX m c) (aYm m c) (aYf m c) (aG m c) (aB m c) (aWm m c) (aWf m c) (aWo m c) (ix2 r l) = mixed m c (ix2 r l) := by
  rw [val_main_v30_apply, val_main_v29_apply]
  show aX m c (ix2 r l) + _ = aX m c (ix2 r l) + _
  refine congrArg (aX m c (ix2 r l) + ·) (Finset.sum_congr rfl fun k _ => congrArg₂ (· * ·) ?_ (congrArg (aWo m c) (funext fun a => match a with | ⟨0, _⟩ => rfl | ⟨1, _⟩ => rfl)))
  rw [show lidx_main_v29 (ix2 r l) k = ix2 r k from funext fun a => match a with | ⟨0, _⟩ => rfl | ⟨1, _⟩ => rfl,
    val_main_v28_apply, val_main_v13_apply, val_main_v27_apply, gate_m, gate_f, val_main_v12_apply, val_main_v26_apply]
  refine congrArg₂ (· + ·) (congrArg (_ * ·) (Finset.sum_congr rfl fun d _ => congrArg₂ (· * ·) ?_ ?_)) (congrArg (_ * ·) (Finset.sum_congr rfl fun d _ => congrArg₂ (· * ·) ?_ ?_))
  · exact congrArg (aYm m c) (funext fun a => match a with | ⟨0, _⟩ => rfl | ⟨1, _⟩ => rfl)
  · exact congrArg (aWm m c) (funext fun a => match a with | ⟨0, _⟩ => rfl | ⟨1, _⟩ => rfl)
  · exact congrArg (aYf m c) (funext fun a => match a with | ⟨0, _⟩ => rfl | ⟨1, _⟩ => rfl)
  · exact congrArg (aWf m c) (funext fun a => match a with | ⟨0, _⟩ => rfl | ⟨1, _⟩ => rfl)

/-- The reference's run from the same arguments. -/
theorem run_reference (m' : (ℓ : Loc Reference7Ideal.nD Reference7Ideal.τ Reference7Ideal.sig) → Buf (Elt Ideal) ℓ) (ρ : Dev Reference7Ideal.nD → PrngReg)
    (hm : ∀ c : Dev Reference7Ideal.nD,
      m' (c.tc.loc Reference7Ideal.main_arg0) = m (c.tc.loc main_arg0)
      ∧ m' (c.tc.loc Reference7Ideal.main_arg1) = m (c.tc.loc main_arg1)
      ∧ m' (c.tc.loc Reference7Ideal.main_arg2) = m (c.tc.loc main_arg2)
      ∧ m' (c.tc.loc Reference7Ideal.main_arg3) = m (c.tc.loc main_arg3)
      ∧ m' (c.tc.loc Reference7Ideal.main_arg4) = m (c.tc.loc main_arg4)
      ∧ m' (c.tc.loc Reference7Ideal.main_arg5) = m (c.tc.loc main_arg5)
      ∧ m' (c.tc.loc Reference7Ideal.main_arg6) = m (c.tc.loc main_arg6)
      ∧ m' (c.tc.loc Reference7Ideal.main_arg7) = m (c.tc.loc main_arg7)) :
    θ_run (Reference7Ideal.defs (F := Ideal)) (onTc (τ := Reference7Ideal.τ) (Reference7Ideal.main (F := Ideal))) ⟨m', fun _ => 0, ρ⟩
      fun r => ∀ c : Dev Reference7Ideal.nD,
        r.2.mem (c.tc.loc Reference7Ideal.main_v30) = mixed m c
          ∧ r.2.mem (c.tc.loc Reference7Ideal.main_arg0) = m' (c.tc.loc Reference7Ideal.main_arg0)
          ∧ r.2.mem (c.tc.loc Reference7Ideal.main_arg1) = m' (c.tc.loc Reference7Ideal.main_arg1)
          ∧ r.2.mem (c.tc.loc Reference7Ideal.main_arg2) = m' (c.tc.loc Reference7Ideal.main_arg2)
          ∧ r.2.mem (c.tc.loc Reference7Ideal.main_arg3) = m' (c.tc.loc Reference7Ideal.main_arg3)
          ∧ r.2.mem (c.tc.loc Reference7Ideal.main_arg4) = m' (c.tc.loc Reference7Ideal.main_arg4)
          ∧ r.2.mem (c.tc.loc Reference7Ideal.main_arg5) = m' (c.tc.loc Reference7Ideal.main_arg5)
          ∧ r.2.mem (c.tc.loc Reference7Ideal.main_arg6) = m' (c.tc.loc Reference7Ideal.main_arg6)
          ∧ r.2.mem (c.tc.loc Reference7Ideal.main_arg7) = m' (c.tc.loc Reference7Ideal.main_arg7) := by
  refine (θ_run Reference7Ideal.defs _ _).mono (fun r h c => ⟨(h c).1.trans (funext fun (i : S4096x1024.Idx) => ?_), (h c).2⟩) (Reference7Ideal.Value.run m' ρ)
  obtain ⟨e0, e1, e2, e3, e4, e5, e6, e7⟩ := hm c
  rw [e0, e1, e2, e3, e4, e5, e6, e7, eq_ix2 i]
  exact reference_at m c (i 0) (i 1)

end Cert.Kernel7Ideal.Mix
end
-- ==== Proof.ProductGates.lean ====
module

public import proofs.«01_k».proof.Proof.Gen.Kernel8Ideal.Value
public import proofs.«01_k».proof.Proof.Gen.Reference8Ideal.Run
public import proofs.«01_k».proof.Proof.Gen.Reference8Ideal.Read
public import proofs.«01_k».proof.Proof.Tokens
public import Idealize.ShloMosaic.Lib.Pipeline.Value
public import Idealize.ShloMosaic.Lib.Tactic
public import Idealize.ShloMosaic.PureOps.Ideal.Laws

/-!
The gradient of the gates' part of the input projection's weight, a product summed over all tokens: the kernel sums the first 2048 tokens
and then the other 2048, for each half of the rows.
-/

@[expose] public section

noncomputable section

namespace Cert.Kernel8Ideal.ProductGates

open Kernel8Ideal Kernel8Ideal.Gen
open Tokens
open Idealize.ShloMosaic Idealize.ShloMosaic.TcCoe Idealize.ShloMosaic.Tactic Idealize.SL.Sem
open Idealize.ShloMosaic.Pipeline (Dat)

section
variable {F : FTy → Type} [FloatOps F]
variable (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1024x1024 .bf16) (h4 : a4.IsWhole)
    (a5 : Memref sig .tc .vmem S1024x1024 .f32) (h5 : a5.IsWhole)
    (x : Vec F S2048x1024 .bf16) (y : Vec F S2048x1024 .bf16) (s : Vec F S1024x1024 .f32)

/-- The first of a half's two points leaves the product of its blocks in the scratch. -/
theorem scratch_first (hc0 : cond0_0 i) (hc1 : ¬cond0_1 i) (hc2 : ¬cond0_2 i) :
    sout0_A_0 c i a2 h2 a3 h3 a4 h4 a5 h5 hc0 hc1 hc2 x y = k0_pay2 x y := by
  unfold sout0_A_0
  rw [View.read_writes_eq_canon _ _ _ (scover0_A_0 c i a2 h2 a3 h3 a4 h4 a5 h5 hc0 hc1 hc2 x y)]
  unfold kernelRun0_A
  dsimp only
  rw [View.canon_unit_zero zero2]
  simp only [View.readAt_eq_ld, h2.read_unread, h3.read_unread, View.ld_unit_zero (S := S2048x1024) zero2]

/-- The second adds the product of its own and hands the sum out. -/
theorem out_second (hc0 : ¬cond0_0 i) (hc1 : cond0_1 i) (hc2 : cond0_2 i) :
    out0_B_2 c i a2 h2 a3 h3 a4 h4 a5 h5 hc0 hc1 hc2 x y s = k0_pay4 (k0_pay3 x y s) := by
  unfold out0_B_2
  rw [View.read_writes_eq_canon _ _ _ (cover0_B_2 c i a2 h2 a3 h3 a4 h4 a5 h5 hc0 hc1 hc2 x y s)]
  unfold kernelRun0_B
  dsimp only
  sl_unfold_words
  rw [View.canon_unit_zero zero2]
  simp only [View.readCov_unit_zero (S := S1024x1024) _ zero2, View.readAt_eq_ld, h2.read_unread, h3.read_unread, h5.read_unread,
    View.ld_unit_zero (S := S2048x1024) zero2, View.ld_unit_zero (S := S1024x1024) zero2]

end

/-! ## Over the extended reals -/

theorem pay2_at (x : Vec Ideal S2048x1024 .bf16) (y : Vec Ideal S2048x1024 .bf16) (r : Fin 1024) (l : Fin 1024) :
    k0_pay2 (F := Ideal) x y (ix2 r l) = ∑ t : Fin 2048, x (ix2 t r) * y (ix2 t l) := by
  pointwise [k0_pay2, k0_pay1]

theorem pay43_at (x : Vec Ideal S2048x1024 .bf16) (y : Vec Ideal S2048x1024 .bf16) (s : Vec Ideal S1024x1024 .f32) (r : Fin 1024) (l : Fin 1024) :
    k0_pay4 (F := Ideal) (k0_pay3 (F := Ideal) x y s) (ix2 r l) = s (ix2 r l) + ∑ t : Fin 2048, x (ix2 t r) * y (ix2 t l) := by
  pointwise [k0_pay4, k0_pay3, k0_pay1]

variable (m : (ℓ : Loc nD τ sig) → Buf (Elt Ideal) ℓ)

/-- The two factors. -/
def facA (c : Dev nD) : S4096x2048.Idx → EReal := m (c.tc.loc main_arg0)
def facB (c : Dev nD) : S4096x1024.Idx → EReal := m (c.tc.loc main_arg1)

theorem V_v0 (c : Dev nD) : V m c main_v0 = facA m c := by
  show StableHlo.after hostOps0 (fun b => m (c, b)) (Proc.devRef .tc main_v0) = _
  after_results
  rfl

theorem V_v1 (c : Dev nD) : V m c main_v1 = facB m c := by
  show StableHlo.after hostOps0 (fun b => m (c, b)) (Proc.devRef .tc main_v1) = _
  after_results
  rfl

theorem places : ∀ t : Fin grid0.N, win0_0.index t (0 : Fin 2) = t.val % 2 ∧ win0_0.index t (1 : Fin 2) = t.val / 2
    ∧ win0_1.index t (0 : Fin 2) = t.val % 2 ∧ win0_1.index t (1 : Fin 2) = 0 := by decide +kernel

/-- Point `2 h + k` reads the tokens of half `k` and the columns of half `h` of the first factor, -/
theorem iblk0_at (c : Dev nD) (t : Fin cfg0.N) (k r : ℕ) (hk : 2048 * (t.val % 2) + k < 4096) (hr : 1024 * (t.val / 2) + r < 2048)
    (hk' : k < 2048) (hr' : r < 1024) :
    iblk m c 0 t (ix2 (⟨k, hk'⟩ : Fin 2048) (⟨r, hr'⟩ : Fin 1024)) = facA m c (ix2 ⟨2048 * (t.val % 2) + k, hk⟩ ⟨1024 * (t.val / 2) + r, hr⟩) := by
  obtain ⟨e0, e1, -, -⟩ := places t
  show V m c main_v0 _ = _
  rw [V_v0]
  exact congrArg _ (idx_eq _ _ _ (by show win0_0.index t (0 : Fin 2) * 2048 + 1 * k = 2048 * (t.val % 2) + k; rw [e0]; omega) (by show win0_0.index t (1 : Fin 2) * 1024 + 1 * r = 1024 * (t.val / 2) + r; rw [e1]; omega))

/-- and the same tokens of the second. -/
theorem iblk1_at (c : Dev nD) (t : Fin cfg0.N) (k : ℕ) (l : Fin 1024) (hk : 2048 * (t.val % 2) + k < 4096) (hk' : k < 2048) :
    iblk m c 1 t (ix2 (⟨k, hk'⟩ : Fin 2048) l) = facB m c (ix2 ⟨2048 * (t.val % 2) + k, hk⟩ l) := by
  obtain ⟨-, -, e0, e1⟩ := places t
  show V m c main_v1 _ = _
  rw [V_v1]
  exact congrArg _ (idx_eq _ _ _ (by show win0_1.index t (0 : Fin 2) * 2048 + 1 * k = 2048 * (t.val % 2) + k; rw [e0]; omega) (by show win0_1.index t (1 : Fin 2) * 1024 + 1 * l.val = l.val; rw [e1]; omega))

/-- What the second point of half `h` hands out. -/
theorem half_at (c : Dev nD) (h : Fin 2) (r : Fin 1024) (l : Fin 1024) (hn : 2 * h.val + 1 < cfg0.N) :
    (outsAt0 m c (2 * h.val + 1) hn).1 (ix2 r l) =
      (∑ k : Fin 2048, facA m c (ix2 ⟨k.val, by omega⟩ ⟨1024 * h.val + r.val, by omega⟩) * facB m c (ix2 ⟨k.val, by omega⟩ l))
        + ∑ k : Fin 2048, facA m c (ix2 ⟨2048 + k.val, by omega⟩ ⟨1024 * h.val + r.val, by omega⟩) * facB m c (ix2 ⟨2048 + k.val, by omega⟩ l) := by
  have hN : cfg0.N = 4 := N_0
  have hB := outsAt0_B m c ⟨2 * h.val + 1, hn⟩ (by dsimp only; omega) (by dsimp only; omega) (by dsimp only; omega)
  have hA := outsAt0_A m c ⟨2 * h.val, by omega⟩ (by dsimp only; omega) (by dsimp only; omega) (by dsimp only; omega)
  have e1 := congrArg Prod.fst hB
  dsimp only at e1 hA
  rw [e1, out_second]
  simp only [Nat.add_sub_cancel]
  rw [hA]
  dsimp only
  rw [scratch_first, pay43_at, pay2_at]
  refine congrArg₂ (· + ·) (Finset.sum_congr rfl fun k _ => ?_) (Finset.sum_congr rfl fun k _ => ?_)
  · rw [iblk0_at m c ⟨2 * h.val, by omega⟩ k.val r.val (by dsimp only; omega) (by dsimp only; omega) k.isLt r.isLt,
      iblk1_at m c ⟨2 * h.val, by omega⟩ k.val l (by dsimp only; omega) k.isLt]
    refine congrArg₂ (· * ·) (congrArg (facA m c) (congrArg₂ ix2 (Fin.ext ?_) (Fin.ext ?_))) (congrArg (facB m c) (congrArg (ix2 · l) (Fin.ext ?_))) <;> dsimp only <;> omega
  · rw [iblk0_at m c ⟨2 * h.val + 1, hn⟩ k.val r.val (by dsimp only; omega) (by dsimp only; omega) k.isLt r.isLt,
      iblk1_at m c ⟨2 * h.val + 1, hn⟩ k.val l (by dsimp only; omega) k.isLt]
    refine congrArg₂ (· * ·) (congrArg (facA m c) (congrArg₂ ix2 (Fin.ext ?_) (Fin.ext ?_))) (congrArg (facB m c) (congrArg (ix2 · l) (Fin.ext ?_))) <;> dsimp only <;> omega

/-- The kernel's result: the product of the two factors over all tokens. -/
theorem result_at (c : Dev nD) (i : S2048x1024.Idx) :
    Value.G2 m c i = whole (facA m c) (facB m c) i := by
  have hN : cfg0.N = 4 := N_0
  have h0 : (i 0).val < 2048 := (i 0).isLt
  have h1 : (i 1).val < 1024 := (i 1).isLt
  have hp : Value.pt2Of i = 2 * ((i 0).val / 1024) + 1 := by
    show 2 * (1 * ((i 0).val / 1024 - 0) + 1 * ((i 1).val / 1024 - 0)) + 1 = _; omega
  have hl : Value.loc2Of i = ix2 (⟨(i 0).val % 1024, Nat.mod_lt _ (by decide)⟩ : Fin 1024) (i 1) :=
    idx_eq _ _ _ rfl (Nat.mod_eq_of_lt h1)
  unfold Value.G2
  rw [dif_pos (by rw [hp]; omega), Value.fold0_congr m c _ _ (2 * ((i 0).val / 1024) + 1) (by omega) hp, ← Value.outsAt0_sweep, hl]
  have := half_at m c ⟨(i 0).val / 1024, by omega⟩ ⟨(i 0).val % 1024, Nat.mod_lt _ (by decide)⟩ (i 1) (by dsimp only; omega)
  dsimp only at this
  refine this.trans ?_
  refine Eq.trans ?_ (sum_halves fun t => facA m c (ix2 t (i 0)) * facB m c (ix2 t (i 1))).symm
  refine congrArg₂ (· + ·) (Finset.sum_congr rfl fun k _ => ?_) (Finset.sum_congr rfl fun k _ => ?_) <;>
    refine congrArg₂ (· * ·) (congrArg (facA m c) (congrArg₂ ix2 rfl (Fin.ext ?_))) rfl <;> dsimp only <;> omega

/-- The kernel ends with the product in its result. -/
theorem run_value (ρ : Dev nD → PrngReg) : θ_run (defs (F := Ideal)) (onTc (τ := τ) (main (F := Ideal))) ⟨m, fun _ => 0, ρ⟩ fun r => ∀ c : Dev nD,
    r.2.mem (c.tc.loc main_v2) = whole (facA m c) (facB m c)
      ∧ r.2.mem (c.tc.loc main_arg0) = m (c.tc.loc main_arg0)
      ∧ r.2.mem (c.tc.loc main_arg1) = m (c.tc.loc main_arg1) :=
  (θ_run defs _ _).mono (fun r h c => ⟨(h c).1.trans (funext fun i => result_at m c i), (h c).2⟩) (Value.run m ρ)

/-- The reference ends with the same product in its own. -/
theorem run_reference (m' : (ℓ : Loc Reference8Ideal.nD Reference8Ideal.τ Reference8Ideal.sig) → Buf (Elt Ideal) ℓ)
    (ρ : Dev Reference8Ideal.nD → PrngReg)
    (hm : ∀ c : Dev nD,
      m' (c.tc.loc Reference8Ideal.main_arg0) = m (c.tc.loc main_arg0)
      ∧ m' (c.tc.loc Reference8Ideal.main_arg1) = m (c.tc.loc main_arg1)) :
    θ_run (Reference8Ideal.defs (F := Ideal)) (onTc (τ := Reference8Ideal.τ) (Reference8Ideal.main (F := Ideal))) ⟨m', fun _ => 0, ρ⟩
      fun r => ∀ c : Dev Reference8Ideal.nD,
        r.2.mem (c.tc.loc Reference8Ideal.main_v3)
            = whole (facA m c) (facB m c)
          ∧ r.2.mem (c.tc.loc Reference8Ideal.main_arg0)
            = m' (c.tc.loc Reference8Ideal.main_arg0)
          ∧ r.2.mem (c.tc.loc Reference8Ideal.main_arg1)
            = m' (c.tc.loc Reference8Ideal.main_arg1) := by
  refine (θ_run Reference8Ideal.defs _ _).mono (fun r h c => ⟨(h c).1.trans (funext fun i => ?_), (h c).2⟩) (Reference8Ideal.Value.run m' ρ)
  rw [(hm c).1, (hm c).2]
  refine (Reference8Ideal.Read.val_main_v2_apply (facA m c) (facB m c) i).trans (Finset.sum_congr rfl fun k _ => ?_)
  exact congrArg₂ (· * ·) (congrArg (facA m c) (idx_eq _ _ _ rfl rfl)) (congrArg (facB m c) (idx_eq _ _ _ rfl rfl))

end Cert.Kernel8Ideal.ProductGates
end
-- ==== Proof.ProductFox.lean ====
module

public import proofs.«01_k».proof.Proof.Gen.Kernel9Ideal.Value
public import proofs.«01_k».proof.Proof.Gen.Reference9Ideal.Run
public import proofs.«01_k».proof.Proof.Gen.Reference9Ideal.Read
public import proofs.«01_k».proof.Proof.Tokens
public import Idealize.ShloMosaic.Lib.Pipeline.Value
public import Idealize.ShloMosaic.Lib.Tactic
public import Idealize.ShloMosaic.PureOps.Ideal.Laws

/-!
The gradient of the second attention's part of the input projection's weight, a product summed over all tokens: the kernel sums four blocks of 1024 tokens one after the other.
-/

@[expose] public section

noncomputable section

namespace Cert.Kernel9Ideal.ProductFox

open Kernel9Ideal Kernel9Ideal.Gen
open Tokens
open Idealize.ShloMosaic Idealize.ShloMosaic.TcCoe Idealize.ShloMosaic.Tactic Idealize.SL.Sem
open Idealize.ShloMosaic.Pipeline (Dat)

section
variable {F : FTy → Type} [FloatOps F]
variable (c : Dev nD) (i : grid0.Coords) (a2 : Memref sig .tc .vmem S1024x1536 .bf16) (h2 : a2.IsWhole)
    (a3 : Memref sig .tc .vmem S1024x1024 .bf16) (h3 : a3.IsWhole) (a4 : Memref sig .tc .vmem S1536x1024 .bf16) (h4 : a4.IsWhole)
    (a5 : Memref sig .tc .vmem S1536x1024 .f32) (h5 : a5.IsWhole)
    (x : Vec F S1024x1536 .bf16) (y : Vec F S1024x1024 .bf16) (s : Vec F S1536x1024 .f32)

/-- The first point leaves the product of its blocks in the scratch. -/
theorem scratch_first (hc0 : cond0_0 i) (hc1 : ¬cond0_1 i) (hc2 : ¬cond0_2 i) :
    sout0_A_0 c i a2 h2 a3 h3 a4 h4 a5 h5 hc0 hc1 hc2 x y = k0_pay2 x y := by
  unfold sout0_A_0
  rw [View.read_writes_eq_canon _ _ _ (scover0_A_0 c i a2 h2 a3 h3 a4 h4 a5 h5 hc0 hc1 hc2 x y)]
  unfold kernelRun0_A
  dsimp only
  rw [View.canon_unit_zero zero2]
  simp only [View.readAt_eq_ld, h2.read_unread, h3.read_unread, View.ld_unit_zero (S := S1024x1536) zero2, View.ld_unit_zero (S := S1024x1024) zero2]

/-- A middle point adds the product of its own, -/
theorem scratch_next (hc0 : ¬cond0_0 i) (hc1 : cond0_1 i) (hc2 : ¬cond0_2 i) :
    sout0_B_0 c i a2 h2 a3 h3 a4 h4 a5 h5 hc0 hc1 hc2 x y s = k0_pay3 x y s := by
  unfold sout0_B_0
  rw [View.read_writes_eq_canon _ _ _ (scover0_B_0 c i a2 h2 a3 h3 a4 h4 a5 h5 hc0 hc1 hc2 x y s)]
  unfold kernelRun0_B
  dsimp only
  rw [View.canon_unit_zero zero2]
  simp only [View.readAt_eq_ld, h2.read_unread, h3.read_unread, h5.read_unread, View.ld_unit_zero (S := S1024x1536) zero2, View.ld_unit_zero (S := S1024x1024) zero2, View.ld_unit_zero (S := S1536x1024) zero2]

/-- and the last hands the sum out. -/
theorem out_last (hc0 : ¬cond0_0 i) (hc1 : cond0_1 i) (hc2 : cond0_2 i) :
    out0_C_2 c i a2 h2 a3 h3 a4 h4 a5 h5 hc0 hc1 hc2 x y s = k0_pay4 (k0_pay3 x y s) := by
  unfold out0_C_2
  rw [View.read_writes_eq_canon _ _ _ (cover0_C_2 c i a2 h2 a3 h3 a4 h4 a5 h5 hc0 hc1 hc2 x y s)]
  unfold kernelRun0_C
  dsimp only
  sl_unfold_words
  rw [View.canon_unit_zero zero2]
  simp only [View.readCov_unit_zero (S := S1536x1024) _ zero2, View.readAt_eq_ld, h2.read_unread, h3.read_unread, h5.read_unread,
    View.ld_unit_zero (S := S1024x1536) zero2, View.ld_unit_zero (S := S1024x1024) zero2, View.ld_unit_zero (S := S1536x1024) zero2]

end

/-! ## Over the extended reals -/

theorem pay2_at (x : Vec Ideal S1024x1536 .bf16) (y : Vec Ideal S1024x1024 .bf16) (r : Fin 1536) (l : Fin 1024) :
    k0_pay2 (F := Ideal) x y (ix2 r l) = ∑ t : Fin 1024, x (ix2 t r) * y (ix2 t l) := by
  pointwise [k0_pay2, k0_pay1]

theorem pay3_at (x : Vec Ideal S1024x1536 .bf16) (y : Vec Ideal S1024x1024 .bf16) (s : Vec Ideal S1536x1024 .f32) (r : Fin 1536) (l : Fin 1024) :
    k0_pay3 (F := Ideal) x y s (ix2 r l) = s (ix2 r l) + ∑ t : Fin 1024, x (ix2 t r) * y (ix2 t l) := by
  pointwise [k0_pay3, k0_pay1]

theorem pay43_at (x : Vec Ideal S1024x1536 .bf16) (y : Vec Ideal S1024x1024 .bf16) (s : Vec Ideal S1536x1024 .f32) (r : Fin 1536) (l : Fin 1024) :
    k0_pay4 (F := Ideal) (k0_pay3 (F := Ideal) x y s) (ix2 r l) = s (ix2 r l) + ∑ t : Fin 1024, x (ix2 t r) * y (ix2 t l) := by
  pointwise [k0_pay4, k0_pay3, k0_pay1]

variable (m : (ℓ : Loc nD τ sig) → Buf (Elt Ideal) ℓ)

/-- The two factors. -/
def facA (c : Dev nD) : S4096x1536.Idx → EReal := m (c.tc.loc main_arg0)
def facB (c : Dev nD) : S4096x1024.Idx → EReal := m (c.tc.loc main_arg1)

theorem V_v0 (c : Dev nD) : V m c main_v0 = facA m c := by
  show StableHlo.after hostOps0 (fun b => m (c, b)) (Proc.devRef .tc main_v0) = _
  after_results
  rfl

theorem V_v1 (c : Dev nD) : V m c main_v1 = facB m c := by
  show StableHlo.after hostOps0 (fun b => m (c, b)) (Proc.devRef .tc main_v1) = _
  after_results
  rfl

theorem places : ∀ t : Fin grid0.N, win0_0.index t (0 : Fin 2) = t.val ∧ win0_0.index t (1 : Fin 2) = 0
    ∧ win0_1.index t (0 : Fin 2) = t.val ∧ win0_1.index t (1 : Fin 2) = 0 := by decide +kernel

/-- Point `t` reads its 1024 tokens of the first factor, -/
theorem iblk0_at (c : Dev nD) (t : Fin cfg0.N) (k : Fin 1024) (r : Fin 1536) (hk : 1024 * t.val + k.val < 4096) :
    iblk m c 0 t (ix2 k r) = facA m c (ix2 ⟨1024 * t.val + k.val, hk⟩ r) := by
  obtain ⟨e0, e1, -, -⟩ := places t
  show V m c main_v0 _ = _
  rw [V_v0]
  exact congrArg _ (idx_eq _ _ _ (by show win0_0.index t (0 : Fin 2) * 1024 + 1 * k.val = 1024 * t.val + k.val; rw [e0]; omega) (by show win0_0.index t (1 : Fin 2) * 1536 + 1 * r.val = r.val; rw [e1]; omega))

/-- and the same tokens of the second. -/
theorem iblk1_at (c : Dev nD) (t : Fin cfg0.N) (k : Fin 1024) (l : Fin 1024) (hk : 1024 * t.val + k.val < 4096) :
    iblk m c 1 t (ix2 k l) = facB m c (ix2 ⟨1024 * t.val + k.val, hk⟩ l) := by
  obtain ⟨-, -, e0, e1⟩ := places t
  show V m c main_v1 _ = _
  rw [V_v1]
  exact congrArg _ (idx_eq _ _ _ (by show win0_1.index t (0 : Fin 2) * 1024 + 1 * k.val = 1024 * t.val + k.val; rw [e0]; omega) (by show win0_1.index t (1 : Fin 2) * 1024 + 1 * l.val = l.val; rw [e1]; omega))

theorem part_at (c : Dev nD) (r : Fin 1536) (l : Fin 1024) (t : Fin cfg0.N) (hn : t.val < 4) :
    ∑ k : Fin 1024, (let a : S1024x1536.Idx → EReal := iblk m c 0 t; a (ix2 k r)) * (let b : S1024x1024.Idx → EReal := iblk m c 1 t; b (ix2 k l)) = quarter (facA m c) (facB m c) r l t.val hn :=
  Finset.sum_congr rfl fun k _ => congrArg₂ (· * ·) (iblk0_at m c t k r (by omega)) (iblk1_at m c t k l (by omega))

/-- What the scratch holds after the first point, after the second and after the third, -/
theorem scratch0 (c : Dev nD) (r : Fin 1536) (l : Fin 1024) (h : 0 < cfg0.N) :
    (outsAt0 m c 0 h).2 (ix2 r l) = quarter (facA m c) (facB m c) r l 0 (by omega) := by
  have hA := congrArg Prod.snd (outsAt0_A m c ⟨0, h⟩ (by dsimp only) (by dsimp only; omega) (by dsimp only; omega))
  dsimp only at hA
  rw [hA, scratch_first, pay2_at]
  exact part_at m c r l ⟨0, h⟩ (by dsimp only; omega)

theorem scratch_step (c : Dev nD) (r : Fin 1536) (l : Fin 1024) (n : ℕ) (h : n + 1 < cfg0.N) (hn : n + 1 < 3) :
    (outsAt0 m c (n + 1) h).2 (ix2 r l) = (outsAt0 m c n (by omega)).2 (ix2 r l) + quarter (facA m c) (facB m c) r l (n + 1) (by omega) := by
  have hB := congrArg Prod.snd (outsAt0_B m c ⟨n + 1, h⟩ (by dsimp only; omega) (by dsimp only; omega) (by dsimp only; omega))
  dsimp only at hB
  rw [hB, scratch_next, pay3_at]
  exact congrArg _ (part_at m c r l ⟨n + 1, h⟩ (by dsimp only; omega))

/-- and what the last point hands out. -/
theorem last_at (c : Dev nD) (r : Fin 1536) (l : Fin 1024) (h : 3 < cfg0.N) :
    (outsAt0 m c 3 h).1 (ix2 r l) = quarter (facA m c) (facB m c) r l 0 (by omega) + quarter (facA m c) (facB m c) r l 1 (by omega) + quarter (facA m c) (facB m c) r l 2 (by omega) + quarter (facA m c) (facB m c) r l 3 (by omega) := by
  have hC := congrArg Prod.fst (outsAt0_C m c ⟨3, h⟩ (by dsimp only; omega) (by dsimp only; omega) (by dsimp only))
  dsimp only at hC
  rw [hC, out_last, pay43_at, ← scratch0 m c r l (by omega), ← scratch_step m c r l 0 (by omega) (by omega), ← scratch_step m c r l 1 (by omega) (by omega)]
  exact congrArg _ (part_at m c r l ⟨3, h⟩ (by dsimp only; omega))

/-- The kernel's result: the product of the two factors over all tokens. -/
theorem result_at (c : Dev nD) (i : S1536x1024.Idx) :
    Value.G2 m c i = whole (facA m c) (facB m c) i := by
  have hN : cfg0.N = 4 := N_0
  have h0 : (i 0).val < 1536 := (i 0).isLt
  have h1 : (i 1).val < 1024 := (i 1).isLt
  have hp : Value.pt2Of i = 3 := by
    show 4 * (1 * ((i 0).val / 1536 - 0) + 1 * ((i 1).val / 1024 - 0)) + 3 = _; omega
  have hl : Value.loc2Of i = ix2 (i 0) (i 1) :=
    idx_eq _ _ _ (Nat.mod_eq_of_lt h0) (Nat.mod_eq_of_lt h1)
  unfold Value.G2
  rw [dif_pos (by rw [hp]; omega), Value.fold0_congr m c _ _ 3 (by omega) hp, ← Value.outsAt0_sweep, hl]
  exact (last_at m c (i 0) (i 1) (by omega)).trans (quarters _ _ i)

/-- The kernel ends with the product in its result. -/
theorem run_value (ρ : Dev nD → PrngReg) : θ_run (defs (F := Ideal)) (onTc (τ := τ) (main (F := Ideal))) ⟨m, fun _ => 0, ρ⟩ fun r => ∀ c : Dev nD,
    r.2.mem (c.tc.loc main_v2) = whole (facA m c) (facB m c)
      ∧ r.2.mem (c.tc.loc main_arg0) = m (c.tc.loc main_arg0)
      ∧ r.2.mem (c.tc.loc main_arg1) = m (c.tc.loc main_arg1) :=
  (θ_run defs _ _).mono (fun r h c => ⟨(h c).1.trans (funext fun i => result_at m c i), (h c).2⟩) (Value.run m ρ)

/-- The reference ends with the same product in its own. -/
theorem run_reference (m' : (ℓ : Loc Reference9Ideal.nD Reference9Ideal.τ Reference9Ideal.sig) → Buf (Elt Ideal) ℓ)
    (ρ : Dev Reference9Ideal.nD → PrngReg)
    (hm : ∀ c : Dev nD,
      m' (c.tc.loc Reference9Ideal.main_arg0) = m (c.tc.loc main_arg0)
      ∧ m' (c.tc.loc Reference9Ideal.main_arg1) = m (c.tc.loc main_arg1)) :
    θ_run (Reference9Ideal.defs (F := Ideal)) (onTc (τ := Reference9Ideal.τ) (Reference9Ideal.main (F := Ideal))) ⟨m', fun _ => 0, ρ⟩
      fun r => ∀ c : Dev Reference9Ideal.nD,
        r.2.mem (c.tc.loc Reference9Ideal.main_v3)
            = whole (facA m c) (facB m c)
          ∧ r.2.mem (c.tc.loc Reference9Ideal.main_arg0)
            = m' (c.tc.loc Reference9Ideal.main_arg0)
          ∧ r.2.mem (c.tc.loc Reference9Ideal.main_arg1)
            = m' (c.tc.loc Reference9Ideal.main_arg1) := by
  refine (θ_run Reference9Ideal.defs _ _).mono (fun r h c => ⟨(h c).1.trans (funext fun i => ?_), (h c).2⟩) (Reference9Ideal.Value.run m' ρ)
  rw [(hm c).1, (hm c).2]
  refine (Reference9Ideal.Read.val_main_v2_apply (facA m c) (facB m c) i).trans (Finset.sum_congr rfl fun k _ => ?_)
  exact congrArg₂ (· * ·) (congrArg (facA m c) (idx_eq _ _ _ rfl rfl)) (congrArg (facB m c) (idx_eq _ _ _ rfl rfl))

end Cert.Kernel9Ideal.ProductFox
end
-- ==== Proof.ProductLat.lean ====
module

public import proofs.«01_k».proof.Proof.Gen.Kernel10Ideal.Value
public import proofs.«01_k».proof.Proof.Gen.Reference10Ideal.Run
public import proofs.«01_k».proof.Proof.Gen.Reference10Ideal.Read
public import proofs.«01_k».proof.Proof.Tokens
public import Idealize.ShloMosaic.Lib.Pipeline.Value
public import Idealize.ShloMosaic.Lib.Tactic
public import Idealize.ShloMosaic.PureOps.Ideal.Laws

/-!
The gradient of the latent part of the input projection's weight, a product summed over all tokens: the kernel sums four blocks of 1024 tokens one after the other.
-/

@[expose] public section

noncomputable section

namespace Cert.Kernel10Ideal.ProductLat

open Kernel10Ideal Kernel10Ideal.Gen
open Tokens
open Idealize.ShloMosaic Idealize.ShloMosaic.TcCoe Idealize.ShloMosaic.Tactic Idealize.SL.Sem
open Idealize.ShloMosaic.Pipeline (Dat)

section
variable {F : FTy → Type} [FloatOps F]
variable (c : Dev nD) (i : grid0.Coords) (a2 : Memref sig .tc .vmem S1024x512 .bf16) (h2 : a2.IsWhole)
    (a3 : Memref sig .tc .vmem S1024x1024 .bf16) (h3 : a3.IsWhole) (a4 : Memref sig .tc .vmem S512x1024 .bf16) (h4 : a4.IsWhole)
    (a5 : Memref sig .tc .vmem S512x1024 .f32) (h5 : a5.IsWhole)
    (x : Vec F S1024x512 .bf16) (y : Vec F S1024x1024 .bf16) (s : Vec F S512x1024 .f32)

/-- The first point leaves the product of its blocks in the scratch. -/
theorem scratch_first (hc0 : cond0_0 i) (hc1 : ¬cond0_1 i) (hc2 : ¬cond0_2 i) :
    sout0_A_0 c i a2 h2 a3 h3 a4 h4 a5 h5 hc0 hc1 hc2 x y = k0_pay2 x y := by
  unfold sout0_A_0
  rw [View.read_writes_eq_canon _ _ _ (scover0_A_0 c i a2 h2 a3 h3 a4 h4 a5 h5 hc0 hc1 hc2 x y)]
  unfold kernelRun0_A
  dsimp only
  rw [View.canon_unit_zero zero2]
  simp only [View.readAt_eq_ld, h2.read_unread, h3.read_unread, View.ld_unit_zero (S := S1024x512) zero2, View.ld_unit_zero (S := S1024x1024) zero2]

/-- A middle point adds the product of its own, -/
theorem scratch_next (hc0 : ¬cond0_0 i) (hc1 : cond0_1 i) (hc2 : ¬cond0_2 i) :
    sout0_B_0 c i a2 h2 a3 h3 a4 h4 a5 h5 hc0 hc1 hc2 x y s = k0_pay3 x y s := by
  unfold sout0_B_0
  rw [View.read_writes_eq_canon _ _ _ (scover0_B_0 c i a2 h2 a3 h3 a4 h4 a5 h5 hc0 hc1 hc2 x y s)]
  unfold kernelRun0_B
  dsimp only
  rw [View.canon_unit_zero zero2]
  simp only [View.readAt_eq_ld, h2.read_unread, h3.read_unread, h5.read_unread, View.ld_unit_zero (S := S1024x512) zero2, View.ld_unit_zero (S := S1024x1024) zero2, View.ld_unit_zero (S := S512x1024) zero2]

/-- and the last hands the sum out. -/
theorem out_last (hc0 : ¬cond0_0 i) (hc1 : cond0_1 i) (hc2 : cond0_2 i) :
    out0_C_2 c i a2 h2 a3 h3 a4 h4 a5 h5 hc0 hc1 hc2 x y s = k0_pay4 (k0_pay3 x y s) := by
  unfold out0_C_2
  rw [View.read_writes_eq_canon _ _ _ (cover0_C_2 c i a2 h2 a3 h3 a4 h4 a5 h5 hc0 hc1 hc2 x y s)]
  unfold kernelRun0_C
  dsimp only
  sl_unfold_words
  rw [View.canon_unit_zero zero2]
  simp only [View.readCov_unit_zero (S := S512x1024) _ zero2, View.readAt_eq_ld, h2.read_unread, h3.read_unread, h5.read_unread,
    View.ld_unit_zero (S := S1024x512) zero2, View.ld_unit_zero (S := S1024x1024) zero2, View.ld_unit_zero (S := S512x1024) zero2]

end

/-! ## Over the extended reals -/

theorem pay2_at (x : Vec Ideal S1024x512 .bf16) (y : Vec Ideal S1024x1024 .bf16) (r : Fin 512) (l : Fin 1024) :
    k0_pay2 (F := Ideal) x y (ix2 r l) = ∑ t : Fin 1024, x (ix2 t r) * y (ix2 t l) := by
  pointwise [k0_pay2, k0_pay1]

theorem pay3_at (x : Vec Ideal S1024x512 .bf16) (y : Vec Ideal S1024x1024 .bf16) (s : Vec Ideal S512x1024 .f32) (r : Fin 512) (l : Fin 1024) :
    k0_pay3 (F := Ideal) x y s (ix2 r l) = s (ix2 r l) + ∑ t : Fin 1024, x (ix2 t r) * y (ix2 t l) := by
  pointwise [k0_pay3, k0_pay1]

theorem pay43_at (x : Vec Ideal S1024x512 .bf16) (y : Vec Ideal S1024x1024 .bf16) (s : Vec Ideal S512x1024 .f32) (r : Fin 512) (l : Fin 1024) :
    k0_pay4 (F := Ideal) (k0_pay3 (F := Ideal) x y s) (ix2 r l) = s (ix2 r l) + ∑ t : Fin 1024, x (ix2 t r) * y (ix2 t l) := by
  pointwise [k0_pay4, k0_pay3, k0_pay1]

variable (m : (ℓ : Loc nD τ sig) → Buf (Elt Ideal) ℓ)

/-- The two factors. -/
def facA (c : Dev nD) : S4096x512.Idx → EReal := m (c.tc.loc main_arg0)
def facB (c : Dev nD) : S4096x1024.Idx → EReal := m (c.tc.loc main_arg1)

theorem V_v0 (c : Dev nD) : V m c main_v0 = facA m c := by
  show StableHlo.after hostOps0 (fun b => m (c, b)) (Proc.devRef .tc main_v0) = _
  after_results
  rfl

theorem V_v1 (c : Dev nD) : V m c main_v1 = facB m c := by
  show StableHlo.after hostOps0 (fun b => m (c, b)) (Proc.devRef .tc main_v1) = _
  after_results
  rfl

theorem places : ∀ t : Fin grid0.N, win0_0.index t (0 : Fin 2) = t.val ∧ win0_0.index t (1 : Fin 2) = 0
    ∧ win0_1.index t (0 : Fin 2) = t.val ∧ win0_1.index t (1 : Fin 2) = 0 := by decide +kernel

/-- Point `t` reads its 1024 tokens of the first factor, -/
theorem iblk0_at (c : Dev nD) (t : Fin cfg0.N) (k : Fin 1024) (r : Fin 512) (hk : 1024 * t.val + k.val < 4096) :
    iblk m c 0 t (ix2 k r) = facA m c (ix2 ⟨1024 * t.val + k.val, hk⟩ r) := by
  obtain ⟨e0, e1, -, -⟩ := places t
  show V m c main_v0 _ = _
  rw [V_v0]
  exact congrArg _ (idx_eq _ _ _ (by show win0_0.index t (0 : Fin 2) * 1024 + 1 * k.val = 1024 * t.val + k.val; rw [e0]; omega) (by show win0_0.index t (1 : Fin 2) * 512 + 1 * r.val = r.val; rw [e1]; omega))

/-- and the same tokens of the second. -/
theorem iblk1_at (c : Dev nD) (t : Fin cfg0.N) (k : Fin 1024) (l : Fin 1024) (hk : 1024 * t.val + k.val < 4096) :
    iblk m c 1 t (ix2 k l) = facB m c (ix2 ⟨1024 * t.val + k.val, hk⟩ l) := by
  obtain ⟨-, -, e0, e1⟩ := places t
  show V m c main_v1 _ = _
  rw [V_v1]
  exact congrArg _ (idx_eq _ _ _ (by show win0_1.index t (0 : Fin 2) * 1024 + 1 * k.val = 1024 * t.val + k.val; rw [e0]; omega) (by show win0_1.index t (1 : Fin 2) * 1024 + 1 * l.val = l.val; rw [e1]; omega))

theorem part_at (c : Dev nD) (r : Fin 512) (l : Fin 1024) (t : Fin cfg0.N) (hn : t.val < 4) :
    ∑ k : Fin 1024, (let a : S1024x512.Idx → EReal := iblk m c 0 t; a (ix2 k r)) * (let b : S1024x1024.Idx → EReal := iblk m c 1 t; b (ix2 k l)) = quarter (facA m c) (facB m c) r l t.val hn :=
  Finset.sum_congr rfl fun k _ => congrArg₂ (· * ·) (iblk0_at m c t k r (by omega)) (iblk1_at m c t k l (by omega))

/-- What the scratch holds after the first point, after the second and after the third, -/
theorem scratch0 (c : Dev nD) (r : Fin 512) (l : Fin 1024) (h : 0 < cfg0.N) :
    (outsAt0 m c 0 h).2 (ix2 r l) = quarter (facA m c) (facB m c) r l 0 (by omega) := by
  have hA := congrArg Prod.snd (outsAt0_A m c ⟨0, h⟩ (by dsimp only) (by dsimp only; omega) (by dsimp only; omega))
  dsimp only at hA
  rw [hA, scratch_first, pay2_at]
  exact part_at m c r l ⟨0, h⟩ (by dsimp only; omega)

theorem scratch_step (c : Dev nD) (r : Fin 512) (l : Fin 1024) (n : ℕ) (h : n + 1 < cfg0.N) (hn : n + 1 < 3) :
    (outsAt0 m c (n + 1) h).2 (ix2 r l) = (outsAt0 m c n (by omega)).2 (ix2 r l) + quarter (facA m c) (facB m c) r l (n + 1) (by omega) := by
  have hB := congrArg Prod.snd (outsAt0_B m c ⟨n + 1, h⟩ (by dsimp only; omega) (by dsimp only; omega) (by dsimp only; omega))
  dsimp only at hB
  rw [hB, scratch_next, pay3_at]
  exact congrArg _ (part_at m c r l ⟨n + 1, h⟩ (by dsimp only; omega))

/-- and what the last point hands out. -/
theorem last_at (c : Dev nD) (r : Fin 512) (l : Fin 1024) (h : 3 < cfg0.N) :
    (outsAt0 m c 3 h).1 (ix2 r l) = quarter (facA m c) (facB m c) r l 0 (by omega) + quarter (facA m c) (facB m c) r l 1 (by omega) + quarter (facA m c) (facB m c) r l 2 (by omega) + quarter (facA m c) (facB m c) r l 3 (by omega) := by
  have hC := congrArg Prod.fst (outsAt0_C m c ⟨3, h⟩ (by dsimp only; omega) (by dsimp only; omega) (by dsimp only))
  dsimp only at hC
  rw [hC, out_last, pay43_at, ← scratch0 m c r l (by omega), ← scratch_step m c r l 0 (by omega) (by omega), ← scratch_step m c r l 1 (by omega) (by omega)]
  exact congrArg _ (part_at m c r l ⟨3, h⟩ (by dsimp only; omega))

/-- The kernel's result: the product of the two factors over all tokens. -/
theorem result_at (c : Dev nD) (i : S512x1024.Idx) :
    Value.G2 m c i = whole (facA m c) (facB m c) i := by
  have hN : cfg0.N = 4 := N_0
  have h0 : (i 0).val < 512 := (i 0).isLt
  have h1 : (i 1).val < 1024 := (i 1).isLt
  have hp : Value.pt2Of i = 3 := by
    show 4 * (1 * ((i 0).val / 512 - 0) + 1 * ((i 1).val / 1024 - 0)) + 3 = _; omega
  have hl : Value.loc2Of i = ix2 (i 0) (i 1) :=
    idx_eq _ _ _ (Nat.mod_eq_of_lt h0) (Nat.mod_eq_of_lt h1)
  unfold Value.G2
  rw [dif_pos (by rw [hp]; omega), Value.fold0_congr m c _ _ 3 (by omega) hp, ← Value.outsAt0_sweep, hl]
  exact (last_at m c (i 0) (i 1) (by omega)).trans (quarters _ _ i)

/-- The kernel ends with the product in its result. -/
theorem run_value (ρ : Dev nD → PrngReg) : θ_run (defs (F := Ideal)) (onTc (τ := τ) (main (F := Ideal))) ⟨m, fun _ => 0, ρ⟩ fun r => ∀ c : Dev nD,
    r.2.mem (c.tc.loc main_v2) = whole (facA m c) (facB m c)
      ∧ r.2.mem (c.tc.loc main_arg0) = m (c.tc.loc main_arg0)
      ∧ r.2.mem (c.tc.loc main_arg1) = m (c.tc.loc main_arg1) :=
  (θ_run defs _ _).mono (fun r h c => ⟨(h c).1.trans (funext fun i => result_at m c i), (h c).2⟩) (Value.run m ρ)

/-- The reference ends with the same product in its own. -/
theorem run_reference (m' : (ℓ : Loc Reference10Ideal.nD Reference10Ideal.τ Reference10Ideal.sig) → Buf (Elt Ideal) ℓ)
    (ρ : Dev Reference10Ideal.nD → PrngReg)
    (hm : ∀ c : Dev nD,
      m' (c.tc.loc Reference10Ideal.main_arg0) = m (c.tc.loc main_arg0)
      ∧ m' (c.tc.loc Reference10Ideal.main_arg1) = m (c.tc.loc main_arg1)) :
    θ_run (Reference10Ideal.defs (F := Ideal)) (onTc (τ := Reference10Ideal.τ) (Reference10Ideal.main (F := Ideal))) ⟨m', fun _ => 0, ρ⟩
      fun r => ∀ c : Dev Reference10Ideal.nD,
        r.2.mem (c.tc.loc Reference10Ideal.main_v3)
            = whole (facA m c) (facB m c)
          ∧ r.2.mem (c.tc.loc Reference10Ideal.main_arg0)
            = m' (c.tc.loc Reference10Ideal.main_arg0)
          ∧ r.2.mem (c.tc.loc Reference10Ideal.main_arg1)
            = m' (c.tc.loc Reference10Ideal.main_arg1) := by
  refine (θ_run Reference10Ideal.defs _ _).mono (fun r h c => ⟨(h c).1.trans (funext fun i => ?_), (h c).2⟩) (Reference10Ideal.Value.run m' ρ)
  rw [(hm c).1, (hm c).2]
  refine (Reference10Ideal.Read.val_main_v2_apply (facA m c) (facB m c) i).trans (Finset.sum_congr rfl fun k _ => ?_)
  exact congrArg₂ (· * ·) (congrArg (facA m c) (idx_eq _ _ _ rfl rfl)) (congrArg (facB m c) (idx_eq _ _ _ rfl rfl))

end Cert.Kernel10Ideal.ProductLat
end
-- ==== Proof.ProductOut.lean ====
module

public import proofs.«01_k».proof.Proof.Gen.Kernel11Ideal.Value
public import proofs.«01_k».proof.Proof.Gen.Reference11Ideal.Run
public import proofs.«01_k».proof.Proof.Gen.Reference11Ideal.Read
public import proofs.«01_k».proof.Proof.Tokens
public import Idealize.ShloMosaic.Lib.Pipeline.Value
public import Idealize.ShloMosaic.Lib.Tactic
public import Idealize.ShloMosaic.PureOps.Ideal.Laws

/-!
The gradient of the output weight of the mixing, a product summed over all tokens: the kernel sums four blocks of 1024 tokens one after the other.
-/

@[expose] public section

noncomputable section

namespace Cert.Kernel11Ideal.ProductOut

open Kernel11Ideal Kernel11Ideal.Gen
open Tokens
open Idealize.ShloMosaic Idealize.ShloMosaic.TcCoe Idealize.ShloMosaic.Tactic Idealize.SL.Sem
open Idealize.ShloMosaic.Pipeline (Dat)

section
variable {F : FTy → Type} [FloatOps F]
variable (c : Dev nD) (i : grid0.Coords) (a2 : Memref sig .tc .vmem S1024x1024 .bf16) (h2 : a2.IsWhole)
    (a3 : Memref sig .tc .vmem S1024x1024 .bf16) (h3 : a3.IsWhole) (a4 : Memref sig .tc .vmem S1024x1024 .bf16) (h4 : a4.IsWhole)
    (a5 : Memref sig .tc .vmem S1024x1024 .f32) (h5 : a5.IsWhole)
    (x : Vec F S1024x1024 .bf16) (y : Vec F S1024x1024 .bf16) (s : Vec F S1024x1024 .f32)

/-- The first point leaves the product of its blocks in the scratch. -/
theorem scratch_first (hc0 : cond0_0 i) (hc1 : ¬cond0_1 i) (hc2 : ¬cond0_2 i) :
    sout0_A_0 c i a2 h2 a3 h3 a4 h4 a5 h5 hc0 hc1 hc2 x y = k0_pay2 x y := by
  unfold sout0_A_0
  rw [View.read_writes_eq_canon _ _ _ (scover0_A_0 c i a2 h2 a3 h3 a4 h4 a5 h5 hc0 hc1 hc2 x y)]
  unfold kernelRun0_A
  dsimp only
  rw [View.canon_unit_zero zero2]
  simp only [View.readAt_eq_ld, h2.read_unread, h3.read_unread, View.ld_unit_zero (S := S1024x1024) zero2]

/-- A middle point adds the product of its own, -/
theorem scratch_next (hc0 : ¬cond0_0 i) (hc1 : cond0_1 i) (hc2 : ¬cond0_2 i) :
    sout0_B_0 c i a2 h2 a3 h3 a4 h4 a5 h5 hc0 hc1 hc2 x y s = k0_pay3 x y s := by
  unfold sout0_B_0
  rw [View.read_writes_eq_canon _ _ _ (scover0_B_0 c i a2 h2 a3 h3 a4 h4 a5 h5 hc0 hc1 hc2 x y s)]
  unfold kernelRun0_B
  dsimp only
  rw [View.canon_unit_zero zero2]
  simp only [View.readAt_eq_ld, h2.read_unread, h3.read_unread, h5.read_unread, View.ld_unit_zero (S := S1024x1024) zero2]

/-- and the last hands the sum out. -/
theorem out_last (hc0 : ¬cond0_0 i) (hc1 : cond0_1 i) (hc2 : cond0_2 i) :
    out0_C_2 c i a2 h2 a3 h3 a4 h4 a5 h5 hc0 hc1 hc2 x y s = k0_pay4 (k0_pay3 x y s) := by
  unfold out0_C_2
  rw [View.read_writes_eq_canon _ _ _ (cover0_C_2 c i a2 h2 a3 h3 a4 h4 a5 h5 hc0 hc1 hc2 x y s)]
  unfold kernelRun0_C
  dsimp only
  sl_unfold_words
  rw [View.canon_unit_zero zero2]
  simp only [View.readCov_unit_zero (S := S1024x1024) _ zero2, View.readAt_eq_ld, h2.read_unread, h3.read_unread, h5.read_unread,
    View.ld_unit_zero (S := S1024x1024) zero2]

end

/-! ## Over the extended reals -/

theorem pay2_at (x : Vec Ideal S1024x1024 .bf16) (y : Vec Ideal S1024x1024 .bf16) (r : Fin 1024) (l : Fin 1024) :
    k0_pay2 (F := Ideal) x y (ix2 r l) = ∑ t : Fin 1024, x (ix2 t r) * y (ix2 t l) := by
  pointwise [k0_pay2, k0_pay1]

theorem pay3_at (x : Vec Ideal S1024x1024 .bf16) (y : Vec Ideal S1024x1024 .bf16) (s : Vec Ideal S1024x1024 .f32) (r : Fin 1024) (l : Fin 1024) :
    k0_pay3 (F := Ideal) x y s (ix2 r l) = s (ix2 r l) + ∑ t : Fin 1024, x (ix2 t r) * y (ix2 t l) := by
  pointwise [k0_pay3, k0_pay1]

theorem pay43_at (x : Vec Ideal S1024x1024 .bf16) (y : Vec Ideal S1024x1024 .bf16) (s : Vec Ideal S1024x1024 .f32) (r : Fin 1024) (l : Fin 1024) :
    k0_pay4 (F := Ideal) (k0_pay3 (F := Ideal) x y s) (ix2 r l) = s (ix2 r l) + ∑ t : Fin 1024, x (ix2 t r) * y (ix2 t l) := by
  pointwise [k0_pay4, k0_pay3, k0_pay1]

variable (m : (ℓ : Loc nD τ sig) → Buf (Elt Ideal) ℓ)

/-- The two factors. -/
def facA (c : Dev nD) : S4096x1024.Idx → EReal := m (c.tc.loc main_arg0)
def facB (c : Dev nD) : S4096x1024.Idx → EReal := m (c.tc.loc main_arg1)

theorem V_v0 (c : Dev nD) : V m c main_v0 = facA m c := by
  show StableHlo.after hostOps0 (fun b => m (c, b)) (Proc.devRef .tc main_v0) = _
  after_results
  rfl

theorem V_v1 (c : Dev nD) : V m c main_v1 = facB m c := by
  show StableHlo.after hostOps0 (fun b => m (c, b)) (Proc.devRef .tc main_v1) = _
  after_results
  rfl

theorem places : ∀ t : Fin grid0.N, win0_0.index t (0 : Fin 2) = t.val ∧ win0_0.index t (1 : Fin 2) = 0
    ∧ win0_1.index t (0 : Fin 2) = t.val ∧ win0_1.index t (1 : Fin 2) = 0 := by decide +kernel

/-- Point `t` reads its 1024 tokens of the first factor, -/
theorem iblk0_at (c : Dev nD) (t : Fin cfg0.N) (k : Fin 1024) (r : Fin 1024) (hk : 1024 * t.val + k.val < 4096) :
    iblk m c 0 t (ix2 k r) = facA m c (ix2 ⟨1024 * t.val + k.val, hk⟩ r) := by
  obtain ⟨e0, e1, -, -⟩ := places t
  show V m c main_v0 _ = _
  rw [V_v0]
  exact congrArg _ (idx_eq _ _ _ (by show win0_0.index t (0 : Fin 2) * 1024 + 1 * k.val = 1024 * t.val + k.val; rw [e0]; omega) (by show win0_0.index t (1 : Fin 2) * 1024 + 1 * r.val = r.val; rw [e1]; omega))

/-- and the same tokens of the second. -/
theorem iblk1_at (c : Dev nD) (t : Fin cfg0.N) (k : Fin 1024) (l : Fin 1024) (hk : 1024 * t.val + k.val < 4096) :
    iblk m c 1 t (ix2 k l) = facB m c (ix2 ⟨1024 * t.val + k.val, hk⟩ l) := by
  obtain ⟨-, -, e0, e1⟩ := places t
  show V m c main_v1 _ = _
  rw [V_v1]
  exact congrArg _ (idx_eq _ _ _ (by show win0_1.index t (0 : Fin 2) * 1024 + 1 * k.val = 1024 * t.val + k.val; rw [e0]; omega) (by show win0_1.index t (1 : Fin 2) * 1024 + 1 * l.val = l.val; rw [e1]; omega))

theorem part_at (c : Dev nD) (r : Fin 1024) (l : Fin 1024) (t : Fin cfg0.N) (hn : t.val < 4) :
    ∑ k : Fin 1024, (let a : S1024x1024.Idx → EReal := iblk m c 0 t; a (ix2 k r)) * (let b : S1024x1024.Idx → EReal := iblk m c 1 t; b (ix2 k l)) = quarter (facA m c) (facB m c) r l t.val hn :=
  Finset.sum_congr rfl fun k _ => congrArg₂ (· * ·) (iblk0_at m c t k r (by omega)) (iblk1_at m c t k l (by omega))

/-- What the scratch holds after the first point, after the second and after the third, -/
theorem scratch0 (c : Dev nD) (r : Fin 1024) (l : Fin 1024) (h : 0 < cfg0.N) :
    (outsAt0 m c 0 h).2 (ix2 r l) = quarter (facA m c) (facB m c) r l 0 (by omega) := by
  have hA := congrArg Prod.snd (outsAt0_A m c ⟨0, h⟩ (by dsimp only) (by dsimp only; omega) (by dsimp only; omega))
  dsimp only at hA
  rw [hA, scratch_first, pay2_at]
  exact part_at m c r l ⟨0, h⟩ (by dsimp only; omega)

theorem scratch_step (c : Dev nD) (r : Fin 1024) (l : Fin 1024) (n : ℕ) (h : n + 1 < cfg0.N) (hn : n + 1 < 3) :
    (outsAt0 m c (n + 1) h).2 (ix2 r l) = (outsAt0 m c n (by omega)).2 (ix2 r l) + quarter (facA m c) (facB m c) r l (n + 1) (by omega) := by
  have hB := congrArg Prod.snd (outsAt0_B m c ⟨n + 1, h⟩ (by dsimp only; omega) (by dsimp only; omega) (by dsimp only; omega))
  dsimp only at hB
  rw [hB, scratch_next, pay3_at]
  exact congrArg _ (part_at m c r l ⟨n + 1, h⟩ (by dsimp only; omega))

/-- and what the last point hands out. -/
theorem last_at (c : Dev nD) (r : Fin 1024) (l : Fin 1024) (h : 3 < cfg0.N) :
    (outsAt0 m c 3 h).1 (ix2 r l) = quarter (facA m c) (facB m c) r l 0 (by omega) + quarter (facA m c) (facB m c) r l 1 (by omega) + quarter (facA m c) (facB m c) r l 2 (by omega) + quarter (facA m c) (facB m c) r l 3 (by omega) := by
  have hC := congrArg Prod.fst (outsAt0_C m c ⟨3, h⟩ (by dsimp only; omega) (by dsimp only; omega) (by dsimp only))
  dsimp only at hC
  rw [hC, out_last, pay43_at, ← scratch0 m c r l (by omega), ← scratch_step m c r l 0 (by omega) (by omega), ← scratch_step m c r l 1 (by omega) (by omega)]
  exact congrArg _ (part_at m c r l ⟨3, h⟩ (by dsimp only; omega))

/-- The kernel's result: the product of the two factors over all tokens. -/
theorem result_at (c : Dev nD) (i : S1024x1024.Idx) :
    Value.G2 m c i = whole (facA m c) (facB m c) i := by
  have hN : cfg0.N = 4 := N_0
  have h0 : (i 0).val < 1024 := (i 0).isLt
  have h1 : (i 1).val < 1024 := (i 1).isLt
  have hp : Value.pt2Of i = 3 := by
    show 4 * (1 * ((i 0).val / 1024 - 0) + 1 * ((i 1).val / 1024 - 0)) + 3 = _; omega
  have hl : Value.loc2Of i = ix2 (i 0) (i 1) :=
    idx_eq _ _ _ (Nat.mod_eq_of_lt h0) (Nat.mod_eq_of_lt h1)
  unfold Value.G2
  rw [dif_pos (by rw [hp]; omega), Value.fold0_congr m c _ _ 3 (by omega) hp, ← Value.outsAt0_sweep, hl]
  exact (last_at m c (i 0) (i 1) (by omega)).trans (quarters _ _ i)

/-- The kernel ends with the product in its result. -/
theorem run_value (ρ : Dev nD → PrngReg) : θ_run (defs (F := Ideal)) (onTc (τ := τ) (main (F := Ideal))) ⟨m, fun _ => 0, ρ⟩ fun r => ∀ c : Dev nD,
    r.2.mem (c.tc.loc main_v2) = whole (facA m c) (facB m c)
      ∧ r.2.mem (c.tc.loc main_arg0) = m (c.tc.loc main_arg0)
      ∧ r.2.mem (c.tc.loc main_arg1) = m (c.tc.loc main_arg1) :=
  (θ_run defs _ _).mono (fun r h c => ⟨(h c).1.trans (funext fun i => result_at m c i), (h c).2⟩) (Value.run m ρ)

/-- The reference ends with the same product in its own. -/
theorem run_reference (m' : (ℓ : Loc Reference11Ideal.nD Reference11Ideal.τ Reference11Ideal.sig) → Buf (Elt Ideal) ℓ)
    (ρ : Dev Reference11Ideal.nD → PrngReg)
    (hm : ∀ c : Dev nD,
      m' (c.tc.loc Reference11Ideal.main_arg0) = m (c.tc.loc main_arg0)
      ∧ m' (c.tc.loc Reference11Ideal.main_arg1) = m (c.tc.loc main_arg1)) :
    θ_run (Reference11Ideal.defs (F := Ideal)) (onTc (τ := Reference11Ideal.τ) (Reference11Ideal.main (F := Ideal))) ⟨m', fun _ => 0, ρ⟩
      fun r => ∀ c : Dev Reference11Ideal.nD,
        r.2.mem (c.tc.loc Reference11Ideal.main_v3)
            = whole (facA m c) (facB m c)
          ∧ r.2.mem (c.tc.loc Reference11Ideal.main_arg0)
            = m' (c.tc.loc Reference11Ideal.main_arg0)
          ∧ r.2.mem (c.tc.loc Reference11Ideal.main_arg1)
            = m' (c.tc.loc Reference11Ideal.main_arg1) := by
  refine (θ_run Reference11Ideal.defs _ _).mono (fun r h c => ⟨(h c).1.trans (funext fun i => ?_), (h c).2⟩) (Reference11Ideal.Value.run m' ρ)
  rw [(hm c).1, (hm c).2]
  refine (Reference11Ideal.Read.val_main_v2_apply (facA m c) (facB m c) i).trans (Finset.sum_congr rfl fun k _ => ?_)
  exact congrArg₂ (· * ·) (congrArg (facA m c) (idx_eq _ _ _ rfl rfl)) (congrArg (facB m c) (idx_eq _ _ _ rfl rfl))

end Cert.Kernel11Ideal.ProductOut
end
-- ==== Proof.ProductBranch.lean ====
module

public import proofs.«01_k».proof.Proof.Gen.Kernel12Ideal.Value
public import proofs.«01_k».proof.Proof.Gen.Reference12Ideal.Run
public import proofs.«01_k».proof.Proof.Gen.Reference12Ideal.Read
public import proofs.«01_k».proof.Proof.Tokens
public import Idealize.ShloMosaic.Lib.Pipeline.Value
public import Idealize.ShloMosaic.Lib.Tactic
public import Idealize.ShloMosaic.PureOps.Ideal.Laws

/-!
The gradient of the weight of one branch of the mixing, a product summed over all tokens: the kernel sums four blocks of 1024 tokens one after the other.
-/

@[expose] public section

noncomputable section

namespace Cert.Kernel12Ideal.ProductBranch

open Kernel12Ideal Kernel12Ideal.Gen
open Tokens
open Idealize.ShloMosaic Idealize.ShloMosaic.TcCoe Idealize.ShloMosaic.Tactic Idealize.SL.Sem
open Idealize.ShloMosaic.Pipeline (Dat)

section
variable {F : FTy → Type} [FloatOps F]
variable (c : Dev nD) (i : grid0.Coords) (a2 : Memref sig .tc .vmem S1024x1024 .bf16) (h2 : a2.IsWhole)
    (a3 : Memref sig .tc .vmem S1024x512 .bf16) (h3 : a3.IsWhole) (a4 : Memref sig .tc .vmem S1024x512 .bf16) (h4 : a4.IsWhole)
    (a5 : Memref sig .tc .vmem S1024x512 .f32) (h5 : a5.IsWhole)
    (x : Vec F S1024x1024 .bf16) (y : Vec F S1024x512 .bf16) (s : Vec F S1024x512 .f32)

/-- The first point leaves the product of its blocks in the scratch. -/
theorem scratch_first (hc0 : cond0_0 i) (hc1 : ¬cond0_1 i) (hc2 : ¬cond0_2 i) :
    sout0_A_0 c i a2 h2 a3 h3 a4 h4 a5 h5 hc0 hc1 hc2 x y = k0_pay2 x y := by
  unfold sout0_A_0
  rw [View.read_writes_eq_canon _ _ _ (scover0_A_0 c i a2 h2 a3 h3 a4 h4 a5 h5 hc0 hc1 hc2 x y)]
  unfold kernelRun0_A
  dsimp only
  rw [View.canon_unit_zero zero2]
  simp only [View.readAt_eq_ld, h2.read_unread, h3.read_unread, View.ld_unit_zero (S := S1024x1024) zero2, View.ld_unit_zero (S := S1024x512) zero2]

/-- A middle point adds the product of its own, -/
theorem scratch_next (hc0 : ¬cond0_0 i) (hc1 : cond0_1 i) (hc2 : ¬cond0_2 i) :
    sout0_B_0 c i a2 h2 a3 h3 a4 h4 a5 h5 hc0 hc1 hc2 x y s = k0_pay3 x y s := by
  unfold sout0_B_0
  rw [View.read_writes_eq_canon _ _ _ (scover0_B_0 c i a2 h2 a3 h3 a4 h4 a5 h5 hc0 hc1 hc2 x y s)]
  unfold kernelRun0_B
  dsimp only
  rw [View.canon_unit_zero zero2]
  simp only [View.readAt_eq_ld, h2.read_unread, h3.read_unread, h5.read_unread, View.ld_unit_zero (S := S1024x1024) zero2, View.ld_unit_zero (S := S1024x512) zero2]

/-- and the last hands the sum out. -/
theorem out_last (hc0 : ¬cond0_0 i) (hc1 : cond0_1 i) (hc2 : cond0_2 i) :
    out0_C_2 c i a2 h2 a3 h3 a4 h4 a5 h5 hc0 hc1 hc2 x y s = k0_pay4 (k0_pay3 x y s) := by
  unfold out0_C_2
  rw [View.read_writes_eq_canon _ _ _ (cover0_C_2 c i a2 h2 a3 h3 a4 h4 a5 h5 hc0 hc1 hc2 x y s)]
  unfold kernelRun0_C
  dsimp only
  sl_unfold_words
  rw [View.canon_unit_zero zero2]
  simp only [View.readCov_unit_zero (S := S1024x512) _ zero2, View.readAt_eq_ld, h2.read_unread, h3.read_unread, h5.read_unread,
    View.ld_unit_zero (S := S1024x1024) zero2, View.ld_unit_zero (S := S1024x512) zero2]

end

/-! ## Over the extended reals -/

theorem pay2_at (x : Vec Ideal S1024x1024 .bf16) (y : Vec Ideal S1024x512 .bf16) (r : Fin 1024) (l : Fin 512) :
    k0_pay2 (F := Ideal) x y (ix2 r l) = ∑ t : Fin 1024, x (ix2 t r) * y (ix2 t l) := by
  pointwise [k0_pay2, k0_pay1]

theorem pay3_at (x : Vec Ideal S1024x1024 .bf16) (y : Vec Ideal S1024x512 .bf16) (s : Vec Ideal S1024x512 .f32) (r : Fin 1024) (l : Fin 512) :
    k0_pay3 (F := Ideal) x y s (ix2 r l) = s (ix2 r l) + ∑ t : Fin 1024, x (ix2 t r) * y (ix2 t l) := by
  pointwise [k0_pay3, k0_pay1]

theorem pay43_at (x : Vec Ideal S1024x1024 .bf16) (y : Vec Ideal S1024x512 .bf16) (s : Vec Ideal S1024x512 .f32) (r : Fin 1024) (l : Fin 512) :
    k0_pay4 (F := Ideal) (k0_pay3 (F := Ideal) x y s) (ix2 r l) = s (ix2 r l) + ∑ t : Fin 1024, x (ix2 t r) * y (ix2 t l) := by
  pointwise [k0_pay4, k0_pay3, k0_pay1]

variable (m : (ℓ : Loc nD τ sig) → Buf (Elt Ideal) ℓ)

/-- The two factors. -/
def facA (c : Dev nD) : S4096x1024.Idx → EReal := m (c.tc.loc main_arg0)
def facB (c : Dev nD) : S4096x512.Idx → EReal := m (c.tc.loc main_arg1)

theorem V_v0 (c : Dev nD) : V m c main_v0 = facA m c := by
  show StableHlo.after hostOps0 (fun b => m (c, b)) (Proc.devRef .tc main_v0) = _
  after_results
  rfl

theorem V_v1 (c : Dev nD) : V m c main_v1 = facB m c := by
  show StableHlo.after hostOps0 (fun b => m (c, b)) (Proc.devRef .tc main_v1) = _
  after_results
  rfl

theorem places : ∀ t : Fin grid0.N, win0_0.index t (0 : Fin 2) = t.val ∧ win0_0.index t (1 : Fin 2) = 0
    ∧ win0_1.index t (0 : Fin 2) = t.val ∧ win0_1.index t (1 : Fin 2) = 0 := by decide +kernel

/-- Point `t` reads its 1024 tokens of the first factor, -/
theorem iblk0_at (c : Dev nD) (t : Fin cfg0.N) (k : Fin 1024) (r : Fin 1024) (hk : 1024 * t.val + k.val < 4096) :
    iblk m c 0 t (ix2 k r) = facA m c (ix2 ⟨1024 * t.val + k.val, hk⟩ r) := by
  obtain ⟨e0, e1, -, -⟩ := places t
  show V m c main_v0 _ = _
  rw [V_v0]
  exact congrArg _ (idx_eq _ _ _ (by show win0_0.index t (0 : Fin 2) * 1024 + 1 * k.val = 1024 * t.val + k.val; rw [e0]; omega) (by show win0_0.index t (1 : Fin 2) * 1024 + 1 * r.val = r.val; rw [e1]; omega))

/-- and the same tokens of the second. -/
theorem iblk1_at (c : Dev nD) (t : Fin cfg0.N) (k : Fin 1024) (l : Fin 512) (hk : 1024 * t.val + k.val < 4096) :
    iblk m c 1 t (ix2 k l) = facB m c (ix2 ⟨1024 * t.val + k.val, hk⟩ l) := by
  obtain ⟨-, -, e0, e1⟩ := places t
  show V m c main_v1 _ = _
  rw [V_v1]
  exact congrArg _ (idx_eq _ _ _ (by show win0_1.index t (0 : Fin 2) * 1024 + 1 * k.val = 1024 * t.val + k.val; rw [e0]; omega) (by show win0_1.index t (1 : Fin 2) * 512 + 1 * l.val = l.val; rw [e1]; omega))

theorem part_at (c : Dev nD) (r : Fin 1024) (l : Fin 512) (t : Fin cfg0.N) (hn : t.val < 4) :
    ∑ k : Fin 1024, (let a : S1024x1024.Idx → EReal := iblk m c 0 t; a (ix2 k r)) * (let b : S1024x512.Idx → EReal := iblk m c 1 t; b (ix2 k l)) = quarter (facA m c) (facB m c) r l t.val hn :=
  Finset.sum_congr rfl fun k _ => congrArg₂ (· * ·) (iblk0_at m c t k r (by omega)) (iblk1_at m c t k l (by omega))

/-- What the scratch holds after the first point, after the second and after the third, -/
theorem scratch0 (c : Dev nD) (r : Fin 1024) (l : Fin 512) (h : 0 < cfg0.N) :
    (outsAt0 m c 0 h).2 (ix2 r l) = quarter (facA m c) (facB m c) r l 0 (by omega) := by
  have hA := congrArg Prod.snd (outsAt0_A m c ⟨0, h⟩ (by dsimp only) (by dsimp only; omega) (by dsimp only; omega))
  dsimp only at hA
  rw [hA, scratch_first, pay2_at]
  exact part_at m c r l ⟨0, h⟩ (by dsimp only; omega)

theorem scratch_step (c : Dev nD) (r : Fin 1024) (l : Fin 512) (n : ℕ) (h : n + 1 < cfg0.N) (hn : n + 1 < 3) :
    (outsAt0 m c (n + 1) h).2 (ix2 r l) = (outsAt0 m c n (by omega)).2 (ix2 r l) + quarter (facA m c) (facB m c) r l (n + 1) (by omega) := by
  have hB := congrArg Prod.snd (outsAt0_B m c ⟨n + 1, h⟩ (by dsimp only; omega) (by dsimp only; omega) (by dsimp only; omega))
  dsimp only at hB
  rw [hB, scratch_next, pay3_at]
  exact congrArg _ (part_at m c r l ⟨n + 1, h⟩ (by dsimp only; omega))

/-- and what the last point hands out. -/
theorem last_at (c : Dev nD) (r : Fin 1024) (l : Fin 512) (h : 3 < cfg0.N) :
    (outsAt0 m c 3 h).1 (ix2 r l) = quarter (facA m c) (facB m c) r l 0 (by omega) + quarter (facA m c) (facB m c) r l 1 (by omega) + quarter (facA m c) (facB m c) r l 2 (by omega) + quarter (facA m c) (facB m c) r l 3 (by omega) := by
  have hC := congrArg Prod.fst (outsAt0_C m c ⟨3, h⟩ (by dsimp only; omega) (by dsimp only; omega) (by dsimp only))
  dsimp only at hC
  rw [hC, out_last, pay43_at, ← scratch0 m c r l (by omega), ← scratch_step m c r l 0 (by omega) (by omega), ← scratch_step m c r l 1 (by omega) (by omega)]
  exact congrArg _ (part_at m c r l ⟨3, h⟩ (by dsimp only; omega))

/-- The kernel's result: the product of the two factors over all tokens. -/
theorem result_at (c : Dev nD) (i : S1024x512.Idx) :
    Value.G2 m c i = whole (facA m c) (facB m c) i := by
  have hN : cfg0.N = 4 := N_0
  have h0 : (i 0).val < 1024 := (i 0).isLt
  have h1 : (i 1).val < 512 := (i 1).isLt
  have hp : Value.pt2Of i = 3 := by
    show 4 * (1 * ((i 0).val / 1024 - 0) + 1 * ((i 1).val / 512 - 0)) + 3 = _; omega
  have hl : Value.loc2Of i = ix2 (i 0) (i 1) :=
    idx_eq _ _ _ (Nat.mod_eq_of_lt h0) (Nat.mod_eq_of_lt h1)
  unfold Value.G2
  rw [dif_pos (by rw [hp]; omega), Value.fold0_congr m c _ _ 3 (by omega) hp, ← Value.outsAt0_sweep, hl]
  exact (last_at m c (i 0) (i 1) (by omega)).trans (quarters _ _ i)

/-- The kernel ends with the product in its result. -/
theorem run_value (ρ : Dev nD → PrngReg) : θ_run (defs (F := Ideal)) (onTc (τ := τ) (main (F := Ideal))) ⟨m, fun _ => 0, ρ⟩ fun r => ∀ c : Dev nD,
    r.2.mem (c.tc.loc main_v2) = whole (facA m c) (facB m c)
      ∧ r.2.mem (c.tc.loc main_arg0) = m (c.tc.loc main_arg0)
      ∧ r.2.mem (c.tc.loc main_arg1) = m (c.tc.loc main_arg1) :=
  (θ_run defs _ _).mono (fun r h c => ⟨(h c).1.trans (funext fun i => result_at m c i), (h c).2⟩) (Value.run m ρ)

/-- The reference ends with the same product in its own. -/
theorem run_reference (m' : (ℓ : Loc Reference12Ideal.nD Reference12Ideal.τ Reference12Ideal.sig) → Buf (Elt Ideal) ℓ)
    (ρ : Dev Reference12Ideal.nD → PrngReg)
    (hm : ∀ c : Dev nD,
      m' (c.tc.loc Reference12Ideal.main_arg0) = m (c.tc.loc main_arg0)
      ∧ m' (c.tc.loc Reference12Ideal.main_arg1) = m (c.tc.loc main_arg1)) :
    θ_run (Reference12Ideal.defs (F := Ideal)) (onTc (τ := Reference12Ideal.τ) (Reference12Ideal.main (F := Ideal))) ⟨m', fun _ => 0, ρ⟩
      fun r => ∀ c : Dev Reference12Ideal.nD,
        r.2.mem (c.tc.loc Reference12Ideal.main_v3)
            = whole (facA m c) (facB m c)
          ∧ r.2.mem (c.tc.loc Reference12Ideal.main_arg0)
            = m' (c.tc.loc Reference12Ideal.main_arg0)
          ∧ r.2.mem (c.tc.loc Reference12Ideal.main_arg1)
            = m' (c.tc.loc Reference12Ideal.main_arg1) := by
  refine (θ_run Reference12Ideal.defs _ _).mono (fun r h c => ⟨(h c).1.trans (funext fun i => ?_), (h c).2⟩) (Reference12Ideal.Value.run m' ρ)
  rw [(hm c).1, (hm c).2]
  refine (Reference12Ideal.Read.val_main_v2_apply (facA m c) (facB m c) i).trans (Finset.sum_congr rfl fun k _ => ?_)
  exact congrArg₂ (· * ·) (congrArg (facA m c) (idx_eq _ _ _ rfl rfl)) (congrArg (facB m c) (idx_eq _ _ _ rfl rfl))

end Cert.Kernel12Ideal.ProductBranch
end
-- ==== Proof.Adam.lean ====
module

public import proofs.«01_k».proof.Proof.Gen.Kernel13Ideal.Value
public import proofs.«01_k».proof.Proof.Gen.Reference13Ideal.Run
public import proofs.«01_k».proof.Proof.Gen.Reference13Ideal.Read
public import proofs.«01_k».proof.Proof.Tokens
public import Idealize.ShloMosaic.Lib.Pointwise
public import Idealize.ShloMosaic.Lib.Pipeline.Value
public import Idealize.ShloMosaic.Lib.Tactic
public import Idealize.ShloMosaic.Lib.IdealHost
public import Idealize.ShloMosaic.PureOps.Ideal
public import Idealize.ShloMosaic.PureOps.Ideal.Laws

/-!
The optimiser's step of one weight: the four slots of its gradient added up, the two moments moved towards the gradient and its square,
and the change of the weight, half of the weight's rows at a time.
-/

@[expose] public section

noncomputable section

namespace Cert.Kernel13Ideal.Adam

open Kernel13Ideal Kernel13Ideal.Gen
open Tokens (zero2 idx_eq)
open Idealize.ShloMosaic Idealize.ShloMosaic.TcCoe Idealize.ShloMosaic.Tactic Idealize.SL.Sem

/-! ## The step at one index -/

/-- The first moment, from what it was and the gradient, -/
def first (m g : EReal) : EReal := Ideal.ofBits .f32 0x3F666666#32 * m + Ideal.ofBits .f32 0x3DCCCCCD#32 * g

/-- the second moment, -/
def second (v g : EReal) : EReal := Ideal.ofBits .f32 0x3F7FBE77#32 * v + Ideal.ofBits .f32 0x3A83126F#32 * (g * g)

/-- and the change of the weight. -/
def change (w m v g : EReal) : EReal :=
  Ideal.ofBits .f32 0xBA83126F#32 * (Ideal.div (Ideal.div (first m g) (Ideal.ofBits .f32 0x3F26BD02#32))
    (Ideal.sqrt (Ideal.div (second v g) (Ideal.ofBits .f32 0x3C231ACC#32)) + Ideal.ofBits .f32 0x322BCC77#32) + Ideal.ofBits .f32 0x3C23D70A#32 * w)

/-! ## What one point writes, at an index of its block -/

section
variable (x0 : Vec Ideal S4x176x1024 .bf16) (x1 x2 x3 : Vec Ideal S176x1024 .f32) (r : Fin 176) (l : Fin 1024)

/-- The sum of the slots. -/
def added : EReal := x0 (ix3 0 r l) + x0 (ix3 1 r l) + x0 (ix3 2 r l) + x0 (ix3 3 r l)

theorem sum_at : k0_pay2 (F := Ideal) (View.ld x0 r0_0) (View.ld x0 r0_1) (View.ld x0 r0_2) (View.ld x0 r0_3) (ix2 r l) = added x0 r l := by
  have pay : ∀ a b c d : Vec Ideal S1x176x1024 .bf16,
      k0_pay2 (F := Ideal) a b c d (ix2 r l) = a (ix3 0 r l) + b (ix3 0 r l) + c (ix3 0 r l) + d (ix3 0 r l) := fun a b c d => by
    pointwise [k0_pay2]
  have slot : ∀ (i : S4x176x1024.Idx) (s : Fin 4), (i 0).val = s.val → (i 1).val = 0 + 1 * r.val → (i 2).val = 0 + 1 * l.val → x0 i = x0 (ix3 s r l) :=
    fun i s h0 h1 h2 => congrArg x0 (funext fun a => Fin.ext (match a with
      | ⟨0, _⟩ => h0 | ⟨1, _⟩ => h1.trans (show 0 + 1 * r.val = r.val by omega) | ⟨2, _⟩ => h2.trans (show 0 + 1 * l.val = l.val by omega)))
  rw [pay]
  exact congrArg₂ (· + ·) (congrArg₂ (· + ·) (congrArg₂ (· + ·) (slot _ 0 rfl rfl rfl) (slot _ 1 rfl rfl rfl)) (slot _ 2 rfl rfl rfl)) (slot _ 3 rfl rfl rfl)

theorem sum_out : out0_4 (F := Ideal) x0 x1 x2 x3 (ix2 r l) = added x0 r l := by
  unfold out0_4
  rw [View.canon_unit_zero zero2, sum_at]

theorem first_out : out0_6 (F := Ideal) x0 x1 x2 x3 (ix2 r l) = first (x2 (ix2 r l)) (added x0 r l) := by
  unfold out0_6
  rw [View.canon_unit_zero zero2, View.ld_unit_zero (S := S176x1024) zero2, ← sum_at]
  rfl

theorem second_out : out0_7 (F := Ideal) x0 x1 x2 x3 (ix2 r l) = second (x3 (ix2 r l)) (added x0 r l) := by
  unfold out0_7 k0_pay6
  rw [View.canon_unit_zero zero2, View.ld_unit_zero (S := S176x1024) zero2, ← sum_at]
  rfl

theorem change_out : out0_5 (F := Ideal) x0 x1 x2 x3 (ix2 r l) = change (x1 (ix2 r l)) (x2 (ix2 r l)) (x3 (ix2 r l)) (added x0 r l) := by
  unfold out0_5 k0_pay6
  rw [View.canon_unit_zero zero2, View.ld_unit_zero (S := S176x1024) zero2, View.ld_unit_zero (S := S176x1024) zero2, View.ld_unit_zero (S := S176x1024) zero2, ← sum_at]
  rfl

end

/-! ## The result arrays -/

variable (m : (ℓ : Loc nD τ sig) → Buf (Elt Ideal) ℓ)

def aS (c : Dev nD) : S4x352x1024.Idx → EReal := m (c.tc.loc main_arg0)
def aW (c : Dev nD) : S352x1024.Idx → EReal := m (c.tc.loc main_arg1)
def aM (c : Dev nD) : S352x1024.Idx → EReal := m (c.tc.loc main_arg2)
def aV (c : Dev nD) : S352x1024.Idx → EReal := m (c.tc.loc main_arg3)

/-- The gradient: the four slots added up, -/
def grad (c : Dev nD) (i : S352x1024.Idx) : EReal := ∑ s : Fin 4, aS m c (ix3 s (i 0) (i 1))

/-- the change of the weight, -/
def delta (c : Dev nD) (i : S352x1024.Idx) : EReal := change (aW m c i) (aM m c i) (aV m c i) (grad m c i)

/-- and the two new moments. -/
def mean (c : Dev nD) (i : S352x1024.Idx) : EReal := first (aM m c i) (grad m c i)
def square (c : Dev nD) (i : S352x1024.Idx) : EReal := second (aV m c i) (grad m c i)

theorem V_v0 (c : Dev nD) : V m c main_v0 = aS m c := by
  show StableHlo.after hostOps0 (fun b => m (c, b)) (Proc.devRef .tc main_v0) = _
  after_results
  rfl

/-- The array's row that a point's block has at one of its rows. -/
def row (t : Fin grid0.N) (r : Fin 176) : Fin 352 := ⟨176 * t.val + r.val, by have h : t.val < 2 := t.isLt; omega⟩

theorem places : ∀ t : Fin grid0.N, (win0_0.index t (0 : Fin 3) = 0 ∧ win0_0.index t (1 : Fin 3) = t.val ∧ win0_0.index t (2 : Fin 3) = 0)
    ∧ (win0_1.index t (0 : Fin 2) = t.val ∧ win0_1.index t (1 : Fin 2) = 0) ∧ (win0_2.index t (0 : Fin 2) = t.val ∧ win0_2.index t (1 : Fin 2) = 0)
    ∧ (win0_3.index t (0 : Fin 2) = t.val ∧ win0_3.index t (1 : Fin 2) = 0) ∧ (win0_4.index t (0 : Fin 2) = t.val ∧ win0_4.index t (1 : Fin 2) = 0)
    ∧ (win0_5.index t (0 : Fin 2) = t.val ∧ win0_5.index t (1 : Fin 2) = 0) ∧ (win0_6.index t (0 : Fin 2) = t.val ∧ win0_6.index t (1 : Fin 2) = 0)
    ∧ (win0_7.index t (0 : Fin 2) = t.val ∧ win0_7.index t (1 : Fin 2) = 0) := by decide +kernel

/-- A block's index in the array. -/
theorem place {A : S352x1024.Idx → EReal} {t : Fin grid0.N} {j : Fin 2 → ℕ} (hj : j 0 = t.val ∧ j 1 = 0) (r : Fin 176) (l : Fin 1024) (i : S352x1024.Idx)
    (h0 : (i 0).val = j 0 * 176 + 1 * r.val) (h1 : (i 1).val = j 1 * 1024 + 1 * l.val) : A i = A (ix2 (row t r) l) := by
  refine congrArg A (idx_eq i _ l (h0.trans ?_) (h1.trans ?_))
  · rw [hj.1]
    show t.val * 176 + 1 * r.val = 176 * t.val + r.val
    omega
  · rw [hj.2]
    omega

theorem blk1 (c : Dev nD) (t : Fin grid0.N) (r : Fin 176) (l : Fin 1024) : iblk m c 1 t (ix2 r l) = aW m c (ix2 (row t r) l) := by
  show V m c main_arg1 _ = _
  rw [V_main_arg1]
  exact place (A := aW m c) (places t).2.1 r l _ rfl rfl

theorem blk2 (c : Dev nD) (t : Fin grid0.N) (r : Fin 176) (l : Fin 1024) : iblk m c 2 t (ix2 r l) = aM m c (ix2 (row t r) l) := by
  show V m c main_arg2 _ = _
  rw [V_main_arg2]
  exact place (A := aM m c) (places t).2.2.1 r l _ rfl rfl

theorem blk3 (c : Dev nD) (t : Fin grid0.N) (r : Fin 176) (l : Fin 1024) : iblk m c 3 t (ix2 r l) = aV m c (ix2 (row t r) l) := by
  show V m c main_arg3 _ = _
  rw [V_main_arg3]
  exact place (A := aV m c) (places t).2.2.2.1 r l _ rfl rfl

theorem blk0 (c : Dev nD) (t : Fin grid0.N) (s : Fin 4) (r : Fin 176) (l : Fin 1024) : iblk m c 0 t (ix3 s r l) = aS m c (ix3 s (row t r) l) := by
  show V m c main_v0 _ = _
  rw [V_v0]
  obtain ⟨h0, h1, h2⟩ := (places t).1
  congr 1
  funext a
  apply Fin.ext
  match a with
  | ⟨0, _⟩ => show win0_0.index t (0 : Fin 3) * 4 + 1 * s.val = s.val; rw [h0]; omega
  | ⟨1, _⟩ => show win0_0.index t (1 : Fin 3) * 176 + 1 * r.val = 176 * t.val + r.val; rw [h1]; omega
  | ⟨2, _⟩ => show win0_0.index t (2 : Fin 3) * 1024 + 1 * l.val = l.val; rw [h2]; omega

theorem added_blk (c : Dev nD) (t : Fin grid0.N) (r : Fin 176) (l : Fin 1024) : added (iblk m c 0 t) r l = grad m c (ix2 (row t r) l) := by
  unfold added grad
  rw [Fin.sum_univ_four]
  simp only [blk0]
  rfl

theorem flush_all : ∀ t : Fin grid0.N, (cfg0.win 4).flush t = true ∧ (cfg0.win 5).flush t = true ∧ (cfg0.win 6).flush t = true
    ∧ (cfg0.win 7).flush t = true := by decide +kernel

/-- Two arrays are equal when they are on every point's block. -/
theorem by_blocks {A B : S352x1024.Idx → EReal} (h : ∀ (t : Fin grid0.N) (r : Fin 176) (l : Fin 1024), A (ix2 (row t r) l) = B (ix2 (row t r) l)) : A = B := by
  funext i
  have h0 : (i 0).val < 352 := (i 0).isLt
  have hN : grid0.N = 2 := by decide
  have e : i = ix2 (row ⟨(i 0).val / 176, by omega⟩ ⟨(i 0).val % 176, Nat.mod_lt _ (by decide)⟩) (i 1) :=
    idx_eq i _ _ (show (i 0).val = 176 * ((i 0).val / 176) + (i 0).val % 176 by omega) rfl
  rw [e]
  exact h _ _ _

theorem result4 (c : Dev nD) : (dats m 0 c).arrAt 4 cfg0.N = grad m c := by
  refine by_blocks fun t r l => ?_
  have hb := congrFun (Value.blocks4 m c t (flush_all t).1) (ix2 r l)
  rw [Value.flushed4] at hb
  exact (place (A := (dats m 0 c).arrAt 4 cfg0.N) (places t).2.2.2.2.1 r l _ rfl rfl).symm.trans
    (hb.trans ((sum_out _ _ _ _ r l).trans (added_blk m c t r l)))

theorem result5 (c : Dev nD) : (dats m 0 c).arrAt 5 cfg0.N = delta m c := by
  refine by_blocks fun t r l => ?_
  have hb := congrFun (Value.blocks5 m c t (flush_all t).2.1) (ix2 r l)
  rw [Value.flushed5] at hb
  refine (place (A := (dats m 0 c).arrAt 5 cfg0.N) (places t).2.2.2.2.2.1 r l _ rfl rfl).symm.trans (hb.trans ((change_out _ _ _ _ r l).trans ?_))
  rw [added_blk, blk1, blk2, blk3]
  rfl

theorem result6 (c : Dev nD) : (dats m 0 c).arrAt 6 cfg0.N = mean m c := by
  refine by_blocks fun t r l => ?_
  have hb := congrFun (Value.blocks6 m c t (flush_all t).2.2.1) (ix2 r l)
  rw [Value.flushed6] at hb
  refine (place (A := (dats m 0 c).arrAt 6 cfg0.N) (places t).2.2.2.2.2.2.1 r l _ rfl rfl).symm.trans (hb.trans ((first_out _ _ _ _ r l).trans ?_))
  rw [added_blk, blk2]
  rfl

theorem result7 (c : Dev nD) : (dats m 0 c).arrAt 7 cfg0.N = square m c := by
  refine by_blocks fun t r l => ?_
  have hb := congrFun (Value.blocks7 m c t (flush_all t).2.2.2) (ix2 r l)
  rw [Value.flushed7] at hb
  refine (place (A := (dats m 0 c).arrAt 7 cfg0.N) (places t).2.2.2.2.2.2.2 r l _ rfl rfl).symm.trans (hb.trans ((second_out _ _ _ _ r l).trans ?_))
  rw [added_blk, blk3]
  rfl

theorem run_value (ρ : Dev nD → PrngReg) : θ_run (defs (F := Ideal)) (onTc (τ := τ) (main (F := Ideal))) ⟨m, fun _ => 0, ρ⟩ fun r => ∀ c : Dev nD,
    r.2.mem (c.tc.loc main_v1_0) = grad m c
      ∧ r.2.mem (c.tc.loc main_v1_1) = delta m c
      ∧ r.2.mem (c.tc.loc main_v1_2) = mean m c
      ∧ r.2.mem (c.tc.loc main_v1_3) = square m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨(h c).1.trans (result4 m c), (h c).2.1.trans (result5 m c), (h c).2.2.1.trans (result6 m c),
    (h c).2.2.2.1.trans (result7 m c), (h c).2.2.2.2⟩) (Value.run_blocks m ρ)

/-! ## The reference -/

open Reference13Ideal.Read

theorem grad_reference (c : Dev nD) : val_main_v0 (F := Ideal) (aS m c) = grad m c := by
  funext i
  rw [val_main_v0_apply, val_main_cst_apply]
  show Ideal.ofBits .f32 0x00000000#32 + _ = _
  rw [Ideal.ofBits_zero_f32, zero_add]
  exact Finset.sum_congr rfl fun s _ => congrArg (aS m c) (funext fun a => match a with | ⟨0, _⟩ => rfl | ⟨1, _⟩ => rfl | ⟨2, _⟩ => rfl)

theorem mean_reference (c : Dev nD) : val_main_v5 (F := Ideal) (aS m c) (aM m c) = mean m c := by
  funext i
  rw [val_main_v5_apply, val_main_v2_apply, val_main_v4_apply, val_main_v1_apply, val_main_v3_apply, val_main_cst_0_apply, val_main_cst_1_apply, grad_reference]
  rfl

theorem square_reference (c : Dev nD) : val_main_v11 (F := Ideal) (aS m c) (aV m c) = square m c := by
  funext i
  rw [val_main_v11_apply, val_main_v7_apply, val_main_v10_apply, val_main_v8_apply, val_main_v6_apply, val_main_v9_apply, val_main_cst_2_apply, val_main_cst_3_apply,
    grad_reference]
  rfl

theorem delta_reference (c : Dev nD) : val_main_v24 (F := Ideal) (aS m c) (aW m c) (aM m c) (aV m c) = delta m c := by
  funext i
  rw [val_main_v24_apply, val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_cst_4_apply, val_main_cst_5_apply, val_main_cst_6_apply,
    val_main_cst_7_apply, val_main_cst_8_apply, mean_reference, square_reference]
  rfl

/-- The reference's run from the same arguments. -/
theorem run_reference (m' : (ℓ : Loc Reference13Ideal.nD Reference13Ideal.τ Reference13Ideal.sig) → Buf (Elt Ideal) ℓ) (ρ : Dev Reference13Ideal.nD → PrngReg)
    (hm : ∀ c : Dev Reference13Ideal.nD,
      m' (c.tc.loc Reference13Ideal.main_arg0) = m (c.tc.loc main_arg0)
      ∧ m' (c.tc.loc Reference13Ideal.main_arg1) = m (c.tc.loc main_arg1)
      ∧ m' (c.tc.loc Reference13Ideal.main_arg2) = m (c.tc.loc main_arg2)
      ∧ m' (c.tc.loc Reference13Ideal.main_arg3) = m (c.tc.loc main_arg3)) :
    θ_run (Reference13Ideal.defs (F := Ideal)) (onTc (τ := Reference13Ideal.τ) (Reference13Ideal.main (F := Ideal))) ⟨m', fun _ => 0, ρ⟩
      fun r => ∀ c : Dev Reference13Ideal.nD,
        r.2.mem (c.tc.loc Reference13Ideal.main_v0) = grad m c
          ∧ r.2.mem (c.tc.loc Reference13Ideal.main_v24) = delta m c
          ∧ r.2.mem (c.tc.loc Reference13Ideal.main_v5) = mean m c
          ∧ r.2.mem (c.tc.loc Reference13Ideal.main_v11) = square m c
          ∧ r.2.mem (c.tc.loc Reference13Ideal.main_arg0) = m' (c.tc.loc Reference13Ideal.main_arg0)
          ∧ r.2.mem (c.tc.loc Reference13Ideal.main_arg1) = m' (c.tc.loc Reference13Ideal.main_arg1)
          ∧ r.2.mem (c.tc.loc Reference13Ideal.main_arg2) = m' (c.tc.loc Reference13Ideal.main_arg2)
          ∧ r.2.mem (c.tc.loc Reference13Ideal.main_arg3) = m' (c.tc.loc Reference13Ideal.main_arg3) := by
  refine (θ_run Reference13Ideal.defs _ _).mono (fun r h c => ?_) (Reference13Ideal.Value.run m' ρ)
  obtain ⟨g, d, a, s, keep⟩ := h c
  obtain ⟨e0, e1, e2, e3⟩ := hm c
  rw [e0] at g
  rw [e0, e1, e2, e3] at d
  rw [e0, e2] at a
  rw [e0, e3] at s
  exact ⟨g.trans (grad_reference m c), d.trans (delta_reference m c), a.trans (mean_reference m c), s.trans (square_reference m c), keep⟩

end Cert.Kernel13Ideal.Adam
end
-- ==== Proof.lean ====
/- The proof of the claims: the kernel's run before and after idealization, the reference's run, and their results compared. -/
module

public import proofs.«01_k».proof.Defs
public import proofs.«01_k».proof.Proof.Gen.Kernel
public import proofs.«01_k».proof.Proof.Gen.Kernel.Launch
public import proofs.«01_k».proof.Proof.Gen.Kernel.Skeleton
public import proofs.«01_k».proof.Proof.Gen.KernelIdeal
public import proofs.«01_k».proof.Proof.Gen.KernelIdeal.Launch
public import proofs.«01_k».proof.Proof.Gen.ReferenceIdeal.Read
public import proofs.«01_k».proof.Proof.Whole
public import proofs.«01_k».proof.Proof.Printed
public import proofs.«01_k».proof.Proof.Gen.Pre_finite
public import proofs.«01_k».proof.Proof.Value
public import proofs.«01_k».proof.Proof.Gen.Kernel2.Launch
public import proofs.«01_k».proof.Proof.Gen.Kernel2.Skeleton
public import proofs.«01_k».proof.Proof.Gen.Kernel2.Points
public import proofs.«01_k».proof.Proof.Gen.Kernel2.Frame
public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Gen.Kernel2Ideal.Value
public import proofs.«01_k».proof.Proof.Gen.Reference2Ideal.Read
public import proofs.«01_k».proof.Proof.Product

public import proofs.«01_k».proof.Proof.Gen.Kernel3.Launch
public import proofs.«01_k».proof.Proof.Gen.Kernel3.Skeleton
public import proofs.«01_k».proof.Proof.Gen.Kernel3.Points
public import proofs.«01_k».proof.Proof.Gen.Kernel3.Frame
public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Gen.Kernel3Ideal.Frame
public import proofs.«01_k».proof.Proof.Gen.Reference3Ideal.Read
public import proofs.«01_k».proof.Proof.FeedBack
public import proofs.«01_k».proof.Proof.FeedPrinted
public import proofs.«01_k».proof.Proof.Gen.Kernel4.Launch
public import proofs.«01_k».proof.Proof.Gen.Kernel4.Skeleton
public import proofs.«01_k».proof.Proof.Gen.Kernel4.Points
public import proofs.«01_k».proof.Proof.Gen.Kernel4.Frame
public import proofs.«01_k».proof.Proof.Gen.Kernel4Ideal.Launch
public import proofs.«01_k».proof.Proof.Gen.Kernel4Ideal.Skeleton
public import proofs.«01_k».proof.Proof.Gen.Kernel4Ideal.Points
public import proofs.«01_k».proof.Proof.Gen.Kernel4Ideal.Value
public import proofs.«01_k».proof.Proof.Gen.Reference4Ideal.Read
public import proofs.«01_k».proof.Proof.Loss
public import proofs.«01_k».proof.Proof.Gen.Kernel5.Launch
public import proofs.«01_k».proof.Proof.Gen.Kernel5.Skeleton
public import proofs.«01_k».proof.Proof.Gen.Kernel5.Points
public import proofs.«01_k».proof.Proof.Gen.Kernel5.Frame
public import proofs.«01_k».proof.Proof.Gen.Kernel5Ideal.Launch
public import proofs.«01_k».proof.Proof.Gen.Kernel5Ideal.Skeleton
public import proofs.«01_k».proof.Proof.Gen.Kernel5Ideal.Points
public import proofs.«01_k».proof.Proof.Gen.Kernel5Ideal.Value
public import proofs.«01_k».proof.Proof.Gen.Reference5Ideal.Read
public import proofs.«01_k».proof.Proof.ProjectBack
public import proofs.«01_k».proof.Proof.Gen.Kernel6.Launch
public import proofs.«01_k».proof.Proof.Gen.Kernel6.Skeleton
public import proofs.«01_k».proof.Proof.Gen.Kernel6.Points
public import proofs.«01_k».proof.Proof.Gen.Kernel6.Frame
public import proofs.«01_k».proof.Proof.Gen.Kernel6Ideal.Launch
public import proofs.«01_k».proof.Proof.Gen.Kernel6Ideal.Skeleton
public import proofs.«01_k».proof.Proof.Gen.Kernel6Ideal.Points
public import proofs.«01_k».proof.Proof.Gen.Kernel6Ideal.Value
public import proofs.«01_k».proof.Proof.Gen.Reference6Ideal.Read
public import proofs.«01_k».proof.Proof.Project
public import proofs.«01_k».proof.Proof.Gen.Kernel7.Launch
public import proofs.«01_k».proof.Proof.Gen.Kernel7.Skeleton
public import proofs.«01_k».proof.Proof.Gen.Kernel7.Points
public import proofs.«01_k».proof.Proof.Gen.Kernel7.Frame
public import proofs.«01_k».proof.Proof.Gen.Kernel7Ideal.Launch
public import proofs.«01_k».proof.Proof.Gen.Kernel7Ideal.Skeleton
public import proofs.«01_k».proof.Proof.Gen.Kernel7Ideal.Points
public import proofs.«01_k».proof.Proof.Gen.Kernel7Ideal.Value
public import proofs.«01_k».proof.Proof.Gen.Reference7Ideal.Read
public import proofs.«01_k».proof.Proof.Mix
public import proofs.«01_k».proof.Proof.Gen.Kernel8.Launch
public import proofs.«01_k».proof.Proof.Gen.Kernel8.Skeleton
public import proofs.«01_k».proof.Proof.Gen.Kernel8.Points
public import proofs.«01_k».proof.Proof.Gen.Kernel8.Frame
public import proofs.«01_k».proof.Proof.Gen.Kernel8Ideal.Launch
public import proofs.«01_k».proof.Proof.Gen.Kernel8Ideal.Skeleton
public import proofs.«01_k».proof.Proof.Gen.Kernel8Ideal.Points
public import proofs.«01_k».proof.Proof.Gen.Kernel8Ideal.Value
public import proofs.«01_k».proof.Proof.Gen.Reference8Ideal.Read
public import proofs.«01_k».proof.Proof.ProductGates
public import proofs.«01_k».proof.Proof.Gen.Kernel9.Launch
public import proofs.«01_k».proof.Proof.Gen.Kernel9.Skeleton
public import proofs.«01_k».proof.Proof.Gen.Kernel9.Points
public import proofs.«01_k».proof.Proof.Gen.Kernel9.Frame
public import proofs.«01_k».proof.Proof.Gen.Kernel9Ideal.Launch
public import proofs.«01_k».proof.Proof.Gen.Kernel9Ideal.Skeleton
public import proofs.«01_k».proof.Proof.Gen.Kernel9Ideal.Points
public import proofs.«01_k».proof.Proof.Gen.Kernel9Ideal.Value
public import proofs.«01_k».proof.Proof.Gen.Reference9Ideal.Read
public import proofs.«01_k».proof.Proof.ProductFox
public import proofs.«01_k».proof.Proof.Gen.Kernel10.Launch
public import proofs.«01_k».proof.Proof.Gen.Kernel10.Skeleton
public import proofs.«01_k».proof.Proof.Gen.Kernel10.Points
public import proofs.«01_k».proof.Proof.Gen.Kernel10.Frame
public import proofs.«01_k».proof.Proof.Gen.Kernel10Ideal.Launch
public import proofs.«01_k».proof.Proof.Gen.Kernel10Ideal.Skeleton
public import proofs.«01_k».proof.Proof.Gen.Kernel10Ideal.Points
public import proofs.«01_k».proof.Proof.Gen.Kernel10Ideal.Value
public import proofs.«01_k».proof.Proof.Gen.Reference10Ideal.Read
public import proofs.«01_k».proof.Proof.ProductLat
public import proofs.«01_k».proof.Proof.Gen.Kernel11.Launch
public import proofs.«01_k».proof.Proof.Gen.Kernel11.Skeleton
public import proofs.«01_k».proof.Proof.Gen.Kernel11.Points
public import proofs.«01_k».proof.Proof.Gen.Kernel11.Frame
public import proofs.«01_k».proof.Proof.Gen.Kernel11Ideal.Launch
public import proofs.«01_k».proof.Proof.Gen.Kernel11Ideal.Skeleton
public import proofs.«01_k».proof.Proof.Gen.Kernel11Ideal.Points
public import proofs.«01_k».proof.Proof.Gen.Kernel11Ideal.Value
public import proofs.«01_k».proof.Proof.Gen.Reference11Ideal.Read
public import proofs.«01_k».proof.Proof.ProductOut
public import proofs.«01_k».proof.Proof.Gen.Kernel12.Launch
public import proofs.«01_k».proof.Proof.Gen.Kernel12.Skeleton
public import proofs.«01_k».proof.Proof.Gen.Kernel12.Points
public import proofs.«01_k».proof.Proof.Gen.Kernel12.Frame
public import proofs.«01_k».proof.Proof.Gen.Kernel12Ideal.Launch
public import proofs.«01_k».proof.Proof.Gen.Kernel12Ideal.Skeleton
public import proofs.«01_k».proof.Proof.Gen.Kernel12Ideal.Points
public import proofs.«01_k».proof.Proof.Gen.Kernel12Ideal.Value
public import proofs.«01_k».proof.Proof.Gen.Reference12Ideal.Read
public import proofs.«01_k».proof.Proof.ProductBranch
public import proofs.«01_k».proof.Proof.Gen.Kernel13.Launch
public import proofs.«01_k».proof.Proof.Gen.Kernel13.Skeleton
public import proofs.«01_k».proof.Proof.Gen.Kernel13.Points
public import proofs.«01_k».proof.Proof.Gen.Kernel13.Frame
public import proofs.«01_k».proof.Proof.Gen.Kernel13Ideal.Launch
public import proofs.«01_k».proof.Proof.Gen.Kernel13Ideal.Skeleton
public import proofs.«01_k».proof.Proof.Gen.Kernel13Ideal.Points
public import proofs.«01_k».proof.Proof.Gen.Kernel13Ideal.Value
public import proofs.«01_k».proof.Proof.Gen.Reference13Ideal.Read
public import proofs.«01_k».proof.Proof.Adam

@[expose] public section

noncomputable section

namespace Cert.Proof

open Idealize.ShloMosaic Idealize.SL.Sem

/-- The kernel as printed runs, leaves its arguments as they were, and ends with every counter at zero. -/
theorem frame_kernel : Cert.quiescent_Kernel := Cert.Kernel.Mla.frame

/-- The idealized kernel runs, leaves its arguments as they were, and ends with every counter at zero. -/
theorem frame_ideal : Cert.quiescent_KernelIdeal := fun m g _ => Cert.KernelIdeal.Mla.frame_main (F := Ideal) m g

/-- The reference, host operations alone, runs and leaves its arguments as they were; it declares no counter. -/
theorem frame_reference : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- The mask's literal is the constant named for it. -/
theorem mask_kept : Cert.preserves_Kernel_KernelIdeal := IdealRules.named_const.statement _ _ _ _ _ (by rfl)

/-- The same of the idealized kernel on finite arguments. -/
theorem frame_ideal_finite : Cert.quiescent_KernelIdeal_pre_finite := fun m g _ => Cert.KernelIdeal.Mla.frame_main (F := Ideal) m g

/-- The same of the reference on finite arguments. -/
theorem frame_reference_finite : Cert.quiescent_ReferenceIdeal_pre_finite := fun m ρ _ => frame_reference m ρ trivial

/-- On finite arguments the idealized kernel and the reference end with the same three gradients. -/
theorem gradients : Cert.algebraic_KernelIdeal_ReferenceIdeal_pre_finite := fun m g m' g' hpre hm =>
  ⟨fun c => Cert.KernelIdeal.Mla.gradQ m c, fun c => Cert.KernelIdeal.Mla.gradK m c, fun c => Cert.KernelIdeal.Mla.gradV m c,
    Cert.KernelIdeal.Mla.run_value m g (fun c => Cert.KernelIdeal.Mla.real_of_finite m hpre c),
    Cert.KernelIdeal.Mla.run_reference m m' g' hm⟩

/-- The second kernel, a product over the tokens, idealized: it runs, leaves its arguments as they were, and ends with every counter at zero. -/
theorem frame_product_ideal : Cert.quiescent_Kernel2Ideal := fun m g _ => Cert.Kernel2Ideal.Gen.frame (F := Ideal) m g

/-- The same of the second kernel as printed. -/
theorem frame_product : Cert.quiescent_Kernel2 := fun m g _ => Cert.Kernel2.Gen.frame (F := Bits) m g

/-- Its reference runs and leaves its arguments as they were. -/
theorem frame_product_reference : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The second kernel and its reference end with the same product, for every argument. -/
theorem product : Cert.algebraic_Kernel2Ideal_Reference2Ideal := fun m g m' g' _ hm =>
  ⟨_, Cert.Kernel2Ideal.Product.run_value m g, Cert.Kernel2Ideal.Product.run_reference m m' g' hm⟩

/-- The feed-forward backward call as printed runs, leaves its arguments as they were, and ends with every counter at zero. -/
theorem frame_ffn_back : Cert.quiescent_Kernel3 := Cert.Kernel3.Feed.frame

/-- The same of it idealized. -/
theorem frame_ffn_back_ideal : Cert.quiescent_Kernel3Ideal := fun m ρ _ => Cert.Kernel3Ideal.Feed.frame_any (F := Ideal) m ρ

/-- The same of it on finite arguments. -/
theorem frame_ffn_back_ideal_finite : Cert.quiescent_Kernel3Ideal_pre_finite_ffn := fun m ρ _ => Cert.Kernel3Ideal.Feed.frame_any (F := Ideal) m ρ

/-- Its reference runs and leaves its arguments as they were. -/
theorem frame_ffn_back_reference : Cert.quiescent_Reference3Ideal := fun m ρ _ =>
  (θ_run Cert.Reference3Ideal.defs _ _).mono
    (fun r h => ⟨fun c => (h c).2.2.2.2.2.2.2, Idealize.ShloMosaic.sem_eq_zero_of_no_sems (by decide) r.2⟩)
    (Cert.Reference3Ideal.Value.run (F := Ideal) m ρ)

/-- The same of the reference on finite arguments. -/
theorem frame_ffn_back_reference_finite : Cert.quiescent_Reference3Ideal_pre_finite_ffn := fun m ρ _ => frame_ffn_back_reference m ρ trivial

/-- On finite arguments the feed-forward backward call and its reference end with the same seven results. -/
theorem value_ffn_back : Cert.algebraic_Kernel3Ideal_Reference3Ideal_pre_finite_ffn := fun m g m' g' hpre hm =>
  ⟨_, _, _, _, _, _, _, Cert.Kernel3Ideal.FeedBlocks.run_value m g,
    Cert.Kernel3Ideal.FeedBack.run_reference m (fun c => Cert.Kernel3Ideal.FeedBack.real_of_finite m hpre c) m' g' hm⟩

/-- The feed-forward call with the loss as printed runs, leaves its arguments as they were, and ends with every counter at zero. -/
theorem frame_ffn_loss : Cert.quiescent_Kernel4 := fun m g _ => Cert.Kernel4.Gen.frame (F := Bits) m g

/-- The same of it idealized. -/
theorem frame_ffn_loss_ideal : Cert.quiescent_Kernel4Ideal := fun m g _ => Cert.Kernel4Ideal.Gen.frame (F := Ideal) m g

/-- Its reference runs and leaves its arguments as they were. -/
theorem frame_ffn_loss_reference : Cert.quiescent_Reference4Ideal := fun m ρ _ =>
  (θ_run Cert.Reference4Ideal.defs _ _).mono
    (fun r h => ⟨fun c => (h c).2.2.2.2, Idealize.ShloMosaic.sem_eq_zero_of_no_sems (by decide) r.2⟩)
    (Cert.Reference4Ideal.Value.run (F := Ideal) m ρ)

/-- The feed-forward call with the loss and its reference end with the same results, for every argument. -/
theorem value_ffn_loss : Cert.algebraic_Kernel4Ideal_Reference4Ideal := fun m g m' g' _ hm =>
  ⟨_, _, _, _, Cert.Kernel4Ideal.Loss.run_value m g, Cert.Kernel4Ideal.Loss.run_reference m m' g' hm⟩

/-- The input projection's backward call as printed runs, leaves its arguments as they were, and ends with every counter at zero. -/
theorem frame_project_back : Cert.quiescent_Kernel5 := fun m g _ => Cert.Kernel5.Gen.frame (F := Bits) m g

/-- The same of it idealized. -/
theorem frame_project_back_ideal : Cert.quiescent_Kernel5Ideal := fun m g _ => Cert.Kernel5Ideal.Gen.frame (F := Ideal) m g

/-- Its reference runs and leaves its arguments as they were. -/
theorem frame_project_back_reference : Cert.quiescent_Reference5Ideal := fun m ρ _ =>
  (θ_run Cert.Reference5Ideal.defs _ _).mono
    (fun r h => ⟨fun c => (h c).2.2.2, Idealize.ShloMosaic.sem_eq_zero_of_no_sems (by decide) r.2⟩)
    (Cert.Reference5Ideal.Value.run (F := Ideal) m ρ)

/-- The input projection's backward call and its reference end with the same results, for every argument. -/
theorem value_project_back : Cert.algebraic_Kernel5Ideal_Reference5Ideal := fun m g m' g' _ hm =>
  ⟨_, _, _, Cert.Kernel5Ideal.ProjectBack.run_value m g, Cert.Kernel5Ideal.ProjectBack.run_reference m m' g' hm⟩

/-- The input projection as printed runs, leaves its arguments as they were, and ends with every counter at zero. -/
theorem frame_project : Cert.quiescent_Kernel6 := fun m g _ => Cert.Kernel6.Gen.frame (F := Bits) m g

/-- The same of it idealized. -/
theorem frame_project_ideal : Cert.quiescent_Kernel6Ideal := fun m g _ => Cert.Kernel6Ideal.Gen.frame (F := Ideal) m g

/-- Its reference runs and leaves its arguments as they were. -/
theorem frame_project_reference : Cert.quiescent_Reference6Ideal := fun m ρ _ =>
  (θ_run Cert.Reference6Ideal.defs _ _).mono
    (fun r h => ⟨fun c => (h c).2.2.2, Idealize.ShloMosaic.sem_eq_zero_of_no_sems (by decide) r.2⟩)
    (Cert.Reference6Ideal.Value.run (F := Ideal) m ρ)

/-- The input projection and its reference end with the same results, for every argument. -/
theorem value_project : Cert.algebraic_Kernel6Ideal_Reference6Ideal := fun m g m' g' _ hm =>
  ⟨_, _, _, Cert.Kernel6Ideal.Project.run_value m g, Cert.Kernel6Ideal.Project.run_reference m m' g' hm⟩

/-- The mixing call as printed runs, leaves its arguments as they were, and ends with every counter at zero. -/
theorem frame_mix : Cert.quiescent_Kernel7 := fun m g _ => Cert.Kernel7.Gen.frame (F := Bits) m g

/-- The same of it idealized. -/
theorem frame_mix_ideal : Cert.quiescent_Kernel7Ideal := fun m g _ => Cert.Kernel7Ideal.Gen.frame (F := Ideal) m g

/-- Its reference runs and leaves its arguments as they were. -/
theorem frame_mix_reference : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- The mixing call and its reference end with the same results, for every argument. -/
theorem value_mix : Cert.algebraic_Kernel7Ideal_Reference7Ideal := fun m g m' g' _ hm =>
  ⟨_, Cert.Kernel7Ideal.Mix.run_value m g, Cert.Kernel7Ideal.Mix.run_reference m m' g' hm⟩

/-- The product for the gates as printed runs, leaves its arguments as they were, and ends with every counter at zero. -/
theorem frame_product_gates : Cert.quiescent_Kernel8 := fun m g _ => Cert.Kernel8.Gen.frame (F := Bits) m g

/-- The same of it idealized. -/
theorem frame_product_gates_ideal : Cert.quiescent_Kernel8Ideal := fun m g _ => Cert.Kernel8Ideal.Gen.frame (F := Ideal) m g

/-- Its reference runs and leaves its arguments as they were. -/
theorem frame_product_gates_reference : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

/-- The product for the gates and its reference end with the same results, for every argument. -/
theorem value_product_gates : Cert.algebraic_Kernel8Ideal_Reference8Ideal := fun m g m' g' _ hm =>
  ⟨_, Cert.Kernel8Ideal.ProductGates.run_value m g, Cert.Kernel8Ideal.ProductGates.run_reference m m' g' hm⟩

/-- The product for the second attention as printed runs, leaves its arguments as they were, and ends with every counter at zero. -/
theorem frame_product_fox : Cert.quiescent_Kernel9 := fun m g _ => Cert.Kernel9.Gen.frame (F := Bits) m g

/-- The same of it idealized. -/
theorem frame_product_fox_ideal : Cert.quiescent_Kernel9Ideal := fun m g _ => Cert.Kernel9Ideal.Gen.frame (F := Ideal) m g

/-- Its reference runs and leaves its arguments as they were. -/
theorem frame_product_fox_reference : Cert.quiescent_Reference9Ideal := fun m ρ _ =>
  (θ_run Cert.Reference9Ideal.defs _ _).mono
    (fun r h => ⟨fun c => (h c).2, Idealize.ShloMosaic.sem_eq_zero_of_no_sems (by decide) r.2⟩)
    (Cert.Reference9Ideal.Value.run (F := Ideal) m ρ)

/-- The product for the second attention and its reference end with the same results, for every argument. -/
theorem value_product_fox : Cert.algebraic_Kernel9Ideal_Reference9Ideal := fun m g m' g' _ hm =>
  ⟨_, Cert.Kernel9Ideal.ProductFox.run_value m g, Cert.Kernel9Ideal.ProductFox.run_reference m m' g' hm⟩

/-- The product for the latents as printed runs, leaves its arguments as they were, and ends with every counter at zero. -/
theorem frame_product_lat : Cert.quiescent_Kernel10 := fun m g _ => Cert.Kernel10.Gen.frame (F := Bits) m g

/-- The same of it idealized. -/
theorem frame_product_lat_ideal : Cert.quiescent_Kernel10Ideal := fun m g _ => Cert.Kernel10Ideal.Gen.frame (F := Ideal) m g

/-- Its reference runs and leaves its arguments as they were. -/
theorem frame_product_lat_reference : Cert.quiescent_Reference10Ideal := fun m ρ _ =>
  (θ_run Cert.Reference10Ideal.defs _ _).mono
    (fun r h => ⟨fun c => (h c).2, Idealize.ShloMosaic.sem_eq_zero_of_no_sems (by decide) r.2⟩)
    (Cert.Reference10Ideal.Value.run (F := Ideal) m ρ)

/-- The product for the latents and its reference end with the same results, for every argument. -/
theorem value_product_lat : Cert.algebraic_Kernel10Ideal_Reference10Ideal := fun m g m' g' _ hm =>
  ⟨_, Cert.Kernel10Ideal.ProductLat.run_value m g, Cert.Kernel10Ideal.ProductLat.run_reference m m' g' hm⟩

/-- The product for the output weight as printed runs, leaves its arguments as they were, and ends with every counter at zero. -/
theorem frame_product_out : Cert.quiescent_Kernel11 := fun m g _ => Cert.Kernel11.Gen.frame (F := Bits) m g

/-- The same of it idealized. -/
theorem frame_product_out_ideal : Cert.quiescent_Kernel11Ideal := fun m g _ => Cert.Kernel11Ideal.Gen.frame (F := Ideal) m g

/-- Its reference runs and leaves its arguments as they were. -/
theorem frame_product_out_reference : Cert.quiescent_Reference11Ideal := fun m ρ _ =>
  (θ_run Cert.Reference11Ideal.defs _ _).mono
    (fun r h => ⟨fun c => (h c).2, Idealize.ShloMosaic.sem_eq_zero_of_no_sems (by decide) r.2⟩)
    (Cert.Reference11Ideal.Value.run (F := Ideal) m ρ)

/-- The product for the output weight and its reference end with the same results, for every argument. -/
theorem value_product_out : Cert.algebraic_Kernel11Ideal_Reference11Ideal := fun m g m' g' _ hm =>
  ⟨_, Cert.Kernel11Ideal.ProductOut.run_value m g, Cert.Kernel11Ideal.ProductOut.run_reference m m' g' hm⟩

/-- The product for a branch weight as printed runs, leaves its arguments as they were, and ends with every counter at zero. -/
theorem frame_product_branch : Cert.quiescent_Kernel12 := fun m g _ => Cert.Kernel12.Gen.frame (F := Bits) m g

/-- The same of it idealized. -/
theorem frame_product_branch_ideal : Cert.quiescent_Kernel12Ideal := fun m g _ => Cert.Kernel12Ideal.Gen.frame (F := Ideal) m g

/-- Its reference runs and leaves its arguments as they were. -/
theorem frame_product_branch_reference : Cert.quiescent_Reference12Ideal := fun m ρ _ =>
  (θ_run Cert.Reference12Ideal.defs _ _).mono
    (fun r h => ⟨fun c => (h c).2, Idealize.ShloMosaic.sem_eq_zero_of_no_sems (by decide) r.2⟩)
    (Cert.Reference12Ideal.Value.run (F := Ideal) m ρ)

/-- The product for a branch weight and its reference end with the same results, for every argument. -/
theorem value_product_branch : Cert.algebraic_Kernel12Ideal_Reference12Ideal := fun m g m' g' _ hm =>
  ⟨_, Cert.Kernel12Ideal.ProductBranch.run_value m g, Cert.Kernel12Ideal.ProductBranch.run_reference m m' g' hm⟩

/-- The optimiser call as printed runs, leaves its arguments as they were, and ends with every counter at zero. -/
theorem frame_adam : Cert.quiescent_Kernel13 := fun m g _ => Cert.Kernel13.Gen.frame (F := Bits) m g

/-- The same of it idealized. -/
theorem frame_adam_ideal : Cert.quiescent_Kernel13Ideal := fun m g _ => Cert.Kernel13Ideal.Gen.frame (F := Ideal) m g

/-- Its reference runs and leaves its arguments as they were. -/
theorem frame_adam_reference : Cert.quiescent_Reference13Ideal := fun m ρ _ =>
  (θ_run Cert.Reference13Ideal.defs _ _).mono
    (fun r h => ⟨fun c => (h c).2.2.2.2, Idealize.ShloMosaic.sem_eq_zero_of_no_sems (by decide) r.2⟩)
    (Cert.Reference13Ideal.Value.run (F := Ideal) m ρ)

/-- The optimiser call and its reference end with the same four results, for every argument. -/
theorem value_adam : Cert.algebraic_Kernel13Ideal_Reference13Ideal := fun m g m' g' _ hm =>
  ⟨_, _, _, _, Cert.Kernel13Ideal.Adam.run_value m g, Cert.Kernel13Ideal.Adam.run_reference m m' g' hm⟩

/-- The certificate's claims. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts,
    Cert.Pre_finite.Gen.facts, Cert.Pre_finite_ffn.Gen.facts, frame_kernel, frame_ideal, frame_ideal_finite, frame_reference,
    frame_reference_finite, frame_product, frame_product_ideal, frame_product_reference, frame_ffn_back, frame_ffn_back_ideal, frame_ffn_back_ideal_finite, frame_ffn_back_reference, frame_ffn_back_reference_finite, frame_ffn_loss, frame_ffn_loss_ideal, frame_ffn_loss_reference, frame_project_back, frame_project_back_ideal, frame_project_back_reference, frame_project, frame_project_ideal, frame_project_reference, frame_mix, frame_mix_ideal, frame_mix_reference, frame_product_gates, frame_product_gates_ideal, frame_product_gates_reference, frame_product_fox, frame_product_fox_ideal, frame_product_fox_reference, frame_product_lat, frame_product_lat_ideal, frame_product_lat_reference, frame_product_out, frame_product_out_ideal, frame_product_out_reference, frame_product_branch, frame_product_branch_ideal, frame_product_branch_reference, frame_adam, frame_adam_ideal, frame_adam_reference,
    mask_kept, gradients, trivial, product, trivial, value_ffn_back, trivial, value_ffn_loss, trivial, value_project_back, trivial, value_project, trivial, value_mix, trivial, value_product_gates, trivial, value_product_fox, trivial, value_product_lat, trivial, value_product_out, trivial, value_product_branch, trivial, value_adam⟩

end Cert.Proof

end
